-- ==== Defs.lean ====
def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_finite [hPre_gate_finite : Cert.Pre_gate_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).2.2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).2.2.2 = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))).1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))).2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))).2.2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))).2.2.2 = (fun _ => 1#1)

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_norm_finite [hPre_norm_finite : Cert.Pre_norm_finite.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5))).1 = (fun _ => 1#1)
    ∧ (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5))).2.1 = (fun _ => 1#1)
    ∧ (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5))).2.2.1 = (fun _ => 1#1)
    ∧ (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5))).2.2.2.1 = (fun _ => 1#1)
    ∧ (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5))).2.2.2.2 = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_norm_finite [hPre_norm_finite : Cert.Pre_norm_finite.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5))).1 = (fun _ => 1#1)
    ∧ (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5))).2.1 = (fun _ => 1#1)
    ∧ (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5))).2.2.1 = (fun _ => 1#1)
    ∧ (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5))).2.2.2.1 = (fun _ => 1#1)
    ∧ (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5))).2.2.2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.2.2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.2.2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.2.2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.2.2.2 = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.2.2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.2.2.2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5))).2.2.2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.2.2 = (fun _ => 1#1)

def Pre_LatentKernel (m : (ℓ : Loc Cert.LatentKernel.nD Cert.LatentKernel.τ Cert.LatentKernel.sig) → Buf (Elt Bits) ℓ) : Prop :=
  True

def Pre_LatentKernelIdeal (m : (ℓ : Loc Cert.LatentKernelIdeal.nD Cert.LatentKernelIdeal.τ Cert.LatentKernelIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateKernelIdeal_pre_gate_finite [hGateKernelIdeal : Cert.GateKernelIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4)
      ∧ r.2.mem ((c.tc : Thread Cert.NormKernel.nD Cert.NormKernel.τ).loc Cert.NormKernel.main_arg5) = m ((c.tc : Thread Cert.NormKernel.nD Cert.NormKernel.τ).loc Cert.NormKernel.main_arg5))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5))
      ∧ r.2.sem = fun _ => 0)

def quiescent_NormKernelIdeal_pre_norm_finite [hNormKernelIdeal : Cert.NormKernelIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_norm_finite m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def quiescent_NormReferenceIdeal_pre_norm_finite [hNormReferenceIdeal : Cert.NormReferenceIdeal.Facts] [hPre_norm_finite : Cert.Pre_norm_finite.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_norm_finite m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4)
      ∧ r.2.mem ((c.tc : Thread Cert.LossKernel.nD Cert.LossKernel.τ).loc Cert.LossKernel.main_arg5) = m ((c.tc : Thread Cert.LossKernel.nD Cert.LossKernel.τ).loc Cert.LossKernel.main_arg5))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4)
      ∧ r.2.mem ((c.tc : Thread Cert.AttnKernel.nD Cert.AttnKernel.τ).loc Cert.AttnKernel.main_arg5) = m ((c.tc : Thread Cert.AttnKernel.nD Cert.AttnKernel.τ).loc Cert.AttnKernel.main_arg5))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def quiescent_LatentKernel [hLatentKernel : Cert.LatentKernel.Facts] : Prop :=
  ∀ (m : (ℓ : Loc Cert.LatentKernel.nD Cert.LatentKernel.τ Cert.LatentKernel.sig) → Buf (Elt Bits) ℓ) (g : Dev Cert.LatentKernel.nD → PrngReg), Pre_LatentKernel m →
    θ_run (Cert.LatentKernel.defs (F := Bits)) (onTc (τ := Cert.LatentKernel.τ) (Cert.LatentKernel.main (F := Bits))) ⟨m, fun _ => 0, g⟩ (fun r => (∀ c : Dev Cert.LatentKernel.nD,
      r.2.mem ((c.tc : Thread Cert.LatentKernel.nD Cert.LatentKernel.τ).loc Cert.LatentKernel.main_arg0) = m ((c.tc : Thread Cert.LatentKernel.nD Cert.LatentKernel.τ).loc Cert.LatentKernel.main_arg0)
      ∧ r.2.mem ((c.tc : Thread Cert.LatentKernel.nD Cert.LatentKernel.τ).loc Cert.LatentKernel.main_arg1) = m ((c.tc : Thread Cert.LatentKernel.nD Cert.LatentKernel.τ).loc Cert.LatentKernel.main_arg1)
      ∧ r.2.mem ((c.tc : Thread Cert.LatentKernel.nD Cert.LatentKernel.τ).loc Cert.LatentKernel.main_arg2) = m ((c.tc : Thread Cert.LatentKernel.nD Cert.LatentKernel.τ).loc Cert.LatentKernel.main_arg2)
      ∧ r.2.mem ((c.tc : Thread Cert.LatentKernel.nD Cert.LatentKernel.τ).loc Cert.LatentKernel.main_arg3) = m ((c.tc : Thread Cert.LatentKernel.nD Cert.LatentKernel.τ).loc Cert.LatentKernel.main_arg3)
      ∧ r.2.mem ((c.tc : Thread Cert.LatentKernel.nD Cert.LatentKernel.τ).loc Cert.LatentKernel.main_arg4) = m ((c.tc : Thread Cert.LatentKernel.nD Cert.LatentKernel.τ).loc Cert.LatentKernel.main_arg4)
      ∧ r.2.mem ((c.tc : Thread Cert.LatentKernel.nD Cert.LatentKernel.τ).loc Cert.LatentKernel.main_arg5) = m ((c.tc : Thread Cert.LatentKernel.nD Cert.LatentKernel.τ).loc Cert.LatentKernel.main_arg5)
      ∧ r.2.mem ((c.tc : Thread Cert.LatentKernel.nD Cert.LatentKernel.τ).loc Cert.LatentKernel.main_arg6) = m ((c.tc : Thread Cert.LatentKernel.nD Cert.LatentKernel.τ).loc Cert.LatentKernel.main_arg6)
      ∧ r.2.mem ((c.tc : Thread Cert.LatentKernel.nD Cert.LatentKernel.τ).loc Cert.LatentKernel.main_arg7) = m ((c.tc : Thread Cert.LatentKernel.nD Cert.LatentKernel.τ).loc Cert.LatentKernel.main_arg7)
      ∧ r.2.mem ((c.tc : Thread Cert.LatentKernel.nD Cert.LatentKernel.τ).loc Cert.LatentKernel.main_arg8) = m ((c.tc : Thread Cert.LatentKernel.nD Cert.LatentKernel.τ).loc Cert.LatentKernel.main_arg8))
      ∧ r.2.sem = fun _ => 0)

def quiescent_LatentKernelIdeal [hLatentKernelIdeal : Cert.LatentKernelIdeal.Facts] : Prop :=
  ∀ (m : (ℓ : Loc Cert.LatentKernelIdeal.nD Cert.LatentKernelIdeal.τ Cert.LatentKernelIdeal.sig) → Buf (Elt Ideal) ℓ) (g : Dev Cert.LatentKernelIdeal.nD → PrngReg), Pre_LatentKernelIdeal m →
    θ_run (Cert.LatentKernelIdeal.defs (F := Ideal)) (onTc (τ := Cert.LatentKernelIdeal.τ) (Cert.LatentKernelIdeal.main (F := Ideal))) ⟨m, fun _ => 0, g⟩ (fun r => (∀ c : Dev Cert.LatentKernelIdeal.nD,
      r.2.mem ((c.tc : Thread Cert.LatentKernelIdeal.nD Cert.LatentKernelIdeal.τ).loc Cert.LatentKernelIdeal.main_arg0) = m ((c.tc : Thread Cert.LatentKernelIdeal.nD Cert.LatentKernelIdeal.τ).loc Cert.LatentKernelIdeal.main_arg0)
      ∧ r.2.mem ((c.tc : Thread Cert.LatentKernelIdeal.nD Cert.LatentKernelIdeal.τ).loc Cert.LatentKernelIdeal.main_arg1) = m ((c.tc : Thread Cert.LatentKernelIdeal.nD Cert.LatentKernelIdeal.τ).loc Cert.LatentKernelIdeal.main_arg1)
      ∧ r.2.mem ((c.tc : Thread Cert.LatentKernelIdeal.nD Cert.LatentKernelIdeal.τ).loc Cert.LatentKernelIdeal.main_arg2) = m ((c.tc : Thread Cert.LatentKernelIdeal.nD Cert.LatentKernelIdeal.τ).loc Cert.LatentKernelIdeal.main_arg2)
      ∧ r.2.mem ((c.tc : Thread Cert.LatentKernelIdeal.nD Cert.LatentKernelIdeal.τ).loc Cert.LatentKernelIdeal.main_arg3) = m ((c.tc : Thread Cert.LatentKernelIdeal.nD Cert.LatentKernelIdeal.τ).loc Cert.LatentKernelIdeal.main_arg3)
      ∧ r.2.mem ((c.tc : Thread Cert.LatentKernelIdeal.nD Cert.LatentKernelIdeal.τ).loc Cert.LatentKernelIdeal.main_arg4) = m ((c.tc : Thread Cert.LatentKernelIdeal.nD Cert.LatentKernelIdeal.τ).loc Cert.LatentKernelIdeal.main_arg4)
      ∧ r.2.mem ((c.tc : Thread Cert.LatentKernelIdeal.nD Cert.LatentKernelIdeal.τ).loc Cert.LatentKernelIdeal.main_arg5) = m ((c.tc : Thread Cert.LatentKernelIdeal.nD Cert.LatentKernelIdeal.τ).loc Cert.LatentKernelIdeal.main_arg5)
      ∧ r.2.mem ((c.tc : Thread Cert.LatentKernelIdeal.nD Cert.LatentKernelIdeal.τ).loc Cert.LatentKernelIdeal.main_arg6) = m ((c.tc : Thread Cert.LatentKernelIdeal.nD Cert.LatentKernelIdeal.τ).loc Cert.LatentKernelIdeal.main_arg6)
      ∧ r.2.mem ((c.tc : Thread Cert.LatentKernelIdeal.nD Cert.LatentKernelIdeal.τ).loc Cert.LatentKernelIdeal.main_arg7) = m ((c.tc : Thread Cert.LatentKernelIdeal.nD Cert.LatentKernelIdeal.τ).loc Cert.LatentKernelIdeal.main_arg7)
      ∧ r.2.mem ((c.tc : Thread Cert.LatentKernelIdeal.nD Cert.LatentKernelIdeal.τ).loc Cert.LatentKernelIdeal.main_arg8) = m ((c.tc : Thread Cert.LatentKernelIdeal.nD Cert.LatentKernelIdeal.τ).loc Cert.LatentKernelIdeal.main_arg8))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5)
      ∧ r.2.mem ((c.tc : Thread Cert.LatentReferenceIdeal.nD Cert.LatentReferenceIdeal.τ).loc Cert.LatentReferenceIdeal.main_arg6) = m ((c.tc : Thread Cert.LatentReferenceIdeal.nD Cert.LatentReferenceIdeal.τ).loc Cert.LatentReferenceIdeal.main_arg6)
      ∧ r.2.mem ((c.tc : Thread Cert.LatentReferenceIdeal.nD Cert.LatentReferenceIdeal.τ).loc Cert.LatentReferenceIdeal.main_arg7) = m ((c.tc : Thread Cert.LatentReferenceIdeal.nD Cert.LatentReferenceIdeal.τ).loc Cert.LatentReferenceIdeal.main_arg7)
      ∧ r.2.mem ((c.tc : Thread Cert.LatentReferenceIdeal.nD Cert.LatentReferenceIdeal.τ).loc Cert.LatentReferenceIdeal.main_arg8) = m ((c.tc : Thread Cert.LatentReferenceIdeal.nD Cert.LatentReferenceIdeal.τ).loc Cert.LatentReferenceIdeal.main_arg8))
      ∧ r.2.sem = fun _ => 0)

def preserves_GateKernel_GateKernelIdeal : Prop :=
  True

def algebraic_GateKernelIdeal_GateReferenceIdeal_pre_gate_finite [hGateKernelIdeal : Cert.GateKernelIdeal.Facts] [hGateReferenceIdeal : Cert.GateReferenceIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_gate_finite m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v8_0)) (v1 : (c : Dev Cert.GateKernelIdeal.nD) → Buf (Elt Ideal) ((c.tc : Thread Cert.GateKernelIdeal.nD Cert.GateKernelIdeal.τ).loc Cert.GateKernelIdeal.main_v8_1)) (v2 : (c : Dev Cert.GateKernelIdeal.nD) → Buf (Elt Ideal) ((c.tc : Thread Cert.GateKernelIdeal.nD Cert.GateKernelIdeal.τ).loc Cert.GateKernelIdeal.main_v8_2)) (v3 : (c : Dev Cert.GateKernelIdeal.nD) → Buf (Elt Ideal) ((c.tc : Thread Cert.GateKernelIdeal.nD Cert.GateKernelIdeal.τ).loc Cert.GateKernelIdeal.main_v8_3)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v8_0) = v0 c
          ∧ r.2.mem ((c.tc : Thread Cert.GateKernelIdeal.nD Cert.GateKernelIdeal.τ).loc Cert.GateKernelIdeal.main_v8_1) = v1 c
          ∧ r.2.mem ((c.tc : Thread Cert.GateKernelIdeal.nD Cert.GateKernelIdeal.τ).loc Cert.GateKernelIdeal.main_v8_2) = v2 c
          ∧ r.2.mem ((c.tc : Thread Cert.GateKernelIdeal.nD Cert.GateKernelIdeal.τ).loc Cert.GateKernelIdeal.main_v8_3) = v3 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v15) = v0 c
          ∧ r.2.mem ((c.tc : Thread Cert.GateReferenceIdeal.nD Cert.GateReferenceIdeal.τ).loc Cert.GateReferenceIdeal.main_v18) = v1 c
          ∧ r.2.mem ((c.tc : Thread Cert.GateReferenceIdeal.nD Cert.GateReferenceIdeal.τ).loc Cert.GateReferenceIdeal.main_v19) = v2 c
          ∧ r.2.mem ((c.tc : Thread Cert.GateReferenceIdeal.nD Cert.GateReferenceIdeal.τ).loc Cert.GateReferenceIdeal.main_v23) = v3 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_NormKernel_NormKernelIdeal : Prop :=
  True

def algebraic_NormKernelIdeal_NormReferenceIdeal_pre_norm_finite [hNormKernelIdeal : Cert.NormKernelIdeal.Facts] [hNormReferenceIdeal : Cert.NormReferenceIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_norm_finite m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)
      ∧ m' ((c.tc : Thread Cert.NormReferenceIdeal.nD Cert.NormReferenceIdeal.τ).loc Cert.NormReferenceIdeal.main_arg5) = m ((c.tc : Thread Cert.NormKernelIdeal.nD Cert.NormKernelIdeal.τ).loc Cert.NormKernelIdeal.main_arg5)) →
    ∃ (v0 : (c : Dev Cert.NormKernelIdeal.nD) → Buf (Elt Ideal) ((c.tc : Thread Cert.NormKernelIdeal.nD Cert.NormKernelIdeal.τ).loc Cert.NormKernelIdeal.main_v13_0)) (v1 : (c : Dev Cert.NormKernelIdeal.nD) → Buf (Elt Ideal) ((c.tc : Thread Cert.NormKernelIdeal.nD Cert.NormKernelIdeal.τ).loc Cert.NormKernelIdeal.main_v13_1)) (v2 : (c : Dev Cert.NormKernelIdeal.nD) → Buf (Elt Ideal) ((c.tc : Thread Cert.NormKernelIdeal.nD Cert.NormKernelIdeal.τ).loc Cert.NormKernelIdeal.main_v13_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v13_0) = v0 c
          ∧ r.2.mem ((c.tc : Thread Cert.NormKernelIdeal.nD Cert.NormKernelIdeal.τ).loc Cert.NormKernelIdeal.main_v13_1) = v1 c
          ∧ r.2.mem ((c.tc : Thread Cert.NormKernelIdeal.nD Cert.NormKernelIdeal.τ).loc Cert.NormKernelIdeal.main_v13_2) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
          ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v48) = v0 c
          ∧ r.2.mem ((c.tc : Thread Cert.NormReferenceIdeal.nD Cert.NormReferenceIdeal.τ).loc Cert.NormReferenceIdeal.main_v51) = v1 c
          ∧ r.2.mem ((c.tc : Thread Cert.NormReferenceIdeal.nD Cert.NormReferenceIdeal.τ).loc Cert.NormReferenceIdeal.main_v46) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5))

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)
      ∧ m' ((c.tc : Thread Cert.LossReferenceIdeal.nD Cert.LossReferenceIdeal.τ).loc Cert.LossReferenceIdeal.main_arg5) = m ((c.tc : Thread Cert.LossKernelIdeal.nD Cert.LossKernelIdeal.τ).loc Cert.LossKernelIdeal.main_arg5)) →
    ∃ (v0 : (c : Dev Cert.LossKernelIdeal.nD) → Buf (Elt Ideal) ((c.tc : Thread Cert.LossKernelIdeal.nD Cert.LossKernelIdeal.τ).loc Cert.LossKernelIdeal.main_v11_0)) (v1 : (c : Dev Cert.LossKernelIdeal.nD) → Buf (Elt Ideal) ((c.tc : Thread Cert.LossKernelIdeal.nD Cert.LossKernelIdeal.τ).loc Cert.LossKernelIdeal.main_v11_1)) (v2 : (c : Dev Cert.LossKernelIdeal.nD) → Buf (Elt Ideal) ((c.tc : Thread Cert.LossKernelIdeal.nD Cert.LossKernelIdeal.τ).loc Cert.LossKernelIdeal.main_v11_2)) (v3 : (c : Dev Cert.LossKernelIdeal.nD) → Buf (Elt Ideal) ((c.tc : Thread Cert.LossKernelIdeal.nD Cert.LossKernelIdeal.τ).loc Cert.LossKernelIdeal.main_v11_3)) (v4 : (c : Dev Cert.LossKernelIdeal.nD) → Buf (Elt Ideal) ((c.tc : Thread Cert.LossKernelIdeal.nD Cert.LossKernelIdeal.τ).loc Cert.LossKernelIdeal.main_v11_4)) (v5 : (c : Dev Cert.LossKernelIdeal.nD) → Buf (Elt Ideal) ((c.tc : Thread Cert.LossKernelIdeal.nD Cert.LossKernelIdeal.τ).loc Cert.LossKernelIdeal.main_v11_5)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v11_0) = v0 c
          ∧ r.2.mem ((c.tc : Thread Cert.LossKernelIdeal.nD Cert.LossKernelIdeal.τ).loc Cert.LossKernelIdeal.main_v11_1) = v1 c
          ∧ r.2.mem ((c.tc : Thread Cert.LossKernelIdeal.nD Cert.LossKernelIdeal.τ).loc Cert.LossKernelIdeal.main_v11_2) = v2 c
          ∧ r.2.mem ((c.tc : Thread Cert.LossKernelIdeal.nD Cert.LossKernelIdeal.τ).loc Cert.LossKernelIdeal.main_v11_3) = v3 c
          ∧ r.2.mem ((c.tc : Thread Cert.LossKernelIdeal.nD Cert.LossKernelIdeal.τ).loc Cert.LossKernelIdeal.main_v11_4) = v4 c
          ∧ r.2.mem ((c.tc : Thread Cert.LossKernelIdeal.nD Cert.LossKernelIdeal.τ).loc Cert.LossKernelIdeal.main_v11_5) = v5 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
          ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v65) = v0 c
          ∧ r.2.mem ((c.tc : Thread Cert.LossReferenceIdeal.nD Cert.LossReferenceIdeal.τ).loc Cert.LossReferenceIdeal.main_v66) = v1 c
          ∧ r.2.mem ((c.tc : Thread Cert.LossReferenceIdeal.nD Cert.LossReferenceIdeal.τ).loc Cert.LossReferenceIdeal.main_v67) = v2 c
          ∧ r.2.mem ((c.tc : Thread Cert.LossReferenceIdeal.nD Cert.LossReferenceIdeal.τ).loc Cert.LossReferenceIdeal.main_v69) = v3 c
          ∧ r.2.mem ((c.tc : Thread Cert.LossReferenceIdeal.nD Cert.LossReferenceIdeal.τ).loc Cert.LossReferenceIdeal.main_v72) = v4 c
          ∧ r.2.mem ((c.tc : Thread Cert.LossReferenceIdeal.nD Cert.LossReferenceIdeal.τ).loc Cert.LossReferenceIdeal.main_v73) = v5 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5))

def preserves_AttnKernel_AttnKernelIdeal : Prop :=
  IdealRules.named_const.Statement Cert.AttnKernelIdeal.κ "mask" .f32 0xF149F2CA#32 ⊥

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)
      ∧ m' ((c.tc : Thread Cert.AttnReferenceIdeal.nD Cert.AttnReferenceIdeal.τ).loc Cert.AttnReferenceIdeal.main_arg5) = m ((c.tc : Thread Cert.AttnKernelIdeal.nD Cert.AttnKernelIdeal.τ).loc Cert.AttnKernelIdeal.main_arg5)) →
    ∃ (v0 : (c : Dev Cert.AttnKernelIdeal.nD) → Buf (Elt Ideal) ((c.tc : Thread Cert.AttnKernelIdeal.nD Cert.AttnKernelIdeal.τ).loc Cert.AttnKernelIdeal.main_v50_0)) (v1 : (c : Dev Cert.AttnKernelIdeal.nD) → Buf (Elt Ideal) ((c.tc : Thread Cert.AttnKernelIdeal.nD Cert.AttnKernelIdeal.τ).loc Cert.AttnKernelIdeal.main_v50_1)) (v2 : (c : Dev Cert.AttnKernelIdeal.nD) → Buf (Elt Ideal) ((c.tc : Thread Cert.AttnKernelIdeal.nD Cert.AttnKernelIdeal.τ).loc Cert.AttnKernelIdeal.main_v50_2)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v50_0) = v0 c
          ∧ r.2.mem ((c.tc : Thread Cert.AttnKernelIdeal.nD Cert.AttnKernelIdeal.τ).loc Cert.AttnKernelIdeal.main_v50_1) = v1 c
          ∧ r.2.mem ((c.tc : Thread Cert.AttnKernelIdeal.nD Cert.AttnKernelIdeal.τ).loc Cert.AttnKernelIdeal.main_v50_2) = v2 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
          ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v70) = v0 c
          ∧ r.2.mem ((c.tc : Thread Cert.AttnReferenceIdeal.nD Cert.AttnReferenceIdeal.τ).loc Cert.AttnReferenceIdeal.main_v74) = v1 c
          ∧ r.2.mem ((c.tc : Thread Cert.AttnReferenceIdeal.nD Cert.AttnReferenceIdeal.τ).loc Cert.AttnReferenceIdeal.main_v77) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5))

def preserves_LatentKernel_LatentKernelIdeal : Prop :=
  True

def algebraic_LatentKernelIdeal_LatentReferenceIdeal [hLatentKernelIdeal : Cert.LatentKernelIdeal.Facts] [hLatentReferenceIdeal : Cert.LatentReferenceIdeal.Facts] : Prop :=
  ∀ (m : (ℓ : Loc Cert.LatentKernelIdeal.nD Cert.LatentKernelIdeal.τ Cert.LatentKernelIdeal.sig) → Buf (Elt Ideal) ℓ) (g : Dev Cert.LatentKernelIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentKernelIdeal m →
    (∀ c : Dev Cert.LatentKernelIdeal.nD,
      m' ((c.tc : Thread Cert.LatentReferenceIdeal.nD Cert.LatentReferenceIdeal.τ).loc Cert.LatentReferenceIdeal.main_arg0) = m ((c.tc : Thread Cert.LatentKernelIdeal.nD Cert.LatentKernelIdeal.τ).loc Cert.LatentKernelIdeal.main_arg0)
      ∧ m' ((c.tc : Thread Cert.LatentReferenceIdeal.nD Cert.LatentReferenceIdeal.τ).loc Cert.LatentReferenceIdeal.main_arg1) = m ((c.tc : Thread Cert.LatentKernelIdeal.nD Cert.LatentKernelIdeal.τ).loc Cert.LatentKernelIdeal.main_arg1)
      ∧ m' ((c.tc : Thread Cert.LatentReferenceIdeal.nD Cert.LatentReferenceIdeal.τ).loc Cert.LatentReferenceIdeal.main_arg2) = m ((c.tc : Thread Cert.LatentKernelIdeal.nD Cert.LatentKernelIdeal.τ).loc Cert.LatentKernelIdeal.main_arg2)
      ∧ m' ((c.tc : Thread Cert.LatentReferenceIdeal.nD Cert.LatentReferenceIdeal.τ).loc Cert.LatentReferenceIdeal.main_arg3) = m ((c.tc : Thread Cert.LatentKernelIdeal.nD Cert.LatentKernelIdeal.τ).loc Cert.LatentKernelIdeal.main_arg3)
      ∧ m' ((c.tc : Thread Cert.LatentReferenceIdeal.nD Cert.LatentReferenceIdeal.τ).loc Cert.LatentReferenceIdeal.main_arg4) = m ((c.tc : Thread Cert.LatentKernelIdeal.nD Cert.LatentKernelIdeal.τ).loc Cert.LatentKernelIdeal.main_arg4)
      ∧ m' ((c.tc : Thread Cert.LatentReferenceIdeal.nD Cert.LatentReferenceIdeal.τ).loc Cert.LatentReferenceIdeal.main_arg5) = m ((c.tc : Thread Cert.LatentKernelIdeal.nD Cert.LatentKernelIdeal.τ).loc Cert.LatentKernelIdeal.main_arg5)
      ∧ m' ((c.tc : Thread Cert.LatentReferenceIdeal.nD Cert.LatentReferenceIdeal.τ).loc Cert.LatentReferenceIdeal.main_arg6) = m ((c.tc : Thread Cert.LatentKernelIdeal.nD Cert.LatentKernelIdeal.τ).loc Cert.LatentKernelIdeal.main_arg6)
      ∧ m' ((c.tc : Thread Cert.LatentReferenceIdeal.nD Cert.LatentReferenceIdeal.τ).loc Cert.LatentReferenceIdeal.main_arg7) = m ((c.tc : Thread Cert.LatentKernelIdeal.nD Cert.LatentKernelIdeal.τ).loc Cert.LatentKernelIdeal.main_arg7)
      ∧ m' ((c.tc : Thread Cert.LatentReferenceIdeal.nD Cert.LatentReferenceIdeal.τ).loc Cert.LatentReferenceIdeal.main_arg8) = m ((c.tc : Thread Cert.LatentKernelIdeal.nD Cert.LatentKernelIdeal.τ).loc Cert.LatentKernelIdeal.main_arg8)) →
    ∃ (v0 : (c : Dev Cert.LatentKernelIdeal.nD) → Buf (Elt Ideal) ((c.tc : Thread Cert.LatentKernelIdeal.nD Cert.LatentKernelIdeal.τ).loc Cert.LatentKernelIdeal.main_v44_2)) (v1 : (c : Dev Cert.LatentKernelIdeal.nD) → Buf (Elt Ideal) ((c.tc : Thread Cert.LatentKernelIdeal.nD Cert.LatentKernelIdeal.τ).loc Cert.LatentKernelIdeal.main_v44_4)),
      θ_run (Cert.LatentKernelIdeal.defs (F := Ideal)) (onTc (τ := Cert.LatentKernelIdeal.τ) (Cert.LatentKernelIdeal.main (F := Ideal))) ⟨m, fun _ => 0, g⟩ (fun r => ∀ c : Dev Cert.LatentKernelIdeal.nD,
          r.2.mem ((c.tc : Thread Cert.LatentKernelIdeal.nD Cert.LatentKernelIdeal.τ).loc Cert.LatentKernelIdeal.main_v44_2) = v0 c
          ∧ r.2.mem ((c.tc : Thread Cert.LatentKernelIdeal.nD Cert.LatentKernelIdeal.τ).loc Cert.LatentKernelIdeal.main_v44_4) = v1 c
          ∧ r.2.mem ((c.tc : Thread Cert.LatentKernelIdeal.nD Cert.LatentKernelIdeal.τ).loc Cert.LatentKernelIdeal.main_arg0) = m ((c.tc : Thread Cert.LatentKernelIdeal.nD Cert.LatentKernelIdeal.τ).loc Cert.LatentKernelIdeal.main_arg0)
          ∧ r.2.mem ((c.tc : Thread Cert.LatentKernelIdeal.nD Cert.LatentKernelIdeal.τ).loc Cert.LatentKernelIdeal.main_arg1) = m ((c.tc : Thread Cert.LatentKernelIdeal.nD Cert.LatentKernelIdeal.τ).loc Cert.LatentKernelIdeal.main_arg1)
          ∧ r.2.mem ((c.tc : Thread Cert.LatentKernelIdeal.nD Cert.LatentKernelIdeal.τ).loc Cert.LatentKernelIdeal.main_arg2) = m ((c.tc : Thread Cert.LatentKernelIdeal.nD Cert.LatentKernelIdeal.τ).loc Cert.LatentKernelIdeal.main_arg2)
          ∧ r.2.mem ((c.tc : Thread Cert.LatentKernelIdeal.nD Cert.LatentKernelIdeal.τ).loc Cert.LatentKernelIdeal.main_arg3) = m ((c.tc : Thread Cert.LatentKernelIdeal.nD Cert.LatentKernelIdeal.τ).loc Cert.LatentKernelIdeal.main_arg3)
          ∧ r.2.mem ((c.tc : Thread Cert.LatentKernelIdeal.nD Cert.LatentKernelIdeal.τ).loc Cert.LatentKernelIdeal.main_arg4) = m ((c.tc : Thread Cert.LatentKernelIdeal.nD Cert.LatentKernelIdeal.τ).loc Cert.LatentKernelIdeal.main_arg4)
          ∧ r.2.mem ((c.tc : Thread Cert.LatentKernelIdeal.nD Cert.LatentKernelIdeal.τ).loc Cert.LatentKernelIdeal.main_arg5) = m ((c.tc : Thread Cert.LatentKernelIdeal.nD Cert.LatentKernelIdeal.τ).loc Cert.LatentKernelIdeal.main_arg5)
          ∧ r.2.mem ((c.tc : Thread Cert.LatentKernelIdeal.nD Cert.LatentKernelIdeal.τ).loc Cert.LatentKernelIdeal.main_arg6) = m ((c.tc : Thread Cert.LatentKernelIdeal.nD Cert.LatentKernelIdeal.τ).loc Cert.LatentKernelIdeal.main_arg6)
          ∧ r.2.mem ((c.tc : Thread Cert.LatentKernelIdeal.nD Cert.LatentKernelIdeal.τ).loc Cert.LatentKernelIdeal.main_arg7) = m ((c.tc : Thread Cert.LatentKernelIdeal.nD Cert.LatentKernelIdeal.τ).loc Cert.LatentKernelIdeal.main_arg7)
          ∧ r.2.mem ((c.tc : Thread Cert.LatentKernelIdeal.nD Cert.LatentKernelIdeal.τ).loc Cert.LatentKernelIdeal.main_arg8) = m ((c.tc : Thread Cert.LatentKernelIdeal.nD Cert.LatentKernelIdeal.τ).loc Cert.LatentKernelIdeal.main_arg8))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v33) = v0 c
          ∧ r.2.mem ((c.tc : Thread Cert.LatentReferenceIdeal.nD Cert.LatentReferenceIdeal.τ).loc Cert.LatentReferenceIdeal.main_v30) = v1 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4)
          ∧ r.2.mem ((c.tc : Thread Cert.LatentReferenceIdeal.nD Cert.LatentReferenceIdeal.τ).loc Cert.LatentReferenceIdeal.main_arg5) = m' ((c.tc : Thread Cert.LatentReferenceIdeal.nD Cert.LatentReferenceIdeal.τ).loc Cert.LatentReferenceIdeal.main_arg5)
          ∧ r.2.mem ((c.tc : Thread Cert.LatentReferenceIdeal.nD Cert.LatentReferenceIdeal.τ).loc Cert.LatentReferenceIdeal.main_arg6) = m' ((c.tc : Thread Cert.LatentReferenceIdeal.nD Cert.LatentReferenceIdeal.τ).loc Cert.LatentReferenceIdeal.main_arg6)
          ∧ r.2.mem ((c.tc : Thread Cert.LatentReferenceIdeal.nD Cert.LatentReferenceIdeal.τ).loc Cert.LatentReferenceIdeal.main_arg7) = m' ((c.tc : Thread Cert.LatentReferenceIdeal.nD Cert.LatentReferenceIdeal.τ).loc Cert.LatentReferenceIdeal.main_arg7)
          ∧ r.2.mem ((c.tc : Thread Cert.LatentReferenceIdeal.nD Cert.LatentReferenceIdeal.τ).loc Cert.LatentReferenceIdeal.main_arg8) = m' ((c.tc : Thread Cert.LatentReferenceIdeal.nD Cert.LatentReferenceIdeal.τ).loc Cert.LatentReferenceIdeal.main_arg8))

def Claim : Prop :=
  ∃ (hGateKernel : Cert.GateKernel.Facts) (hGateKernelIdeal : Cert.GateKernelIdeal.Facts) (hGateReferenceIdeal : Cert.GateReferenceIdeal.Facts) (hNormKernel : Cert.NormKernel.Facts) (hNormKernelIdeal : Cert.NormKernelIdeal.Facts) (hNormReferenceIdeal : Cert.NormReferenceIdeal.Facts) (hLossKernel : Cert.LossKernel.Facts) (hLossKernelIdeal : Cert.LossKernelIdeal.Facts) (hLossReferenceIdeal : Cert.LossReferenceIdeal.Facts) (hAttnKernel : Cert.AttnKernel.Facts) (hAttnKernelIdeal : Cert.AttnKernelIdeal.Facts) (hAttnReferenceIdeal : Cert.AttnReferenceIdeal.Facts) (hLatentKernel : Cert.LatentKernel.Facts) (hLatentKernelIdeal : Cert.LatentKernelIdeal.Facts) (hLatentReferenceIdeal : Cert.LatentReferenceIdeal.Facts) (hPre_gate_finite : Cert.Pre_gate_finite.Facts) (hPre_norm_finite : Cert.Pre_norm_finite.Facts) (hPre_loss_finite : Cert.Pre_loss_finite.Facts) (hPre_attn_finite : Cert.Pre_attn_finite.Facts),
    quiescent_GateKernel (hGateKernel := hGateKernel)
    ∧ quiescent_GateKernelIdeal (hGateKernelIdeal := hGateKernelIdeal)
    ∧ quiescent_GateKernelIdeal_pre_gate_finite (hGateKernelIdeal := hGateKernelIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_NormKernel (hNormKernel := hNormKernel)
    ∧ quiescent_NormKernelIdeal (hNormKernelIdeal := hNormKernelIdeal)
    ∧ quiescent_NormKernelIdeal_pre_norm_finite (hNormKernelIdeal := hNormKernelIdeal) (hPre_norm_finite := hPre_norm_finite)
    ∧ quiescent_NormReferenceIdeal (hNormReferenceIdeal := hNormReferenceIdeal)
    ∧ quiescent_NormReferenceIdeal_pre_norm_finite (hNormReferenceIdeal := hNormReferenceIdeal) (hPre_norm_finite := hPre_norm_finite)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_LatentKernel (hLatentKernel := hLatentKernel)
    ∧ quiescent_LatentKernelIdeal (hLatentKernelIdeal := hLatentKernelIdeal)
    ∧ quiescent_LatentReferenceIdeal (hLatentReferenceIdeal := hLatentReferenceIdeal)
    ∧ preserves_GateKernel_GateKernelIdeal
    ∧ algebraic_GateKernelIdeal_GateReferenceIdeal_pre_gate_finite (hGateKernelIdeal := hGateKernelIdeal) (hGateReferenceIdeal := hGateReferenceIdeal) (hPre_gate_finite := hPre_gate_finite)
    ∧ preserves_NormKernel_NormKernelIdeal
    ∧ algebraic_NormKernelIdeal_NormReferenceIdeal_pre_norm_finite (hNormKernelIdeal := hNormKernelIdeal) (hNormReferenceIdeal := hNormReferenceIdeal) (hPre_norm_finite := hPre_norm_finite)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_LatentKernel_LatentKernelIdeal
    ∧ algebraic_LatentKernelIdeal_LatentReferenceIdeal (hLatentKernelIdeal := hLatentKernelIdeal) (hLatentReferenceIdeal := hLatentReferenceIdeal)
-- ==== Pre_attn_finite.lean ====
abbrev S1x4112x8x128 : Shape := ⟨4, ![1, 4112, 8, 128]⟩
abbrev S1x4112x8x64 : Shape := ⟨4, ![1, 4112, 8, 64]⟩
abbrev S1x4112x64 : Shape := ⟨3, ![1, 4112, 64]⟩
abbrev S_ : Shape := ⟨0, ![]⟩

class Facts : Prop where
  bcast_S_S1x4112x8x128 : S_.BroadcastsInDim S1x4112x8x128 (![] : Fin 0 → Fin S1x4112x8x128.rank)
  bcast_S_S1x4112x8x64 : S_.BroadcastsInDim S1x4112x8x64 (![] : Fin 0 → Fin S1x4112x8x64.rank)
  bcast_S_S1x4112x64 : S_.BroadcastsInDim S1x4112x64 (![] : Fin 0 → Fin S1x4112x64.rank)

variable [Facts]

def fn {F : FTy → Type} [FloatOps F] (main_arg0 : FVec F S1x4112x8x128 .f32) (main_arg1 : FVec F S1x4112x8x64 .f32) (main_arg2 : FVec F S1x4112x8x128 .f32) (main_arg3 : FVec F S1x4112x64 .f32) (main_arg4 : FVec F S1x4112x8x128 .f32) (main_arg5 : FVec F S1x4112x8x128 .f32) : IVec S1x4112x8x128 1 × IVec S1x4112x8x64 1 × IVec S1x4112x8x128 1 × IVec S1x4112x64 1 × IVec S1x4112x8x128 1 × IVec S1x4112x8x128 1 :=
  let main_v0 : FVec F S1x4112x8x128 .f32 := Host.absf main_arg0
  let main_cst : FVec F S_ .f32 := constant S_ .f32 0x7F800000#32
  let main_v1 : FVec F S1x4112x8x128 .f32 := broadcastInDim S1x4112x8x128 ![] bcast_S_S1x4112x8x128 main_cst
  let main_v2 : IVec S1x4112x8x128 1 := cmpf .olt main_v0 main_v1
  let main_v3 : FVec F S1x4112x8x64 .f32 := Host.absf main_arg1
  let main_cst_0 : FVec F S_ .f32 := constant S_ .f32 0x7F800000#32
  let main_v4 : FVec F S1x4112x8x64 .f32 := broadcastInDim S1x4112x8x64 ![] bcast_S_S1x4112x8x64 main_cst_0
  let main_v5 : IVec S1x4112x8x64 1 := cmpf .olt main_v3 main_v4
  let main_v6 : FVec F S1x4112x8x128 .f32 := Host.absf main_arg2
  let main_cst_1 : FVec F S_ .f32 := constant S_ .f32 0x7F800000#32
  let main_v7 : FVec F S1x4112x8x128 .f32 := broadcastInDim S1x4112x8x128 ![] bcast_S_S1x4112x8x128 main_cst_1
  let main_v8 : IVec S1x4112x8x128 1 := cmpf .olt main_v6 main_v7
  let main_v9 : FVec F S1x4112x64 .f32 := Host.absf main_arg3
  let main_cst_2 : FVec F S_ .f32 := constant S_ .f32 0x7F800000#32
  let main_v10 : FVec F S1x4112x64 .f32 := broadcastInDim S1x4112x64 ![] bcast_S_S1x4112x64 main_cst_2
  let main_v11 : IVec S1x4112x64 1 := cmpf .olt main_v9 main_v10
  let main_v12 : FVec F S1x4112x8x128 .f32 := Host.absf main_arg4
  let main_cst_3 : FVec F S_ .f32 := constant S_ .f32 0x7F800000#32
  let main_v13 : FVec F S1x4112x8x128 .f32 := broadcastInDim S1x4112x8x128 ![] bcast_S_S1x4112x8x128 main_cst_3
  let main_v14 : IVec S1x4112x8x128 1 := cmpf .olt main_v12 main_v13
  let main_v15 : FVec F S1x4112x8x128 .f32 := Host.absf main_arg5
  let main_cst_4 : FVec F S_ .f32 := constant S_ .f32 0x7F800000#32
  let main_v16 : FVec F S1x4112x8x128 .f32 := broadcastInDim S1x4112x8x128 ![] bcast_S_S1x4112x8x128 main_cst_4
  let main_v17 : IVec S1x4112x8x128 1 := cmpf .olt main_v15 main_v16
  (main_v2, main_v5, main_v8, main_v11, main_v14, main_v17)
-- ==== Pre_gate_finite.lean ====
abbrev S1x4112x8x128 : Shape := ⟨4, ![1, 4112, 8, 128]⟩
abbrev S1x4112x1024 : Shape := ⟨3, ![1, 4112, 1024]⟩
abbrev S1024x1024 : Shape := ⟨2, ![1024, 1024]⟩
abbrev S_ : Shape := ⟨0, ![]⟩

class Facts : Prop where
  bcast_S_S1x4112x8x128 : S_.BroadcastsInDim S1x4112x8x128 (![] : Fin 0 → Fin S1x4112x8x128.rank)
  bcast_S_S1x4112x1024 : S_.BroadcastsInDim S1x4112x1024 (![] : Fin 0 → Fin S1x4112x1024.rank)
  bcast_S_S1024x1024 : S_.BroadcastsInDim S1024x1024 (![] : Fin 0 → Fin S1024x1024.rank)

variable [Facts]

def fn {F : FTy → Type} [FloatOps F] (main_arg0 : FVec F S1x4112x8x128 .f32) (main_arg1 : FVec F S1x4112x1024 .f32) (main_arg2 : FVec F S1024x1024 .f32) (main_arg3 : FVec F S1x4112x1024 .f32) : IVec S1x4112x8x128 1 × IVec S1x4112x1024 1 × IVec S1024x1024 1 × IVec S1x4112x1024 1 :=
  let main_v0 : FVec F S1x4112x8x128 .f32 := Host.absf main_arg0
  let main_cst : FVec F S_ .f32 := constant S_ .f32 0x7F800000#32
  let main_v1 : FVec F S1x4112x8x128 .f32 := broadcastInDim S1x4112x8x128 ![] bcast_S_S1x4112x8x128 main_cst
  let main_v2 : IVec S1x4112x8x128 1 := cmpf .olt main_v0 main_v1
  let main_v3 : FVec F S1x4112x1024 .f32 := Host.absf main_arg1
  let main_cst_0 : FVec F S_ .f32 := constant S_ .f32 0x7F800000#32
  let main_v4 : FVec F S1x4112x1024 .f32 := broadcastInDim S1x4112x1024 ![] bcast_S_S1x4112x1024 main_cst_0
  let main_v5 : IVec S1x4112x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1x4112x1024 .f32 := Host.absf main_arg3
  let main_cst_2 : FVec F S_ .f32 := constant S_ .f32 0x7F800000#32
  let main_v10 : FVec F S1x4112x1024 .f32 := broadcastInDim S1x4112x1024 ![] bcast_S_S1x4112x1024 main_cst_2
  let main_v11 : IVec S1x4112x1024 1 := cmpf .olt main_v9 main_v10
  (main_v2, main_v5, main_v8, main_v11)
-- ==== Pre_loss_finite.lean ====
abbrev S1x4112x1024 : Shape := ⟨3, ![1, 4112, 1024]⟩
abbrev S1024x1024 : Shape := ⟨2, ![1024, 1024]⟩
abbrev S1024 : Shape := ⟨1, ![1024]⟩
abbrev S1x4096x1024 : Shape := ⟨3, ![1, 4096, 1024]⟩
abbrev S_ : Shape := ⟨0, ![]⟩

class Facts : Prop where
  bcast_S_S1x4112x1024 : S_.BroadcastsInDim S1x4112x1024 (![] : Fin 0 → Fin S1x4112x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S1x4096x1024 : S_.BroadcastsInDim S1x4096x1024 (![] : Fin 0 → Fin S1x4096x1024.rank)

variable [Facts]

def fn {F : FTy → Type} [FloatOps F] (main_arg0 : FVec F S1x4112x1024 .f32) (main_arg1 : FVec F S1x4112x1024 .f32) (main_arg2 : FVec F S1x4112x1024 .f32) (main_arg3 : FVec F S1024x1024 .f32) (main_arg4 : FVec F S1024 .f32) (main_arg5 : FVec F S1x4096x1024 .f32) : IVec S1x4112x1024 1 × IVec S1x4112x1024 1 × IVec S1x4112x1024 1 × IVec S1024x1024 1 × IVec S1024 1 × IVec S1x4096x1024 1 :=
  let main_v0 : FVec F S1x4112x1024 .f32 := Host.absf main_arg0
  let main_cst : FVec F S_ .f32 := constant S_ .f32 0x7F800000#32
  let main_v1 : FVec F S1x4112x1024 .f32 := broadcastInDim S1x4112x1024 ![] bcast_S_S1x4112x1024 main_cst
  let main_v2 : IVec S1x4112x1024 1 := cmpf .olt main_v0 main_v1
  let main_v3 : FVec F S1x4112x1024 .f32 := Host.absf main_arg1
  let main_cst_0 : FVec F S_ .f32 := constant S_ .f32 0x7F800000#32
  let main_v4 : FVec F S1x4112x1024 .f32 := broadcastInDim S1x4112x1024 ![] bcast_S_S1x4112x1024 main_cst_0
  let main_v5 : IVec S1x4112x1024 1 := cmpf .olt main_v3 main_v4
  let main_v6 : FVec F S1x4112x1024 .f32 := Host.absf main_arg2
  let main_cst_1 : FVec F S_ .f32 := constant S_ .f32 0x7F800000#32
  let main_v7 : FVec F S1x4112x1024 .f32 := broadcastInDim S1x4112x1024 ![] bcast_S_S1x4112x1024 main_cst_1
  let main_v8 : IVec S1x4112x1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1x4096x1024 .f32 := Host.absf main_arg5
  let main_cst_4 : FVec F S_ .f32 := constant S_ .f32 0x7F800000#32
  let main_v16 : FVec F S1x4096x1024 .f32 := broadcastInDim S1x4096x1024 ![] bcast_S_S1x4096x1024 main_cst_4
  let main_v17 : IVec S1x4096x1024 1 := cmpf .olt main_v15 main_v16
  (main_v2, main_v5, main_v8, main_v11, main_v14, main_v17)
-- ==== Pre_norm_finite.lean ====
abbrev S1x4112x1024 : Shape := ⟨3, ![1, 4112, 1024]⟩
abbrev S1x1024 : Shape := ⟨2, ![1, 1024]⟩
abbrev S1024x2048 : Shape := ⟨2, ![1024, 2048]⟩
abbrev S_ : Shape := ⟨0, ![]⟩

class Facts : Prop where
  bcast_S_S1x4112x1024 : S_.BroadcastsInDim S1x4112x1024 (![] : Fin 0 → Fin S1x4112x1024.rank)
  bcast_S_S1x1024 : S_.BroadcastsInDim S1x1024 (![] : Fin 0 → Fin S1x1024.rank)
  bcast_S_S1024x2048 : S_.BroadcastsInDim S1024x2048 (![] : Fin 0 → Fin S1024x2048.rank)

variable [Facts]

def fn {F : FTy → Type} [FloatOps F] (main_arg0 : FVec F S1x4112x1024 .f32) (main_arg1 : FVec F S1x1024 .f32) (main_arg2 : FVec F S1024x2048 .f32) (main_arg3 : FVec F S1x4112x1024 .f32) (main_arg4 : FVec F S1x4112x1024 .f32) (main_arg5 : FVec F S1x4112x1024 .f32) : IVec S1x4112x1024 1 × IVec S1x1024 1 × IVec S1024x2048 1 × IVec S1x4112x1024 1 × IVec S1x4112x1024 1 :=
  let main_v0 : FVec F S1x4112x1024 .f32 := Host.absf main_arg0
  let main_cst : FVec F S_ .f32 := constant S_ .f32 0x7F800000#32
  let main_v1 : FVec F S1x4112x1024 .f32 := broadcastInDim S1x4112x1024 ![] bcast_S_S1x4112x1024 main_cst
  let main_v2 : IVec S1x4112x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2048 .f32 := Host.absf main_arg2
  let main_cst_1 : FVec F S_ .f32 := constant S_ .f32 0x7F800000#32
  let main_v7 : FVec F S1024x2048 .f32 := broadcastInDim S1024x2048 ![] bcast_S_S1024x2048 main_cst_1
  let main_v8 : IVec S1024x2048 1 := cmpf .olt main_v6 main_v7
  let main_v9 : FVec F S1x4112x1024 .f32 := Host.absf main_arg4
  let main_cst_2 : FVec F S_ .f32 := constant S_ .f32 0x7F800000#32
  let main_v10 : FVec F S1x4112x1024 .f32 := broadcastInDim S1x4112x1024 ![] bcast_S_S1x4112x1024 main_cst_2
  let main_v11 : IVec S1x4112x1024 1 := cmpf .olt main_v9 main_v10
  let main_v12 : FVec F S1x4112x1024 .f32 := Host.absf main_arg5
  let main_cst_3 : FVec F S_ .f32 := constant S_ .f32 0x7F800000#32
  let main_v13 : FVec F S1x4112x1024 .f32 := broadcastInDim S1x4112x1024 ![] bcast_S_S1x4112x1024 main_cst_3
  let main_v14 : IVec S1x4112x1024 1 := cmpf .olt main_v12 main_v13
  (main_v2, main_v5, main_v8, main_v11, main_v14)
-- ==== GateKernel.lean ====
abbrev S1x4112x8x128 : Shape := ⟨4, ![1, 4112, 8, 128]⟩
abbrev S1x4112x1024 : Shape := ⟨3, ![1, 4112, 1024]⟩
abbrev S1024x1024 : Shape := ⟨2, ![1024, 1024]⟩
abbrev S4112x1024 : Shape := ⟨2, ![4112, 1024]⟩
abbrev S_ : Shape := ⟨0, ![]⟩
abbrev S4224x1024 : Shape := ⟨2, ![4224, 1024]⟩
abbrev S8x11x1x384 : Shape := ⟨4, ![8, 11, 1, 384]⟩
abbrev S384x1024 : Shape := ⟨2, ![384, 1024]⟩
abbrev S8x1x1x384 : Shape := ⟨4, ![8, 1, 1, 384]⟩
abbrev S384x128 : Shape := ⟨2, ![384, 128]⟩
abbrev S384 : Shape := ⟨1, ![384]⟩
abbrev S384x1 : Shape := ⟨2, ![384, 1]⟩
abbrev S128x384 : Shape := ⟨2, ![128, 384]⟩
abbrev S1x384 : Shape := ⟨2, ![1, 384]⟩
abbrev S1x1x1x384 : Shape := ⟨4, ![1, 1, 1, 384]⟩

abbrev nBuf : Space → Nat
  | .hbm => 22
  | .vmem => 15
  | .smem => 0
  | _ => 0

abbrev bufTy : (tb : Table) → Fin (tcTables nBuf tb) → BufTy
  | .hbm, ⟨0, _⟩ => ⟨S1x4112x8x128, .f32⟩
  | .hbm, ⟨1, _⟩ => ⟨S1x4112x1024, .f32⟩
  | .hbm, ⟨2, _⟩ => ⟨S1024x1024, .f32⟩
  | .hbm, ⟨3, _⟩ => ⟨S1x4112x1024, .f32⟩
  | .hbm, ⟨4, _⟩ => ⟨S4112x1024, .f32⟩
  | .hbm, ⟨5, _⟩ => ⟨S_, .i32⟩
  | .hbm, ⟨6, _⟩ => ⟨S_, .f32⟩
  | .hbm, ⟨7, _⟩ => ⟨S4224x1024, .f32⟩
  | .hbm, ⟨8, _⟩ => ⟨S4112x1024, .f32⟩
  | .hbm, ⟨9, _⟩ => ⟨S_, .i32⟩
  | .hbm, ⟨10, _⟩ => ⟨S_, .f32⟩
  | .hbm, ⟨11, _⟩ => ⟨S4224x1024, .f32⟩
  | .hbm, ⟨12, _⟩ => ⟨S4224x1024, .bf16⟩
  | .hbm, ⟨13, _⟩ => ⟨S4112x1024, .f32⟩
  | .hbm, ⟨14, _⟩ => ⟨S_, .i32⟩
  | .hbm, ⟨15, _⟩ => ⟨S_, .f32⟩
  | .hbm, ⟨16, _⟩ => ⟨S4224x1024, .f32⟩
  | .hbm, ⟨17, _⟩ => ⟨S1024x1024, .bf16⟩
  | .hbm, ⟨18, _⟩ => ⟨S4224x1024, .bf16⟩
  | .hbm, ⟨19, _⟩ => ⟨S4224x1024, .bf16⟩
  | .hbm, ⟨20, _⟩ => ⟨S1024x1024, .bf16⟩
  | .hbm, ⟨21, _⟩ => ⟨S8x11x1x384, .f32⟩
  | .local _ .vmem, ⟨0, _⟩ => ⟨S384x1024, .f32⟩
  | .local _ .vmem, ⟨1, _⟩ => ⟨S384x1024, .f32⟩
  | .local _ .vmem, ⟨2, _⟩ => ⟨S384x1024, .bf16⟩
  | .local _ .vmem, ⟨3, _⟩ => ⟨S384x1024, .bf16⟩
  | .local _ .vmem, ⟨4, _⟩ => ⟨S384x1024, .f32⟩
  | .local _ .vmem, ⟨5, _⟩ => ⟨S384x1024, .f32⟩
  | .local _ .vmem, ⟨6, _⟩ => ⟨S1024x1024, .bf16⟩
  | .local _ .vmem, ⟨7, _⟩ => ⟨S384x1024, .bf16⟩
  | .local _ .vmem, ⟨8, _⟩ => ⟨S384x1024, .bf16⟩
  | .local _ .vmem, ⟨9, _⟩ => ⟨S384x1024, .bf16⟩
  | .local _ .vmem, ⟨10, _⟩ => ⟨S384x1024, .bf16⟩
  | .local _ .vmem, ⟨11, _⟩ => ⟨S1024x1024, .bf16⟩
  | .local _ .vmem, ⟨12, _⟩ => ⟨S8x1x1x384, .f32⟩
  | .local _ .vmem, ⟨13, _⟩ => ⟨S8x1x1x384, .f32⟩
  | .local _ .vmem, ⟨14, _⟩ => ⟨S1024x1024, .f32⟩
  | _, _ => ⟨S1x4112x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v139 : BitVec 1 := Scalar.cmpi .eq arg0 c10_i32
  let v140 : BitVec 32 := Scalar.extui v139
  let c0_i32_54 : BitVec 32 := 0#32
  let v141 : BitVec 1 := Scalar.cmpi .ne v140 c0_i32_54
  v141

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1x1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateReferenceIdeal.lean ====
abbrev S1x4112x8x128 : Shape := ⟨4, ![1, 4112, 8, 128]⟩
abbrev S1x4112x1024 : Shape := ⟨3, ![1, 4112, 1024]⟩
abbrev S1024x1024 : Shape := ⟨2, ![1024, 1024]⟩
abbrev S_ : Shape := ⟨0, ![]⟩
abbrev S1x4112x8 : Shape := ⟨3, ![1, 4112, 8]⟩
abbrev S4112x1024 : Shape := ⟨2, ![4112, 1024]⟩
abbrev S4224x1024 : Shape := ⟨2, ![4224, 1024]⟩
abbrev S4112x8 : Shape := ⟨2, ![4112, 8]⟩
abbrev S4224x8 : Shape := ⟨2, ![4224, 8]⟩
abbrev S8x4224 : Shape := ⟨2, ![8, 4224]⟩
abbrev S8x11x1x384 : Shape := ⟨4, ![8, 11, 1, 384]⟩

abbrev nBuf : Space → Nat
  | .hbm => 50
  | .vmem => 0
  | .smem => 0
  | _ => 0

abbrev bufTy : (tb : Table) → Fin (tcTables nBuf tb) → BufTy
  | .hbm, ⟨0, _⟩ => ⟨S1x4112x8x128, .f32⟩
  | .hbm, ⟨1, _⟩ => ⟨S1x4112x1024, .f32⟩
  | .hbm, ⟨2, _⟩ => ⟨S1024x1024, .f32⟩
  | .hbm, ⟨3, _⟩ => ⟨S1x4112x1024, .f32⟩
  | .hbm, ⟨4, _⟩ => ⟨S1x4112x1024, .f32⟩
  | .hbm, ⟨5, _⟩ => ⟨S1x4112x1024, .f32⟩
  | .hbm, ⟨6, _⟩ => ⟨S1x4112x1024, .f32⟩
  | .hbm, ⟨7, _⟩ => ⟨S_, .f32⟩
  | .hbm, ⟨8, _⟩ => ⟨S1x4112x1024, .f32⟩
  | .hbm, ⟨9, _⟩ => ⟨S1x4112x1024, .f32⟩
  | .hbm, ⟨10, _⟩ => ⟨S_, .f32⟩
  | .hbm, ⟨11, _⟩ => ⟨S1x4112x1024, .f32⟩
  | .hbm, ⟨12, _⟩ => ⟨S1x4112x1024, .f32⟩
  | .hbm, ⟨13, _⟩ => ⟨S_, .f32⟩
  | .hbm, ⟨14, _⟩ => ⟨S1x4112x1024, .f32⟩
  | .hbm, ⟨15, _⟩ => ⟨S1x4112x1024, .f32⟩
  | .hbm, ⟨16, _⟩ => ⟨S1x4112x1024, .f32⟩
  | .hbm, ⟨17, _⟩ => ⟨S1x4112x1024, .f32⟩
  | .hbm, ⟨18, _⟩ => ⟨S1x4112x1024, .f32⟩
  | .hbm, ⟨19, _⟩ => ⟨S1x4112x1024, .f32⟩
  | .hbm, ⟨20, _⟩ => ⟨S1024x1024, .f32⟩
  | .hbm, ⟨21, _⟩ => ⟨S1024x1024, .f32⟩
  | .hbm, ⟨22, _⟩ => ⟨S1x4112x1024, .f32⟩
  | .hbm, ⟨23, _⟩ => ⟨S1x4112x1024, .f32⟩
  | .hbm, ⟨24, _⟩ => ⟨S1x4112x1024, .f32⟩
  | .hbm, ⟨25, _⟩ => ⟨S1x4112x1024, .f32⟩
  | .hbm, ⟨26, _⟩ => ⟨S1x4112x1024, .f32⟩
  | .hbm, ⟨27, _⟩ => ⟨S1x4112x1024, .f32⟩
  | .hbm, ⟨28, _⟩ => ⟨S1x4112x1024, .f32⟩
  | .hbm, ⟨29, _⟩ => ⟨S1x4112x8x128, .f32⟩
  | .hbm, ⟨30, _⟩ => ⟨S1x4112x8x128, .f32⟩
  | .hbm, ⟨31, _⟩ => ⟨S_, .f32⟩
  | .hbm, ⟨32, _⟩ => ⟨S1x4112x8, .f32⟩
  | .hbm, ⟨33, _⟩ => ⟨S4112x1024, .f32⟩
  | .hbm, ⟨34, _⟩ => ⟨S_, .i32⟩
  | .hbm, ⟨35, _⟩ => ⟨S_, .f32⟩
  | .hbm, ⟨36, _⟩ => ⟨S4224x1024, .f32⟩
  | .hbm, ⟨37, _⟩ => ⟨S4224x1024, .bf16⟩
  | .hbm, ⟨38, _⟩ => ⟨S4112x1024, .f32⟩
  | .hbm, ⟨39, _⟩ => ⟨S_, .i32⟩
  | .hbm, ⟨40, _⟩ => ⟨S_, .f32⟩
  | .hbm, ⟨41, _⟩ => ⟨S4224x1024, .f32⟩
  | .hbm, ⟨42, _⟩ => ⟨S4224x1024, .bf16⟩
  | .hbm, ⟨43, _⟩ => ⟨S1024x1024, .bf16⟩
  | .hbm, ⟨44, _⟩ => ⟨S4112x8, .f32⟩
  | .hbm, ⟨45, _⟩ => ⟨S_, .i32⟩
  | .hbm, ⟨46, _⟩ => ⟨S_, .f32⟩
  | .hbm, ⟨47, _⟩ => ⟨S4224x8, .f32⟩
  | .hbm, ⟨48, _⟩ => ⟨S8x4224, .f32⟩
  | .hbm, ⟨49, _⟩ => ⟨S8x11x1x384, .f32⟩
  | _, _ => ⟨S1x4112x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_c : Ref sig .tc := ⟨.hbm, 34, rfl⟩
abbrev main_call2_v0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_0 : Ref sig .tc := ⟨.hbm, 39, rfl⟩
abbrev main_call3_v0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_1 : Ref sig .tc := ⟨.hbm, 45, rfl⟩
abbrev main_call4_v0 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩

abbrev nD : Nat := 1
abbrev τ : Topo := Topo.v7x

variable {F : FTy → Type} [FloatOps F]
-- ==== NormKernel.lean ====
abbrev S1x4112x1024 : Shape := ⟨3, ![1, 4112, 1024]⟩
abbrev S1x1024 : Shape := ⟨2, ![1, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S4112x1024 : Shape := ⟨2, ![4112, 1024]⟩
abbrev S_ : Shape := ⟨0, ![]⟩
abbrev S4224x1024 : Shape := ⟨2, ![4224, 1024]⟩
abbrev S384x1024 : Shape := ⟨2, ![384, 1024]⟩
abbrev S384 : Shape := ⟨1, ![384]⟩
abbrev S384x1 : Shape := ⟨2, ![384, 1]⟩
abbrev S384x2048 : Shape := ⟨2, ![384, 2048]⟩
abbrev S384x256 : Shape := ⟨2, ![384, 256]⟩
abbrev S1x1024x256 : Shape := ⟨3, ![1, 1024, 256]⟩
abbrev S1024x256 : Shape := ⟨2, ![1024, 256]⟩
abbrev S1024 : Shape := ⟨1, ![1024]⟩

abbrev nBuf : Space → Nat
  | .hbm => 30
  | .vmem => 15
  | .smem => 0
  | _ => 0

abbrev bufTy : (tb : Table) → Fin (tcTables nBuf tb) → BufTy
  | .hbm, ⟨0, _⟩ => ⟨S1x4112x1024, .f32⟩
  | .hbm, ⟨1, _⟩ => ⟨S1x1024, .f32⟩
  | .hbm, ⟨2, _⟩ => ⟨S1024x2048, .f32⟩
  | .hbm, ⟨3, _⟩ => ⟨S1x4112x1024, .f32⟩
  | .hbm, ⟨4, _⟩ => ⟨S1x4112x1024, .f32⟩
  | .hbm, ⟨5, _⟩ => ⟨S1x4112x1024, .f32⟩
  | .hbm, ⟨6, _⟩ => ⟨S1024x8x256, .f32⟩
  | .hbm, ⟨7, _⟩ => ⟨S8x1024x256, .f32⟩
  | .hbm, ⟨8, _⟩ => ⟨S8x1024x256, .bf16⟩
  | .hbm, ⟨9, _⟩ => ⟨S4112x1024, .f32⟩
  | .hbm, ⟨10, _⟩ => ⟨S_, .i32⟩
  | .hbm, ⟨11, _⟩ => ⟨S_, .f32⟩
  | .hbm, ⟨12, _⟩ => ⟨S4224x1024, .f32⟩
  | .hbm, ⟨13, _⟩ => ⟨S4112x1024, .f32⟩
  | .hbm, ⟨14, _⟩ => ⟨S_, .i32⟩
  | .hbm, ⟨15, _⟩ => ⟨S_, .f32⟩
  | .hbm, ⟨16, _⟩ => ⟨S4224x1024, .f32⟩
  | .hbm, ⟨17, _⟩ => ⟨S4224x1024, .bf16⟩
  | .hbm, ⟨18, _⟩ => ⟨S4112x1024, .f32⟩
  | .hbm, ⟨19, _⟩ => ⟨S_, .i32⟩
  | .hbm, ⟨20, _⟩ => ⟨S_, .f32⟩
  | .hbm, ⟨21, _⟩ => ⟨S4224x1024, .f32⟩
  | .hbm, ⟨22, _⟩ => ⟨S4224x1024, .bf16⟩
  | .hbm, ⟨23, _⟩ => ⟨S4112x1024, .f32⟩
  | .hbm, ⟨24, _⟩ => ⟨S_, .i32⟩
  | .hbm, ⟨25, _⟩ => ⟨S_, .f32⟩
  | .hbm, ⟨26, _⟩ => ⟨S4224x1024, .f32⟩
  | .hbm, ⟨27, _⟩ => ⟨S4224x1024, .f32⟩
  | .hbm, ⟨28, _⟩ => ⟨S8x1024x256, .bf16⟩
  | .hbm, ⟨29, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S8x1024x256, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .bf16⟩
  | .local _ .vmem, ⟨7, _⟩ => ⟨S384x1024, .bf16⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S8x1024x256, .bf16⟩
  | .local _ .vmem, ⟨13, _⟩ => ⟨S1x1024, .f32⟩
  | .local _ .vmem, ⟨14, _⟩ => ⟨S8x1024x256, .f32⟩
  | _, _ => ⟨S1x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_call2_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_call3_v0 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v144 : BitVec 1 := Scalar.cmpi .eq arg0 c10_i32
  let v145 : BitVec 32 := Scalar.extui v144
  let c0_i32_103 : BitVec 32 := 0#32
  let v146 : BitVec 1 := Scalar.cmpi .ne v145 c0_i32_103
  v146

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormReferenceIdeal.lean ====
abbrev S1x4112x1024 : Shape := ⟨3, ![1, 4112, 1024]⟩
abbrev S1x1024 : Shape := ⟨2, ![1, 1024]⟩
abbrev S1024x2048 : Shape := ⟨2, ![1024, 2048]⟩
abbrev S1024 : Shape := ⟨1, ![1024]⟩
abbrev S_ : Shape := ⟨0, ![]⟩
abbrev S1x4112 : Shape := ⟨2, ![1, 4112]⟩
abbrev S1x4112x1 : Shape := ⟨3, ![1, 4112, 1]⟩
abbrev S1x1x1024 : Shape := ⟨3, ![1, 1, 1024]⟩
abbrev S1x4112x2048 : Shape := ⟨3, ![1, 4112, 2048]⟩
abbrev S2048x1024 : Shape := ⟨2, ![2048, 1024]⟩
abbrev S4112 : Shape := ⟨1, ![4112]⟩
abbrev S4112x1024 : Shape := ⟨2, ![4112, 1024]⟩
abbrev S4224x1024 : Shape := ⟨2, ![4224, 1024]⟩
abbrev S1024x8x256 : Shape := ⟨3, ![1024, 8, 256]⟩
abbrev S8x1024x256 : Shape := ⟨3, ![8, 1024, 256]⟩

abbrev nBuf : Space → Nat
  | .hbm => 69
  | .vmem => 0
  | .smem => 0
  | _ => 0

abbrev bufTy : (tb : Table) → Fin (tcTables nBuf tb) → BufTy
  | .hbm, ⟨0, _⟩ => ⟨S1x4112x1024, .f32⟩
  | .hbm, ⟨1, _⟩ => ⟨S1x1024, .f32⟩
  | .hbm, ⟨2, _⟩ => ⟨S1024x2048, .f32⟩
  | .hbm, ⟨3, _⟩ => ⟨S1x4112x1024, .f32⟩
  | .hbm, ⟨4, _⟩ => ⟨S1x4112x1024, .f32⟩
  | .hbm, ⟨5, _⟩ => ⟨S1x4112x1024, .f32⟩
  | .hbm, ⟨6, _⟩ => ⟨S1024, .f32⟩
  | .hbm, ⟨7, _⟩ => ⟨S1x4112x1024, .f32⟩
  | .hbm, ⟨8, _⟩ => ⟨S_, .f32⟩
  | .hbm, ⟨9, _⟩ => ⟨S1x4112, .f32⟩
  | .hbm, ⟨10, _⟩ => ⟨S1x4112x1, .f32⟩
  | .hbm, ⟨11, _⟩ => ⟨S_, .f32⟩
  | .hbm, ⟨12, _⟩ => ⟨S1x4112x1, .f32⟩
  | .hbm, ⟨13, _⟩ => ⟨S1x4112x1, .f32⟩
  | .hbm, ⟨14, _⟩ => ⟨S_, .f32⟩
  | .hbm, ⟨15, _⟩ => ⟨S1x4112x1, .f32⟩
  | .hbm, ⟨16, _⟩ => ⟨S1x4112x1, .f32⟩
  | .hbm, ⟨17, _⟩ => ⟨S1x4112x1, .f32⟩
  | .hbm, ⟨18, _⟩ => ⟨S1x4112x1, .f32⟩
  | .hbm, ⟨19, _⟩ => ⟨S_, .f32⟩
  | .hbm, ⟨20, _⟩ => ⟨S1x4112x1, .f32⟩
  | .hbm, ⟨21, _⟩ => ⟨S1x4112x1, .f32⟩
  | .hbm, ⟨22, _⟩ => ⟨S1x4112x1024, .f32⟩
  | .hbm, ⟨23, _⟩ => ⟨S1x4112x1024, .f32⟩
  | .hbm, ⟨24, _⟩ => ⟨S1x1x1024, .f32⟩
  | .hbm, ⟨25, _⟩ => ⟨S1x4112x1024, .f32⟩
  | .hbm, ⟨26, _⟩ => ⟨S1x4112x1024, .f32⟩
  | .hbm, ⟨27, _⟩ => ⟨S1x4112x2048, .f32⟩
  | .hbm, ⟨28, _⟩ => ⟨S1x4112x1024, .f32⟩
  | .hbm, ⟨29, _⟩ => ⟨S1x4112x1024, .f32⟩
  | .hbm, ⟨30, _⟩ => ⟨S1x4112x2048, .f32⟩
  | .hbm, ⟨31, _⟩ => ⟨S2048x1024, .f32⟩
  | .hbm, ⟨32, _⟩ => ⟨S1024x2048, .f32⟩
  | .hbm, ⟨33, _⟩ => ⟨S1x4112x1024, .f32⟩
  | .hbm, ⟨34, _⟩ => ⟨S1x4112x1024, .f32⟩
  | .hbm, ⟨35, _⟩ => ⟨S_, .f32⟩
  | .hbm, ⟨36, _⟩ => ⟨S1x1024, .f32⟩
  | .hbm, ⟨37, _⟩ => ⟨S1x1x1024, .f32⟩
  | .hbm, ⟨38, _⟩ => ⟨S1x4112x1024, .f32⟩
  | .hbm, ⟨39, _⟩ => ⟨S1x4112x1024, .f32⟩
  | .hbm, ⟨40, _⟩ => ⟨S_, .f32⟩
  | .hbm, ⟨41, _⟩ => ⟨S1024, .f32⟩
  | .hbm, ⟨42, _⟩ => ⟨S1x4112x1024, .f32⟩
  | .hbm, ⟨43, _⟩ => ⟨S_, .f32⟩
  | .hbm, ⟨44, _⟩ => ⟨S1x4112, .f32⟩
  | .hbm, ⟨45, _⟩ => ⟨S1x4112x1, .f32⟩
  | .hbm, ⟨46, _⟩ => ⟨S1x4112x1024, .f32⟩
  | .hbm, ⟨47, _⟩ => ⟨S1x4112x1024, .f32⟩
  | .hbm, ⟨48, _⟩ => ⟨S1x4112x1024, .f32⟩
  | .hbm, ⟨49, _⟩ => ⟨S1x4112x1, .f32⟩
  | .hbm, ⟨50, _⟩ => ⟨S_, .f32⟩
  | .hbm, ⟨51, _⟩ => ⟨S1x4112x1, .f32⟩
  | .hbm, ⟨52, _⟩ => ⟨S1x4112x1, .f32⟩
  | .hbm, ⟨53, _⟩ => ⟨S_, .f32⟩
  | .hbm, ⟨54, _⟩ => ⟨S4112, .f32⟩
  | .hbm, ⟨55, _⟩ => ⟨S1x4112, .f32⟩
  | .hbm, ⟨56, _⟩ => ⟨S1x4112x1024, .f32⟩
  | .hbm, ⟨57, _⟩ => ⟨S1x4112x1024, .f32⟩
  | .hbm, ⟨58, _⟩ => ⟨S1x4112x1024, .f32⟩
  | .hbm, ⟨59, _⟩ => ⟨S1x4112x1024, .f32⟩
  | .hbm, ⟨60, _⟩ => ⟨S1x4112x1024, .f32⟩
  | .hbm, ⟨61, _⟩ => ⟨S1x1024, .f32⟩
  | .hbm, ⟨62, _⟩ => ⟨S4112x1024, .f32⟩
  | .hbm, ⟨63, _⟩ => ⟨S_, .i32⟩
  | .hbm, ⟨64, _⟩ => ⟨S_, .f32⟩
  | .hbm, ⟨65, _⟩ => ⟨S4224x1024, .f32⟩
  | .hbm, ⟨66, _⟩ => ⟨S1024x8x256, .f32⟩
  | .hbm, ⟨67, _⟩ => ⟨S8x1024x256, .f32⟩
  | .hbm, ⟨68, _⟩ => ⟨S8x1024x256, .bf16⟩
  | _, _ => ⟨S1x4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c : Ref sig .tc := ⟨.hbm, 63, rfl⟩
abbrev main_call0_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== LossKernel.lean ====
abbrev S1x4112x1024 : Shape := ⟨3, ![1, 4112, 1024]⟩
abbrev S1024x1024 : Shape := ⟨2, ![1024, 1024]⟩
abbrev S1024 : Shape := ⟨1, ![1024]⟩
abbrev S1x4096x1024 : Shape := ⟨3, ![1, 4096, 1024]⟩
abbrev S4096x1024 : Shape := ⟨2, ![4096, 1024]⟩
abbrev S_ : Shape := ⟨0, ![]⟩
abbrev S4208x1024 : Shape := ⟨2, ![4208, 1024]⟩
abbrev S4112x1024 : Shape := ⟨2, ![4112, 1024]⟩
abbrev S4224x1024 : Shape := ⟨2, ![4224, 1024]⟩
abbrev S1x1024 : Shape := ⟨2, ![1, 1024]⟩
abbrev S1x1 : Shape := ⟨2, ![1, 1]⟩
abbrev S384x1024 : Shape := ⟨2, ![384, 1024]⟩
abbrev S384 : Shape := ⟨1, ![384]⟩
abbrev S384x1 : Shape := ⟨2, ![384, 1]⟩
abbrev S1 : Shape := ⟨1, ![1]⟩

abbrev nBuf : Space → Nat
  | .hbm => 31
  | .vmem => 20
  | .smem => 0
  | _ => 0

abbrev bufTy : (tb : Table) → Fin (tcTables nBuf tb) → BufTy
  | .hbm, ⟨0, _⟩ => ⟨S1x4112x1024, .f32⟩
  | .hbm, ⟨1, _⟩ => ⟨S1x4112x1024, .f32⟩
  | .hbm, ⟨2, _⟩ => ⟨S1x4112x1024, .f32⟩
  | .hbm, ⟨3, _⟩ => ⟨S1024x1024, .f32⟩
  | .hbm, ⟨4, _⟩ => ⟨S1024, .f32⟩
  | .hbm, ⟨5, _⟩ => ⟨S1x4096x1024, .f32⟩
  | .hbm, ⟨6, _⟩ => ⟨S4096x1024, .f32⟩
  | .hbm, ⟨7, _⟩ => ⟨S_, .i32⟩
  | .hbm, ⟨8, _⟩ => ⟨S_, .f32⟩
  | .hbm, ⟨9, _⟩ => ⟨S4208x1024, .f32⟩
  | .hbm, ⟨10, _⟩ => ⟨S4112x1024, .f32⟩
  | .hbm, ⟨11, _⟩ => ⟨S_, .i32⟩
  | .hbm, ⟨12, _⟩ => ⟨S_, .f32⟩
  | .hbm, ⟨13, _⟩ => ⟨S4224x1024, .f32⟩
  | .hbm, ⟨14, _⟩ => ⟨S4112x1024, .f32⟩
  | .hbm, ⟨15, _⟩ => ⟨S_, .i32⟩
  | .hbm, ⟨16, _⟩ => ⟨S_, .f32⟩
  | .hbm, ⟨17, _⟩ => ⟨S4224x1024, .f32⟩
  | .hbm, ⟨18, _⟩ => ⟨S4224x1024, .bf16⟩
  | .hbm, ⟨19, _⟩ => ⟨S4112x1024, .f32⟩
  | .hbm, ⟨20, _⟩ => ⟨S_, .i32⟩
  | .hbm, ⟨21, _⟩ => ⟨S_, .f32⟩
  | .hbm, ⟨22, _⟩ => ⟨S4224x1024, .f32⟩
  | .hbm, ⟨23, _⟩ => ⟨S1024x1024, .bf16⟩
  | .hbm, ⟨24, _⟩ => ⟨S1x1024, .f32⟩
  | .hbm, ⟨25, _⟩ => ⟨S4224x1024, .f32⟩
  | .hbm, ⟨26, _⟩ => ⟨S1x1, .f32⟩
  | .hbm, ⟨27, _⟩ => ⟨S1x1024, .f32⟩
  | .hbm, ⟨28, _⟩ => ⟨S4224x1024, .f32⟩
  | .hbm, ⟨29, _⟩ => ⟨S4224x1024, .bf16⟩
  | .hbm, ⟨30, _⟩ => ⟨S1024x1024, .bf16⟩
  | .local _ .vmem, ⟨0, _⟩ => ⟨S384x1024, .f32⟩
  | .local _ .vmem, ⟨1, _⟩ => ⟨S384x1024, .f32⟩
  | .local _ .vmem, ⟨2, _⟩ => ⟨S384x1024, .bf16⟩
  | .local _ .vmem, ⟨3, _⟩ => ⟨S384x1024, .bf16⟩
  | .local _ .vmem, ⟨4, _⟩ => ⟨S384x1024, .f32⟩
  | .local _ .vmem, ⟨5, _⟩ => ⟨S384x1024, .f32⟩
  | .local _ .vmem, ⟨6, _⟩ => ⟨S1024x1024, .bf16⟩
  | .local _ .vmem, ⟨7, _⟩ => ⟨S1x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S1x1, .f32⟩
  | .local _ .vmem, ⟨13, _⟩ => ⟨S1x1024, .f32⟩
  | .local _ .vmem, ⟨14, _⟩ => ⟨S384x1024, .f32⟩
  | .local _ .vmem, ⟨15, _⟩ => ⟨S384x1024, .f32⟩
  | .local _ .vmem, ⟨16, _⟩ => ⟨S384x1024, .bf16⟩
  | .local _ .vmem, ⟨17, _⟩ => ⟨S384x1024, .bf16⟩
  | .local _ .vmem, ⟨18, _⟩ => ⟨S1024x1024, .bf16⟩
  | .local _ .vmem, ⟨19, _⟩ => ⟨S1024x1024, .f32⟩
  | _, _ => ⟨S1x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call2_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_call3_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev main_v11_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![11], ![false]⟩

def k0_mult1 (i : grid0.Coords) : BitVec 32 :=
  let arg0 : BitVec 32 := BitVec.ofNat 32 (i 0).val
  let c384_i32 : BitVec 32 := 384#32
  let v0 : BitVec 32 := Scalar.muli arg0 c384_i32
  let c16_i32 : BitVec 32 := 16#32
  let v1 : BitVec 32 := Scalar.subi v0 c16_i32
  let c0_i32 : BitVec 32 := 0#32
  let v2 : BitVec 32 := Scalar.maxsi v1 c0_i32
  v2
def k0_cond2 (i : grid0.Coords) : BitVec 1 :=
  let arg0 : BitVec 32 := BitVec.ofNat 32 (i 0).val
  let c10_i32 : BitVec 32 := 10#32
  let v107 : BitVec 1 := Scalar.cmpi .eq arg0 c10_i32
  let v108 : BitVec 32 := Scalar.extui v107
  let c0_i32_49 : BitVec 32 := 0#32
  let v109 : BitVec 1 := Scalar.cmpi .ne v108 c0_i32_49
  v109

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c384_i32 : BitVec 32 := 384#32
  let v0 : BitVec 32 := Scalar.muli arg0 c384_i32
  let c16_i32 : BitVec 32 := 16#32
  let v1 : BitVec 32 := Scalar.subi v0 c16_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== LossReferenceIdeal.lean ====
abbrev S1x4112x1024 : Shape := ⟨3, ![1, 4112, 1024]⟩
abbrev S1024x1024 : Shape := ⟨2, ![1024, 1024]⟩
abbrev S1024 : Shape := ⟨1, ![1024]⟩
abbrev S1x4096x1024 : Shape := ⟨3, ![1, 4096, 1024]⟩
abbrev S_ : Shape := ⟨0, ![]⟩
abbrev S1x4112 : Shape := ⟨2, ![1, 4112]⟩
abbrev S1x4112x1 : Shape := ⟨3, ![1, 4112, 1]⟩
abbrev S1x1x1024 : Shape := ⟨3, ![1, 1, 1024]⟩
abbrev S1x4096 : Shape := ⟨2, ![1, 4096]⟩
abbrev S1x1024 : Shape := ⟨2, ![1, 1024]⟩
abbrev S4112 : Shape := ⟨1, ![4112]⟩
abbrev S4112x1024 : Shape := ⟨2, ![4112, 1024]⟩
abbrev S4224x1024 : Shape := ⟨2, ![4224, 1024]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S1x4112x1024, .f32⟩
  | .hbm, ⟨1, _⟩ => ⟨S1x4112x1024, .f32⟩
  | .hbm, ⟨2, _⟩ => ⟨S1x4112x1024, .f32⟩
  | .hbm, ⟨3, _⟩ => ⟨S1024x1024, .f32⟩
  | .hbm, ⟨4, _⟩ => ⟨S1024, .f32⟩
  | .hbm, ⟨5, _⟩ => ⟨S1x4096x1024, .f32⟩
  | .hbm, ⟨6, _⟩ => ⟨S1x4112x1024, .f32⟩
  | .hbm, ⟨7, _⟩ => ⟨S1x4112x1024, .f32⟩
  | .hbm, ⟨8, _⟩ => ⟨S_, .f32⟩
  | .hbm, ⟨9, _⟩ => ⟨S1x4112x1024, .f32⟩
  | .hbm, ⟨10, _⟩ => ⟨S1x4112x1024, .f32⟩
  | .hbm, ⟨11, _⟩ => ⟨S_, .f32⟩
  | .hbm, ⟨12, _⟩ => ⟨S1x4112x1024, .f32⟩
  | .hbm, ⟨13, _⟩ => ⟨S1x4112x1024, .f32⟩
  | .hbm, ⟨14, _⟩ => ⟨S_, .f32⟩
  | .hbm, ⟨15, _⟩ => ⟨S1x4112x1024, .f32⟩
  | .hbm, ⟨16, _⟩ => ⟨S1x4112x1024, .f32⟩
  | .hbm, ⟨17, _⟩ => ⟨S1x4112x1024, .f32⟩
  | .hbm, ⟨18, _⟩ => ⟨S1x4112x1024, .f32⟩
  | .hbm, ⟨19, _⟩ => ⟨S1x4112x1024, .f32⟩
  | .hbm, ⟨20, _⟩ => ⟨S1x4112x1024, .f32⟩
  | .hbm, ⟨21, _⟩ => ⟨S1x4112x1024, .f32⟩
  | .hbm, ⟨22, _⟩ => ⟨S1x4112x1024, .f32⟩
  | .hbm, ⟨23, _⟩ => ⟨S_, .f32⟩
  | .hbm, ⟨24, _⟩ => ⟨S1x4112, .f32⟩
  | .hbm, ⟨25, _⟩ => ⟨S1x4112x1, .f32⟩
  | .hbm, ⟨26, _⟩ => ⟨S_, .f32⟩
  | .hbm, ⟨27, _⟩ => ⟨S1x4112x1, .f32⟩
  | .hbm, ⟨28, _⟩ => ⟨S1x4112x1, .f32⟩
  | .hbm, ⟨29, _⟩ => ⟨S_, .f32⟩
  | .hbm, ⟨30, _⟩ => ⟨S1x4112x1, .f32⟩
  | .hbm, ⟨31, _⟩ => ⟨S1x4112x1, .f32⟩
  | .hbm, ⟨32, _⟩ => ⟨S1x4112x1, .f32⟩
  | .hbm, ⟨33, _⟩ => ⟨S1x4112x1, .f32⟩
  | .hbm, ⟨34, _⟩ => ⟨S_, .f32⟩
  | .hbm, ⟨35, _⟩ => ⟨S1x4112x1, .f32⟩
  | .hbm, ⟨36, _⟩ => ⟨S1x4112x1, .f32⟩
  | .hbm, ⟨37, _⟩ => ⟨S1x4112x1024, .f32⟩
  | .hbm, ⟨38, _⟩ => ⟨S1x4112x1024, .f32⟩
  | .hbm, ⟨39, _⟩ => ⟨S1x1x1024, .f32⟩
  | .hbm, ⟨40, _⟩ => ⟨S1x4112x1024, .f32⟩
  | .hbm, ⟨41, _⟩ => ⟨S1x4112x1024, .f32⟩
  | .hbm, ⟨42, _⟩ => ⟨S1x4096x1024, .f32⟩
  | .hbm, ⟨43, _⟩ => ⟨S1x4096x1024, .f32⟩
  | .hbm, ⟨44, _⟩ => ⟨S1x4096x1024, .f32⟩
  | .hbm, ⟨45, _⟩ => ⟨S_, .f32⟩
  | .hbm, ⟨46, _⟩ => ⟨S1x4096x1024, .f32⟩
  | .hbm, ⟨47, _⟩ => ⟨S1x4096x1024, .f32⟩
  | .hbm, ⟨48, _⟩ => ⟨S_, .f32⟩
  | .hbm, ⟨49, _⟩ => ⟨S1x4096, .f32⟩
  | .hbm, ⟨50, _⟩ => ⟨S_, .f32⟩
  | .hbm, ⟨51, _⟩ => ⟨S1x4096, .f32⟩
  | .hbm, ⟨52, _⟩ => ⟨S1x4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1x4096, .f32⟩
  | .hbm, ⟨61, _⟩ => ⟨S_, .f32⟩
  | .hbm, ⟨62, _⟩ => ⟨S1x4096, .f32⟩
  | .hbm, ⟨63, _⟩ => ⟨S1x4096, .f32⟩
  | .hbm, ⟨64, _⟩ => ⟨S1x4096x1024, .f32⟩
  | .hbm, ⟨65, _⟩ => ⟨S1x4096x1024, .f32⟩
  | .hbm, ⟨66, _⟩ => ⟨S_, .f32⟩
  | .hbm, ⟨67, _⟩ => ⟨S1x4112x1024, .f32⟩
  | .hbm, ⟨68, _⟩ => ⟨S1x4112x1024, .f32⟩
  | .hbm, ⟨69, _⟩ => ⟨S_, .f32⟩
  | .hbm, ⟨70, _⟩ => ⟨S1x1024, .f32⟩
  | .hbm, ⟨71, _⟩ => ⟨S1x1x1024, .f32⟩
  | .hbm, ⟨72, _⟩ => ⟨S1x4112x1024, .f32⟩
  | .hbm, ⟨73, _⟩ => ⟨S1x4112x1024, .f32⟩
  | .hbm, ⟨74, _⟩ => ⟨S_, .f32⟩
  | .hbm, ⟨75, _⟩ => ⟨S1024, .f32⟩
  | .hbm, ⟨76, _⟩ => ⟨S1x4112x1024, .f32⟩
  | .hbm, ⟨77, _⟩ => ⟨S_, .f32⟩
  | .hbm, ⟨78, _⟩ => ⟨S1x4112, .f32⟩
  | .hbm, ⟨79, _⟩ => ⟨S1x4112x1, .f32⟩
  | .hbm, ⟨80, _⟩ => ⟨S1x4112x1024, .f32⟩
  | .hbm, ⟨81, _⟩ => ⟨S1x4112x1024, .f32⟩
  | .hbm, ⟨82, _⟩ => ⟨S1x4112x1, .f32⟩
  | .hbm, ⟨83, _⟩ => ⟨S_, .f32⟩
  | .hbm, ⟨84, _⟩ => ⟨S1x4112x1, .f32⟩
  | .hbm, ⟨85, _⟩ => ⟨S1x4112x1, .f32⟩
  | .hbm, ⟨86, _⟩ => ⟨S_, .f32⟩
  | .hbm, ⟨87, _⟩ => ⟨S4112, .f32⟩
  | .hbm, ⟨88, _⟩ => ⟨S1x4112, .f32⟩
  | .hbm, ⟨89, _⟩ => ⟨S1x4112x1024, .f32⟩
  | .hbm, ⟨90, _⟩ => ⟨S1x4112x1024, .f32⟩
  | .hbm, ⟨91, _⟩ => ⟨S1x4112x1024, .f32⟩
  | .hbm, ⟨92, _⟩ => ⟨S1x4112x1024, .f32⟩
  | .hbm, ⟨93, _⟩ => ⟨S1x4112x1024, .f32⟩
  | .hbm, ⟨94, _⟩ => ⟨S1024x1024, .f32⟩
  | .hbm, ⟨95, _⟩ => ⟨S1024x1024, .f32⟩
  | .hbm, ⟨96, _⟩ => ⟨S1x4112x1024, .f32⟩
  | .hbm, ⟨97, _⟩ => ⟨S1x4112x1024, .f32⟩
  | .hbm, ⟨98, _⟩ => ⟨S1x4112x1024, .f32⟩
  | .hbm, ⟨99, _⟩ => ⟨S1x4112x1024, .f32⟩
  | .hbm, ⟨100, _⟩ => ⟨S1x4112x1024, .f32⟩
  | .hbm, ⟨101, _⟩ => ⟨S1x4112x1024, .f32⟩
  | .hbm, ⟨102, _⟩ => ⟨S1x4112x1024, .f32⟩
  | .hbm, ⟨103, _⟩ => ⟨S4112x1024, .f32⟩
  | .hbm, ⟨104, _⟩ => ⟨S_, .i32⟩
  | .hbm, ⟨105, _⟩ => ⟨S_, .f32⟩
  | .hbm, ⟨106, _⟩ => ⟨S4224x1024, .f32⟩
  | .hbm, ⟨107, _⟩ => ⟨S1x1, .f32⟩
  | .hbm, ⟨108, _⟩ => ⟨S1x1024, .f32⟩
  | .hbm, ⟨109, _⟩ => ⟨S4112x1024, .f32⟩
  | .hbm, ⟨110, _⟩ => ⟨S_, .i32⟩
  | .hbm, ⟨111, _⟩ => ⟨S_, .f32⟩
  | .hbm, ⟨112, _⟩ => ⟨S4224x1024, .f32⟩
  | .hbm, ⟨113, _⟩ => ⟨S4112x1024, .f32⟩
  | .hbm, ⟨114, _⟩ => ⟨S_, .i32⟩
  | .hbm, ⟨115, _⟩ => ⟨S_, .f32⟩
  | .hbm, ⟨116, _⟩ => ⟨S4224x1024, .f32⟩
  | .hbm, ⟨117, _⟩ => ⟨S4224x1024, .bf16⟩
  | .hbm, ⟨118, _⟩ => ⟨S1024x1024, .bf16⟩
  | _, _ => ⟨S1x4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v0_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v0_1 : Ref sig .tc := ⟨.hbm, 17, rfl⟩
abbrev main_v0_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_cst_7 : Ref sig .tc := ⟨.hbm, 55, rfl⟩
abbrev main_v29 : Ref sig .tc := ⟨.hbm, 56, rfl⟩
abbrev main_cst_8 : Ref sig .tc := ⟨.hbm, 57, rfl⟩
abbrev main_cst_9 : Ref sig .tc := ⟨.hbm, 58, rfl⟩
abbrev main_v30 : Ref sig .tc := ⟨.hbm, 59, rfl⟩
abbrev main_v31 : Ref sig .tc := ⟨.hbm, 60, rfl⟩
abbrev main_cst_10 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_11 : Ref sig .tc := ⟨.hbm, 66, rfl⟩
abbrev main_v36 : Ref sig .tc := ⟨.hbm, 67, rfl⟩
abbrev main_v37 : Ref sig .tc := ⟨.hbm, 68, rfl⟩
abbrev main_cst_12 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_13 : Ref sig .tc := ⟨.hbm, 74, rfl⟩
abbrev main_v42 : Ref sig .tc := ⟨.hbm, 75, rfl⟩
abbrev main_v43 : Ref sig .tc := ⟨.hbm, 76, rfl⟩
abbrev main_cst_14 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_15 : Ref sig .tc := ⟨.hbm, 83, rfl⟩
abbrev main_v49 : Ref sig .tc := ⟨.hbm, 84, rfl⟩
abbrev main_v50 : Ref sig .tc := ⟨.hbm, 85, rfl⟩
abbrev main_cst_16 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v63 : Ref sig .tc := ⟨.hbm, 102, rfl⟩
abbrev main_v64 : Ref sig .tc := ⟨.hbm, 103, rfl⟩
abbrev main_c : Ref sig .tc := ⟨.hbm, 104, rfl⟩
abbrev main_call2_v0 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_c_17 : Ref sig .tc := ⟨.hbm, 110, rfl⟩
abbrev main_call3_v0 : Ref sig .tc := ⟨.hbm, 111, rfl⟩
abbrev main_v69 : Ref sig .tc := ⟨.hbm, 112, rfl⟩
abbrev main_v70 : Ref sig .tc := ⟨.hbm, 113, rfl⟩
abbrev main_c_18 : Ref sig .tc := ⟨.hbm, 114, rfl⟩
abbrev main_call4_v0 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩

abbrev nD : Nat := 1
abbrev τ : Topo := Topo.v7x

variable {F : FTy → Type} [FloatOps F]
-- ==== AttnKernel.lean ====
abbrev S1x4112x8x128 : Shape := ⟨4, ![1, 4112, 8, 128]⟩
abbrev S1x4112x8x64 : Shape := ⟨4, ![1, 4112, 8, 64]⟩
abbrev S1x4112x64 : Shape := ⟨3, ![1, 4112, 64]⟩
abbrev S_ : Shape := ⟨0, ![]⟩
abbrev S1x4112x1x64 : Shape := ⟨4, ![1, 4112, 1, 64]⟩
abbrev S1x4112x8x256 : Shape := ⟨4, ![1, 4112, 8, 256]⟩
abbrev S1x8x4112x4112 : Shape := ⟨4, ![1, 8, 4112, 4112]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S1x1x4112x4112 : Shape := ⟨4, ![1, 1, 4112, 4112]⟩
abbrev S1x8x4112 : Shape := ⟨3, ![1, 8, 4112]⟩
abbrev S1x8x4112x1 : Shape := ⟨4, ![1, 8, 4112, 1]⟩
abbrev S1x8x128x4112 : Shape := ⟨4, ![1, 8, 128, 4112]⟩
abbrev S8x4112 : Shape := ⟨2, ![8, 4112]⟩
abbrev S8x4224 : Shape := ⟨2, ![8, 4224]⟩
abbrev S8x11x1x384 : Shape := ⟨4, ![8, 11, 1, 384]⟩
abbrev S1x4112x8 : Shape := ⟨3, ![1, 4112, 8]⟩
abbrev S4112x2048 : Shape := ⟨2, ![4112, 2048]⟩
abbrev S4224x2048 : Shape := ⟨2, ![4224, 2048]⟩
abbrev S4112x1024 : Shape := ⟨2, ![4112, 1024]⟩
abbrev S4224x1024 : Shape := ⟨2, ![4224, 1024]⟩
abbrev S4224x512 : Shape := ⟨2, ![4224, 512]⟩
abbrev S384x512 : Shape := ⟨2, ![384, 512]⟩
abbrev S384x256 : Shape := ⟨2, ![384, 256]⟩
abbrev S2x11x1x384 : Shape := ⟨4, ![2, 11, 1, 384]⟩
abbrev S4224x256 : Shape := ⟨2, ![4224, 256]⟩
abbrev S2x4224x256 : Shape := ⟨3, ![2, 4224, 256]⟩
abbrev S2x384x256 : Shape := ⟨3, ![2, 384, 256]⟩
abbrev S2x384x128 : Shape := ⟨3, ![2, 384, 128]⟩
abbrev S2x384x384 : Shape := ⟨3, ![2, 384, 384]⟩
abbrev S384x128 : Shape := ⟨2, ![384, 128]⟩
abbrev S384x384 : Shape := ⟨2, ![384, 384]⟩
abbrev S1x384x384 : Shape := ⟨3, ![1, 384, 384]⟩
abbrev S1x1x1x384 : Shape := ⟨4, ![1, 1, 1, 384]⟩
abbrev S1x384 : Shape := ⟨2, ![1, 384]⟩
abbrev S1x384x128 : Shape := ⟨3, ![1, 384, 128]⟩
abbrev S1x384x256 : Shape := ⟨3, ![1, 384, 256]⟩
abbrev S1x4224x256 : Shape := ⟨3, ![1, 4224, 256]⟩

abbrev nBuf : Space → Nat
  | .hbm => 80
  | .vmem => 25
  | .smem => 0
  | _ => 0

abbrev bufTy : (tb : Table) → Fin (tcTables nBuf tb) → BufTy
  | .hbm, ⟨0, _⟩ => ⟨S1x4112x8x128, .f32⟩
  | .hbm, ⟨1, _⟩ => ⟨S1x4112x8x64, .f32⟩
  | .hbm, ⟨2, _⟩ => ⟨S1x4112x8x128, .f32⟩
  | .hbm, ⟨3, _⟩ => ⟨S1x4112x64, .f32⟩
  | .hbm, ⟨4, _⟩ => ⟨S1x4112x8x128, .f32⟩
  | .hbm, ⟨5, _⟩ => ⟨S1x4112x8x128, .f32⟩
  | .hbm, ⟨6, _⟩ => ⟨S_, .f32⟩
  | .hbm, ⟨7, _⟩ => ⟨S1x4112x8x64, .f32⟩
  | .hbm, ⟨8, _⟩ => ⟨S1x4112x1x64, .f32⟩
  | .hbm, ⟨9, _⟩ => ⟨S1x4112x8x64, .f32⟩
  | .hbm, ⟨10, _⟩ => ⟨S1x4112x8x256, .f32⟩
  | .hbm, ⟨11, _⟩ => ⟨S_, .f32⟩
  | .hbm, ⟨12, _⟩ => ⟨S1x4112x8x256, .f32⟩
  | .hbm, ⟨13, _⟩ => ⟨S1x4112x8x256, .f32⟩
  | .hbm, ⟨14, _⟩ => ⟨S1x4112x8x256, .f32⟩
  | .hbm, ⟨15, _⟩ => ⟨S1x8x4112x4112, .f32⟩
  | .hbm, ⟨16, _⟩ => ⟨S4112, .i32⟩
  | .hbm, ⟨17, _⟩ => ⟨S1x4112, .i32⟩
  | .hbm, ⟨18, _⟩ => ⟨S4112x1, .i32⟩
  | .hbm, ⟨19, _⟩ => ⟨S4112x4112, .i32⟩
  | .hbm, ⟨20, _⟩ => ⟨S4112x4112, .i32⟩
  | .hbm, ⟨21, _⟩ => ⟨S4112x4112, .i1⟩
  | .hbm, ⟨22, _⟩ => ⟨S1x1x4112x4112, .i1⟩
  | .hbm, ⟨23, _⟩ => ⟨S_, .f32⟩
  | .hbm, ⟨24, _⟩ => ⟨S_, .f32⟩
  | .hbm, ⟨25, _⟩ => ⟨S1x8x4112x4112, .i1⟩
  | .hbm, ⟨26, _⟩ => ⟨S1x8x4112x4112, .f32⟩
  | .hbm, ⟨27, _⟩ => ⟨S1x8x4112x4112, .f32⟩
  | .hbm, ⟨28, _⟩ => ⟨S_, .f32⟩
  | .hbm, ⟨29, _⟩ => ⟨S1x8x4112, .f32⟩
  | .hbm, ⟨30, _⟩ => ⟨S1x8x4112x1, .f32⟩
  | .hbm, ⟨31, _⟩ => ⟨S1x8x4112x4112, .f32⟩
  | .hbm, ⟨32, _⟩ => ⟨S1x8x4112x4112, .f32⟩
  | .hbm, ⟨33, _⟩ => ⟨S1x8x4112x4112, .f32⟩
  | .hbm, ⟨34, _⟩ => ⟨S_, .f32⟩
  | .hbm, ⟨35, _⟩ => ⟨S1x8x4112, .f32⟩
  | .hbm, ⟨36, _⟩ => ⟨S1x8x4112x1, .f32⟩
  | .hbm, ⟨37, _⟩ => ⟨S1x8x4112x4112, .f32⟩
  | .hbm, ⟨38, _⟩ => ⟨S1x8x4112x4112, .f32⟩
  | .hbm, ⟨39, _⟩ => ⟨S1x8x128x4112, .f32⟩
  | .hbm, ⟨40, _⟩ => ⟨S1x4112x8x128, .f32⟩
  | .hbm, ⟨41, _⟩ => ⟨S1x8x4112x1, .f32⟩
  | .hbm, ⟨42, _⟩ => ⟨S1x8x4112x1, .f32⟩
  | .hbm, ⟨43, _⟩ => ⟨S8x4112, .f32⟩
  | .hbm, ⟨44, _⟩ => ⟨S_, .i32⟩
  | .hbm, ⟨45, _⟩ => ⟨S_, .f32⟩
  | .hbm, ⟨46, _⟩ => ⟨S8x4224, .f32⟩
  | .hbm, ⟨47, _⟩ => ⟨S8x11x1x384, .f32⟩
  | .hbm, ⟨48, _⟩ => ⟨S1x4112x8x128, .f32⟩
  | .hbm, ⟨49, _⟩ => ⟨S_, .f32⟩
  | .hbm, ⟨50, _⟩ => ⟨S1x4112x8, .f32⟩
  | .hbm, ⟨51, _⟩ => ⟨S1x8x4112, .f32⟩
  | .hbm, ⟨52, _⟩ => ⟨S8x4112, .f32⟩
  | .hbm, ⟨53, _⟩ => ⟨S_, .i32⟩
  | .hbm, ⟨54, _⟩ => ⟨S_, .f32⟩
  | .hbm, ⟨55, _⟩ => ⟨S8x4224, .f32⟩
  | .hbm, ⟨56, _⟩ => ⟨S8x11x1x384, .f32⟩
  | .hbm, ⟨57, _⟩ => ⟨S4112x2048, .f32⟩
  | .hbm, ⟨58, _⟩ => ⟨S_, .i32⟩
  | .hbm, ⟨59, _⟩ => ⟨S_, .f32⟩
  | .hbm, ⟨60, _⟩ => ⟨S4224x2048, .f32⟩
  | .hbm, ⟨61, _⟩ => ⟨S4224x2048, .bf16⟩
  | .hbm, ⟨62, _⟩ => ⟨S4112x2048, .f32⟩
  | .hbm, ⟨63, _⟩ => ⟨S_, .i32⟩
  | .hbm, ⟨64, _⟩ => ⟨S_, .f32⟩
  | .hbm, ⟨65, _⟩ => ⟨S4224x2048, .f32⟩
  | .hbm, ⟨66, _⟩ => ⟨S4224x2048, .bf16⟩
  | .hbm, ⟨67, _⟩ => ⟨S4112x1024, .f32⟩
  | .hbm, ⟨68, _⟩ => ⟨S_, .i32⟩
  | .hbm, ⟨69, _⟩ => ⟨S_, .f32⟩
  | .hbm, ⟨70, _⟩ => ⟨S4224x1024, .f32⟩
  | .hbm, ⟨71, _⟩ => ⟨S4224x1024, .bf16⟩
  | .hbm, ⟨72, _⟩ => ⟨S4112x1024, .f32⟩
  | .hbm, ⟨73, _⟩ => ⟨S_, .i32⟩
  | .hbm, ⟨74, _⟩ => ⟨S_, .f32⟩
  | .hbm, ⟨75, _⟩ => ⟨S4224x1024, .f32⟩
  | .hbm, ⟨76, _⟩ => ⟨S4224x1024, .bf16⟩
  | .hbm, ⟨77, _⟩ => ⟨S4224x2048, .bf16⟩
  | .hbm, ⟨78, _⟩ => ⟨S4224x2048, .bf16⟩
  | .hbm, ⟨79, _⟩ => ⟨S4224x1024, .bf16⟩
  | .local _ .vmem, ⟨0, _⟩ => ⟨S4224x512, .bf16⟩
  | .local _ .vmem, ⟨1, _⟩ => ⟨S4224x512, .bf16⟩
  | .local _ .vmem, ⟨2, _⟩ => ⟨S384x512, .bf16⟩
  | .local _ .vmem, ⟨3, _⟩ => ⟨S384x512, .bf16⟩
  | .local _ .vmem, ⟨4, _⟩ => ⟨S384x256, .bf16⟩
  | .local _ .vmem, ⟨5, _⟩ => ⟨S384x256, .bf16⟩
  | .local _ .vmem, ⟨6, _⟩ => ⟨S2x11x1x384, .f32⟩
  | .local _ .vmem, ⟨7, _⟩ => ⟨S2x11x1x384, .f32⟩
  | .local _ .vmem, ⟨8, _⟩ => ⟨S2x11x1x384, .f32⟩
  | .local _ .vmem, ⟨9, _⟩ => ⟨S2x11x1x384, .f32⟩
  | .local _ .vmem, ⟨10, _⟩ => ⟨S4224x256, .bf16⟩
  | .local _ .vmem, ⟨11, _⟩ => ⟨S4224x256, .bf16⟩
  | .local _ .vmem, ⟨12, _⟩ => ⟨S4224x512, .bf16⟩
  | .local _ .vmem, ⟨13, _⟩ => ⟨S4224x512, .bf16⟩
  | .local _ .vmem, ⟨14, _⟩ => ⟨S384x512, .bf16⟩
  | .local _ .vmem, ⟨15, _⟩ => ⟨S384x512, .bf16⟩
  | .local _ .vmem, ⟨16, _⟩ => ⟨S384x256, .bf16⟩
  | .local _ .vmem, ⟨17, _⟩ => ⟨S384x256, .bf16⟩
  | .local _ .vmem, ⟨18, _⟩ => ⟨S2x4224x256, .f32⟩
  | .local _ .vmem, ⟨19, _⟩ => ⟨S2x384x256, .f32⟩
  | .local _ .vmem, ⟨20, _⟩ => ⟨S2x384x128, .f32⟩
  | .local _ .vmem, ⟨21, _⟩ => ⟨S2x384x384, .f32⟩
  | .local _ .vmem, ⟨22, _⟩ => ⟨S2x384x384, .f32⟩
  | .local _ .vmem, ⟨23, _⟩ => ⟨S2x384x384, .f32⟩
  | .local _ .vmem, ⟨24, _⟩ => ⟨S2x384x384, .f32⟩
  | _, _ => ⟨S1x4112x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c : Ref sig .tc := ⟨.hbm, 44, rfl⟩
abbrev main_call1_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_call2_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_call3_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_call4_v0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_call5_v0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_call6_v0 : Ref sig .tc := ⟨.hbm, 74, rfl⟩
abbrev main_v48 : Ref sig .tc := ⟨.hbm, 75, rfl⟩
abbrev main_v49 : Ref sig .tc := ⟨.hbm, 76, rfl⟩
abbrev main_v50_0 : Ref sig .tc := ⟨.hbm, 77, rfl⟩
abbrev main_v50_1 : Ref sig .tc := ⟨.hbm, 78, rfl⟩
abbrev main_v50_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 11], ![false, false]⟩

def k0_mult1 (i : grid0.Coords) : BitVec 32 :=
  let arg1 : BitVec 32 := BitVec.ofNat 32 (i 1).val
  let c384_i32 : BitVec 32 := 384#32
  let v19 : BitVec 32 := Scalar.muli arg1 c384_i32
  v19
def k0_off1 (i : grid0.Coords) : Fin 2 → Nat :=
  let arg1 : BitVec 32 := BitVec.ofNat 32 (i 1).val
  let c384_i32 : BitVec 32 := 384#32
  let v19 : BitVec 32 := Scalar.muli arg1 c384_i32
  let v20 : BitVec 32 := v19
  let v21 : Index := Scalar.indexCast v20
  let c0_13 : Index := 0#32
  ![v21.toNat, 0]
def k0_off2 (i : grid0.Coords) : Fin 2 → Nat :=
  let arg1 : BitVec 32 := BitVec.ofNat 32 (i 1).val
  let c384_i32 : BitVec 32 := 384#32
  let v19 : BitVec 32 := Scalar.muli arg1 c384_i32
  let v20 : BitVec 32 := v19
  let v28 : Index := Scalar.indexCast v20
  let c0_18 : Index := 0#32
  ![v28.toNat, 0]
def k0_mult2 (i : grid0.Coords) : BitVec 32 :=
  let arg1 : BitVec 32 := BitVec.ofNat 32 (i 1).val
  let c384_i32_23 : BitVec 32 := 384#32
  let v35 : BitVec 32 := Scalar.muli arg1 c384_i32_23
  v35
def k0_off3 (i : grid0.Coords) : Fin 2 → Nat :=
  let arg1 : BitVec 32 := BitVec.ofNat 32 (i 1).val
  let c384_i32_23 : BitVec 32 := 384#32
  let v35 : BitVec 32 := Scalar.muli arg1 c384_i32_23
  let v36 : BitVec 32 := v35
  let v37 : Index := Scalar.indexCast v36
  let c256_24 : Index := 256#32
  ![v37.toNat, 256]
def k0_off4 (i : grid0.Coords) : Fin 2 → Nat :=
  let arg1 : BitVec 32 := BitVec.ofNat 32 (i 1).val
  let c384_i32_23 : BitVec 32 := 384#32
  let v35 : BitVec 32 := Scalar.muli arg1 c384_i32_23
  let v36 : BitVec 32 := v35
  let v44 : Index := Scalar.indexCast v36
  let c128_28 : Index := 128#32
  ![v44.toNat, 128]
@[reducible] def k0_t1_loop (i : grid0.Coords) : Scf.Loop 32 :=
  let c0_i32_39 : BitVec 32 := 0#32
  let c10_i32 : BitVec 32 := 10#32
  let arg1 : BitVec 32 := BitVec.ofNat 32 (i 1).val
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_41 : BitVec 32 := 1#32
  ⟨c0_i32_39, v73, c1_i32_41⟩
def k0_mult3 (i : grid0.Coords) (k0_t1 : Fin (k0_t1_loop i).trips) : BitVec 32 :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_75 : BitVec 32 := 4#32
  let v111 : BitVec 32 := Scalar.muli arg18 c4_i32_75
  let v112 : BitVec 32 := Scalar.addi arg1 v111
  let c0_i32_76 : BitVec 32 := 0#32
  let v113 : BitVec 32 := Scalar.addi v112 c0_i32_76
  let c1_i32_77 : BitVec 32 := 1#32
  let v114 : BitVec 32 := Scalar.addi v113 c1_i32_77
  let c384_i32_78 : BitVec 32 := 384#32
  let v115 : BitVec 32 := Scalar.muli v114 c384_i32_78
  v115
def k0_off5 (i : grid0.Coords) (k0_t1 : Fin (k0_t1_loop i).trips) (c0_i32_76 : BitVec 32) : Fin 2 → Nat :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_75 : BitVec 32 := 4#32
  let v111 : BitVec 32 := Scalar.muli arg18 c4_i32_75
  let v112 : BitVec 32 := Scalar.addi arg1 v111
  let v113 : BitVec 32 := Scalar.addi v112 c0_i32_76
  let c1_i32_77 : BitVec 32 := 1#32
  let v114 : BitVec 32 := Scalar.addi v113 c1_i32_77
  let c384_i32_78 : BitVec 32 := 384#32
  let v115 : BitVec 32 := Scalar.muli v114 c384_i32_78
  let v116 : BitVec 32 := v115
  let v117 : Index := Scalar.indexCast v116
  let c0_79 : Index := 0#32
  ![v117.toNat, 0]
def k0_off6 (i : grid0.Coords) (k0_t1 : Fin (k0_t1_loop i).trips) (c0_i32_76 : BitVec 32) : Fin 2 → Nat :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_75 : BitVec 32 := 4#32
  let v111 : BitVec 32 := Scalar.muli arg18 c4_i32_75
  let v112 : BitVec 32 := Scalar.addi arg1 v111
  let v113 : BitVec 32 := Scalar.addi v112 c0_i32_76
  let c1_i32_77 : BitVec 32 := 1#32
  let v114 : BitVec 32 := Scalar.addi v113 c1_i32_77
  let c384_i32_78 : BitVec 32 := 384#32
  let v115 : BitVec 32 := Scalar.muli v114 c384_i32_78
  let v116 : BitVec 32 := v115
  let v124 : Index := Scalar.indexCast v116
  let c0_84 : Index := 0#32
  ![v124.toNat, 0]
def k0_mult4 (i : grid0.Coords) (k0_t1 : Fin (k0_t1_loop i).trips) : BitVec 32 :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_75 : BitVec 32 := 4#32
  let v111 : BitVec 32 := Scalar.muli arg18 c4_i32_75
  let v112 : BitVec 32 := Scalar.addi arg1 v111
  let c0_i32_76 : BitVec 32 := 0#32
  let v113 : BitVec 32 := Scalar.addi v112 c0_i32_76
  let c1_i32_89 : BitVec 32 := 1#32
  let v131 : BitVec 32 := Scalar.addi v113 c1_i32_89
  let c384_i32_90 : BitVec 32 := 384#32
  let v132 : BitVec 32 := Scalar.muli v131 c384_i32_90
  v132
def k0_off7 (i : grid0.Coords) (k0_t1 : Fin (k0_t1_loop i).trips) (c0_i32_76 : BitVec 32) : Fin 2 → Nat :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_75 : BitVec 32 := 4#32
  let v111 : BitVec 32 := Scalar.muli arg18 c4_i32_75
  let v112 : BitVec 32 := Scalar.addi arg1 v111
  let v113 : BitVec 32 := Scalar.addi v112 c0_i32_76
  let c1_i32_89 : BitVec 32 := 1#32
  let v131 : BitVec 32 := Scalar.addi v113 c1_i32_89
  let c384_i32_90 : BitVec 32 := 384#32
  let v132 : BitVec 32 := Scalar.muli v131 c384_i32_90
  let v133 : BitVec 32 := v132
  let v134 : Index := Scalar.indexCast v133
  let c256_91 : Index := 256#32
  ![v134.toNat, 256]
def k0_off8 (i : grid0.Coords) (k0_t1 : Fin (k0_t1_loop i).trips) (c0_i32_76 : BitVec 32) : Fin 2 → Nat :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_75 : BitVec 32 := 4#32
  let v111 : BitVec 32 := Scalar.muli arg18 c4_i32_75
  let v112 : BitVec 32 := Scalar.addi arg1 v111
  let v113 : BitVec 32 := Scalar.addi v112 c0_i32_76
  let c1_i32_89 : BitVec 32 := 1#32
  let v131 : BitVec 32 := Scalar.addi v113 c1_i32_89
  let c384_i32_90 : BitVec 32 := 384#32
  let v132 : BitVec 32 := Scalar.muli v131 c384_i32_90
  let v133 : BitVec 32 := v132
  let v141 : Index := Scalar.indexCast v133
  let c128_96 : Index := 128#32
  ![v141.toNat, 128]
def k0_mult5 (i : grid0.Coords) (k0_t1 : Fin (k0_t1_loop i).trips) : BitVec 32 :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_75 : BitVec 32 := 4#32
  let v111 : BitVec 32 := Scalar.muli arg18 c4_i32_75
  let v112 : BitVec 32 := Scalar.addi arg1 v111
  let c0_i32_76 : BitVec 32 := 0#32
  let v113 : BitVec 32 := Scalar.addi v112 c0_i32_76
  let c384_i32_101 : BitVec 32 := 384#32
  let v148 : BitVec 32 := Scalar.muli v113 c384_i32_101
  v148
def k0_off9 (i : grid0.Coords) (k0_t1 : Fin (k0_t1_loop i).trips) (c0_i32_76 : BitVec 32) : Fin 2 → Nat :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_75 : BitVec 32 := 4#32
  let v111 : BitVec 32 := Scalar.muli arg18 c4_i32_75
  let v112 : BitVec 32 := Scalar.addi arg1 v111
  let v113 : BitVec 32 := Scalar.addi v112 c0_i32_76
  let c384_i32_101 : BitVec 32 := 384#32
  let v148 : BitVec 32 := Scalar.muli v113 c384_i32_101
  let v149 : BitVec 32 := v148
  let v150 : Index := Scalar.indexCast v149
  let c0_102 : Index := 0#32
  ![v150.toNat, 0]
def k0_off10 (i : grid0.Coords) (k0_t1 : Fin (k0_t1_loop i).trips) (c0_i32_76 : BitVec 32) : Fin 2 → Nat :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_75 : BitVec 32 := 4#32
  let v111 : BitVec 32 := Scalar.muli arg18 c4_i32_75
  let v112 : BitVec 32 := Scalar.addi arg1 v111
  let v113 : BitVec 32 := Scalar.addi v112 c0_i32_76
  let c384_i32_101 : BitVec 32 := 384#32
  let v148 : BitVec 32 := Scalar.muli v113 c384_i32_101
  let v149 : BitVec 32 := v148
  let v153 : Index := Scalar.indexCast v149
  let c0_103 : Index := 0#32
  ![v153.toNat, 0]
def k0_off11 (i : grid0.Coords) (k0_t1 : Fin (k0_t1_loop i).trips) (c0_i32_76 : BitVec 32) : Fin 4 → Nat :=
  let c0_108 : Index := 0#32
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_75 : BitVec 32 := 4#32
  let v111 : BitVec 32 := Scalar.muli arg18 c4_i32_75
  let v112 : BitVec 32 := Scalar.addi arg1 v111
  let v113 : BitVec 32 := Scalar.addi v112 c0_i32_76
  let v166 : Index := Scalar.indexCast v113
  let c0_109 : Index := 0#32
  let c0_110 : Index := 0#32
  ![0, v166.toNat, 0, 0]
def k0_off12 (i : grid0.Coords) (k0_t1 : Fin (k0_t1_loop i).trips) (c0_i32_76 : BitVec 32) : Fin 3 → Nat :=
  let c0_131 : Index := 0#32
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_75 : BitVec 32 := 4#32
  let v111 : BitVec 32 := Scalar.muli arg18 c4_i32_75
  let v112 : BitVec 32 := Scalar.addi arg1 v111
  let v113 : BitVec 32 := Scalar.addi v112 c0_i32_76
  let c384_i32_101 : BitVec 32 := 384#32
  let v148 : BitVec 32 := Scalar.muli v113 c384_i32_101
  let v149 : BitVec 32 := v148
  let v196 : Index := Scalar.indexCast v149
  let c0_132 : Index := 0#32
  ![0, v196.toNat, 0]
def k0_mult6 (i : grid0.Coords) (k0_t1 : Fin (k0_t1_loop i).trips) : BitVec 32 :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_75 : BitVec 32 := 4#32
  let v111 : BitVec 32 := Scalar.muli arg18 c4_i32_75
  let v112 : BitVec 32 := Scalar.addi arg1 v111
  let c0_i32_76 : BitVec 32 := 0#32
  let v113 : BitVec 32 := Scalar.addi v112 c0_i32_76
  let c384_i32_136 : BitVec 32 := 384#32
  let v205 : BitVec 32 := Scalar.muli v113 c384_i32_136
  v205
def k0_off13 (i : grid0.Coords) (k0_t1 : Fin (k0_t1_loop i).trips) (c0_i32_76 : BitVec 32) : Fin 2 → Nat :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_75 : BitVec 32 := 4#32
  let v111 : BitVec 32 := Scalar.muli arg18 c4_i32_75
  let v112 : BitVec 32 := Scalar.addi arg1 v111
  let v113 : BitVec 32 := Scalar.addi v112 c0_i32_76
  let c384_i32_136 : BitVec 32 := 384#32
  let v205 : BitVec 32 := Scalar.muli v113 c384_i32_136
  let v206 : BitVec 32 := v205
  let v207 : Index := Scalar.indexCast v206
  let c256_137 : Index := 256#32
  ![v207.toNat, 256]
def k0_off14 (i : grid0.Coords) (k0_t1 : Fin (k0_t1_loop i).trips) (c0_i32_76 : BitVec 32) : Fin 2 → Nat :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_75 : BitVec 32 := 4#32
  let v111 : BitVec 32 := Scalar.muli arg18 c4_i32_75
  let v112 : BitVec 32 := Scalar.addi arg1 v111
  let v113 : BitVec 32 := Scalar.addi v112 c0_i32_76
  let c384_i32_136 : BitVec 32 := 384#32
  let v205 : BitVec 32 := Scalar.muli v113 c384_i32_136
  let v206 : BitVec 32 := v205
  let v210 : Index := Scalar.indexCast v206
  let c128_138 : Index := 128#32
  ![v210.toNat, 128]
def k0_off15 (i : grid0.Coords) (k0_t1 : Fin (k0_t1_loop i).trips) (c0_i32_76 : BitVec 32) : Fin 4 → Nat :=
  let c1_143 : Index := 1#32
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_75 : BitVec 32 := 4#32
  let v111 : BitVec 32 := Scalar.muli arg18 c4_i32_75
  let v112 : BitVec 32 := Scalar.addi arg1 v111
  let v113 : BitVec 32 := Scalar.addi v112 c0_i32_76
  let v223 : Index := Scalar.indexCast v113
  let c0_144 : Index := 0#32
  let c0_145 : Index := 0#32
  ![1, v223.toNat, 0, 0]
def k0_off16 (i : grid0.Coords) (k0_t1 : Fin (k0_t1_loop i).trips) (c0_i32_76 : BitVec 32) : Fin 3 → Nat :=
  let c1_166 : Index := 1#32
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_75 : BitVec 32 := 4#32
  let v111 : BitVec 32 := Scalar.muli arg18 c4_i32_75
  let v112 : BitVec 32 := Scalar.addi arg1 v111
  let v113 : BitVec 32 := Scalar.addi v112 c0_i32_76
  let c384_i32_136 : BitVec 32 := 384#32
  let v205 : BitVec 32 := Scalar.muli v113 c384_i32_136
  let v206 : BitVec 32 := v205
  let v253 : Index := Scalar.indexCast v206
  let c0_167 : Index := 0#32
  ![1, v253.toNat, 0]
def k0_mult7 (i : grid0.Coords) (k0_t1 : Fin (k0_t1_loop i).trips) : BitVec 32 :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_171 : BitVec 32 := 4#32
  let v262 : BitVec 32 := Scalar.muli arg18 c4_i32_171
  let v263 : BitVec 32 := Scalar.addi arg1 v262
  let c1_i32_172 : BitVec 32 := 1#32
  let v264 : BitVec 32 := Scalar.addi v263 c1_i32_172
  let c1_i32_173 : BitVec 32 := 1#32
  let v265 : BitVec 32 := Scalar.addi v264 c1_i32_173
  let c384_i32_174 : BitVec 32 := 384#32
  let v266 : BitVec 32 := Scalar.muli v265 c384_i32_174
  v266
def k0_mult8 (i : grid0.Coords) (k0_t1 : Fin (k0_t1_loop i).trips) : BitVec 32 :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_171 : BitVec 32 := 4#32
  let v262 : BitVec 32 := Scalar.muli arg18 c4_i32_171
  let v263 : BitVec 32 := Scalar.addi arg1 v262
  let c1_i32_172 : BitVec 32 := 1#32
  let v264 : BitVec 32 := Scalar.addi v263 c1_i32_172
  let c1_i32_185 : BitVec 32 := 1#32
  let v282 : BitVec 32 := Scalar.addi v264 c1_i32_185
  let c384_i32_186 : BitVec 32 := 384#32
  let v283 : BitVec 32 := Scalar.muli v282 c384_i32_186
  v283
def k0_mult9 (i : grid0.Coords) (k0_t1 : Fin (k0_t1_loop i).trips) : BitVec 32 :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_171 : BitVec 32 := 4#32
  let v262 : BitVec 32 := Scalar.muli arg18 c4_i32_171
  let v263 : BitVec 32 := Scalar.addi arg1 v262
  let c1_i32_172 : BitVec 32 := 1#32
  let v264 : BitVec 32 := Scalar.addi v263 c1_i32_172
  let c384_i32_197 : BitVec 32 := 384#32
  let v299 : BitVec 32 := Scalar.muli v264 c384_i32_197
  v299
def k0_mult10 (i : grid0.Coords) (k0_t1 : Fin (k0_t1_loop i).trips) : BitVec 32 :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_171 : BitVec 32 := 4#32
  let v262 : BitVec 32 := Scalar.muli arg18 c4_i32_171
  let v263 : BitVec 32 := Scalar.addi arg1 v262
  let c1_i32_172 : BitVec 32 := 1#32
  let v264 : BitVec 32 := Scalar.addi v263 c1_i32_172
  let c384_i32_232 : BitVec 32 := 384#32
  let v356 : BitVec 32 := Scalar.muli v264 c384_i32_232
  v356
def k0_mult11 (i : grid0.Coords) (k0_t1 : Fin (k0_t1_loop i).trips) : BitVec 32 :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_267 : BitVec 32 := 4#32
  let v413 : BitVec 32 := Scalar.muli arg18 c4_i32_267
  let v414 : BitVec 32 := Scalar.addi arg1 v413
  let c2_i32_268 : BitVec 32 := 2#32
  let v415 : BitVec 32 := Scalar.addi v414 c2_i32_268
  let c1_i32_269 : BitVec 32 := 1#32
  let v416 : BitVec 32 := Scalar.addi v415 c1_i32_269
  let c384_i32_270 : BitVec 32 := 384#32
  let v417 : BitVec 32 := Scalar.muli v416 c384_i32_270
  v417
def k0_mult12 (i : grid0.Coords) (k0_t1 : Fin (k0_t1_loop i).trips) : BitVec 32 :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_267 : BitVec 32 := 4#32
  let v413 : BitVec 32 := Scalar.muli arg18 c4_i32_267
  let v414 : BitVec 32 := Scalar.addi arg1 v413
  let c2_i32_268 : BitVec 32 := 2#32
  let v415 : BitVec 32 := Scalar.addi v414 c2_i32_268
  let c1_i32_281 : BitVec 32 := 1#32
  let v433 : BitVec 32 := Scalar.addi v415 c1_i32_281
  let c384_i32_282 : BitVec 32 := 384#32
  let v434 : BitVec 32 := Scalar.muli v433 c384_i32_282
  v434
def k0_mult13 (i : grid0.Coords) (k0_t1 : Fin (k0_t1_loop i).trips) : BitVec 32 :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_267 : BitVec 32 := 4#32
  let v413 : BitVec 32 := Scalar.muli arg18 c4_i32_267
  let v414 : BitVec 32 := Scalar.addi arg1 v413
  let c2_i32_268 : BitVec 32 := 2#32
  let v415 : BitVec 32 := Scalar.addi v414 c2_i32_268
  let c384_i32_293 : BitVec 32 := 384#32
  let v450 : BitVec 32 := Scalar.muli v415 c384_i32_293
  v450
def k0_mult14 (i : grid0.Coords) (k0_t1 : Fin (k0_t1_loop i).trips) : BitVec 32 :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_267 : BitVec 32 := 4#32
  let v413 : BitVec 32 := Scalar.muli arg18 c4_i32_267
  let v414 : BitVec 32 := Scalar.addi arg1 v413
  let c2_i32_268 : BitVec 32 := 2#32
  let v415 : BitVec 32 := Scalar.addi v414 c2_i32_268
  let c384_i32_328 : BitVec 32 := 384#32
  let v507 : BitVec 32 := Scalar.muli v415 c384_i32_328
  v507
def k0_mult15 (i : grid0.Coords) (k0_t1 : Fin (k0_t1_loop i).trips) : BitVec 32 :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_363 : BitVec 32 := 4#32
  let v564 : BitVec 32 := Scalar.muli arg18 c4_i32_363
  let v565 : BitVec 32 := Scalar.addi arg1 v564
  let c3_i32_364 : BitVec 32 := 3#32
  let v566 : BitVec 32 := Scalar.addi v565 c3_i32_364
  let c1_i32_365 : BitVec 32 := 1#32
  let v567 : BitVec 32 := Scalar.addi v566 c1_i32_365
  let c384_i32_366 : BitVec 32 := 384#32
  let v568 : BitVec 32 := Scalar.muli v567 c384_i32_366
  v568
def k0_mult16 (i : grid0.Coords) (k0_t1 : Fin (k0_t1_loop i).trips) : BitVec 32 :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_363 : BitVec 32 := 4#32
  let v564 : BitVec 32 := Scalar.muli arg18 c4_i32_363
  let v565 : BitVec 32 := Scalar.addi arg1 v564
  let c3_i32_364 : BitVec 32 := 3#32
  let v566 : BitVec 32 := Scalar.addi v565 c3_i32_364
  let c1_i32_377 : BitVec 32 := 1#32
  let v584 : BitVec 32 := Scalar.addi v566 c1_i32_377
  let c384_i32_378 : BitVec 32 := 384#32
  let v585 : BitVec 32 := Scalar.muli v584 c384_i32_378
  v585
def k0_mult17 (i : grid0.Coords) (k0_t1 : Fin (k0_t1_loop i).trips) : BitVec 32 :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_363 : BitVec 32 := 4#32
  let v564 : BitVec 32 := Scalar.muli arg18 c4_i32_363
  let v565 : BitVec 32 := Scalar.addi arg1 v564
  let c3_i32_364 : BitVec 32 := 3#32
  let v566 : BitVec 32 := Scalar.addi v565 c3_i32_364
  let c384_i32_389 : BitVec 32 := 384#32
  let v601 : BitVec 32 := Scalar.muli v566 c384_i32_389
  v601
def k0_mult18 (i : grid0.Coords) (k0_t1 : Fin (k0_t1_loop i).trips) : BitVec 32 :=
  let arg1 : BitVec 32 := BitVec.ofNat 32 (i 1).val
  let c0_i32_39 : BitVec 32 := 0#32
  let c1_i32_41 : BitVec 32 := 1#32
  let arg18 : BitVec 32 := Scf.iv c0_i32_39 c1_i32_41 k0_t1
  let c4_i32_363 : BitVec 32 := 4#32
  let v564 : BitVec 32 := Scalar.muli arg18 c4_i32_363
  let v565 : BitVec 32 := Scalar.addi arg1 v564
  let c3_i32_364 : BitVec 32 := 3#32
  let v566 : BitVec 32 := Scalar.addi v565 c3_i32_364
  let c384_i32_424 : BitVec 32 := 384#32
  let v658 : BitVec 32 := Scalar.muli v566 c384_i32_424
  v658
@[reducible] def k0_t2_loop (i : grid0.Coords) : Scf.Loop 32 :=
  let c0_i32_39 : BitVec 32 := 0#32
  let c10_i32 : BitVec 32 := 10#32
  let arg1 : BitVec 32 := BitVec.ofNat 32 (i 1).val
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let v70 : BitVec 32 := Scalar.addi c0_i32_39 v69
  let c1_i32_42 : BitVec 32 := 1#32
  ⟨v73, v70, c1_i32_42⟩
def k0_mult19 (i : grid0.Coords) (k0_t2 : Fin (k0_t2_loop i).trips) : BitVec 32 :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_75 : BitVec 32 := 4#32
  let v111 : BitVec 32 := Scalar.muli arg18 c4_i32_75
  let v112 : BitVec 32 := Scalar.addi arg1 v111
  let c0_i32_76 : BitVec 32 := 0#32
  let v113 : BitVec 32 := Scalar.addi v112 c0_i32_76
  let c1_i32_77 : BitVec 32 := 1#32
  let v114 : BitVec 32 := Scalar.addi v113 c1_i32_77
  let c384_i32_78 : BitVec 32 := 384#32
  let v115 : BitVec 32 := Scalar.muli v114 c384_i32_78
  v115
def k0_off17 (i : grid0.Coords) (k0_t2 : Fin (k0_t2_loop i).trips) (c0_i32_76 : BitVec 32) : Fin 2 → Nat :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_75 : BitVec 32 := 4#32
  let v111 : BitVec 32 := Scalar.muli arg18 c4_i32_75
  let v112 : BitVec 32 := Scalar.addi arg1 v111
  let v113 : BitVec 32 := Scalar.addi v112 c0_i32_76
  let c1_i32_77 : BitVec 32 := 1#32
  let v114 : BitVec 32 := Scalar.addi v113 c1_i32_77
  let c384_i32_78 : BitVec 32 := 384#32
  let v115 : BitVec 32 := Scalar.muli v114 c384_i32_78
  let v116 : BitVec 32 := v115
  let v117 : Index := Scalar.indexCast v116
  let c0_79 : Index := 0#32
  ![v117.toNat, 0]
def k0_off18 (i : grid0.Coords) (k0_t2 : Fin (k0_t2_loop i).trips) (c0_i32_76 : BitVec 32) : Fin 2 → Nat :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_75 : BitVec 32 := 4#32
  let v111 : BitVec 32 := Scalar.muli arg18 c4_i32_75
  let v112 : BitVec 32 := Scalar.addi arg1 v111
  let v113 : BitVec 32 := Scalar.addi v112 c0_i32_76
  let c1_i32_77 : BitVec 32 := 1#32
  let v114 : BitVec 32 := Scalar.addi v113 c1_i32_77
  let c384_i32_78 : BitVec 32 := 384#32
  let v115 : BitVec 32 := Scalar.muli v114 c384_i32_78
  let v116 : BitVec 32 := v115
  let v124 : Index := Scalar.indexCast v116
  let c0_84 : Index := 0#32
  ![v124.toNat, 0]
def k0_mult20 (i : grid0.Coords) (k0_t2 : Fin (k0_t2_loop i).trips) : BitVec 32 :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_75 : BitVec 32 := 4#32
  let v111 : BitVec 32 := Scalar.muli arg18 c4_i32_75
  let v112 : BitVec 32 := Scalar.addi arg1 v111
  let c0_i32_76 : BitVec 32 := 0#32
  let v113 : BitVec 32 := Scalar.addi v112 c0_i32_76
  let c1_i32_89 : BitVec 32 := 1#32
  let v131 : BitVec 32 := Scalar.addi v113 c1_i32_89
  let c384_i32_90 : BitVec 32 := 384#32
  let v132 : BitVec 32 := Scalar.muli v131 c384_i32_90
  v132
def k0_off19 (i : grid0.Coords) (k0_t2 : Fin (k0_t2_loop i).trips) (c0_i32_76 : BitVec 32) : Fin 2 → Nat :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_75 : BitVec 32 := 4#32
  let v111 : BitVec 32 := Scalar.muli arg18 c4_i32_75
  let v112 : BitVec 32 := Scalar.addi arg1 v111
  let v113 : BitVec 32 := Scalar.addi v112 c0_i32_76
  let c1_i32_89 : BitVec 32 := 1#32
  let v131 : BitVec 32 := Scalar.addi v113 c1_i32_89
  let c384_i32_90 : BitVec 32 := 384#32
  let v132 : BitVec 32 := Scalar.muli v131 c384_i32_90
  let v133 : BitVec 32 := v132
  let v134 : Index := Scalar.indexCast v133
  let c256_91 : Index := 256#32
  ![v134.toNat, 256]
def k0_off20 (i : grid0.Coords) (k0_t2 : Fin (k0_t2_loop i).trips) (c0_i32_76 : BitVec 32) : Fin 2 → Nat :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_75 : BitVec 32 := 4#32
  let v111 : BitVec 32 := Scalar.muli arg18 c4_i32_75
  let v112 : BitVec 32 := Scalar.addi arg1 v111
  let v113 : BitVec 32 := Scalar.addi v112 c0_i32_76
  let c1_i32_89 : BitVec 32 := 1#32
  let v131 : BitVec 32 := Scalar.addi v113 c1_i32_89
  let c384_i32_90 : BitVec 32 := 384#32
  let v132 : BitVec 32 := Scalar.muli v131 c384_i32_90
  let v133 : BitVec 32 := v132
  let v141 : Index := Scalar.indexCast v133
  let c128_96 : Index := 128#32
  ![v141.toNat, 128]
def k0_mult21 (i : grid0.Coords) (k0_t2 : Fin (k0_t2_loop i).trips) : BitVec 32 :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_75 : BitVec 32 := 4#32
  let v111 : BitVec 32 := Scalar.muli arg18 c4_i32_75
  let v112 : BitVec 32 := Scalar.addi arg1 v111
  let c0_i32_76 : BitVec 32 := 0#32
  let v113 : BitVec 32 := Scalar.addi v112 c0_i32_76
  let c384_i32_101 : BitVec 32 := 384#32
  let v148 : BitVec 32 := Scalar.muli v113 c384_i32_101
  v148
def k0_off21 (i : grid0.Coords) (k0_t2 : Fin (k0_t2_loop i).trips) (c0_i32_76 : BitVec 32) : Fin 2 → Nat :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_75 : BitVec 32 := 4#32
  let v111 : BitVec 32 := Scalar.muli arg18 c4_i32_75
  let v112 : BitVec 32 := Scalar.addi arg1 v111
  let v113 : BitVec 32 := Scalar.addi v112 c0_i32_76
  let c384_i32_101 : BitVec 32 := 384#32
  let v148 : BitVec 32 := Scalar.muli v113 c384_i32_101
  let v149 : BitVec 32 := v148
  let v150 : Index := Scalar.indexCast v149
  let c0_102 : Index := 0#32
  ![v150.toNat, 0]
def k0_off22 (i : grid0.Coords) (k0_t2 : Fin (k0_t2_loop i).trips) (c0_i32_76 : BitVec 32) : Fin 2 → Nat :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_75 : BitVec 32 := 4#32
  let v111 : BitVec 32 := Scalar.muli arg18 c4_i32_75
  let v112 : BitVec 32 := Scalar.addi arg1 v111
  let v113 : BitVec 32 := Scalar.addi v112 c0_i32_76
  let c384_i32_101 : BitVec 32 := 384#32
  let v148 : BitVec 32 := Scalar.muli v113 c384_i32_101
  let v149 : BitVec 32 := v148
  let v153 : Index := Scalar.indexCast v149
  let c0_103 : Index := 0#32
  ![v153.toNat, 0]
def k0_off23 (i : grid0.Coords) (k0_t2 : Fin (k0_t2_loop i).trips) (c0_i32_76 : BitVec 32) : Fin 4 → Nat :=
  let c0_108 : Index := 0#32
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_75 : BitVec 32 := 4#32
  let v111 : BitVec 32 := Scalar.muli arg18 c4_i32_75
  let v112 : BitVec 32 := Scalar.addi arg1 v111
  let v113 : BitVec 32 := Scalar.addi v112 c0_i32_76
  let v166 : Index := Scalar.indexCast v113
  let c0_109 : Index := 0#32
  let c0_110 : Index := 0#32
  ![0, v166.toNat, 0, 0]
def k0_off24 (i : grid0.Coords) (k0_t2 : Fin (k0_t2_loop i).trips) (c0_i32_76 : BitVec 32) : Fin 3 → Nat :=
  let c0_131 : Index := 0#32
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_75 : BitVec 32 := 4#32
  let v111 : BitVec 32 := Scalar.muli arg18 c4_i32_75
  let v112 : BitVec 32 := Scalar.addi arg1 v111
  let v113 : BitVec 32 := Scalar.addi v112 c0_i32_76
  let c384_i32_101 : BitVec 32 := 384#32
  let v148 : BitVec 32 := Scalar.muli v113 c384_i32_101
  let v149 : BitVec 32 := v148
  let v196 : Index := Scalar.indexCast v149
  let c0_132 : Index := 0#32
  ![0, v196.toNat, 0]
def k0_mult22 (i : grid0.Coords) (k0_t2 : Fin (k0_t2_loop i).trips) : BitVec 32 :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_75 : BitVec 32 := 4#32
  let v111 : BitVec 32 := Scalar.muli arg18 c4_i32_75
  let v112 : BitVec 32 := Scalar.addi arg1 v111
  let c0_i32_76 : BitVec 32 := 0#32
  let v113 : BitVec 32 := Scalar.addi v112 c0_i32_76
  let c384_i32_136 : BitVec 32 := 384#32
  let v205 : BitVec 32 := Scalar.muli v113 c384_i32_136
  v205
def k0_off25 (i : grid0.Coords) (k0_t2 : Fin (k0_t2_loop i).trips) (c0_i32_76 : BitVec 32) : Fin 2 → Nat :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_75 : BitVec 32 := 4#32
  let v111 : BitVec 32 := Scalar.muli arg18 c4_i32_75
  let v112 : BitVec 32 := Scalar.addi arg1 v111
  let v113 : BitVec 32 := Scalar.addi v112 c0_i32_76
  let c384_i32_136 : BitVec 32 := 384#32
  let v205 : BitVec 32 := Scalar.muli v113 c384_i32_136
  let v206 : BitVec 32 := v205
  let v207 : Index := Scalar.indexCast v206
  let c256_137 : Index := 256#32
  ![v207.toNat, 256]
def k0_off26 (i : grid0.Coords) (k0_t2 : Fin (k0_t2_loop i).trips) (c0_i32_76 : BitVec 32) : Fin 2 → Nat :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_75 : BitVec 32 := 4#32
  let v111 : BitVec 32 := Scalar.muli arg18 c4_i32_75
  let v112 : BitVec 32 := Scalar.addi arg1 v111
  let v113 : BitVec 32 := Scalar.addi v112 c0_i32_76
  let c384_i32_136 : BitVec 32 := 384#32
  let v205 : BitVec 32 := Scalar.muli v113 c384_i32_136
  let v206 : BitVec 32 := v205
  let v210 : Index := Scalar.indexCast v206
  let c128_138 : Index := 128#32
  ![v210.toNat, 128]
def k0_off27 (i : grid0.Coords) (k0_t2 : Fin (k0_t2_loop i).trips) (c0_i32_76 : BitVec 32) : Fin 4 → Nat :=
  let c1_143 : Index := 1#32
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_75 : BitVec 32 := 4#32
  let v111 : BitVec 32 := Scalar.muli arg18 c4_i32_75
  let v112 : BitVec 32 := Scalar.addi arg1 v111
  let v113 : BitVec 32 := Scalar.addi v112 c0_i32_76
  let v223 : Index := Scalar.indexCast v113
  let c0_144 : Index := 0#32
  let c0_145 : Index := 0#32
  ![1, v223.toNat, 0, 0]
def k0_off28 (i : grid0.Coords) (k0_t2 : Fin (k0_t2_loop i).trips) (c0_i32_76 : BitVec 32) : Fin 3 → Nat :=
  let c1_166 : Index := 1#32
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_75 : BitVec 32 := 4#32
  let v111 : BitVec 32 := Scalar.muli arg18 c4_i32_75
  let v112 : BitVec 32 := Scalar.addi arg1 v111
  let v113 : BitVec 32 := Scalar.addi v112 c0_i32_76
  let c384_i32_136 : BitVec 32 := 384#32
  let v205 : BitVec 32 := Scalar.muli v113 c384_i32_136
  let v206 : BitVec 32 := v205
  let v253 : Index := Scalar.indexCast v206
  let c0_167 : Index := 0#32
  ![1, v253.toNat, 0]
def k0_mult23 (i : grid0.Coords) (k0_t2 : Fin (k0_t2_loop i).trips) : BitVec 32 :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_171 : BitVec 32 := 4#32
  let v262 : BitVec 32 := Scalar.muli arg18 c4_i32_171
  let v263 : BitVec 32 := Scalar.addi arg1 v262
  let c1_i32_172 : BitVec 32 := 1#32
  let v264 : BitVec 32 := Scalar.addi v263 c1_i32_172
  let c1_i32_173 : BitVec 32 := 1#32
  let v265 : BitVec 32 := Scalar.addi v264 c1_i32_173
  let c384_i32_174 : BitVec 32 := 384#32
  let v266 : BitVec 32 := Scalar.muli v265 c384_i32_174
  v266
def k0_mult24 (i : grid0.Coords) (k0_t2 : Fin (k0_t2_loop i).trips) : BitVec 32 :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_171 : BitVec 32 := 4#32
  let v262 : BitVec 32 := Scalar.muli arg18 c4_i32_171
  let v263 : BitVec 32 := Scalar.addi arg1 v262
  let c1_i32_172 : BitVec 32 := 1#32
  let v264 : BitVec 32 := Scalar.addi v263 c1_i32_172
  let c1_i32_185 : BitVec 32 := 1#32
  let v282 : BitVec 32 := Scalar.addi v264 c1_i32_185
  let c384_i32_186 : BitVec 32 := 384#32
  let v283 : BitVec 32 := Scalar.muli v282 c384_i32_186
  v283
def k0_mult25 (i : grid0.Coords) (k0_t2 : Fin (k0_t2_loop i).trips) : BitVec 32 :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_171 : BitVec 32 := 4#32
  let v262 : BitVec 32 := Scalar.muli arg18 c4_i32_171
  let v263 : BitVec 32 := Scalar.addi arg1 v262
  let c1_i32_172 : BitVec 32 := 1#32
  let v264 : BitVec 32 := Scalar.addi v263 c1_i32_172
  let c384_i32_197 : BitVec 32 := 384#32
  let v299 : BitVec 32 := Scalar.muli v264 c384_i32_197
  v299
def k0_mult26 (i : grid0.Coords) (k0_t2 : Fin (k0_t2_loop i).trips) : BitVec 32 :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_171 : BitVec 32 := 4#32
  let v262 : BitVec 32 := Scalar.muli arg18 c4_i32_171
  let v263 : BitVec 32 := Scalar.addi arg1 v262
  let c1_i32_172 : BitVec 32 := 1#32
  let v264 : BitVec 32 := Scalar.addi v263 c1_i32_172
  let c384_i32_232 : BitVec 32 := 384#32
  let v356 : BitVec 32 := Scalar.muli v264 c384_i32_232
  v356
def k0_mult27 (i : grid0.Coords) (k0_t2 : Fin (k0_t2_loop i).trips) : BitVec 32 :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_267 : BitVec 32 := 4#32
  let v413 : BitVec 32 := Scalar.muli arg18 c4_i32_267
  let v414 : BitVec 32 := Scalar.addi arg1 v413
  let c2_i32_268 : BitVec 32 := 2#32
  let v415 : BitVec 32 := Scalar.addi v414 c2_i32_268
  let c1_i32_269 : BitVec 32 := 1#32
  let v416 : BitVec 32 := Scalar.addi v415 c1_i32_269
  let c384_i32_270 : BitVec 32 := 384#32
  let v417 : BitVec 32 := Scalar.muli v416 c384_i32_270
  v417
def k0_mult28 (i : grid0.Coords) (k0_t2 : Fin (k0_t2_loop i).trips) : BitVec 32 :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_267 : BitVec 32 := 4#32
  let v413 : BitVec 32 := Scalar.muli arg18 c4_i32_267
  let v414 : BitVec 32 := Scalar.addi arg1 v413
  let c2_i32_268 : BitVec 32 := 2#32
  let v415 : BitVec 32 := Scalar.addi v414 c2_i32_268
  let c1_i32_281 : BitVec 32 := 1#32
  let v433 : BitVec 32 := Scalar.addi v415 c1_i32_281
  let c384_i32_282 : BitVec 32 := 384#32
  let v434 : BitVec 32 := Scalar.muli v433 c384_i32_282
  v434
def k0_mult29 (i : grid0.Coords) (k0_t2 : Fin (k0_t2_loop i).trips) : BitVec 32 :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_267 : BitVec 32 := 4#32
  let v413 : BitVec 32 := Scalar.muli arg18 c4_i32_267
  let v414 : BitVec 32 := Scalar.addi arg1 v413
  let c2_i32_268 : BitVec 32 := 2#32
  let v415 : BitVec 32 := Scalar.addi v414 c2_i32_268
  let c384_i32_293 : BitVec 32 := 384#32
  let v450 : BitVec 32 := Scalar.muli v415 c384_i32_293
  v450
def k0_mult30 (i : grid0.Coords) (k0_t2 : Fin (k0_t2_loop i).trips) : BitVec 32 :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_267 : BitVec 32 := 4#32
  let v413 : BitVec 32 := Scalar.muli arg18 c4_i32_267
  let v414 : BitVec 32 := Scalar.addi arg1 v413
  let c2_i32_268 : BitVec 32 := 2#32
  let v415 : BitVec 32 := Scalar.addi v414 c2_i32_268
  let c384_i32_328 : BitVec 32 := 384#32
  let v507 : BitVec 32 := Scalar.muli v415 c384_i32_328
  v507
def k0_mult31 (i : grid0.Coords) (k0_t2 : Fin (k0_t2_loop i).trips) : BitVec 32 :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_363 : BitVec 32 := 4#32
  let v564 : BitVec 32 := Scalar.muli arg18 c4_i32_363
  let v565 : BitVec 32 := Scalar.addi arg1 v564
  let c3_i32_364 : BitVec 32 := 3#32
  let v566 : BitVec 32 := Scalar.addi v565 c3_i32_364
  let c1_i32_365 : BitVec 32 := 1#32
  let v567 : BitVec 32 := Scalar.addi v566 c1_i32_365
  let c384_i32_366 : BitVec 32 := 384#32
  let v568 : BitVec 32 := Scalar.muli v567 c384_i32_366
  v568
def k0_mult32 (i : grid0.Coords) (k0_t2 : Fin (k0_t2_loop i).trips) : BitVec 32 :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_363 : BitVec 32 := 4#32
  let v564 : BitVec 32 := Scalar.muli arg18 c4_i32_363
  let v565 : BitVec 32 := Scalar.addi arg1 v564
  let c3_i32_364 : BitVec 32 := 3#32
  let v566 : BitVec 32 := Scalar.addi v565 c3_i32_364
  let c1_i32_377 : BitVec 32 := 1#32
  let v584 : BitVec 32 := Scalar.addi v566 c1_i32_377
  let c384_i32_378 : BitVec 32 := 384#32
  let v585 : BitVec 32 := Scalar.muli v584 c384_i32_378
  v585
def k0_mult33 (i : grid0.Coords) (k0_t2 : Fin (k0_t2_loop i).trips) : BitVec 32 :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_363 : BitVec 32 := 4#32
  let v564 : BitVec 32 := Scalar.muli arg18 c4_i32_363
  let v565 : BitVec 32 := Scalar.addi arg1 v564
  let c3_i32_364 : BitVec 32 := 3#32
  let v566 : BitVec 32 := Scalar.addi v565 c3_i32_364
  let c384_i32_389 : BitVec 32 := 384#32
  let v601 : BitVec 32 := Scalar.muli v566 c384_i32_389
  v601
def k0_mult34 (i : grid0.Coords) (k0_t2 : Fin (k0_t2_loop i).trips) : BitVec 32 :=
  let arg1 : BitVec 32 := BitVec.ofNat 32 (i 1).val
  let c0_i32_39 : BitVec 32 := 0#32
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let v69 : BitVec 32 := Scalar.subi v68 c0_i32_39
  let c1_i32_40 : BitVec 32 := 1#32
  let v71 : BitVec 32 := Scalar.divsi v69 c1_i32_40
  let v72 : BitVec 32 := Scalar.muli v71 c1_i32_40
  let v73 : BitVec 32 := Scalar.addi c0_i32_39 v72
  let c1_i32_42 : BitVec 32 := 1#32
  let arg18 : BitVec 32 := Scf.iv v73 c1_i32_42 k0_t2
  let c4_i32_363 : BitVec 32 := 4#32
  let v564 : BitVec 32 := Scalar.muli arg18 c4_i32_363
  let v565 : BitVec 32 := Scalar.addi arg1 v564
  let c3_i32_364 : BitVec 32 := 3#32
  let v566 : BitVec 32 := Scalar.addi v565 c3_i32_364
  let c384_i32_424 : BitVec 32 := 384#32
  let v658 : BitVec 32 := Scalar.muli v566 c384_i32_424
  v658
def k0_cond2 (i : grid0.Coords) : BitVec 1 :=
  let c11_i32 : BitVec 32 := 11#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v76 : BitVec 32 := Scalar.subi c11_i32 v75
  let c1_i32_44 : BitVec 32 := 1#32
  let v77 : BitVec 1 := Scalar.cmpi .eq v76 c1_i32_44
  let v78 : BitVec 32 := Scalar.extui v77
  let c0_i32_45 : BitVec 32 := 0#32
  let v79 : BitVec 1 := Scalar.cmpi .ne v78 c0_i32_45
  v79

def k0_mult35 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c384_i32_76 : BitVec 32 := 384#32
  let v112 : BitVec 32 := Scalar.muli v111 c384_i32_76
  v112
def k0_off29 (i : grid0.Coords) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c384_i32_76 : BitVec 32 := 384#32
  let v112 : BitVec 32 := Scalar.muli v111 c384_i32_76
  let v113 : BitVec 32 := v112
  let v114 : Index := Scalar.indexCast v113
  let c0_77 : Index := 0#32
  ![v114.toNat, 0]
def k0_off30 (i : grid0.Coords) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c384_i32_76 : BitVec 32 := 384#32
  let v112 : BitVec 32 := Scalar.muli v111 c384_i32_76
  let v113 : BitVec 32 := v112
  let v117 : Index := Scalar.indexCast v113
  let c0_78 : Index := 0#32
  ![v117.toNat, 0]
def k0_off31 (i : grid0.Coords) : Fin 4 → Nat :=
  let c0_83 : Index := 0#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let v130 : Index := Scalar.indexCast v111
  let c0_84 : Index := 0#32
  let c0_85 : Index := 0#32
  ![0, v130.toNat, 0, 0]
def k0_off32 (i : grid0.Coords) : Fin 3 → Nat :=
  let c0_106 : Index := 0#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c384_i32_76 : BitVec 32 := 384#32
  let v112 : BitVec 32 := Scalar.muli v111 c384_i32_76
  let v113 : BitVec 32 := v112
  let v160 : Index := Scalar.indexCast v113
  let c0_107 : Index := 0#32
  ![0, v160.toNat, 0]
def k0_mult36 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c384_i32_111 : BitVec 32 := 384#32
  let v169 : BitVec 32 := Scalar.muli v111 c384_i32_111
  v169
def k0_off33 (i : grid0.Coords) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c384_i32_111 : BitVec 32 := 384#32
  let v169 : BitVec 32 := Scalar.muli v111 c384_i32_111
  let v170 : BitVec 32 := v169
  let v171 : Index := Scalar.indexCast v170
  let c256_112 : Index := 256#32
  ![v171.toNat, 256]
def k0_off34 (i : grid0.Coords) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c384_i32_111 : BitVec 32 := 384#32
  let v169 : BitVec 32 := Scalar.muli v111 c384_i32_111
  let v170 : BitVec 32 := v169
  let v174 : Index := Scalar.indexCast v170
  let c128_113 : Index := 128#32
  ![v174.toNat, 128]
def k0_off35 (i : grid0.Coords) : Fin 4 → Nat :=
  let c1_118 : Index := 1#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let v187 : Index := Scalar.indexCast v111
  let c0_119 : Index := 0#32
  let c0_120 : Index := 0#32
  ![1, v187.toNat, 0, 0]
def k0_off36 (i : grid0.Coords) : Fin 3 → Nat :=
  let c1_141 : Index := 1#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c384_i32_111 : BitVec 32 := 384#32
  let v169 : BitVec 32 := Scalar.muli v111 c384_i32_111
  let v170 : BitVec 32 := v169
  let v217 : Index := Scalar.indexCast v170
  let c0_142 : Index := 0#32
  ![1, v217.toNat, 0]
def k0_cond3 (i : grid0.Coords) : BitVec 1 :=
  let c11_i32_46 : BitVec 32 := 11#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v80 : BitVec 32 := Scalar.subi c11_i32_46 v75
  let c2_i32 : BitVec 32 := 2#32
  let v81 : BitVec 1 := Scalar.cmpi .eq v80 c2_i32
  let v82 : BitVec 32 := Scalar.extui v81
  let c0_i32_47 : BitVec 32 := 0#32
  let v83 : BitVec 1 := Scalar.cmpi .ne v82 c0_i32_47
  v83

def k0_mult37 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c1_i32_76 : BitVec 32 := 1#32
  let v112 : BitVec 32 := Scalar.addi v111 c1_i32_76
  let c384_i32_77 : BitVec 32 := 384#32
  let v113 : BitVec 32 := Scalar.muli v112 c384_i32_77
  v113
def k0_off37 (i : grid0.Coords) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c1_i32_76 : BitVec 32 := 1#32
  let v112 : BitVec 32 := Scalar.addi v111 c1_i32_76
  let c384_i32_77 : BitVec 32 := 384#32
  let v113 : BitVec 32 := Scalar.muli v112 c384_i32_77
  let v114 : BitVec 32 := v113
  let v115 : Index := Scalar.indexCast v114
  let c0_78 : Index := 0#32
  ![v115.toNat, 0]
def k0_off38 (i : grid0.Coords) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c1_i32_76 : BitVec 32 := 1#32
  let v112 : BitVec 32 := Scalar.addi v111 c1_i32_76
  let c384_i32_77 : BitVec 32 := 384#32
  let v113 : BitVec 32 := Scalar.muli v112 c384_i32_77
  let v114 : BitVec 32 := v113
  let v122 : Index := Scalar.indexCast v114
  let c0_83 : Index := 0#32
  ![v122.toNat, 0]
def k0_mult38 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c1_i32_88 : BitVec 32 := 1#32
  let v129 : BitVec 32 := Scalar.addi v111 c1_i32_88
  let c384_i32_89 : BitVec 32 := 384#32
  let v130 : BitVec 32 := Scalar.muli v129 c384_i32_89
  v130
def k0_off39 (i : grid0.Coords) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c1_i32_88 : BitVec 32 := 1#32
  let v129 : BitVec 32 := Scalar.addi v111 c1_i32_88
  let c384_i32_89 : BitVec 32 := 384#32
  let v130 : BitVec 32 := Scalar.muli v129 c384_i32_89
  let v131 : BitVec 32 := v130
  let v132 : Index := Scalar.indexCast v131
  let c256_90 : Index := 256#32
  ![v132.toNat, 256]
def k0_off40 (i : grid0.Coords) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c1_i32_88 : BitVec 32 := 1#32
  let v129 : BitVec 32 := Scalar.addi v111 c1_i32_88
  let c384_i32_89 : BitVec 32 := 384#32
  let v130 : BitVec 32 := Scalar.muli v129 c384_i32_89
  let v131 : BitVec 32 := v130
  let v139 : Index := Scalar.indexCast v131
  let c128_95 : Index := 128#32
  ![v139.toNat, 128]
def k0_mult39 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c384_i32_100 : BitVec 32 := 384#32
  let v146 : BitVec 32 := Scalar.muli v111 c384_i32_100
  v146
def k0_off41 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_100 : BitVec 32 := 384#32
  let v146 : BitVec 32 := Scalar.muli v111 c384_i32_100
  let v147 : BitVec 32 := v146
  let v148 : Index := Scalar.indexCast v147
  let c0_101 : Index := 0#32
  ![v148.toNat, 0]
def k0_off42 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_100 : BitVec 32 := 384#32
  let v146 : BitVec 32 := Scalar.muli v111 c384_i32_100
  let v147 : BitVec 32 := v146
  let v151 : Index := Scalar.indexCast v147
  let c0_102 : Index := 0#32
  ![v151.toNat, 0]
def k0_off43 (i : grid0.Coords) (c0_i32_75 : BitVec 32) : Fin 4 → Nat :=
  let c0_107 : Index := 0#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let v164 : Index := Scalar.indexCast v111
  let c0_108 : Index := 0#32
  let c0_109 : Index := 0#32
  ![0, v164.toNat, 0, 0]
def k0_off44 (i : grid0.Coords) (c0_i32_75 : BitVec 32) : Fin 3 → Nat :=
  let c0_130 : Index := 0#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_100 : BitVec 32 := 384#32
  let v146 : BitVec 32 := Scalar.muli v111 c384_i32_100
  let v147 : BitVec 32 := v146
  let v194 : Index := Scalar.indexCast v147
  let c0_131 : Index := 0#32
  ![0, v194.toNat, 0]
def k0_mult40 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c384_i32_135 : BitVec 32 := 384#32
  let v203 : BitVec 32 := Scalar.muli v111 c384_i32_135
  v203
def k0_off45 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_135 : BitVec 32 := 384#32
  let v203 : BitVec 32 := Scalar.muli v111 c384_i32_135
  let v204 : BitVec 32 := v203
  let v205 : Index := Scalar.indexCast v204
  let c256_136 : Index := 256#32
  ![v205.toNat, 256]
def k0_off46 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_135 : BitVec 32 := 384#32
  let v203 : BitVec 32 := Scalar.muli v111 c384_i32_135
  let v204 : BitVec 32 := v203
  let v208 : Index := Scalar.indexCast v204
  let c128_137 : Index := 128#32
  ![v208.toNat, 128]
def k0_off47 (i : grid0.Coords) (c0_i32_75 : BitVec 32) : Fin 4 → Nat :=
  let c1_142 : Index := 1#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let v221 : Index := Scalar.indexCast v111
  let c0_143 : Index := 0#32
  let c0_144 : Index := 0#32
  ![1, v221.toNat, 0, 0]
def k0_off48 (i : grid0.Coords) (c0_i32_75 : BitVec 32) : Fin 3 → Nat :=
  let c1_165 : Index := 1#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_135 : BitVec 32 := 384#32
  let v203 : BitVec 32 := Scalar.muli v111 c384_i32_135
  let v204 : BitVec 32 := v203
  let v251 : Index := Scalar.indexCast v204
  let c0_166 : Index := 0#32
  ![1, v251.toNat, 0]
def k0_mult41 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c1_i32_170 : BitVec 32 := 1#32
  let v260 : BitVec 32 := Scalar.addi v75 c1_i32_170
  let c384_i32_171 : BitVec 32 := 384#32
  let v261 : BitVec 32 := Scalar.muli v260 c384_i32_171
  v261
def k0_mult42 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c1_i32_170 : BitVec 32 := 1#32
  let v260 : BitVec 32 := Scalar.addi v75 c1_i32_170
  let c384_i32_206 : BitVec 32 := 384#32
  let v318 : BitVec 32 := Scalar.muli v260 c384_i32_206
  v318
def k0_cond4 (i : grid0.Coords) : BitVec 1 :=
  let c11_i32_48 : BitVec 32 := 11#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v84 : BitVec 32 := Scalar.subi c11_i32_48 v75
  let c3_i32 : BitVec 32 := 3#32
  let v85 : BitVec 1 := Scalar.cmpi .eq v84 c3_i32
  let v86 : BitVec 32 := Scalar.extui v85
  let c0_i32_49 : BitVec 32 := 0#32
  let v87 : BitVec 1 := Scalar.cmpi .ne v86 c0_i32_49
  v87

def k0_mult43 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c1_i32_76 : BitVec 32 := 1#32
  let v112 : BitVec 32 := Scalar.addi v111 c1_i32_76
  let c384_i32_77 : BitVec 32 := 384#32
  let v113 : BitVec 32 := Scalar.muli v112 c384_i32_77
  v113
def k0_off49 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c1_i32_76 : BitVec 32 := 1#32
  let v112 : BitVec 32 := Scalar.addi v111 c1_i32_76
  let c384_i32_77 : BitVec 32 := 384#32
  let v113 : BitVec 32 := Scalar.muli v112 c384_i32_77
  let v114 : BitVec 32 := v113
  let v115 : Index := Scalar.indexCast v114
  let c0_78 : Index := 0#32
  ![v115.toNat, 0]
def k0_off50 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c1_i32_76 : BitVec 32 := 1#32
  let v112 : BitVec 32 := Scalar.addi v111 c1_i32_76
  let c384_i32_77 : BitVec 32 := 384#32
  let v113 : BitVec 32 := Scalar.muli v112 c384_i32_77
  let v114 : BitVec 32 := v113
  let v122 : Index := Scalar.indexCast v114
  let c0_83 : Index := 0#32
  ![v122.toNat, 0]
def k0_mult44 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c1_i32_88 : BitVec 32 := 1#32
  let v129 : BitVec 32 := Scalar.addi v111 c1_i32_88
  let c384_i32_89 : BitVec 32 := 384#32
  let v130 : BitVec 32 := Scalar.muli v129 c384_i32_89
  v130
def k0_off51 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c1_i32_88 : BitVec 32 := 1#32
  let v129 : BitVec 32 := Scalar.addi v111 c1_i32_88
  let c384_i32_89 : BitVec 32 := 384#32
  let v130 : BitVec 32 := Scalar.muli v129 c384_i32_89
  let v131 : BitVec 32 := v130
  let v132 : Index := Scalar.indexCast v131
  let c256_90 : Index := 256#32
  ![v132.toNat, 256]
def k0_off52 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c1_i32_88 : BitVec 32 := 1#32
  let v129 : BitVec 32 := Scalar.addi v111 c1_i32_88
  let c384_i32_89 : BitVec 32 := 384#32
  let v130 : BitVec 32 := Scalar.muli v129 c384_i32_89
  let v131 : BitVec 32 := v130
  let v139 : Index := Scalar.indexCast v131
  let c128_95 : Index := 128#32
  ![v139.toNat, 128]
def k0_mult45 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c384_i32_100 : BitVec 32 := 384#32
  let v146 : BitVec 32 := Scalar.muli v111 c384_i32_100
  v146
def k0_off53 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_100 : BitVec 32 := 384#32
  let v146 : BitVec 32 := Scalar.muli v111 c384_i32_100
  let v147 : BitVec 32 := v146
  let v148 : Index := Scalar.indexCast v147
  let c0_101 : Index := 0#32
  ![v148.toNat, 0]
def k0_off54 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_100 : BitVec 32 := 384#32
  let v146 : BitVec 32 := Scalar.muli v111 c384_i32_100
  let v147 : BitVec 32 := v146
  let v151 : Index := Scalar.indexCast v147
  let c0_102 : Index := 0#32
  ![v151.toNat, 0]
def k0_off55 (i : grid0.Coords) (c0_i32_75 : BitVec 32) : Fin 4 → Nat :=
  let c0_107 : Index := 0#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let v164 : Index := Scalar.indexCast v111
  let c0_108 : Index := 0#32
  let c0_109 : Index := 0#32
  ![0, v164.toNat, 0, 0]
def k0_off56 (i : grid0.Coords) (c0_i32_75 : BitVec 32) : Fin 3 → Nat :=
  let c0_130 : Index := 0#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_100 : BitVec 32 := 384#32
  let v146 : BitVec 32 := Scalar.muli v111 c384_i32_100
  let v147 : BitVec 32 := v146
  let v194 : Index := Scalar.indexCast v147
  let c0_131 : Index := 0#32
  ![0, v194.toNat, 0]
def k0_mult46 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c384_i32_135 : BitVec 32 := 384#32
  let v203 : BitVec 32 := Scalar.muli v111 c384_i32_135
  v203
def k0_off57 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_135 : BitVec 32 := 384#32
  let v203 : BitVec 32 := Scalar.muli v111 c384_i32_135
  let v204 : BitVec 32 := v203
  let v205 : Index := Scalar.indexCast v204
  let c256_136 : Index := 256#32
  ![v205.toNat, 256]
def k0_off58 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_135 : BitVec 32 := 384#32
  let v203 : BitVec 32 := Scalar.muli v111 c384_i32_135
  let v204 : BitVec 32 := v203
  let v208 : Index := Scalar.indexCast v204
  let c128_137 : Index := 128#32
  ![v208.toNat, 128]
def k0_off59 (i : grid0.Coords) (c0_i32_75 : BitVec 32) : Fin 4 → Nat :=
  let c1_142 : Index := 1#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let v221 : Index := Scalar.indexCast v111
  let c0_143 : Index := 0#32
  let c0_144 : Index := 0#32
  ![1, v221.toNat, 0, 0]
def k0_off60 (i : grid0.Coords) (c0_i32_75 : BitVec 32) : Fin 3 → Nat :=
  let c1_165 : Index := 1#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_135 : BitVec 32 := 384#32
  let v203 : BitVec 32 := Scalar.muli v111 c384_i32_135
  let v204 : BitVec 32 := v203
  let v251 : Index := Scalar.indexCast v204
  let c0_166 : Index := 0#32
  ![1, v251.toNat, 0]
def k0_mult47 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c1_i32_170 : BitVec 32 := 1#32
  let v260 : BitVec 32 := Scalar.addi v75 c1_i32_170
  let c1_i32_171 : BitVec 32 := 1#32
  let v261 : BitVec 32 := Scalar.addi v260 c1_i32_171
  let c384_i32_172 : BitVec 32 := 384#32
  let v262 : BitVec 32 := Scalar.muli v261 c384_i32_172
  v262
def k0_mult48 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c1_i32_170 : BitVec 32 := 1#32
  let v260 : BitVec 32 := Scalar.addi v75 c1_i32_170
  let c1_i32_183 : BitVec 32 := 1#32
  let v278 : BitVec 32 := Scalar.addi v260 c1_i32_183
  let c384_i32_184 : BitVec 32 := 384#32
  let v279 : BitVec 32 := Scalar.muli v278 c384_i32_184
  v279
def k0_mult49 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c1_i32_170 : BitVec 32 := 1#32
  let v260 : BitVec 32 := Scalar.addi v75 c1_i32_170
  let c384_i32_195 : BitVec 32 := 384#32
  let v295 : BitVec 32 := Scalar.muli v260 c384_i32_195
  v295
def k0_mult50 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c1_i32_170 : BitVec 32 := 1#32
  let v260 : BitVec 32 := Scalar.addi v75 c1_i32_170
  let c384_i32_230 : BitVec 32 := 384#32
  let v352 : BitVec 32 := Scalar.muli v260 c384_i32_230
  v352
def k0_mult51 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c2_i32_265 : BitVec 32 := 2#32
  let v409 : BitVec 32 := Scalar.addi v75 c2_i32_265
  let c384_i32_266 : BitVec 32 := 384#32
  let v410 : BitVec 32 := Scalar.muli v409 c384_i32_266
  v410
def k0_mult52 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c2_i32_265 : BitVec 32 := 2#32
  let v409 : BitVec 32 := Scalar.addi v75 c2_i32_265
  let c384_i32_301 : BitVec 32 := 384#32
  let v467 : BitVec 32 := Scalar.muli v409 c384_i32_301
  v467
def k0_cond5 (i : grid0.Coords) : BitVec 1 :=
  let c11_i32_50 : BitVec 32 := 11#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v88 : BitVec 32 := Scalar.subi c11_i32_50 v75
  let c4_i32_51 : BitVec 32 := 4#32
  let v89 : BitVec 1 := Scalar.cmpi .eq v88 c4_i32_51
  let v90 : BitVec 32 := Scalar.extui v89
  let c0_i32_52 : BitVec 32 := 0#32
  let v91 : BitVec 1 := Scalar.cmpi .ne v90 c0_i32_52
  v91

def k0_mult53 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c1_i32_76 : BitVec 32 := 1#32
  let v112 : BitVec 32 := Scalar.addi v111 c1_i32_76
  let c384_i32_77 : BitVec 32 := 384#32
  let v113 : BitVec 32 := Scalar.muli v112 c384_i32_77
  v113
def k0_off61 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c1_i32_76 : BitVec 32 := 1#32
  let v112 : BitVec 32 := Scalar.addi v111 c1_i32_76
  let c384_i32_77 : BitVec 32 := 384#32
  let v113 : BitVec 32 := Scalar.muli v112 c384_i32_77
  let v114 : BitVec 32 := v113
  let v115 : Index := Scalar.indexCast v114
  let c0_78 : Index := 0#32
  ![v115.toNat, 0]
def k0_off62 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c1_i32_76 : BitVec 32 := 1#32
  let v112 : BitVec 32 := Scalar.addi v111 c1_i32_76
  let c384_i32_77 : BitVec 32 := 384#32
  let v113 : BitVec 32 := Scalar.muli v112 c384_i32_77
  let v114 : BitVec 32 := v113
  let v122 : Index := Scalar.indexCast v114
  let c0_83 : Index := 0#32
  ![v122.toNat, 0]
def k0_mult54 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c1_i32_88 : BitVec 32 := 1#32
  let v129 : BitVec 32 := Scalar.addi v111 c1_i32_88
  let c384_i32_89 : BitVec 32 := 384#32
  let v130 : BitVec 32 := Scalar.muli v129 c384_i32_89
  v130
def k0_off63 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c1_i32_88 : BitVec 32 := 1#32
  let v129 : BitVec 32 := Scalar.addi v111 c1_i32_88
  let c384_i32_89 : BitVec 32 := 384#32
  let v130 : BitVec 32 := Scalar.muli v129 c384_i32_89
  let v131 : BitVec 32 := v130
  let v132 : Index := Scalar.indexCast v131
  let c256_90 : Index := 256#32
  ![v132.toNat, 256]
def k0_off64 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c1_i32_88 : BitVec 32 := 1#32
  let v129 : BitVec 32 := Scalar.addi v111 c1_i32_88
  let c384_i32_89 : BitVec 32 := 384#32
  let v130 : BitVec 32 := Scalar.muli v129 c384_i32_89
  let v131 : BitVec 32 := v130
  let v139 : Index := Scalar.indexCast v131
  let c128_95 : Index := 128#32
  ![v139.toNat, 128]
def k0_mult55 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c384_i32_100 : BitVec 32 := 384#32
  let v146 : BitVec 32 := Scalar.muli v111 c384_i32_100
  v146
def k0_off65 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_100 : BitVec 32 := 384#32
  let v146 : BitVec 32 := Scalar.muli v111 c384_i32_100
  let v147 : BitVec 32 := v146
  let v148 : Index := Scalar.indexCast v147
  let c0_101 : Index := 0#32
  ![v148.toNat, 0]
def k0_off66 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_100 : BitVec 32 := 384#32
  let v146 : BitVec 32 := Scalar.muli v111 c384_i32_100
  let v147 : BitVec 32 := v146
  let v151 : Index := Scalar.indexCast v147
  let c0_102 : Index := 0#32
  ![v151.toNat, 0]
def k0_off67 (i : grid0.Coords) (c0_i32_75 : BitVec 32) : Fin 4 → Nat :=
  let c0_107 : Index := 0#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let v164 : Index := Scalar.indexCast v111
  let c0_108 : Index := 0#32
  let c0_109 : Index := 0#32
  ![0, v164.toNat, 0, 0]
def k0_off68 (i : grid0.Coords) (c0_i32_75 : BitVec 32) : Fin 3 → Nat :=
  let c0_130 : Index := 0#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_100 : BitVec 32 := 384#32
  let v146 : BitVec 32 := Scalar.muli v111 c384_i32_100
  let v147 : BitVec 32 := v146
  let v194 : Index := Scalar.indexCast v147
  let c0_131 : Index := 0#32
  ![0, v194.toNat, 0]
def k0_mult56 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c0_i32_75 : BitVec 32 := 0#32
  let v111 : BitVec 32 := Scalar.addi v75 c0_i32_75
  let c384_i32_135 : BitVec 32 := 384#32
  let v203 : BitVec 32 := Scalar.muli v111 c384_i32_135
  v203
def k0_off69 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_135 : BitVec 32 := 384#32
  let v203 : BitVec 32 := Scalar.muli v111 c384_i32_135
  let v204 : BitVec 32 := v203
  let v205 : Index := Scalar.indexCast v204
  let c256_136 : Index := 256#32
  ![v205.toNat, 256]
def k0_off70 (i : grid0.Coords) (c0_i32_75 : BitVec 32) : Fin 2 → Nat :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_135 : BitVec 32 := 384#32
  let v203 : BitVec 32 := Scalar.muli v111 c384_i32_135
  let v204 : BitVec 32 := v203
  let v208 : Index := Scalar.indexCast v204
  let c128_137 : Index := 128#32
  ![v208.toNat, 128]
def k0_off71 (i : grid0.Coords) (c0_i32_75 : BitVec 32) : Fin 4 → Nat :=
  let c1_142 : Index := 1#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let v221 : Index := Scalar.indexCast v111
  let c0_143 : Index := 0#32
  let c0_144 : Index := 0#32
  ![1, v221.toNat, 0, 0]
def k0_off72 (i : grid0.Coords) (c0_i32_75 : BitVec 32) : Fin 3 → Nat :=
  let c1_165 : Index := 1#32
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let v111 : BitVec 32 := Scalar.addi v75 c0_i32_75
  let c384_i32_135 : BitVec 32 := 384#32
  let v203 : BitVec 32 := Scalar.muli v111 c384_i32_135
  let v204 : BitVec 32 := v203
  let v251 : Index := Scalar.indexCast v204
  let c0_166 : Index := 0#32
  ![1, v251.toNat, 0]
def k0_mult57 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c1_i32_170 : BitVec 32 := 1#32
  let v260 : BitVec 32 := Scalar.addi v75 c1_i32_170
  let c1_i32_171 : BitVec 32 := 1#32
  let v261 : BitVec 32 := Scalar.addi v260 c1_i32_171
  let c384_i32_172 : BitVec 32 := 384#32
  let v262 : BitVec 32 := Scalar.muli v261 c384_i32_172
  v262
def k0_mult58 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c1_i32_170 : BitVec 32 := 1#32
  let v260 : BitVec 32 := Scalar.addi v75 c1_i32_170
  let c1_i32_183 : BitVec 32 := 1#32
  let v278 : BitVec 32 := Scalar.addi v260 c1_i32_183
  let c384_i32_184 : BitVec 32 := 384#32
  let v279 : BitVec 32 := Scalar.muli v278 c384_i32_184
  v279
def k0_mult59 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c1_i32_170 : BitVec 32 := 1#32
  let v260 : BitVec 32 := Scalar.addi v75 c1_i32_170
  let c384_i32_195 : BitVec 32 := 384#32
  let v295 : BitVec 32 := Scalar.muli v260 c384_i32_195
  v295
def k0_mult60 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c1_i32_170 : BitVec 32 := 1#32
  let v260 : BitVec 32 := Scalar.addi v75 c1_i32_170
  let c384_i32_230 : BitVec 32 := 384#32
  let v352 : BitVec 32 := Scalar.muli v260 c384_i32_230
  v352
def k0_mult61 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c2_i32_265 : BitVec 32 := 2#32
  let v409 : BitVec 32 := Scalar.addi v75 c2_i32_265
  let c1_i32_266 : BitVec 32 := 1#32
  let v410 : BitVec 32 := Scalar.addi v409 c1_i32_266
  let c384_i32_267 : BitVec 32 := 384#32
  let v411 : BitVec 32 := Scalar.muli v410 c384_i32_267
  v411
def k0_mult62 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c2_i32_265 : BitVec 32 := 2#32
  let v409 : BitVec 32 := Scalar.addi v75 c2_i32_265
  let c1_i32_278 : BitVec 32 := 1#32
  let v427 : BitVec 32 := Scalar.addi v409 c1_i32_278
  let c384_i32_279 : BitVec 32 := 384#32
  let v428 : BitVec 32 := Scalar.muli v427 c384_i32_279
  v428
def k0_mult63 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c2_i32_265 : BitVec 32 := 2#32
  let v409 : BitVec 32 := Scalar.addi v75 c2_i32_265
  let c384_i32_290 : BitVec 32 := 384#32
  let v444 : BitVec 32 := Scalar.muli v409 c384_i32_290
  v444
def k0_mult64 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c2_i32_265 : BitVec 32 := 2#32
  let v409 : BitVec 32 := Scalar.addi v75 c2_i32_265
  let c384_i32_325 : BitVec 32 := 384#32
  let v501 : BitVec 32 := Scalar.muli v409 c384_i32_325
  v501
def k0_mult65 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c3_i32_360 : BitVec 32 := 3#32
  let v558 : BitVec 32 := Scalar.addi v75 c3_i32_360
  let c384_i32_361 : BitVec 32 := 384#32
  let v559 : BitVec 32 := Scalar.muli v558 c384_i32_361
  v559
def k0_mult66 (i : grid0.Coords) : BitVec 32 :=
  let arg1 : BitVec 32 := BitVec.ofNat 32 (i 1).val
  let c10_i32 : BitVec 32 := 10#32
  let v51 : BitVec 32 := Scalar.subi c10_i32 arg1
  let c0_i32_33 : BitVec 32 := 0#32
  let v53 : BitVec 1 := Scalar.cmpi .sgt v51 c0_i32_33
  let v54 : BitVec 32 := Scalar.extui v53
  let c0_i32_34 : BitVec 32 := 0#32
  let v55 : BitVec 1 := Scalar.cmpi .slt v51 c0_i32_34
  let v56 : BitVec 32 := Scalar.extui v55
  let v57 : BitVec 32 := Scalar.subi v54 v56
  let c4_i32 : BitVec 32 := 4#32
  let c0_i32_35 : BitVec 32 := 0#32
  let v58 : BitVec 1 := Scalar.cmpi .sgt c4_i32 c0_i32_35
  let v59 : BitVec 32 := Scalar.extui v58
  let c0_i32_36 : BitVec 32 := 0#32
  let v60 : BitVec 1 := Scalar.cmpi .slt c4_i32 c0_i32_36
  let v61 : BitVec 32 := Scalar.extui v60
  let v62 : BitVec 32 := Scalar.subi v59 v61
  let v63 : BitVec 1 := Scalar.cmpi .ne v57 v62
  let v64 : BitVec 32 := Scalar.remsi v51 c4_i32
  let c0_i32_37 : BitVec 32 := 0#32
  let v65 : BitVec 1 := Scalar.cmpi .ne v64 c0_i32_37
  let v66 : BitVec 1 := Scalar.andi v63 v65
  let v52 : BitVec 32 := Scalar.divsi v51 c4_i32
  let c1_i32 : BitVec 32 := 1#32
  let v67 : BitVec 32 := Scalar.subi v52 c1_i32
  let v68 : BitVec 32 := Scalar.select v66 v67 v52
  let c4_i32_43 : BitVec 32 := 4#32
  let v74 : BitVec 32 := Scalar.muli v68 c4_i32_43
  let v75 : BitVec 32 := Scalar.addi arg1 v74
  let c3_i32_360 : BitVec 32 := 3#32
  let v558 : BitVec 32 := Scalar.addi v75 c3_i32_360
  let c384_i32_396 : BitVec 32 := 384#32
  let v616 : BitVec 32 := Scalar.muli v558 c384_i32_396
  v616
def k0_cond6 (i : grid0.Coords) : BitVec 1 :=
  let arg1 : BitVec 32 := BitVec.ofNat 32 (i 1).val
  let c10_i32_73 : BitVec 32 := 10#32
  let v108 : BitVec 1 := Scalar.cmpi .eq arg1 c10_i32_73
  let v109 : BitVec 32 := Scalar.extui v108
  let c0_i32_74 : BitVec 32 := 0#32
  let v110 : BitVec 1 := Scalar.cmpi .ne v109 c0_i32_74
  v110

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x11x1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x11x1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4224x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4224x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S384x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S384x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnKernelIdeal.lean ====
variable {F : FTy → Type} [FloatOps F] [Named F]
def κ : String → Option EReal := fun
  | "mask" => some ⊥
  | _ => none
-- ==== AttnReferenceIdeal.lean ====
abbrev S1x4112x8x128 : Shape := ⟨4, ![1, 4112, 8, 128]⟩
abbrev S1x4112x8x64 : Shape := ⟨4, ![1, 4112, 8, 64]⟩
abbrev S1x4112x64 : Shape := ⟨3, ![1, 4112, 64]⟩
abbrev S1x4112x8x192 : Shape := ⟨4, ![1, 4112, 8, 192]⟩
abbrev S_ : Shape := ⟨0, ![]⟩
abbrev S1x4112x1x64 : Shape := ⟨4, ![1, 4112, 1, 64]⟩
abbrev S1x8x4112x4112 : Shape := ⟨4, ![1, 8, 4112, 4112]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S1x1x4112x4112 : Shape := ⟨4, ![1, 1, 4112, 4112]⟩
abbrev S1x8x4112 : Shape := ⟨3, ![1, 8, 4112]⟩
abbrev S1x8x4112x1 : Shape := ⟨4, ![1, 8, 4112, 1]⟩
abbrev S1x8x128x4112 : Shape := ⟨4, ![1, 8, 128, 4112]⟩
abbrev S8x4112 : Shape := ⟨2, ![8, 4112]⟩
abbrev S1x8x4112x192 : Shape := ⟨4, ![1, 8, 4112, 192]⟩
abbrev S4112x8x192 : Shape := ⟨3, ![4112, 8, 192]⟩
abbrev S4224x8x256 : Shape := ⟨3, ![4224, 8, 256]⟩
abbrev S4224x2048 : Shape := ⟨2, ![4224, 2048]⟩
abbrev S4112x1024 : Shape := ⟨2, ![4112, 1024]⟩
abbrev S4224x1024 : Shape := ⟨2, ![4224, 1024]⟩

abbrev nBuf : Space → Nat
  | .hbm => 111
  | .vmem => 0
  | .smem => 0
  | _ => 0

abbrev bufTy : (tb : Table) → Fin (tcTables nBuf tb) → BufTy
  | .hbm, ⟨0, _⟩ => ⟨S1x4112x8x128, .f32⟩
  | .hbm, ⟨1, _⟩ => ⟨S1x4112x8x64, .f32⟩
  | .hbm, ⟨2, _⟩ => ⟨S1x4112x8x128, .f32⟩
  | .hbm, ⟨3, _⟩ => ⟨S1x4112x64, .f32⟩
  | .hbm, ⟨4, _⟩ => ⟨S1x4112x8x128, .f32⟩
  | .hbm, ⟨5, _⟩ => ⟨S1x4112x8x128, .f32⟩
  | .hbm, ⟨6, _⟩ => ⟨S1x4112x8x192, .f32⟩
  | .hbm, ⟨7, _⟩ => ⟨S_, .f32⟩
  | .hbm, ⟨8, _⟩ => ⟨S1x4112x8x192, .f32⟩
  | .hbm, ⟨9, _⟩ => ⟨S1x4112x8x192, .f32⟩
  | .hbm, ⟨10, _⟩ => ⟨S1x4112x1x64, .f32⟩
  | .hbm, ⟨11, _⟩ => ⟨S1x4112x8x64, .f32⟩
  | .hbm, ⟨12, _⟩ => ⟨S1x4112x8x192, .f32⟩
  | .hbm, ⟨13, _⟩ => ⟨S1x8x4112x4112, .f32⟩
  | .hbm, ⟨14, _⟩ => ⟨S4112, .i32⟩
  | .hbm, ⟨15, _⟩ => ⟨S1x4112, .i32⟩
  | .hbm, ⟨16, _⟩ => ⟨S4112x1, .i32⟩
  | .hbm, ⟨17, _⟩ => ⟨S4112x4112, .i32⟩
  | .hbm, ⟨18, _⟩ => ⟨S4112x4112, .i32⟩
  | .hbm, ⟨19, _⟩ => ⟨S4112x4112, .i1⟩
  | .hbm, ⟨20, _⟩ => ⟨S1x1x4112x4112, .i1⟩
  | .hbm, ⟨21, _⟩ => ⟨S_, .f32⟩
  | .hbm, ⟨22, _⟩ => ⟨S_, .f32⟩
  | .hbm, ⟨23, _⟩ => ⟨S1x8x4112x4112, .i1⟩
  | .hbm, ⟨24, _⟩ => ⟨S1x8x4112x4112, .f32⟩
  | .hbm, ⟨25, _⟩ => ⟨S1x8x4112x4112, .f32⟩
  | .hbm, ⟨26, _⟩ => ⟨S_, .f32⟩
  | .hbm, ⟨27, _⟩ => ⟨S1x8x4112x4112, .f32⟩
  | .hbm, ⟨28, _⟩ => ⟨S_, .f32⟩
  | .hbm, ⟨29, _⟩ => ⟨S1x8x4112, .f32⟩
  | .hbm, ⟨30, _⟩ => ⟨S1x8x4112x1, .f32⟩
  | .hbm, ⟨31, _⟩ => ⟨S1x8x4112x4112, .f32⟩
  | .hbm, ⟨32, _⟩ => ⟨S1x8x4112x4112, .i1⟩
  | .hbm, ⟨33, _⟩ => ⟨S1x8x4112x4112, .f32⟩
  | .hbm, ⟨34, _⟩ => ⟨S_, .f32⟩
  | .hbm, ⟨35, _⟩ => ⟨S1x8x4112, .f32⟩
  | .hbm, ⟨36, _⟩ => ⟨S_, .f32⟩
  | .hbm, ⟨37, _⟩ => ⟨S1x8x4112, .f32⟩
  | .hbm, ⟨38, _⟩ => ⟨S1x8x4112, .f32⟩
  | .hbm, ⟨39, _⟩ => ⟨S_, .f32⟩
  | .hbm, ⟨40, _⟩ => ⟨S1x8x4112, .f32⟩
  | .hbm, ⟨41, _⟩ => ⟨S1x8x4112, .i1⟩
  | .hbm, ⟨42, _⟩ => ⟨S_, .f32⟩
  | .hbm, ⟨43, _⟩ => ⟨S1x8x4112, .f32⟩
  | .hbm, ⟨44, _⟩ => ⟨S1x8x4112, .i1⟩
  | .hbm, ⟨45, _⟩ => ⟨S_, .f32⟩
  | .hbm, ⟨46, _⟩ => ⟨S1x8x4112, .f32⟩
  | .hbm, ⟨47, _⟩ => ⟨S_, .f32⟩
  | .hbm, ⟨48, _⟩ => ⟨S1x8x4112, .f32⟩
  | .hbm, ⟨49, _⟩ => ⟨S_, .f32⟩
  | .hbm, ⟨50, _⟩ => ⟨S1x8x4112, .f32⟩
  | .hbm, ⟨51, _⟩ => ⟨S1x8x4112, .f32⟩
  | .hbm, ⟨52, _⟩ => ⟨S1x8x4112, .f32⟩
  | .hbm, ⟨53, _⟩ => ⟨S1x8x4112x1, .f32⟩
  | .hbm, ⟨54, _⟩ => ⟨S1x8x4112x4112, .f32⟩
  | .hbm, ⟨55, _⟩ => ⟨S1x8x4112x4112, .f32⟩
  | .hbm, ⟨56, _⟩ => ⟨S1x8x4112x4112, .f32⟩
  | .hbm, ⟨57, _⟩ => ⟨S_, .f32⟩
  | .hbm, ⟨58, _⟩ => ⟨S1x8x4112, .f32⟩
  | .hbm, ⟨59, _⟩ => ⟨S1x8x4112x1, .f32⟩
  | .hbm, ⟨60, _⟩ => ⟨S1x8x4112x4112, .f32⟩
  | .hbm, ⟨61, _⟩ => ⟨S1x8x4112x4112, .f32⟩
  | .hbm, ⟨62, _⟩ => ⟨S1x8x4112x1, .f32⟩
  | .hbm, ⟨63, _⟩ => ⟨S_, .f32⟩
  | .hbm, ⟨64, _⟩ => ⟨S1x8x4112x1, .f32⟩
  | .hbm, ⟨65, _⟩ => ⟨S1x8x4112x1, .f32⟩
  | .hbm, ⟨66, _⟩ => ⟨S1x8x128x4112, .f32⟩
  | .hbm, ⟨67, _⟩ => ⟨S1x4112x8x128, .f32⟩
  | .hbm, ⟨68, _⟩ => ⟨S1x8x128x4112, .f32⟩
  | .hbm, ⟨69, _⟩ => ⟨S1x8x4112x4112, .f32⟩
  | .hbm, ⟨70, _⟩ => ⟨S1x8x128x4112, .f32⟩
  | .hbm, ⟨71, _⟩ => ⟨S1x4112x8x128, .f32⟩
  | .hbm, ⟨72, _⟩ => ⟨S1x8x4112x4112, .f32⟩
  | .hbm, ⟨73, _⟩ => ⟨S1x8x4112x4112, .f32⟩
  | .hbm, ⟨74, _⟩ => ⟨S1x8x4112x4112, .f32⟩
  | .hbm, ⟨75, _⟩ => ⟨S_, .f32⟩
  | .hbm, ⟨76, _⟩ => ⟨S1x8x4112, .f32⟩
  | .hbm, ⟨77, _⟩ => ⟨S1x8x4112x1, .f32⟩
  | .hbm, ⟨78, _⟩ => ⟨S1x8x4112x1, .f32⟩
  | .hbm, ⟨79, _⟩ => ⟨S1x8x4112x4112, .f32⟩
  | .hbm, ⟨80, _⟩ => ⟨S1x8x4112x4112, .f32⟩
  | .hbm, ⟨81, _⟩ => ⟨S_, .f32⟩
  | .hbm, ⟨82, _⟩ => ⟨S8x4112, .f32⟩
  | .hbm, ⟨83, _⟩ => ⟨S1x8x4112, .f32⟩
  | .hbm, ⟨84, _⟩ => ⟨S1x8x4112x4112, .f32⟩
  | .hbm, ⟨85, _⟩ => ⟨S1x8x4112x4112, .f32⟩
  | .hbm, ⟨86, _⟩ => ⟨S1x8x4112x4112, .f32⟩
  | .hbm, ⟨87, _⟩ => ⟨S_, .f32⟩
  | .hbm, ⟨88, _⟩ => ⟨S1x8x4112x4112, .f32⟩
  | .hbm, ⟨89, _⟩ => ⟨S1x8x4112x4112, .f32⟩
  | .hbm, ⟨90, _⟩ => ⟨S1x8x4112x192, .f32⟩
  | .hbm, ⟨91, _⟩ => ⟨S1x4112x8x192, .f32⟩
  | .hbm, ⟨92, _⟩ => ⟨S1x8x4112x192, .f32⟩
  | .hbm, ⟨93, _⟩ => ⟨S1x4112x8x192, .f32⟩
  | .hbm, ⟨94, _⟩ => ⟨S4112x8x192, .f32⟩
  | .hbm, ⟨95, _⟩ => ⟨S_, .i32⟩
  | .hbm, ⟨96, _⟩ => ⟨S_, .f32⟩
  | .hbm, ⟨97, _⟩ => ⟨S4224x8x256, .f32⟩
  | .hbm, ⟨98, _⟩ => ⟨S4224x2048, .f32⟩
  | .hbm, ⟨99, _⟩ => ⟨S4224x2048, .bf16⟩
  | .hbm, ⟨100, _⟩ => ⟨S4112x8x192, .f32⟩
  | .hbm, ⟨101, _⟩ => ⟨S_, .i32⟩
  | .hbm, ⟨102, _⟩ => ⟨S_, .f32⟩
  | .hbm, ⟨103, _⟩ => ⟨S4224x8x256, .f32⟩
  | .hbm, ⟨104, _⟩ => ⟨S4224x2048, .f32⟩
  | .hbm, ⟨105, _⟩ => ⟨S4224x2048, .bf16⟩
  | .hbm, ⟨106, _⟩ => ⟨S4112x1024, .f32⟩
  | .hbm, ⟨107, _⟩ => ⟨S_, .i32⟩
  | .hbm, ⟨108, _⟩ => ⟨S_, .f32⟩
  | .hbm, ⟨109, _⟩ => ⟨S4224x1024, .f32⟩
  | .hbm, ⟨110, _⟩ => ⟨S4224x1024, .bf16⟩
  | _, _ => ⟨S1x4112x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_v14_1 : Ref sig .tc := ⟨.hbm, 23, rfl⟩
abbrev main_call0_v2 : Ref sig .tc := ⟨.hbm, 24, rfl⟩
abbrev main_v14_0 : Ref sig .tc := ⟨.hbm, 25, rfl⟩
abbrev main_call0_cst : Ref sig .tc := ⟨.hbm, 26, rfl⟩
abbrev main_v14_2 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c : Ref sig .tc := ⟨.hbm, 95, rfl⟩
abbrev main_call2_v0 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_13 : Ref sig .tc := ⟨.hbm, 101, rfl⟩
abbrev main_call3_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_14 : Ref sig .tc := ⟨.hbm, 107, rfl⟩
abbrev main_call4_v0 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]
-- ==== LatentKernel.lean ====
abbrev S1x4112x384 : Shape := ⟨3, ![1, 4112, 384]⟩
abbrev S1x4112x256 : Shape := ⟨3, ![1, 4112, 256]⟩
abbrev S1x384 : Shape := ⟨2, ![1, 384]⟩
abbrev S1x256 : Shape := ⟨2, ![1, 256]⟩
abbrev S384x1536 : Shape := ⟨2, ![384, 1536]⟩
abbrev S256x2048 : Shape := ⟨2, ![256, 2048]⟩
abbrev S1x4112x8x192 : Shape := ⟨4, ![1, 4112, 8, 192]⟩
abbrev S1x4112x8x128 : Shape := ⟨4, ![1, 4112, 8, 128]⟩
abbrev S32 : Shape := ⟨1, ![32]⟩
abbrev S_ : Shape := ⟨0, ![]⟩
abbrev S4224 : Shape := ⟨1, ![4224]⟩
abbrev S4224x1 : Shape := ⟨2, ![4224, 1]⟩
abbrev S1x32 : Shape := ⟨2, ![1, 32]⟩
abbrev S4224x32 : Shape := ⟨2, ![4224, 32]⟩
abbrev S4224x64 : Shape := ⟨2, ![4224, 64]⟩
abbrev S4224x128 : Shape := ⟨2, ![4224, 128]⟩
abbrev S4112x384 : Shape := ⟨2, ![4112, 384]⟩
abbrev S4112x256 : Shape := ⟨2, ![4112, 256]⟩
abbrev S4112x640 : Shape := ⟨2, ![4112, 640]⟩
abbrev S4224x768 : Shape := ⟨2, ![4224, 768]⟩
abbrev S384x8x192 : Shape := ⟨3, ![384, 8, 192]⟩
abbrev S8x384x192 : Shape := ⟨3, ![8, 384, 192]⟩
abbrev S8x384x256 : Shape := ⟨3, ![8, 384, 256]⟩
abbrev S256x8x256 : Shape := ⟨3, ![256, 8, 256]⟩
abbrev S8x256x256 : Shape := ⟨3, ![8, 256, 256]⟩
abbrev S1x4112x8x256 : Shape := ⟨4, ![1, 4112, 8, 256]⟩
abbrev S4112x2048 : Shape := ⟨2, ![4112, 2048]⟩
abbrev S4224x2048 : Shape := ⟨2, ![4224, 2048]⟩
abbrev S4112x1024 : Shape := ⟨2, ![4112, 1024]⟩
abbrev S4224x1024 : Shape := ⟨2, ![4224, 1024]⟩
abbrev S384x768 : Shape := ⟨2, ![384, 768]⟩
abbrev S384x128 : Shape := ⟨2, ![384, 128]⟩
abbrev S384x2048 : Shape := ⟨2, ![384, 2048]⟩
abbrev S384x1024 : Shape := ⟨2, ![384, 1024]⟩
abbrev S384x384 : Shape := ⟨2, ![384, 384]⟩
abbrev S384 : Shape := ⟨1, ![384]⟩
abbrev S384x1 : Shape := ⟨2, ![384, 1]⟩
abbrev S384x256 : Shape := ⟨2, ![384, 256]⟩
abbrev S1x384x256 : Shape := ⟨3, ![1, 384, 256]⟩
abbrev S1x256x256 : Shape := ⟨3, ![1, 256, 256]⟩
abbrev S256x256 : Shape := ⟨2, ![256, 256]⟩
abbrev S256 : Shape := ⟨1, ![256]⟩

abbrev nBuf : Space → Nat
  | .hbm => 77
  | .vmem => 24
  | .smem => 0
  | _ => 0

abbrev bufTy : (tb : Table) → Fin (tcTables nBuf tb) → BufTy
  | .hbm, ⟨0, _⟩ => ⟨S1x4112x384, .f32⟩
  | .hbm, ⟨1, _⟩ => ⟨S1x4112x256, .f32⟩
  | .hbm, ⟨2, _⟩ => ⟨S1x384, .f32⟩
  | .hbm, ⟨3, _⟩ => ⟨S1x256, .f32⟩
  | .hbm, ⟨4, _⟩ => ⟨S384x1536, .f32⟩
  | .hbm, ⟨5, _⟩ => ⟨S256x2048, .f32⟩
  | .hbm, ⟨6, _⟩ => ⟨S1x4112x8x192, .f32⟩
  | .hbm, ⟨7, _⟩ => ⟨S1x4112x8x192, .f32⟩
  | .hbm, ⟨8, _⟩ => ⟨S1x4112x8x128, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S4224, .f32⟩
  | .hbm, ⟨24, _⟩ => ⟨S4224x1, .f32⟩
  | .hbm, ⟨25, _⟩ => ⟨S1x32, .f32⟩
  | .hbm, ⟨26, _⟩ => ⟨S4224x32, .f32⟩
  | .hbm, ⟨27, _⟩ => ⟨S4224x32, .f32⟩
  | .hbm, ⟨28, _⟩ => ⟨S4224x32, .f32⟩
  | .hbm, ⟨29, _⟩ => ⟨S4224x32, .f32⟩
  | .hbm, ⟨30, _⟩ => ⟨S4224x32, .f32⟩
  | .hbm, ⟨31, _⟩ => ⟨S_, .f32⟩
  | .hbm, ⟨32, _⟩ => ⟨S4224x64, .f32⟩
  | .hbm, ⟨33, _⟩ => ⟨S4224x128, .f32⟩
  | .hbm, ⟨34, _⟩ => ⟨S4224x32, .f32⟩
  | .hbm, ⟨35, _⟩ => ⟨S4224x128, .f32⟩
  | .hbm, ⟨36, _⟩ => ⟨S4112x384, .f32⟩
  | .hbm, ⟨37, _⟩ => ⟨S4112x256, .f32⟩
  | .hbm, ⟨38, _⟩ => ⟨S4112x640, .f32⟩
  | .hbm, ⟨39, _⟩ => ⟨S_, .i32⟩
  | .hbm, ⟨40, _⟩ => ⟨S_, .f32⟩
  | .hbm, ⟨41, _⟩ => ⟨S4224x768, .f32⟩
  | .hbm, ⟨42, _⟩ => ⟨S384x8x192, .f32⟩
  | .hbm, ⟨43, _⟩ => ⟨S8x384x192, .f32⟩
  | .hbm, ⟨44, _⟩ => ⟨S_, .i32⟩
  | .hbm, ⟨45, _⟩ => ⟨S_, .f32⟩
  | .hbm, ⟨46, _⟩ => ⟨S8x384x256, .f32⟩
  | .hbm, ⟨47, _⟩ => ⟨S256x8x256, .f32⟩
  | .hbm, ⟨48, _⟩ => ⟨S8x256x256, .f32⟩
  | .hbm, ⟨49, _⟩ => ⟨S8x384x256, .bf16⟩
  | .hbm, ⟨50, _⟩ => ⟨S8x256x256, .bf16⟩
  | .hbm, ⟨51, _⟩ => ⟨S_, .i32⟩
  | .hbm, ⟨52, _⟩ => ⟨S_, .f32⟩
  | .hbm, ⟨53, _⟩ => ⟨S1x4112x8x256, .f32⟩
  | .hbm, ⟨54, _⟩ => ⟨S4112x2048, .f32⟩
  | .hbm, ⟨55, _⟩ => ⟨S_, .i32⟩
  | .hbm, ⟨56, _⟩ => ⟨S_, .f32⟩
  | .hbm, ⟨57, _⟩ => ⟨S4224x2048, .f32⟩
  | .hbm, ⟨58, _⟩ => ⟨S4224x2048, .bf16⟩
  | .hbm, ⟨59, _⟩ => ⟨S_, .i32⟩
  | .hbm, ⟨60, _⟩ => ⟨S_, .f32⟩
  | .hbm, ⟨61, _⟩ => ⟨S1x4112x8x256, .f32⟩
  | .hbm, ⟨62, _⟩ => ⟨S4112x2048, .f32⟩
  | .hbm, ⟨63, _⟩ => ⟨S_, .i32⟩
  | .hbm, ⟨64, _⟩ => ⟨S_, .f32⟩
  | .hbm, ⟨65, _⟩ => ⟨S4224x2048, .f32⟩
  | .hbm, ⟨66, _⟩ => ⟨S4224x2048, .bf16⟩
  | .hbm, ⟨67, _⟩ => ⟨S4112x1024, .f32⟩
  | .hbm, ⟨68, _⟩ => ⟨S_, .i32⟩
  | .hbm, ⟨69, _⟩ => ⟨S_, .f32⟩
  | .hbm, ⟨70, _⟩ => ⟨S4224x1024, .f32⟩
  | .hbm, ⟨71, _⟩ => ⟨S4224x1024, .bf16⟩
  | .hbm, ⟨72, _⟩ => ⟨S4224x768, .bf16⟩
  | .hbm, ⟨73, _⟩ => ⟨S8x384x256, .bf16⟩
  | .hbm, ⟨74, _⟩ => ⟨S8x256x256, .bf16⟩
  | .hbm, ⟨75, _⟩ => ⟨S1x384, .f32⟩
  | .hbm, ⟨76, _⟩ => ⟨S1x256, .f32⟩
  | .local _ .vmem, ⟨0, _⟩ => ⟨S384x768, .f32⟩
  | .local _ .vmem, ⟨1, _⟩ => ⟨S384x768, .f32⟩
  | .local _ .vmem, ⟨2, _⟩ => ⟨S1x384, .f32⟩
  | .local _ .vmem, ⟨3, _⟩ => ⟨S1x256, .f32⟩
  | .local _ .vmem, ⟨4, _⟩ => ⟨S8x384x256, .bf16⟩
  | .local _ .vmem, ⟨5, _⟩ => ⟨S8x256x256, .bf16⟩
  | .local _ .vmem, ⟨6, _⟩ => ⟨S384x128, .f32⟩
  | .local _ .vmem, ⟨7, _⟩ => ⟨S384x128, .f32⟩
  | .local _ .vmem, ⟨8, _⟩ => ⟨S384x128, .f32⟩
  | .local _ .vmem, ⟨9, _⟩ => ⟨S384x128, .f32⟩
  | .local _ .vmem, ⟨10, _⟩ => ⟨S384x2048, .bf16⟩
  | .local _ .vmem, ⟨11, _⟩ => ⟨S384x2048, .bf16⟩
  | .local _ .vmem, ⟨12, _⟩ => ⟨S384x2048, .bf16⟩
  | .local _ .vmem, ⟨13, _⟩ => ⟨S384x2048, .bf16⟩
  | .local _ .vmem, ⟨14, _⟩ => ⟨S384x1024, .bf16⟩
  | .local _ .vmem, ⟨15, _⟩ => ⟨S384x1024, .bf16⟩
  | .local _ .vmem, ⟨16, _⟩ => ⟨S384x768, .bf16⟩
  | .local _ .vmem, ⟨17, _⟩ => ⟨S384x768, .bf16⟩
  | .local _ .vmem, ⟨18, _⟩ => ⟨S8x384x256, .bf16⟩
  | .local _ .vmem, ⟨19, _⟩ => ⟨S8x256x256, .bf16⟩
  | .local _ .vmem, ⟨20, _⟩ => ⟨S1x384, .f32⟩
  | .local _ .vmem, ⟨21, _⟩ => ⟨S1x256, .f32⟩
  | .local _ .vmem, ⟨22, _⟩ => ⟨S8x384x256, .f32⟩
  | .local _ .vmem, ⟨23, _⟩ => ⟨S8x256x256, .f32⟩
  | _, _ => ⟨S1x4112x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_call1_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_call2_v0 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_call3_v0 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_call4_v0 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_call5_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_9 : Ref sig .tc := ⟨.hbm, 68, rfl⟩
abbrev main_call6_v0 : Ref sig .tc := ⟨.hbm, 69, rfl⟩
abbrev main_v42 : Ref sig .tc := ⟨.hbm, 70, rfl⟩
abbrev main_v43 : Ref sig .tc := ⟨.hbm, 71, rfl⟩
abbrev main_v44_0 : Ref sig .tc := ⟨.hbm, 72, rfl⟩
abbrev main_v44_1 : Ref sig .tc := ⟨.hbm, 73, rfl⟩
abbrev main_v44_2 : Ref sig .tc := ⟨.hbm, 74, rfl⟩
abbrev main_v44_3 : Ref sig .tc := ⟨.hbm, 75, rfl⟩
abbrev main_v44_4 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v481 : BitVec 1 := Scalar.cmpi .eq arg0 c10_i32
  let v482 : BitVec 32 := Scalar.extui v481
  let c0_i32_308 : BitVec 32 := 0#32
  let v483 : BitVec 1 := Scalar.cmpi .ne v482 c0_i32_308
  v483

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x384x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x384x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== LatentReferenceIdeal.lean ====
abbrev S1x4112x384 : Shape := ⟨3, ![1, 4112, 384]⟩
abbrev S1x4112x256 : Shape := ⟨3, ![1, 4112, 256]⟩
abbrev S1x384 : Shape := ⟨2, ![1, 384]⟩
abbrev S1x256 : Shape := ⟨2, ![1, 256]⟩
abbrev S384x1536 : Shape := ⟨2, ![384, 1536]⟩
abbrev S256x2048 : Shape := ⟨2, ![256, 2048]⟩
abbrev S1x4112x8x192 : Shape := ⟨4, ![1, 4112, 8, 192]⟩
abbrev S1x4112x8x128 : Shape := ⟨4, ![1, 4112, 8, 128]⟩
abbrev S256 : Shape := ⟨1, ![256]⟩
abbrev S_ : Shape := ⟨0, ![]⟩
abbrev S1x4112 : Shape := ⟨2, ![1, 4112]⟩
abbrev S1x4112x1 : Shape := ⟨3, ![1, 4112, 1]⟩
abbrev S1x1x256 : Shape := ⟨3, ![1, 1, 256]⟩
abbrev S1x4112x2048 : Shape := ⟨3, ![1, 4112, 2048]⟩
abbrev S1x4112x8x256 : Shape := ⟨4, ![1, 4112, 8, 256]⟩
abbrev S2048x256 : Shape := ⟨2, ![2048, 256]⟩
abbrev S256x8x256 : Shape := ⟨3, ![256, 8, 256]⟩
abbrev S8x256x256 : Shape := ⟨3, ![8, 256, 256]⟩

abbrev nBuf : Space → Nat
  | .hbm => 50
  | .vmem => 0
  | .smem => 0
  | _ => 0

abbrev bufTy : (tb : Table) → Fin (tcTables nBuf tb) → BufTy
  | .hbm, ⟨0, _⟩ => ⟨S1x4112x384, .f32⟩
  | .hbm, ⟨1, _⟩ => ⟨S1x4112x256, .f32⟩
  | .hbm, ⟨2, _⟩ => ⟨S1x384, .f32⟩
  | .hbm, ⟨3, _⟩ => ⟨S1x256, .f32⟩
  | .hbm, ⟨4, _⟩ => ⟨S384x1536, .f32⟩
  | .hbm, ⟨5, _⟩ => ⟨S256x2048, .f32⟩
  | .hbm, ⟨6, _⟩ => ⟨S1x4112x8x192, .f32⟩
  | .hbm, ⟨7, _⟩ => ⟨S1x4112x8x192, .f32⟩
  | .hbm, ⟨8, _⟩ => ⟨S1x4112x8x128, .f32⟩
  | .hbm, ⟨9, _⟩ => ⟨S256, .f32⟩
  | .hbm, ⟨10, _⟩ => ⟨S1x4112x256, .f32⟩
  | .hbm, ⟨11, _⟩ => ⟨S_, .f32⟩
  | .hbm, ⟨12, _⟩ => ⟨S1x4112, .f32⟩
  | .hbm, ⟨13, _⟩ => ⟨S1x4112x1, .f32⟩
  | .hbm, ⟨14, _⟩ => ⟨S_, .f32⟩
  | .hbm, ⟨15, _⟩ => ⟨S1x4112x1, .f32⟩
  | .hbm, ⟨16, _⟩ => ⟨S1x4112x1, .f32⟩
  | .hbm, ⟨17, _⟩ => ⟨S_, .f32⟩
  | .hbm, ⟨18, _⟩ => ⟨S1x4112x1, .f32⟩
  | .hbm, ⟨19, _⟩ => ⟨S1x4112x1, .f32⟩
  | .hbm, ⟨20, _⟩ => ⟨S1x4112x1, .f32⟩
  | .hbm, ⟨21, _⟩ => ⟨S1x4112x256, .f32⟩
  | .hbm, ⟨22, _⟩ => ⟨S1x4112x256, .f32⟩
  | .hbm, ⟨23, _⟩ => ⟨S1x1x256, .f32⟩
  | .hbm, ⟨24, _⟩ => ⟨S1x4112x256, .f32⟩
  | .hbm, ⟨25, _⟩ => ⟨S1x4112x256, .f32⟩
  | .hbm, ⟨26, _⟩ => ⟨S1x4112x2048, .f32⟩
  | .hbm, ⟨27, _⟩ => ⟨S1x4112x8x256, .f32⟩
  | .hbm, ⟨28, _⟩ => ⟨S1x4112x8x128, .f32⟩
  | .hbm, ⟨29, _⟩ => ⟨S1x4112x8x128, .f32⟩
  | .hbm, ⟨30, _⟩ => ⟨S1x4112x8x128, .f32⟩
  | .hbm, ⟨31, _⟩ => ⟨S_, .f32⟩
  | .hbm, ⟨32, _⟩ => ⟨S1x4112x8x256, .f32⟩
  | .hbm, ⟨33, _⟩ => ⟨S_, .f32⟩
  | .hbm, ⟨34, _⟩ => ⟨S1x4112x8x256, .f32⟩
  | .hbm, ⟨35, _⟩ => ⟨S1x4112x8x256, .f32⟩
  | .hbm, ⟨36, _⟩ => ⟨S1x4112x2048, .f32⟩
  | .hbm, ⟨37, _⟩ => ⟨S2048x256, .f32⟩
  | .hbm, ⟨38, _⟩ => ⟨S256x2048, .f32⟩
  | .hbm, ⟨39, _⟩ => ⟨S1x4112x256, .f32⟩
  | .hbm, ⟨40, _⟩ => ⟨S1x4112x256, .f32⟩
  | .hbm, ⟨41, _⟩ => ⟨S_, .f32⟩
  | .hbm, ⟨42, _⟩ => ⟨S1x256, .f32⟩
  | .hbm, ⟨43, _⟩ => ⟨S1x1x256, .f32⟩
  | .hbm, ⟨44, _⟩ => ⟨S_, .f32⟩
  | .hbm, ⟨45, _⟩ => ⟨S256, .f32⟩
  | .hbm, ⟨46, _⟩ => ⟨S1x256, .f32⟩
  | .hbm, ⟨47, _⟩ => ⟨S256x8x256, .f32⟩
  | .hbm, ⟨48, _⟩ => ⟨S8x256x256, .f32⟩
  | .hbm, ⟨49, _⟩ => ⟨S8x256x256, .bf16⟩
  | _, _ => ⟨S1x4112x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Proof.GateBody.lean ====
/- What the body of the gate's backward kernel leaves after one grid point: each output block, and the running
   sum that it carries, at an index, from the blocks that the point reads. -/
module

public import proofs.«01_k».proof.Proof.Gen.GateKernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Gate

open Cert.GateKernelIdeal Cert.GateKernelIdeal.Gen Idealize.ShloMosaic Idealize.ShloMosaic.TcCoe Idealize.SL.Sem

variable (m : (ℓ : Loc nD τ sig) → Buf (Elt Ideal) ℓ)

/-- The block of the attention's output that a grid point reads. -/
abbrev ov (c : Dev nD) (t : Fin cfg0.N) : Vec Ideal S384x1024 .f32 := iblk m c 0 t
/-- The block of the gate. -/
abbrev gt (c : Dev nD) (t : Fin cfg0.N) : Vec Ideal S384x1024 .bf16 := iblk m c 1 t
/-- The block of the cotangent. -/
abbrev ct (c : Dev nD) (t : Fin cfg0.N) : Vec Ideal S384x1024 .f32 := iblk m c 2 t
/-- The projection, which is one block. -/
abbrev wo (c : Dev nD) (t : Fin cfg0.N) : Vec Ideal S1024x1024 .bf16 := iblk m c 3 t

/-- The cotangent of the gated output: the cotangent times the transposed projection. -/
def dyB (c : Dev nD) (t : Fin cfg0.N) (r : Fin 384) (l : Fin 1024) : EReal :=
  ∑ k : Fin 1024, ct m c t (ix2 r k) * wo m c t (ix2 l k)

/-- The gate's own factor: `x` times the logistic function of `x`. -/
def siluB (c : Dev nD) (t : Fin cfg0.N) (r : Fin 384) (l : Fin 1024) : EReal :=
  gt m c t (ix2 r l) * Ideal.logistic (gt m c t (ix2 r l))

theorem do_payload (c : Dev nD) (t : Fin cfg0.N) :
    (outsAt0 m c t.val t.isLt).1 = k0_pay14 (F := Ideal) (gt m c t) (ct m c t) (wo m c t) := by
  by_cases h0 : t.val % 11 = 0
  · rw [outsAt0_A m c t h0 (by omega)]; dsimp only; frame_out
  · by_cases h1 : t.val % 11 = 10
    · rw [outsAt0_C m c t h0 h1]; dsimp only; frame_out
    · rw [outsAt0_B m c t h0 h1]; dsimp only; frame_out

theorem do_block (c : Dev nD) (t : Fin cfg0.N) (r : Fin 384) (l : Fin 1024) :
    (outsAt0 m c t.val t.isLt).1 (ix2 r l) = dyB m c t r l * siluB m c t r l := by
  rw [do_payload]
  pointwise [k0_pay14, k0_pay13, k0_pay10, k0_pay9, k0_pay11]
  rfl

theorem dgate_block (c : Dev nD) (t : Fin cfg0.N) (r : Fin 384) (l : Fin 1024) :
    (outsAt0 m c t.val t.isLt).2.1 (ix2 r l) = dyB m c t r l * ov m c t (ix2 r l) *
      (Ideal.logistic (gt m c t (ix2 r l)) * (1 + gt m c t (ix2 r l) * (1 - Ideal.logistic (gt m c t (ix2 r l))))) := by
  have e : (outsAt0 m c t.val t.isLt).2.1 = k0_pay16 (F := Ideal) (k0_pay15 (F := Ideal) (ov m c t) (gt m c t) (ct m c t) (wo m c t)) := by
    by_cases h0 : t.val % 11 = 0
    · rw [outsAt0_A m c t h0 (by omega)]; dsimp only; frame_out
    · by_cases h1 : t.val % 11 = 10
      · rw [outsAt0_C m c t h0 h1]; dsimp only; frame_out
      · rw [outsAt0_B m c t h0 h1]; dsimp only; frame_out
  rw [e]
  pointwise [k0_pay16, k0_pay15, k0_pay13, k0_pay10, k0_pay9, k0_pay11, k0_pay8]
  rfl

/-- The part of the projection's gradient that one grid point adds. -/
def dwB (c : Dev nD) (t : Fin cfg0.N) (a b : Fin 1024) : EReal :=
  ∑ r : Fin 384, ov m c t (ix2 r a) * siluB m c t r a * ct m c t (ix2 r b)

theorem acc_payload (o : Vec Ideal S384x1024 .f32) (g : Vec Ideal S384x1024 .bf16) (d : Vec Ideal S384x1024 .f32)
    (x : Vec Ideal S1024x1024 .f32) (a b : Fin 1024) :
    k0_pay12 (F := Ideal) o g d x (ix2 a b)
      = x (ix2 a b) + ∑ r : Fin 384, o (ix2 r a) * (g (ix2 r a) * Ideal.logistic (g (ix2 r a))) * d (ix2 r b) := by
  pointwise [k0_pay12, k0_pay13, k0_pay10, k0_pay9, k0_pay11, k0_pay8]

theorem acc_first (c : Dev nD) (t : Fin cfg0.N) (h0 : t.val % 11 = 0) (a b : Fin 1024) :
    (outsAt0 m c t.val t.isLt).2.2.2.2 (ix2 a b) = dwB m c t a b := by
  have e : (outsAt0 m c t.val t.isLt).2.2.2.2
      = k0_pay12 (F := Ideal) (ov m c t) (gt m c t) (ct m c t) (k0_pay7 (F := Ideal)) := by
    rw [outsAt0_A m c t h0 (by omega)]; dsimp only; frame_out
  rw [e, acc_payload]
  have z : k0_pay7 (F := Ideal) (ix2 a b) = 0 := by pointwise [k0_pay7]
  rw [z, zero_add]; rfl

theorem acc_next (c : Dev nD) (t : Fin cfg0.N) (h0 : ¬t.val % 11 = 0) (a b : Fin 1024) :
    (outsAt0 m c t.val t.isLt).2.2.2.2 (ix2 a b)
      = (outsAt0 m c (t.val - 1) (Nat.lt_of_le_of_lt (Nat.sub_le _ _) t.isLt)).2.2.2.2 (ix2 a b) + dwB m c t a b := by
  have e : (outsAt0 m c t.val t.isLt).2.2.2.2 = k0_pay12 (F := Ideal) (ov m c t) (gt m c t) (ct m c t)
      (outsAt0 m c (t.val - 1) (Nat.lt_of_le_of_lt (Nat.sub_le _ _) t.isLt)).2.2.2.2 := by
    by_cases h1 : t.val % 11 = 10
    · rw [outsAt0_C m c t h0 h1]; dsimp only; frame_out; simp only [read_unread_whole]
    · rw [outsAt0_B m c t h0 h1]; dsimp only; frame_out; simp only [read_unread_whole]
  rw [e, acc_payload]; rfl

theorem dw_block (c : Dev nD) (t : Fin cfg0.N) (h1 : t.val % 11 = 10) (a b : Fin 1024) :
    (outsAt0 m c t.val t.isLt).2.2.1 (ix2 a b) = (outsAt0 m c t.val t.isLt).2.2.2.2 (ix2 a b) := by
  have h0 : ¬t.val % 11 = 0 := by omega
  rw [outsAt0_C m c t h0 h1]; dsimp only
  frame_out
  pointwise [k0_pay6]

/-- Of two arrays, each head's sum over its 128 columns of their product, one row per head. -/
def headSums (o : Vec Ideal S384x1024 .f32) (q : Vec Ideal S384x1024 .bf16) : Vec Ideal S8x1x1x384 .f32 := fun y =>
  (∑ k : Fin 128, q (ix2 (y 3) ⟨(y 0).val * 128 + k.val, by have : (y 0).val < 8 := (y 0).isLt; omega⟩)
    * o (ix2 (y 3) ⟨(y 0).val * 128 + k.val, by have : (y 0).val < 8 := (y 0).isLt; omega⟩) : EReal)

/-- The eight stores of the body, one per head, are those sums. -/
theorem headSums_stores (o : Vec Ideal S384x1024 .f32) (q : Vec Ideal S384x1024 .bf16) :
    View.canon [⟨Rect.unit ![7, 0, 0, 0] ![1, 1, 1, 384] inb_S8x1x1x384_S1x1x1x384_7_0_0_0,
        k0_pay5 (k0_pay19 (k0_pay17 (F := Ideal) o q) (iota Kind.tc S384x128 32 [1] iota_S384x128_d1_w32) (k0_pay18 (F := Ideal) o q))⟩,
      ⟨Rect.unit ![6, 0, 0, 0] ![1, 1, 1, 384] inb_S8x1x1x384_S1x1x1x384_6_0_0_0,
        k0_pay4 (k0_pay19 (k0_pay17 (F := Ideal) o q) (iota Kind.tc S384x128 32 [1] iota_S384x128_d1_w32) (k0_pay18 (F := Ideal) o q))⟩,
      ⟨Rect.unit ![5, 0, 0, 0] ![1, 1, 1, 384] inb_S8x1x1x384_S1x1x1x384_5_0_0_0,
        k0_pay3 (k0_pay19 (k0_pay17 (F := Ideal) o q) (iota Kind.tc S384x128 32 [1] iota_S384x128_d1_w32) (k0_pay18 (F := Ideal) o q))⟩,
      ⟨Rect.unit ![4, 0, 0, 0] ![1, 1, 1, 384] inb_S8x1x1x384_S1x1x1x384_4_0_0_0,
        k0_pay2 (k0_pay19 (k0_pay17 (F := Ideal) o q) (iota Kind.tc S384x128 32 [1] iota_S384x128_d1_w32) (k0_pay18 (F := Ideal) o q))⟩,
      ⟨Rect.unit ![3, 0, 0, 0] ![1, 1, 1, 384] inb_S8x1x1x384_S1x1x1x384_3_0_0_0,
        k0_pay1 (k0_pay23 (k0_pay17 (F := Ideal) o q) (iota Kind.tc S384x128 32 [1] iota_S384x128_d1_w32) (k0_pay18 (F := Ideal) o q))⟩,
      ⟨Rect.unit ![2, 0, 0, 0] ![1, 1, 1, 384] inb_S8x1x1x384_S1x1x1x384_2_0_0_0,
        k0_pay22 (k0_pay17 (F := Ideal) o q) (iota Kind.tc S384x128 32 [1] iota_S384x128_d1_w32) (k0_pay18 (F := Ideal) o q)⟩,
      ⟨Rect.unit ![1, 0, 0, 0] ![1, 1, 1, 384] inb_S8x1x1x384_S1x1x1x384_1_0_0_0,
        k0_pay21 (k0_pay17 (F := Ideal) o q) (iota Kind.tc S384x128 32 [1] iota_S384x128_d1_w32) (k0_pay18 (F := Ideal) o q)⟩,
      ⟨Rect.unit ![0, 0, 0, 0] ![1, 1, 1, 384] inb_S8x1x1x384_S1x1x1x384_0_0_0_0,
        k0_pay20 (k0_pay17 (F := Ideal) o q) (iota Kind.tc S384x128 32 [1] iota_S384x128_d1_w32) (k0_pay18 (F := Ideal) o q)⟩] = headSums o q := by
  funext z
  canon_tiles y h
  all_goals
    idx_vars y
    pointwise [headSums, k0_pay1, k0_pay2, k0_pay3, k0_pay4, k0_pay5, k0_pay20, k0_pay21, k0_pay22, k0_pay23, k0_pay19, k0_pay18, k0_pay17]
    obtain rfl : y0 = 0 := Subsingleton.elim _ _
    have e3 : z 3 = y3 := Fin.ext h3
    simp [Scalar.select, IntOp.cmpi, e3, h0]

/-- The kernel's row of sums: for each head the sum over its 128 columns of the product of the attention output's
    cotangent and the attention's output. -/
theorem delta_block (c : Dev nD) (t : Fin cfg0.N) :
    (outsAt0 m c t.val t.isLt).2.2.2.1 = headSums (ov m c t) (outsAt0 m c t.val t.isLt).1 := by
  have e : (outsAt0 m c t.val t.isLt).1 = k0_pay14 (F := Ideal) (gt m c t) (ct m c t) (wo m c t) := do_payload m c t
  have e8 : k0_pay8 (F := Ideal) (ov m c t) = ov m c t := by funext j; idx_vars j; pointwise [k0_pay8]
  rw [e]
  by_cases h0 : t.val % 11 = 0
  · rw [outsAt0_A m c t h0 (by omega)]; dsimp only; frame_out
    rw [e8]; exact headSums_stores _ _
  · by_cases h1 : t.val % 11 = 10
    · rw [outsAt0_C m c t h0 h1]; dsimp only; frame_out
      rw [e8]; exact headSums_stores _ _
    · rw [outsAt0_B m c t h0 h1]; dsimp only; frame_out
      rw [e8]; exact headSums_stores _ _

end Cert.Gate

end
-- ==== Proof.Arith.lean ====
/- Facts about the extended reals used by every value claim of this certificate: a finite sum, the logistic function, the
   reciprocal square root and a quotient at real arguments are reals, and an entry whose absolute value is below the
   float's infinity is a real. -/
module

public import Idealize.ShloMosaic.Lib.Pointwise
public import Idealize.ShloMosaic.Lib.IdealHost
public import Idealize.ShloMosaic.Lib.Pipeline.CanonAppend

@[expose] public section

noncomputable section

namespace Cert.Arith

open Idealize.ShloMosaic

/-- A finite sum of reals, taken in the extended reals, is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The logistic function at a real. -/
def sig (r : ℝ) : ℝ := (1 + Real.exp (-r))⁻¹

theorem logistic_den_pos (r : ℝ) : 0 < 1 + Real.exp (-r) := by positivity

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem exp_neg_coe (r : ℝ) : Ideal.exp (-(r : EReal)) = ((Real.exp (-r) : ℝ) : EReal) := by
  rw [← EReal.coe_neg]; rfl

theorem logistic_coe (r : ℝ) : Ideal.logistic (r : EReal) = (sig r : EReal) := by
  unfold Ideal.logistic sig
  rw [exp_neg_coe, ← EReal.coe_one, ← EReal.coe_add, div_coe _ _ (logistic_den_pos r).ne', one_div]

/-- The same function as the quotient that the host's text spells. -/
theorem one_div_coe (r : ℝ) : Ideal.div 1 (1 + Ideal.exp (-(r : EReal))) = (sig r : EReal) := logistic_coe r

theorem rsqrt_coe (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg hr.le.not_gt, if_neg hr.ne']

/-- An entry whose absolute value compares below the infinity is a real. -/
theorem exists_real {x : EReal} (h : FloatOps.cmpf (F := Ideal) (φ := .f32) .olt (FloatOps.absf (F := Ideal) (φ := .f32) x) (Ideal.ofBits .f32 0x7F800000#32) = 1#1) :
    ∃ r : ℝ, x = (r : EReal) := by
  have hinf : Ideal.ofBits .f32 0x7F800000#32 = (⊤ : EReal) := by simp [Ideal.ofBits, Ideal.ieee]
  induction x using EReal.rec with
  | bot => simp [hinf, FloatOps.cmpf, FloatOps.absf, Ideal.cmp] at h
  | coe r => exact ⟨r, rfl⟩
  | top => simp [hinf, FloatOps.cmpf, FloatOps.absf, Ideal.cmp] at h

/-- The integer zero, converted. -/
theorem sitofp_zero : FloatOps.sitofp (F := Ideal) FTy.f32 0#32 = (0 : EReal) := by
  show (((0#32 : BitVec 32).toInt : ℝ) : EReal) = 0
  simp

/-- Rows of an array, followed by rows of zeros. -/
def padRow {n : ℕ} {α : Type} (x : Fin n → α → EReal) (R : ℕ) (l : α) : EReal := if h : R < n then x ⟨R, h⟩ l else 0

theorem padRow_lt {n : ℕ} {α : Type} (x : Fin n → α → EReal) (R : ℕ) (l : α) (h : R < n) : padRow x R l = x ⟨R, h⟩ l := dif_pos h

theorem padRow_ge {n : ℕ} {α : Type} (x : Fin n → α → EReal) (R : ℕ) (l : α) (h : ¬R < n) : padRow x R l = 0 := dif_neg h

/-- A running sum that takes `J` further terms at each step is the sum of the terms so far. -/
theorem running_sum (J : ℕ) (f : ℕ → EReal) (N : ℕ) (acc : (n : ℕ) → n < N → EReal)
    (h0 : ∀ h : 0 < N, acc 0 h = ∑ r : Fin J, f (0 * J + r.val))
    (hs : ∀ n (h : n + 1 < N), acc (n + 1) h = acc n (by omega) + ∑ r : Fin J, f ((n + 1) * J + r.val)) :
    ∀ n (h : n < N), acc n h = ∑ R ∈ Finset.range ((n + 1) * J), f R := by
  intro n
  induction n with
  | zero =>
    intro h
    rw [h0 h, show (0 + 1) * J = J by ring, Finset.sum_range]
    simp only [zero_mul, zero_add]
  | succ n ih =>
    intro h
    rw [hs n h, ih (by omega), show (n + 1 + 1) * J = (n + 1) * J + J by ring, Finset.sum_range_add, Finset.sum_range (fun x => f ((n + 1) * J + x))]

/-- A sum whose terms are zero from the `n`-th on is the sum of the first `n`. -/
theorem sum_pad (n k : ℕ) (hnk : n ≤ k) (f : ℕ → EReal) (hz : ∀ R, n ≤ R → f R = 0) :
    ∑ R ∈ Finset.range k, f R = ∑ p : Fin n, f p.val := by
  obtain ⟨d, rfl⟩ := Nat.exists_eq_add_of_le hnk
  rw [Finset.sum_range_add, Finset.sum_eq_zero (fun x _ => hz (n + x) (by omega)), add_zero, Finset.sum_range]

/-- A sum over groups of columns is the sum over the columns. -/
theorem sum_groups (a b : ℕ) (g : Fin (a * b) → EReal) :
    ∑ d : Fin a, ∑ k : Fin b, g ⟨d.val * b + k.val, by
      calc d.val * b + k.val < d.val * b + b := by omega
        _ = (d.val + 1) * b := by ring
        _ ≤ a * b := Nat.mul_le_mul_right _ d.isLt⟩ = ∑ n, g n := by
  rw [← Fintype.sum_prod_type']
  refine Fintype.sum_equiv finProdFinEquiv _ _ fun x => congrArg g (Fin.ext ?_)
  show x.1.val * b + x.2.val = x.2.val + b * x.1.val
  ring

open Idealize.ShloMosaic.View in
/-- Stores that cover an index leave there what they leave over any earlier stores. -/
theorem canon_over {Val : EltTy → Type} {S : Shape} {e : EltTy} [∀ e, Nonempty (Val e)] (L' : List (Piece Val S e)) :
    ∀ (L : List (Piece Val S e)) (y : S.Idx), (∃ p ∈ L, y ∈ p.1.set) → canon (L ++ L') y = canon L y
  | [], _, hc => by obtain ⟨p, hp, _⟩ := hc; exact absurd hp List.not_mem_nil
  | p :: L, y, hc => by
    by_cases hm : y ∈ p.1.set
    · obtain ⟨x, rfl⟩ := p.1.exists_idx_of_mem hm
      rw [List.cons_append, show p.1.idx x = p.1.emb x from rfl, canon_cons_emb, canon_cons_emb]
    · rw [List.cons_append, canon_cons_of_not_mem _ _ hm, canon_cons_of_not_mem _ _ hm]
      refine canon_over L' L y ?_
      obtain ⟨q, hq, hyq⟩ := hc
      rcases List.mem_cons.mp hq with rfl | hq'
      · exact absurd hyq hm
      · exact ⟨q, hq', hyq⟩

end Cert.Arith

end
-- ==== Proof.GateArray.lean ====
/- What the gate's backward kernel leaves in its four output arrays, at an index, from the arrays it is called with:
   the host pads the rows to eleven blocks of 384, the blocks are put together, and the projection's gradient is the
   running sum over the blocks. -/
module

public import proofs.«01_k».proof.Proof.GateBody
public import proofs.«01_k».proof.Proof.Arith
public import Idealize.ShloMosaic.Lib.StableHlo.ReadAt

@[expose] public section

set_option maxRecDepth 16384

noncomputable section

namespace Cert.Gate

open Cert.GateKernelIdeal Cert.GateKernelIdeal.Gen Idealize.ShloMosaic Idealize.ShloMosaic.TcCoe Idealize.SL.Sem Cert.Arith

variable (m : (ℓ : Loc nD τ sig) → Buf (Elt Ideal) ℓ)

theorem index_eq : ∀ t : Fin grid0.N, win0_0.index t = ![t.val, 0] ∧ win0_1.index t = ![t.val, 0]
    ∧ win0_2.index t = ![t.val, 0] ∧ win0_3.index t = ![0, 0] := by decide +kernel

theorem point_lt (t : Fin cfg0.N) : t.val < 11 := lt_of_lt_of_eq t.isLt (show cfg0.N = 11 from N_0)

/-- The attention's output, a row per position. -/
def A (c : Dev nD) (p : Fin 4112) (l : Fin 1024) : EReal :=
  m (c, Proc.tc.devRef main_arg0) (ix4 (0 : Fin 1) p (⟨l.val / 128, by omega⟩ : Fin 8) (⟨l.val % 128, by omega⟩ : Fin 128))
/-- The gate. -/
def X (c : Dev nD) (p : Fin 4112) (l : Fin 1024) : EReal := m (c, Proc.tc.devRef main_arg1) (ix3 (0 : Fin 1) p l)
/-- The projection. -/
def W (c : Dev nD) (a b : Fin 1024) : EReal := m (c, Proc.tc.devRef main_arg2) (ix2 a b)
/-- The cotangent. -/
def C (c : Dev nD) (p : Fin 4112) (l : Fin 1024) : EReal := m (c, Proc.tc.devRef main_arg3) (ix3 (0 : Fin 1) p l)

theorem entry_ov (c : Dev nD) (R : Fin 4224) (l : Fin 1024) :
    @Eq EReal (V m c main_v1 (ix2 R l)) (padRow (A m c) R.val l) := by
  simp only [V, List.flatten_cons, List.flatten_nil, List.cons_append, List.nil_append, hostOps0, hostOps0_1, hostOps0_2,
    hostOps0_3, hostOps0_4, hostOps0_5, hostOps0_6]
  after_reads_at
  rw [sitofp_zero]; rfl

theorem entry_gt (c : Dev nD) (R : Fin 4224) (l : Fin 1024) :
    @Eq EReal (V m c main_v4 (ix2 R l)) (padRow (X m c) R.val l) := by
  simp only [V, List.flatten_cons, List.flatten_nil, List.cons_append, List.nil_append, hostOps0, hostOps0_1, hostOps0_2,
    hostOps0_3, hostOps0_4, hostOps0_5, hostOps0_6]
  after_reads_at
  rw [sitofp_zero]; rfl

theorem entry_ct (c : Dev nD) (R : Fin 4224) (l : Fin 1024) :
    @Eq EReal (V m c main_v6 (ix2 R l)) (padRow (C m c) R.val l) := by
  simp only [V, List.flatten_cons, List.flatten_nil, List.cons_append, List.nil_append, hostOps0, hostOps0_1, hostOps0_2,
    hostOps0_3, hostOps0_4, hostOps0_5, hostOps0_6]
  after_reads_at
  rw [sitofp_zero]; rfl

theorem entry_wo (c : Dev nD) (a b : Fin 1024) : @Eq EReal (V m c main_v7 (ix2 a b)) (W m c a b) := by
  simp only [V, List.flatten_cons, List.flatten_nil, List.cons_append, List.nil_append, hostOps0, hostOps0_1, hostOps0_2,
    hostOps0_3, hostOps0_4, hostOps0_5, hostOps0_6]
  after_reads_at
  rfl

theorem ov_at (c : Dev nD) (t : Fin cfg0.N) (r : Fin 384) (l : Fin 1024) :
    ov m c t (ix2 r l) = padRow (A m c) (t.val * 384 + r.val) l := by
  have ht := point_lt t
  rw [show ov m c t (ix2 r l) = V m c main_v1 (ix2 ⟨t.val * 384 + r.val, by omega⟩ l) by blk_ext [ov, iblk, index_eq t]]
  exact entry_ov m c _ l

theorem gt_at (c : Dev nD) (t : Fin cfg0.N) (r : Fin 384) (l : Fin 1024) :
    gt m c t (ix2 r l) = padRow (X m c) (t.val * 384 + r.val) l := by
  have ht := point_lt t
  rw [show gt m c t (ix2 r l) = V m c main_v4 (ix2 ⟨t.val * 384 + r.val, by omega⟩ l) by blk_ext [gt, iblk, index_eq t]]
  exact entry_gt m c _ l

theorem ct_at (c : Dev nD) (t : Fin cfg0.N) (r : Fin 384) (l : Fin 1024) :
    ct m c t (ix2 r l) = padRow (C m c) (t.val * 384 + r.val) l := by
  have ht := point_lt t
  rw [show ct m c t (ix2 r l) = V m c main_v6 (ix2 ⟨t.val * 384 + r.val, by omega⟩ l) by blk_ext [ct, iblk, index_eq t]]
  exact entry_ct m c _ l

theorem wo_at (c : Dev nD) (t : Fin cfg0.N) (a b : Fin 1024) : wo m c t (ix2 a b) = W m c a b := by
  rw [show wo m c t (ix2 a b) = V m c main_v7 (ix2 a b) by blk_ext [wo, iblk, index_eq t]]
  exact entry_wo m c a b

/-- The cotangent of the gated output at a row. -/
def dy (c : Dev nD) (R : ℕ) (l : Fin 1024) : EReal := ∑ k : Fin 1024, padRow (C m c) R k * W m c l k
/-- The gate's factor at a row. -/
def silu (c : Dev nD) (R : ℕ) (l : Fin 1024) : EReal := padRow (X m c) R l * Ideal.logistic (padRow (X m c) R l)

theorem dyB_at (c : Dev nD) (t : Fin cfg0.N) (r : Fin 384) (l : Fin 1024) : dyB m c t r l = dy m c (t.val * 384 + r.val) l := by
  unfold dyB dy
  simp only [ct_at, wo_at]

theorem siluB_at (c : Dev nD) (t : Fin cfg0.N) (r : Fin 384) (l : Fin 1024) : siluB m c t r l = silu m c (t.val * 384 + r.val) l := by
  unfold siluB silu
  simp only [gt_at]

/-- The kernel's array of the attention output's cotangent. -/
theorem do_array (c : Dev nD) (R : Fin 4224) (l : Fin 1024) :
    Value.G4 m c (ix2 R l) = dy m c R.val l * silu m c R.val l := by
  have hp : Value.pt4Of (ix2 R l) = R.val / 384 := by
    show 1 * (R.val / 384 - 0) + 1 * (l.val / 1024 - 0) = _
    omega
  have hN : R.val / 384 < cfg0.N := lt_of_lt_of_eq (by omega) N_0.symm
  have hl : Value.loc4Of (ix2 R l) = ix2 (⟨R.val % 384, by omega⟩ : Fin 384) l := by
    funext a; fin_cases a
    · rfl
    · exact Fin.ext (Nat.mod_eq_of_lt l.isLt)
  unfold Value.G4
  simp only [hp]
  rw [dif_pos hN, ← Value.outsAt0_sweep m c _ hN, hl, do_block m c ⟨_, hN⟩, dyB_at, siluB_at]
  dsimp only
  rw [Nat.div_add_mod' R.val 384]

/-- The kernel's array of the gate's cotangent. -/
theorem dgate_array (c : Dev nD) (R : Fin 4224) (l : Fin 1024) :
    Value.G5 m c (ix2 R l) = dy m c R.val l * padRow (A m c) R.val l *
      (Ideal.logistic (padRow (X m c) R.val l) * (1 + padRow (X m c) R.val l * (1 - Ideal.logistic (padRow (X m c) R.val l)))) := by
  have hp : Value.pt5Of (ix2 R l) = R.val / 384 := by
    show 1 * (R.val / 384 - 0) + 1 * (l.val / 1024 - 0) = _
    omega
  have hN : R.val / 384 < cfg0.N := lt_of_lt_of_eq (by omega) N_0.symm
  have hl : Value.loc5Of (ix2 R l) = ix2 (⟨R.val % 384, by omega⟩ : Fin 384) l := by
    funext a; fin_cases a
    · rfl
    · exact Fin.ext (Nat.mod_eq_of_lt l.isLt)
  unfold Value.G5
  simp only [hp]
  rw [dif_pos hN, ← Value.outsAt0_sweep m c _ hN, hl, dgate_block m c ⟨_, hN⟩, dyB_at, ov_at, gt_at]
  dsimp only
  rw [Nat.div_add_mod' R.val 384]

/-- The kernel's array of row sums. -/
theorem delta_array (c : Dev nD) (h : Fin 8) (b : Fin 11) (r : Fin 384) :
    @Eq EReal (Value.G7 m c (ix4 h b 0 r)) (∑ k : Fin 128, dy m c (b.val * 384 + r.val) ⟨h.val * 128 + k.val, by omega⟩
      * silu m c (b.val * 384 + r.val) ⟨h.val * 128 + k.val, by omega⟩
      * padRow (A m c) (b.val * 384 + r.val) ⟨h.val * 128 + k.val, by omega⟩) := by
  have hp : Value.pt7Of (ix4 h b 0 r) = b.val := by
    show 11 * (h.val / 8 - 0) + 1 * (b.val / 1 - 0) + 1 * (0 / 1 - 0) + 1 * (r.val / 384 - 0) = _
    omega
  have hN : b.val < cfg0.N := lt_of_lt_of_eq b.isLt N_0.symm
  have hl : Value.loc7Of (ix4 h b 0 r) = ix4 h (0 : Fin 1) (0 : Fin 1) r := by
    funext a; fin_cases a
    · exact Fin.ext (Nat.mod_eq_of_lt h.isLt)
    · exact Fin.ext (Nat.mod_one _)
    · rfl
    · exact Fin.ext (Nat.mod_eq_of_lt r.isLt)
  unfold Value.G7
  simp only [hp]
  rw [dif_pos hN, ← Value.outsAt0_sweep m c _ hN, hl, delta_block m c ⟨_, hN⟩]
  unfold headSums
  refine Finset.sum_congr rfl fun k _ => ?_
  show (outsAt0 m c b.val hN).1 (ix2 r ⟨h.val * 128 + k.val, _⟩) * ov m c ⟨b.val, hN⟩ (ix2 r ⟨h.val * 128 + k.val, _⟩) = _
  rw [do_block m c ⟨_, hN⟩, dyB_at, siluB_at, ov_at]

/-- A row's term in the projection's gradient. -/
def dwTerm (c : Dev nD) (a b : Fin 1024) (R : ℕ) : EReal := padRow (A m c) R a * silu m c R a * padRow (C m c) R b

theorem acc_at (c : Dev nD) (a b : Fin 1024) : ∀ n (h : n < cfg0.N),
    (outsAt0 m c n h).2.2.2.2 (ix2 a b) = ∑ R ∈ Finset.range ((n + 1) * 384), dwTerm m c a b R := by
  have hB : ∀ t : Fin cfg0.N, dwB m c t a b = ∑ r : Fin 384, dwTerm m c a b (t.val * 384 + r.val) := by
    intro t
    unfold dwB dwTerm
    simp only [ov_at, siluB_at, ct_at]
  refine running_sum 384 (dwTerm m c a b) cfg0.N (fun n h => (outsAt0 m c n h).2.2.2.2 (ix2 a b)) ?_ ?_
  · intro h
    rw [← hB ⟨0, h⟩]
    exact acc_first m c ⟨0, h⟩ (Nat.zero_mod _) a b
  · intro n h
    have hn := point_lt ⟨n + 1, h⟩
    rw [← hB ⟨n + 1, h⟩]
    exact acc_next m c ⟨n + 1, h⟩ (by dsimp only at hn ⊢; omega) a b

/-- The kernel's array of the projection's gradient. -/
theorem dw_array (c : Dev nD) (a b : Fin 1024) :
    @Eq EReal (Value.G6 m c (ix2 a b)) (∑ p : Fin 4112, A m c p a * silu m c p.val a * C m c p b) := by
  have hN : 10 < cfg0.N := lt_of_lt_of_eq (by decide) N_0.symm
  rw [Value.G6_last, ← Value.outsAt0_sweep m c 10 hN, dw_block m c ⟨10, hN⟩ rfl, acc_at m c a b 10 hN,
    sum_pad 4112 _ (by decide) _ fun R hR => by unfold dwTerm; rw [padRow_ge _ _ _ (by omega), zero_mul, zero_mul]]
  refine Finset.sum_congr rfl fun p _ => ?_
  unfold dwTerm
  rw [padRow_lt _ _ _ p.isLt, padRow_lt _ _ _ p.isLt]

end Cert.Gate

end
-- ==== Proof.GateReference.lean ====
/- What the reference of the gate's backward call computes, at an index. -/
module

public import proofs.«01_k».proof.Proof.Gen.GateReferenceIdeal.Read
public import proofs.«01_k».proof.Proof.Arith

@[expose] public section

set_option maxRecDepth 16384

noncomputable section

namespace Cert.GateRef

open Cert.GateReferenceIdeal Cert.GateReferenceIdeal.Gen Cert.GateReferenceIdeal.Read
open Idealize.ShloMosaic Idealize.ShloMosaic.TcCoe Idealize.SL.Sem Cert.Arith

variable (x0 : Vec Ideal S1x4112x8x128 .f32) (x1 : Vec Ideal S1x4112x1024 .f32) (x2 : Vec Ideal S1024x1024 .f32)
  (x3 : Vec Ideal S1x4112x1024 .f32)

/-- The attention's output, its heads side by side. -/
def attn (p : Fin 4112) (l : Fin 1024) : EReal :=
  x0 (ix4 (0 : Fin 1) p (⟨l.val / 128, by omega⟩ : Fin 8) (⟨l.val % 128, by omega⟩ : Fin 128))
/-- The cotangent of the gated output. -/
def dy (p : Fin 4112) (l : Fin 1024) : EReal := ∑ k : Fin 1024, x3 (ix3 (0 : Fin 1) p k) * x2 (ix2 l k)
/-- The logistic function of the gate. -/
def sg (p : Fin 4112) (l : Fin 1024) : EReal := Ideal.logistic (x1 (ix3 (0 : Fin 1) p l))

theorem do_at (R : Fin 4224) (l : Fin 1024) : @Eq EReal (val_main_v15 (F := Ideal) x1 x2 x3 (ix2 R l))
    (padRow (fun p l => dy x2 x3 p l * (x1 (ix3 (0 : Fin 1) p l) * sg x1 p l)) R.val l) := by
  pointwise [val_main_v15, val_main_v14, val_main_c, val_main_call2_v0, val_main_v13, val_main_v10, val_main_v8, val_main_v6,
    val_main_v1_0, val_main_v1_2, val_main_call0_v0, val_main_call0_v1, val_main_call0_cst, val_main_call0_v2,
    val_main_call0_v3, val_main_call0_cst_0, val_main_call0_v4]
  rw [sitofp_zero]; rfl

theorem dgate_at (R : Fin 4224) (l : Fin 1024) : @Eq EReal (val_main_v18 (F := Ideal) x0 x1 x2 x3 (ix2 R l))
    (padRow (fun p l => attn x0 p l * dy x2 x3 p l * sg x1 p l
      + x1 (ix3 (0 : Fin 1) p l) * (attn x0 p l * dy x2 x3 p l) * (sg x1 p l * (1 - sg x1 p l))) R.val l) := by
  pointwise [val_main_v0, val_main_call0_v0, val_main_call0_v1, val_main_call0_cst, val_main_call0_v2, val_main_call0_v3, val_main_call0_cst_0, val_main_call0_v4, val_main_v1_2, val_main_call0_cst_1, val_main_call0_v6, val_main_call0_v7, val_main_v1_1, val_main_v1_0, val_main_v2, val_main_v3, val_main_v4, val_main_v5, val_main_v6, val_main_v7, val_main_v8, val_main_call1_v0, val_main_call1_v1, val_main_call1_v2, val_main_v9, val_main_v10, val_main_v11, val_main_cst, val_main_v12, val_main_v13, val_main_c, val_main_call2_v0, val_main_v14, val_main_v15, val_main_v16, val_main_c_0, val_main_call3_v0, val_main_v17, val_main_v18, val_main_v19, val_main_v20, val_main_c_1, val_main_call4_v0, val_main_v21, val_main_v22, val_main_v23]
  rw [sitofp_zero]; rfl

theorem dw_at (a b : Fin 1024) : @Eq EReal (val_main_v19 (F := Ideal) x0 x1 x3 (ix2 a b))
    (∑ p : Fin 4112, x3 (ix3 (0 : Fin 1) p b) * (attn x0 p a * (x1 (ix3 (0 : Fin 1) p a) * sg x1 p a))) := by
  pointwise [val_main_v0, val_main_call0_v0, val_main_call0_v1, val_main_call0_cst, val_main_call0_v2, val_main_call0_v3, val_main_call0_cst_0, val_main_call0_v4, val_main_v1_2, val_main_call0_cst_1, val_main_call0_v6, val_main_call0_v7, val_main_v1_1, val_main_v1_0, val_main_v2, val_main_v3, val_main_v4, val_main_v5, val_main_v6, val_main_v7, val_main_v8, val_main_call1_v0, val_main_call1_v1, val_main_call1_v2, val_main_v9, val_main_v10, val_main_v11, val_main_cst, val_main_v12, val_main_v13, val_main_c, val_main_call2_v0, val_main_v14, val_main_v15, val_main_v16, val_main_c_0, val_main_call3_v0, val_main_v17, val_main_v18, val_main_v19, val_main_v20, val_main_c_1, val_main_call4_v0, val_main_v21, val_main_v22, val_main_v23]
  rw [Fin.sum_univ_one]; rfl

theorem delta_at (h : Fin 8) (b : Fin 11) (r : Fin 384) :
    @Eq EReal (val_main_v23 (F := Ideal) x0 x1 x2 x3 (ix4 h b 0 r))
      (padRow (fun p h => ∑ k : Fin 128, dy x2 x3 p ⟨h.val * 128 + k.val, by omega⟩
        * (x1 (ix3 (0 : Fin 1) p ⟨h.val * 128 + k.val, by omega⟩) * sg x1 p ⟨h.val * 128 + k.val, by omega⟩)
        * x0 (ix4 (0 : Fin 1) p h k)) (b.val * 384 + r.val) h) := by
  pointwise [val_main_v0, val_main_call0_v0, val_main_call0_v1, val_main_call0_cst, val_main_call0_v2, val_main_call0_v3, val_main_call0_cst_0, val_main_call0_v4, val_main_v1_2, val_main_call0_cst_1, val_main_call0_v6, val_main_call0_v7, val_main_v1_1, val_main_v1_0, val_main_v2, val_main_v3, val_main_v4, val_main_v5, val_main_v6, val_main_v7, val_main_v8, val_main_call1_v0, val_main_call1_v1, val_main_call1_v2, val_main_v9, val_main_v10, val_main_v11, val_main_cst, val_main_v12, val_main_v13, val_main_c, val_main_call2_v0, val_main_v14, val_main_v15, val_main_v16, val_main_c_0, val_main_call3_v0, val_main_v17, val_main_v18, val_main_v19, val_main_v20, val_main_c_1, val_main_call4_v0, val_main_v21, val_main_v22, val_main_v23]
  unfold padRow
  split
  · rfl
  · exact sitofp_zero

end Cert.GateRef

end
-- ==== Proof.GateValue.lean ====
/- The gate's backward call: the kernel's four arrays are the reference's, for real arguments. -/
module

public import proofs.«01_k».proof.Proof.GateArray
public import proofs.«01_k».proof.Proof.GateReference
public import proofs.«01_k».proof.Proof.Gen.GateReferenceIdeal.Run
public import proofs.«01_k».proof.Defs

@[expose] public section

set_option maxRecDepth 16384

noncomputable section

namespace Cert.Gate

open Cert.GateKernelIdeal Cert.GateKernelIdeal.Gen Idealize.ShloMosaic Idealize.ShloMosaic.TcCoe Idealize.SL.Sem Cert.Arith
open Cert.GateReferenceIdeal.Read

variable (m : (ℓ : Loc nD τ sig) → Buf (Elt Ideal) ℓ)

theorem silu_lt (c : Dev nD) (p : Fin 4112) (l : Fin 1024) :
    silu m c p.val l = X m c p l * Ideal.logistic (X m c p l) := by
  unfold silu; rw [padRow_lt _ _ _ p.isLt]

theorem dy_lt (c : Dev nD) (p : Fin 4112) (l : Fin 1024) : dy m c p.val l = ∑ k : Fin 1024, C m c p k * W m c l k := by
  unfold dy
  refine Finset.sum_congr rfl fun k _ => ?_
  rw [padRow_lt _ _ _ p.isLt]

theorem dy_ge (c : Dev nD) (R : ℕ) (h : ¬R < 4112) (l : Fin 1024) : dy m c R l = 0 := by
  unfold dy
  refine Finset.sum_eq_zero fun k _ => ?_
  rw [padRow_ge _ _ _ h, zero_mul]

/-- The arguments as the reference takes them. -/
abbrev a0 (c : Dev nD) : Vec Ideal S1x4112x8x128 .f32 := m ((c : Thread nD τ).loc main_arg0)
abbrev a1 (c : Dev nD) : Vec Ideal S1x4112x1024 .f32 := m ((c : Thread nD τ).loc main_arg1)
abbrev a2 (c : Dev nD) : Vec Ideal S1024x1024 .f32 := m ((c : Thread nD τ).loc main_arg2)
abbrev a3 (c : Dev nD) : Vec Ideal S1x4112x1024 .f32 := m ((c : Thread nD τ).loc main_arg3)

theorem do_eq (c : Dev nD) : Value.G4 m c = val_main_v15 (F := Ideal) (a1 m c) (a2 m c) (a3 m c) := by
  refine funext fun (j : S4224x1024.Idx) => ?_
  idx_vars j
  rename' j0 => R, j1 => l
  refine (do_array m c R l).trans ((GateRef.do_at _ _ _ R l).trans ?_).symm
  by_cases h : R.val < 4112
  · rw [padRow_lt _ _ _ h, dy_lt m c ⟨R.val, h⟩, silu_lt m c ⟨R.val, h⟩]; rfl
  · rw [padRow_ge _ _ _ h, dy_ge m c _ h, zero_mul]

theorem dw_eq (c : Dev nD) : Value.G6 m c = val_main_v19 (F := Ideal) (a0 m c) (a1 m c) (a3 m c) := by
  refine funext fun (j : S1024x1024.Idx) => ?_
  idx_vars j
  rename' j0 => a, j1 => b
  refine (dw_array m c a b).trans ((GateRef.dw_at _ _ _ a b).trans ?_).symm
  refine Finset.sum_congr rfl fun p _ => ?_
  rw [silu_lt, mul_comm]; rfl

theorem delta_eq (c : Dev nD) : Value.G7 m c = val_main_v23 (F := Ideal) (a0 m c) (a1 m c) (a2 m c) (a3 m c) := by
  refine funext fun (j : S8x11x1x384.Idx) => ?_
  idx_vars j
  rename' j0 => h, j1 => b, j2 => z, j3 => r
  obtain rfl : z = 0 := Subsingleton.elim _ _
  refine (delta_array m c h b r).trans ((GateRef.delta_at _ _ _ _ h b r).trans ?_).symm
  by_cases hR : b.val * 384 + r.val < 4112
  · rw [padRow_lt _ _ _ hR]
    refine Finset.sum_congr rfl fun k _ => ?_
    rw [dy_lt m c ⟨_, hR⟩, silu_lt m c ⟨_, hR⟩, padRow_lt _ _ _ hR]
    unfold A
    have e1 : (⟨(h.val * 128 + k.val) / 128, by omega⟩ : Fin 8) = h := Fin.ext (by dsimp only; omega)
    have e2 : (⟨(h.val * 128 + k.val) % 128, by omega⟩ : Fin 128) = k := Fin.ext (by dsimp only; omega)
    rw [e1, e2]; rfl
  · rw [padRow_ge _ _ _ hR]
    refine (Finset.sum_eq_zero fun k _ => ?_).symm
    rw [dy_ge m c _ hR, zero_mul, zero_mul]

/-- The two ways to write the gate's cotangent agree at reals. -/
theorem gate_identity (d a x : ℝ) : (a : EReal) * d * Ideal.logistic x
      + x * (a * d) * (Ideal.logistic x * (1 - Ideal.logistic x))
    = (d : EReal) * a * (Ideal.logistic x * (1 + x * (1 - Ideal.logistic x))) := by
  rw [logistic_coe]
  have e : a * d * sig x + x * (a * d) * (sig x * (1 - sig x)) = d * a * (sig x * (1 + x * (1 - sig x))) := by ring
  exact_mod_cast congrArg (fun r : ℝ => (r : EReal)) e

theorem dgate_eq (c : Dev nD) (hA : ∀ j, ∃ r : ℝ, a0 m c j = (r : EReal)) (hX : ∀ j, ∃ r : ℝ, a1 m c j = (r : EReal))
    (hW : ∀ j, ∃ r : ℝ, a2 m c j = (r : EReal)) (hC : ∀ j, ∃ r : ℝ, a3 m c j = (r : EReal)) :
    Value.G5 m c = val_main_v18 (F := Ideal) (a0 m c) (a1 m c) (a2 m c) (a3 m c) := by
  refine funext fun (j : S4224x1024.Idx) => ?_
  idx_vars j
  rename' j0 => R, j1 => l
  refine (dgate_array m c R l).trans ((GateRef.dgate_at _ _ _ _ R l).trans ?_).symm
  by_cases h : R.val < 4112
  · obtain ⟨a, ea⟩ : ∃ r : ℝ, A m c ⟨R.val, h⟩ l = (r : EReal) := hA _
    obtain ⟨x, ex⟩ : ∃ r : ℝ, X m c ⟨R.val, h⟩ l = (r : EReal) := hX _
    choose w ew using fun k : Fin 1024 => (hW (ix2 l k) : ∃ r : ℝ, W m c l k = (r : EReal))
    choose d ed using fun k : Fin 1024 => (hC (ix3 (0 : Fin 1) ⟨R.val, h⟩ k) : ∃ r : ℝ, C m c ⟨R.val, h⟩ k = (r : EReal))
    have edy : dy m c R.val l = ((∑ k, d k * w k : ℝ) : EReal) := by
      rw [dy_lt m c ⟨R.val, h⟩, ← coe_sum]
      refine Finset.sum_congr rfl fun k _ => ?_
      rw [show C m c ⟨R.val, h⟩ k = (d k : EReal) from ed k, show W m c l k = (w k : EReal) from ew k, EReal.coe_mul]
    rw [padRow_lt _ _ _ h, padRow_lt _ _ _ h, padRow_lt _ _ _ h, edy, ea, ex]
    refine Eq.trans ?_ (gate_identity _ a x)
    have edy' : GateRef.dy (a2 m c) (a3 m c) ⟨R.val, h⟩ l = ((∑ k, d k * w k : ℝ) : EReal) := (dy_lt m c ⟨R.val, h⟩ l).symm.trans edy
    have ea' : GateRef.attn (a0 m c) ⟨R.val, h⟩ l = (a : EReal) := ea
    have ex' : a1 m c (ix3 (0 : Fin 1) ⟨R.val, h⟩ l) = (x : EReal) := ex
    unfold GateRef.sg
    rw [edy', ea', ex']
  · rw [padRow_ge _ _ _ h, dy_ge m c _ h, zero_mul, zero_mul]

end Cert.Gate

end
-- ==== Proof.GateRun.lean ====
/- The two runs of the gate's backward call side by side. -/
module

public import proofs.«01_k».proof.Proof.GateValue

@[expose] public section

set_option maxRecDepth 16384

noncomputable section

namespace Cert.Gate

open Idealize.ShloMosaic Idealize.ShloMosaic.TcCoe Idealize.SL.Sem Cert.Arith

theorem preFacts : Cert.Pre_gate_finite.Facts := by
  constructor <;> decide

instance : Cert.Pre_gate_finite.Facts := preFacts

open Cert.GateKernelIdeal in
theorem finite_args (m : (ℓ : Loc nD τ sig) → Buf (Elt Ideal) ℓ) (h : Cert.Pre_GateKernelIdeal_gate_finite m) (c : Dev nD) :
    (∀ j, ∃ r : ℝ, a0 m c j = (r : EReal)) ∧ (∀ j, ∃ r : ℝ, a1 m c j = (r : EReal))
      ∧ (∀ j, ∃ r : ℝ, a2 m c j = (r : EReal)) ∧ (∀ j, ∃ r : ℝ, a3 m c j = (r : EReal)) :=
  ⟨fun j => exists_real (congrFun (h c).1 j), fun j => exists_real (congrFun (h c).2.1 j),
    fun j => exists_real (congrFun (h c).2.2.1 j), fun j => exists_real (congrFun (h c).2.2.2 j)⟩

open Cert.GateReferenceIdeal.Read in
theorem algebraic : Cert.algebraic_GateKernelIdeal_GateReferenceIdeal_pre_gate_finite := by
  intro m g m' g' hpre hag
  refine ⟨fun c => Cert.GateKernelIdeal.Value.G4 m c, fun c => Cert.GateKernelIdeal.Value.G5 m c,
    fun c => Cert.GateKernelIdeal.Value.G6 m c, fun c => Cert.GateKernelIdeal.Value.G7 m c,
    Cert.GateKernelIdeal.Value.run m g, (θ_run _ _ _).mono (fun r h c => ?_) (Cert.GateReferenceIdeal.Value.run m' g')⟩
  obtain ⟨hA, hX, hW, hC⟩ := finite_args m hpre c
  obtain ⟨e0, e1, e2, e3⟩ := hag c
  obtain ⟨r0, r1, r2, r3, k⟩ := h c
  refine ⟨r0.trans ?_, r1.trans ?_, r2.trans ?_, r3.trans ?_, k⟩
  · rw [e1, e2, e3]; exact (do_eq m c).symm
  · rw [e0, e1, e2, e3]; exact (dgate_eq m c hA hX hW hC).symm
  · rw [e0, e1, e3]; exact (dw_eq m c).symm
  · rw [e0, e1, e2, e3]; exact (delta_eq m c).symm

end Cert.Gate

end
-- ==== Proof.NormBody.lean ====
/- What the body of the norm's backward kernel leaves after one grid point: each output block, and the running sums that
   it carries, at an index, from the blocks that the point reads. -/
module

public import proofs.«01_k».proof.Proof.Gen.NormKernelIdeal.Value
public import Idealize.ShloMosaic.Lib.Pipeline.ValueKit
public import Idealize.ShloMosaic.Lib.Pipeline.ReadBack
public import Idealize.ShloMosaic.Lib.Pointwise
public import proofs.«01_k».proof.Proof.Arith

@[expose] public section

set_option maxRecDepth 16384

noncomputable section

namespace Cert.Norm

open Cert.NormKernelIdeal Cert.NormKernelIdeal.Gen Idealize.ShloMosaic Idealize.ShloMosaic.TcCoe Idealize.SL.Sem

variable (m : (ℓ : Loc nD τ sig) → Buf (Elt Ideal) ℓ)

/-- The block of the layer's input that a grid point reads. -/
abbrev hb (c : Dev nD) (t : Fin cfg0.N) : Vec Ideal S384x1024 .f32 := iblk m c 0 t
/-- The norm's gain, which is one block. -/
abbrev gb (c : Dev nD) (t : Fin cfg0.N) : Vec Ideal S1x1024 .f32 := iblk m c 1 t
/-- The projection's eight groups of columns, one block. -/
abbrev wb (c : Dev nD) (t : Fin cfg0.N) : Vec Ideal S8x1024x256 .bf16 := iblk m c 2 t
/-- The block of the cotangent of the projection's first half. -/
abbrev ub (c : Dev nD) (t : Fin cfg0.N) : Vec Ideal S384x1024 .bf16 := iblk m c 3 t
/-- The block of the cotangent of its second half. -/
abbrev vb (c : Dev nD) (t : Fin cfg0.N) : Vec Ideal S384x1024 .bf16 := iblk m c 4 t
/-- The block of the cotangent that arrives past the layer. -/
abbrev db (c : Dev nD) (t : Fin cfg0.N) : Vec Ideal S384x1024 .f32 := iblk m c 5 t

/-- The two halves side by side. -/
def cat (u v : Vec Ideal S384x1024 .bf16) (r : Fin 384) (n : Fin 2048) : EReal :=
  if h : n.val < 1024 then u (ix2 r ⟨n.val, h⟩) else v (ix2 r ⟨n.val - 1024, by omega⟩)

/-- The cotangent of the norm's output: a sum over the eight groups of columns. -/
def dhn (u v : Vec Ideal S384x1024 .bf16) (w : Vec Ideal S8x1024x256 .bf16) (r : Fin 384) (l : Fin 1024) : EReal :=
  ∑ d : Fin 8, ∑ k : Fin 256, cat u v r ⟨d.val * 256 + k.val, by omega⟩ * w (ix3 d l k)

/-- The payload of that sum. -/
abbrev dhnP (u v : Vec Ideal S384x1024 .bf16) (w : Vec Ideal S8x1024x256 .bf16) : Vec Ideal S384x1024 .f32 :=
  k0_pay31 (F := Ideal) (k0_pay10 (F := Ideal) u v)
    (k0_pay24 (F := Ideal) (k0_pay10 (F := Ideal) u v)
      (k0_pay18 (F := Ideal) (k0_pay10 (F := Ideal) u v) (k0_pay11 (F := Ideal)) (k0_pay12 (F := Ideal) u v)
        (View.ld w (Rect.unit ![0, 0, 0] ![1, 1024, 256] inb_S8x1024x256_S1x1024x256_0_0_0))
        (View.ld w (Rect.unit ![1, 0, 0] ![1, 1024, 256] inb_S8x1024x256_S1x1024x256_1_0_0))
        (View.ld w (Rect.unit ![2, 0, 0] ![1, 1024, 256] inb_S8x1024x256_S1x1024x256_2_0_0)))
      (k0_pay19 (F := Ideal) (k0_pay10 (F := Ideal) u v))
      (View.ld w (Rect.unit ![3, 0, 0] ![1, 1024, 256] inb_S8x1024x256_S1x1024x256_3_0_0))
      (View.ld w (Rect.unit ![4, 0, 0] ![1, 1024, 256] inb_S8x1024x256_S1x1024x256_4_0_0)))
    (k0_pay25 (F := Ideal) (k0_pay10 (F := Ideal) u v))
    (View.ld w (Rect.unit ![5, 0, 0] ![1, 1024, 256] inb_S8x1024x256_S1x1024x256_5_0_0))
    (View.ld w (Rect.unit ![6, 0, 0] ![1, 1024, 256] inb_S8x1024x256_S1x1024x256_6_0_0))
    (View.ld w (Rect.unit ![7, 0, 0] ![1, 1024, 256] inb_S8x1024x256_S1x1024x256_7_0_0))

theorem cat_lo (u v : Vec Ideal S384x1024 .bf16) (r : Fin 384) (n : ℕ) (h : n < 1024) (hn : n < 2048) : cat u v r ⟨n, hn⟩ = u (ix2 r ⟨n, h⟩) := dif_pos h
theorem cat_hi (u v : Vec Ideal S384x1024 .bf16) (r : Fin 384) (n : ℕ) (h : n < 1024) (hn : 1024 + n < 2048) :
    cat u v r ⟨1024 + n, hn⟩ = v (ix2 r ⟨n, h⟩) := by
  unfold cat; rw [dif_neg (by dsimp only; omega)]; simp

theorem dhn_payload (u v : Vec Ideal S384x1024 .bf16) (w : Vec Ideal S8x1024x256 .bf16) (r : Fin 384) (l : Fin 1024) :
    dhnP u v w (ix2 r l) = dhn u v w r l := by
  unfold dhn
  rw [Fin.sum_univ_eight]
  pointwise [k0_pay31, k0_pay24, k0_pay18, k0_pay10, k0_pay11, k0_pay12, k0_pay19, k0_pay25, k0_pay14, k0_pay16, k0_pay22, k0_pay27,
    k0_pay29]
  have e : ∀ k : Fin 256, cat u v r ⟨1024 + k.val, by omega⟩ = v (ix2 r ⟨k.val, by omega⟩) := fun k => cat_hi u v r k.val (by omega) _
  simp only [e]
  rfl

/-- The reciprocal root of a row's mean square. -/
def rs (h : Vec Ideal S384x1024 .f32) (r : Fin 384) : EReal :=
  Ideal.rsqrt (Ideal.div (∑ x : Fin 1024, h (ix2 r x) * h (ix2 r x)) (Ideal.ofBits FTy.f32 1149239296#32) + Ideal.ofBits FTy.f32 897988541#32)

/-- The normalised row. -/
def nrm (h : Vec Ideal S384x1024 .f32) (r : Fin 384) (l : Fin 1024) : EReal := h (ix2 r l) * rs h r

theorem nrm_payload (h : Vec Ideal S384x1024 .f32) (r : Fin 384) (l : Fin 1024) : k0_pay8 (F := Ideal) h (ix2 r l) = nrm h r l := by
  pointwise [k0_pay8, k0_pay7, k0_pay6]
  rfl

/-- What the eight stores leave: group by group, the product of the normalised rows with the group's columns added to
    what the group's slice held. -/
def acc (g : Vec Ideal S1x1024 .f32) (h : Vec Ideal S384x1024 .f32) (u v : Vec Ideal S384x1024 .bf16)
    (x : Vec Ideal S8x1024x256 .f32) : Vec Ideal S8x1024x256 .f32 := fun y =>
  x y + ∑ r : Fin 384, nrm h r (y 1) * g (ix2 0 (y 1)) * cat u v r ⟨(y 0).val * 256 + (y 2).val, by
    have : (y 0).val < 8 := (y 0).isLt
    have : (y 2).val < 256 := (y 2).isLt
    omega⟩

/-- Those stores. -/
abbrev stores (g : Vec Ideal S1x1024 .f32) (h : Vec Ideal S384x1024 .f32) (u v : Vec Ideal S384x1024 .bf16)
    (x : Vec Ideal S8x1024x256 .f32) : List (View.Piece (Elt Ideal) S8x1024x256 .f32) :=
  [⟨Rect.unit ![7, 0, 0] ![1, 1024, 256] inb_S8x1024x256_S1x1024x256_7_0_0,
      k0_pay30 (F := Ideal) (k0_pay9 (F := Ideal) g h) (k0_pay10 (F := Ideal) u v) (View.ld x (Rect.unit ![7, 0, 0] ![1, 1024, 256] inb_S8x1024x256_S1x1024x256_7_0_0))⟩,
    ⟨Rect.unit ![6, 0, 0] ![1, 1024, 256] inb_S8x1024x256_S1x1024x256_6_0_0,
      k0_pay28 (F := Ideal) (k0_pay9 (F := Ideal) g h) (k0_pay10 (F := Ideal) u v) (View.ld x (Rect.unit ![6, 0, 0] ![1, 1024, 256] inb_S8x1024x256_S1x1024x256_6_0_0))⟩,
    ⟨Rect.unit ![5, 0, 0] ![1, 1024, 256] inb_S8x1024x256_S1x1024x256_5_0_0,
      k0_pay26 (F := Ideal) (k0_pay9 (F := Ideal) g h) (k0_pay10 (F := Ideal) u v) (View.ld x (Rect.unit ![5, 0, 0] ![1, 1024, 256] inb_S8x1024x256_S1x1024x256_5_0_0))⟩,
    ⟨Rect.unit ![4, 0, 0] ![1, 1024, 256] inb_S8x1024x256_S1x1024x256_4_0_0,
      k0_pay23 (F := Ideal) (k0_pay9 (F := Ideal) g h) (k0_pay10 (F := Ideal) u v) (View.ld x (Rect.unit ![4, 0, 0] ![1, 1024, 256] inb_S8x1024x256_S1x1024x256_4_0_0))⟩,
    ⟨Rect.unit ![3, 0, 0] ![1, 1024, 256] inb_S8x1024x256_S1x1024x256_3_0_0,
      k0_pay21 (F := Ideal) (k0_pay9 (F := Ideal) g h) (k0_pay19 (F := Ideal) (k0_pay10 (F := Ideal) u v)) (k0_pay20 (F := Ideal) (View.ld x (Rect.unit ![3, 0, 0] ![1, 1024, 256] inb_S8x1024x256_S1x1024x256_3_0_0)))
        (constant (F := Ideal) S1024x256 FTy.f32 0#32)⟩,
    ⟨Rect.unit ![2, 0, 0] ![1, 1024, 256] inb_S8x1024x256_S1x1024x256_2_0_0,
      k0_pay17 (F := Ideal) (k0_pay9 (F := Ideal) g h) (k0_pay10 (F := Ideal) u v) (View.ld x (Rect.unit ![2, 0, 0] ![1, 1024, 256] inb_S8x1024x256_S1x1024x256_2_0_0))⟩,
    ⟨Rect.unit ![1, 0, 0] ![1, 1024, 256] inb_S8x1024x256_S1x1024x256_1_0_0,
      k0_pay15 (F := Ideal) (k0_pay9 (F := Ideal) g h) (k0_pay10 (F := Ideal) u v) (View.ld x (Rect.unit ![1, 0, 0] ![1, 1024, 256] inb_S8x1024x256_S1x1024x256_1_0_0))⟩,
    ⟨Rect.unit ![0, 0, 0] ![1, 1024, 256] inb_S8x1024x256_S1x1024x256_0_0_0,
      k0_pay13 (F := Ideal) g h u v (View.ld x (Rect.unit ![0, 0, 0] ![1, 1024, 256] inb_S8x1024x256_S1x1024x256_0_0_0))⟩]

theorem acc_stores (g : Vec Ideal S1x1024 .f32) (h : Vec Ideal S384x1024 .f32) (u v : Vec Ideal S384x1024 .bf16)
    (x : Vec Ideal S8x1024x256 .f32) : View.canon (stores g h u v x) = acc g h u v x := by
  refine funext fun (z : S8x1024x256.Idx) => ?_
  idx_vars z
  rename' z0 => d, z1 => a, z2 => l
  obtain ⟨d, hd⟩ := d
  canon_tiles y hy
  all_goals
    idx_vars y
    obtain rfl : y0 = 0 := Subsingleton.elim _ _
    obtain rfl : a = y1 := Fin.ext hy1
    obtain rfl : l = y2 := Fin.ext hy2
    replace hy0 : d = _ + 0 := hy0
    subst hy0
    pointwise [acc, nrm, rs, k0_pay13, k0_pay15, k0_pay17, k0_pay21, k0_pay23, k0_pay26, k0_pay28, k0_pay30, k0_pay20, k0_pay19, k0_pay14, k0_pay16, k0_pay22, k0_pay25, k0_pay27, k0_pay29, k0_pay12, k0_pay10, k0_pay9, k0_pay8, k0_pay7, k0_pay6]
    first
      | rfl
      | (refine congrArg _ (Finset.sum_congr rfl fun q _ => ?_)
         unfold cat
         simp)

/-- The payload of the input's cotangent. -/
abbrev dhP (h : Vec Ideal S384x1024 .f32) (g : Vec Ideal S1x1024 .f32) (w : Vec Ideal S8x1024x256 .bf16)
    (u v : Vec Ideal S384x1024 .bf16) (d : Vec Ideal S384x1024 .f32) : Vec Ideal S384x1024 .f32 :=
  k0_pay2 (F := Ideal) (k0_pay7 (F := Ideal) h) (k0_pay8 (F := Ideal) h)
    (k0_pay32 (F := Ideal) g (k0_pay10 (F := Ideal) u v) (k0_pay24 (F := Ideal) (k0_pay10 (F := Ideal) u v)
      (k0_pay18 (F := Ideal) (k0_pay10 (F := Ideal) u v) (k0_pay11 (F := Ideal)) (k0_pay12 (F := Ideal) u v)
        (View.ld w (Rect.unit ![0, 0, 0] ![1, 1024, 256] inb_S8x1024x256_S1x1024x256_0_0_0))
        (View.ld w (Rect.unit ![1, 0, 0] ![1, 1024, 256] inb_S8x1024x256_S1x1024x256_1_0_0))
        (View.ld w (Rect.unit ![2, 0, 0] ![1, 1024, 256] inb_S8x1024x256_S1x1024x256_2_0_0)))
      (k0_pay19 (F := Ideal) (k0_pay10 (F := Ideal) u v))
      (View.ld w (Rect.unit ![3, 0, 0] ![1, 1024, 256] inb_S8x1024x256_S1x1024x256_3_0_0))
      (View.ld w (Rect.unit ![4, 0, 0] ![1, 1024, 256] inb_S8x1024x256_S1x1024x256_4_0_0)))
    (k0_pay25 (F := Ideal) (k0_pay10 (F := Ideal) u v))
    (View.ld w (Rect.unit ![5, 0, 0] ![1, 1024, 256] inb_S8x1024x256_S1x1024x256_5_0_0))
    (View.ld w (Rect.unit ![6, 0, 0] ![1, 1024, 256] inb_S8x1024x256_S1x1024x256_6_0_0))
    (View.ld w (Rect.unit ![7, 0, 0] ![1, 1024, 256] inb_S8x1024x256_S1x1024x256_7_0_0)))
    (k0_pay33 (F := Ideal) g (k0_pay8 (F := Ideal) h) (k0_pay10 (F := Ideal) u v) (k0_pay24 (F := Ideal) (k0_pay10 (F := Ideal) u v)
      (k0_pay18 (F := Ideal) (k0_pay10 (F := Ideal) u v) (k0_pay11 (F := Ideal)) (k0_pay12 (F := Ideal) u v)
        (View.ld w (Rect.unit ![0, 0, 0] ![1, 1024, 256] inb_S8x1024x256_S1x1024x256_0_0_0))
        (View.ld w (Rect.unit ![1, 0, 0] ![1, 1024, 256] inb_S8x1024x256_S1x1024x256_1_0_0))
        (View.ld w (Rect.unit ![2, 0, 0] ![1, 1024, 256] inb_S8x1024x256_S1x1024x256_2_0_0)))
      (k0_pay19 (F := Ideal) (k0_pay10 (F := Ideal) u v))
      (View.ld w (Rect.unit ![3, 0, 0] ![1, 1024, 256] inb_S8x1024x256_S1x1024x256_3_0_0))
      (View.ld w (Rect.unit ![4, 0, 0] ![1, 1024, 256] inb_S8x1024x256_S1x1024x256_4_0_0)))
    (k0_pay25 (F := Ideal) (k0_pay10 (F := Ideal) u v))
    (View.ld w (Rect.unit ![5, 0, 0] ![1, 1024, 256] inb_S8x1024x256_S1x1024x256_5_0_0))
    (View.ld w (Rect.unit ![6, 0, 0] ![1, 1024, 256] inb_S8x1024x256_S1x1024x256_6_0_0))
    (View.ld w (Rect.unit ![7, 0, 0] ![1, 1024, 256] inb_S8x1024x256_S1x1024x256_7_0_0)))
    (FloatOps.ofBits (F := Ideal) FTy.f32 1149239296#32) d

/-- One entry of the input's cotangent: what passes the layer by, and the norm's own. -/
def dhv (h : Vec Ideal S384x1024 .f32) (g : Vec Ideal S1x1024 .f32) (w : Vec Ideal S8x1024x256 .bf16)
    (u v : Vec Ideal S384x1024 .bf16) (d : Vec Ideal S384x1024 .f32) (r : Fin 384) (l : Fin 1024) : EReal :=
  d (ix2 r l) + rs h r * (dhn u v w r l * g (ix2 0 l)
    - nrm h r l * Ideal.div (∑ x : Fin 1024, dhn u v w r x * g (ix2 0 x) * nrm h r x) (Ideal.ofBits FTy.f32 1149239296#32))

theorem dh_payload (h : Vec Ideal S384x1024 .f32) (g : Vec Ideal S1x1024 .f32) (w : Vec Ideal S8x1024x256 .bf16)
    (u v : Vec Ideal S384x1024 .bf16) (d : Vec Ideal S384x1024 .f32) (r : Fin 384) (l : Fin 1024) :
    dhP h g w u v d (ix2 r l) = dhv h g w u v d r l := by
  unfold dhP k0_pay33 k0_pay32
  have e : ∀ l, dhnP u v w (ix2 r l) = dhn u v w r l := dhn_payload u v w r
  unfold dhnP at e
  generalize k0_pay31 (F := Ideal) _ _ _ _ _ _ = P at e ⊢
  pointwise [k0_pay2, k0_pay8, k0_pay7, k0_pay6]
  simp only [e]
  rfl

theorem dg_payload (h : Vec Ideal S384x1024 .f32) (w : Vec Ideal S8x1024x256 .bf16)
    (u v : Vec Ideal S384x1024 .bf16) (x : Vec Ideal S1x1024 .f32) (l : Fin 1024) :
    k0_pay1 (F := Ideal) (k0_pay8 (F := Ideal) h) (dhnP u v w) x (ix2 0 l)
      = x (ix2 0 l) + ∑ r : Fin 384, dhn u v w r l * nrm h r l := by
  have e : ∀ r l, dhnP u v w (ix2 r l) = dhn u v w r l := dhn_payload u v w
  generalize dhnP u v w = P at e ⊢
  pointwise [k0_pay1, k0_pay8, k0_pay7, k0_pay6]
  simp only [e]
  rfl

theorem dh_block (c : Dev nD) (t : Fin cfg0.N) (r : Fin 384) (l : Fin 1024) :
    (outsAt0 m c t.val t.isLt).1 (ix2 r l)
      = dhv (hb m c t) (gb m c t) (wb m c t) (ub m c t) (vb m c t) (db m c t) r l := by
  have e : (outsAt0 m c t.val t.isLt).1 = dhP (hb m c t) (gb m c t) (wb m c t) (ub m c t) (vb m c t) (db m c t) := by
    by_cases h0 : t.val % 11 = 0
    · rw [outsAt0_A m c t h0 (by omega)]; dsimp only; frame_out
    · by_cases h1 : t.val % 11 = 10
      · rw [outsAt0_C m c t h0 h1]; dsimp only; frame_out
      · rw [outsAt0_B m c t h0 h1]; dsimp only; frame_out
  rw [e, dh_payload]

/-- The part of the gain's gradient that one grid point adds. -/
def dgB (c : Dev nD) (t : Fin cfg0.N) (l : Fin 1024) : EReal :=
  ∑ r : Fin 384, dhn (ub m c t) (vb m c t) (wb m c t) r l * nrm (hb m c t) r l

theorem dg_first (c : Dev nD) (t : Fin cfg0.N) (h0 : t.val % 11 = 0) (l : Fin 1024) :
    (outsAt0 m c t.val t.isLt).2.2.1 (ix2 0 l) = dgB m c t l := by
  have e : (outsAt0 m c t.val t.isLt).2.2.1
      = k0_pay1 (F := Ideal) (k0_pay8 (F := Ideal) (hb m c t)) (dhnP (ub m c t) (vb m c t) (wb m c t)) (k0_pay5 (F := Ideal)) := by
    rw [outsAt0_A m c t h0 (by omega)]; dsimp only; frame_out
  rw [e, dg_payload]
  have z : k0_pay5 (F := Ideal) (ix2 0 l) = 0 := by pointwise [k0_pay5]
  rw [z, zero_add]; rfl

theorem dg_next (c : Dev nD) (t : Fin cfg0.N) (h0 : ¬t.val % 11 = 0) (l : Fin 1024) :
    (outsAt0 m c t.val t.isLt).2.2.1 (ix2 0 l)
      = (outsAt0 m c (t.val - 1) (Nat.lt_of_le_of_lt (Nat.sub_le _ _) t.isLt)).2.2.1 (ix2 0 l) + dgB m c t l := by
  have e : (outsAt0 m c t.val t.isLt).2.2.1
      = k0_pay1 (F := Ideal) (k0_pay8 (F := Ideal) (hb m c t)) (dhnP (ub m c t) (vb m c t) (wb m c t))
        (outsAt0 m c (t.val - 1) (Nat.lt_of_le_of_lt (Nat.sub_le _ _) t.isLt)).2.2.1 := by
    by_cases h1 : t.val % 11 = 10
    · rw [outsAt0_C m c t h0 h1]; dsimp only; frame_out
    · rw [outsAt0_B m c t h0 h1]; dsimp only; frame_out
  rw [e, dg_payload]; rfl

/-- The part of the projection's gradient that one grid point adds. -/
def dwB (c : Dev nD) (t : Fin cfg0.N) (d : Fin 8) (a : Fin 1024) (l : Fin 256) : EReal :=
  ∑ r : Fin 384, nrm (hb m c t) r a * gb m c t (ix2 0 a) * cat (ub m c t) (vb m c t) r ⟨d.val * 256 + l.val, by omega⟩

theorem acc_first (c : Dev nD) (t : Fin cfg0.N) (h0 : t.val % 11 = 0) (d : Fin 8) (a : Fin 1024) (l : Fin 256) :
    (outsAt0 m c t.val t.isLt).2.2.2 (ix3 d a l) = dwB m c t d a l := by
  have e : (outsAt0 m c t.val t.isLt).2.2.2 = View.canon (stores (gb m c t) (hb m c t) (ub m c t) (vb m c t) (k0_pay4 (F := Ideal))
      ++ [⟨Rect.unit ![0, 0, 0] ![8, 1024, 256] inb_S8x1024x256_S8x1024x256_0_0_0, k0_pay4 (F := Ideal)⟩]) := by
    rw [outsAt0_A m c t h0 (by omega)]; dsimp only; frame_open
    simp (disch := decide) only [↓ View.readCov_skip, ↓ View.readCov_cons_toLoadRect, ↓ View.readCov_fill]
    frame_out
    rfl
  rw [e, Cert.Arith.canon_over _ _ _ (View.cover_of_tiled_head _ _ _ (by rfl) _), acc_stores]
  have z : k0_pay4 (F := Ideal) (ix3 d a l) = 0 := by pointwise [k0_pay4]
  unfold acc
  rw [z, zero_add]; rfl

theorem acc_next (c : Dev nD) (t : Fin cfg0.N) (h0 : ¬t.val % 11 = 0) (d : Fin 8) (a : Fin 1024) (l : Fin 256) :
    (outsAt0 m c t.val t.isLt).2.2.2 (ix3 d a l)
      = (outsAt0 m c (t.val - 1) (Nat.lt_of_le_of_lt (Nat.sub_le _ _) t.isLt)).2.2.2 (ix3 d a l) + dwB m c t d a l := by
  have e : (outsAt0 m c t.val t.isLt).2.2.2 = View.canon (stores (gb m c t) (hb m c t) (ub m c t) (vb m c t)
      (outsAt0 m c (t.val - 1) (Nat.lt_of_le_of_lt (Nat.sub_le _ _) t.isLt)).2.2.2) := by
    by_cases h1 : t.val % 11 = 10
    · rw [outsAt0_C m c t h0 h1]; dsimp only; frame_out; simp only [read_unread_whole]
    · rw [outsAt0_B m c t h0 h1]; dsimp only; frame_out; simp only [read_unread_whole]
  rw [e, acc_stores]; rfl

theorem dw_block (c : Dev nD) (t : Fin cfg0.N) (h1 : t.val % 11 = 10) (d : Fin 8) (a : Fin 1024) (l : Fin 256) :
    (outsAt0 m c t.val t.isLt).2.1 (ix3 d a l) = (outsAt0 m c t.val t.isLt).2.2.2 (ix3 d a l) := by
  have h0 : ¬t.val % 11 = 0 := by omega
  rw [outsAt0_C m c t h0 h1]; dsimp only
  frame_out
  rw [View.readCov_eq_canon']
  pointwise [k0_pay3]

end Cert.Norm

end
-- ==== Proof.Rms.lean ====
/- The root-mean-square norm of a row and its cotangent, on the extended reals: as the kernels spell it, and as the
   derivative of the norm's own text, and that the two agree at reals. -/
module

public import proofs.«01_k».proof.Proof.Arith

@[expose] public section

noncomputable section

namespace Cert.Rms

open Idealize.ShloMosaic Cert.Arith

/-- The constant added to the mean square. -/
abbrev eps : EReal := Ideal.ofBits FTy.f32 897988541#32

theorem eps_coe : ∃ e : ℝ, 0 < e ∧ eps = (e : EReal) := by
  refine ⟨8796093 * 2 ^ (-43 : ℤ), by positivity, ?_⟩
  simp [eps, Ideal.ofBits, Ideal.ieee, -EReal.coe_mul]

theorem half_coe : Ideal.ofBits FTy.f32 0xBF000000#32 = ((-(1/2) : ℝ) : EReal) := by
  simp [Ideal.ofBits, Ideal.ieee, -EReal.coe_mul, -EReal.coe_neg]; norm_num

section
variable {n : ℕ} (N : EReal)

/-- The mean square of a row, with the constant; `N` is the row's length, as the text writes it. -/
def msOf (h : Fin n → EReal) : EReal := Ideal.div (∑ x : Fin n, h x * h x) N + eps
/-- The reciprocal root. -/
def rsOf (h : Fin n → EReal) : EReal := Ideal.rsqrt (msOf N h)

/-- The norm's cotangent of a row `h` with gain `g` for the cotangent `T` of its output. -/
def dxOf (h g T : Fin n → EReal) (l : Fin n) : EReal :=
  rsOf N h * (T l * g l - h l * rsOf N h * Ideal.div (∑ x : Fin n, T x * g x * (h x * rsOf N h)) N)

/-- The coefficient through which the mean square enters the derivative. -/
def cfOf (h g T : Fin n → EReal) : EReal :=
  Ideal.div ((∑ x : Fin n, h x * (T x * g x)) * (Ideal.ofBits FTy.f32 0xBF000000#32 * Ideal.div (rsOf N h) (msOf N h))) N

variable {N} {k : ℝ} (hN : N = (k : EReal)) (hk : 0 < k)
include hN hk

theorem msOf_coe (h : Fin n → ℝ) : ∃ r : ℝ, 0 < r ∧ msOf N (fun x => (h x : EReal)) = (r : EReal) := by
  obtain ⟨e, he, ee⟩ := eps_coe
  refine ⟨(∑ x, h x * h x) / k + e, by have := Finset.sum_nonneg (fun x (_ : x ∈ Finset.univ) => mul_self_nonneg (h x)); positivity, ?_⟩
  unfold msOf
  simp only [← EReal.coe_mul]
  rw [coe_sum, hN, ee, div_coe _ _ hk.ne', ← EReal.coe_add]

/-- At reals the two forms of the cotangent agree. -/
theorem dxOf_eq (h g T : Fin n → ℝ) (l : Fin n) :
    dxOf N (fun x => (h x : EReal)) (fun x => (g x : EReal)) (fun x => (T x : EReal)) l
      = (T l : EReal) * g l * rsOf N (fun x => (h x : EReal))
        + h l * cfOf N (fun x => (h x : EReal)) (fun x => (g x : EReal)) (fun x => (T x : EReal))
        + cfOf N (fun x => (h x : EReal)) (fun x => (g x : EReal)) (fun x => (T x : EReal)) * h l := by
  obtain ⟨m, hm, em⟩ := msOf_coe hN hk h
  have hs : 0 < Real.sqrt m := Real.sqrt_pos.mpr hm
  have er : rsOf N (fun x => (h x : EReal)) = (((Real.sqrt m)⁻¹ : ℝ) : EReal) := by unfold rsOf; rw [em, rsqrt_coe _ hm]
  unfold dxOf cfOf
  rw [er, em, hN, half_coe, div_coe _ _ hm.ne']
  simp only [← EReal.coe_mul]
  rw [coe_sum, coe_sum, div_coe _ _ hk.ne']
  simp only [← EReal.coe_mul]
  rw [div_coe _ _ hk.ne']
  simp only [← EReal.coe_mul, ← EReal.coe_sub, ← EReal.coe_add]
  congr 1
  have e1 : ∑ x, T x * g x * (h x * (Real.sqrt m)⁻¹) = (∑ x, h x * (T x * g x)) * (Real.sqrt m)⁻¹ := by
    rw [Finset.sum_mul]
    exact Finset.sum_congr rfl fun x _ => by ring
  have e2 : (Real.sqrt m)⁻¹ * (Real.sqrt m)⁻¹ = m⁻¹ := by rw [← mul_inv, Real.mul_self_sqrt hm.le]
  rw [e1, div_eq_mul_inv _ m, ← e2]
  ring

/-- Where the row and its cotangent are real, so is the norm's cotangent. -/
theorem dxOf_real (h g T : Fin n → ℝ) (l : Fin n) :
    ∃ r : ℝ, dxOf N (fun x => (h x : EReal)) (fun x => (g x : EReal)) (fun x => (T x : EReal)) l = (r : EReal) := by
  obtain ⟨m, hm, em⟩ := msOf_coe hN hk h
  have er : rsOf N (fun x => (h x : EReal)) = (((Real.sqrt m)⁻¹ : ℝ) : EReal) := by unfold rsOf; rw [em, rsqrt_coe _ hm]
  unfold dxOf
  rw [er, hN]
  simp only [← EReal.coe_mul]
  rw [coe_sum, div_coe _ _ hk.ne']
  simp only [← EReal.coe_mul, ← EReal.coe_sub]
  exact ⟨_, rfl⟩

/-- A row whose cotangent is zero contributes none. -/
theorem dxOf_zero (h g T : Fin n → EReal) (hT : ∀ x, T x = 0) (l : Fin n) : dxOf N h g T l = 0 := by
  unfold dxOf
  rw [Finset.sum_eq_zero fun x _ => by rw [hT, zero_mul, zero_mul], hT, zero_mul, hN]
  have : Ideal.div 0 (k : EReal) = 0 := by
    rw [← EReal.coe_zero, div_coe _ _ hk.ne', zero_div]
  rw [this, mul_zero, sub_zero, mul_zero]
end

/-! ## Rows of 1024 -/

/-- The row's length, as the text writes it. -/
abbrev len : EReal := Ideal.ofBits FTy.f32 1149239296#32

theorem len_coe : len = ((1024 : ℝ) : EReal) := by
  simp [len, Ideal.ofBits, Ideal.ieee, -EReal.coe_mul]; norm_num

abbrev ms (h : Fin 1024 → EReal) : EReal := msOf len h
abbrev rs (h : Fin 1024 → EReal) : EReal := rsOf len h
abbrev dx (h g T : Fin 1024 → EReal) (l : Fin 1024) : EReal := dxOf len h g T l
abbrev cf (h g T : Fin 1024 → EReal) : EReal := cfOf len h g T

theorem dx_eq (h g T : Fin 1024 → ℝ) (l : Fin 1024) :
    dx (fun x => (h x : EReal)) (fun x => (g x : EReal)) (fun x => (T x : EReal)) l
      = (T l : EReal) * g l * rs (fun x => (h x : EReal))
        + h l * cf (fun x => (h x : EReal)) (fun x => (g x : EReal)) (fun x => (T x : EReal))
        + cf (fun x => (h x : EReal)) (fun x => (g x : EReal)) (fun x => (T x : EReal)) * h l := dxOf_eq len_coe (by norm_num) h g T l
theorem ms_coe (h : Fin 1024 → ℝ) : ∃ r : ℝ, 0 < r ∧ ms (fun x => (h x : EReal)) = (r : EReal) := msOf_coe len_coe (by norm_num) h
theorem dx_real (h g T : Fin 1024 → ℝ) (l : Fin 1024) :
    ∃ r : ℝ, dx (fun x => (h x : EReal)) (fun x => (g x : EReal)) (fun x => (T x : EReal)) l = (r : EReal) := dxOf_real len_coe (by norm_num) h g T l
theorem dx_zero (h g T : Fin 1024 → EReal) (hT : ∀ x, T x = 0) (l : Fin 1024) : dx h g T l = 0 := dxOf_zero len_coe (by norm_num) h g T hT l

end Cert.Rms

end
-- ==== Proof.NormArray.lean ====
/- What the norm's backward kernel leaves in its three output arrays, at an index, from the arrays it is called with: the
   host pads the rows to eleven blocks of 384 and groups the projection's columns by 256, the blocks are put together, and
   the gradients of the gain and of the projection are running sums over the blocks. -/
module

public import proofs.«01_k».proof.Proof.NormBody
public import proofs.«01_k».proof.Proof.Rms
public import Idealize.ShloMosaic.Lib.StableHlo.ReadAt

@[expose] public section

set_option maxRecDepth 16384

noncomputable section

namespace Cert.Norm

open Cert.NormKernelIdeal Cert.NormKernelIdeal.Gen Idealize.ShloMosaic Idealize.ShloMosaic.TcCoe Idealize.SL.Sem Cert.Arith

variable (m : (ℓ : Loc nD τ sig) → Buf (Elt Ideal) ℓ)

theorem index_eq : ∀ t : Fin grid0.N, win0_0.index t = ![t.val, 0] ∧ win0_1.index t = ![0, 0] ∧ win0_2.index t = ![0, 0, 0]
    ∧ win0_3.index t = ![t.val, 0] ∧ win0_4.index t = ![t.val, 0] ∧ win0_5.index t = ![t.val, 0] := by decide +kernel

theorem point_lt (t : Fin cfg0.N) : t.val < 11 := lt_of_lt_of_eq t.isLt (show cfg0.N = 11 from N_0)

/-- The layer's input, a row per position. -/
def H (c : Dev nD) (p : Fin 4112) (l : Fin 1024) : EReal := m (c, Proc.tc.devRef main_arg0) (ix3 (0 : Fin 1) p l)
/-- The gain. -/
def G (c : Dev nD) (l : Fin 1024) : EReal := m (c, Proc.tc.devRef main_arg1) (ix2 (0 : Fin 1) l)
/-- The projection. -/
def W (c : Dev nD) (l : Fin 1024) (n : Fin 2048) : EReal := m (c, Proc.tc.devRef main_arg2) (ix2 l n)
/-- The cotangent that arrives past the layer. -/
def D (c : Dev nD) (p : Fin 4112) (l : Fin 1024) : EReal := m (c, Proc.tc.devRef main_arg3) (ix3 (0 : Fin 1) p l)
/-- The cotangent of the projection's first half. -/
def U (c : Dev nD) (p : Fin 4112) (l : Fin 1024) : EReal := m (c, Proc.tc.devRef main_arg4) (ix3 (0 : Fin 1) p l)
/-- The cotangent of its second half. -/
def Y (c : Dev nD) (p : Fin 4112) (l : Fin 1024) : EReal := m (c, Proc.tc.devRef main_arg5) (ix3 (0 : Fin 1) p l)

theorem entry_h (c : Dev nD) (R : Fin 4224) (l : Fin 1024) :
    @Eq EReal (V m c main_v4 (ix2 R l)) (padRow (H m c) R.val l) := by
  simp only [V, List.flatten_cons, List.flatten_nil, List.cons_append, List.nil_append, hostOps0, hostOps0_1, hostOps0_2, hostOps0_3, hostOps0_4, hostOps0_5, hostOps0_6, hostOps0_7]
  after_reads_at
  rw [sitofp_zero]; rfl

theorem hb_at (c : Dev nD) (t : Fin cfg0.N) (r : Fin 384) (l : Fin 1024) :
    hb m c t (ix2 r l) = padRow (H m c) (t.val * 384 + r.val) l := by
  have ht := point_lt t
  rw [show hb m c t (ix2 r l) = V m c main_v4 (ix2 ⟨t.val * 384 + r.val, by omega⟩ l) by blk_ext [hb, iblk, index_eq t]]
  exact entry_h m c _ l

theorem entry_u (c : Dev nD) (R : Fin 4224) (l : Fin 1024) :
    @Eq EReal (V m c main_v7 (ix2 R l)) (padRow (U m c) R.val l) := by
  simp only [V, List.flatten_cons, List.flatten_nil, List.cons_append, List.nil_append, hostOps0, hostOps0_1, hostOps0_2, hostOps0_3, hostOps0_4, hostOps0_5, hostOps0_6, hostOps0_7]
  after_reads_at
  rw [sitofp_zero]; rfl

theorem ub_at (c : Dev nD) (t : Fin cfg0.N) (r : Fin 384) (l : Fin 1024) :
    ub m c t (ix2 r l) = padRow (U m c) (t.val * 384 + r.val) l := by
  have ht := point_lt t
  rw [show ub m c t (ix2 r l) = V m c main_v7 (ix2 ⟨t.val * 384 + r.val, by omega⟩ l) by blk_ext [ub, iblk, index_eq t]]
  exact entry_u m c _ l

theorem entry_y (c : Dev nD) (R : Fin 4224) (l : Fin 1024) :
    @Eq EReal (V m c main_v10 (ix2 R l)) (padRow (Y m c) R.val l) := by
  simp only [V, List.flatten_cons, List.flatten_nil, List.cons_append, List.nil_append, hostOps0, hostOps0_1, hostOps0_2, hostOps0_3, hostOps0_4, hostOps0_5, hostOps0_6, hostOps0_7]
  after_reads_at
  rw [sitofp_zero]; rfl

theorem vb_at (c : Dev nD) (t : Fin cfg0.N) (r : Fin 384) (l : Fin 1024) :
    vb m c t (ix2 r l) = padRow (Y m c) (t.val * 384 + r.val) l := by
  have ht := point_lt t
  rw [show vb m c t (ix2 r l) = V m c main_v10 (ix2 ⟨t.val * 384 + r.val, by omega⟩ l) by blk_ext [vb, iblk, index_eq t]]
  exact entry_y m c _ l

theorem entry_d (c : Dev nD) (R : Fin 4224) (l : Fin 1024) :
    @Eq EReal (V m c main_v12 (ix2 R l)) (padRow (D m c) R.val l) := by
  simp only [V, List.flatten_cons, List.flatten_nil, List.cons_append, List.nil_append, hostOps0, hostOps0_1, hostOps0_2, hostOps0_3, hostOps0_4, hostOps0_5, hostOps0_6, hostOps0_7]
  after_reads_at
  rw [sitofp_zero]; rfl

theorem db_at (c : Dev nD) (t : Fin cfg0.N) (r : Fin 384) (l : Fin 1024) :
    db m c t (ix2 r l) = padRow (D m c) (t.val * 384 + r.val) l := by
  have ht := point_lt t
  rw [show db m c t (ix2 r l) = V m c main_v12 (ix2 ⟨t.val * 384 + r.val, by omega⟩ l) by blk_ext [db, iblk, index_eq t]]
  exact entry_d m c _ l

theorem entry_w (c : Dev nD) (d : Fin 8) (l : Fin 1024) (k : Fin 256) :
    @Eq EReal (V m c main_v2 (ix3 d l k)) (W m c l ⟨d.val * 256 + k.val, by omega⟩) := by
  simp only [V, List.flatten_cons, List.flatten_nil, List.cons_append, List.nil_append, hostOps0, hostOps0_1, hostOps0_2, hostOps0_3, hostOps0_4, hostOps0_5, hostOps0_6, hostOps0_7]
  after_reads_at
  rfl

theorem wb_at (c : Dev nD) (t : Fin cfg0.N) (d : Fin 8) (l : Fin 1024) (k : Fin 256) :
    wb m c t (ix3 d l k) = W m c l ⟨d.val * 256 + k.val, by omega⟩ := by
  rw [show wb m c t (ix3 d l k) = V m c main_v2 (ix3 d l k) by blk_ext [wb, iblk, index_eq t]]
  exact entry_w m c d l k

theorem entry_g (c : Dev nD) (l : Fin 1024) : @Eq EReal (V m c main_arg1 (ix2 0 l)) (G m c l) := by
  simp only [V, List.flatten_cons, List.flatten_nil, List.cons_append, List.nil_append, hostOps0, hostOps0_1, hostOps0_2, hostOps0_3, hostOps0_4, hostOps0_5, hostOps0_6, hostOps0_7]
  after_reads_at
  rfl

theorem gb_at (c : Dev nD) (t : Fin cfg0.N) (l : Fin 1024) : gb m c t (ix2 0 l) = G m c l := by
  rw [show gb m c t (ix2 0 l) = V m c main_arg1 (ix2 0 l) by blk_ext [gb, iblk, index_eq t]]
  exact entry_g m c l

/-- The two cotangents side by side, at a row of the padded arrays. -/
def cot (c : Dev nD) (R : ℕ) (n : Fin 2048) : EReal :=
  if h : n.val < 1024 then padRow (U m c) R ⟨n.val, h⟩ else padRow (Y m c) R ⟨n.val - 1024, by omega⟩

/-- The cotangent of the norm's output at a row. -/
def T (c : Dev nD) (R : ℕ) (l : Fin 1024) : EReal := ∑ n : Fin 2048, cot m c R n * W m c l n

theorem cat_at (c : Dev nD) (t : Fin cfg0.N) (r : Fin 384) (n : Fin 2048) :
    cat (ub m c t) (vb m c t) r n = cot m c (t.val * 384 + r.val) n := by
  unfold cat cot
  split
  · exact ub_at m c t r _
  · exact vb_at m c t r _

theorem dhn_at (c : Dev nD) (t : Fin cfg0.N) (r : Fin 384) (l : Fin 1024) :
    dhn (ub m c t) (vb m c t) (wb m c t) r l = T m c (t.val * 384 + r.val) l := by
  unfold dhn T
  simp only [cat_at, wb_at]
  exact sum_groups 8 256 (fun n : Fin 2048 => cot m c (t.val * 384 + r.val) n * W m c l n)

theorem rs_at (c : Dev nD) (t : Fin cfg0.N) (r : Fin 384) : rs (hb m c t) r = Rms.rs (padRow (H m c) (t.val * 384 + r.val)) := by
  unfold rs
  simp only [hb_at]
  rfl

theorem nrm_at (c : Dev nD) (t : Fin cfg0.N) (r : Fin 384) (l : Fin 1024) :
    nrm (hb m c t) r l = padRow (H m c) (t.val * 384 + r.val) l * Rms.rs (padRow (H m c) (t.val * 384 + r.val)) := by
  unfold nrm
  rw [rs_at, hb_at]

/-- The kernel's array of the input's cotangent. -/
theorem dh_array (c : Dev nD) (R : Fin 4224) (l : Fin 1024) :
    Value.G6 m c (ix2 R l) = padRow (D m c) R.val l + Rms.dx (padRow (H m c) R.val) (G m c) (T m c R.val) l := by
  have hp : Value.pt6Of (ix2 R l) = R.val / 384 := by
    show 1 * (R.val / 384 - 0) + 1 * (l.val / 1024 - 0) = _
    omega
  have hN : R.val / 384 < cfg0.N := lt_of_lt_of_eq (by omega) N_0.symm
  have hl : Value.loc6Of (ix2 R l) = ix2 (⟨R.val % 384, by omega⟩ : Fin 384) l := by
    funext a; fin_cases a
    · rfl
    · exact Fin.ext (Nat.mod_eq_of_lt l.isLt)
  unfold Value.G6
  simp only [hp]
  rw [dif_pos hN, ← Value.outsAt0_sweep m c _ hN, hl, dh_block m c ⟨_, hN⟩]
  unfold dhv
  simp only [dhn_at, nrm_at, rs_at, gb_at, db_at]
  rw [Nat.div_add_mod' R.val 384]
  rfl

/-- A row's term in the gain's gradient. -/
def dgTerm (c : Dev nD) (l : Fin 1024) (R : ℕ) : EReal := T m c R l * (padRow (H m c) R l * Rms.rs (padRow (H m c) R))

theorem dg_at (c : Dev nD) (l : Fin 1024) : ∀ n (h : n < cfg0.N),
    (outsAt0 m c n h).2.2.1 (ix2 0 l) = ∑ R ∈ Finset.range ((n + 1) * 384), dgTerm m c l R := by
  have hB : ∀ t : Fin cfg0.N, dgB m c t l = ∑ r : Fin 384, dgTerm m c l (t.val * 384 + r.val) := by
    intro t
    unfold dgB dgTerm
    simp only [dhn_at, nrm_at]
  refine running_sum 384 (dgTerm m c l) cfg0.N (fun n h => (outsAt0 m c n h).2.2.1 (ix2 0 l)) ?_ ?_
  · intro h
    rw [← hB ⟨0, h⟩]
    exact dg_first m c ⟨0, h⟩ (Nat.zero_mod _) l
  · intro n h
    have hn := point_lt ⟨n + 1, h⟩
    rw [← hB ⟨n + 1, h⟩]
    exact dg_next m c ⟨n + 1, h⟩ (by dsimp only at hn ⊢; omega) l

theorem cot_ge (c : Dev nD) (R : ℕ) (h : ¬R < 4112) (n : Fin 2048) : cot m c R n = 0 := by
  unfold cot; split <;> exact padRow_ge _ _ _ h

theorem T_ge (c : Dev nD) (R : ℕ) (h : ¬R < 4112) (l : Fin 1024) : T m c R l = 0 := by
  unfold T
  exact Finset.sum_eq_zero fun n _ => by rw [cot_ge m c R h, zero_mul]

/-- The kernel's array of the gain's gradient. -/
theorem dg_array (c : Dev nD) (l : Fin 1024) : @Eq EReal (Value.G8 m c (ix2 0 l)) (∑ p : Fin 4112, dgTerm m c l p.val) := by
  have hN : 10 < cfg0.N := lt_of_lt_of_eq (by decide) N_0.symm
  rw [Value.G8_last, ← Value.outsAt0_sweep m c 10 hN, dg_at m c l 10 hN,
    sum_pad 4112 _ (by decide) _ fun R hR => by unfold dgTerm; rw [T_ge m c R (by omega), zero_mul]]

/-- A row's term in the projection's gradient. -/
def dwTerm (c : Dev nD) (a : Fin 1024) (n : Fin 2048) (R : ℕ) : EReal :=
  padRow (H m c) R a * Rms.rs (padRow (H m c) R) * G m c a * cot m c R n

theorem acc_at (c : Dev nD) (d : Fin 8) (a : Fin 1024) (k : Fin 256) : ∀ n (h : n < cfg0.N),
    (outsAt0 m c n h).2.2.2 (ix3 d a k) = ∑ R ∈ Finset.range ((n + 1) * 384), dwTerm m c a ⟨d.val * 256 + k.val, by omega⟩ R := by
  have hB : ∀ t : Fin cfg0.N, dwB m c t d a k = ∑ r : Fin 384, dwTerm m c a ⟨d.val * 256 + k.val, by omega⟩ (t.val * 384 + r.val) := by
    intro t
    unfold dwB dwTerm
    simp only [nrm_at, gb_at, cat_at]
  refine running_sum 384 (dwTerm m c a ⟨d.val * 256 + k.val, by omega⟩) cfg0.N (fun n h => (outsAt0 m c n h).2.2.2 (ix3 d a k)) ?_ ?_
  · intro h
    rw [← hB ⟨0, h⟩]
    exact acc_first m c ⟨0, h⟩ (Nat.zero_mod _) d a k
  · intro n h
    have hn := point_lt ⟨n + 1, h⟩
    rw [← hB ⟨n + 1, h⟩]
    exact acc_next m c ⟨n + 1, h⟩ (by dsimp only at hn ⊢; omega) d a k

/-- The kernel's array of the projection's gradient. -/
theorem dw_array (c : Dev nD) (d : Fin 8) (a : Fin 1024) (k : Fin 256) :
    @Eq EReal (Value.G7 m c (ix3 d a k)) (∑ p : Fin 4112, dwTerm m c a ⟨d.val * 256 + k.val, by omega⟩ p.val) := by
  have hN : 10 < cfg0.N := lt_of_lt_of_eq (by decide) N_0.symm
  rw [Value.G7_last, ← Value.outsAt0_sweep m c 10 hN, dw_block m c ⟨10, hN⟩ rfl, acc_at m c d a k 10 hN,
    sum_pad 4112 _ (by decide) _ fun R hR => by unfold dwTerm; rw [cot_ge m c R (by omega), mul_zero]]

end Cert.Norm

end
-- ==== Proof.Reduce.lean ====
/- A host sum over two axes at once, where all axes but one have extent one: the sum over that axis, or the entry. -/
module

public import Idealize.ShloMosaic.Lib.Pointwise
public import Idealize.ShloMosaic.Lib.IdealHost

@[expose] public section

noncomputable section

namespace Cert.Reduce

open Idealize.ShloMosaic

theorem outer_two {n : ℕ} (h : (⟨3, ![1, n, 1]⟩ : Shape).ReducesTo [0, 2] ⟨1, ![n]⟩) (v : (⟨3, ![1, n, 1]⟩ : Shape).Idx → EReal)
    (init : EReal) (p : Fin n) : Ideal.hostReduceAdd h v init (ix1 p) = init + v (ix3 (0 : Fin 1) p (0 : Fin 1)) := by
  unfold Ideal.hostReduceAdd
  congr 1
  refine Finset.sum_eq_single_of_mem (ix3 (0 : Fin 1) p (0 : Fin 1)) ?_ ?_
  · rw [Finset.mem_filter]
    refine ⟨Finset.mem_univ _, ?_⟩
    funext b; fin_cases b; rfl
  · intro i hi hne
    rw [Finset.mem_filter] at hi
    refine absurd ?_ hne
    have e := congrFun hi.2 0
    funext a; fin_cases a
    · exact Subsingleton.elim (α := Fin 1) _ _
    · exact Fin.ext (congrArg Fin.val e)
    · exact Subsingleton.elim (α := Fin 1) _ _

theorem first_two {n : ℕ} (h : (⟨3, ![1, 1, n]⟩ : Shape).ReducesTo [0, 1] ⟨1, ![n]⟩) (v : (⟨3, ![1, 1, n]⟩ : Shape).Idx → EReal)
    (init : EReal) (p : Fin n) : Ideal.hostReduceAdd h v init (ix1 p) = init + v (ix3 (0 : Fin 1) (0 : Fin 1) p) := by
  unfold Ideal.hostReduceAdd
  congr 1
  refine Finset.sum_eq_single_of_mem (ix3 (0 : Fin 1) (0 : Fin 1) p) ?_ ?_
  · rw [Finset.mem_filter]
    refine ⟨Finset.mem_univ _, ?_⟩
    funext b; fin_cases b; rfl
  · intro i hi hne
    rw [Finset.mem_filter] at hi
    refine absurd ?_ hne
    have e := congrFun hi.2 0
    funext a; fin_cases a
    · exact Subsingleton.elim (α := Fin 1) _ _
    · exact Subsingleton.elim (α := Fin 1) _ _
    · exact Fin.ext (congrArg Fin.val e)

theorem all_two {n : ℕ} (h : (⟨2, ![1, n]⟩ : Shape).ReducesTo [0, 1] ⟨0, ![]⟩) (v : (⟨2, ![1, n]⟩ : Shape).Idx → EReal)
    (init : EReal) (j : (⟨0, ![]⟩ : Shape).Idx) : Ideal.hostReduceAdd h v init j = init + ∑ p : Fin n, v (ix2 (0 : Fin 1) p) := by
  unfold Ideal.hostReduceAdd
  congr 1
  rw [Finset.filter_true_of_mem fun i _ => funext fun b => b.elim0]
  refine Finset.sum_bij' (fun i _ => (i 1 : Fin n)) (fun p _ => ix2 (0 : Fin 1) p) (fun _ _ => Finset.mem_univ _)
    (fun _ _ => Finset.mem_univ _) ?_ (fun _ _ => rfl) ?_
  · intro i _
    funext a; fin_cases a
    · exact Subsingleton.elim (α := Fin 1) _ _
    · rfl
  · intro i _
    congr 1
    funext a; fin_cases a
    · exact Subsingleton.elim (α := Fin 1) _ _
    · rfl

attribute [pointwise] outer_two first_two all_two

end Cert.Reduce

end
-- ==== Proof.NormReference.lean ====
/- What the reference of the norm's backward call computes, at an index. -/
module

public import proofs.«01_k».proof.Proof.Gen.NormReferenceIdeal.Read
public import proofs.«01_k».proof.Proof.Rms
public import proofs.«01_k».proof.Proof.Reduce

@[expose] public section

set_option maxRecDepth 16384

noncomputable section

namespace Cert.NormRef

open Cert.NormReferenceIdeal Cert.NormReferenceIdeal.Gen Cert.NormReferenceIdeal.Read
open Idealize.ShloMosaic Idealize.ShloMosaic.TcCoe Idealize.SL.Sem Cert.Arith

variable (x0 : Vec Ideal S1x4112x1024 .f32) (x1 : Vec Ideal S1x1024 .f32) (x2 : Vec Ideal S1024x2048 .f32)
  (x3 x4 x5 : Vec Ideal S1x4112x1024 .f32)

/-- A row of the input. -/
def row (p : Fin 4112) (l : Fin 1024) : EReal := x0 (ix3 (0 : Fin 1) p l)
/-- The gain. -/
def gain (l : Fin 1024) : EReal := x1 (ix2 (0 : Fin 1) l)
/-- The two cotangents side by side. -/
def cot (p : Fin 4112) (n : Fin 2048) : EReal :=
  if h : n.val < 1024 then x4 (ix3 (0 : Fin 1) p ⟨n.val, h⟩) else x5 (ix3 (0 : Fin 1) p ⟨n.val - 1024, by omega⟩)
/-- The cotangent of the norm's output: a sum over the columns of either half of the projection. -/
def T (p : Fin 4112) (l : Fin 1024) : EReal :=
  ∑ n : Fin 1024, x4 (ix3 (0 : Fin 1) p n) * x2 (ix2 l ⟨n.val, by omega⟩)
    + ∑ n : Fin 1024, x5 (ix3 (0 : Fin 1) p n) * x2 (ix2 l ⟨1024 + n.val, by omega⟩)

theorem dh_at (R : Fin 4224) (l : Fin 1024) : @Eq EReal (val_main_v48 (F := Ideal) x0 x1 x2 x3 x4 x5 (ix2 R l))
    (padRow (fun p l => x3 (ix3 (0 : Fin 1) p l) + T x2 x4 x5 p l * gain x1 l * Rms.rs (row x0 p)
      + row x0 p l * Rms.cf (row x0 p) (gain x1) (T x2 x4 x5 p)
      + Rms.cf (row x0 p) (gain x1) (T x2 x4 x5 p) * row x0 p l) R.val l) := by
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_v22, val_main_v23, val_main_v24, val_main_cst_3, val_main_v25, val_main_v26, val_main_v27, val_main_v28, val_main_cst_4, val_main_v29, val_main_v30, val_main_cst_5, val_main_v31, val_main_v32, val_main_v33, val_main_v34, val_main_v35, val_main_v36, val_main_cst_6, val_main_v37, val_main_v38, val_main_cst_7, val_main_v39, val_main_v40, val_main_v41, val_main_v42, val_main_v43, val_main_v44, val_main_v45, val_main_v46, val_main_v47, val_main_c, val_main_call0_v0, val_main_v48, val_main_v49, val_main_v50, val_main_v51]
  unfold padRow
  split
  · rfl
  · exact sitofp_zero

theorem dw_at (d : Fin 8) (a : Fin 1024) (l : Fin 256) : @Eq EReal (val_main_v51 (F := Ideal) x0 x1 x4 x5 (ix3 d a l))
    (∑ p : Fin 4112, cot x4 x5 p ⟨d.val * 256 + l.val, by omega⟩ * (row x0 p a * Rms.rs (row x0 p) * gain x1 a)) := by
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_v22, val_main_v23, val_main_v24, val_main_cst_3, val_main_v25, val_main_v26, val_main_v27, val_main_v28, val_main_cst_4, val_main_v29, val_main_v30, val_main_cst_5, val_main_v31, val_main_v32, val_main_v33, val_main_v34, val_main_v35, val_main_v36, val_main_cst_6, val_main_v37, val_main_v38, val_main_cst_7, val_main_v39, val_main_v40, val_main_v41, val_main_v42, val_main_v43, val_main_v44, val_main_v45, val_main_v46, val_main_v47, val_main_c, val_main_call0_v0, val_main_v48, val_main_v49, val_main_v50, val_main_v51]
  rw [Fin.sum_univ_one]
  rfl

theorem dg_at (l : Fin 1024) : @Eq EReal (val_main_v46 (F := Ideal) x0 x2 x4 x5 (ix2 0 l))
    (∑ p : Fin 4112, row x0 p l * Rms.rs (row x0 p) * T x2 x4 x5 p l) := by
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_v22, val_main_v23, val_main_v24, val_main_cst_3, val_main_v25, val_main_v26, val_main_v27, val_main_v28, val_main_cst_4, val_main_v29, val_main_v30, val_main_cst_5, val_main_v31, val_main_v32, val_main_v33, val_main_v34, val_main_v35, val_main_v36, val_main_cst_6, val_main_v37, val_main_v38, val_main_cst_7, val_main_v39, val_main_v40, val_main_v41, val_main_v42, val_main_v43, val_main_v44, val_main_v45, val_main_v46, val_main_v47, val_main_c, val_main_call0_v0, val_main_v48, val_main_v49, val_main_v50, val_main_v51]
  rfl

end Cert.NormRef

end
-- ==== Proof.NormValue.lean ====
/- The norm's backward call: the kernel's three arrays are the reference's, for real arguments. -/
module

public import proofs.«01_k».proof.Proof.NormArray
public import proofs.«01_k».proof.Proof.NormReference
public import proofs.«01_k».proof.Proof.Gen.NormReferenceIdeal.Run
public import proofs.«01_k».proof.Defs

@[expose] public section

set_option maxRecDepth 16384

noncomputable section

namespace Cert.Norm

open Cert.NormKernelIdeal Cert.NormKernelIdeal.Gen Idealize.ShloMosaic Idealize.ShloMosaic.TcCoe Idealize.SL.Sem Cert.Arith
open Cert.NormReferenceIdeal.Read

variable (m : (ℓ : Loc nD τ sig) → Buf (Elt Ideal) ℓ)

/-- The arguments as the reference takes them. -/
abbrev a0 (c : Dev nD) : Vec Ideal S1x4112x1024 .f32 := m ((c : Thread nD τ).loc main_arg0)
abbrev a1 (c : Dev nD) : Vec Ideal S1x1024 .f32 := m ((c : Thread nD τ).loc main_arg1)
abbrev a2 (c : Dev nD) : Vec Ideal S1024x2048 .f32 := m ((c : Thread nD τ).loc main_arg2)
abbrev a3 (c : Dev nD) : Vec Ideal S1x4112x1024 .f32 := m ((c : Thread nD τ).loc main_arg3)
abbrev a4 (c : Dev nD) : Vec Ideal S1x4112x1024 .f32 := m ((c : Thread nD τ).loc main_arg4)
abbrev a5 (c : Dev nD) : Vec Ideal S1x4112x1024 .f32 := m ((c : Thread nD τ).loc main_arg5)

theorem row_lt (c : Dev nD) (p : Fin 4112) : padRow (H m c) p.val = H m c p :=
  funext fun l => padRow_lt _ _ _ p.isLt

theorem cot_lt (c : Dev nD) (p : Fin 4112) (n : Fin 2048) : cot m c p.val n = NormRef.cot (a4 m c) (a5 m c) p n := by
  unfold cot NormRef.cot
  split <;> exact padRow_lt _ _ _ p.isLt

theorem T_lt (c : Dev nD) (p : Fin 4112) (l : Fin 1024) : T m c p.val l = NormRef.T (a2 m c) (a4 m c) (a5 m c) p l := by
  unfold T
  refine (Fin.sum_univ_add (a := 1024) (b := 1024) (fun n : Fin 2048 => cot m c p.val n * W m c l n)).trans ?_
  unfold NormRef.T
  congr 1
  · refine Finset.sum_congr rfl fun n _ => ?_
    rw [cot_lt]
    unfold NormRef.cot
    rw [dif_pos (show (Fin.castAdd 1024 n).val < 1024 from n.isLt)]
    rfl
  · refine Finset.sum_congr rfl fun n _ => ?_
    rw [cot_lt]
    unfold NormRef.cot
    rw [dif_neg (show ¬(Fin.natAdd 1024 n).val < 1024 by simp)]
    have e : (⟨(Fin.natAdd 1024 n).val - 1024, by simp⟩ : Fin 1024) = n := Fin.ext (by simp)
    rw [e]
    rfl

theorem dg_eq (c : Dev nD) : Value.G8 m c = val_main_v46 (F := Ideal) (a0 m c) (a2 m c) (a4 m c) (a5 m c) := by
  refine funext fun (j : S1x1024.Idx) => ?_
  idx_vars j
  rename' j0 => z, j1 => l
  obtain rfl : z = 0 := Subsingleton.elim _ _
  refine (dg_array m c l).trans ((NormRef.dg_at _ _ _ _ l).trans ?_).symm
  refine Finset.sum_congr rfl fun p _ => ?_
  unfold dgTerm
  rw [T_lt, row_lt, mul_comm]
  rfl

theorem dw_eq (c : Dev nD) : Value.G7 m c = val_main_v51 (F := Ideal) (a0 m c) (a1 m c) (a4 m c) (a5 m c) := by
  refine funext fun (j : S8x1024x256.Idx) => ?_
  idx_vars j
  rename' j0 => d, j1 => a, j2 => k
  refine (dw_array m c d a k).trans ((NormRef.dw_at _ _ _ _ d a k).trans ?_).symm
  refine Finset.sum_congr rfl fun p _ => ?_
  unfold dwTerm
  rw [cot_lt, row_lt, mul_comm]
  rfl

/-- A padded row is real. -/
theorem pad_zero (c : Dev nD) (R : ℕ) (h : ¬R < 4112) : padRow (H m c) R = fun _ => ((0 : ℝ) : EReal) :=
  funext fun l => (padRow_ge _ _ _ h).trans EReal.coe_zero.symm

theorem dh_eq (c : Dev nD) (hH : ∀ j, ∃ r : ℝ, a0 m c j = (r : EReal)) (hG : ∀ j, ∃ r : ℝ, a1 m c j = (r : EReal))
    (hW : ∀ j, ∃ r : ℝ, a2 m c j = (r : EReal)) (hU : ∀ j, ∃ r : ℝ, a4 m c j = (r : EReal))
    (hY : ∀ j, ∃ r : ℝ, a5 m c j = (r : EReal)) :
    Value.G6 m c = val_main_v48 (F := Ideal) (a0 m c) (a1 m c) (a2 m c) (a3 m c) (a4 m c) (a5 m c) := by
  refine funext fun (j : S4224x1024.Idx) => ?_
  idx_vars j
  rename' j0 => R, j1 => l
  refine (dh_array m c R l).trans ((NormRef.dh_at _ _ _ _ _ _ R l).trans ?_).symm
  by_cases h : R.val < 4112
  · rw [padRow_lt _ _ _ h, padRow_lt _ _ _ h, row_lt m c ⟨R.val, h⟩]
    have eT : T m c R.val = NormRef.T (a2 m c) (a4 m c) (a5 m c) ⟨R.val, h⟩ := funext fun l => T_lt m c ⟨R.val, h⟩ l
    rw [eT]
    choose x ex using fun l : Fin 1024 => (hH (ix3 (0 : Fin 1) ⟨R.val, h⟩ l) : ∃ r : ℝ, H m c ⟨R.val, h⟩ l = (r : EReal))
    choose g eg using fun l : Fin 1024 => (hG (ix2 (0 : Fin 1) l) : ∃ r : ℝ, G m c l = (r : EReal))
    choose w ew using fun (l : Fin 1024) (n : Fin 2048) => hW (ix2 l n)
    choose u eu using fun l : Fin 1024 => hU (ix3 (0 : Fin 1) ⟨R.val, h⟩ l)
    choose y ey using fun l : Fin 1024 => hY (ix3 (0 : Fin 1) ⟨R.val, h⟩ l)
    have er : ∀ l, ∃ t : ℝ, NormRef.T (a2 m c) (a4 m c) (a5 m c) ⟨R.val, h⟩ l = (t : EReal) := by
      intro l
      unfold NormRef.T
      simp only [ew, eu, ey, ← EReal.coe_mul]
      rw [coe_sum, coe_sum, ← EReal.coe_add]
      exact ⟨_, rfl⟩
    choose t et using er
    rw [show NormRef.row (a0 m c) ⟨R.val, h⟩ = H m c ⟨R.val, h⟩ from rfl, show NormRef.gain (a1 m c) = G m c from rfl,
      show H m c ⟨R.val, h⟩ = fun l => (x l : EReal) from funext ex, show G m c = fun l => (g l : EReal) from funext eg,
      show NormRef.T (a2 m c) (a4 m c) (a5 m c) ⟨R.val, h⟩ = fun l => (t l : EReal) from funext et, Rms.dx_eq]
    rw [add_assoc, add_assoc, ← add_assoc ((t l : EReal) * _ * _)]
    rfl
  · rw [padRow_ge _ _ _ h, padRow_ge _ _ _ h, pad_zero m c _ h, zero_add]
    exact (Rms.dx_zero _ _ _ (T_ge m c _ h) l).symm

end Cert.Norm

end
-- ==== Proof.NormRun.lean ====
/- The two runs of the norm's backward call side by side. -/
module

public import proofs.«01_k».proof.Proof.NormValue

@[expose] public section

set_option maxRecDepth 16384

noncomputable section

namespace Cert.Norm

open Idealize.ShloMosaic Idealize.ShloMosaic.TcCoe Idealize.SL.Sem Cert.Arith

theorem preFacts : Cert.Pre_norm_finite.Facts := by
  constructor <;> decide

instance : Cert.Pre_norm_finite.Facts := preFacts

open Cert.NormReferenceIdeal.Read in
theorem algebraic : Cert.algebraic_NormKernelIdeal_NormReferenceIdeal_pre_norm_finite := by
  intro m g m' g' hpre hag
  refine ⟨fun c => Cert.NormKernelIdeal.Value.G6 m c, fun c => Cert.NormKernelIdeal.Value.G7 m c,
    fun c => Cert.NormKernelIdeal.Value.G8 m c,
    Cert.NormKernelIdeal.Value.run m g, (θ_run _ _ _).mono (fun r h c => ?_) (Cert.NormReferenceIdeal.Value.run m' g')⟩
  obtain ⟨e0, e1, e2, e3, e4, e5⟩ := hag c
  obtain ⟨r0, r1, r2, k⟩ := h c
  obtain ⟨h0, h1, h2, h4, h5⟩ := hpre c
  refine ⟨r0.trans ?_, r1.trans ?_, r2.trans ?_, k⟩
  · refine (val_main_v48_eq m' c).trans ?_
    rw [e0, e1, e2, e3, e4, e5]
    exact (dh_eq m c (fun j => exists_real (congrFun h0 j)) (fun j => exists_real (congrFun h1 j))
      (fun j => exists_real (congrFun h2 j)) (fun j => exists_real (congrFun h4 j)) (fun j => exists_real (congrFun h5 j))).symm
  · rw [e0, e1, e4, e5]; exact (dw_eq m c).symm
  · rw [e0, e2, e4, e5]; exact (dg_eq m c).symm

end Cert.Norm

end
-- ==== Proof.LossBody.lean ====
/- What the body of the loss's kernel leaves after one grid point: each output block, and the running sums that it
   carries, at an index, from the blocks that the point reads. -/
module

public import proofs.«01_k».proof.Proof.Gen.LossKernelIdeal.Value
public import Idealize.ShloMosaic.Lib.Pipeline.ValueKit
public import Idealize.ShloMosaic.Lib.Pipeline.ReadBack
public import Idealize.ShloMosaic.Lib.Pointwise
public import Idealize.ShloMosaic.Lib.WordCmp
public import proofs.«01_k».proof.Proof.Rms

@[expose] public section

set_option maxRecDepth 16384

noncomputable section

namespace Cert.Loss

open Cert.LossKernelIdeal Cert.LossKernelIdeal.Gen Idealize.ShloMosaic Idealize.ShloMosaic.TcCoe Idealize.SL.Sem

theorem coords_eq : ∀ t : Fin grid0.N, ((grid0.coords t) 0).val = t.val := by decide +kernel

theorem select_decide {α : Type} (p : Prop) [Decidable p] (a b : α) :
    Scalar.select (BitVec.ofBool (decide p)) a b = if p then a else b := by
  by_cases h : p <;> simp only [h, decide_true, decide_false, if_true, if_false] <;> rfl

theorem live_at (t : Fin grid0.N) (r : Fin 384) : k0_pay19 (grid0.coords t) (ix2 r 0)
    = BitVec.ofBool (decide (16 ≤ t.val * 384 + r.val ∧ t.val * 384 + r.val < 4112)) := by
  have ht : t.val < 11 := t.isLt
  unfold k0_pay19
  rw [coords_eq]
  pointwise
  rw [show Scalar.muli (BitVec.ofNat 32 t.val) 384#32 = BitVec.ofNat 32 (t.val * 384) from WordCmp.muli_ofNat _ _, WordCmp.addi_ofNat]
  word_cmp
  rw [Bool.decide_and]

/-- The difference of the normalised output `n` and its target at a row, from the block the point reads: the first
    block's target starts sixteen rows later. Rows before the first target and padded rows count none. -/
def errv (t : ℕ) (g : Vec Ideal S1x1024 .f32) (n : Fin 384 → Fin 1024 → EReal) (x : Vec Ideal S384x1024 .f32)
    (r : Fin 384) (l : Fin 1024) : EReal :=
  if 16 ≤ t * 384 + r.val ∧ t * 384 + r.val < 4112 then
    n r l * g (ix2 0 l) - (if t = 0 then x (ix2 ⟨(r.val + 384 - 16) % 384, Nat.mod_lt _ (by decide)⟩ l) else x (ix2 r l)) else 0

theorem err_payload (t : Fin grid0.N) (g : Vec Ideal S1x1024 .f32) (n x : Vec Ideal S384x1024 .f32) (r : Fin 384) (l : Fin 1024) :
    k0_pay20 (F := Ideal) (BitVec.ofNat 32 ((grid0.coords t) 0).val) g n (k0_pay19 (grid0.coords t)) x (ix2 r l)
      = errv t.val g (fun r l => n (ix2 r l)) x r l := by
  have ht : t.val < 11 := t.isLt
  pointwise [k0_pay20]
  rw [live_at, coords_eq]
  have e : Scalar.cmpi .eq (BitVec.ofNat 32 t.val) 0#32 = BitVec.ofBool (decide (t.val = 0)) :=
    WordCmp.cmpi_eq_ofNat (by omega) (by omega)
  rw [e, select_decide, select_decide]
  rfl

section Block
variable (a : Vec Ideal S384x1024 .f32) (q : Vec Ideal S384x1024 .bf16) (h : Vec Ideal S384x1024 .f32)
  (w : Vec Ideal S1024x1024 .bf16) (g : Vec Ideal S1x1024 .f32) (x : Vec Ideal S384x1024 .f32)

/-- The gate's own factor. -/
def silu (r : Fin 384) (l : Fin 1024) : EReal := q (ix2 r l) * Ideal.logistic (q (ix2 r l))
/-- The gated row. -/
def y (r : Fin 384) (l : Fin 1024) : EReal := a (ix2 r l) * silu q r l
/-- The last layer's output. -/
def out (r : Fin 384) (l : Fin 1024) : EReal := h (ix2 r l) + ∑ k : Fin 1024, y a q r k * w (ix2 k l)
/-- That row, normalised. -/
def nrm (r : Fin 384) (l : Fin 1024) : EReal := out a q h w r l * Rms.rs (out a q h w r)
/-- The cotangent of the norm's output. -/
def T (t : ℕ) (r : Fin 384) (l : Fin 1024) : EReal := errv t g (nrm a q h w) x r l * Ideal.ofBits .f32 0x3A800000#32
/-- The cotangent of the last layer's output. -/
def dx (t : ℕ) (r : Fin 384) (l : Fin 1024) : EReal :=
  Rms.dx (out a q h w r) (fun l => g (ix2 0 l)) (T a q h w g x t r) l
/-- The cotangent of the gated row. -/
def dy (t : ℕ) (r : Fin 384) (l : Fin 1024) : EReal := ∑ k : Fin 1024, dx a q h w g x t r k * w (ix2 l k)

theorem out_payload (r : Fin 384) (l : Fin 1024) : k0_pay16 (F := Ideal) a q h w (ix2 r l) = out a q h w r l := by
  pointwise [k0_pay16, k0_pay15, k0_pay14, k0_pay13, k0_pay12]
  rfl

theorem rs_payload (r : Fin 384) : k0_pay17 (F := Ideal) a q h w (ix2 r 0) = Rms.rs (out a q h w r) := by
  have e := out_payload a q h w r
  unfold k0_pay17
  generalize k0_pay16 (F := Ideal) a q h w = P at e ⊢
  pointwise
  simp only [e]
  rfl

theorem nrm_payload (r : Fin 384) (l : Fin 1024) : k0_pay18 (F := Ideal) a q h w (ix2 r l) = nrm a q h w r l := by
  have e := out_payload a q h w r
  have e' := rs_payload a q h w r
  unfold k0_pay18
  generalize k0_pay16 (F := Ideal) a q h w = P at e ⊢
  generalize k0_pay17 (F := Ideal) a q h w = Q at e' ⊢
  pointwise
  simp only [e, e']
  rfl

variable (t : Fin grid0.N)

/-- The payload of the difference. -/
abbrev errP : Vec Ideal S384x1024 .f32 :=
  k0_pay20 (F := Ideal) (BitVec.ofNat 32 ((grid0.coords t) 0).val) (k0_pay11 (F := Ideal) g) (k0_pay18 (F := Ideal) a q h w)
    (k0_pay19 (grid0.coords t)) x

theorem errP_at (r : Fin 384) (l : Fin 1024) : errP a q h w g x t (ix2 r l) = errv t.val g (nrm a q h w) x r l := by
  unfold errP
  rw [err_payload]
  simp only [nrm_payload]
  unfold errv
  rw [show k0_pay11 (F := Ideal) g (ix2 0 l) = g (ix2 0 l) by pointwise [k0_pay11]]

/-- The payload of the cotangent of the last layer's output. -/
abbrev dxP : Vec Ideal S384x1024 .f32 :=
  k0_pay23 (F := Ideal) (BitVec.ofNat 32 ((grid0.coords t) 0).val) (k0_pay11 (F := Ideal) g) (k0_pay17 (F := Ideal) a q h w)
    (k0_pay18 (F := Ideal) a q h w) (k0_pay19 (grid0.coords t)) x

theorem dxP_at (r : Fin 384) (l : Fin 1024) : dxP a q h w g x t (ix2 r l) = dx a q h w g x t.val r l := by
  have e := errP_at a q h w g x t r
  have e1 := nrm_payload a q h w r
  have e2 := rs_payload a q h w r
  unfold errP at e
  unfold dxP k0_pay23 k0_pay22
  generalize k0_pay20 (F := Ideal) _ _ _ _ _ = P at e ⊢
  generalize k0_pay18 (F := Ideal) a q h w = Q at e1 ⊢
  generalize k0_pay17 (F := Ideal) a q h w = R at e2 ⊢
  pointwise [k0_pay11]
  simp only [e, e1, e2]
  rfl

theorem dg_payload (z : Vec Ideal S1x1024 .f32) (l : Fin 1024) :
    k0_pay1 (F := Ideal) (k0_pay24 (F := Ideal) (BitVec.ofNat 32 ((grid0.coords t) 0).val) (k0_pay11 (F := Ideal) g)
      (k0_pay18 (F := Ideal) a q h w) (k0_pay19 (grid0.coords t)) x) z (ix2 0 l)
      = z (ix2 0 l) + ∑ r : Fin 384, T a q h w g x t.val r l * nrm a q h w r l := by
  have e := errP_at a q h w g x t
  have e1 := nrm_payload a q h w
  unfold errP at e
  unfold k0_pay24 k0_pay22
  generalize k0_pay20 (F := Ideal) _ _ _ _ _ = P at e ⊢
  generalize k0_pay18 (F := Ideal) a q h w = Q at e1 ⊢
  pointwise [k0_pay1]
  simp only [e, e1]
  rfl

theorem loss_payload (z : Vec Ideal S1x1 .f32) :
    k0_pay21 (F := Ideal) (BitVec.ofNat 32 ((grid0.coords t) 0).val) (k0_pay11 (F := Ideal) g)
      (k0_pay18 (F := Ideal) a q h w) (k0_pay19 (grid0.coords t)) x z (ix2 0 0)
      = z (ix2 0 0) + Ideal.ofBits .f32 0x3A000000#32 * ∑ r : Fin 384, ∑ l : Fin 1024,
          errv t.val g (nrm a q h w) x r l * errv t.val g (nrm a q h w) x r l := by
  have e := errP_at a q h w g x t
  unfold errP at e
  unfold k0_pay21
  generalize k0_pay20 (F := Ideal) _ _ _ _ _ = P at e ⊢
  pointwise
  simp only [e]

theorem dy_payload (r : Fin 384) (l : Fin 1024) : k0_pay4 (F := Ideal) (dxP a q h w g x t) w (ix2 r l) = dy a q h w g x t.val r l := by
  have e := dxP_at a q h w g x t r
  generalize dxP a q h w g x t = P at e ⊢
  pointwise [k0_pay4, k0_pay2]
  simp only [e]
  rfl

theorem da_payload (r : Fin 384) (l : Fin 1024) :
    k0_pay5 (F := Ideal) (k0_pay14 (F := Ideal) q) (dxP a q h w g x t) w (ix2 r l) = dy a q h w g x t.val r l * silu q r l := by
  have e := dy_payload a q h w g x t r
  unfold k0_pay5
  generalize k0_pay4 (F := Ideal) _ _ = P at e ⊢
  pointwise [k0_pay14, k0_pay13]
  simp only [e]
  rfl

theorem dgate_payload (r : Fin 384) (l : Fin 1024) :
    k0_pay6 (F := Ideal) (k0_pay12 (F := Ideal) a) (k0_pay13 (F := Ideal) q) (dxP a q h w g x t) w (ix2 r l)
      = dy a q h w g x t.val r l * a (ix2 r l)
        * (Ideal.logistic (q (ix2 r l)) * (1 + q (ix2 r l) * (1 - Ideal.logistic (q (ix2 r l))))) := by
  have e := dy_payload a q h w g x t r
  unfold k0_pay6
  generalize k0_pay4 (F := Ideal) _ _ = P at e ⊢
  pointwise [k0_pay12, k0_pay13]
  simp only [e]

theorem dw_payload (z : Vec Ideal S1024x1024 .f32) (i j : Fin 1024) :
    k0_pay3 (F := Ideal) (k0_pay15 (F := Ideal) a q) (dxP a q h w g x t) z (ix2 i j)
      = z (ix2 i j) + ∑ r : Fin 384, y a q r i * dx a q h w g x t.val r j := by
  have e := dxP_at a q h w g x t
  generalize dxP a q h w g x t = P at e ⊢
  pointwise [k0_pay3, k0_pay2, k0_pay15, k0_pay14, k0_pay13, k0_pay12]
  simp only [e]
  rfl

end Block

variable (m : (ℓ : Loc nD τ sig) → Buf (Elt Ideal) ℓ)

/-- The blocks that a grid point reads: the last layer's two inputs, what passes it by, its projection, the norm's gain,
    and the target. -/
abbrev ab (c : Dev nD) (t : Fin cfg0.N) : Vec Ideal S384x1024 .f32 := iblk m c 0 t
abbrev qb (c : Dev nD) (t : Fin cfg0.N) : Vec Ideal S384x1024 .bf16 := iblk m c 1 t
abbrev hb (c : Dev nD) (t : Fin cfg0.N) : Vec Ideal S384x1024 .f32 := iblk m c 2 t
abbrev wb (c : Dev nD) (t : Fin cfg0.N) : Vec Ideal S1024x1024 .bf16 := iblk m c 3 t
abbrev gb (c : Dev nD) (t : Fin cfg0.N) : Vec Ideal S1x1024 .f32 := iblk m c 4 t
abbrev xb (c : Dev nD) (t : Fin cfg0.N) : Vec Ideal S384x1024 .f32 := iblk m c 5 t

theorem dh_block (c : Dev nD) (t : Fin cfg0.N) (r : Fin 384) (l : Fin 1024) :
    (outsAt0 m c t.val t.isLt).1 (ix2 r l) = dx (ab m c t) (qb m c t) (hb m c t) (wb m c t) (gb m c t) (xb m c t) t.val r l := by
  have e : (outsAt0 m c t.val t.isLt).1 = dxP (ab m c t) (qb m c t) (hb m c t) (wb m c t) (gb m c t) (xb m c t) t := by
    by_cases h0 : t.val % 11 = 0
    · rw [outsAt0_A m c t h0 (by omega)]; dsimp only; frame_out
    · by_cases h1 : t.val % 11 = 10
      · rw [outsAt0_C m c t h0 h1]; dsimp only; frame_out
      · rw [outsAt0_B m c t h0 h1]; dsimp only; frame_out
  rw [e, dxP_at]

theorem da_block (c : Dev nD) (t : Fin cfg0.N) (r : Fin 384) (l : Fin 1024) :
    (outsAt0 m c t.val t.isLt).2.2.2.1 (ix2 r l) = dy (ab m c t) (qb m c t) (hb m c t) (wb m c t) (gb m c t) (xb m c t) t.val r l * silu (qb m c t) r l := by
  have e : (outsAt0 m c t.val t.isLt).2.2.2.1 = k0_pay5 (F := Ideal) (k0_pay14 (F := Ideal) (qb m c t)) (dxP (ab m c t) (qb m c t) (hb m c t) (wb m c t) (gb m c t) (xb m c t) t) (wb m c t) := by
    by_cases h0 : t.val % 11 = 0
    · rw [outsAt0_A m c t h0 (by omega)]; dsimp only; frame_out
    · by_cases h1 : t.val % 11 = 10
      · rw [outsAt0_C m c t h0 h1]; dsimp only; frame_out
      · rw [outsAt0_B m c t h0 h1]; dsimp only; frame_out
  rw [e, da_payload]

theorem dgate_block (c : Dev nD) (t : Fin cfg0.N) (r : Fin 384) (l : Fin 1024) :
    (outsAt0 m c t.val t.isLt).2.2.2.2.1 (ix2 r l) = dy (ab m c t) (qb m c t) (hb m c t) (wb m c t) (gb m c t) (xb m c t) t.val r l * ab m c t (ix2 r l)
        * (Ideal.logistic (qb m c t (ix2 r l)) * (1 + qb m c t (ix2 r l) * (1 - Ideal.logistic (qb m c t (ix2 r l))))) := by
  have e : (outsAt0 m c t.val t.isLt).2.2.2.2.1 = k0_pay6 (F := Ideal) (k0_pay12 (F := Ideal) (ab m c t)) (k0_pay13 (F := Ideal) (qb m c t)) (dxP (ab m c t) (qb m c t) (hb m c t) (wb m c t) (gb m c t) (xb m c t) t) (wb m c t) := by
    by_cases h0 : t.val % 11 = 0
    · rw [outsAt0_A m c t h0 (by omega)]; dsimp only; frame_out
    · by_cases h1 : t.val % 11 = 10
      · rw [outsAt0_C m c t h0 h1]; dsimp only; frame_out
      · rw [outsAt0_B m c t h0 h1]; dsimp only; frame_out
  rw [e, dgate_payload]

/-- The part of the loss that one grid point adds. -/
def lossB (c : Dev nD) (t : Fin cfg0.N)  : EReal :=
  Ideal.ofBits .f32 0x3A000000#32 * ∑ r : Fin 384, ∑ l : Fin 1024,
    errv t.val (gb m c t) (nrm (ab m c t) (qb m c t) (hb m c t) (wb m c t)) (xb m c t) r l * errv t.val (gb m c t) (nrm (ab m c t) (qb m c t) (hb m c t) (wb m c t)) (xb m c t) r l

theorem loss_first (c : Dev nD) (t : Fin cfg0.N) (h0 : t.val % 11 = 0)  :
    (outsAt0 m c t.val t.isLt).2.1 (ix2 0 0) = lossB m c t := by
  have e : (outsAt0 m c t.val t.isLt).2.1 = k0_pay21 (F := Ideal) (BitVec.ofNat 32 ((grid0.coords t) 0).val) (k0_pay11 (F := Ideal) (gb m c t))
      (k0_pay18 (F := Ideal) (ab m c t) (qb m c t) (hb m c t) (wb m c t)) (k0_pay19 (grid0.coords t)) (xb m c t)
      (k0_pay8 (F := Ideal)) := by
    rw [outsAt0_A m c t h0 (by omega)]; dsimp only; frame_out
  rw [e, loss_payload]
  have z : k0_pay8 (F := Ideal) (ix2 0 0) = 0 := by pointwise [k0_pay8]
  rw [z, zero_add]; rfl

theorem loss_next (c : Dev nD) (t : Fin cfg0.N) (h0 : ¬t.val % 11 = 0)  :
    (outsAt0 m c t.val t.isLt).2.1 (ix2 0 0) = (outsAt0 m c (t.val - 1) (Nat.lt_of_le_of_lt (Nat.sub_le _ _) t.isLt)).2.1 (ix2 0 0) + lossB m c t := by
  have e : (outsAt0 m c t.val t.isLt).2.1 = k0_pay21 (F := Ideal) (BitVec.ofNat 32 ((grid0.coords t) 0).val) (k0_pay11 (F := Ideal) (gb m c t))
      (k0_pay18 (F := Ideal) (ab m c t) (qb m c t) (hb m c t) (wb m c t)) (k0_pay19 (grid0.coords t)) (xb m c t)
      (outsAt0 m c (t.val - 1) (Nat.lt_of_le_of_lt (Nat.sub_le _ _) t.isLt)).2.1 := by
    by_cases h1 : t.val % 11 = 10
    · rw [outsAt0_C m c t h0 h1]; dsimp only; frame_out
    · rw [outsAt0_B m c t h0 h1]; dsimp only; frame_out
  rw [e, loss_payload]; rfl

/-- The part of the gain's gradient that one grid point adds. -/
def dgB (c : Dev nD) (t : Fin cfg0.N) (l : Fin 1024) : EReal :=
  ∑ r : Fin 384, T (ab m c t) (qb m c t) (hb m c t) (wb m c t) (gb m c t) (xb m c t) t.val r l * nrm (ab m c t) (qb m c t) (hb m c t) (wb m c t) r l

theorem dg_first (c : Dev nD) (t : Fin cfg0.N) (h0 : t.val % 11 = 0) (l : Fin 1024) :
    (outsAt0 m c t.val t.isLt).2.2.1 (ix2 0 l) = dgB m c t l := by
  have e : (outsAt0 m c t.val t.isLt).2.2.1 = k0_pay1 (F := Ideal) (k0_pay24 (F := Ideal) (BitVec.ofNat 32 ((grid0.coords t) 0).val) (k0_pay11 (F := Ideal) (gb m c t))
      (k0_pay18 (F := Ideal) (ab m c t) (qb m c t) (hb m c t) (wb m c t)) (k0_pay19 (grid0.coords t)) (xb m c t))
      (k0_pay9 (F := Ideal)) := by
    rw [outsAt0_A m c t h0 (by omega)]; dsimp only; frame_out
  rw [e, dg_payload]
  have z : k0_pay9 (F := Ideal) (ix2 0 l) = 0 := by pointwise [k0_pay9]
  rw [z, zero_add]; rfl

theorem dg_next (c : Dev nD) (t : Fin cfg0.N) (h0 : ¬t.val % 11 = 0) (l : Fin 1024) :
    (outsAt0 m c t.val t.isLt).2.2.1 (ix2 0 l) = (outsAt0 m c (t.val - 1) (Nat.lt_of_le_of_lt (Nat.sub_le _ _) t.isLt)).2.2.1 (ix2 0 l) + dgB m c t l := by
  have e : (outsAt0 m c t.val t.isLt).2.2.1 = k0_pay1 (F := Ideal) (k0_pay24 (F := Ideal) (BitVec.ofNat 32 ((grid0.coords t) 0).val) (k0_pay11 (F := Ideal) (gb m c t))
      (k0_pay18 (F := Ideal) (ab m c t) (qb m c t) (hb m c t) (wb m c t)) (k0_pay19 (grid0.coords t)) (xb m c t))
      (outsAt0 m c (t.val - 1) (Nat.lt_of_le_of_lt (Nat.sub_le _ _) t.isLt)).2.2.1 := by
    by_cases h1 : t.val % 11 = 10
    · rw [outsAt0_C m c t h0 h1]; dsimp only; frame_out
    · rw [outsAt0_B m c t h0 h1]; dsimp only; frame_out
  rw [e, dg_payload]; rfl

/-- The part of the projection's gradient that one grid point adds. -/
def dwB (c : Dev nD) (t : Fin cfg0.N) (i j : Fin 1024) : EReal :=
  ∑ r : Fin 384, y (ab m c t) (qb m c t) r i * dx (ab m c t) (qb m c t) (hb m c t) (wb m c t) (gb m c t) (xb m c t) t.val r j

theorem acc_first (c : Dev nD) (t : Fin cfg0.N) (h0 : t.val % 11 = 0) (i j : Fin 1024) :
    (outsAt0 m c t.val t.isLt).2.2.2.2.2.2 (ix2 i j) = dwB m c t i j := by
  have e : (outsAt0 m c t.val t.isLt).2.2.2.2.2.2 = k0_pay3 (F := Ideal) (k0_pay15 (F := Ideal) (ab m c t) (qb m c t)) (dxP (ab m c t) (qb m c t) (hb m c t) (wb m c t) (gb m c t) (xb m c t) t)
      (k0_pay10 (F := Ideal)) := by
    rw [outsAt0_A m c t h0 (by omega)]; dsimp only; frame_out
  rw [e, dw_payload]
  have z : k0_pay10 (F := Ideal) (ix2 i j) = 0 := by pointwise [k0_pay10]
  rw [z, zero_add]; rfl

theorem acc_next (c : Dev nD) (t : Fin cfg0.N) (h0 : ¬t.val % 11 = 0) (i j : Fin 1024) :
    (outsAt0 m c t.val t.isLt).2.2.2.2.2.2 (ix2 i j) = (outsAt0 m c (t.val - 1) (Nat.lt_of_le_of_lt (Nat.sub_le _ _) t.isLt)).2.2.2.2.2.2 (ix2 i j) + dwB m c t i j := by
  have e : (outsAt0 m c t.val t.isLt).2.2.2.2.2.2 = k0_pay3 (F := Ideal) (k0_pay15 (F := Ideal) (ab m c t) (qb m c t)) (dxP (ab m c t) (qb m c t) (hb m c t) (wb m c t) (gb m c t) (xb m c t) t)
      (outsAt0 m c (t.val - 1) (Nat.lt_of_le_of_lt (Nat.sub_le _ _) t.isLt)).2.2.2.2.2.2 := by
    by_cases h1 : t.val % 11 = 10
    · rw [outsAt0_C m c t h0 h1]; dsimp only; frame_out; simp only [read_unread_whole]
    · rw [outsAt0_B m c t h0 h1]; dsimp only; frame_out; simp only [read_unread_whole]
  rw [e, dw_payload]; rfl

theorem dw_block (c : Dev nD) (t : Fin cfg0.N) (h1 : t.val % 11 = 10) (i j : Fin 1024) :
    (outsAt0 m c t.val t.isLt).2.2.2.2.2.1 (ix2 i j) = (outsAt0 m c t.val t.isLt).2.2.2.2.2.2 (ix2 i j) := by
  have h0 : ¬t.val % 11 = 0 := by omega
  rw [outsAt0_C m c t h0 h1]; dsimp only
  frame_out
  pointwise [k0_pay7]

end Cert.Loss

end
-- ==== Proof.LossArray.lean ====
/- What the loss's kernel leaves in its six output arrays, at an index, from the arrays it is called with: the host pads
   the rows to eleven blocks of 384, the blocks are put together, and the loss and the two parameters' gradients are
   running sums over the blocks. -/
module

public import proofs.«01_k».proof.Proof.LossBody
public import Idealize.ShloMosaic.Lib.StableHlo.ReadAt

@[expose] public section

set_option maxRecDepth 16384

noncomputable section

namespace Cert.Loss

open Cert.LossKernelIdeal Cert.LossKernelIdeal.Gen Idealize.ShloMosaic Idealize.ShloMosaic.TcCoe Idealize.SL.Sem Cert.Arith

variable (m : (ℓ : Loc nD τ sig) → Buf (Elt Ideal) ℓ)

theorem index_eq : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![t.val * 384 - 16, 0] := by decide +kernel

theorem point_lt (t : Fin cfg0.N) : t.val < 11 := lt_of_lt_of_eq t.isLt (show cfg0.N = 11 from N_0)

/-- The scanned states, a row per position. -/
def A (c : Dev nD) (p : Fin 4112) (l : Fin 1024) : EReal := m (c, Proc.tc.devRef main_arg0) (ix3 (0 : Fin 1) p l)
/-- The gate. -/
def Q (c : Dev nD) (p : Fin 4112) (l : Fin 1024) : EReal := m (c, Proc.tc.devRef main_arg1) (ix3 (0 : Fin 1) p l)
/-- The last layer's input. -/
def H (c : Dev nD) (p : Fin 4112) (l : Fin 1024) : EReal := m (c, Proc.tc.devRef main_arg2) (ix3 (0 : Fin 1) p l)
/-- The projection. -/
def W (c : Dev nD) (i j : Fin 1024) : EReal := m (c, Proc.tc.devRef main_arg3) (ix2 i j)
/-- The gain. -/
def G (c : Dev nD) (l : Fin 1024) : EReal := m (c, Proc.tc.devRef main_arg4) (ix1 l)
/-- The targets. -/
def X (c : Dev nD) (p : Fin 4096) (l : Fin 1024) : EReal := m (c, Proc.tc.devRef main_arg5) (ix3 (0 : Fin 1) p l)

theorem entry_a (c : Dev nD) (R : Fin 4224) (l : Fin 1024) :
    @Eq EReal (V m c main_v3 (ix2 R l)) (padRow (A m c) R.val l) := by
  simp only [V, List.flatten_cons, List.flatten_nil, List.cons_append, List.nil_append, hostOps0, hostOps0_1, hostOps0_2, hostOps0_3, hostOps0_4, hostOps0_5, hostOps0_6, hostOps0_7, hostOps0_8]
  after_reads_at
  rw [sitofp_zero]; rfl

theorem ab_at (c : Dev nD) (t : Fin cfg0.N) (r : Fin 384) (l : Fin 1024) :
    ab m c t (ix2 r l) = padRow (A m c) (t.val * 384 + r.val) l := by
  have ht := point_lt t
  rw [show ab m c t (ix2 r l) = V m c main_v3 (ix2 ⟨t.val * 384 + r.val, by omega⟩ l) by blk_ext [ab, iblk, index_eq t]]
  exact entry_a m c _ l

theorem entry_q (c : Dev nD) (R : Fin 4224) (l : Fin 1024) :
    @Eq EReal (V m c main_v6 (ix2 R l)) (padRow (Q m c) R.val l) := by
  simp only [V, List.flatten_cons, List.flatten_nil, List.cons_append, List.nil_append, hostOps0, hostOps0_1, hostOps0_2, hostOps0_3, hostOps0_4, hostOps0_5, hostOps0_6, hostOps0_7, hostOps0_8]
  after_reads_at
  rw [sitofp_zero]; rfl

theorem qb_at (c : Dev nD) (t : Fin cfg0.N) (r : Fin 384) (l : Fin 1024) :
    qb m c t (ix2 r l) = padRow (Q m c) (t.val * 384 + r.val) l := by
  have ht := point_lt t
  rw [show qb m c t (ix2 r l) = V m c main_v6 (ix2 ⟨t.val * 384 + r.val, by omega⟩ l) by blk_ext [qb, iblk, index_eq t]]
  exact entry_q m c _ l

theorem entry_h (c : Dev nD) (R : Fin 4224) (l : Fin 1024) :
    @Eq EReal (V m c main_v8 (ix2 R l)) (padRow (H m c) R.val l) := by
  simp only [V, List.flatten_cons, List.flatten_nil, List.cons_append, List.nil_append, hostOps0, hostOps0_1, hostOps0_2, hostOps0_3, hostOps0_4, hostOps0_5, hostOps0_6, hostOps0_7, hostOps0_8]
  after_reads_at
  rw [sitofp_zero]; rfl

theorem hb_at (c : Dev nD) (t : Fin cfg0.N) (r : Fin 384) (l : Fin 1024) :
    hb m c t (ix2 r l) = padRow (H m c) (t.val * 384 + r.val) l := by
  have ht := point_lt t
  rw [show hb m c t (ix2 r l) = V m c main_v8 (ix2 ⟨t.val * 384 + r.val, by omega⟩ l) by blk_ext [hb, iblk, index_eq t]]
  exact entry_h m c _ l

theorem entry_x (c : Dev nD) (R : Fin 4208) (l : Fin 1024) :
    @Eq EReal (V m c main_v1 (ix2 R l)) (padRow (X m c) R.val l) := by
  simp only [V, List.flatten_cons, List.flatten_nil, List.cons_append, List.nil_append, hostOps0, hostOps0_1, hostOps0_2, hostOps0_3, hostOps0_4, hostOps0_5, hostOps0_6, hostOps0_7, hostOps0_8]
  after_reads_at
  rw [sitofp_zero]; rfl

theorem xb_at (c : Dev nD) (t : Fin cfg0.N) (r : Fin 384) (l : Fin 1024) :
    xb m c t (ix2 r l) = padRow (X m c) (t.val * 384 - 16 + r.val) l := by
  have ht := point_lt t
  rw [show xb m c t (ix2 r l) = V m c main_v1 (ix2 ⟨t.val * 384 - 16 + r.val, by omega⟩ l) from
    congrArg (V m c main_v1) (funext fun a => by
      have e := (index_eq t).2.2.2.2.2
      fin_cases a
      · exact Fin.ext ((show _ = (win0_5.index t) 0 + 1 * r.val from rfl).trans (by rw [e, one_mul]; rfl))
      · exact Fin.ext ((show _ = (win0_5.index t) 1 + 1 * l.val from rfl).trans (by rw [e, one_mul]; exact Nat.zero_add _)))]
  exact entry_x m c _ l

theorem entry_w (c : Dev nD) (i j : Fin 1024) : @Eq EReal (V m c main_v9 (ix2 i j)) (W m c i j) := by
  simp only [V, List.flatten_cons, List.flatten_nil, List.cons_append, List.nil_append, hostOps0, hostOps0_1, hostOps0_2, hostOps0_3, hostOps0_4, hostOps0_5, hostOps0_6, hostOps0_7, hostOps0_8]
  after_reads_at
  rfl

theorem wb_at (c : Dev nD) (t : Fin cfg0.N) (i j : Fin 1024) : wb m c t (ix2 i j) = W m c i j := by
  rw [show wb m c t (ix2 i j) = V m c main_v9 (ix2 i j) by blk_ext [wb, iblk, index_eq t]]
  exact entry_w m c i j

theorem entry_g (c : Dev nD) (l : Fin 1024) : @Eq EReal (V m c main_v10 (ix2 0 l)) (G m c l) := by
  simp only [V, List.flatten_cons, List.flatten_nil, List.cons_append, List.nil_append, hostOps0, hostOps0_1, hostOps0_2, hostOps0_3, hostOps0_4, hostOps0_5, hostOps0_6, hostOps0_7, hostOps0_8]
  after_reads_at
  rfl

theorem gb_at (c : Dev nD) (t : Fin cfg0.N) (l : Fin 1024) : gb m c t (ix2 0 l) = G m c l := by
  rw [show gb m c t (ix2 0 l) = V m c main_v10 (ix2 0 l) by blk_ext [gb, iblk, index_eq t]]
  exact entry_g m c l

/-- The logistic function of the gate, at a row of the padded arrays. -/
def sgR (c : Dev nD) (R : ℕ) (l : Fin 1024) : EReal := Ideal.logistic (padRow (Q m c) R l)
/-- The gate's own factor. -/
def siluR (c : Dev nD) (R : ℕ) (l : Fin 1024) : EReal := padRow (Q m c) R l * sgR m c R l
/-- The gated row. -/
def yR (c : Dev nD) (R : ℕ) (l : Fin 1024) : EReal := padRow (A m c) R l * siluR m c R l
/-- The last layer's output. -/
def outR (c : Dev nD) (R : ℕ) (l : Fin 1024) : EReal := padRow (H m c) R l + ∑ k : Fin 1024, yR m c R k * W m c k l
/-- That row, normalised. -/
def nrmR (c : Dev nD) (R : ℕ) (l : Fin 1024) : EReal := outR m c R l * Rms.rs (outR m c R)
/-- The difference of the scaled row and its target. -/
def errR (c : Dev nD) (R : ℕ) (l : Fin 1024) : EReal :=
  if 16 ≤ R ∧ R < 4112 then nrmR m c R l * G m c l - padRow (X m c) (R - 16) l else 0
/-- The cotangent of the norm's output. -/
def TR (c : Dev nD) (R : ℕ) (l : Fin 1024) : EReal := errR m c R l * Ideal.ofBits .f32 0x3A800000#32
/-- The cotangent of the last layer's output. -/
def dxR (c : Dev nD) (R : ℕ) (l : Fin 1024) : EReal := Rms.dx (outR m c R) (G m c) (TR m c R) l
/-- The cotangent of the gated row. -/
def dyR (c : Dev nD) (R : ℕ) (l : Fin 1024) : EReal := ∑ k : Fin 1024, dxR m c R k * W m c l k

section Row
variable (c : Dev nD) (t : Fin cfg0.N) (r : Fin 384) (l : Fin 1024)

theorem y_row : y (ab m c t) (qb m c t) r l = yR m c (t.val * 384 + r.val) l := by
  unfold y silu yR siluR sgR
  rw [ab_at, qb_at]

theorem out_row : out (ab m c t) (qb m c t) (hb m c t) (wb m c t) r l = outR m c (t.val * 384 + r.val) l := by
  unfold out outR
  simp only [y_row, hb_at, wb_at]

theorem out_fun : out (ab m c t) (qb m c t) (hb m c t) (wb m c t) r = outR m c (t.val * 384 + r.val) :=
  funext fun l => out_row m c t r l

theorem nrm_row : nrm (ab m c t) (qb m c t) (hb m c t) (wb m c t) r l = nrmR m c (t.val * 384 + r.val) l := by
  unfold nrm nrmR
  rw [out_fun]

theorem err_row : errv t.val (gb m c t) (nrm (ab m c t) (qb m c t) (hb m c t) (wb m c t)) (xb m c t) r l
    = errR m c (t.val * 384 + r.val) l := by
  unfold errv errR
  by_cases h : 16 ≤ t.val * 384 + r.val ∧ t.val * 384 + r.val < 4112
  · rw [if_pos h, if_pos h, nrm_row, gb_at]
    congr 1
    by_cases h0 : t.val = 0
    · rw [if_pos h0, xb_at]
      congr 1
      dsimp only
      omega
    · rw [if_neg h0, xb_at]
      congr 1
      omega
  · rw [if_neg h, if_neg h]

theorem T_row : T (ab m c t) (qb m c t) (hb m c t) (wb m c t) (gb m c t) (xb m c t) t.val r l = TR m c (t.val * 384 + r.val) l := by
  unfold T TR
  rw [err_row]

theorem dx_row : dx (ab m c t) (qb m c t) (hb m c t) (wb m c t) (gb m c t) (xb m c t) t.val r l = dxR m c (t.val * 384 + r.val) l := by
  unfold dx dxR
  rw [out_fun, show (fun l => gb m c t (ix2 0 l)) = G m c from funext fun l => gb_at m c t l,
    show T (ab m c t) (qb m c t) (hb m c t) (wb m c t) (gb m c t) (xb m c t) t.val r = TR m c (t.val * 384 + r.val) from
      funext fun l => T_row m c t r l]

theorem dy_row : dy (ab m c t) (qb m c t) (hb m c t) (wb m c t) (gb m c t) (xb m c t) t.val r l = dyR m c (t.val * 384 + r.val) l := by
  unfold dy dyR
  simp only [dx_row, wb_at]

theorem silu_row : silu (qb m c t) r l = siluR m c (t.val * 384 + r.val) l := by
  unfold silu siluR sgR
  rw [qb_at]

end Row

/-- The kernel's array of the last layer's input cotangent. -/
theorem dh_array (c : Dev nD) (R : Fin 4224) (l : Fin 1024) :
    Value.G6 m c (ix2 R l) = dxR m c R.val l := by
  have hp : Value.pt6Of (ix2 R l) = R.val / 384 := by
    show 1 * (R.val / 384 - 0) + 1 * (l.val / 1024 - 0) = _
    omega
  have hN : R.val / 384 < cfg0.N := lt_of_lt_of_eq (by omega) N_0.symm
  have hl : Value.loc6Of (ix2 R l) = ix2 (⟨R.val % 384, by omega⟩ : Fin 384) l := by
    funext a; fin_cases a
    · rfl
    · exact Fin.ext (Nat.mod_eq_of_lt l.isLt)
  unfold Value.G6
  simp only [hp]
  rw [dif_pos hN, ← Value.outsAt0_sweep m c _ hN, hl, dh_block m c ⟨_, hN⟩]
  have e := dx_row m c ⟨R.val / 384, hN⟩ ⟨R.val % 384, by omega⟩ l
  dsimp only at e
  rw [e]
  rw [Nat.div_add_mod' R.val 384]

/-- The kernel's array of the scanned states' cotangent. -/
theorem da_array (c : Dev nD) (R : Fin 4224) (l : Fin 1024) :
    Value.G9 m c (ix2 R l) = dyR m c R.val l * siluR m c R.val l := by
  have hp : Value.pt9Of (ix2 R l) = R.val / 384 := by
    show 1 * (R.val / 384 - 0) + 1 * (l.val / 1024 - 0) = _
    omega
  have hN : R.val / 384 < cfg0.N := lt_of_lt_of_eq (by omega) N_0.symm
  have hl : Value.loc9Of (ix2 R l) = ix2 (⟨R.val % 384, by omega⟩ : Fin 384) l := by
    funext a; fin_cases a
    · rfl
    · exact Fin.ext (Nat.mod_eq_of_lt l.isLt)
  unfold Value.G9
  simp only [hp]
  rw [dif_pos hN, ← Value.outsAt0_sweep m c _ hN, hl, da_block m c ⟨_, hN⟩]
  have e := dy_row m c ⟨R.val / 384, hN⟩ ⟨R.val % 384, by omega⟩ l
  dsimp only at e
  rw [e]
  simp only [silu_row]
  rw [Nat.div_add_mod' R.val 384]

/-- The kernel's array of the gate's cotangent. -/
theorem dgate_array (c : Dev nD) (R : Fin 4224) (l : Fin 1024) :
    Value.G10 m c (ix2 R l) = dyR m c R.val l * padRow (A m c) R.val l
      * (sgR m c R.val l * (1 + padRow (Q m c) R.val l * (1 - sgR m c R.val l))) := by
  have hp : Value.pt10Of (ix2 R l) = R.val / 384 := by
    show 1 * (R.val / 384 - 0) + 1 * (l.val / 1024 - 0) = _
    omega
  have hN : R.val / 384 < cfg0.N := lt_of_lt_of_eq (by omega) N_0.symm
  have hl : Value.loc10Of (ix2 R l) = ix2 (⟨R.val % 384, by omega⟩ : Fin 384) l := by
    funext a; fin_cases a
    · rfl
    · exact Fin.ext (Nat.mod_eq_of_lt l.isLt)
  unfold Value.G10
  simp only [hp]
  rw [dif_pos hN, ← Value.outsAt0_sweep m c _ hN, hl, dgate_block m c ⟨_, hN⟩]
  have e := dy_row m c ⟨R.val / 384, hN⟩ ⟨R.val % 384, by omega⟩ l
  dsimp only at e
  rw [e]
  simp only [ab_at, qb_at, sgR]
  rw [Nat.div_add_mod' R.val 384]

theorem err_ge (c : Dev nD) (R : ℕ) (h : ¬R < 4112) (l : Fin 1024) : errR m c R l = 0 := by
  unfold errR
  rw [if_neg fun e => h e.2]

theorem T_ge (c : Dev nD) (R : ℕ) (h : ¬R < 4112) (l : Fin 1024) : TR m c R l = 0 := by
  unfold TR
  rw [err_ge m c R h, zero_mul]

theorem y_ge (c : Dev nD) (R : ℕ) (h : ¬R < 4112) (l : Fin 1024) : yR m c R l = 0 := by
  unfold yR
  rw [padRow_ge _ _ _ h, zero_mul]

/-- A row's term in the gain's gradient. -/
def dgTerm (c : Dev nD) (l : Fin 1024) (R : ℕ) : EReal := TR m c R l * nrmR m c R l

theorem dg_at (c : Dev nD) (l : Fin 1024) : ∀ n (h : n < cfg0.N),
    (outsAt0 m c n h).2.2.1 (ix2 0 l) = ∑ R ∈ Finset.range ((n + 1) * 384), dgTerm m c l R := by
  have hB : ∀ t : Fin cfg0.N, dgB m c t l = ∑ r : Fin 384, dgTerm m c l (t.val * 384 + r.val) := by
    intro t
    unfold dgB dgTerm
    simp only [T_row, nrm_row]
  refine running_sum 384 (dgTerm m c l) cfg0.N (fun n h => (outsAt0 m c n h).2.2.1 (ix2 0 l)) ?_ ?_
  · intro h
    rw [← hB ⟨0, h⟩]
    exact dg_first m c ⟨0, h⟩ (Nat.zero_mod _) l
  · intro n h
    have hn := point_lt ⟨n + 1, h⟩
    rw [← hB ⟨n + 1, h⟩]
    exact dg_next m c ⟨n + 1, h⟩ (by dsimp only at hn ⊢; omega) l

/-- The kernel's array of that gradient. -/
theorem dg_array (c : Dev nD) (l : Fin 1024) : @Eq EReal (Value.G8 m c (ix2 0 l)) (∑ p : Fin 4112, dgTerm m c l p.val) := by
  have hN : 10 < cfg0.N := lt_of_lt_of_eq (by decide) N_0.symm
  rw [Value.G8_last, ← Value.outsAt0_sweep m c 10 hN, dg_at m c l 10 hN,
    sum_pad 4112 _ (by decide) _ fun R hR => by unfold dgTerm; rw [T_ge m c R (by omega), zero_mul]]

/-- A row's term in the projection's gradient. -/
def dwTerm (c : Dev nD) (i j : Fin 1024) (R : ℕ) : EReal := yR m c R i * dxR m c R j

theorem dw_at (c : Dev nD) (i j : Fin 1024) : ∀ n (h : n < cfg0.N),
    (outsAt0 m c n h).2.2.2.2.2.2 (ix2 i j) = ∑ R ∈ Finset.range ((n + 1) * 384), dwTerm m c i j R := by
  have hB : ∀ t : Fin cfg0.N, dwB m c t i j = ∑ r : Fin 384, dwTerm m c i j (t.val * 384 + r.val) := by
    intro t
    unfold dwB dwTerm
    simp only [y_row, dx_row]
  refine running_sum 384 (dwTerm m c i j) cfg0.N (fun n h => (outsAt0 m c n h).2.2.2.2.2.2 (ix2 i j)) ?_ ?_
  · intro h
    rw [← hB ⟨0, h⟩]
    exact acc_first m c ⟨0, h⟩ (Nat.zero_mod _) i j
  · intro n h
    have hn := point_lt ⟨n + 1, h⟩
    rw [← hB ⟨n + 1, h⟩]
    exact acc_next m c ⟨n + 1, h⟩ (by dsimp only at hn ⊢; omega) i j

/-- The kernel's array of that gradient. -/
theorem dw_array (c : Dev nD) (i j : Fin 1024) : @Eq EReal (Value.G11 m c (ix2 i j)) (∑ p : Fin 4112, dwTerm m c i j p.val) := by
  have hN : 10 < cfg0.N := lt_of_lt_of_eq (by decide) N_0.symm
  rw [Value.G11_last, ← Value.outsAt0_sweep m c 10 hN, dw_block m c ⟨10, hN⟩ rfl, dw_at m c i j 10 hN,
    sum_pad 4112 _ (by decide) _ fun R hR => by unfold dwTerm; rw [y_ge m c R (by omega), zero_mul]]

/-- A row's sum of squared differences. -/
def sqR (c : Dev nD) (R : ℕ) : EReal := ∑ l : Fin 1024, errR m c R l * errR m c R l

theorem lossB_at (c : Dev nD) (t : Fin cfg0.N) :
    lossB m c t = Ideal.ofBits .f32 0x3A000000#32 * ∑ r : Fin 384, sqR m c (t.val * 384 + r.val) := by
  unfold lossB sqR
  simp only [err_row]

end Cert.Loss

end
-- ==== Proof.LossReference.lean ====
/- What the reference of the loss's kernel computes, at an index, stage by stage. -/
module

public import proofs.«01_k».proof.Proof.Gen.LossReferenceIdeal.Read
public import proofs.«01_k».proof.Proof.Rms
public import proofs.«01_k».proof.Proof.Reduce

@[expose] public section

set_option maxRecDepth 16384

noncomputable section

namespace Cert.LossRef

open Cert.LossReferenceIdeal Cert.LossReferenceIdeal.Gen Cert.LossReferenceIdeal.Read
open Idealize.ShloMosaic Idealize.ShloMosaic.TcCoe Idealize.SL.Sem Cert.Arith

variable (x0 x1 x2 : Vec Ideal S1x4112x1024 .f32) (x3 : Vec Ideal S1024x1024 .f32) (x4 : Vec Ideal S1024 .f32)
  (x5 : Vec Ideal S1x4096x1024 .f32)

/-- The logistic function of the gate. -/
def sg (p : Fin 4112) (l : Fin 1024) : EReal := Ideal.logistic (x1 (ix3 (0 : Fin 1) p l))
/-- The gate's own factor. -/
def silu (p : Fin 4112) (l : Fin 1024) : EReal := x1 (ix3 (0 : Fin 1) p l) * sg x1 p l
/-- The gated row. -/
def y (p : Fin 4112) (l : Fin 1024) : EReal := x0 (ix3 (0 : Fin 1) p l) * silu x1 p l
/-- The last layer's output. -/
def out (p : Fin 4112) (l : Fin 1024) : EReal := x2 (ix3 (0 : Fin 1) p l) + ∑ k : Fin 1024, y x0 x1 p k * x3 (ix2 k l)
/-- That row, normalised. -/
def nrm (p : Fin 4112) (l : Fin 1024) : EReal := out x0 x1 x2 x3 p l * Rms.rs (out x0 x1 x2 x3 p)
/-- The difference of the scaled row and its target. -/
def err (p : Fin 4096) (l : Fin 1024) : EReal :=
  nrm x0 x1 x2 x3 ⟨16 + p.val, by omega⟩ l * x4 (ix1 l) - x5 (ix3 (0 : Fin 1) p l)
/-- The cotangent of the norm's output. -/
def T (p : Fin 4112) (l : Fin 1024) : EReal := if h : 16 ≤ p.val ∧ p.val - 16 < 4096 then
    Ideal.div (Ideal.ofBits .f32 0x3F000000#32) Rms.len
      * (Ideal.ofBits .f32 0x40000000#32 * err x0 x1 x2 x3 x4 x5 ⟨p.val - 16, h.2⟩ l) else 0
/-- The cotangent of the last layer's output. -/
def dx (p : Fin 4112) (l : Fin 1024) : EReal :=
  T x0 x1 x2 x3 x4 x5 p l * x4 (ix1 l) * Rms.rs (out x0 x1 x2 x3 p)
    + out x0 x1 x2 x3 p l * Rms.cf (out x0 x1 x2 x3 p) (fun l => x4 (ix1 l)) (T x0 x1 x2 x3 x4 x5 p)
    + Rms.cf (out x0 x1 x2 x3 p) (fun l => x4 (ix1 l)) (T x0 x1 x2 x3 x4 x5 p) * out x0 x1 x2 x3 p l
/-- The cotangent of the gated row. -/
def dy (p : Fin 4112) (l : Fin 1024) : EReal := ∑ k : Fin 1024, dx x0 x1 x2 x3 x4 x5 p k * x3 (ix2 l k)

theorem sg_at (p : Fin 4112) (l : Fin 1024) : @Eq EReal (val_main_v0_2 (F := Ideal) x1 (ix3 (0 : Fin 1) p l))
    (sg x1 p l) := by
  pointwise [val_main_call0_v0, val_main_call0_v1, val_main_call0_cst, val_main_call0_v2, val_main_call0_v3, val_main_call0_cst_0, val_main_call0_v4, val_main_v0_2]
  rfl
theorem silu_at (p : Fin 4112) (l : Fin 1024) : @Eq EReal (val_main_v0_0 (F := Ideal) x1 (ix3 (0 : Fin 1) p l))
    (silu x1 p l) := by
  pointwise [val_main_call0_cst_1, val_main_call0_v6, val_main_call0_v7, val_main_v0_1, val_main_v0_0]
  rw [sg_at]; rfl
theorem y_at (p : Fin 4112) (l : Fin 1024) : @Eq EReal (val_main_v1 (F := Ideal) x0 x1 (ix3 (0 : Fin 1) p l))
    (y x0 x1 p l) := by
  pointwise [val_main_v1]
  rw [silu_at]; rfl
theorem out_at (p : Fin 4112) (l : Fin 1024) : @Eq EReal (val_main_v3 (F := Ideal) x0 x1 x2 x3 (ix3 (0 : Fin 1) p l))
    (out x0 x1 x2 x3 p l) := by
  pointwise [val_main_v2, val_main_v3]
  simp only [y_at]; rfl
theorem ms_at (p : Fin 4112) : @Eq EReal (val_main_v10 (F := Ideal) x0 x1 x2 x3 (ix3 (0 : Fin 1) p (0 : Fin 1)))
    (Rms.ms (out x0 x1 x2 x3 p)) := by
  pointwise [val_main_v4, val_main_cst, val_main_v5, val_main_v6, val_main_cst_0, val_main_v7, val_main_v8, val_main_cst_1, val_main_v9, val_main_v10]
  simp only [out_at]; rfl
theorem rs_at (p : Fin 4112) : @Eq EReal (val_main_v11 (F := Ideal) x0 x1 x2 x3 (ix3 (0 : Fin 1) p (0 : Fin 1)))
    (Rms.rs (out x0 x1 x2 x3 p)) := by
  pointwise [val_main_v11]
  rw [ms_at]; rfl
theorem coef_at (p : Fin 4112) : @Eq EReal (val_main_v14 (F := Ideal) x0 x1 x2 x3 (ix3 (0 : Fin 1) p (0 : Fin 1)))
    (Ideal.ofBits FTy.f32 0xBF000000#32 * Ideal.div (Rms.rs (out x0 x1 x2 x3 p)) (Rms.ms (out x0 x1 x2 x3 p))) := by
  pointwise [val_main_v12, val_main_cst_2, val_main_v13, val_main_v14]
  rw [ms_at, rs_at]
theorem nrm_at (p : Fin 4112) (l : Fin 1024) : @Eq EReal (val_main_v16 (F := Ideal) x0 x1 x2 x3 (ix3 (0 : Fin 1) p l))
    (nrm x0 x1 x2 x3 p l) := by
  pointwise [val_main_v15, val_main_v16]
  rw [out_at, rs_at]; rfl
theorem err_at (p : Fin 4096) (l : Fin 1024) : @Eq EReal (val_main_v21 (F := Ideal) x0 x1 x2 x3 x4 x5 (ix3 (0 : Fin 1) p l))
    (err x0 x1 x2 x3 x4 x5 p l) := by
  pointwise [val_main_v17, val_main_v18, val_main_v19, val_main_v20, val_main_v21]
  rw [nrm_at]; rfl
theorem loss_at  : @Eq EReal (val_main_v66 (F := Ideal) x0 x1 x2 x3 x4 x5 (ix2 0 0))
    (Ideal.ofBits .f32 0x3F000000#32 * ∑ p : Fin 4096, Ideal.div (∑ l : Fin 1024, err x0 x1 x2 x3 x4 x5 p l * err x0 x1 x2 x3 x4 x5 p l) Rms.len) := by
  pointwise [val_main_v22, val_main_cst_3, val_main_v23, val_main_v24, val_main_cst_4, val_main_v25, val_main_cst_5, val_main_v26, val_main_v27, val_main_cst_6, val_main_v28, val_main_cst_7, val_main_v29, val_main_v66]
  simp only [err_at, Fin.sum_univ_one]
theorem T_at (p : Fin 4112) (l : Fin 1024) : @Eq EReal (val_main_v36 (F := Ideal) x0 x1 x2 x3 x4 x5 (ix3 (0 : Fin 1) p l))
    (T x0 x1 x2 x3 x4 x5 p l) := by
  pointwise [val_main_v24, val_main_v23, val_main_cst_3, val_main_cst_8, val_main_cst_9, val_main_v30, val_main_v31, val_main_cst_10, val_main_v32, val_main_v33, val_main_v34, val_main_v35, val_main_cst_11, val_main_v36]
  simp only [err_at]; rfl
theorem dg_at (l : Fin 1024) : @Eq EReal (val_main_v67 (F := Ideal) x0 x1 x2 x3 x4 x5 (ix2 0 l))
    (∑ p : Fin 4112, nrm x0 x1 x2 x3 p l * T x0 x1 x2 x3 x4 x5 p l) := by
  pointwise [val_main_v37, val_main_cst_12, val_main_v38, val_main_v39, val_main_v40, val_main_v41, val_main_cst_13, val_main_v42, val_main_v67]
  simp only [nrm_at, T_at]
theorem dx_at (p : Fin 4112) (l : Fin 1024) : @Eq EReal (val_main_v57 (F := Ideal) x0 x1 x2 x3 x4 x5 (ix3 (0 : Fin 1) p l))
    (dx x0 x1 x2 x3 x4 x5 p l) := by
  pointwise [val_main_v40, val_main_v17, val_main_v41, val_main_v43, val_main_cst_14, val_main_v44, val_main_v45, val_main_v46, val_main_v47, val_main_v48, val_main_cst_15, val_main_v49, val_main_v50, val_main_cst_16, val_main_v51, val_main_v52, val_main_v53, val_main_v54, val_main_v55, val_main_v56, val_main_v57]
  simp only [out_at, rs_at, coef_at, T_at]; rfl
theorem dw_at (i j : Fin 1024) : @Eq EReal (val_main_v73 (F := Ideal) x0 x1 x2 x3 x4 x5 (ix2 i j))
    (∑ p : Fin 4112, dx x0 x1 x2 x3 x4 x5 p j * y x0 x1 p i) := by
  pointwise [val_main_v58, val_main_v59, val_main_v73]
  rw [Fin.sum_univ_one]
  simp only [dx_at, y_at]
theorem dy_at (p : Fin 4112) (l : Fin 1024) : @Eq EReal (val_main_v60 (F := Ideal) x0 x1 x2 x3 x4 x5 (ix3 (0 : Fin 1) p l))
    (dy x0 x1 x2 x3 x4 x5 p l) := by
  pointwise [val_main_v60]
  simp only [dx_at]; rfl
theorem dh_pad (R : Fin 4224) (l : Fin 1024) : @Eq EReal (val_main_v65 (F := Ideal) x0 x1 x2 x3 x4 x5 (ix2 R l))
    (padRow (fun p l => dx x0 x1 x2 x3 x4 x5 p l) R.val l) := by
  pointwise [val_main_v64, val_main_c, val_main_call2_v0, val_main_v65]
  unfold padRow
  split
  · simp only [dx_at]
  · exact sitofp_zero

theorem dhs_pad (R : Fin 4224) (l : Fin 1024) : @Eq EReal (val_main_v69 (F := Ideal) x0 x1 x2 x3 x4 x5 (ix2 R l))
    (padRow (fun p l => dy x0 x1 x2 x3 x4 x5 p l * silu x1 p l) R.val l) := by
  pointwise [val_main_v68, val_main_c_17, val_main_call3_v0, val_main_v69, val_main_v62]
  unfold padRow
  split
  · simp only [dy_at, silu_at]
  · exact sitofp_zero

theorem dgate_pad (R : Fin 4224) (l : Fin 1024) : @Eq EReal (val_main_v72 (F := Ideal) x0 x1 x2 x3 x4 x5 (ix2 R l))
    (padRow (fun p l => x0 (ix3 (0 : Fin 1) p l) * dy x0 x1 x2 x3 x4 x5 p l * sg x1 p l
      + x1 (ix3 (0 : Fin 1) p l) * (x0 (ix3 (0 : Fin 1) p l) * dy x0 x1 x2 x3 x4 x5 p l) * (sg x1 p l * (1 - sg x1 p l))) R.val l) := by
  pointwise [val_main_v70, val_main_c_18, val_main_call4_v0, val_main_v71, val_main_v72, val_main_v63, val_main_call1_v0, val_main_call1_v1, val_main_call1_v2, val_main_v61, val_main_v0_1, val_main_call0_v6, val_main_call0_v7, val_main_call0_cst_1]
  unfold padRow
  split
  · simp only [dy_at, sg_at]
  · exact sitofp_zero

end Cert.LossRef

end
-- ==== Proof.LossValue.lean ====
/- The loss's call: the kernel's six arrays are the reference's, for real arguments. -/
module

public import proofs.«01_k».proof.Proof.LossArray
public import proofs.«01_k».proof.Proof.LossReference
public import proofs.«01_k».proof.Proof.Gen.LossReferenceIdeal.Run
public import proofs.«01_k».proof.Defs

@[expose] public section

set_option maxRecDepth 16384

noncomputable section

namespace Cert.Loss

open Cert.LossKernelIdeal Cert.LossKernelIdeal.Gen Idealize.ShloMosaic Idealize.ShloMosaic.TcCoe Idealize.SL.Sem Cert.Arith
open Cert.LossReferenceIdeal.Read

variable (m : (ℓ : Loc nD τ sig) → Buf (Elt Ideal) ℓ)

/-- The arguments as the reference takes them. -/
abbrev a0 (c : Dev nD) : Vec Ideal S1x4112x1024 .f32 := m ((c : Thread nD τ).loc main_arg0)
abbrev a1 (c : Dev nD) : Vec Ideal S1x4112x1024 .f32 := m ((c : Thread nD τ).loc main_arg1)
abbrev a2 (c : Dev nD) : Vec Ideal S1x4112x1024 .f32 := m ((c : Thread nD τ).loc main_arg2)
abbrev a3 (c : Dev nD) : Vec Ideal S1024x1024 .f32 := m ((c : Thread nD τ).loc main_arg3)
abbrev a4 (c : Dev nD) : Vec Ideal S1024 .f32 := m ((c : Thread nD τ).loc main_arg4)
abbrev a5 (c : Dev nD) : Vec Ideal S1x4096x1024 .f32 := m ((c : Thread nD τ).loc main_arg5)

/-- Every entry of every argument is a real. -/
structure Real6 (c : Dev nD) : Prop where
  A : ∀ p l, ∃ r : ℝ, A m c p l = (r : EReal)
  Q : ∀ p l, ∃ r : ℝ, Q m c p l = (r : EReal)
  H : ∀ p l, ∃ r : ℝ, H m c p l = (r : EReal)
  W : ∀ i j, ∃ r : ℝ, W m c i j = (r : EReal)
  G : ∀ l, ∃ r : ℝ, G m c l = (r : EReal)
  X : ∀ p l, ∃ r : ℝ, X m c p l = (r : EReal)

theorem pad_real {n : ℕ} (x : Fin n → Fin 1024 → EReal) (h : ∀ p l, ∃ r : ℝ, x p l = (r : EReal)) (R : ℕ) (l : Fin 1024) :
    ∃ r : ℝ, padRow x R l = (r : EReal) := by
  by_cases hR : R < n
  · rw [padRow_lt _ _ _ hR]; exact h _ l
  · rw [padRow_ge _ _ _ hR]; exact ⟨0, EReal.coe_zero.symm⟩

theorem sum_real {n : ℕ} (f g : Fin n → EReal) (hf : ∀ k, ∃ r : ℝ, f k = (r : EReal)) (hg : ∀ k, ∃ r : ℝ, g k = (r : EReal)) :
    ∃ r : ℝ, ∑ k, f k * g k = (r : EReal) := by
  choose a ea using hf
  choose b eb using hg
  simp only [ea, eb, ← EReal.coe_mul]
  exact ⟨_, coe_sum _ _⟩

variable {m} {c : Dev nD} (h : Real6 m c)
include h

theorem Real6.sg (R : ℕ) (l : Fin 1024) : ∃ r : ℝ, sgR m c R l = (r : EReal) := by
  obtain ⟨q, e⟩ := pad_real _ h.Q R l
  exact ⟨sig q, by unfold sgR; rw [e, logistic_coe]⟩

theorem Real6.y (R : ℕ) (l : Fin 1024) : ∃ r : ℝ, yR m c R l = (r : EReal) := by
  obtain ⟨q, eq⟩ := pad_real _ h.Q R l
  obtain ⟨a, ea⟩ := pad_real _ h.A R l
  obtain ⟨s, es⟩ := h.sg R l
  exact ⟨a * (q * s), by unfold yR siluR; rw [eq, ea, es, EReal.coe_mul, EReal.coe_mul]⟩

theorem Real6.out (R : ℕ) (l : Fin 1024) : ∃ r : ℝ, outR m c R l = (r : EReal) := by
  obtain ⟨x, ex⟩ := pad_real _ h.H R l
  obtain ⟨s, es⟩ := sum_real _ _ (h.y R) (fun k => h.W k l)
  exact ⟨x + s, by unfold outR; rw [ex, es, EReal.coe_add]⟩

theorem Real6.rs (R : ℕ) : ∃ r : ℝ, Rms.rs (outR m c R) = (r : EReal) := by
  choose o eo using h.out R
  obtain ⟨r, hr, er⟩ := Rms.ms_coe o
  refine ⟨(Real.sqrt r)⁻¹, ?_⟩
  rw [show outR m c R = fun l => (o l : EReal) from funext eo]
  exact (congrArg Ideal.rsqrt er).trans (rsqrt_coe _ hr)

theorem Real6.err (R : ℕ) (l : Fin 1024) : ∃ r : ℝ, errR m c R l = (r : EReal) := by
  obtain ⟨o, eo⟩ := h.out R l
  obtain ⟨s, es⟩ := h.rs R
  obtain ⟨g, eg⟩ := h.G l
  obtain ⟨x, ex⟩ := pad_real _ h.X (R - 16) l
  unfold errR nrmR
  split
  · exact ⟨o * s * g - x, by rw [eo, es, eg, ex, EReal.coe_sub, EReal.coe_mul, EReal.coe_mul]⟩
  · exact ⟨0, EReal.coe_zero.symm⟩

omit h in
theorem scale_coe : Ideal.ofBits .f32 0x3A800000#32 = ((1 / 1024 : ℝ) : EReal) := by
  simp [Ideal.ofBits, Ideal.ieee, -EReal.coe_mul]; norm_num

omit h in
theorem half_coe : Ideal.ofBits .f32 0x3F000000#32 = ((1 / 2 : ℝ) : EReal) := by
  simp [Ideal.ofBits, Ideal.ieee, -EReal.coe_mul]; norm_num

omit h in
theorem two_coe : Ideal.ofBits .f32 0x40000000#32 = ((2 : ℝ) : EReal) := by
  simp [Ideal.ofBits, Ideal.ieee, -EReal.coe_mul]; norm_num

omit h in
theorem weight_coe : Ideal.ofBits .f32 0x3A000000#32 = ((1 / 2048 : ℝ) : EReal) := by
  simp [Ideal.ofBits, Ideal.ieee, -EReal.coe_mul]; norm_num

theorem Real6.T (R : ℕ) (l : Fin 1024) : ∃ r : ℝ, TR m c R l = (r : EReal) := by
  obtain ⟨e, ee⟩ := h.err R l
  exact ⟨e * (1 / 1024), by unfold TR; rw [ee, scale_coe, EReal.coe_mul]⟩

theorem Real6.dx (R : ℕ) (l : Fin 1024) : ∃ r : ℝ, dxR m c R l = (r : EReal) := by
  choose o eo using h.out R
  choose g eg using h.G
  choose t et using h.T R
  unfold dxR
  rw [show outR m c R = fun l => (o l : EReal) from funext eo, show Loss.G m c = fun l => (g l : EReal) from funext eg,
    show TR m c R = fun l => (t l : EReal) from funext et]
  exact Rms.dx_real o g t l

theorem Real6.dy (R : ℕ) (l : Fin 1024) : ∃ r : ℝ, dyR m c R l = (r : EReal) :=
  sum_real _ _ (h.dx R) (fun k => h.W l k)

omit h

theorem sg_lt (p : Fin 4112) (l : Fin 1024) : sgR m c p.val l = LossRef.sg (a1 m c) p l := by
  unfold sgR
  rw [padRow_lt _ _ _ p.isLt]
  rfl

theorem silu_lt (p : Fin 4112) (l : Fin 1024) : siluR m c p.val l = LossRef.silu (a1 m c) p l := by
  unfold siluR
  rw [sg_lt, padRow_lt _ _ _ p.isLt]
  rfl

theorem y_lt (p : Fin 4112) (l : Fin 1024) : yR m c p.val l = LossRef.y (a0 m c) (a1 m c) p l := by
  unfold yR
  rw [silu_lt, padRow_lt _ _ _ p.isLt]
  rfl

theorem out_lt (p : Fin 4112) (l : Fin 1024) : outR m c p.val l = LossRef.out (a0 m c) (a1 m c) (a2 m c) (a3 m c) p l := by
  unfold outR
  simp only [y_lt]
  rw [padRow_lt _ _ _ p.isLt]
  rfl

theorem out_fun_lt (p : Fin 4112) : outR m c p.val = LossRef.out (a0 m c) (a1 m c) (a2 m c) (a3 m c) p :=
  funext fun l => out_lt p l

theorem nrm_lt (p : Fin 4112) (l : Fin 1024) : nrmR m c p.val l = LossRef.nrm (a0 m c) (a1 m c) (a2 m c) (a3 m c) p l := by
  unfold nrmR
  rw [out_fun_lt]
  rfl

theorem err_lt (p : Fin 4096) (l : Fin 1024) :
    errR m c (16 + p.val) l = LossRef.err (a0 m c) (a1 m c) (a2 m c) (a3 m c) (a4 m c) (a5 m c) p l := by
  unfold errR
  rw [if_pos ⟨by omega, by omega⟩, show 16 + p.val - 16 = p.val by omega, padRow_lt _ _ _ p.isLt]
  rw [show nrmR m c (16 + p.val) l = _ from nrm_lt ⟨16 + p.val, by omega⟩ l]
  rfl

theorem err_low (R : ℕ) (hR : R < 16) (l : Fin 1024) : errR m c R l = 0 := by
  unfold errR
  rw [if_neg fun e => absurd e.1 (by omega)]

include h

theorem T_lt (p : Fin 4112) (l : Fin 1024) :
    TR m c p.val l = LossRef.T (a0 m c) (a1 m c) (a2 m c) (a3 m c) (a4 m c) (a5 m c) p l := by
  unfold TR LossRef.T
  by_cases hp : 16 ≤ p.val ∧ p.val - 16 < 4096
  · rw [dif_pos hp, ← err_lt]
    dsimp only
    rw [show 16 + (p.val - 16) = p.val by omega]
    obtain ⟨e, ee⟩ := h.err p.val l
    rw [ee, scale_coe, half_coe, two_coe, Rms.len_coe, div_coe _ _ (by norm_num), ← EReal.coe_mul, ← EReal.coe_mul, ← EReal.coe_mul]
    congr 1
    ring
  · rw [dif_neg hp, err_low _ (by omega), zero_mul]

theorem dx_lt (p : Fin 4112) (l : Fin 1024) :
    dxR m c p.val l = LossRef.dx (a0 m c) (a1 m c) (a2 m c) (a3 m c) (a4 m c) (a5 m c) p l := by
  choose o eo using h.out p.val
  choose g eg using h.G
  choose t et using h.T p.val
  unfold dxR LossRef.dx
  rw [← out_fun_lt, show LossRef.T (a0 m c) (a1 m c) (a2 m c) (a3 m c) (a4 m c) (a5 m c) p = TR m c p.val from
    funext fun l => (T_lt h p l).symm, show (fun l => a4 m c (ix1 l)) = Loss.G m c from rfl, show a4 m c (ix1 l) = Loss.G m c l from rfl,
    show outR m c p.val = fun l => (o l : EReal) from funext eo, show Loss.G m c = fun l => (g l : EReal) from funext eg,
    show TR m c p.val = fun l => (t l : EReal) from funext et, Rms.dx_eq]

theorem dy_lt (p : Fin 4112) (l : Fin 1024) :
    dyR m c p.val l = LossRef.dy (a0 m c) (a1 m c) (a2 m c) (a3 m c) (a4 m c) (a5 m c) p l := by
  unfold dyR
  simp only [dx_lt h]
  rfl

omit h in
theorem sq_zero (R : ℕ) (hR : ∀ l, errR m c R l = 0) : sqR m c R = 0 := by
  unfold sqR
  exact Finset.sum_eq_zero fun l _ => by rw [hR, zero_mul]

theorem Real6.sq (R : ℕ) : ∃ r : ℝ, sqR m c R = (r : EReal) := sum_real _ _ (h.err R) (h.err R)

/-- The loss as the kernel leaves it: a sum over the rows that have a target. -/
theorem loss_array : @Eq EReal (Value.G7 m c (ix2 0 0))
    (∑ p : Fin 4096, Ideal.ofBits .f32 0x3A000000#32 * sqR m c (16 + p.val)) := by
  choose s es using h.sq
  have hB : ∀ t : Fin cfg0.N, lossB m c t
      = ∑ r : Fin 384, (fun R => Ideal.ofBits .f32 0x3A000000#32 * sqR m c R) (t.val * 384 + r.val) := by
    intro t
    rw [lossB_at]
    simp only [es, weight_coe, ← EReal.coe_mul]
    rw [coe_sum, coe_sum, ← EReal.coe_mul, Finset.mul_sum]
  have hs : ∀ n (hn : n < cfg0.N), (outsAt0 m c n hn).2.1 (ix2 0 0)
      = ∑ R ∈ Finset.range ((n + 1) * 384), Ideal.ofBits .f32 0x3A000000#32 * sqR m c R := by
    refine running_sum 384 (fun R => Ideal.ofBits .f32 0x3A000000#32 * sqR m c R) cfg0.N
      (fun n hn => (outsAt0 m c n hn).2.1 (ix2 0 0)) ?_ ?_
    · intro h0
      rw [← hB ⟨0, h0⟩]
      exact loss_first m c ⟨0, h0⟩ (Nat.zero_mod _)
    · intro n hn
      have hn' := point_lt ⟨n + 1, hn⟩
      rw [← hB ⟨n + 1, hn⟩]
      exact loss_next m c ⟨n + 1, hn⟩ (by dsimp only at hn' ⊢; omega)
  have hN : 10 < cfg0.N := lt_of_lt_of_eq (by decide) N_0.symm
  rw [Value.G7_last, ← Value.outsAt0_sweep m c 10 hN, hs 10 hN, sum_pad 4112 _ (by decide) _ fun R hR => by
    rw [sq_zero R (err_ge m c R (by omega)), mul_zero]]
  refine (Fin.sum_univ_add (a := 16) (b := 4096) (fun p : Fin 4112 => Ideal.ofBits .f32 0x3A000000#32 * sqR m c p.val)).trans ?_
  rw [Finset.sum_eq_zero fun p _ => by rw [sq_zero _ (err_low _ (show (Fin.castAdd 4096 p).val < 16 from p.isLt)), mul_zero], zero_add]
  rfl

theorem loss_eq : Value.G7 m c = val_main_v66 (F := Ideal) (a0 m c) (a1 m c) (a2 m c) (a3 m c) (a4 m c) (a5 m c) := by
  refine funext fun (j : S1x1.Idx) => ?_
  idx_vars j
  rename' j0 => z, j1 => l
  obtain rfl : z = 0 := Subsingleton.elim _ _
  obtain rfl : l = 0 := Subsingleton.elim _ _
  refine (loss_array h).trans ((LossRef.loss_at _ _ _ _ _ _).trans ?_).symm
  have e : ∀ p : Fin 4096, (∑ l : Fin 1024, LossRef.err (a0 m c) (a1 m c) (a2 m c) (a3 m c) (a4 m c) (a5 m c) p l
      * LossRef.err (a0 m c) (a1 m c) (a2 m c) (a3 m c) (a4 m c) (a5 m c) p l) = sqR m c (16 + p.val) := by
    intro p
    unfold sqR
    simp only [err_lt]
  choose s es using h.sq
  simp only [e, es, weight_coe, half_coe, Rms.len_coe, div_coe _ _ (show (1024 : ℝ) ≠ 0 by norm_num), ← EReal.coe_mul]
  rw [coe_sum, coe_sum, ← EReal.coe_mul, Finset.mul_sum]
  congr 1
  exact Finset.sum_congr rfl fun p _ => by ring

theorem dg_eq : Value.G8 m c = val_main_v67 (F := Ideal) (a0 m c) (a1 m c) (a2 m c) (a3 m c) (a4 m c) (a5 m c) := by
  refine funext fun (j : S1x1024.Idx) => ?_
  idx_vars j
  rename' j0 => z, j1 => l
  obtain rfl : z = 0 := Subsingleton.elim _ _
  refine (dg_array m c l).trans ((LossRef.dg_at _ _ _ _ _ _ l).trans ?_).symm
  refine Finset.sum_congr rfl fun p _ => ?_
  unfold dgTerm
  rw [T_lt h, nrm_lt, mul_comm]

theorem dw_eq : Value.G11 m c = val_main_v73 (F := Ideal) (a0 m c) (a1 m c) (a2 m c) (a3 m c) (a4 m c) (a5 m c) := by
  refine funext fun (j : S1024x1024.Idx) => ?_
  idx_vars j
  rename' j0 => i, j1 => l
  refine (dw_array m c i l).trans ((LossRef.dw_at _ _ _ _ _ _ i l).trans ?_).symm
  refine Finset.sum_congr rfl fun p _ => ?_
  unfold dwTerm
  rw [dx_lt h, y_lt, mul_comm]

theorem dx_ge (R : ℕ) (hR : ¬R < 4112) (l : Fin 1024) : dxR m c R l = 0 :=
  Rms.dx_zero _ _ _ (T_ge m c R hR) l

theorem dy_ge (R : ℕ) (hR : ¬R < 4112) (l : Fin 1024) : dyR m c R l = 0 :=
  Finset.sum_eq_zero fun k _ => by rw [dx_ge h R hR, zero_mul]

theorem dh_eq : Value.G6 m c = val_main_v65 (F := Ideal) (a0 m c) (a1 m c) (a2 m c) (a3 m c) (a4 m c) (a5 m c) := by
  refine funext fun (j : S4224x1024.Idx) => ?_
  idx_vars j
  rename' j0 => R, j1 => l
  refine (dh_array m c R l).trans ((LossRef.dh_pad _ _ _ _ _ _ R l).trans ?_).symm
  by_cases hR : R.val < 4112
  · rw [padRow_lt _ _ _ hR]; exact (dx_lt h ⟨R.val, hR⟩ l).symm
  · rw [padRow_ge _ _ _ hR, dx_ge h _ hR]

theorem dhs_eq : Value.G9 m c = val_main_v69 (F := Ideal) (a0 m c) (a1 m c) (a2 m c) (a3 m c) (a4 m c) (a5 m c) := by
  refine funext fun (j : S4224x1024.Idx) => ?_
  idx_vars j
  rename' j0 => R, j1 => l
  refine (da_array m c R l).trans ((LossRef.dhs_pad _ _ _ _ _ _ R l).trans ?_).symm
  by_cases hR : R.val < 4112
  · rw [padRow_lt _ _ _ hR, ← dy_lt h ⟨R.val, hR⟩, ← silu_lt]
  · rw [padRow_ge _ _ _ hR, dy_ge h _ hR, zero_mul]

theorem dgate_eq : Value.G10 m c = val_main_v72 (F := Ideal) (a0 m c) (a1 m c) (a2 m c) (a3 m c) (a4 m c) (a5 m c) := by
  refine funext fun (j : S4224x1024.Idx) => ?_
  idx_vars j
  rename' j0 => R, j1 => l
  refine (dgate_array m c R l).trans ((LossRef.dgate_pad _ _ _ _ _ _ R l).trans ?_).symm
  by_cases hR : R.val < 4112
  · rw [padRow_lt _ _ _ hR, ← dy_lt h ⟨R.val, hR⟩, ← sg_lt, padRow_lt (A m c) _ _ hR, padRow_lt (Q m c) _ _ hR,
      show a0 m c (ix3 (0 : Fin 1) ⟨R.val, hR⟩ l) = A m c ⟨R.val, hR⟩ l from rfl,
      show a1 m c (ix3 (0 : Fin 1) ⟨R.val, hR⟩ l) = Q m c ⟨R.val, hR⟩ l from rfl]
    obtain ⟨a, ea⟩ := h.A ⟨R.val, hR⟩ l
    obtain ⟨q, eq⟩ := h.Q ⟨R.val, hR⟩ l
    obtain ⟨s, es⟩ := h.sg R.val l
    obtain ⟨d, ed⟩ := h.dy R.val l
    rw [ea, eq, es, ed, ← EReal.coe_one]
    simp only [← EReal.coe_mul, ← EReal.coe_add, ← EReal.coe_sub]
    congr 1
    ring
  · rw [padRow_ge _ _ _ hR, dy_ge h _ hR, zero_mul, zero_mul]

end Cert.Loss

end
-- ==== Proof.LossRun.lean ====
/- The two runs of the loss's call side by side. -/
module

public import proofs.«01_k».proof.Proof.LossValue

@[expose] public section

set_option maxRecDepth 16384

noncomputable section

namespace Cert.Loss

open Idealize.ShloMosaic Idealize.ShloMosaic.TcCoe Idealize.SL.Sem Cert.Arith

theorem preFacts : Cert.Pre_loss_finite.Facts := by
  constructor <;> decide

instance : Cert.Pre_loss_finite.Facts := preFacts

open Cert.LossReferenceIdeal.Read in
theorem algebraic : Cert.algebraic_LossKernelIdeal_LossReferenceIdeal_pre_loss_finite := by
  intro m g m' g' hpre hag
  refine ⟨fun c => Cert.LossKernelIdeal.Value.G6 m c, fun c => Cert.LossKernelIdeal.Value.G7 m c,
    fun c => Cert.LossKernelIdeal.Value.G8 m c, fun c => Cert.LossKernelIdeal.Value.G9 m c,
    fun c => Cert.LossKernelIdeal.Value.G10 m c, fun c => Cert.LossKernelIdeal.Value.G11 m c,
    Cert.LossKernelIdeal.Value.run m g, (θ_run _ _ _).mono (fun r h c => ?_) (Cert.LossReferenceIdeal.Value.run m' g')⟩
  obtain ⟨e0, e1, e2, e3, e4, e5⟩ := hag c
  obtain ⟨r0, r1, r2, r3, r4, r5, k⟩ := h c
  obtain ⟨h0, h1, h2, h3, h4, h5⟩ := hpre c
  have hr : Real6 m c := ⟨fun p l => exists_real (congrFun h0 (ix3 0 p l)), fun p l => exists_real (congrFun h1 (ix3 0 p l)),
    fun p l => exists_real (congrFun h2 (ix3 0 p l)), fun i j => exists_real (congrFun h3 (ix2 i j)),
    fun l => exists_real (congrFun h4 (ix1 l)), fun p l => exists_real (congrFun h5 (ix3 0 p l))⟩
  refine ⟨r0.trans ?_, r1.trans ?_, r2.trans ?_, r3.trans ?_, r4.trans ?_, r5.trans ?_, k⟩
  · refine (val_main_v65_eq m' c).trans ?_
    rw [e0, e1, e2, e3, e4, e5]; exact (dh_eq hr).symm
  · refine (val_main_v66_eq m' c).trans ?_
    rw [e0, e1, e2, e3, e4, e5]; exact (loss_eq hr).symm
  · refine (val_main_v67_eq m' c).trans ?_
    rw [e0, e1, e2, e3, e4, e5]; exact (dg_eq hr).symm
  · refine (val_main_v69_eq m' c).trans ?_
    rw [e0, e1, e2, e3, e4, e5]; exact (dhs_eq hr).symm
  · refine (val_main_v72_eq m' c).trans ?_
    rw [e0, e1, e2, e3, e4, e5]; exact (dgate_eq hr).symm
  · refine (val_main_v73_eq m' c).trans ?_
    rw [e0, e1, e2, e3, e4, e5]; exact (dw_eq hr).symm

end Cert.Loss

end
-- ==== Proof.AttnStep.lean ====
/- The attention's backward call, one head of one block of rows at a time: the same few loads and
   stores every time, at that block's offsets. -/
module

public import proofs.«01_k».proof.Proof.Gen.AttnKernelIdeal.Frame
public import proofs.«01_k».proof.Proof.Gen.AttnKernelIdeal.Loops

@[expose] public section

set_option maxRecDepth 16384

noncomputable section

namespace Cert.AttnKernelIdeal.Step

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- A block of rows' scores against the pair's block of keys, for one head. -/
def prodSt (arg2 : Memref sig .tc .vmem S4224x512 .bf16) (st : Memref sig .tc .vmem S2x384x384 .f32) (kk : FVec F S384x256 .bf16)
    (o2 : Fin 2 → ℕ) (h2 : ∀ a, o2 a + S384x256.size a ≤ S4224x512.size a)
    (oh : Fin 3 → ℕ) (hh : ∀ a, oh a + S1x384x384.size a ≤ S2x384x384.size a) :
    Prog (TpuEff nD τ sig (Elt F) Λ₀ .tc) PUnit := do
  let q : Vec F S384x256 .bf16 ← Prog.lift (.load arg2 (Rect.unit (s := S4224x512) o2 S384x256.size h2).toLoadRect (View.loadsAt_vmem h_S384x256))
  let _x : Vec F S1x384x384 .f32 ← Prog.lift (.load st (Rect.unit (s := S2x384x384) oh S1x384x384.size hh).toLoadRect (View.loadsAt_vmem h_S1x384x384))
  Prog.lift (.store st (Rect.unit (s := S2x384x384) oh S1x384x384.size hh) (k0_pay6 kk q) Finset.univ (View.stores_vmem_bits_univ h_S1x384x384 rfl) (.inl rfl))

/-- The cotangent of its probabilities, for one head. -/
def prodDp (arg7 : Memref sig .tc .vmem S4224x256 .bf16) (dp : Memref sig .tc .vmem S2x384x384 .f32) (vv : FVec F S384x128 .bf16)
    (o7 : Fin 2 → ℕ) (h7 : ∀ a, o7 a + S384x128.size a ≤ S4224x256.size a)
    (oh : Fin 3 → ℕ) (hh : ∀ a, oh a + S1x384x384.size a ≤ S2x384x384.size a) :
    Prog (TpuEff nD τ sig (Elt F) Λ₀ .tc) PUnit := do
  let d : Vec F S384x128 .bf16 ← Prog.lift (.load arg7 (Rect.unit (s := S4224x256) o7 S384x128.size h7).toLoadRect (View.loadsAt_vmem h_S384x128))
  let _y : Vec F S1x384x384 .f32 ← Prog.lift (.load dp (Rect.unit (s := S2x384x384) oh S1x384x384.size hh).toLoadRect (View.loadsAt_vmem h_S1x384x384))
  Prog.lift (.store dp (Rect.unit (s := S2x384x384) oh S1x384x384.size hh) (k0_pay7 vv d) Finset.univ (View.stores_vmem_bits_univ h_S1x384x384 rfl) (.inl rfl))

/-- What a block of rows adds, for one head: to the cotangents of the pair's block of values and keys,
    and to its own rows of the queries' cotangent. -/
def consHead (arg2 : Memref sig .tc .vmem S4224x512 .bf16) (arg5 arg6 : Memref sig .tc .vmem S2x11x1x384 .f32)
    (arg7 : Memref sig .tc .vmem S4224x256 .bf16) (arg11 : Memref sig .tc .vmem S2x4224x256 .f32)
    (arg12 : Memref sig .tc .vmem S2x384x256 .f32) (arg13 : Memref sig .tc .vmem S2x384x128 .f32)
    (st dp : Memref sig .tc .vmem S2x384x384 .f32) (j w : BitVec 32) (kk : FVec F S384x256 .bf16)
    (o2 : Fin 2 → ℕ) (h2 : ∀ a, o2 a + S384x256.size a ≤ S4224x512.size a)
    (o7 : Fin 2 → ℕ) (h7 : ∀ a, o7 a + S384x128.size a ≤ S4224x256.size a)
    (o5 : Fin 4 → ℕ) (h5 : ∀ a, o5 a + S1x1x1x384.size a ≤ S2x11x1x384.size a)
    (o11 : Fin 3 → ℕ) (h11 : ∀ a, o11 a + S1x384x256.size a ≤ S2x4224x256.size a)
    (oh : Fin 3 → ℕ) (hh : ∀ a, oh a + S1x384x384.size a ≤ S2x384x384.size a)
    (h12 : ∀ a, oh a + S1x384x256.size a ≤ S2x384x256.size a) (h13 : ∀ a, oh a + S1x384x128.size a ≤ S2x384x128.size a) :
    Prog (TpuEff nD τ sig (Elt F) Λ₀ .tc) PUnit := do
  let q : Vec F S384x256 .bf16 ← Prog.lift (.load arg2 (Rect.unit (s := S4224x512) o2 S384x256.size h2).toLoadRect (View.loadsAt_vmem h_S384x256))
  let d : Vec F S384x128 .bf16 ← Prog.lift (.load arg7 (Rect.unit (s := S4224x256) o7 S384x128.size h7).toLoadRect (View.loadsAt_vmem h_S384x128))
  let s : Vec F S1x384x384 .f32 ← Prog.lift (.load st (Rect.unit (s := S2x384x384) oh S1x384x384.size hh).toLoadRect (View.loadsAt_vmem h_S1x384x384))
  let l : Vec F S1x1x1x384 .f32 ← Prog.lift (.load arg5 (Rect.unit (s := S2x11x1x384) o5 S1x1x1x384.size h5).toLoadRect (View.loadsAt_vmem h_S1x1x1x384))
  let v : Vec F S1x384x128 .f32 ← Prog.lift (.load arg13 (Rect.unit (s := S2x384x128) oh S1x384x128.size h13).toLoadRect (View.loadsAt_vmem h_S1x384x128))
  let _v : Vec F S1x384x128 .f32 ← Prog.lift (.load arg13 (Rect.unit (s := S2x384x128) oh S1x384x128.size h13).toLoadRect (View.loadsAt_vmem h_S1x384x128))
  Prog.lift (.store arg13 (Rect.unit (s := S2x384x128) oh S1x384x128.size h13) (k0_pay13 j w d s l v) Finset.univ (View.stores_vmem_bits_univ h_S1x384x128 rfl) (.inl rfl))
  let p : Vec F S1x384x384 .f32 ← Prog.lift (.load dp (Rect.unit (s := S2x384x384) oh S1x384x384.size hh).toLoadRect (View.loadsAt_vmem h_S1x384x384))
  let e : Vec F S1x1x1x384 .f32 ← Prog.lift (.load arg6 (Rect.unit (s := S2x11x1x384) o5 S1x1x1x384.size h5).toLoadRect (View.loadsAt_vmem h_S1x1x1x384))
  let k : Vec F S1x384x256 .f32 ← Prog.lift (.load arg12 (Rect.unit (s := S2x384x256) oh S1x384x256.size h12).toLoadRect (View.loadsAt_vmem h_S1x384x256))
  let _k : Vec F S1x384x256 .f32 ← Prog.lift (.load arg12 (Rect.unit (s := S2x384x256) oh S1x384x256.size h12).toLoadRect (View.loadsAt_vmem h_S1x384x256))
  Prog.lift (.store arg12 (Rect.unit (s := S2x384x256) oh S1x384x256.size h12) (k0_pay15 (k0_pay11 q) (k0_pay12 j w s l) p e k) Finset.univ (View.stores_vmem_bits_univ h_S1x384x256 rfl) (.inl rfl))
  let x : Vec F S1x384x256 .f32 ← Prog.lift (.load arg11 (Rect.unit (s := S2x4224x256) o11 S1x384x256.size h11).toLoadRect (View.loadsAt_vmem h_S1x384x256))
  let _x : Vec F S1x384x256 .f32 ← Prog.lift (.load arg11 (Rect.unit (s := S2x4224x256) o11 S1x384x256.size h11).toLoadRect (View.loadsAt_vmem h_S1x384x256))
  Prog.lift (.store arg11 (Rect.unit (s := S2x4224x256) o11 S1x384x256.size h11) (k0_pay16 kk (k0_pay12 j w s l) p e x) Finset.univ (View.stores_vmem_bits_univ h_S1x384x256 rfl) (.inl rfl))

/-- Four blocks of rows: one trip of the loop. -/
def trip (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (arg1 : BitVec 32) (v12 : FVec F S384x256 .bf16) (v14 : FVec F S384x256 .bf16) (v16 : FVec F S384x128 .bf16) (v18 : FVec F S384x128 .bf16) (k : Fin (k0_t1_loop i).trips) :
    Prog (TpuEff nD τ sig (Elt F) Λ₀ .tc) PUnit := do
  prodSt arg2 arg16 v12 (k0_off5 i k 0#32) (k0_off5_inb i k 0) ![0, 0, 0] inb_S2x384x384_S1x384x384_0_0_0
  prodDp arg7 arg17 v16 (k0_off6 i k 0#32) (k0_off6_inb i k 0) ![0, 0, 0] inb_S2x384x384_S1x384x384_0_0_0
  prodSt arg2 arg16 v14 (k0_off7 i k 0#32) (k0_off7_inb i k 0) ![1, 0, 0] inb_S2x384x384_S1x384x384_1_0_0
  prodDp arg7 arg17 v18 (k0_off8 i k 0#32) (k0_off8_inb i k 0) ![1, 0, 0] inb_S2x384x384_S1x384x384_1_0_0
  consHead arg2 arg5 arg6 arg7 arg11 arg12 arg13 arg14 arg15 arg1 (Scalar.addi (Scalar.addi arg1 (Scalar.muli (Scf.iv 0#32 1#32 k) 4#32)) 0#32) v12 (k0_off9 i k 0#32) (k0_off9_inb i k 0) (k0_off10 i k 0#32) (k0_off10_inb i k 0) (k0_off11 i k 0#32) (k0_off11_inb i k 0) (k0_off12 i k 0#32) (k0_off12_inb i k 0) ![0, 0, 0] inb_S2x384x384_S1x384x384_0_0_0 inb_S2x384x256_S1x384x256_0_0_0 inb_S2x384x128_S1x384x128_0_0_0
  consHead arg2 arg5 arg6 arg7 arg11 arg12 arg13 arg14 arg15 arg1 (Scalar.addi (Scalar.addi arg1 (Scalar.muli (Scf.iv 0#32 1#32 k) 4#32)) 0#32) v14 (k0_off13 i k 0#32) (k0_off13_inb i k 0) (k0_off14 i k 0#32) (k0_off14_inb i k 0) (k0_off15 i k 0#32) (k0_off15_inb i k 0) (k0_off16 i k 0#32) (k0_off16_inb i k 0) ![1, 0, 0] inb_S2x384x384_S1x384x384_1_0_0 inb_S2x384x256_S1x384x256_1_0_0 inb_S2x384x128_S1x384x128_1_0_0
  prodSt arg2 arg14 v12 (k0_off5 i k 1#32) (k0_off5_inb i k 1) ![0, 0, 0] inb_S2x384x384_S1x384x384_0_0_0
  prodDp arg7 arg15 v16 (k0_off6 i k 1#32) (k0_off6_inb i k 1) ![0, 0, 0] inb_S2x384x384_S1x384x384_0_0_0
  prodSt arg2 arg14 v14 (k0_off7 i k 1#32) (k0_off7_inb i k 1) ![1, 0, 0] inb_S2x384x384_S1x384x384_1_0_0
  prodDp arg7 arg15 v18 (k0_off8 i k 1#32) (k0_off8_inb i k 1) ![1, 0, 0] inb_S2x384x384_S1x384x384_1_0_0
  consHead arg2 arg5 arg6 arg7 arg11 arg12 arg13 arg16 arg17 arg1 (Scalar.addi (Scalar.addi arg1 (Scalar.muli (Scf.iv 0#32 1#32 k) 4#32)) 1#32) v12 (k0_off9 i k 1#32) (k0_off9_inb i k 1) (k0_off10 i k 1#32) (k0_off10_inb i k 1) (k0_off11 i k 1#32) (k0_off11_inb i k 1) (k0_off12 i k 1#32) (k0_off12_inb i k 1) ![0, 0, 0] inb_S2x384x384_S1x384x384_0_0_0 inb_S2x384x256_S1x384x256_0_0_0 inb_S2x384x128_S1x384x128_0_0_0
  consHead arg2 arg5 arg6 arg7 arg11 arg12 arg13 arg16 arg17 arg1 (Scalar.addi (Scalar.addi arg1 (Scalar.muli (Scf.iv 0#32 1#32 k) 4#32)) 1#32) v14 (k0_off13 i k 1#32) (k0_off13_inb i k 1) (k0_off14 i k 1#32) (k0_off14_inb i k 1) (k0_off15 i k 1#32) (k0_off15_inb i k 1) (k0_off16 i k 1#32) (k0_off16_inb i k 1) ![1, 0, 0] inb_S2x384x384_S1x384x384_1_0_0 inb_S2x384x256_S1x384x256_1_0_0 inb_S2x384x128_S1x384x128_1_0_0
  prodSt arg2 arg16 v12 (k0_off5 i k 2#32) (k0_off5_inb i k 2) ![0, 0, 0] inb_S2x384x384_S1x384x384_0_0_0
  prodDp arg7 arg17 v16 (k0_off6 i k 2#32) (k0_off6_inb i k 2) ![0, 0, 0] inb_S2x384x384_S1x384x384_0_0_0
  prodSt arg2 arg16 v14 (k0_off7 i k 2#32) (k0_off7_inb i k 2) ![1, 0, 0] inb_S2x384x384_S1x384x384_1_0_0
  prodDp arg7 arg17 v18 (k0_off8 i k 2#32) (k0_off8_inb i k 2) ![1, 0, 0] inb_S2x384x384_S1x384x384_1_0_0
  consHead arg2 arg5 arg6 arg7 arg11 arg12 arg13 arg14 arg15 arg1 (Scalar.addi (Scalar.addi arg1 (Scalar.muli (Scf.iv 0#32 1#32 k) 4#32)) 2#32) v12 (k0_off9 i k 2#32) (k0_off9_inb i k 2) (k0_off10 i k 2#32) (k0_off10_inb i k 2) (k0_off11 i k 2#32) (k0_off11_inb i k 2) (k0_off12 i k 2#32) (k0_off12_inb i k 2) ![0, 0, 0] inb_S2x384x384_S1x384x384_0_0_0 inb_S2x384x256_S1x384x256_0_0_0 inb_S2x384x128_S1x384x128_0_0_0
  consHead arg2 arg5 arg6 arg7 arg11 arg12 arg13 arg14 arg15 arg1 (Scalar.addi (Scalar.addi arg1 (Scalar.muli (Scf.iv 0#32 1#32 k) 4#32)) 2#32) v14 (k0_off13 i k 2#32) (k0_off13_inb i k 2) (k0_off14 i k 2#32) (k0_off14_inb i k 2) (k0_off15 i k 2#32) (k0_off15_inb i k 2) (k0_off16 i k 2#32) (k0_off16_inb i k 2) ![1, 0, 0] inb_S2x384x384_S1x384x384_1_0_0 inb_S2x384x256_S1x384x256_1_0_0 inb_S2x384x128_S1x384x128_1_0_0
  prodSt arg2 arg14 v12 (k0_off5 i k 3#32) (k0_off5_inb i k 3) ![0, 0, 0] inb_S2x384x384_S1x384x384_0_0_0
  prodDp arg7 arg15 v16 (k0_off6 i k 3#32) (k0_off6_inb i k 3) ![0, 0, 0] inb_S2x384x384_S1x384x384_0_0_0
  prodSt arg2 arg14 v14 (k0_off7 i k 3#32) (k0_off7_inb i k 3) ![1, 0, 0] inb_S2x384x384_S1x384x384_1_0_0
  prodDp arg7 arg15 v18 (k0_off8 i k 3#32) (k0_off8_inb i k 3) ![1, 0, 0] inb_S2x384x384_S1x384x384_1_0_0
  consHead arg2 arg5 arg6 arg7 arg11 arg12 arg13 arg16 arg17 arg1 (Scalar.addi (Scalar.addi arg1 (Scalar.muli (Scf.iv 0#32 1#32 k) 4#32)) 3#32) v12 (k0_off9 i k 3#32) (k0_off9_inb i k 3) (k0_off10 i k 3#32) (k0_off10_inb i k 3) (k0_off11 i k 3#32) (k0_off11_inb i k 3) (k0_off12 i k 3#32) (k0_off12_inb i k 3) ![0, 0, 0] inb_S2x384x384_S1x384x384_0_0_0 inb_S2x384x256_S1x384x256_0_0_0 inb_S2x384x128_S1x384x128_0_0_0
  consHead arg2 arg5 arg6 arg7 arg11 arg12 arg13 arg16 arg17 arg1 (Scalar.addi (Scalar.addi arg1 (Scalar.muli (Scf.iv 0#32 1#32 k) 4#32)) 3#32) v14 (k0_off13 i k 3#32) (k0_off13_inb i k 3) (k0_off14 i k 3#32) (k0_off14_inb i k 3) (k0_off15 i k 3#32) (k0_off15_inb i k 3) (k0_off16 i k 3#32) (k0_off16_inb i k 3) ![1, 0, 0] inb_S2x384x384_S1x384x384_1_0_0 inb_S2x384x256_S1x384x256_1_0_0 inb_S2x384x128_S1x384x128_1_0_0

/-- The trips the loop makes for the block of keys `j`, as the kernel computes them. -/
def tripsW (j : BitVec 32) : BitVec 32 :=
  let x := Scalar.subi 10#32 j
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt 4#32 0#32)) (Scalar.extui (Scalar.cmpi .slt 4#32 0#32))))
    (Scalar.cmpi .ne (Scalar.remsi x 4#32) 0#32)) (Scalar.subi (Scalar.divsi x 4#32) 1#32) (Scalar.divsi x 4#32)

/-- The block of rows the last, straight-line part starts at. -/
def tailW (j : BitVec 32) : BitVec 32 := Scalar.addi j (Scalar.muli (tripsW j) 4#32)

/-- Where the (empty) remainder loop starts. -/
def restW (j : BitVec 32) : BitVec 32 := Scalar.addi 0#32 (Scalar.muli (Scalar.divsi (Scalar.subi (tripsW j) 0#32) 1#32) 1#32)

/-- The remainder loop's body: it never runs. -/
def trip2 (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (arg1 : BitVec 32) (v12 : FVec F S384x256 .bf16) (v14 : FVec F S384x256 .bf16) (v16 : FVec F S384x128 .bf16) (v18 : FVec F S384x128 .bf16) (k : Fin (k0_t2_loop i).trips) :
    Prog (TpuEff nD τ sig (Elt F) Λ₀ .tc) PUnit := do
  prodSt arg2 arg16 v12 (k0_off17 i k 0#32) (k0_off17_inb i k 0) ![0, 0, 0] inb_S2x384x384_S1x384x384_0_0_0
  prodDp arg7 arg17 v16 (k0_off18 i k 0#32) (k0_off18_inb i k 0) ![0, 0, 0] inb_S2x384x384_S1x384x384_0_0_0
  prodSt arg2 arg16 v14 (k0_off19 i k 0#32) (k0_off19_inb i k 0) ![1, 0, 0] inb_S2x384x384_S1x384x384_1_0_0
  prodDp arg7 arg17 v18 (k0_off20 i k 0#32) (k0_off20_inb i k 0) ![1, 0, 0] inb_S2x384x384_S1x384x384_1_0_0
  consHead arg2 arg5 arg6 arg7 arg11 arg12 arg13 arg14 arg15 arg1 (Scalar.addi (Scalar.addi arg1 (Scalar.muli (Scf.iv (restW arg1) 1#32 k) 4#32)) 0#32) v12 (k0_off21 i k 0#32) (k0_off21_inb i k 0) (k0_off22 i k 0#32) (k0_off22_inb i k 0) (k0_off23 i k 0#32) (k0_off23_inb i k 0) (k0_off24 i k 0#32) (k0_off24_inb i k 0) ![0, 0, 0] inb_S2x384x384_S1x384x384_0_0_0 inb_S2x384x256_S1x384x256_0_0_0 inb_S2x384x128_S1x384x128_0_0_0
  consHead arg2 arg5 arg6 arg7 arg11 arg12 arg13 arg14 arg15 arg1 (Scalar.addi (Scalar.addi arg1 (Scalar.muli (Scf.iv (restW arg1) 1#32 k) 4#32)) 0#32) v14 (k0_off25 i k 0#32) (k0_off25_inb i k 0) (k0_off26 i k 0#32) (k0_off26_inb i k 0) (k0_off27 i k 0#32) (k0_off27_inb i k 0) (k0_off28 i k 0#32) (k0_off28_inb i k 0) ![1, 0, 0] inb_S2x384x384_S1x384x384_1_0_0 inb_S2x384x256_S1x384x256_1_0_0 inb_S2x384x128_S1x384x128_1_0_0
  prodSt arg2 arg14 v12 (k0_off17 i k 1#32) (k0_off17_inb i k 1) ![0, 0, 0] inb_S2x384x384_S1x384x384_0_0_0
  prodDp arg7 arg15 v16 (k0_off18 i k 1#32) (k0_off18_inb i k 1) ![0, 0, 0] inb_S2x384x384_S1x384x384_0_0_0
  prodSt arg2 arg14 v14 (k0_off19 i k 1#32) (k0_off19_inb i k 1) ![1, 0, 0] inb_S2x384x384_S1x384x384_1_0_0
  prodDp arg7 arg15 v18 (k0_off20 i k 1#32) (k0_off20_inb i k 1) ![1, 0, 0] inb_S2x384x384_S1x384x384_1_0_0
  consHead arg2 arg5 arg6 arg7 arg11 arg12 arg13 arg16 arg17 arg1 (Scalar.addi (Scalar.addi arg1 (Scalar.muli (Scf.iv (restW arg1) 1#32 k) 4#32)) 1#32) v12 (k0_off21 i k 1#32) (k0_off21_inb i k 1) (k0_off22 i k 1#32) (k0_off22_inb i k 1) (k0_off23 i k 1#32) (k0_off23_inb i k 1) (k0_off24 i k 1#32) (k0_off24_inb i k 1) ![0, 0, 0] inb_S2x384x384_S1x384x384_0_0_0 inb_S2x384x256_S1x384x256_0_0_0 inb_S2x384x128_S1x384x128_0_0_0
  consHead arg2 arg5 arg6 arg7 arg11 arg12 arg13 arg16 arg17 arg1 (Scalar.addi (Scalar.addi arg1 (Scalar.muli (Scf.iv (restW arg1) 1#32 k) 4#32)) 1#32) v14 (k0_off25 i k 1#32) (k0_off25_inb i k 1) (k0_off26 i k 1#32) (k0_off26_inb i k 1) (k0_off27 i k 1#32) (k0_off27_inb i k 1) (k0_off28 i k 1#32) (k0_off28_inb i k 1) ![1, 0, 0] inb_S2x384x384_S1x384x384_1_0_0 inb_S2x384x256_S1x384x256_1_0_0 inb_S2x384x128_S1x384x128_1_0_0
  prodSt arg2 arg16 v12 (k0_off17 i k 2#32) (k0_off17_inb i k 2) ![0, 0, 0] inb_S2x384x384_S1x384x384_0_0_0
  prodDp arg7 arg17 v16 (k0_off18 i k 2#32) (k0_off18_inb i k 2) ![0, 0, 0] inb_S2x384x384_S1x384x384_0_0_0
  prodSt arg2 arg16 v14 (k0_off19 i k 2#32) (k0_off19_inb i k 2) ![1, 0, 0] inb_S2x384x384_S1x384x384_1_0_0
  prodDp arg7 arg17 v18 (k0_off20 i k 2#32) (k0_off20_inb i k 2) ![1, 0, 0] inb_S2x384x384_S1x384x384_1_0_0
  consHead arg2 arg5 arg6 arg7 arg11 arg12 arg13 arg14 arg15 arg1 (Scalar.addi (Scalar.addi arg1 (Scalar.muli (Scf.iv (restW arg1) 1#32 k) 4#32)) 2#32) v12 (k0_off21 i k 2#32) (k0_off21_inb i k 2) (k0_off22 i k 2#32) (k0_off22_inb i k 2) (k0_off23 i k 2#32) (k0_off23_inb i k 2) (k0_off24 i k 2#32) (k0_off24_inb i k 2) ![0, 0, 0] inb_S2x384x384_S1x384x384_0_0_0 inb_S2x384x256_S1x384x256_0_0_0 inb_S2x384x128_S1x384x128_0_0_0
  consHead arg2 arg5 arg6 arg7 arg11 arg12 arg13 arg14 arg15 arg1 (Scalar.addi (Scalar.addi arg1 (Scalar.muli (Scf.iv (restW arg1) 1#32 k) 4#32)) 2#32) v14 (k0_off25 i k 2#32) (k0_off25_inb i k 2) (k0_off26 i k 2#32) (k0_off26_inb i k 2) (k0_off27 i k 2#32) (k0_off27_inb i k 2) (k0_off28 i k 2#32) (k0_off28_inb i k 2) ![1, 0, 0] inb_S2x384x384_S1x384x384_1_0_0 inb_S2x384x256_S1x384x256_1_0_0 inb_S2x384x128_S1x384x128_1_0_0
  prodSt arg2 arg14 v12 (k0_off17 i k 3#32) (k0_off17_inb i k 3) ![0, 0, 0] inb_S2x384x384_S1x384x384_0_0_0
  prodDp arg7 arg15 v16 (k0_off18 i k 3#32) (k0_off18_inb i k 3) ![0, 0, 0] inb_S2x384x384_S1x384x384_0_0_0
  prodSt arg2 arg14 v14 (k0_off19 i k 3#32) (k0_off19_inb i k 3) ![1, 0, 0] inb_S2x384x384_S1x384x384_1_0_0
  prodDp arg7 arg15 v18 (k0_off20 i k 3#32) (k0_off20_inb i k 3) ![1, 0, 0] inb_S2x384x384_S1x384x384_1_0_0
  consHead arg2 arg5 arg6 arg7 arg11 arg12 arg13 arg16 arg17 arg1 (Scalar.addi (Scalar.addi arg1 (Scalar.muli (Scf.iv (restW arg1) 1#32 k) 4#32)) 3#32) v12 (k0_off21 i k 3#32) (k0_off21_inb i k 3) (k0_off22 i k 3#32) (k0_off22_inb i k 3) (k0_off23 i k 3#32) (k0_off23_inb i k 3) (k0_off24 i k 3#32) (k0_off24_inb i k 3) ![0, 0, 0] inb_S2x384x384_S1x384x384_0_0_0 inb_S2x384x256_S1x384x256_0_0_0 inb_S2x384x128_S1x384x128_0_0_0
  consHead arg2 arg5 arg6 arg7 arg11 arg12 arg13 arg16 arg17 arg1 (Scalar.addi (Scalar.addi arg1 (Scalar.muli (Scf.iv (restW arg1) 1#32 k) 4#32)) 3#32) v14 (k0_off25 i k 3#32) (k0_off25_inb i k 3) (k0_off26 i k 3#32) (k0_off26_inb i k 3) (k0_off27 i k 3#32) (k0_off27_inb i k 3) (k0_off28 i k 3#32) (k0_off28_inb i k 3) ![1, 0, 0] inb_S2x384x384_S1x384x384_1_0_0 inb_S2x384x256_S1x384x256_1_0_0 inb_S2x384x128_S1x384x128_1_0_0

/-- The last 1 block of rows. -/
def tail1 (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (arg1 : BitVec 32) (v12 : FVec F S384x256 .bf16) (v14 : FVec F S384x256 .bf16) (v16 : FVec F S384x128 .bf16) (v18 : FVec F S384x128 .bf16) (h : k0_cond2 i = 1#1) :
    Prog (TpuEff nD τ sig (Elt F) Λ₀ .tc) PUnit := do
  consHead arg2 arg5 arg6 arg7 arg11 arg12 arg13 arg14 arg15 arg1 (Scalar.addi (tailW arg1) 0#32) v12 (k0_off29 i) (k0_off29_inb i h) (k0_off30 i) (k0_off30_inb i h) (k0_off31 i) (k0_off31_inb i h) (k0_off32 i) (k0_off32_inb i h) ![0, 0, 0] inb_S2x384x384_S1x384x384_0_0_0 inb_S2x384x256_S1x384x256_0_0_0 inb_S2x384x128_S1x384x128_0_0_0
  consHead arg2 arg5 arg6 arg7 arg11 arg12 arg13 arg14 arg15 arg1 (Scalar.addi (tailW arg1) 0#32) v14 (k0_off33 i) (k0_off33_inb i h) (k0_off34 i) (k0_off34_inb i h) (k0_off35 i) (k0_off35_inb i h) (k0_off36 i) (k0_off36_inb i h) ![1, 0, 0] inb_S2x384x384_S1x384x384_1_0_0 inb_S2x384x256_S1x384x256_1_0_0 inb_S2x384x128_S1x384x128_1_0_0

/-- The last 2 blocks of rows. -/
def tail2 (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (arg1 : BitVec 32) (v12 : FVec F S384x256 .bf16) (v14 : FVec F S384x256 .bf16) (v16 : FVec F S384x128 .bf16) (v18 : FVec F S384x128 .bf16) (h : k0_cond3 i = 1#1) :
    Prog (TpuEff nD τ sig (Elt F) Λ₀ .tc) PUnit := do
  prodSt arg2 arg16 v12 (k0_off37 i) (k0_off37_inb i h) ![0, 0, 0] inb_S2x384x384_S1x384x384_0_0_0
  prodDp arg7 arg17 v16 (k0_off38 i) (k0_off38_inb i h) ![0, 0, 0] inb_S2x384x384_S1x384x384_0_0_0
  prodSt arg2 arg16 v14 (k0_off39 i) (k0_off39_inb i h) ![1, 0, 0] inb_S2x384x384_S1x384x384_1_0_0
  prodDp arg7 arg17 v18 (k0_off40 i) (k0_off40_inb i h) ![1, 0, 0] inb_S2x384x384_S1x384x384_1_0_0
  consHead arg2 arg5 arg6 arg7 arg11 arg12 arg13 arg14 arg15 arg1 (Scalar.addi (tailW arg1) 0#32) v12 (k0_off41 i 0#32) (k0_off41_inb i h 0) (k0_off42 i 0#32) (k0_off42_inb i h 0) (k0_off43 i 0#32) (k0_off43_inb i h 0) (k0_off44 i 0#32) (k0_off44_inb i h 0) ![0, 0, 0] inb_S2x384x384_S1x384x384_0_0_0 inb_S2x384x256_S1x384x256_0_0_0 inb_S2x384x128_S1x384x128_0_0_0
  consHead arg2 arg5 arg6 arg7 arg11 arg12 arg13 arg14 arg15 arg1 (Scalar.addi (tailW arg1) 0#32) v14 (k0_off45 i 0#32) (k0_off45_inb i h 0) (k0_off46 i 0#32) (k0_off46_inb i h 0) (k0_off47 i 0#32) (k0_off47_inb i h 0) (k0_off48 i 0#32) (k0_off48_inb i h 0) ![1, 0, 0] inb_S2x384x384_S1x384x384_1_0_0 inb_S2x384x256_S1x384x256_1_0_0 inb_S2x384x128_S1x384x128_1_0_0
  consHead arg2 arg5 arg6 arg7 arg11 arg12 arg13 arg16 arg17 arg1 (Scalar.addi (tailW arg1) 1#32) v12 (k0_off41 i 1#32) (k0_off41_inb i h 1) (k0_off42 i 1#32) (k0_off42_inb i h 1) (k0_off43 i 1#32) (k0_off43_inb i h 1) (k0_off44 i 1#32) (k0_off44_inb i h 1) ![0, 0, 0] inb_S2x384x384_S1x384x384_0_0_0 inb_S2x384x256_S1x384x256_0_0_0 inb_S2x384x128_S1x384x128_0_0_0
  consHead arg2 arg5 arg6 arg7 arg11 arg12 arg13 arg16 arg17 arg1 (Scalar.addi (tailW arg1) 1#32) v14 (k0_off45 i 1#32) (k0_off45_inb i h 1) (k0_off46 i 1#32) (k0_off46_inb i h 1) (k0_off47 i 1#32) (k0_off47_inb i h 1) (k0_off48 i 1#32) (k0_off48_inb i h 1) ![1, 0, 0] inb_S2x384x384_S1x384x384_1_0_0 inb_S2x384x256_S1x384x256_1_0_0 inb_S2x384x128_S1x384x128_1_0_0

/-- The last 3 blocks of rows. -/
def tail3 (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (arg1 : BitVec 32) (v12 : FVec F S384x256 .bf16) (v14 : FVec F S384x256 .bf16) (v16 : FVec F S384x128 .bf16) (v18 : FVec F S384x128 .bf16) (h : k0_cond4 i = 1#1) :
    Prog (TpuEff nD τ sig (Elt F) Λ₀ .tc) PUnit := do
  prodSt arg2 arg16 v12 (k0_off49 i 0#32) (k0_off49_inb i h 0) ![0, 0, 0] inb_S2x384x384_S1x384x384_0_0_0
  prodDp arg7 arg17 v16 (k0_off50 i 0#32) (k0_off50_inb i h 0) ![0, 0, 0] inb_S2x384x384_S1x384x384_0_0_0
  prodSt arg2 arg16 v14 (k0_off51 i 0#32) (k0_off51_inb i h 0) ![1, 0, 0] inb_S2x384x384_S1x384x384_1_0_0
  prodDp arg7 arg17 v18 (k0_off52 i 0#32) (k0_off52_inb i h 0) ![1, 0, 0] inb_S2x384x384_S1x384x384_1_0_0
  consHead arg2 arg5 arg6 arg7 arg11 arg12 arg13 arg14 arg15 arg1 (Scalar.addi (tailW arg1) 0#32) v12 (k0_off53 i 0#32) (k0_off53_inb i h 0) (k0_off54 i 0#32) (k0_off54_inb i h 0) (k0_off55 i 0#32) (k0_off55_inb i h 0) (k0_off56 i 0#32) (k0_off56_inb i h 0) ![0, 0, 0] inb_S2x384x384_S1x384x384_0_0_0 inb_S2x384x256_S1x384x256_0_0_0 inb_S2x384x128_S1x384x128_0_0_0
  consHead arg2 arg5 arg6 arg7 arg11 arg12 arg13 arg14 arg15 arg1 (Scalar.addi (tailW arg1) 0#32) v14 (k0_off57 i 0#32) (k0_off57_inb i h 0) (k0_off58 i 0#32) (k0_off58_inb i h 0) (k0_off59 i 0#32) (k0_off59_inb i h 0) (k0_off60 i 0#32) (k0_off60_inb i h 0) ![1, 0, 0] inb_S2x384x384_S1x384x384_1_0_0 inb_S2x384x256_S1x384x256_1_0_0 inb_S2x384x128_S1x384x128_1_0_0
  prodSt arg2 arg14 v12 (k0_off49 i 1#32) (k0_off49_inb i h 1) ![0, 0, 0] inb_S2x384x384_S1x384x384_0_0_0
  prodDp arg7 arg15 v16 (k0_off50 i 1#32) (k0_off50_inb i h 1) ![0, 0, 0] inb_S2x384x384_S1x384x384_0_0_0
  prodSt arg2 arg14 v14 (k0_off51 i 1#32) (k0_off51_inb i h 1) ![1, 0, 0] inb_S2x384x384_S1x384x384_1_0_0
  prodDp arg7 arg15 v18 (k0_off52 i 1#32) (k0_off52_inb i h 1) ![1, 0, 0] inb_S2x384x384_S1x384x384_1_0_0
  consHead arg2 arg5 arg6 arg7 arg11 arg12 arg13 arg16 arg17 arg1 (Scalar.addi (tailW arg1) 1#32) v12 (k0_off53 i 1#32) (k0_off53_inb i h 1) (k0_off54 i 1#32) (k0_off54_inb i h 1) (k0_off55 i 1#32) (k0_off55_inb i h 1) (k0_off56 i 1#32) (k0_off56_inb i h 1) ![0, 0, 0] inb_S2x384x384_S1x384x384_0_0_0 inb_S2x384x256_S1x384x256_0_0_0 inb_S2x384x128_S1x384x128_0_0_0
  consHead arg2 arg5 arg6 arg7 arg11 arg12 arg13 arg16 arg17 arg1 (Scalar.addi (tailW arg1) 1#32) v14 (k0_off57 i 1#32) (k0_off57_inb i h 1) (k0_off58 i 1#32) (k0_off58_inb i h 1) (k0_off59 i 1#32) (k0_off59_inb i h 1) (k0_off60 i 1#32) (k0_off60_inb i h 1) ![1, 0, 0] inb_S2x384x384_S1x384x384_1_0_0 inb_S2x384x256_S1x384x256_1_0_0 inb_S2x384x128_S1x384x128_1_0_0
  consHead arg2 arg5 arg6 arg7 arg11 arg12 arg13 arg14 arg15 arg1 (Scalar.addi (tailW arg1) 2#32) v12 (k0_off53 i 2#32) (k0_off53_inb i h 2) (k0_off54 i 2#32) (k0_off54_inb i h 2) (k0_off55 i 2#32) (k0_off55_inb i h 2) (k0_off56 i 2#32) (k0_off56_inb i h 2) ![0, 0, 0] inb_S2x384x384_S1x384x384_0_0_0 inb_S2x384x256_S1x384x256_0_0_0 inb_S2x384x128_S1x384x128_0_0_0
  consHead arg2 arg5 arg6 arg7 arg11 arg12 arg13 arg14 arg15 arg1 (Scalar.addi (tailW arg1) 2#32) v14 (k0_off57 i 2#32) (k0_off57_inb i h 2) (k0_off58 i 2#32) (k0_off58_inb i h 2) (k0_off59 i 2#32) (k0_off59_inb i h 2) (k0_off60 i 2#32) (k0_off60_inb i h 2) ![1, 0, 0] inb_S2x384x384_S1x384x384_1_0_0 inb_S2x384x256_S1x384x256_1_0_0 inb_S2x384x128_S1x384x128_1_0_0

/-- The last 4 blocks of rows. -/
def tail4 (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (arg1 : BitVec 32) (v12 : FVec F S384x256 .bf16) (v14 : FVec F S384x256 .bf16) (v16 : FVec F S384x128 .bf16) (v18 : FVec F S384x128 .bf16) (h : k0_cond5 i = 1#1) :
    Prog (TpuEff nD τ sig (Elt F) Λ₀ .tc) PUnit := do
  prodSt arg2 arg16 v12 (k0_off61 i 0#32) (k0_off61_inb i h 0) ![0, 0, 0] inb_S2x384x384_S1x384x384_0_0_0
  prodDp arg7 arg17 v16 (k0_off62 i 0#32) (k0_off62_inb i h 0) ![0, 0, 0] inb_S2x384x384_S1x384x384_0_0_0
  prodSt arg2 arg16 v14 (k0_off63 i 0#32) (k0_off63_inb i h 0) ![1, 0, 0] inb_S2x384x384_S1x384x384_1_0_0
  prodDp arg7 arg17 v18 (k0_off64 i 0#32) (k0_off64_inb i h 0) ![1, 0, 0] inb_S2x384x384_S1x384x384_1_0_0
  consHead arg2 arg5 arg6 arg7 arg11 arg12 arg13 arg14 arg15 arg1 (Scalar.addi (tailW arg1) 0#32) v12 (k0_off65 i 0#32) (k0_off65_inb i h 0) (k0_off66 i 0#32) (k0_off66_inb i h 0) (k0_off67 i 0#32) (k0_off67_inb i h 0) (k0_off68 i 0#32) (k0_off68_inb i h 0) ![0, 0, 0] inb_S2x384x384_S1x384x384_0_0_0 inb_S2x384x256_S1x384x256_0_0_0 inb_S2x384x128_S1x384x128_0_0_0
  consHead arg2 arg5 arg6 arg7 arg11 arg12 arg13 arg14 arg15 arg1 (Scalar.addi (tailW arg1) 0#32) v14 (k0_off69 i 0#32) (k0_off69_inb i h 0) (k0_off70 i 0#32) (k0_off70_inb i h 0) (k0_off71 i 0#32) (k0_off71_inb i h 0) (k0_off72 i 0#32) (k0_off72_inb i h 0) ![1, 0, 0] inb_S2x384x384_S1x384x384_1_0_0 inb_S2x384x256_S1x384x256_1_0_0 inb_S2x384x128_S1x384x128_1_0_0
  prodSt arg2 arg14 v12 (k0_off61 i 1#32) (k0_off61_inb i h 1) ![0, 0, 0] inb_S2x384x384_S1x384x384_0_0_0
  prodDp arg7 arg15 v16 (k0_off62 i 1#32) (k0_off62_inb i h 1) ![0, 0, 0] inb_S2x384x384_S1x384x384_0_0_0
  prodSt arg2 arg14 v14 (k0_off63 i 1#32) (k0_off63_inb i h 1) ![1, 0, 0] inb_S2x384x384_S1x384x384_1_0_0
  prodDp arg7 arg15 v18 (k0_off64 i 1#32) (k0_off64_inb i h 1) ![1, 0, 0] inb_S2x384x384_S1x384x384_1_0_0
  consHead arg2 arg5 arg6 arg7 arg11 arg12 arg13 arg16 arg17 arg1 (Scalar.addi (tailW arg1) 1#32) v12 (k0_off65 i 1#32) (k0_off65_inb i h 1) (k0_off66 i 1#32) (k0_off66_inb i h 1) (k0_off67 i 1#32) (k0_off67_inb i h 1) (k0_off68 i 1#32) (k0_off68_inb i h 1) ![0, 0, 0] inb_S2x384x384_S1x384x384_0_0_0 inb_S2x384x256_S1x384x256_0_0_0 inb_S2x384x128_S1x384x128_0_0_0
  consHead arg2 arg5 arg6 arg7 arg11 arg12 arg13 arg16 arg17 arg1 (Scalar.addi (tailW arg1) 1#32) v14 (k0_off69 i 1#32) (k0_off69_inb i h 1) (k0_off70 i 1#32) (k0_off70_inb i h 1) (k0_off71 i 1#32) (k0_off71_inb i h 1) (k0_off72 i 1#32) (k0_off72_inb i h 1) ![1, 0, 0] inb_S2x384x384_S1x384x384_1_0_0 inb_S2x384x256_S1x384x256_1_0_0 inb_S2x384x128_S1x384x128_1_0_0
  prodSt arg2 arg16 v12 (k0_off61 i 2#32) (k0_off61_inb i h 2) ![0, 0, 0] inb_S2x384x384_S1x384x384_0_0_0
  prodDp arg7 arg17 v16 (k0_off62 i 2#32) (k0_off62_inb i h 2) ![0, 0, 0] inb_S2x384x384_S1x384x384_0_0_0
  prodSt arg2 arg16 v14 (k0_off63 i 2#32) (k0_off63_inb i h 2) ![1, 0, 0] inb_S2x384x384_S1x384x384_1_0_0
  prodDp arg7 arg17 v18 (k0_off64 i 2#32) (k0_off64_inb i h 2) ![1, 0, 0] inb_S2x384x384_S1x384x384_1_0_0
  consHead arg2 arg5 arg6 arg7 arg11 arg12 arg13 arg14 arg15 arg1 (Scalar.addi (tailW arg1) 2#32) v12 (k0_off65 i 2#32) (k0_off65_inb i h 2) (k0_off66 i 2#32) (k0_off66_inb i h 2) (k0_off67 i 2#32) (k0_off67_inb i h 2) (k0_off68 i 2#32) (k0_off68_inb i h 2) ![0, 0, 0] inb_S2x384x384_S1x384x384_0_0_0 inb_S2x384x256_S1x384x256_0_0_0 inb_S2x384x128_S1x384x128_0_0_0
  consHead arg2 arg5 arg6 arg7 arg11 arg12 arg13 arg14 arg15 arg1 (Scalar.addi (tailW arg1) 2#32) v14 (k0_off69 i 2#32) (k0_off69_inb i h 2) (k0_off70 i 2#32) (k0_off70_inb i h 2) (k0_off71 i 2#32) (k0_off71_inb i h 2) (k0_off72 i 2#32) (k0_off72_inb i h 2) ![1, 0, 0] inb_S2x384x384_S1x384x384_1_0_0 inb_S2x384x256_S1x384x256_1_0_0 inb_S2x384x128_S1x384x128_1_0_0
  consHead arg2 arg5 arg6 arg7 arg11 arg12 arg13 arg16 arg17 arg1 (Scalar.addi (tailW arg1) 3#32) v12 (k0_off65 i 3#32) (k0_off65_inb i h 3) (k0_off66 i 3#32) (k0_off66_inb i h 3) (k0_off67 i 3#32) (k0_off67_inb i h 3) (k0_off68 i 3#32) (k0_off68_inb i h 3) ![0, 0, 0] inb_S2x384x384_S1x384x384_0_0_0 inb_S2x384x256_S1x384x256_0_0_0 inb_S2x384x128_S1x384x128_0_0_0
  consHead arg2 arg5 arg6 arg7 arg11 arg12 arg13 arg16 arg17 arg1 (Scalar.addi (tailW arg1) 3#32) v14 (k0_off69 i 3#32) (k0_off69_inb i h 3) (k0_off70 i 3#32) (k0_off70_inb i h 3) (k0_off71 i 3#32) (k0_off71_inb i h 3) (k0_off72 i 3#32) (k0_off72_inb i h 3) ![1, 0, 0] inb_S2x384x384_S1x384x384_1_0_0 inb_S2x384x256_S1x384x256_1_0_0 inb_S2x384x128_S1x384x128_1_0_0

/-- The pair's accumulator of the queries' cotangent starts at zero. -/
def init11 (arg11 : Memref sig .tc .vmem S2x4224x256 .f32) : Prog (TpuEff nD τ sig (Elt F) Λ₀ .tc) PUnit := do
  let _x : Vec F S2x4224x256 .f32 ← Prog.lift (.load arg11 (Rect.unit (s := S2x4224x256) ![0, 0, 0] S2x4224x256.size inb_S2x4224x256_S2x4224x256_0_0_0).toLoadRect (View.loadsAt_vmem h_S2x4224x256))
  Prog.lift (.store arg11 (Rect.unit (s := S2x4224x256) ![0, 0, 0] S2x4224x256.size inb_S2x4224x256_S2x4224x256_0_0_0) (k0_pay337 (F := F)) Finset.univ (View.stores_vmem_bits_univ h_S2x4224x256 rfl) (.inl rfl))

/-- So do the accumulators of a block of keys. -/
def init12 (arg12 : Memref sig .tc .vmem S2x384x256 .f32) (arg13 : Memref sig .tc .vmem S2x384x128 .f32) :
    Prog (TpuEff nD τ sig (Elt F) Λ₀ .tc) PUnit := do
  let _y : Vec F S2x384x256 .f32 ← Prog.lift (.load arg12 (Rect.unit (s := S2x384x256) ![0, 0, 0] S2x384x256.size inb_S2x384x256_S2x384x256_0_0_0).toLoadRect (View.loadsAt_vmem h_S2x384x256))
  Prog.lift (.store arg12 (Rect.unit (s := S2x384x256) ![0, 0, 0] S2x384x256.size inb_S2x384x256_S2x384x256_0_0_0) (k0_pay338 (F := F)) Finset.univ (View.stores_vmem_bits_univ h_S2x384x256 rfl) (.inl rfl))
  let _z : Vec F S2x384x128 .f32 ← Prog.lift (.load arg13 (Rect.unit (s := S2x384x128) ![0, 0, 0] S2x384x128.size inb_S2x384x128_S2x384x128_0_0_0).toLoadRect (View.loadsAt_vmem h_S2x384x128))
  Prog.lift (.store arg13 (Rect.unit (s := S2x384x128) ![0, 0, 0] S2x384x128.size inb_S2x384x128_S2x384x128_0_0_0) (k0_pay339 (F := F)) Finset.univ (View.stores_vmem_bits_univ h_S2x384x128 rfl) (.inl rfl))

/-- The block of keys' two results, rounded. -/
def finish (arg9 : Memref sig .tc .vmem S384x512 .bf16) (harg9 : arg9.IsWhole) (arg10 : Memref sig .tc .vmem S384x256 .bf16)
    (harg10 : arg10.IsWhole) (arg12 : Memref sig .tc .vmem S2x384x256 .f32) (arg13 : Memref sig .tc .vmem S2x384x128 .f32) (v94 : FVec F S384x256 .bf16) :
    Prog (TpuEff nD τ sig (Elt F) Λ₀ .tc) PUnit := do
  let _a : Vec F S384x256 .bf16 ← Prog.lift (.load arg9 (Rect.unit (s := S384x512) ![0, 0] S384x256.size inb_S384x512_S384x256_0_0).toLoadRect (View.loadsAt_vmem h_S384x256))
  Prog.lift (.store arg9 (Rect.unit (s := S384x512) ![0, 0] S384x256.size inb_S384x512_S384x256_0_0) (v94) Finset.univ (View.stores_vmem h_S384x256 (harg9.storeExact_slice rfl _ packedbf16_S384x512_S384x256_0_0) (fun _ => rfl)) (.inl rfl))
  let b : Vec F S1x384x128 .f32 ← Prog.lift (.load arg13 (Rect.unit (s := S2x384x128) ![0, 0, 0] S1x384x128.size inb_S2x384x128_S1x384x128_0_0_0).toLoadRect (View.loadsAt_vmem h_S1x384x128))
  let _b : Vec F S384x128 .bf16 ← Prog.lift (.load arg10 (Rect.unit (s := S384x256) ![0, 0] S384x128.size inb_S384x256_S384x128_0_0).toLoadRect (View.loadsAt_vmem h_S384x128))
  Prog.lift (.store arg10 (Rect.unit (s := S384x256) ![0, 0] S384x128.size inb_S384x256_S384x128_0_0) (k0_pay1 b) Finset.univ (View.stores_vmem h_S384x128 (harg10.storeExact_slice rfl _ packedbf16_S384x256_S384x128_0_0) (fun _ => rfl)) (.inl rfl))
  let d : Vec F S1x384x256 .f32 ← Prog.lift (.load arg12 (Rect.unit (s := S2x384x256) ![1, 0, 0] S1x384x256.size inb_S2x384x256_S1x384x256_1_0_0).toLoadRect (View.loadsAt_vmem h_S1x384x256))
  let _d : Vec F S384x256 .bf16 ← Prog.lift (.load arg9 (Rect.unit (s := S384x512) ![0, 256] S384x256.size inb_S384x512_S384x256_0_256).toLoadRect (View.loadsAt_vmem h_S384x256))
  Prog.lift (.store arg9 (Rect.unit (s := S384x512) ![0, 256] S384x256.size inb_S384x512_S384x256_0_256) (k0_pay2 d) Finset.univ (View.stores_vmem h_S384x256 (harg9.storeExact_slice rfl _ packedbf16_S384x512_S384x256_0_256) (fun _ => rfl)) (.inl rfl))
  let e : Vec F S1x384x128 .f32 ← Prog.lift (.load arg13 (Rect.unit (s := S2x384x128) ![1, 0, 0] S1x384x128.size inb_S2x384x128_S1x384x128_1_0_0).toLoadRect (View.loadsAt_vmem h_S1x384x128))
  let _e : Vec F S384x128 .bf16 ← Prog.lift (.load arg10 (Rect.unit (s := S384x256) ![0, 128] S384x128.size inb_S384x256_S384x128_0_128).toLoadRect (View.loadsAt_vmem h_S384x128))
  Prog.lift (.store arg10 (Rect.unit (s := S384x256) ![0, 128] S384x128.size inb_S384x256_S384x128_0_128) (k0_pay3 e) Finset.univ (View.stores_vmem h_S384x128 (harg10.storeExact_slice rfl _ packedbf16_S384x256_S384x128_0_128) (fun _ => rfl)) (.inl rfl))

/-- The pair's queries' cotangent, rounded, after its last block of keys. -/
def finish8 (arg8 : Memref sig .tc .vmem S4224x512 .bf16) (harg8 : arg8.IsWhole) (arg11 : Memref sig .tc .vmem S2x4224x256 .f32) :
    Prog (TpuEff nD τ sig (Elt F) Λ₀ .tc) PUnit := do
  let x : Vec F S1x4224x256 .f32 ← Prog.lift (.load arg11 (Rect.unit (s := S2x4224x256) ![0, 0, 0] S1x4224x256.size inb_S2x4224x256_S1x4224x256_0_0_0).toLoadRect (View.loadsAt_vmem h_S1x4224x256))
  let _x : Vec F S4224x256 .bf16 ← Prog.lift (.load arg8 (Rect.unit (s := S4224x512) ![0, 0] S4224x256.size inb_S4224x512_S4224x256_0_0).toLoadRect (View.loadsAt_vmem h_S4224x256))
  Prog.lift (.store arg8 (Rect.unit (s := S4224x512) ![0, 0] S4224x256.size inb_S4224x512_S4224x256_0_0) (k0_pay4 x) Finset.univ (View.stores_vmem h_S4224x256 (harg8.storeExact_slice rfl _ packedbf16_S4224x512_S4224x256_0_0) (fun _ => rfl)) (.inl rfl))
  let y : Vec F S1x4224x256 .f32 ← Prog.lift (.load arg11 (Rect.unit (s := S2x4224x256) ![1, 0, 0] S1x4224x256.size inb_S2x4224x256_S1x4224x256_1_0_0).toLoadRect (View.loadsAt_vmem h_S1x4224x256))
  let _y : Vec F S4224x256 .bf16 ← Prog.lift (.load arg8 (Rect.unit (s := S4224x512) ![0, 256] S4224x256.size inb_S4224x512_S4224x256_0_256).toLoadRect (View.loadsAt_vmem h_S4224x256))
  Prog.lift (.store arg8 (Rect.unit (s := S4224x512) ![0, 256] S4224x256.size inb_S4224x512_S4224x256_0_256) (k0_pay5 y) Finset.univ (View.stores_vmem h_S4224x256 (harg8.storeExact_slice rfl _ packedbf16_S4224x512_S4224x256_0_256) (fun _ => rfl)) (.inl rfl))

/-- Whether this is the pair's first block of keys. -/
def first (i : grid0.Coords) : BitVec 1 := (Scalar.cmpi .ne (Scalar.extui (Scalar.cmpi .eq (BitVec.ofNat 32 (i 1).val) 0#32) : BitVec 32) 0#32)

/-- The block of keys' keys and values, and the first scores. -/
def start1 (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) : Prog (TpuEff nD τ sig (Elt F) Λ₀ .tc) (Σ' (arg1 : BitVec 32) (v12 : FVec F S384x256 .bf16) (v14 : FVec F S384x256 .bf16) (v16 : FVec F S384x128 .bf16), FVec F S384x128 .bf16) := do
  let v11 : Vec F S384x256 .bf16 ← Prog.lift (.load arg3 (Rect.unit (s := S384x512) ![0, 0] S384x256.size inb_S384x512_S384x256_0_0).toLoadRect (View.loadsAt_vmem h_S384x256))
  let v13 : Vec F S384x256 .bf16 ← Prog.lift (.load arg3 (Rect.unit (s := S384x512) ![0, 256] S384x256.size inb_S384x512_S384x256_0_256).toLoadRect (View.loadsAt_vmem h_S384x256))
  let v15 : Vec F S384x128 .bf16 ← Prog.lift (.load arg4 (Rect.unit (s := S384x256) ![0, 0] S384x128.size inb_S384x256_S384x128_0_0).toLoadRect (View.loadsAt_vmem h_S384x128))
  let v17 : Vec F S384x128 .bf16 ← Prog.lift (.load arg4 (Rect.unit (s := S384x256) ![0, 128] S384x128.size inb_S384x256_S384x128_0_128).toLoadRect (View.loadsAt_vmem h_S384x128))
  prodSt arg2 arg14 (k0_pay340 v11) (k0_off1 i) (k0_off1_inb i) ![0, 0, 0] inb_S2x384x384_S1x384x384_0_0_0
  pure ⟨BitVec.ofNat 32 (i 1).val, k0_pay340 v11, k0_pay341 v13, k0_pay342 v15, k0_pay343 v17⟩

/-- The block of keys' start: its accumulators at zero, its keys and values, the first scores. -/
def start (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) : Prog (TpuEff nD τ sig (Elt F) Λ₀ .tc) (Σ' (arg1 : BitVec 32) (v12 : FVec F S384x256 .bf16) (v14 : FVec F S384x256 .bf16) (v16 : FVec F S384x128 .bf16), FVec F S384x128 .bf16) := do
  if first i = 1#1 then do
    init11 arg11
  else do
    pure ⟨⟩
  init12 arg12 arg13
  start1 i arg2 arg3 arg4 arg5 arg6 arg7 arg8 arg9 arg10 arg11 arg12 arg13 arg14 arg15 arg16 arg17

/-- The rest of the first block of rows' products. -/
def start2 (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (arg1 : BitVec 32) (v14 : FVec F S384x256 .bf16) (v16 : FVec F S384x128 .bf16) (v18 : FVec F S384x128 .bf16) :
    Prog (TpuEff nD τ sig (Elt F) Λ₀ .tc) PUnit := do
  prodDp arg7 arg15 v16 (k0_off2 i) (k0_off2_inb i) ![0, 0, 0] inb_S2x384x384_S1x384x384_0_0_0
  prodSt arg2 arg14 v14 (k0_off3 i) (k0_off3_inb i) ![1, 0, 0] inb_S2x384x384_S1x384x384_1_0_0
  prodDp arg7 arg15 v18 (k0_off4 i) (k0_off4_inb i) ![1, 0, 0] inb_S2x384x384_S1x384x384_1_0_0

/-- The first head of keys, its sum rounded. -/
def rest5 (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (arg1 : BitVec 32) (v12 : FVec F S384x256 .bf16) (v14 : FVec F S384x256 .bf16) (v16 : FVec F S384x128 .bf16) (v18 : FVec F S384x128 .bf16) :
    Prog (TpuEff nD τ sig (Elt F) Λ₀ .tc) (FVec F S384x256 .bf16) := do
  let a : Vec F S1x384x256 .f32 ← Prog.lift (.load arg12 (Rect.unit (s := S2x384x256) ![0, 0, 0] S1x384x256.size inb_S2x384x256_S1x384x256_0_0_0).toLoadRect (View.loadsAt_vmem h_S1x384x256))
  pure (k0_pay357 a)

/-- The last 4 blocks of rows where that many are left, and what follows. -/
def rest4 (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (arg1 : BitVec 32) (v12 : FVec F S384x256 .bf16) (v14 : FVec F S384x256 .bf16) (v16 : FVec F S384x128 .bf16) (v18 : FVec F S384x128 .bf16) :
    Prog (TpuEff nD τ sig (Elt F) Λ₀ .tc) (FVec F S384x256 .bf16) := do
  if h : k0_cond5 i = 1#1 then do
    tail4 i arg2 arg3 arg4 arg5 arg6 arg7 arg8 arg9 arg10 arg11 arg12 arg13 arg14 arg15 arg16 arg17 arg1 v12 v14 v16 v18 h
  else do
    pure ⟨⟩
  rest5 i arg2 arg3 arg4 arg5 arg6 arg7 arg8 arg9 arg10 arg11 arg12 arg13 arg14 arg15 arg16 arg17 arg1 v12 v14 v16 v18

/-- The last 3 blocks of rows where that many are left, and what follows. -/
def rest3 (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (arg1 : BitVec 32) (v12 : FVec F S384x256 .bf16) (v14 : FVec F S384x256 .bf16) (v16 : FVec F S384x128 .bf16) (v18 : FVec F S384x128 .bf16) :
    Prog (TpuEff nD τ sig (Elt F) Λ₀ .tc) (FVec F S384x256 .bf16) := do
  if h : k0_cond4 i = 1#1 then do
    tail3 i arg2 arg3 arg4 arg5 arg6 arg7 arg8 arg9 arg10 arg11 arg12 arg13 arg14 arg15 arg16 arg17 arg1 v12 v14 v16 v18 h
  else do
    pure ⟨⟩
  rest4 i arg2 arg3 arg4 arg5 arg6 arg7 arg8 arg9 arg10 arg11 arg12 arg13 arg14 arg15 arg16 arg17 arg1 v12 v14 v16 v18

/-- The last 2 blocks of rows where that many are left, and what follows. -/
def rest2 (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (arg1 : BitVec 32) (v12 : FVec F S384x256 .bf16) (v14 : FVec F S384x256 .bf16) (v16 : FVec F S384x128 .bf16) (v18 : FVec F S384x128 .bf16) :
    Prog (TpuEff nD τ sig (Elt F) Λ₀ .tc) (FVec F S384x256 .bf16) := do
  if h : k0_cond3 i = 1#1 then do
    tail2 i arg2 arg3 arg4 arg5 arg6 arg7 arg8 arg9 arg10 arg11 arg12 arg13 arg14 arg15 arg16 arg17 arg1 v12 v14 v16 v18 h
  else do
    pure ⟨⟩
  rest3 i arg2 arg3 arg4 arg5 arg6 arg7 arg8 arg9 arg10 arg11 arg12 arg13 arg14 arg15 arg16 arg17 arg1 v12 v14 v16 v18

/-- The last block of rows where one is left, and what follows. -/
def rest1 (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (arg1 : BitVec 32) (v12 : FVec F S384x256 .bf16) (v14 : FVec F S384x256 .bf16) (v16 : FVec F S384x128 .bf16) (v18 : FVec F S384x128 .bf16) :
    Prog (TpuEff nD τ sig (Elt F) Λ₀ .tc) (FVec F S384x256 .bf16) := do
  if h : k0_cond2 i = 1#1 then do
    tail1 i arg2 arg3 arg4 arg5 arg6 arg7 arg8 arg9 arg10 arg11 arg12 arg13 arg14 arg15 arg16 arg17 arg1 v12 v14 v16 v18 h
  else do
    pure ⟨⟩
  rest2 i arg2 arg3 arg4 arg5 arg6 arg7 arg8 arg9 arg10 arg11 arg12 arg13 arg14 arg15 arg16 arg17 arg1 v12 v14 v16 v18

/-- From the block of keys' accumulators at zero to their sums over the blocks of rows. -/
def sweep (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (arg1 : BitVec 32) (v12 : FVec F S384x256 .bf16) (v14 : FVec F S384x256 .bf16) (v16 : FVec F S384x128 .bf16) (v18 : FVec F S384x128 .bf16) :
    Prog (TpuEff nD τ sig (Elt F) Λ₀ .tc) (FVec F S384x256 .bf16) := do
  Scf.Loop.for (k0_t1_loop i) (k0_t1_ok i) ⟨⟩ (fun k _ => trip i arg2 arg3 arg4 arg5 arg6 arg7 arg8 arg9 arg10 arg11 arg12 arg13 arg14 arg15 arg16 arg17 arg1 v12 v14 v16 v18 k)
  Scf.Loop.for (k0_t2_loop i) (k0_t2_ok i) ⟨⟩ (fun k _ => trip2 i arg2 arg3 arg4 arg5 arg6 arg7 arg8 arg9 arg10 arg11 arg12 arg13 arg14 arg15 arg16 arg17 arg1 v12 v14 v16 v18 k)
  rest1 i arg2 arg3 arg4 arg5 arg6 arg7 arg8 arg9 arg10 arg11 arg12 arg13 arg14 arg15 arg16 arg17 arg1 v12 v14 v16 v18

/-- The results' stores, after the sweep. -/
def ending (i : grid0.Coords) (arg2 : Memref sig .tc .vmem S4224x512 .bf16) (harg2 : arg2.IsWhole) (arg3 : Memref sig .tc .vmem S384x512 .bf16) (harg3 : arg3.IsWhole) (arg4 : Memref sig .tc .vmem S384x256 .bf16) (harg4 : arg4.IsWhole) (arg5 : Memref sig .tc .vmem S2x11x1x384 .f32) (harg5 : arg5.IsWhole) (arg6 : Memref sig .tc .vmem S2x11x1x384 .f32) (harg6 : arg6.IsWhole) (arg7 : Memref sig .tc .vmem S4224x256 .bf16) (harg7 : arg7.IsWhole) (arg8 : Memref sig .tc .vmem S4224x512 .bf16) (harg8 : arg8.IsWhole) (arg9 : Memref sig .tc .vmem S384x512 .bf16) (harg9 : arg9.IsWhole) (arg10 : Memref sig .tc .vmem S384x256 .bf16) (harg10 : arg10.IsWhole) (arg11 : Memref sig .tc .vmem S2x4224x256 .f32) (harg11 : arg11.IsWhole) (arg12 : Memref sig .tc .vmem S2x384x256 .f32) (harg12 : arg12.IsWhole) (arg13 : Memref sig .tc .vmem S2x384x128 .f32) (harg13 : arg13.IsWhole) (arg14 : Memref sig .tc .vmem S2x384x384 .f32) (harg14 : arg14.IsWhole) (arg15 : Memref sig .tc .vmem S2x384x384 .f32) (harg15 : arg15.IsWhole) (arg16 : Memref sig .tc .vmem S2x384x384 .f32) (harg16 : arg16.IsWhole) (arg17 : Memref sig .tc .vmem S2x384x384 .f32) (harg17 : arg17.IsWhole) (v94 : FVec F S384x256 .bf16) : Prog (TpuEff nD τ sig (Elt F) Λ₀ .tc) PUnit := do
  finish arg9 harg9 arg10 harg10 arg12 arg13 v94
  if k0_cond6 i = 1#1 then do
    finish8 arg8 harg8 arg11
  else do
    pure ⟨⟩
  pure ⟨⟩

/-- The body after its start. -/
def after (i : grid0.Coords) (arg2 : Memref sig .tc .vmem S4224x512 .bf16) (harg2 : arg2.IsWhole) (arg3 : Memref sig .tc .vmem S384x512 .bf16) (harg3 : arg3.IsWhole) (arg4 : Memref sig .tc .vmem S384x256 .bf16) (harg4 : arg4.IsWhole) (arg5 : Memref sig .tc .vmem S2x11x1x384 .f32) (harg5 : arg5.IsWhole) (arg6 : Memref sig .tc .vmem S2x11x1x384 .f32) (harg6 : arg6.IsWhole) (arg7 : Memref sig .tc .vmem S4224x256 .bf16) (harg7 : arg7.IsWhole) (arg8 : Memref sig .tc .vmem S4224x512 .bf16) (harg8 : arg8.IsWhole) (arg9 : Memref sig .tc .vmem S384x512 .bf16) (harg9 : arg9.IsWhole) (arg10 : Memref sig .tc .vmem S384x256 .bf16) (harg10 : arg10.IsWhole) (arg11 : Memref sig .tc .vmem S2x4224x256 .f32) (harg11 : arg11.IsWhole) (arg12 : Memref sig .tc .vmem S2x384x256 .f32) (harg12 : arg12.IsWhole) (arg13 : Memref sig .tc .vmem S2x384x128 .f32) (harg13 : arg13.IsWhole) (arg14 : Memref sig .tc .vmem S2x384x384 .f32) (harg14 : arg14.IsWhole) (arg15 : Memref sig .tc .vmem S2x384x384 .f32) (harg15 : arg15.IsWhole) (arg16 : Memref sig .tc .vmem S2x384x384 .f32) (harg16 : arg16.IsWhole) (arg17 : Memref sig .tc .vmem S2x384x384 .f32) (harg17 : arg17.IsWhole) (arg1 : BitVec 32) (v12 : FVec F S384x256 .bf16) (v14 : FVec F S384x256 .bf16) (v16 : FVec F S384x128 .bf16) (v18 : FVec F S384x128 .bf16) : Prog (TpuEff nD τ sig (Elt F) Λ₀ .tc) PUnit := do
  start2 i arg2 arg3 arg4 arg5 arg6 arg7 arg8 arg9 arg10 arg11 arg12 arg13 arg14 arg15 arg16 arg17 arg1 v14 v16 v18
  let v94 : FVec F S384x256 .bf16 ← sweep i arg2 arg3 arg4 arg5 arg6 arg7 arg8 arg9 arg10 arg11 arg12 arg13 arg14 arg15 arg16 arg17 arg1 v12 v14 v16 v18
  ending i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v94

/-- The whole body. -/
def body (i : grid0.Coords) (arg2 : Memref sig .tc .vmem S4224x512 .bf16) (harg2 : arg2.IsWhole) (arg3 : Memref sig .tc .vmem S384x512 .bf16) (harg3 : arg3.IsWhole) (arg4 : Memref sig .tc .vmem S384x256 .bf16) (harg4 : arg4.IsWhole) (arg5 : Memref sig .tc .vmem S2x11x1x384 .f32) (harg5 : arg5.IsWhole) (arg6 : Memref sig .tc .vmem S2x11x1x384 .f32) (harg6 : arg6.IsWhole) (arg7 : Memref sig .tc .vmem S4224x256 .bf16) (harg7 : arg7.IsWhole) (arg8 : Memref sig .tc .vmem S4224x512 .bf16) (harg8 : arg8.IsWhole) (arg9 : Memref sig .tc .vmem S384x512 .bf16) (harg9 : arg9.IsWhole) (arg10 : Memref sig .tc .vmem S384x256 .bf16) (harg10 : arg10.IsWhole) (arg11 : Memref sig .tc .vmem S2x4224x256 .f32) (harg11 : arg11.IsWhole) (arg12 : Memref sig .tc .vmem S2x384x256 .f32) (harg12 : arg12.IsWhole) (arg13 : Memref sig .tc .vmem S2x384x128 .f32) (harg13 : arg13.IsWhole) (arg14 : Memref sig .tc .vmem S2x384x384 .f32) (harg14 : arg14.IsWhole) (arg15 : Memref sig .tc .vmem S2x384x384 .f32) (harg15 : arg15.IsWhole) (arg16 : Memref sig .tc .vmem S2x384x384 .f32) (harg16 : arg16.IsWhole) (arg17 : Memref sig .tc .vmem S2x384x384 .f32) (harg17 : arg17.IsWhole) : Prog (TpuEff nD τ sig (Elt F) Λ₀ .tc) PUnit := do
  let ⟨arg1, v12, v14, v16, v18⟩ : Σ' (arg1 : BitVec 32) (v12 : FVec F S384x256 .bf16) (v14 : FVec F S384x256 .bf16) (v16 : FVec F S384x128 .bf16), FVec F S384x128 .bf16 ← start i arg2 arg3 arg4 arg5 arg6 arg7 arg8 arg9 arg10 arg11 arg12 arg13 arg14 arg15 arg16 arg17
  after i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v12 v14 v16 v18

theorem start_eq (i : grid0.Coords) (arg2 : Memref sig .tc .vmem S4224x512 .bf16) (harg2 : arg2.IsWhole) (arg3 : Memref sig .tc .vmem S384x512 .bf16) (harg3 : arg3.IsWhole) (arg4 : Memref sig .tc .vmem S384x256 .bf16) (harg4 : arg4.IsWhole) (arg5 : Memref sig .tc .vmem S2x11x1x384 .f32) (harg5 : arg5.IsWhole) (arg6 : Memref sig .tc .vmem S2x11x1x384 .f32) (harg6 : arg6.IsWhole) (arg7 : Memref sig .tc .vmem S4224x256 .bf16) (harg7 : arg7.IsWhole) (arg8 : Memref sig .tc .vmem S4224x512 .bf16) (harg8 : arg8.IsWhole) (arg9 : Memref sig .tc .vmem S384x512 .bf16) (harg9 : arg9.IsWhole) (arg10 : Memref sig .tc .vmem S384x256 .bf16) (harg10 : arg10.IsWhole) (arg11 : Memref sig .tc .vmem S2x4224x256 .f32) (harg11 : arg11.IsWhole) (arg12 : Memref sig .tc .vmem S2x384x256 .f32) (harg12 : arg12.IsWhole) (arg13 : Memref sig .tc .vmem S2x384x128 .f32) (harg13 : arg13.IsWhole) (arg14 : Memref sig .tc .vmem S2x384x384 .f32) (harg14 : arg14.IsWhole) (arg15 : Memref sig .tc .vmem S2x384x384 .f32) (harg15 : arg15.IsWhole) (arg16 : Memref sig .tc .vmem S2x384x384 .f32) (harg16 : arg16.IsWhole) (arg17 : Memref sig .tc .vmem S2x384x384 .f32) (harg17 : arg17.IsWhole) : k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = start i arg2 arg3 arg4 arg5 arg6 arg7 arg8 arg9 arg10 arg11 arg12 arg13 arg14 arg15 arg16 arg17 := by
  rfl

set_option maxHeartbeats 4000000 in
theorem sweep_eq (i : grid0.Coords) (arg2 : Memref sig .tc .vmem S4224x512 .bf16) (harg2 : arg2.IsWhole) (arg3 : Memref sig .tc .vmem S384x512 .bf16) (harg3 : arg3.IsWhole) (arg4 : Memref sig .tc .vmem S384x256 .bf16) (harg4 : arg4.IsWhole) (arg5 : Memref sig .tc .vmem S2x11x1x384 .f32) (harg5 : arg5.IsWhole) (arg6 : Memref sig .tc .vmem S2x11x1x384 .f32) (harg6 : arg6.IsWhole) (arg7 : Memref sig .tc .vmem S4224x256 .bf16) (harg7 : arg7.IsWhole) (arg8 : Memref sig .tc .vmem S4224x512 .bf16) (harg8 : arg8.IsWhole) (arg9 : Memref sig .tc .vmem S384x512 .bf16) (harg9 : arg9.IsWhole) (arg10 : Memref sig .tc .vmem S384x256 .bf16) (harg10 : arg10.IsWhole) (arg11 : Memref sig .tc .vmem S2x4224x256 .f32) (harg11 : arg11.IsWhole) (arg12 : Memref sig .tc .vmem S2x384x256 .f32) (harg12 : arg12.IsWhole) (arg13 : Memref sig .tc .vmem S2x384x128 .f32) (harg13 : arg13.IsWhole) (arg14 : Memref sig .tc .vmem S2x384x384 .f32) (harg14 : arg14.IsWhole) (arg15 : Memref sig .tc .vmem S2x384x384 .f32) (harg15 : arg15.IsWhole) (arg16 : Memref sig .tc .vmem S2x384x384 .f32) (harg16 : arg16.IsWhole) (arg17 : Memref sig .tc .vmem S2x384x384 .f32) (harg17 : arg17.IsWhole) (arg1 : BitVec 32) (v12 : FVec F S384x256 .bf16) (v14 : FVec F S384x256 .bf16) (v16 : FVec F S384x128 .bf16) (v18 : FVec F S384x128 .bf16) (v52 : BitVec 32) (v63 : BitVec 1) (v64 : BitVec 32)
    (h52 : v52 = Scalar.divsi (Scalar.subi 10#32 arg1) 4#32)
    (h68 : Scalar.select (Scalar.andi v63 (Scalar.cmpi .ne v64 0#32)) (Scalar.subi v52 1#32) v52 = tripsW arg1) :
    k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v12 v14 v16 v18 v52 v63 v64 = sweep i arg2 arg3 arg4 arg5 arg6 arg7 arg8 arg9 arg10 arg11 arg12 arg13 arg14 arg15 arg16 arg17 arg1 v12 v14 v16 v18 := by
  unfold k0_part74
  dsimp only
  rw [h68]
  rfl

theorem start2_eq (i : grid0.Coords) (arg2 : Memref sig .tc .vmem S4224x512 .bf16) (harg2 : arg2.IsWhole) (arg3 : Memref sig .tc .vmem S384x512 .bf16) (harg3 : arg3.IsWhole) (arg4 : Memref sig .tc .vmem S384x256 .bf16) (harg4 : arg4.IsWhole) (arg5 : Memref sig .tc .vmem S2x11x1x384 .f32) (harg5 : arg5.IsWhole) (arg6 : Memref sig .tc .vmem S2x11x1x384 .f32) (harg6 : arg6.IsWhole) (arg7 : Memref sig .tc .vmem S4224x256 .bf16) (harg7 : arg7.IsWhole) (arg8 : Memref sig .tc .vmem S4224x512 .bf16) (harg8 : arg8.IsWhole) (arg9 : Memref sig .tc .vmem S384x512 .bf16) (harg9 : arg9.IsWhole) (arg10 : Memref sig .tc .vmem S384x256 .bf16) (harg10 : arg10.IsWhole) (arg11 : Memref sig .tc .vmem S2x4224x256 .f32) (harg11 : arg11.IsWhole) (arg12 : Memref sig .tc .vmem S2x384x256 .f32) (harg12 : arg12.IsWhole) (arg13 : Memref sig .tc .vmem S2x384x128 .f32) (harg13 : arg13.IsWhole) (arg14 : Memref sig .tc .vmem S2x384x384 .f32) (harg14 : arg14.IsWhole) (arg15 : Memref sig .tc .vmem S2x384x384 .f32) (harg15 : arg15.IsWhole) (arg16 : Memref sig .tc .vmem S2x384x384 .f32) (harg16 : arg16.IsWhole) (arg17 : Memref sig .tc .vmem S2x384x384 .f32) (harg17 : arg17.IsWhole) (arg1 : BitVec 32) (v14 : FVec F S384x256 .bf16) (v16 : FVec F S384x128 .bf16) (v18 : FVec F S384x128 .bf16) :
    k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v14 v16 v18 =
      start2 i arg2 arg3 arg4 arg5 arg6 arg7 arg8 arg9 arg10 arg11 arg12 arg13 arg14 arg15 arg16 arg17 arg1 v14 v16 v18 >>= fun _ => pure ⟨(Scalar.divsi (Scalar.subi 10#32 arg1) 4#32), (Scalar.cmpi .ne (Scalar.subi (Scalar.extui (Scalar.cmpi .sgt (Scalar.subi 10#32 arg1) 0#32)) (Scalar.extui (Scalar.cmpi .slt (Scalar.subi 10#32 arg1) 0#32))) (Scalar.subi (Scalar.extui (Scalar.cmpi .sgt 4#32 0#32)) (Scalar.extui (Scalar.cmpi .slt 4#32 0#32))) : BitVec 1), (Scalar.remsi (Scalar.subi 10#32 arg1) 4#32)⟩ := by
  rfl

theorem body_eq (i : grid0.Coords) (arg2 : Memref sig .tc .vmem S4224x512 .bf16) (harg2 : arg2.IsWhole) (arg3 : Memref sig .tc .vmem S384x512 .bf16) (harg3 : arg3.IsWhole) (arg4 : Memref sig .tc .vmem S384x256 .bf16) (harg4 : arg4.IsWhole) (arg5 : Memref sig .tc .vmem S2x11x1x384 .f32) (harg5 : arg5.IsWhole) (arg6 : Memref sig .tc .vmem S2x11x1x384 .f32) (harg6 : arg6.IsWhole) (arg7 : Memref sig .tc .vmem S4224x256 .bf16) (harg7 : arg7.IsWhole) (arg8 : Memref sig .tc .vmem S4224x512 .bf16) (harg8 : arg8.IsWhole) (arg9 : Memref sig .tc .vmem S384x512 .bf16) (harg9 : arg9.IsWhole) (arg10 : Memref sig .tc .vmem S384x256 .bf16) (harg10 : arg10.IsWhole) (arg11 : Memref sig .tc .vmem S2x4224x256 .f32) (harg11 : arg11.IsWhole) (arg12 : Memref sig .tc .vmem S2x384x256 .f32) (harg12 : arg12.IsWhole) (arg13 : Memref sig .tc .vmem S2x384x128 .f32) (harg13 : arg13.IsWhole) (arg14 : Memref sig .tc .vmem S2x384x384 .f32) (harg14 : arg14.IsWhole) (arg15 : Memref sig .tc .vmem S2x384x384 .f32) (harg15 : arg15.IsWhole) (arg16 : Memref sig .tc .vmem S2x384x384 .f32) (harg16 : arg16.IsWhole) (arg17 : Memref sig .tc .vmem S2x384x384 .f32) (harg17 : arg17.IsWhole) :
    cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  unfold cc0_attn_bwd body
  rw [start_eq]
  refine congrArg (start i arg2 arg3 arg4 arg5 arg6 arg7 arg8 arg9 arg10 arg11 arg12 arg13 arg14 arg15 arg16 arg17 >>= ·) (funext fun x => ?_)
  obtain ⟨arg1, v12, v14, v16, v18⟩ := x
  dsimp only
  rw [start2_eq, Prog.bind_assoc]
  unfold after
  refine congrArg (start2 i arg2 arg3 arg4 arg5 arg6 arg7 arg8 arg9 arg10 arg11 arg12 arg13 arg14 arg15 arg16 arg17 arg1 v14 v16 v18 >>= ·) (funext fun _ => ?_)
  refine Eq.trans (b := k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v12 v14 v16 v18 (Scalar.divsi (Scalar.subi 10#32 arg1) 4#32) (Scalar.cmpi .ne (Scalar.subi (Scalar.extui (Scalar.cmpi .sgt (Scalar.subi 10#32 arg1) 0#32)) (Scalar.extui (Scalar.cmpi .slt (Scalar.subi 10#32 arg1) 0#32))) (Scalar.subi (Scalar.extui (Scalar.cmpi .sgt 4#32 0#32)) (Scalar.extui (Scalar.cmpi .slt 4#32 0#32))) : BitVec 1) (Scalar.remsi (Scalar.subi 10#32 arg1) 4#32) >>= _) rfl ?_
  rw [sweep_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v12 v14 v16 v18 _ _ _ rfl rfl]
  rfl

end Cert.AttnKernelIdeal.Step

end
-- ==== Proof.AttnUpd.lean ====
/- A buffer after one rectangle of it is written: the values at an index. -/
module

public import Idealize.ShloMosaic.Lib.Writes

@[expose] public section

noncomputable section

namespace Cert.Attn

open Idealize.ShloMosaic

/-- The contents `X` with the rectangle `r` replaced by `w`. -/
def upd {s : Shape} {α : Type} (X : s.Idx → α) (r : Rect s) (w : r.shape.Idx → α) : s.Idx → α :=
  open Classical in fun y => if h : ∃ x, r.emb x = y then w h.choose else X y

theorem upd_in {s : Shape} {α : Type} (X : s.Idx → α) (r : Rect s) (w : r.shape.Idx → α) (x : r.shape.Idx) :
    upd X r w (r.emb x) = w x := by
  unfold upd
  rw [dif_pos ⟨x, rfl⟩]
  exact congrArg w (r.emb.injective (Exists.choose_spec (p := fun z => r.emb z = r.emb x) ⟨x, rfl⟩))

theorem upd_out {s : Shape} {α : Type} (X : s.Idx → α) (r : Rect s) (w : r.shape.Idx → α) (y : s.Idx)
    (h : ∀ x, r.emb x ≠ y) : upd X r w y = X y := by
  unfold upd
  exact dif_neg fun ⟨x, hx⟩ => h x hx

attribute [irreducible] upd

/-- The contents two rectangles make, which together are all of it. -/
def glue {s : Shape} {α : Type} (r : Rect s) (w : r.shape.Idx → α) (r' : Rect s) (w' : r'.shape.Idx → α)
    (hc : ∀ y, (∀ x, r'.emb x ≠ y) → ∃ x, r.emb x = y) : s.Idx → α :=
  open Classical in fun y => if h : ∃ x, r'.emb x = y then w' h.choose else w (hc y fun x e => h ⟨x, e⟩).choose

theorem glue_snd {s : Shape} {α : Type} (r : Rect s) (w : r.shape.Idx → α) (r' : Rect s) (w' : r'.shape.Idx → α)
    (hc : ∀ y, (∀ x, r'.emb x ≠ y) → ∃ x, r.emb x = y) (x : r'.shape.Idx) : glue r w r' w' hc (r'.emb x) = w' x := by
  unfold glue
  rw [dif_pos ⟨x, rfl⟩]
  exact congrArg w' (r'.emb.injective (Exists.choose_spec (p := fun z => r'.emb z = r'.emb x) ⟨x, rfl⟩))

theorem glue_fst {s : Shape} {α : Type} (r : Rect s) (w : r.shape.Idx → α) (r' : Rect s) (w' : r'.shape.Idx → α)
    (hc : ∀ y, (∀ x, r'.emb x ≠ y) → ∃ x, r.emb x = y) (x : r.shape.Idx) (h : ∀ z, r'.emb z ≠ r.emb x) :
    glue r w r' w' hc (r.emb x) = w x := by
  unfold glue
  rw [dif_neg fun ⟨z, hz⟩ => h z hz]
  exact congrArg w (r.emb.injective (Exists.choose_spec (p := fun z => r.emb z = r.emb x) _))

/-- Written over anything, the two rectangles leave just that. -/
theorem upd_upd {s : Shape} {α : Type} (X : s.Idx → α) (r : Rect s) (w : r.shape.Idx → α) (r' : Rect s) (w' : r'.shape.Idx → α)
    (hc : ∀ y, (∀ x, r'.emb x ≠ y) → ∃ x, r.emb x = y) : upd (upd X r w) r' w' = glue r w r' w' hc := by
  funext y
  by_cases h : ∃ x, r'.emb x = y
  · obtain ⟨x, rfl⟩ := h
    rw [upd_in, glue_snd]
  · have h' : ∀ x, r'.emb x ≠ y := fun x e => h ⟨x, e⟩
    obtain ⟨x, rfl⟩ := hc y h'
    rw [upd_out _ _ _ _ h', upd_in, glue_fst _ _ _ _ hc _ h']

attribute [irreducible] glue

/-- The rectangle `r` of the contents `X`. -/
def sub {s : Shape} {α : Type} (X : s.Idx → α) (r : Rect s) : r.shape.Idx → α := fun x => X (r.emb x)

/-- What one write leaves, read back. -/
theorem read_write_eq {sig : RefSig} {κ : Kind} {sp : Space} {s : Shape} {e : EltTy} {Val : EltTy → Type}
    (v : View sig κ sp s e) (f : v.ty.Contents Val) (r : Rect s) (w : r.shape.Idx → Val e) :
    v.read Val (v.writes Val f [⟨r, w⟩]) = upd (v.read Val f) r w := by
  funext y
  by_cases h : ∃ x, r.emb x = y
  · obtain ⟨x, rfl⟩ := h
    rw [View.read_writes_cons_emb, upd_in]
  · have h' : ∀ x, r.emb x ≠ y := fun x hx => h ⟨x, hx⟩
    rw [upd_out _ _ _ _ h', View.read_writes_apply_of_forall_not_mem]
    intro p hp
    obtain rfl := List.mem_singleton.mp hp
    intro hm
    obtain ⟨x, hx⟩ := r.exists_idx_of_mem hm
    exact h' x hx

/-- What two writes leave, read back. -/
theorem read_write_eq2 {sig : RefSig} {κ : Kind} {sp : Space} {s : Shape} {e : EltTy} {Val : EltTy → Type}
    (v : View sig κ sp s e) (f : v.ty.Contents Val) (r : Rect s) (w : r.shape.Idx → Val e) (r' : Rect s) (w' : r'.shape.Idx → Val e) :
    v.read Val (v.writes Val f [⟨r', w'⟩, ⟨r, w⟩]) = upd (upd (v.read Val f) r w) r' w' := by
  rw [← read_write_eq, ← read_write_eq]
  rfl

/-- What a load reads, of the contents read back. -/
theorem readAt_eq {sig : RefSig} {κ : Kind} {sp : Space} {s : Shape} {e : EltTy} {Val : EltTy → Type}
    (v : View sig κ sp s e) (f : v.ty.Contents Val) (r : Rect s) :
    v.readAt Val r.toLoadRect f = sub (v.read Val f) r := rfl

end Cert.Attn

end
-- ==== Proof.AttnSpec.lean ====
/- The attention's backward call, one step at a time: what each reads and leaves. -/
module

public import proofs.«01_k».proof.Proof.AttnStep
public import proofs.«01_k».proof.Proof.AttnUpd

@[expose] public section

set_option maxRecDepth 16384

noncomputable section

namespace Cert.AttnKernelIdeal.Step

open Cert.AttnKernelIdeal Cert.AttnKernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the steps read: the pair's queries, log-sums, correction terms and output cotangents. -/
structure In (F : FTy → Type) where
  q : Vec F S4224x512 .bf16
  lse : Vec F S2x11x1x384 .f32
  dlt : Vec F S2x11x1x384 .f32
  dO : Vec F S4224x256 .bf16

/-- What they change: the three accumulators, and the products of two blocks of rows. -/
structure St (F : FTy → Type) where
  dq : Vec F S2x4224x256 .f32
  dk : Vec F S2x384x256 .f32
  dv : Vec F S2x384x128 .f32
  stA : Vec F S2x384x384 .f32
  dpA : Vec F S2x384x384 .f32
  stB : Vec F S2x384x384 .f32
  dpB : Vec F S2x384x384 .f32

/-- The buffers at those contents. -/
def Own (c : Dev nD) (arg2 : Memref sig .tc .vmem S4224x512 .bf16) (arg5 : Memref sig .tc .vmem S2x11x1x384 .f32) (arg6 : Memref sig .tc .vmem S2x11x1x384 .f32) (arg7 : Memref sig .tc .vmem S4224x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (S : St F) : sProp 𝕄 :=
  iprop(owns (c : Thread nD τ) arg2 fullShare (I.q : Vec F S4224x512 .bf16) ∗ owns (c : Thread nD τ) arg5 fullShare (I.lse : Vec F S2x11x1x384 .f32) ∗ owns (c : Thread nD τ) arg6 fullShare (I.dlt : Vec F S2x11x1x384 .f32) ∗ owns (c : Thread nD τ) arg7 fullShare (I.dO : Vec F S4224x256 .bf16) ∗ owns (c : Thread nD τ) arg11 fullShare (S.dq : Vec F S2x4224x256 .f32) ∗ owns (c : Thread nD τ) arg12 fullShare (S.dk : Vec F S2x384x256 .f32) ∗ owns (c : Thread nD τ) arg13 fullShare (S.dv : Vec F S2x384x128 .f32) ∗ owns (c : Thread nD τ) arg14 fullShare (S.stA : Vec F S2x384x384 .f32) ∗ owns (c : Thread nD τ) arg15 fullShare (S.dpA : Vec F S2x384x384 .f32) ∗ owns (c : Thread nD τ) arg16 fullShare (S.stB : Vec F S2x384x384 .f32) ∗ owns (c : Thread nD τ) arg17 fullShare (S.dpB : Vec F S2x384x384 .f32))

/-- The accumulators after one head's block of rows, its products in `st` and `dp`. -/
def cons (I : In F) (st dp : Vec F S2x384x384 .f32) (j w : BitVec 32) (kk : FVec F S384x256 .bf16)
    (o2 : Fin 2 → ℕ) (h2 : ∀ a, o2 a + S384x256.size a ≤ S4224x512.size a)
    (o7 : Fin 2 → ℕ) (h7 : ∀ a, o7 a + S384x128.size a ≤ S4224x256.size a)
    (o5 : Fin 4 → ℕ) (h5 : ∀ a, o5 a + S1x1x1x384.size a ≤ S2x11x1x384.size a)
    (o11 : Fin 3 → ℕ) (h11 : ∀ a, o11 a + S1x384x256.size a ≤ S2x4224x256.size a)
    (oh : Fin 3 → ℕ) (hh : ∀ a, oh a + S1x384x384.size a ≤ S2x384x384.size a)
    (h12 : ∀ a, oh a + S1x384x256.size a ≤ S2x384x256.size a) (h13 : ∀ a, oh a + S1x384x128.size a ≤ S2x384x128.size a)
    (S : St F) : St F :=
  { S with
    dv := upd S.dv (Rect.unit (s := S2x384x128) oh S1x384x128.size h13) (k0_pay13 j w (sub I.dO (Rect.unit (s := S4224x256) o7 S384x128.size h7)) (sub st (Rect.unit (s := S2x384x384) oh S1x384x384.size hh)) (sub I.lse (Rect.unit (s := S2x11x1x384) o5 S1x1x1x384.size h5)) (sub S.dv (Rect.unit (s := S2x384x128) oh S1x384x128.size h13)))
    dk := upd S.dk (Rect.unit (s := S2x384x256) oh S1x384x256.size h12) (k0_pay15 (k0_pay11 (sub I.q (Rect.unit (s := S4224x512) o2 S384x256.size h2))) (k0_pay12 j w (sub st (Rect.unit (s := S2x384x384) oh S1x384x384.size hh)) (sub I.lse (Rect.unit (s := S2x11x1x384) o5 S1x1x1x384.size h5))) (sub dp (Rect.unit (s := S2x384x384) oh S1x384x384.size hh)) (sub I.dlt (Rect.unit (s := S2x11x1x384) o5 S1x1x1x384.size h5)) (sub S.dk (Rect.unit (s := S2x384x256) oh S1x384x256.size h12)))
    dq := upd S.dq (Rect.unit (s := S2x4224x256) o11 S1x384x256.size h11) (k0_pay16 kk (k0_pay12 j w (sub st (Rect.unit (s := S2x384x384) oh S1x384x384.size hh)) (sub I.lse (Rect.unit (s := S2x11x1x384) o5 S1x1x1x384.size h5))) (sub dp (Rect.unit (s := S2x384x384) oh S1x384x384.size hh)) (sub I.dlt (Rect.unit (s := S2x11x1x384) o5 S1x1x1x384.size h5)) (sub S.dq (Rect.unit (s := S2x4224x256) o11 S1x384x256.size h11))) }

/-- The scores of one head's block of rows, put in the first pair of buffers. -/
def putStA (I : In F) (kk : FVec F S384x256 .bf16)
    (o2 : Fin 2 → ℕ) (h2 : ∀ a, o2 a + S384x256.size a ≤ S4224x512.size a)
    (oh : Fin 3 → ℕ) (hh : ∀ a, oh a + S1x384x384.size a ≤ S2x384x384.size a) (S : St F) : St F :=
  { S with stA := upd S.stA (Rect.unit (s := S2x384x384) oh S1x384x384.size hh) (k0_pay6 kk (sub I.q (Rect.unit (s := S4224x512) o2 S384x256.size h2))) }

/-- The same in the second pair. -/
def putStB (I : In F) (kk : FVec F S384x256 .bf16)
    (o2 : Fin 2 → ℕ) (h2 : ∀ a, o2 a + S384x256.size a ≤ S4224x512.size a)
    (oh : Fin 3 → ℕ) (hh : ∀ a, oh a + S1x384x384.size a ≤ S2x384x384.size a) (S : St F) : St F :=
  { S with stB := upd S.stB (Rect.unit (s := S2x384x384) oh S1x384x384.size hh) (k0_pay6 kk (sub I.q (Rect.unit (s := S4224x512) o2 S384x256.size h2))) }

/-- The cotangent of its probabilities, put in the first pair of buffers. -/
def putDpA (I : In F) (vv : FVec F S384x128 .bf16)
    (o7 : Fin 2 → ℕ) (h7 : ∀ a, o7 a + S384x128.size a ≤ S4224x256.size a)
    (oh : Fin 3 → ℕ) (hh : ∀ a, oh a + S1x384x384.size a ≤ S2x384x384.size a) (S : St F) : St F :=
  { S with dpA := upd S.dpA (Rect.unit (s := S2x384x384) oh S1x384x384.size hh) (k0_pay7 vv (sub I.dO (Rect.unit (s := S4224x256) o7 S384x128.size h7))) }

/-- The same in the second pair. -/
def putDpB (I : In F) (vv : FVec F S384x128 .bf16)
    (o7 : Fin 2 → ℕ) (h7 : ∀ a, o7 a + S384x128.size a ≤ S4224x256.size a)
    (oh : Fin 3 → ℕ) (hh : ∀ a, oh a + S1x384x384.size a ≤ S2x384x384.size a) (S : St F) : St F :=
  { S with dpB := upd S.dpB (Rect.unit (s := S2x384x384) oh S1x384x384.size hh) (k0_pay7 vv (sub I.dO (Rect.unit (s := S4224x256) o7 S384x128.size h7))) }

/-- The accumulators after a block whose products are in the first pair of buffers. -/
def consA (I : In F) (j w : BitVec 32) (kk : FVec F S384x256 .bf16)
    (o2 : Fin 2 → ℕ) (h2 : ∀ a, o2 a + S384x256.size a ≤ S4224x512.size a)
    (o7 : Fin 2 → ℕ) (h7 : ∀ a, o7 a + S384x128.size a ≤ S4224x256.size a)
    (o5 : Fin 4 → ℕ) (h5 : ∀ a, o5 a + S1x1x1x384.size a ≤ S2x11x1x384.size a)
    (o11 : Fin 3 → ℕ) (h11 : ∀ a, o11 a + S1x384x256.size a ≤ S2x4224x256.size a)
    (oh : Fin 3 → ℕ) (hh : ∀ a, oh a + S1x384x384.size a ≤ S2x384x384.size a)
    (h12 : ∀ a, oh a + S1x384x256.size a ≤ S2x384x256.size a) (h13 : ∀ a, oh a + S1x384x128.size a ≤ S2x384x128.size a) (S : St F) : St F :=
  cons I S.stA S.dpA j w kk o2 h2 o7 h7 o5 h5 o11 h11 oh hh h12 h13 S

/-- The same from the second pair. -/
def consB (I : In F) (j w : BitVec 32) (kk : FVec F S384x256 .bf16)
    (o2 : Fin 2 → ℕ) (h2 : ∀ a, o2 a + S384x256.size a ≤ S4224x512.size a)
    (o7 : Fin 2 → ℕ) (h7 : ∀ a, o7 a + S384x128.size a ≤ S4224x256.size a)
    (o5 : Fin 4 → ℕ) (h5 : ∀ a, o5 a + S1x1x1x384.size a ≤ S2x11x1x384.size a)
    (o11 : Fin 3 → ℕ) (h11 : ∀ a, o11 a + S1x384x256.size a ≤ S2x4224x256.size a)
    (oh : Fin 3 → ℕ) (hh : ∀ a, oh a + S1x384x384.size a ≤ S2x384x384.size a)
    (h12 : ∀ a, oh a + S1x384x256.size a ≤ S2x384x256.size a) (h13 : ∀ a, oh a + S1x384x128.size a ≤ S2x384x128.size a) (S : St F) : St F :=
  cons I S.stB S.dpB j w kk o2 h2 o7 h7 o5 h5 o11 h11 oh hh h12 h13 S

theorem prodSt_A (c : Dev nD) (arg2 : Memref sig .tc .vmem S4224x512 .bf16) (arg5 : Memref sig .tc .vmem S2x11x1x384 .f32) (arg6 : Memref sig .tc .vmem S2x11x1x384 .f32) (arg7 : Memref sig .tc .vmem S4224x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (S : St F) (kk : FVec F S384x256 .bf16)
    (o2 : Fin 2 → ℕ) (h2 : ∀ a, o2 a + S384x256.size a ≤ S4224x512.size a)
    (oh : Fin 3 → ℕ) (hh : ∀ a, oh a + S1x384x384.size a ≤ S2x384x384.size a) :
    Own c arg2 arg5 arg6 arg7 arg11 arg12 arg13 arg14 arg15 arg16 arg17 I S ⊢ wp frame (wpE (defs₀ (F := F)) Variants.none (c : Thread nD τ) none) Set.univ
      (prodSt arg2 arg14 kk o2 h2 oh hh)
      (fun _ => Own c arg2 arg5 arg6 arg7 arg11 arg12 arg13 arg14 arg15 arg16 arg17 I (putStA I kk o2 h2 oh hh S)) := by
  unfold prodSt putStA
  unfold Own owns
  iintro ⟨⟨%f2, %e2, H2⟩, ⟨%f5, %e5, H5⟩, ⟨%f6, %e6, H6⟩, ⟨%f7, %e7, H7⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩
  sl_exec
  sl_step
  isplitl [H2]
  · iexists _
    isplitr
    swap
    · iexact H2
    ipureintro
    exact e2
  isplitl [H5]
  · iexists _
    isplitr
    swap
    · iexact H5
    ipureintro
    exact e5
  isplitl [H6]
  · iexists _
    isplitr
    swap
    · iexact H6
    ipureintro
    exact e6
  isplitl [H7]
  · iexists _
    isplitr
    swap
    · iexact H7
    ipureintro
    exact e7
  isplitl [H11]
  · iexists _
    isplitr
    swap
    · iexact H11
    ipureintro
    exact e11
  isplitl [H12]
  · iexists _
    isplitr
    swap
    · iexact H12
    ipureintro
    exact e12
  isplitl [H13]
  · iexists _
    isplitr
    swap
    · iexact H13
    ipureintro
    exact e13
  isplitl [H14]
  · iexists _
    isplitr
    swap
    · iexact H14
    ipureintro
    refine (read_write_eq _ _ _ _).trans ?_
    rw [readAt_eq arg2.view, e2, e14]
  isplitl [H15]
  · iexists _
    isplitr
    swap
    · iexact H15
    ipureintro
    exact e15
  isplitl [H16]
  · iexists _
    isplitr
    swap
    · iexact H16
    ipureintro
    exact e16
  iexists _
  isplitr
  swap
  · iexact H17
  ipureintro
  exact e17

theorem prodDp_A (c : Dev nD) (arg2 : Memref sig .tc .vmem S4224x512 .bf16) (arg5 : Memref sig .tc .vmem S2x11x1x384 .f32) (arg6 : Memref sig .tc .vmem S2x11x1x384 .f32) (arg7 : Memref sig .tc .vmem S4224x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (S : St F) (vv : FVec F S384x128 .bf16)
    (o7 : Fin 2 → ℕ) (h7 : ∀ a, o7 a + S384x128.size a ≤ S4224x256.size a)
    (oh : Fin 3 → ℕ) (hh : ∀ a, oh a + S1x384x384.size a ≤ S2x384x384.size a) :
    Own c arg2 arg5 arg6 arg7 arg11 arg12 arg13 arg14 arg15 arg16 arg17 I S ⊢ wp frame (wpE (defs₀ (F := F)) Variants.none (c : Thread nD τ) none) Set.univ
      (prodDp arg7 arg15 vv o7 h7 oh hh)
      (fun _ => Own c arg2 arg5 arg6 arg7 arg11 arg12 arg13 arg14 arg15 arg16 arg17 I (putDpA I vv o7 h7 oh hh S)) := by
  unfold prodDp putDpA
  unfold Own owns
  iintro ⟨⟨%f2, %e2, H2⟩, ⟨%f5, %e5, H5⟩, ⟨%f6, %e6, H6⟩, ⟨%f7, %e7, H7⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩
  sl_exec
  sl_step
  isplitl [H2]
  · iexists _
    isplitr
    swap
    · iexact H2
    ipureintro
    exact e2
  isplitl [H5]
  · iexists _
    isplitr
    swap
    · iexact H5
    ipureintro
    exact e5
  isplitl [H6]
  · iexists _
    isplitr
    swap
    · iexact H6
    ipureintro
    exact e6
  isplitl [H7]
  · iexists _
    isplitr
    swap
    · iexact H7
    ipureintro
    exact e7
  isplitl [H11]
  · iexists _
    isplitr
    swap
    · iexact H11
    ipureintro
    exact e11
  isplitl [H12]
  · iexists _
    isplitr
    swap
    · iexact H12
    ipureintro
    exact e12
  isplitl [H13]
  · iexists _
    isplitr
    swap
    · iexact H13
    ipureintro
    exact e13
  isplitl [H14]
  · iexists _
    isplitr
    swap
    · iexact H14
    ipureintro
    exact e14
  isplitl [H15]
  · iexists _
    isplitr
    swap
    · iexact H15
    ipureintro
    refine (read_write_eq _ _ _ _).trans ?_
    rw [readAt_eq arg7.view, e7, e15]
  isplitl [H16]
  · iexists _
    isplitr
    swap
    · iexact H16
    ipureintro
    exact e16
  iexists _
  isplitr
  swap
  · iexact H17
  ipureintro
  exact e17

theorem consHead_A (c : Dev nD) (arg2 : Memref sig .tc .vmem S4224x512 .bf16) (arg5 : Memref sig .tc .vmem S2x11x1x384 .f32) (arg6 : Memref sig .tc .vmem S2x11x1x384 .f32) (arg7 : Memref sig .tc .vmem S4224x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (S : St F) (j w : BitVec 32) (kk : FVec F S384x256 .bf16)
    (o2 : Fin 2 → ℕ) (h2 : ∀ a, o2 a + S384x256.size a ≤ S4224x512.size a)
    (o7 : Fin 2 → ℕ) (h7 : ∀ a, o7 a + S384x128.size a ≤ S4224x256.size a)
    (o5 : Fin 4 → ℕ) (h5 : ∀ a, o5 a + S1x1x1x384.size a ≤ S2x11x1x384.size a)
    (o11 : Fin 3 → ℕ) (h11 : ∀ a, o11 a + S1x384x256.size a ≤ S2x4224x256.size a)
    (oh : Fin 3 → ℕ) (hh : ∀ a, oh a + S1x384x384.size a ≤ S2x384x384.size a)
    (h12 : ∀ a, oh a + S1x384x256.size a ≤ S2x384x256.size a) (h13 : ∀ a, oh a + S1x384x128.size a ≤ S2x384x128.size a) :
    Own c arg2 arg5 arg6 arg7 arg11 arg12 arg13 arg14 arg15 arg16 arg17 I S ⊢ wp frame (wpE (defs₀ (F := F)) Variants.none (c : Thread nD τ) none) Set.univ
      (consHead arg2 arg5 arg6 arg7 arg11 arg12 arg13 arg14 arg15 j w kk o2 h2 o7 h7 o5 h5 o11 h11 oh hh h12 h13)
      (fun _ => Own c arg2 arg5 arg6 arg7 arg11 arg12 arg13 arg14 arg15 arg16 arg17 I (consA I j w kk o2 h2 o7 h7 o5 h5 o11 h11 oh hh h12 h13 S)) := by
  unfold consHead consA cons
  unfold Own owns
  iintro ⟨⟨%f2, %e2, H2⟩, ⟨%f5, %e5, H5⟩, ⟨%f6, %e6, H6⟩, ⟨%f7, %e7, H7⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩
  sl_exec
  sl_step
  isplitl [H2]
  · iexists _
    isplitr
    swap
    · iexact H2
    ipureintro
    exact e2
  isplitl [H5]
  · iexists _
    isplitr
    swap
    · iexact H5
    ipureintro
    exact e5
  isplitl [H6]
  · iexists _
    isplitr
    swap
    · iexact H6
    ipureintro
    exact e6
  isplitl [H7]
  · iexists _
    isplitr
    swap
    · iexact H7
    ipureintro
    exact e7
  isplitl [H11]
  · iexists _
    isplitr
    swap
    · iexact H11
    ipureintro
    refine (read_write_eq _ _ _ _).trans ?_
    rw [readAt_eq arg11.view, e11, readAt_eq arg14.view, e14, readAt_eq arg5.view, e5, readAt_eq arg15.view, e15, readAt_eq arg6.view, e6]
  isplitl [H12]
  · iexists _
    isplitr
    swap
    · iexact H12
    ipureintro
    refine (read_write_eq _ _ _ _).trans ?_
    rw [readAt_eq arg12.view, e12, readAt_eq arg2.view, e2, readAt_eq arg14.view, e14, readAt_eq arg5.view, e5, readAt_eq arg15.view, e15, readAt_eq arg6.view, e6]
  isplitl [H13]
  · iexists _
    isplitr
    swap
    · iexact H13
    ipureintro
    refine (read_write_eq _ _ _ _).trans ?_
    rw [readAt_eq arg13.view, e13, readAt_eq arg7.view, e7, readAt_eq arg14.view, e14, readAt_eq arg5.view, e5]
  isplitl [H14]
  · iexists _
    isplitr
    swap
    · iexact H14
    ipureintro
    exact e14
  isplitl [H15]
  · iexists _
    isplitr
    swap
    · iexact H15
    ipureintro
    exact e15
  isplitl [H16]
  · iexists _
    isplitr
    swap
    · iexact H16
    ipureintro
    exact e16
  iexists _
  isplitr
  swap
  · iexact H17
  ipureintro
  exact e17

theorem prodSt_B (c : Dev nD) (arg2 : Memref sig .tc .vmem S4224x512 .bf16) (arg5 : Memref sig .tc .vmem S2x11x1x384 .f32) (arg6 : Memref sig .tc .vmem S2x11x1x384 .f32) (arg7 : Memref sig .tc .vmem S4224x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (S : St F) (kk : FVec F S384x256 .bf16)
    (o2 : Fin 2 → ℕ) (h2 : ∀ a, o2 a + S384x256.size a ≤ S4224x512.size a)
    (oh : Fin 3 → ℕ) (hh : ∀ a, oh a + S1x384x384.size a ≤ S2x384x384.size a) :
    Own c arg2 arg5 arg6 arg7 arg11 arg12 arg13 arg14 arg15 arg16 arg17 I S ⊢ wp frame (wpE (defs₀ (F := F)) Variants.none (c : Thread nD τ) none) Set.univ
      (prodSt arg2 arg16 kk o2 h2 oh hh)
      (fun _ => Own c arg2 arg5 arg6 arg7 arg11 arg12 arg13 arg14 arg15 arg16 arg17 I (putStB I kk o2 h2 oh hh S)) := by
  unfold prodSt putStB
  unfold Own owns
  iintro ⟨⟨%f2, %e2, H2⟩, ⟨%f5, %e5, H5⟩, ⟨%f6, %e6, H6⟩, ⟨%f7, %e7, H7⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩
  sl_exec
  sl_step
  isplitl [H2]
  · iexists _
    isplitr
    swap
    · iexact H2
    ipureintro
    exact e2
  isplitl [H5]
  · iexists _
    isplitr
    swap
    · iexact H5
    ipureintro
    exact e5
  isplitl [H6]
  · iexists _
    isplitr
    swap
    · iexact H6
    ipureintro
    exact e6
  isplitl [H7]
  · iexists _
    isplitr
    swap
    · iexact H7
    ipureintro
    exact e7
  isplitl [H11]
  · iexists _
    isplitr
    swap
    · iexact H11
    ipureintro
    exact e11
  isplitl [H12]
  · iexists _
    isplitr
    swap
    · iexact H12
    ipureintro
    exact e12
  isplitl [H13]
  · iexists _
    isplitr
    swap
    · iexact H13
    ipureintro
    exact e13
  isplitl [H14]
  · iexists _
    isplitr
    swap
    · iexact H14
    ipureintro
    exact e14
  isplitl [H15]
  · iexists _
    isplitr
    swap
    · iexact H15
    ipureintro
    exact e15
  isplitl [H16]
  · iexists _
    isplitr
    swap
    · iexact H16
    ipureintro
    refine (read_write_eq _ _ _ _).trans ?_
    rw [readAt_eq arg2.view, e2, e16]
  iexists _
  isplitr
  swap
  · iexact H17
  ipureintro
  exact e17

theorem prodDp_B (c : Dev nD) (arg2 : Memref sig .tc .vmem S4224x512 .bf16) (arg5 : Memref sig .tc .vmem S2x11x1x384 .f32) (arg6 : Memref sig .tc .vmem S2x11x1x384 .f32) (arg7 : Memref sig .tc .vmem S4224x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (S : St F) (vv : FVec F S384x128 .bf16)
    (o7 : Fin 2 → ℕ) (h7 : ∀ a, o7 a + S384x128.size a ≤ S4224x256.size a)
    (oh : Fin 3 → ℕ) (hh : ∀ a, oh a + S1x384x384.size a ≤ S2x384x384.size a) :
    Own c arg2 arg5 arg6 arg7 arg11 arg12 arg13 arg14 arg15 arg16 arg17 I S ⊢ wp frame (wpE (defs₀ (F := F)) Variants.none (c : Thread nD τ) none) Set.univ
      (prodDp arg7 arg17 vv o7 h7 oh hh)
      (fun _ => Own c arg2 arg5 arg6 arg7 arg11 arg12 arg13 arg14 arg15 arg16 arg17 I (putDpB I vv o7 h7 oh hh S)) := by
  unfold prodDp putDpB
  unfold Own owns
  iintro ⟨⟨%f2, %e2, H2⟩, ⟨%f5, %e5, H5⟩, ⟨%f6, %e6, H6⟩, ⟨%f7, %e7, H7⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩
  sl_exec
  sl_step
  isplitl [H2]
  · iexists _
    isplitr
    swap
    · iexact H2
    ipureintro
    exact e2
  isplitl [H5]
  · iexists _
    isplitr
    swap
    · iexact H5
    ipureintro
    exact e5
  isplitl [H6]
  · iexists _
    isplitr
    swap
    · iexact H6
    ipureintro
    exact e6
  isplitl [H7]
  · iexists _
    isplitr
    swap
    · iexact H7
    ipureintro
    exact e7
  isplitl [H11]
  · iexists _
    isplitr
    swap
    · iexact H11
    ipureintro
    exact e11
  isplitl [H12]
  · iexists _
    isplitr
    swap
    · iexact H12
    ipureintro
    exact e12
  isplitl [H13]
  · iexists _
    isplitr
    swap
    · iexact H13
    ipureintro
    exact e13
  isplitl [H14]
  · iexists _
    isplitr
    swap
    · iexact H14
    ipureintro
    exact e14
  isplitl [H15]
  · iexists _
    isplitr
    swap
    · iexact H15
    ipureintro
    exact e15
  isplitl [H16]
  · iexists _
    isplitr
    swap
    · iexact H16
    ipureintro
    exact e16
  iexists _
  isplitr
  swap
  · iexact H17
  ipureintro
  refine (read_write_eq _ _ _ _).trans ?_
  rw [readAt_eq arg7.view, e7, e17]

theorem consHead_B (c : Dev nD) (arg2 : Memref sig .tc .vmem S4224x512 .bf16) (arg5 : Memref sig .tc .vmem S2x11x1x384 .f32) (arg6 : Memref sig .tc .vmem S2x11x1x384 .f32) (arg7 : Memref sig .tc .vmem S4224x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (S : St F) (j w : BitVec 32) (kk : FVec F S384x256 .bf16)
    (o2 : Fin 2 → ℕ) (h2 : ∀ a, o2 a + S384x256.size a ≤ S4224x512.size a)
    (o7 : Fin 2 → ℕ) (h7 : ∀ a, o7 a + S384x128.size a ≤ S4224x256.size a)
    (o5 : Fin 4 → ℕ) (h5 : ∀ a, o5 a + S1x1x1x384.size a ≤ S2x11x1x384.size a)
    (o11 : Fin 3 → ℕ) (h11 : ∀ a, o11 a + S1x384x256.size a ≤ S2x4224x256.size a)
    (oh : Fin 3 → ℕ) (hh : ∀ a, oh a + S1x384x384.size a ≤ S2x384x384.size a)
    (h12 : ∀ a, oh a + S1x384x256.size a ≤ S2x384x256.size a) (h13 : ∀ a, oh a + S1x384x128.size a ≤ S2x384x128.size a) :
    Own c arg2 arg5 arg6 arg7 arg11 arg12 arg13 arg14 arg15 arg16 arg17 I S ⊢ wp frame (wpE (defs₀ (F := F)) Variants.none (c : Thread nD τ) none) Set.univ
      (consHead arg2 arg5 arg6 arg7 arg11 arg12 arg13 arg16 arg17 j w kk o2 h2 o7 h7 o5 h5 o11 h11 oh hh h12 h13)
      (fun _ => Own c arg2 arg5 arg6 arg7 arg11 arg12 arg13 arg14 arg15 arg16 arg17 I (consB I j w kk o2 h2 o7 h7 o5 h5 o11 h11 oh hh h12 h13 S)) := by
  unfold consHead consB cons
  unfold Own owns
  iintro ⟨⟨%f2, %e2, H2⟩, ⟨%f5, %e5, H5⟩, ⟨%f6, %e6, H6⟩, ⟨%f7, %e7, H7⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩
  sl_exec
  sl_step
  isplitl [H2]
  · iexists _
    isplitr
    swap
    · iexact H2
    ipureintro
    exact e2
  isplitl [H5]
  · iexists _
    isplitr
    swap
    · iexact H5
    ipureintro
    exact e5
  isplitl [H6]
  · iexists _
    isplitr
    swap
    · iexact H6
    ipureintro
    exact e6
  isplitl [H7]
  · iexists _
    isplitr
    swap
    · iexact H7
    ipureintro
    exact e7
  isplitl [H11]
  · iexists _
    isplitr
    swap
    · iexact H11
    ipureintro
    refine (read_write_eq _ _ _ _).trans ?_
    rw [readAt_eq arg11.view, e11, readAt_eq arg16.view, e16, readAt_eq arg5.view, e5, readAt_eq arg17.view, e17, readAt_eq arg6.view, e6]
  isplitl [H12]
  · iexists _
    isplitr
    swap
    · iexact H12
    ipureintro
    refine (read_write_eq _ _ _ _).trans ?_
    rw [readAt_eq arg12.view, e12, readAt_eq arg2.view, e2, readAt_eq arg16.view, e16, readAt_eq arg5.view, e5, readAt_eq arg17.view, e17, readAt_eq arg6.view, e6]
  isplitl [H13]
  · iexists _
    isplitr
    swap
    · iexact H13
    ipureintro
    refine (read_write_eq _ _ _ _).trans ?_
    rw [readAt_eq arg13.view, e13, readAt_eq arg7.view, e7, readAt_eq arg16.view, e16, readAt_eq arg5.view, e5]
  isplitl [H14]
  · iexists _
    isplitr
    swap
    · iexact H14
    ipureintro
    exact e14
  isplitl [H15]
  · iexists _
    isplitr
    swap
    · iexact H15
    ipureintro
    exact e15
  isplitl [H16]
  · iexists _
    isplitr
    swap
    · iexact H16
    ipureintro
    exact e16
  iexists _
  isplitr
  swap
  · iexact H17
  ipureintro
  exact e17

/-- The pair's queries' accumulator at zero. -/
def zero11 (S : St F) : St F := { S with dq := upd S.dq (Rect.unit (s := S2x4224x256) ![0, 0, 0] S2x4224x256.size inb_S2x4224x256_S2x4224x256_0_0_0) (k0_pay337 (F := F)) }

/-- The block of keys' accumulators at zero. -/
def zero12 (S : St F) : St F :=
  { S with dk := upd S.dk (Rect.unit (s := S2x384x256) ![0, 0, 0] S2x384x256.size inb_S2x384x256_S2x384x256_0_0_0) (k0_pay338 (F := F)), dv := upd S.dv (Rect.unit (s := S2x384x128) ![0, 0, 0] S2x384x128.size inb_S2x384x128_S2x384x128_0_0_0) (k0_pay339 (F := F)) }

theorem init11_wp (c : Dev nD) (arg2 : Memref sig .tc .vmem S4224x512 .bf16) (arg5 : Memref sig .tc .vmem S2x11x1x384 .f32) (arg6 : Memref sig .tc .vmem S2x11x1x384 .f32) (arg7 : Memref sig .tc .vmem S4224x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (S : St F)  :
    Own c arg2 arg5 arg6 arg7 arg11 arg12 arg13 arg14 arg15 arg16 arg17 I S ⊢ wp frame (wpE (defs₀ (F := F)) Variants.none (c : Thread nD τ) none) Set.univ
      (init11 arg11)
      (fun _ => Own c arg2 arg5 arg6 arg7 arg11 arg12 arg13 arg14 arg15 arg16 arg17 I (zero11 S)) := by
  unfold init11 zero11
  unfold Own owns
  iintro ⟨⟨%f2, %e2, H2⟩, ⟨%f5, %e5, H5⟩, ⟨%f6, %e6, H6⟩, ⟨%f7, %e7, H7⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩
  sl_exec
  sl_step
  isplitl [H2]
  · iexists _
    isplitr
    swap
    · iexact H2
    ipureintro
    exact e2
  isplitl [H5]
  · iexists _
    isplitr
    swap
    · iexact H5
    ipureintro
    exact e5
  isplitl [H6]
  · iexists _
    isplitr
    swap
    · iexact H6
    ipureintro
    exact e6
  isplitl [H7]
  · iexists _
    isplitr
    swap
    · iexact H7
    ipureintro
    exact e7
  isplitl [H11]
  · iexists _
    isplitr
    swap
    · iexact H11
    ipureintro
    refine (read_write_eq _ _ _ _).trans ?_
    rw [e11]
  isplitl [H12]
  · iexists _
    isplitr
    swap
    · iexact H12
    ipureintro
    exact e12
  isplitl [H13]
  · iexists _
    isplitr
    swap
    · iexact H13
    ipureintro
    exact e13
  isplitl [H14]
  · iexists _
    isplitr
    swap
    · iexact H14
    ipureintro
    exact e14
  isplitl [H15]
  · iexists _
    isplitr
    swap
    · iexact H15
    ipureintro
    exact e15
  isplitl [H16]
  · iexists _
    isplitr
    swap
    · iexact H16
    ipureintro
    exact e16
  iexists _
  isplitr
  swap
  · iexact H17
  ipureintro
  exact e17

theorem init12_wp (c : Dev nD) (arg2 : Memref sig .tc .vmem S4224x512 .bf16) (arg5 : Memref sig .tc .vmem S2x11x1x384 .f32) (arg6 : Memref sig .tc .vmem S2x11x1x384 .f32) (arg7 : Memref sig .tc .vmem S4224x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (S : St F)  :
    Own c arg2 arg5 arg6 arg7 arg11 arg12 arg13 arg14 arg15 arg16 arg17 I S ⊢ wp frame (wpE (defs₀ (F := F)) Variants.none (c : Thread nD τ) none) Set.univ
      (init12 arg12 arg13)
      (fun _ => Own c arg2 arg5 arg6 arg7 arg11 arg12 arg13 arg14 arg15 arg16 arg17 I (zero12 S)) := by
  unfold init12 zero12
  unfold Own owns
  iintro ⟨⟨%f2, %e2, H2⟩, ⟨%f5, %e5, H5⟩, ⟨%f6, %e6, H6⟩, ⟨%f7, %e7, H7⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩
  sl_exec
  sl_step
  isplitl [H2]
  · iexists _
    isplitr
    swap
    · iexact H2
    ipureintro
    exact e2
  isplitl [H5]
  · iexists _
    isplitr
    swap
    · iexact H5
    ipureintro
    exact e5
  isplitl [H6]
  · iexists _
    isplitr
    swap
    · iexact H6
    ipureintro
    exact e6
  isplitl [H7]
  · iexists _
    isplitr
    swap
    · iexact H7
    ipureintro
    exact e7
  isplitl [H11]
  · iexists _
    isplitr
    swap
    · iexact H11
    ipureintro
    exact e11
  isplitl [H12]
  · iexists _
    isplitr
    swap
    · iexact H12
    ipureintro
    refine (read_write_eq _ _ _ _).trans ?_
    rw [e12]
  isplitl [H13]
  · iexists _
    isplitr
    swap
    · iexact H13
    ipureintro
    refine (read_write_eq _ _ _ _).trans ?_
    rw [e13]
  isplitl [H14]
  · iexists _
    isplitr
    swap
    · iexact H14
    ipureintro
    exact e14
  isplitl [H15]
  · iexists _
    isplitr
    swap
    · iexact H15
    ipureintro
    exact e15
  isplitl [H16]
  · iexists _
    isplitr
    swap
    · iexact H16
    ipureintro
    exact e16
  iexists _
  isplitr
  swap
  · iexact H17
  ipureintro
  exact e17

/-- One step, then the rest. -/
theorem seq {c : Dev nD} {α β : Type} {A : sProp 𝕄} {B : sProp 𝕄} {C : β → sProp 𝕄}
    {p : Prog (TpuEff nD τ sig (Elt F) Λ₀ .tc) α} {q : α → Prog (TpuEff nD τ sig (Elt F) Λ₀ .tc) β}
    (hp : A ⊢ wp frame (wpE (defs₀ (F := F)) Variants.none (c : Thread nD τ) none) Set.univ p (fun _ => B))
    (hq : ∀ x, B ⊢ wp frame (wpE (defs₀ (F := F)) Variants.none (c : Thread nD τ) none) Set.univ (q x) C) :
    A ⊢ wp frame (wpE (defs₀ (F := F)) Variants.none (c : Thread nD τ) none) Set.univ (p >>= q) C := by
  rw [wp_bind]
  exact hp.trans (wp_mono _ _ _ hq)

/-- A step whose value is known, then the rest. -/
theorem seqv {c : Dev nD} {α β : Type} {A : sProp 𝕄} {B : sProp 𝕄} {C : β → sProp 𝕄} (v : α)
    {p : Prog (TpuEff nD τ sig (Elt F) Λ₀ .tc) α} {q : α → Prog (TpuEff nD τ sig (Elt F) Λ₀ .tc) β}
    (hp : A ⊢ wp frame (wpE (defs₀ (F := F)) Variants.none (c : Thread nD τ) none) Set.univ p (fun a => iprop(⌜a = v⌝ ∗ B)))
    (hq : B ⊢ wp frame (wpE (defs₀ (F := F)) Variants.none (c : Thread nD τ) none) Set.univ (q v) C) :
    A ⊢ wp frame (wpE (defs₀ (F := F)) Variants.none (c : Thread nD τ) none) Set.univ (p >>= q) C := by
  rw [wp_bind]
  refine hp.trans (wp_mono _ _ _ fun a => ?_)
  iintro ⟨%e, H⟩
  subst e
  iapply hq
  iexact H

/-- No step. -/
theorem ret_wp {c : Dev nD} {α : Type} {A : sProp 𝕄} (x : α) :
    A ⊢ wp frame (wpE (defs₀ (F := F)) Variants.none (c : Thread nD τ) none) Set.univ
      (pure x : Prog (TpuEff nD τ sig (Elt F) Λ₀ .tc) α) (fun _ => A) := by
  change A ⊢ wp _ _ _ (.ret x) _
  rw [wp_ret]
  iintro H
  imodintro
  iexact H

/-- A step taken under a condition, then the rest. -/
theorem seqif {c : Dev nD} {β : Type} {A : sProp 𝕄} {B : sProp 𝕄} {C : β → sProp 𝕄} {cnd : Prop} [Decidable cnd]
    {p : cnd → Prog (TpuEff nD τ sig (Elt F) Λ₀ .tc) PUnit} {q : PUnit → Prog (TpuEff nD τ sig (Elt F) Λ₀ .tc) β}
    (hp : A ⊢ wp frame (wpE (defs₀ (F := F)) Variants.none (c : Thread nD τ) none) Set.univ
      (if h : cnd then p h else pure ⟨⟩) (fun _ => B))
    (hq : ∀ x, B ⊢ wp frame (wpE (defs₀ (F := F)) Variants.none (c : Thread nD τ) none) Set.univ (q x) C) :
    A ⊢ wp frame (wpE (defs₀ (F := F)) Variants.none (c : Thread nD τ) none) Set.univ
      (if h : cnd then p h >>= q else q ⟨⟩) C := by
  by_cases h : cnd
  · rw [dif_pos h] at hp ⊢
    exact seq hp hq
  · rw [dif_neg h] at hp ⊢
    exact seq (p := pure ⟨⟩) hp hq

/-- A step beside what it does not touch. -/
theorem beside {c : Dev nD} {α : Type} {A : sProp 𝕄} {B : sProp 𝕄} {R : sProp 𝕄}
    {p : Prog (TpuEff nD τ sig (Elt F) Λ₀ .tc) α}
    (hp : A ⊢ wp frame (wpE (defs₀ (F := F)) Variants.none (c : Thread nD τ) none) Set.univ p (fun _ => B)) :
    iprop(A ∗ R) ⊢ wp frame (wpE (defs₀ (F := F)) Variants.none (c : Thread nD τ) none) Set.univ p (fun _ => iprop(B ∗ R)) :=
  (sep_mono_l hp).trans (wp_frame_r _ _ _)

end Cert.AttnKernelIdeal.Step

end
-- ==== Proof.AttnTrip.lean ====
/- The attention's backward call, a block of keys at a time. -/
module

public import proofs.«01_k».proof.Proof.AttnSpec

@[expose] public section

set_option maxRecDepth 16384

noncomputable section

namespace Cert.AttnKernelIdeal.Step

open Cert.AttnKernelIdeal Cert.AttnKernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The buffers after four blocks of rows. -/
def tripS (i : grid0.Coords) (I : In F) (arg1 : BitVec 32) (v12 : FVec F S384x256 .bf16) (v14 : FVec F S384x256 .bf16) (v16 : FVec F S384x128 .bf16) (v18 : FVec F S384x128 .bf16) (k : Fin (k0_t1_loop i).trips) (S : St F) : St F :=
  S |> putStB I v12 (k0_off5 i k 0#32) (k0_off5_inb i k 0) ![0, 0, 0] inb_S2x384x384_S1x384x384_0_0_0
    |> putDpB I v16 (k0_off6 i k 0#32) (k0_off6_inb i k 0) ![0, 0, 0] inb_S2x384x384_S1x384x384_0_0_0
    |> putStB I v14 (k0_off7 i k 0#32) (k0_off7_inb i k 0) ![1, 0, 0] inb_S2x384x384_S1x384x384_1_0_0
    |> putDpB I v18 (k0_off8 i k 0#32) (k0_off8_inb i k 0) ![1, 0, 0] inb_S2x384x384_S1x384x384_1_0_0
    |> consA I arg1 (Scalar.addi (Scalar.addi arg1 (Scalar.muli (Scf.iv 0#32 1#32 k) 4#32)) 0#32) v12 (k0_off9 i k 0#32) (k0_off9_inb i k 0) (k0_off10 i k 0#32) (k0_off10_inb i k 0) (k0_off11 i k 0#32) (k0_off11_inb i k 0) (k0_off12 i k 0#32) (k0_off12_inb i k 0) ![0, 0, 0] inb_S2x384x384_S1x384x384_0_0_0 inb_S2x384x256_S1x384x256_0_0_0 inb_S2x384x128_S1x384x128_0_0_0
    |> consA I arg1 (Scalar.addi (Scalar.addi arg1 (Scalar.muli (Scf.iv 0#32 1#32 k) 4#32)) 0#32) v14 (k0_off13 i k 0#32) (k0_off13_inb i k 0) (k0_off14 i k 0#32) (k0_off14_inb i k 0) (k0_off15 i k 0#32) (k0_off15_inb i k 0) (k0_off16 i k 0#32) (k0_off16_inb i k 0) ![1, 0, 0] inb_S2x384x384_S1x384x384_1_0_0 inb_S2x384x256_S1x384x256_1_0_0 inb_S2x384x128_S1x384x128_1_0_0
    |> putStA I v12 (k0_off5 i k 1#32) (k0_off5_inb i k 1) ![0, 0, 0] inb_S2x384x384_S1x384x384_0_0_0
    |> putDpA I v16 (k0_off6 i k 1#32) (k0_off6_inb i k 1) ![0, 0, 0] inb_S2x384x384_S1x384x384_0_0_0
    |> putStA I v14 (k0_off7 i k 1#32) (k0_off7_inb i k 1) ![1, 0, 0] inb_S2x384x384_S1x384x384_1_0_0
    |> putDpA I v18 (k0_off8 i k 1#32) (k0_off8_inb i k 1) ![1, 0, 0] inb_S2x384x384_S1x384x384_1_0_0
    |> consB I arg1 (Scalar.addi (Scalar.addi arg1 (Scalar.muli (Scf.iv 0#32 1#32 k) 4#32)) 1#32) v12 (k0_off9 i k 1#32) (k0_off9_inb i k 1) (k0_off10 i k 1#32) (k0_off10_inb i k 1) (k0_off11 i k 1#32) (k0_off11_inb i k 1) (k0_off12 i k 1#32) (k0_off12_inb i k 1) ![0, 0, 0] inb_S2x384x384_S1x384x384_0_0_0 inb_S2x384x256_S1x384x256_0_0_0 inb_S2x384x128_S1x384x128_0_0_0
    |> consB I arg1 (Scalar.addi (Scalar.addi arg1 (Scalar.muli (Scf.iv 0#32 1#32 k) 4#32)) 1#32) v14 (k0_off13 i k 1#32) (k0_off13_inb i k 1) (k0_off14 i k 1#32) (k0_off14_inb i k 1) (k0_off15 i k 1#32) (k0_off15_inb i k 1) (k0_off16 i k 1#32) (k0_off16_inb i k 1) ![1, 0, 0] inb_S2x384x384_S1x384x384_1_0_0 inb_S2x384x256_S1x384x256_1_0_0 inb_S2x384x128_S1x384x128_1_0_0
    |> putStB I v12 (k0_off5 i k 2#32) (k0_off5_inb i k 2) ![0, 0, 0] inb_S2x384x384_S1x384x384_0_0_0
    |> putDpB I v16 (k0_off6 i k 2#32) (k0_off6_inb i k 2) ![0, 0, 0] inb_S2x384x384_S1x384x384_0_0_0
    |> putStB I v14 (k0_off7 i k 2#32) (k0_off7_inb i k 2) ![1, 0, 0] inb_S2x384x384_S1x384x384_1_0_0
    |> putDpB I v18 (k0_off8 i k 2#32) (k0_off8_inb i k 2) ![1, 0, 0] inb_S2x384x384_S1x384x384_1_0_0
    |> consA I arg1 (Scalar.addi (Scalar.addi arg1 (Scalar.muli (Scf.iv 0#32 1#32 k) 4#32)) 2#32) v12 (k0_off9 i k 2#32) (k0_off9_inb i k 2) (k0_off10 i k 2#32) (k0_off10_inb i k 2) (k0_off11 i k 2#32) (k0_off11_inb i k 2) (k0_off12 i k 2#32) (k0_off12_inb i k 2) ![0, 0, 0] inb_S2x384x384_S1x384x384_0_0_0 inb_S2x384x256_S1x384x256_0_0_0 inb_S2x384x128_S1x384x128_0_0_0
    |> consA I arg1 (Scalar.addi (Scalar.addi arg1 (Scalar.muli (Scf.iv 0#32 1#32 k) 4#32)) 2#32) v14 (k0_off13 i k 2#32) (k0_off13_inb i k 2) (k0_off14 i k 2#32) (k0_off14_inb i k 2) (k0_off15 i k 2#32) (k0_off15_inb i k 2) (k0_off16 i k 2#32) (k0_off16_inb i k 2) ![1, 0, 0] inb_S2x384x384_S1x384x384_1_0_0 inb_S2x384x256_S1x384x256_1_0_0 inb_S2x384x128_S1x384x128_1_0_0
    |> putStA I v12 (k0_off5 i k 3#32) (k0_off5_inb i k 3) ![0, 0, 0] inb_S2x384x384_S1x384x384_0_0_0
    |> putDpA I v16 (k0_off6 i k 3#32) (k0_off6_inb i k 3) ![0, 0, 0] inb_S2x384x384_S1x384x384_0_0_0
    |> putStA I v14 (k0_off7 i k 3#32) (k0_off7_inb i k 3) ![1, 0, 0] inb_S2x384x384_S1x384x384_1_0_0
    |> putDpA I v18 (k0_off8 i k 3#32) (k0_off8_inb i k 3) ![1, 0, 0] inb_S2x384x384_S1x384x384_1_0_0
    |> consB I arg1 (Scalar.addi (Scalar.addi arg1 (Scalar.muli (Scf.iv 0#32 1#32 k) 4#32)) 3#32) v12 (k0_off9 i k 3#32) (k0_off9_inb i k 3) (k0_off10 i k 3#32) (k0_off10_inb i k 3) (k0_off11 i k 3#32) (k0_off11_inb i k 3) (k0_off12 i k 3#32) (k0_off12_inb i k 3) ![0, 0, 0] inb_S2x384x384_S1x384x384_0_0_0 inb_S2x384x256_S1x384x256_0_0_0 inb_S2x384x128_S1x384x128_0_0_0
    |> consB I arg1 (Scalar.addi (Scalar.addi arg1 (Scalar.muli (Scf.iv 0#32 1#32 k) 4#32)) 3#32) v14 (k0_off13 i k 3#32) (k0_off13_inb i k 3) (k0_off14 i k 3#32) (k0_off14_inb i k 3) (k0_off15 i k 3#32) (k0_off15_inb i k 3) (k0_off16 i k 3#32) (k0_off16_inb i k 3) ![1, 0, 0] inb_S2x384x384_S1x384x384_1_0_0 inb_S2x384x256_S1x384x256_1_0_0 inb_S2x384x128_S1x384x128_1_0_0

theorem trip_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (k : Fin (k0_t1_loop i).trips) (S : St F) :
    Own c arg2 arg5 arg6 arg7 arg11 arg12 arg13 arg14 arg15 arg16 arg17 I S ⊢ wp frame (wpE (defs₀ (F := F)) Variants.none (c : Thread nD τ) none) Set.univ
      (trip i arg2 arg3 arg4 arg5 arg6 arg7 arg8 arg9 arg10 arg11 arg12 arg13 arg14 arg15 arg16 arg17 arg1 v12 v14 v16 v18 k)
      (fun _ => Own c arg2 arg5 arg6 arg7 arg11 arg12 arg13 arg14 arg15 arg16 arg17 I (tripS i I arg1 v12 v14 v16 v18 k S)) := by
  unfold trip tripS
  refine seq (prodSt_B c arg2 arg5 arg6 arg7 arg11 arg12 arg13 arg14 arg15 arg16 arg17 I _ _ _ _ _ _) fun _ => ?_
  refine seq (prodDp_B c arg2 arg5 arg6 arg7 arg11 arg12 arg13 arg14 arg15 arg16 arg17 I _ _ _ _ _ _) fun _ => ?_
  refine seq (prodSt_B c arg2 arg5 arg6 arg7 arg11 arg12 arg13 arg14 arg15 arg16 arg17 I _ _ _ _ _ _) fun _ => ?_
  refine seq (prodDp_B c arg2 arg5 arg6 arg7 arg11 arg12 arg13 arg14 arg15 arg16 arg17 I _ _ _ _ _ _) fun _ => ?_
  refine seq (consHead_A c arg2 arg5 arg6 arg7 arg11 arg12 arg13 arg14 arg15 arg16 arg17 I _ _ _ _ _ _ _ _ _ _ _ _ _ _ _ _) fun _ => ?_
  refine seq (consHead_A c arg2 arg5 arg6 arg7 arg11 arg12 arg13 arg14 arg15 arg16 arg17 I _ _ _ _ _ _ _ _ _ _ _ _ _ _ _ _) fun _ => ?_
  refine seq (prodSt_A c arg2 arg5 arg6 arg7 arg11 arg12 arg13 arg14 arg15 arg16 arg17 I _ _ _ _ _ _) fun _ => ?_
  refine seq (prodDp_A c arg2 arg5 arg6 arg7 arg11 arg12 arg13 arg14 arg15 arg16 arg17 I _ _ _ _ _ _) fun _ => ?_
  refine seq (prodSt_A c arg2 arg5 arg6 arg7 arg11 arg12 arg13 arg14 arg15 arg16 arg17 I _ _ _ _ _ _) fun _ => ?_
  refine seq (prodDp_A c arg2 arg5 arg6 arg7 arg11 arg12 arg13 arg14 arg15 arg16 arg17 I _ _ _ _ _ _) fun _ => ?_
  refine seq (consHead_B c arg2 arg5 arg6 arg7 arg11 arg12 arg13 arg14 arg15 arg16 arg17 I _ _ _ _ _ _ _ _ _ _ _ _ _ _ _ _) fun _ => ?_
  refine seq (consHead_B c arg2 arg5 arg6 arg7 arg11 arg12 arg13 arg14 arg15 arg16 arg17 I _ _ _ _ _ _ _ _ _ _ _ _ _ _ _ _) fun _ => ?_
  refine seq (prodSt_B c arg2 arg5 arg6 arg7 arg11 arg12 arg13 arg14 arg15 arg16 arg17 I _ _ _ _ _ _) fun _ => ?_
  refine seq (prodDp_B c arg2 arg5 arg6 arg7 arg11 arg12 arg13 arg14 arg15 arg16 arg17 I _ _ _ _ _ _) fun _ => ?_
  refine seq (prodSt_B c arg2 arg5 arg6 arg7 arg11 arg12 arg13 arg14 arg15 arg16 arg17 I _ _ _ _ _ _) fun _ => ?_
  refine seq (prodDp_B c arg2 arg5 arg6 arg7 arg11 arg12 arg13 arg14 arg15 arg16 arg17 I _ _ _ _ _ _) fun _ => ?_
  refine seq (consHead_A c arg2 arg5 arg6 arg7 arg11 arg12 arg13 arg14 arg15 arg16 arg17 I _ _ _ _ _ _ _ _ _ _ _ _ _ _ _ _) fun _ => ?_
  refine seq (consHead_A c arg2 arg5 arg6 arg7 arg11 arg12 arg13 arg14 arg15 arg16 arg17 I _ _ _ _ _ _ _ _ _ _ _ _ _ _ _ _) fun _ => ?_
  refine seq (prodSt_A c arg2 arg5 arg6 arg7 arg11 arg12 arg13 arg14 arg15 arg16 arg17 I _ _ _ _ _ _) fun _ => ?_
  refine seq (prodDp_A c arg2 arg5 arg6 arg7 arg11 arg12 arg13 arg14 arg15 arg16 arg17 I _ _ _ _ _ _) fun _ => ?_
  refine seq (prodSt_A c arg2 arg5 arg6 arg7 arg11 arg12 arg13 arg14 arg15 arg16 arg17 I _ _ _ _ _ _) fun _ => ?_
  refine seq (prodDp_A c arg2 arg5 arg6 arg7 arg11 arg12 arg13 arg14 arg15 arg16 arg17 I _ _ _ _ _ _) fun _ => ?_
  refine seq (consHead_B c arg2 arg5 arg6 arg7 arg11 arg12 arg13 arg14 arg15 arg16 arg17 I _ _ _ _ _ _ _ _ _ _ _ _ _ _ _ _) fun _ => ?_
  exact consHead_B c arg2 arg5 arg6 arg7 arg11 arg12 arg13 arg14 arg15 arg16 arg17 I _ _ _ _ _ _ _ _ _ _ _ _ _ _ _ _

/-- The buffers after the last 1 block of rows. -/
def tail1S (i : grid0.Coords) (I : In F) (arg1 : BitVec 32) (v12 : FVec F S384x256 .bf16) (v14 : FVec F S384x256 .bf16) (v16 : FVec F S384x128 .bf16) (v18 : FVec F S384x128 .bf16) (h : k0_cond2 i = 1#1) (S : St F) : St F :=
  S |> consA I arg1 (Scalar.addi (tailW arg1) 0#32) v12 (k0_off29 i) (k0_off29_inb i h) (k0_off30 i) (k0_off30_inb i h) (k0_off31 i) (k0_off31_inb i h) (k0_off32 i) (k0_off32_inb i h) ![0, 0, 0] inb_S2x384x384_S1x384x384_0_0_0 inb_S2x384x256_S1x384x256_0_0_0 inb_S2x384x128_S1x384x128_0_0_0
    |> consA I arg1 (Scalar.addi (tailW arg1) 0#32) v14 (k0_off33 i) (k0_off33_inb i h) (k0_off34 i) (k0_off34_inb i h) (k0_off35 i) (k0_off35_inb i h) (k0_off36 i) (k0_off36_inb i h) ![1, 0, 0] inb_S2x384x384_S1x384x384_1_0_0 inb_S2x384x256_S1x384x256_1_0_0 inb_S2x384x128_S1x384x128_1_0_0

theorem tail1_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (h : k0_cond2 i = 1#1) (S : St F) :
    Own c arg2 arg5 arg6 arg7 arg11 arg12 arg13 arg14 arg15 arg16 arg17 I S ⊢ wp frame (wpE (defs₀ (F := F)) Variants.none (c : Thread nD τ) none) Set.univ
      (tail1 i arg2 arg3 arg4 arg5 arg6 arg7 arg8 arg9 arg10 arg11 arg12 arg13 arg14 arg15 arg16 arg17 arg1 v12 v14 v16 v18 h)
      (fun _ => Own c arg2 arg5 arg6 arg7 arg11 arg12 arg13 arg14 arg15 arg16 arg17 I (tail1S i I arg1 v12 v14 v16 v18 h S)) := by
  unfold tail1 tail1S
  refine seq (consHead_A c arg2 arg5 arg6 arg7 arg11 arg12 arg13 arg14 arg15 arg16 arg17 I _ _ _ _ _ _ _ _ _ _ _ _ _ _ _ _) fun _ => ?_
  exact consHead_A c arg2 arg5 arg6 arg7 arg11 arg12 arg13 arg14 arg15 arg16 arg17 I _ _ _ _ _ _ _ _ _ _ _ _ _ _ _ _

/-- The buffers after the last 2 blocks of rows. -/
def tail2S (i : grid0.Coords) (I : In F) (arg1 : BitVec 32) (v12 : FVec F S384x256 .bf16) (v14 : FVec F S384x256 .bf16) (v16 : FVec F S384x128 .bf16) (v18 : FVec F S384x128 .bf16) (h : k0_cond3 i = 1#1) (S : St F) : St F :=
  S |> putStB I v12 (k0_off37 i) (k0_off37_inb i h) ![0, 0, 0] inb_S2x384x384_S1x384x384_0_0_0
    |> putDpB I v16 (k0_off38 i) (k0_off38_inb i h) ![0, 0, 0] inb_S2x384x384_S1x384x384_0_0_0
    |> putStB I v14 (k0_off39 i) (k0_off39_inb i h) ![1, 0, 0] inb_S2x384x384_S1x384x384_1_0_0
    |> putDpB I v18 (k0_off40 i) (k0_off40_inb i h) ![1, 0, 0] inb_S2x384x384_S1x384x384_1_0_0
    |> consA I arg1 (Scalar.addi (tailW arg1) 0#32) v12 (k0_off41 i 0#32) (k0_off41_inb i h 0) (k0_off42 i 0#32) (k0_off42_inb i h 0) (k0_off43 i 0#32) (k0_off43_inb i h 0) (k0_off44 i 0#32) (k0_off44_inb i h 0) ![0, 0, 0] inb_S2x384x384_S1x384x384_0_0_0 inb_S2x384x256_S1x384x256_0_0_0 inb_S2x384x128_S1x384x128_0_0_0
    |> consA I arg1 (Scalar.addi (tailW arg1) 0#32) v14 (k0_off45 i 0#32) (k0_off45_inb i h 0) (k0_off46 i 0#32) (k0_off46_inb i h 0) (k0_off47 i 0#32) (k0_off47_inb i h 0) (k0_off48 i 0#32) (k0_off48_inb i h 0) ![1, 0, 0] inb_S2x384x384_S1x384x384_1_0_0 inb_S2x384x256_S1x384x256_1_0_0 inb_S2x384x128_S1x384x128_1_0_0
    |> consB I arg1 (Scalar.addi (tailW arg1) 1#32) v12 (k0_off41 i 1#32) (k0_off41_inb i h 1) (k0_off42 i 1#32) (k0_off42_inb i h 1) (k0_off43 i 1#32) (k0_off43_inb i h 1) (k0_off44 i 1#32) (k0_off44_inb i h 1) ![0, 0, 0] inb_S2x384x384_S1x384x384_0_0_0 inb_S2x384x256_S1x384x256_0_0_0 inb_S2x384x128_S1x384x128_0_0_0
    |> consB I arg1 (Scalar.addi (tailW arg1) 1#32) v14 (k0_off45 i 1#32) (k0_off45_inb i h 1) (k0_off46 i 1#32) (k0_off46_inb i h 1) (k0_off47 i 1#32) (k0_off47_inb i h 1) (k0_off48 i 1#32) (k0_off48_inb i h 1) ![1, 0, 0] inb_S2x384x384_S1x384x384_1_0_0 inb_S2x384x256_S1x384x256_1_0_0 inb_S2x384x128_S1x384x128_1_0_0

theorem tail2_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (h : k0_cond3 i = 1#1) (S : St F) :
    Own c arg2 arg5 arg6 arg7 arg11 arg12 arg13 arg14 arg15 arg16 arg17 I S ⊢ wp frame (wpE (defs₀ (F := F)) Variants.none (c : Thread nD τ) none) Set.univ
      (tail2 i arg2 arg3 arg4 arg5 arg6 arg7 arg8 arg9 arg10 arg11 arg12 arg13 arg14 arg15 arg16 arg17 arg1 v12 v14 v16 v18 h)
      (fun _ => Own c arg2 arg5 arg6 arg7 arg11 arg12 arg13 arg14 arg15 arg16 arg17 I (tail2S i I arg1 v12 v14 v16 v18 h S)) := by
  unfold tail2 tail2S
  refine seq (prodSt_B c arg2 arg5 arg6 arg7 arg11 arg12 arg13 arg14 arg15 arg16 arg17 I _ _ _ _ _ _) fun _ => ?_
  refine seq (prodDp_B c arg2 arg5 arg6 arg7 arg11 arg12 arg13 arg14 arg15 arg16 arg17 I _ _ _ _ _ _) fun _ => ?_
  refine seq (prodSt_B c arg2 arg5 arg6 arg7 arg11 arg12 arg13 arg14 arg15 arg16 arg17 I _ _ _ _ _ _) fun _ => ?_
  refine seq (prodDp_B c arg2 arg5 arg6 arg7 arg11 arg12 arg13 arg14 arg15 arg16 arg17 I _ _ _ _ _ _) fun _ => ?_
  refine seq (consHead_A c arg2 arg5 arg6 arg7 arg11 arg12 arg13 arg14 arg15 arg16 arg17 I _ _ _ _ _ _ _ _ _ _ _ _ _ _ _ _) fun _ => ?_
  refine seq (consHead_A c arg2 arg5 arg6 arg7 arg11 arg12 arg13 arg14 arg15 arg16 arg17 I _ _ _ _ _ _ _ _ _ _ _ _ _ _ _ _) fun _ => ?_
  refine seq (consHead_B c arg2 arg5 arg6 arg7 arg11 arg12 arg13 arg14 arg15 arg16 arg17 I _ _ _ _ _ _ _ _ _ _ _ _ _ _ _ _) fun _ => ?_
  exact consHead_B c arg2 arg5 arg6 arg7 arg11 arg12 arg13 arg14 arg15 arg16 arg17 I _ _ _ _ _ _ _ _ _ _ _ _ _ _ _ _

/-- The buffers after the last 3 blocks of rows. -/
def tail3S (i : grid0.Coords) (I : In F) (arg1 : BitVec 32) (v12 : FVec F S384x256 .bf16) (v14 : FVec F S384x256 .bf16) (v16 : FVec F S384x128 .bf16) (v18 : FVec F S384x128 .bf16) (h : k0_cond4 i = 1#1) (S : St F) : St F :=
  S |> putStB I v12 (k0_off49 i 0#32) (k0_off49_inb i h 0) ![0, 0, 0] inb_S2x384x384_S1x384x384_0_0_0
    |> putDpB I v16 (k0_off50 i 0#32) (k0_off50_inb i h 0) ![0, 0, 0] inb_S2x384x384_S1x384x384_0_0_0
    |> putStB I v14 (k0_off51 i 0#32) (k0_off51_inb i h 0) ![1, 0, 0] inb_S2x384x384_S1x384x384_1_0_0
    |> putDpB I v18 (k0_off52 i 0#32) (k0_off52_inb i h 0) ![1, 0, 0] inb_S2x384x384_S1x384x384_1_0_0
    |> consA I arg1 (Scalar.addi (tailW arg1) 0#32) v12 (k0_off53 i 0#32) (k0_off53_inb i h 0) (k0_off54 i 0#32) (k0_off54_inb i h 0) (k0_off55 i 0#32) (k0_off55_inb i h 0) (k0_off56 i 0#32) (k0_off56_inb i h 0) ![0, 0, 0] inb_S2x384x384_S1x384x384_0_0_0 inb_S2x384x256_S1x384x256_0_0_0 inb_S2x384x128_S1x384x128_0_0_0
    |> consA I arg1 (Scalar.addi (tailW arg1) 0#32) v14 (k0_off57 i 0#32) (k0_off57_inb i h 0) (k0_off58 i 0#32) (k0_off58_inb i h 0) (k0_off59 i 0#32) (k0_off59_inb i h 0) (k0_off60 i 0#32) (k0_off60_inb i h 0) ![1, 0, 0] inb_S2x384x384_S1x384x384_1_0_0 inb_S2x384x256_S1x384x256_1_0_0 inb_S2x384x128_S1x384x128_1_0_0
    |> putStA I v12 (k0_off49 i 1#32) (k0_off49_inb i h 1) ![0, 0, 0] inb_S2x384x384_S1x384x384_0_0_0
    |> putDpA I v16 (k0_off50 i 1#32) (k0_off50_inb i h 1) ![0, 0, 0] inb_S2x384x384_S1x384x384_0_0_0
    |> putStA I v14 (k0_off51 i 1#32) (k0_off51_inb i h 1) ![1, 0, 0] inb_S2x384x384_S1x384x384_1_0_0
    |> putDpA I v18 (k0_off52 i 1#32) (k0_off52_inb i h 1) ![1, 0, 0] inb_S2x384x384_S1x384x384_1_0_0
    |> consB I arg1 (Scalar.addi (tailW arg1) 1#32) v12 (k0_off53 i 1#32) (k0_off53_inb i h 1) (k0_off54 i 1#32) (k0_off54_inb i h 1) (k0_off55 i 1#32) (k0_off55_inb i h 1) (k0_off56 i 1#32) (k0_off56_inb i h 1) ![0, 0, 0] inb_S2x384x384_S1x384x384_0_0_0 inb_S2x384x256_S1x384x256_0_0_0 inb_S2x384x128_S1x384x128_0_0_0
    |> consB I arg1 (Scalar.addi (tailW arg1) 1#32) v14 (k0_off57 i 1#32) (k0_off57_inb i h 1) (k0_off58 i 1#32) (k0_off58_inb i h 1) (k0_off59 i 1#32) (k0_off59_inb i h 1) (k0_off60 i 1#32) (k0_off60_inb i h 1) ![1, 0, 0] inb_S2x384x384_S1x384x384_1_0_0 inb_S2x384x256_S1x384x256_1_0_0 inb_S2x384x128_S1x384x128_1_0_0
    |> consA I arg1 (Scalar.addi (tailW arg1) 2#32) v12 (k0_off53 i 2#32) (k0_off53_inb i h 2) (k0_off54 i 2#32) (k0_off54_inb i h 2) (k0_off55 i 2#32) (k0_off55_inb i h 2) (k0_off56 i 2#32) (k0_off56_inb i h 2) ![0, 0, 0] inb_S2x384x384_S1x384x384_0_0_0 inb_S2x384x256_S1x384x256_0_0_0 inb_S2x384x128_S1x384x128_0_0_0
    |> consA I arg1 (Scalar.addi (tailW arg1) 2#32) v14 (k0_off57 i 2#32) (k0_off57_inb i h 2) (k0_off58 i 2#32) (k0_off58_inb i h 2) (k0_off59 i 2#32) (k0_off59_inb i h 2) (k0_off60 i 2#32) (k0_off60_inb i h 2) ![1, 0, 0] inb_S2x384x384_S1x384x384_1_0_0 inb_S2x384x256_S1x384x256_1_0_0 inb_S2x384x128_S1x384x128_1_0_0

theorem tail3_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (h : k0_cond4 i = 1#1) (S : St F) :
    Own c arg2 arg5 arg6 arg7 arg11 arg12 arg13 arg14 arg15 arg16 arg17 I S ⊢ wp frame (wpE (defs₀ (F := F)) Variants.none (c : Thread nD τ) none) Set.univ
      (tail3 i arg2 arg3 arg4 arg5 arg6 arg7 arg8 arg9 arg10 arg11 arg12 arg13 arg14 arg15 arg16 arg17 arg1 v12 v14 v16 v18 h)
      (fun _ => Own c arg2 arg5 arg6 arg7 arg11 arg12 arg13 arg14 arg15 arg16 arg17 I (tail3S i I arg1 v12 v14 v16 v18 h S)) := by
  unfold tail3 tail3S
  refine seq (prodSt_B c arg2 arg5 arg6 arg7 arg11 arg12 arg13 arg14 arg15 arg16 arg17 I _ _ _ _ _ _) fun _ => ?_
  refine seq (prodDp_B c arg2 arg5 arg6 arg7 arg11 arg12 arg13 arg14 arg15 arg16 arg17 I _ _ _ _ _ _) fun _ => ?_
  refine seq (prodSt_B c arg2 arg5 arg6 arg7 arg11 arg12 arg13 arg14 arg15 arg16 arg17 I _ _ _ _ _ _) fun _ => ?_
  refine seq (prodDp_B c arg2 arg5 arg6 arg7 arg11 arg12 arg13 arg14 arg15 arg16 arg17 I _ _ _ _ _ _) fun _ => ?_
  refine seq (consHead_A c arg2 arg5 arg6 arg7 arg11 arg12 arg13 arg14 arg15 arg16 arg17 I _ _ _ _ _ _ _ _ _ _ _ _ _ _ _ _) fun _ => ?_
  refine seq (consHead_A c arg2 arg5 arg6 arg7 arg11 arg12 arg13 arg14 arg15 arg16 arg17 I _ _ _ _ _ _ _ _ _ _ _ _ _ _ _ _) fun _ => ?_
  refine seq (prodSt_A c arg2 arg5 arg6 arg7 arg11 arg12 arg13 arg14 arg15 arg16 arg17 I _ _ _ _ _ _) fun _ => ?_
  refine seq (prodDp_A c arg2 arg5 arg6 arg7 arg11 arg12 arg13 arg14 arg15 arg16 arg17 I _ _ _ _ _ _) fun _ => ?_
  refine seq (prodSt_A c arg2 arg5 arg6 arg7 arg11 arg12 arg13 arg14 arg15 arg16 arg17 I _ _ _ _ _ _) fun _ => ?_
  refine seq (prodDp_A c arg2 arg5 arg6 arg7 arg11 arg12 arg13 arg14 arg15 arg16 arg17 I _ _ _ _ _ _) fun _ => ?_
  refine seq (consHead_B c arg2 arg5 arg6 arg7 arg11 arg12 arg13 arg14 arg15 arg16 arg17 I _ _ _ _ _ _ _ _ _ _ _ _ _ _ _ _) fun _ => ?_
  refine seq (consHead_B c arg2 arg5 arg6 arg7 arg11 arg12 arg13 arg14 arg15 arg16 arg17 I _ _ _ _ _ _ _ _ _ _ _ _ _ _ _ _) fun _ => ?_
  refine seq (consHead_A c arg2 arg5 arg6 arg7 arg11 arg12 arg13 arg14 arg15 arg16 arg17 I _ _ _ _ _ _ _ _ _ _ _ _ _ _ _ _) fun _ => ?_
  exact consHead_A c arg2 arg5 arg6 arg7 arg11 arg12 arg13 arg14 arg15 arg16 arg17 I _ _ _ _ _ _ _ _ _ _ _ _ _ _ _ _

/-- The buffers after the last 4 blocks of rows. -/
def tail4S (i : grid0.Coords) (I : In F) (arg1 : BitVec 32) (v12 : FVec F S384x256 .bf16) (v14 : FVec F S384x256 .bf16) (v16 : FVec F S384x128 .bf16) (v18 : FVec F S384x128 .bf16) (h : k0_cond5 i = 1#1) (S : St F) : St F :=
  S |> putStB I v12 (k0_off61 i 0#32) (k0_off61_inb i h 0) ![0, 0, 0] inb_S2x384x384_S1x384x384_0_0_0
    |> putDpB I v16 (k0_off62 i 0#32) (k0_off62_inb i h 0) ![0, 0, 0] inb_S2x384x384_S1x384x384_0_0_0
    |> putStB I v14 (k0_off63 i 0#32) (k0_off63_inb i h 0) ![1, 0, 0] inb_S2x384x384_S1x384x384_1_0_0
    |> putDpB I v18 (k0_off64 i 0#32) (k0_off64_inb i h 0) ![1, 0, 0] inb_S2x384x384_S1x384x384_1_0_0
    |> consA I arg1 (Scalar.addi (tailW arg1) 0#32) v12 (k0_off65 i 0#32) (k0_off65_inb i h 0) (k0_off66 i 0#32) (k0_off66_inb i h 0) (k0_off67 i 0#32) (k0_off67_inb i h 0) (k0_off68 i 0#32) (k0_off68_inb i h 0) ![0, 0, 0] inb_S2x384x384_S1x384x384_0_0_0 inb_S2x384x256_S1x384x256_0_0_0 inb_S2x384x128_S1x384x128_0_0_0
    |> consA I arg1 (Scalar.addi (tailW arg1) 0#32) v14 (k0_off69 i 0#32) (k0_off69_inb i h 0) (k0_off70 i 0#32) (k0_off70_inb i h 0) (k0_off71 i 0#32) (k0_off71_inb i h 0) (k0_off72 i 0#32) (k0_off72_inb i h 0) ![1, 0, 0] inb_S2x384x384_S1x384x384_1_0_0 inb_S2x384x256_S1x384x256_1_0_0 inb_S2x384x128_S1x384x128_1_0_0
    |> putStA I v12 (k0_off61 i 1#32) (k0_off61_inb i h 1) ![0, 0, 0] inb_S2x384x384_S1x384x384_0_0_0
    |> putDpA I v16 (k0_off62 i 1#32) (k0_off62_inb i h 1) ![0, 0, 0] inb_S2x384x384_S1x384x384_0_0_0
    |> putStA I v14 (k0_off63 i 1#32) (k0_off63_inb i h 1) ![1, 0, 0] inb_S2x384x384_S1x384x384_1_0_0
    |> putDpA I v18 (k0_off64 i 1#32) (k0_off64_inb i h 1) ![1, 0, 0] inb_S2x384x384_S1x384x384_1_0_0
    |> consB I arg1 (Scalar.addi (tailW arg1) 1#32) v12 (k0_off65 i 1#32) (k0_off65_inb i h 1) (k0_off66 i 1#32) (k0_off66_inb i h 1) (k0_off67 i 1#32) (k0_off67_inb i h 1) (k0_off68 i 1#32) (k0_off68_inb i h 1) ![0, 0, 0] inb_S2x384x384_S1x384x384_0_0_0 inb_S2x384x256_S1x384x256_0_0_0 inb_S2x384x128_S1x384x128_0_0_0
    |> consB I arg1 (Scalar.addi (tailW arg1) 1#32) v14 (k0_off69 i 1#32) (k0_off69_inb i h 1) (k0_off70 i 1#32) (k0_off70_inb i h 1) (k0_off71 i 1#32) (k0_off71_inb i h 1) (k0_off72 i 1#32) (k0_off72_inb i h 1) ![1, 0, 0] inb_S2x384x384_S1x384x384_1_0_0 inb_S2x384x256_S1x384x256_1_0_0 inb_S2x384x128_S1x384x128_1_0_0
    |> putStB I v12 (k0_off61 i 2#32) (k0_off61_inb i h 2) ![0, 0, 0] inb_S2x384x384_S1x384x384_0_0_0
    |> putDpB I v16 (k0_off62 i 2#32) (k0_off62_inb i h 2) ![0, 0, 0] inb_S2x384x384_S1x384x384_0_0_0
    |> putStB I v14 (k0_off63 i 2#32) (k0_off63_inb i h 2) ![1, 0, 0] inb_S2x384x384_S1x384x384_1_0_0
    |> putDpB I v18 (k0_off64 i 2#32) (k0_off64_inb i h 2) ![1, 0, 0] inb_S2x384x384_S1x384x384_1_0_0
    |> consA I arg1 (Scalar.addi (tailW arg1) 2#32) v12 (k0_off65 i 2#32) (k0_off65_inb i h 2) (k0_off66 i 2#32) (k0_off66_inb i h 2) (k0_off67 i 2#32) (k0_off67_inb i h 2) (k0_off68 i 2#32) (k0_off68_inb i h 2) ![0, 0, 0] inb_S2x384x384_S1x384x384_0_0_0 inb_S2x384x256_S1x384x256_0_0_0 inb_S2x384x128_S1x384x128_0_0_0
    |> consA I arg1 (Scalar.addi (tailW arg1) 2#32) v14 (k0_off69 i 2#32) (k0_off69_inb i h 2) (k0_off70 i 2#32) (k0_off70_inb i h 2) (k0_off71 i 2#32) (k0_off71_inb i h 2) (k0_off72 i 2#32) (k0_off72_inb i h 2) ![1, 0, 0] inb_S2x384x384_S1x384x384_1_0_0 inb_S2x384x256_S1x384x256_1_0_0 inb_S2x384x128_S1x384x128_1_0_0
    |> consB I arg1 (Scalar.addi (tailW arg1) 3#32) v12 (k0_off65 i 3#32) (k0_off65_inb i h 3) (k0_off66 i 3#32) (k0_off66_inb i h 3) (k0_off67 i 3#32) (k0_off67_inb i h 3) (k0_off68 i 3#32) (k0_off68_inb i h 3) ![0, 0, 0] inb_S2x384x384_S1x384x384_0_0_0 inb_S2x384x256_S1x384x256_0_0_0 inb_S2x384x128_S1x384x128_0_0_0
    |> consB I arg1 (Scalar.addi (tailW arg1) 3#32) v14 (k0_off69 i 3#32) (k0_off69_inb i h 3) (k0_off70 i 3#32) (k0_off70_inb i h 3) (k0_off71 i 3#32) (k0_off71_inb i h 3) (k0_off72 i 3#32) (k0_off72_inb i h 3) ![1, 0, 0] inb_S2x384x384_S1x384x384_1_0_0 inb_S2x384x256_S1x384x256_1_0_0 inb_S2x384x128_S1x384x128_1_0_0

theorem tail4_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (h : k0_cond5 i = 1#1) (S : St F) :
    Own c arg2 arg5 arg6 arg7 arg11 arg12 arg13 arg14 arg15 arg16 arg17 I S ⊢ wp frame (wpE (defs₀ (F := F)) Variants.none (c : Thread nD τ) none) Set.univ
      (tail4 i arg2 arg3 arg4 arg5 arg6 arg7 arg8 arg9 arg10 arg11 arg12 arg13 arg14 arg15 arg16 arg17 arg1 v12 v14 v16 v18 h)
      (fun _ => Own c arg2 arg5 arg6 arg7 arg11 arg12 arg13 arg14 arg15 arg16 arg17 I (tail4S i I arg1 v12 v14 v16 v18 h S)) := by
  unfold tail4 tail4S
  refine seq (prodSt_B c arg2 arg5 arg6 arg7 arg11 arg12 arg13 arg14 arg15 arg16 arg17 I _ _ _ _ _ _) fun _ => ?_
  refine seq (prodDp_B c arg2 arg5 arg6 arg7 arg11 arg12 arg13 arg14 arg15 arg16 arg17 I _ _ _ _ _ _) fun _ => ?_
  refine seq (prodSt_B c arg2 arg5 arg6 arg7 arg11 arg12 arg13 arg14 arg15 arg16 arg17 I _ _ _ _ _ _) fun _ => ?_
  refine seq (prodDp_B c arg2 arg5 arg6 arg7 arg11 arg12 arg13 arg14 arg15 arg16 arg17 I _ _ _ _ _ _) fun _ => ?_
  refine seq (consHead_A c arg2 arg5 arg6 arg7 arg11 arg12 arg13 arg14 arg15 arg16 arg17 I _ _ _ _ _ _ _ _ _ _ _ _ _ _ _ _) fun _ => ?_
  refine seq (consHead_A c arg2 arg5 arg6 arg7 arg11 arg12 arg13 arg14 arg15 arg16 arg17 I _ _ _ _ _ _ _ _ _ _ _ _ _ _ _ _) fun _ => ?_
  refine seq (prodSt_A c arg2 arg5 arg6 arg7 arg11 arg12 arg13 arg14 arg15 arg16 arg17 I _ _ _ _ _ _) fun _ => ?_
  refine seq (prodDp_A c arg2 arg5 arg6 arg7 arg11 arg12 arg13 arg14 arg15 arg16 arg17 I _ _ _ _ _ _) fun _ => ?_
  refine seq (prodSt_A c arg2 arg5 arg6 arg7 arg11 arg12 arg13 arg14 arg15 arg16 arg17 I _ _ _ _ _ _) fun _ => ?_
  refine seq (prodDp_A c arg2 arg5 arg6 arg7 arg11 arg12 arg13 arg14 arg15 arg16 arg17 I _ _ _ _ _ _) fun _ => ?_
  refine seq (consHead_B c arg2 arg5 arg6 arg7 arg11 arg12 arg13 arg14 arg15 arg16 arg17 I _ _ _ _ _ _ _ _ _ _ _ _ _ _ _ _) fun _ => ?_
  refine seq (consHead_B c arg2 arg5 arg6 arg7 arg11 arg12 arg13 arg14 arg15 arg16 arg17 I _ _ _ _ _ _ _ _ _ _ _ _ _ _ _ _) fun _ => ?_
  refine seq (prodSt_B c arg2 arg5 arg6 arg7 arg11 arg12 arg13 arg14 arg15 arg16 arg17 I _ _ _ _ _ _) fun _ => ?_
  refine seq (prodDp_B c arg2 arg5 arg6 arg7 arg11 arg12 arg13 arg14 arg15 arg16 arg17 I _ _ _ _ _ _) fun _ => ?_
  refine seq (prodSt_B c arg2 arg5 arg6 arg7 arg11 arg12 arg13 arg14 arg15 arg16 arg17 I _ _ _ _ _ _) fun _ => ?_
  refine seq (prodDp_B c arg2 arg5 arg6 arg7 arg11 arg12 arg13 arg14 arg15 arg16 arg17 I _ _ _ _ _ _) fun _ => ?_
  refine seq (consHead_A c arg2 arg5 arg6 arg7 arg11 arg12 arg13 arg14 arg15 arg16 arg17 I _ _ _ _ _ _ _ _ _ _ _ _ _ _ _ _) fun _ => ?_
  refine seq (consHead_A c arg2 arg5 arg6 arg7 arg11 arg12 arg13 arg14 arg15 arg16 arg17 I _ _ _ _ _ _ _ _ _ _ _ _ _ _ _ _) fun _ => ?_
  refine seq (consHead_B c arg2 arg5 arg6 arg7 arg11 arg12 arg13 arg14 arg15 arg16 arg17 I _ _ _ _ _ _ _ _ _ _ _ _ _ _ _ _) fun _ => ?_
  exact consHead_B c arg2 arg5 arg6 arg7 arg11 arg12 arg13 arg14 arg15 arg16 arg17 I _ _ _ _ _ _ _ _ _ _ _ _ _ _ _ _

/-- The buffers after the first `n` trips of the loop. -/
def loopS (i : grid0.Coords) (I : In F) (arg1 : BitVec 32) (v12 : FVec F S384x256 .bf16) (v14 : FVec F S384x256 .bf16) (v16 : FVec F S384x128 .bf16) (v18 : FVec F S384x128 .bf16) (S : St F) : ℕ → St F
  | 0 => S
  | n + 1 => if h : n < (k0_t1_loop i).trips then tripS i I arg1 v12 v14 v16 v18 ⟨n, h⟩ (loopS i I arg1 v12 v14 v16 v18 S n) else loopS i I arg1 v12 v14 v16 v18 S n

theorem loop_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (S : St F) :
    Own c arg2 arg5 arg6 arg7 arg11 arg12 arg13 arg14 arg15 arg16 arg17 I S ⊢ wp frame (wpE (defs₀ (F := F)) Variants.none (c : Thread nD τ) none) Set.univ
      (Scf.Loop.for (k0_t1_loop i) (k0_t1_ok i) ⟨⟩ (fun k _ => trip i arg2 arg3 arg4 arg5 arg6 arg7 arg8 arg9 arg10 arg11 arg12 arg13 arg14 arg15 arg16 arg17 arg1 v12 v14 v16 v18 k))
      (fun _ => Own c arg2 arg5 arg6 arg7 arg11 arg12 arg13 arg14 arg15 arg16 arg17 I (loopS i I arg1 v12 v14 v16 v18 S (k0_t1_loop i).trips)) := by
  refine .trans ?_ (Scf.wp_for _ _ _ _ _ _ _ _ _
    (fun n _ => Own c arg2 arg5 arg6 arg7 arg11 arg12 arg13 arg14 arg15 arg16 arg17 I (loopS i I arg1 v12 v14 v16 v18 S n)) (fun k _ => ?_))
  · iintro H
    isplitl [H]
    · iexact H
    · iintro %a H
      iexact H
  · rw [loopS, dif_pos k.isLt]
    exact trip_wp c i arg2 arg3 arg4 arg5 arg6 arg7 arg8 arg9 arg10 arg11 arg12 arg13 arg14 arg15 arg16 arg17 I arg1 v12 v14 v16 v18 k _

theorem trips2 (i : grid0.Coords) : (k0_t2_loop i).trips = 0 := by
  revert i
  decide +kernel

theorem loop2_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (S : St F) :
    Own c arg2 arg5 arg6 arg7 arg11 arg12 arg13 arg14 arg15 arg16 arg17 I S ⊢ wp frame (wpE (defs₀ (F := F)) Variants.none (c : Thread nD τ) none) Set.univ
      (Scf.Loop.for (k0_t2_loop i) (k0_t2_ok i) ⟨⟩ (fun k _ => trip2 i arg2 arg3 arg4 arg5 arg6 arg7 arg8 arg9 arg10 arg11 arg12 arg13 arg14 arg15 arg16 arg17 arg1 v12 v14 v16 v18 k))
      (fun _ => Own c arg2 arg5 arg6 arg7 arg11 arg12 arg13 arg14 arg15 arg16 arg17 I S) := by
  refine .trans ?_ (Scf.wp_for _ _ _ _ _ _ _ _ _ (fun _ _ => Own c arg2 arg5 arg6 arg7 arg11 arg12 arg13 arg14 arg15 arg16 arg17 I S) (fun k _ => ?_))
  · iintro H
    isplitl [H]
    · iexact H
    · iintro %a H
      iexact H
  · exact absurd k.isLt (by have h := trips2 i; unfold Scf.Loop.trips at h; omega)

/-- The buffers after the last part, where 1 block is left. -/
def if1S (i : grid0.Coords) (I : In F) (arg1 : BitVec 32) (v12 : FVec F S384x256 .bf16) (v14 : FVec F S384x256 .bf16) (v16 : FVec F S384x128 .bf16) (v18 : FVec F S384x128 .bf16) (S : St F) : St F :=
  if h : k0_cond2 i = 1#1 then tail1S i I arg1 v12 v14 v16 v18 h S else S

theorem if1_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (S : St F) :
    Own c arg2 arg5 arg6 arg7 arg11 arg12 arg13 arg14 arg15 arg16 arg17 I S ⊢ wp frame (wpE (defs₀ (F := F)) Variants.none (c : Thread nD τ) none) Set.univ
      (if h : k0_cond2 i = 1#1 then tail1 i arg2 arg3 arg4 arg5 arg6 arg7 arg8 arg9 arg10 arg11 arg12 arg13 arg14 arg15 arg16 arg17 arg1 v12 v14 v16 v18 h else pure ⟨⟩)
      (fun _ => Own c arg2 arg5 arg6 arg7 arg11 arg12 arg13 arg14 arg15 arg16 arg17 I (if1S i I arg1 v12 v14 v16 v18 S)) := by
  unfold if1S
  by_cases h : k0_cond2 i = 1#1
  · rw [dif_pos h, dif_pos h]
    exact tail1_wp c i arg2 arg3 arg4 arg5 arg6 arg7 arg8 arg9 arg10 arg11 arg12 arg13 arg14 arg15 arg16 arg17 I arg1 v12 v14 v16 v18 h S
  · rw [dif_neg h, dif_neg h]
    exact ret_wp _

/-- The buffers after the last part, where 2 blocks are left. -/
def if2S (i : grid0.Coords) (I : In F) (arg1 : BitVec 32) (v12 : FVec F S384x256 .bf16) (v14 : FVec F S384x256 .bf16) (v16 : FVec F S384x128 .bf16) (v18 : FVec F S384x128 .bf16) (S : St F) : St F :=
  if h : k0_cond3 i = 1#1 then tail2S i I arg1 v12 v14 v16 v18 h S else S

theorem if2_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (S : St F) :
    Own c arg2 arg5 arg6 arg7 arg11 arg12 arg13 arg14 arg15 arg16 arg17 I S ⊢ wp frame (wpE (defs₀ (F := F)) Variants.none (c : Thread nD τ) none) Set.univ
      (if h : k0_cond3 i = 1#1 then tail2 i arg2 arg3 arg4 arg5 arg6 arg7 arg8 arg9 arg10 arg11 arg12 arg13 arg14 arg15 arg16 arg17 arg1 v12 v14 v16 v18 h else pure ⟨⟩)
      (fun _ => Own c arg2 arg5 arg6 arg7 arg11 arg12 arg13 arg14 arg15 arg16 arg17 I (if2S i I arg1 v12 v14 v16 v18 S)) := by
  unfold if2S
  by_cases h : k0_cond3 i = 1#1
  · rw [dif_pos h, dif_pos h]
    exact tail2_wp c i arg2 arg3 arg4 arg5 arg6 arg7 arg8 arg9 arg10 arg11 arg12 arg13 arg14 arg15 arg16 arg17 I arg1 v12 v14 v16 v18 h S
  · rw [dif_neg h, dif_neg h]
    exact ret_wp _

/-- The buffers after the last part, where 3 blocks are left. -/
def if3S (i : grid0.Coords) (I : In F) (arg1 : BitVec 32) (v12 : FVec F S384x256 .bf16) (v14 : FVec F S384x256 .bf16) (v16 : FVec F S384x128 .bf16) (v18 : FVec F S384x128 .bf16) (S : St F) : St F :=
  if h : k0_cond4 i = 1#1 then tail3S i I arg1 v12 v14 v16 v18 h S else S

theorem if3_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (S : St F) :
    Own c arg2 arg5 arg6 arg7 arg11 arg12 arg13 arg14 arg15 arg16 arg17 I S ⊢ wp frame (wpE (defs₀ (F := F)) Variants.none (c : Thread nD τ) none) Set.univ
      (if h : k0_cond4 i = 1#1 then tail3 i arg2 arg3 arg4 arg5 arg6 arg7 arg8 arg9 arg10 arg11 arg12 arg13 arg14 arg15 arg16 arg17 arg1 v12 v14 v16 v18 h else pure ⟨⟩)
      (fun _ => Own c arg2 arg5 arg6 arg7 arg11 arg12 arg13 arg14 arg15 arg16 arg17 I (if3S i I arg1 v12 v14 v16 v18 S)) := by
  unfold if3S
  by_cases h : k0_cond4 i = 1#1
  · rw [dif_pos h, dif_pos h]
    exact tail3_wp c i arg2 arg3 arg4 arg5 arg6 arg7 arg8 arg9 arg10 arg11 arg12 arg13 arg14 arg15 arg16 arg17 I arg1 v12 v14 v16 v18 h S
  · rw [dif_neg h, dif_neg h]
    exact ret_wp _

/-- The buffers after the last part, where 4 blocks are left. -/
def if4S (i : grid0.Coords) (I : In F) (arg1 : BitVec 32) (v12 : FVec F S384x256 .bf16) (v14 : FVec F S384x256 .bf16) (v16 : FVec F S384x128 .bf16) (v18 : FVec F S384x128 .bf16) (S : St F) : St F :=
  if h : k0_cond5 i = 1#1 then tail4S i I arg1 v12 v14 v16 v18 h S else S

theorem if4_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (S : St F) :
    Own c arg2 arg5 arg6 arg7 arg11 arg12 arg13 arg14 arg15 arg16 arg17 I S ⊢ wp frame (wpE (defs₀ (F := F)) Variants.none (c : Thread nD τ) none) Set.univ
      (if h : k0_cond5 i = 1#1 then tail4 i arg2 arg3 arg4 arg5 arg6 arg7 arg8 arg9 arg10 arg11 arg12 arg13 arg14 arg15 arg16 arg17 arg1 v12 v14 v16 v18 h else pure ⟨⟩)
      (fun _ => Own c arg2 arg5 arg6 arg7 arg11 arg12 arg13 arg14 arg15 arg16 arg17 I (if4S i I arg1 v12 v14 v16 v18 S)) := by
  unfold if4S
  by_cases h : k0_cond5 i = 1#1
  · rw [dif_pos h, dif_pos h]
    exact tail4_wp c i arg2 arg3 arg4 arg5 arg6 arg7 arg8 arg9 arg10 arg11 arg12 arg13 arg14 arg15 arg16 arg17 I arg1 v12 v14 v16 v18 h S
  · rw [dif_neg h, dif_neg h]
    exact ret_wp _

/-- The buffers after the block of keys' whole sweep. -/
def sweepS (i : grid0.Coords) (I : In F) (arg1 : BitVec 32) (v12 : FVec F S384x256 .bf16) (v14 : FVec F S384x256 .bf16) (v16 : FVec F S384x128 .bf16) (v18 : FVec F S384x128 .bf16) (S : St F) : St F :=
  if4S i I arg1 v12 v14 v16 v18 (if3S i I arg1 v12 v14 v16 v18 (if2S i I arg1 v12 v14 v16 v18 (if1S i I arg1 v12 v14 v16 v18 (loopS i I arg1 v12 v14 v16 v18 S (k0_t1_loop i).trips))))

/-- The first head of keys' cotangent, rounded. -/
def keyS (S : St F) : FVec F S384x256 .bf16 := k0_pay357 (sub S.dk (Rect.unit (s := S2x384x256) ![0, 0, 0] S1x384x256.size inb_S2x384x256_S1x384x256_0_0_0))

theorem load_wp (c : Dev nD) (arg2 : Memref sig .tc .vmem S4224x512 .bf16) (arg5 : Memref sig .tc .vmem S2x11x1x384 .f32) (arg6 : Memref sig .tc .vmem S2x11x1x384 .f32) (arg7 : Memref sig .tc .vmem S4224x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (S : St F) :
    Own c arg2 arg5 arg6 arg7 arg11 arg12 arg13 arg14 arg15 arg16 arg17 I S ⊢ wp frame (wpE (defs₀ (F := F)) Variants.none (c : Thread nD τ) none) Set.univ (do
      let a : Vec F S1x384x256 .f32 ← Prog.lift (.load arg12 (Rect.unit (s := S2x384x256) ![0, 0, 0] S1x384x256.size inb_S2x384x256_S1x384x256_0_0_0).toLoadRect (View.loadsAt_vmem h_S1x384x256))
      pure (k0_pay357 a) : Prog (TpuEff nD τ sig (Elt F) Λ₀ .tc) (FVec F S384x256 .bf16))
      (fun a => iprop(⌜a = keyS S⌝ ∗ Own c arg2 arg5 arg6 arg7 arg11 arg12 arg13 arg14 arg15 arg16 arg17 I S)) := by
  unfold Own owns
  iintro ⟨⟨%f2, %e2, H2⟩, ⟨%f5, %e5, H5⟩, ⟨%f6, %e6, H6⟩, ⟨%f7, %e7, H7⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩
  sl_exec
  sl_step
  isplitr
  · ipureintro
    rw [readAt_eq arg12.view, e12]
    rfl
  isplitl [H2]
  · iexists _
    isplitr
    swap
    · iexact H2
    ipureintro
    exact e2
  isplitl [H5]
  · iexists _
    isplitr
    swap
    · iexact H5
    ipureintro
    exact e5
  isplitl [H6]
  · iexists _
    isplitr
    swap
    · iexact H6
    ipureintro
    exact e6
  isplitl [H7]
  · iexists _
    isplitr
    swap
    · iexact H7
    ipureintro
    exact e7
  isplitl [H11]
  · iexists _
    isplitr
    swap
    · iexact H11
    ipureintro
    exact e11
  isplitl [H12]
  · iexists _
    isplitr
    swap
    · iexact H12
    ipureintro
    exact e12
  isplitl [H13]
  · iexists _
    isplitr
    swap
    · iexact H13
    ipureintro
    exact e13
  isplitl [H14]
  · iexists _
    isplitr
    swap
    · iexact H14
    ipureintro
    exact e14
  isplitl [H15]
  · iexists _
    isplitr
    swap
    · iexact H15
    ipureintro
    exact e15
  isplitl [H16]
  · iexists _
    isplitr
    swap
    · iexact H16
    ipureintro
    exact e16
  iexists _
  isplitr
  swap
  · iexact H17
  ipureintro
  exact e17

attribute [local irreducible] k0_cond2 k0_cond3 k0_cond4 k0_cond5

theorem rest5_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (S : St F) :
    Own c arg2 arg5 arg6 arg7 arg11 arg12 arg13 arg14 arg15 arg16 arg17 I S ⊢ wp frame (wpE (defs₀ (F := F)) Variants.none (c : Thread nD τ) none) Set.univ
      (rest5 i arg2 arg3 arg4 arg5 arg6 arg7 arg8 arg9 arg10 arg11 arg12 arg13 arg14 arg15 arg16 arg17 arg1 v12 v14 v16 v18)
      (fun a => iprop(⌜a = keyS S⌝ ∗ Own c arg2 arg5 arg6 arg7 arg11 arg12 arg13 arg14 arg15 arg16 arg17 I S)) := by
  unfold rest5
  refine (load_wp c arg2 arg5 arg6 arg7 arg11 arg12 arg13 arg14 arg15 arg16 arg17 I S).trans (wp_mono _ _ _ fun a => ?_)
  iintro H
  iexact H

theorem rest4_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (S : St F) :
    Own c arg2 arg5 arg6 arg7 arg11 arg12 arg13 arg14 arg15 arg16 arg17 I S ⊢ wp frame (wpE (defs₀ (F := F)) Variants.none (c : Thread nD τ) none) Set.univ
      (rest4 i arg2 arg3 arg4 arg5 arg6 arg7 arg8 arg9 arg10 arg11 arg12 arg13 arg14 arg15 arg16 arg17 arg1 v12 v14 v16 v18)
      (fun a => iprop(⌜a = keyS (if4S i I arg1 v12 v14 v16 v18 S)⌝ ∗ Own c arg2 arg5 arg6 arg7 arg11 arg12 arg13 arg14 arg15 arg16 arg17 I (if4S i I arg1 v12 v14 v16 v18 S))) := by
  unfold rest4
  exact seqif (p := fun h => tail4 i arg2 arg3 arg4 arg5 arg6 arg7 arg8 arg9 arg10 arg11 arg12 arg13 arg14 arg15 arg16 arg17 arg1 v12 v14 v16 v18 h) (q := fun _ => rest5 i arg2 arg3 arg4 arg5 arg6 arg7 arg8 arg9 arg10 arg11 arg12 arg13 arg14 arg15 arg16 arg17 arg1 v12 v14 v16 v18)
    (if4_wp c i arg2 arg3 arg4 arg5 arg6 arg7 arg8 arg9 arg10 arg11 arg12 arg13 arg14 arg15 arg16 arg17 I arg1 v12 v14 v16 v18 S) fun _ => rest5_wp c i arg2 arg3 arg4 arg5 arg6 arg7 arg8 arg9 arg10 arg11 arg12 arg13 arg14 arg15 arg16 arg17 I arg1 v12 v14 v16 v18 _

theorem rest3_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (S : St F) :
    Own c arg2 arg5 arg6 arg7 arg11 arg12 arg13 arg14 arg15 arg16 arg17 I S ⊢ wp frame (wpE (defs₀ (F := F)) Variants.none (c : Thread nD τ) none) Set.univ
      (rest3 i arg2 arg3 arg4 arg5 arg6 arg7 arg8 arg9 arg10 arg11 arg12 arg13 arg14 arg15 arg16 arg17 arg1 v12 v14 v16 v18)
      (fun a => iprop(⌜a = keyS (if4S i I arg1 v12 v14 v16 v18 (if3S i I arg1 v12 v14 v16 v18 S))⌝ ∗ Own c arg2 arg5 arg6 arg7 arg11 arg12 arg13 arg14 arg15 arg16 arg17 I (if4S i I arg1 v12 v14 v16 v18 (if3S i I arg1 v12 v14 v16 v18 S)))) := by
  unfold rest3
  exact seqif (p := fun h => tail3 i arg2 arg3 arg4 arg5 arg6 arg7 arg8 arg9 arg10 arg11 arg12 arg13 arg14 arg15 arg16 arg17 arg1 v12 v14 v16 v18 h) (q := fun _ => rest4 i arg2 arg3 arg4 arg5 arg6 arg7 arg8 arg9 arg10 arg11 arg12 arg13 arg14 arg15 arg16 arg17 arg1 v12 v14 v16 v18)
    (if3_wp c i arg2 arg3 arg4 arg5 arg6 arg7 arg8 arg9 arg10 arg11 arg12 arg13 arg14 arg15 arg16 arg17 I arg1 v12 v14 v16 v18 S) fun _ => rest4_wp c i arg2 arg3 arg4 arg5 arg6 arg7 arg8 arg9 arg10 arg11 arg12 arg13 arg14 arg15 arg16 arg17 I arg1 v12 v14 v16 v18 _

theorem rest2_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (S : St F) :
    Own c arg2 arg5 arg6 arg7 arg11 arg12 arg13 arg14 arg15 arg16 arg17 I S ⊢ wp frame (wpE (defs₀ (F := F)) Variants.none (c : Thread nD τ) none) Set.univ
      (rest2 i arg2 arg3 arg4 arg5 arg6 arg7 arg8 arg9 arg10 arg11 arg12 arg13 arg14 arg15 arg16 arg17 arg1 v12 v14 v16 v18)
      (fun a => iprop(⌜a = keyS (if4S i I arg1 v12 v14 v16 v18 (if3S i I arg1 v12 v14 v16 v18 (if2S i I arg1 v12 v14 v16 v18 S)))⌝ ∗ Own c arg2 arg5 arg6 arg7 arg11 arg12 arg13 arg14 arg15 arg16 arg17 I (if4S i I arg1 v12 v14 v16 v18 (if3S i I arg1 v12 v14 v16 v18 (if2S i I arg1 v12 v14 v16 v18 S))))) := by
  unfold rest2
  exact seqif (p := fun h => tail2 i arg2 arg3 arg4 arg5 arg6 arg7 arg8 arg9 arg10 arg11 arg12 arg13 arg14 arg15 arg16 arg17 arg1 v12 v14 v16 v18 h) (q := fun _ => rest3 i arg2 arg3 arg4 arg5 arg6 arg7 arg8 arg9 arg10 arg11 arg12 arg13 arg14 arg15 arg16 arg17 arg1 v12 v14 v16 v18)
    (if2_wp c i arg2 arg3 arg4 arg5 arg6 arg7 arg8 arg9 arg10 arg11 arg12 arg13 arg14 arg15 arg16 arg17 I arg1 v12 v14 v16 v18 S) fun _ => rest3_wp c i arg2 arg3 arg4 arg5 arg6 arg7 arg8 arg9 arg10 arg11 arg12 arg13 arg14 arg15 arg16 arg17 I arg1 v12 v14 v16 v18 _

theorem rest1_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (S : St F) :
    Own c arg2 arg5 arg6 arg7 arg11 arg12 arg13 arg14 arg15 arg16 arg17 I S ⊢ wp frame (wpE (defs₀ (F := F)) Variants.none (c : Thread nD τ) none) Set.univ
      (rest1 i arg2 arg3 arg4 arg5 arg6 arg7 arg8 arg9 arg10 arg11 arg12 arg13 arg14 arg15 arg16 arg17 arg1 v12 v14 v16 v18)
      (fun a => iprop(⌜a = keyS (if4S i I arg1 v12 v14 v16 v18 (if3S i I arg1 v12 v14 v16 v18 (if2S i I arg1 v12 v14 v16 v18 (if1S i I arg1 v12 v14 v16 v18 S))))⌝ ∗ Own c arg2 arg5 arg6 arg7 arg11 arg12 arg13 arg14 arg15 arg16 arg17 I (if4S i I arg1 v12 v14 v16 v18 (if3S i I arg1 v12 v14 v16 v18 (if2S i I arg1 v12 v14 v16 v18 (if1S i I arg1 v12 v14 v16 v18 S)))))) := by
  unfold rest1
  exact seqif (p := fun h => tail1 i arg2 arg3 arg4 arg5 arg6 arg7 arg8 arg9 arg10 arg11 arg12 arg13 arg14 arg15 arg16 arg17 arg1 v12 v14 v16 v18 h) (q := fun _ => rest2 i arg2 arg3 arg4 arg5 arg6 arg7 arg8 arg9 arg10 arg11 arg12 arg13 arg14 arg15 arg16 arg17 arg1 v12 v14 v16 v18)
    (if1_wp c i arg2 arg3 arg4 arg5 arg6 arg7 arg8 arg9 arg10 arg11 arg12 arg13 arg14 arg15 arg16 arg17 I arg1 v12 v14 v16 v18 S) fun _ => rest2_wp c i arg2 arg3 arg4 arg5 arg6 arg7 arg8 arg9 arg10 arg11 arg12 arg13 arg14 arg15 arg16 arg17 I arg1 v12 v14 v16 v18 _

theorem sweep_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v12 : FVec F S384x256 .bf16) (v14 : FVec F S384x256 .bf16) (v16 : FVec F S384x128 .bf16) (v18 : FVec F S384x128 .bf16) (S : St F) :
    Own c arg2 arg5 arg6 arg7 arg11 arg12 arg13 arg14 arg15 arg16 arg17 I S ⊢ wp frame (wpE (defs₀ (F := F)) Variants.none (c : Thread nD τ) none) Set.univ
      (sweep i arg2 arg3 arg4 arg5 arg6 arg7 arg8 arg9 arg10 arg11 arg12 arg13 arg14 arg15 arg16 arg17 arg1 v12 v14 v16 v18)
      (fun a => iprop(⌜a = keyS (sweepS i I arg1 v12 v14 v16 v18 S)⌝ ∗ Own c arg2 arg5 arg6 arg7 arg11 arg12 arg13 arg14 arg15 arg16 arg17 I (sweepS i I arg1 v12 v14 v16 v18 S))) := by
  unfold sweep
  refine seq (loop_wp c i arg2 arg3 arg4 arg5 arg6 arg7 arg8 arg9 arg10 arg11 arg12 arg13 arg14 arg15 arg16 arg17 I arg1 v12 v14 v16 v18 S) fun _ => ?_
  refine seq (loop2_wp c i arg2 arg3 arg4 arg5 arg6 arg7 arg8 arg9 arg10 arg11 arg12 arg13 arg14 arg15 arg16 arg17 I arg1 v12 v14 v16 v18 _) fun _ => ?_
  exact rest1_wp c i arg2 arg3 arg4 arg5 arg6 arg7 arg8 arg9 arg10 arg11 arg12 arg13 arg14 arg15 arg16 arg17 I arg1 v12 v14 v16 v18 _

end Cert.AttnKernelIdeal.Step

end
-- ==== Proof.AttnBody.lean ====
/- The attention's backward call, its body. -/
module

public import proofs.«01_k».proof.Proof.AttnTrip

@[expose] public section

set_option maxRecDepth 16384

noncomputable section

namespace Cert.AttnKernelIdeal.Step

open Cert.AttnKernelIdeal Cert.AttnKernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem cov9 (y : S384x512.Idx) (hy : ∀ x, (Rect.unit (s := S384x512) ![0, 256] S384x256.size inb_S384x512_S384x256_0_256).emb x ≠ y) :
    ∃ x, (Rect.unit (s := S384x512) ![0, 0] S384x256.size inb_S384x512_S384x256_0_0).emb x = y := by
  rcases Nat.lt_or_ge (y 1).val 256 with h | h
  · exact LoadRect.exists_idx_of_mem ((Rect.unit (s := S384x512) ![0, 0] S384x256.size inb_S384x512_S384x256_0_0)).toLoadRect (Rect.mem_set_unit.mpr fun z => by
      match z with
      | 0 => exact ⟨Nat.zero_le _, lt_of_lt_of_eq (y 0).isLt rfl⟩
      | 1 => exact ⟨Nat.zero_le _, lt_of_lt_of_eq h rfl⟩)
  · obtain ⟨x, hx⟩ := LoadRect.exists_idx_of_mem ((Rect.unit (s := S384x512) ![0, 256] S384x256.size inb_S384x512_S384x256_0_256)).toLoadRect (i := y) (Rect.mem_set_unit.mpr fun z => by
      match z with
      | 0 => exact ⟨Nat.zero_le _, lt_of_lt_of_eq (y 0).isLt rfl⟩
      | 1 => exact ⟨h, lt_of_lt_of_eq (y 1).isLt rfl⟩)
    exact absurd hx (hy x)

theorem cov10 (y : S384x256.Idx) (hy : ∀ x, (Rect.unit (s := S384x256) ![0, 128] S384x128.size inb_S384x256_S384x128_0_128).emb x ≠ y) :
    ∃ x, (Rect.unit (s := S384x256) ![0, 0] S384x128.size inb_S384x256_S384x128_0_0).emb x = y := by
  rcases Nat.lt_or_ge (y 1).val 128 with h | h
  · exact LoadRect.exists_idx_of_mem ((Rect.unit (s := S384x256) ![0, 0] S384x128.size inb_S384x256_S384x128_0_0)).toLoadRect (Rect.mem_set_unit.mpr fun z => by
      match z with
      | 0 => exact ⟨Nat.zero_le _, lt_of_lt_of_eq (y 0).isLt rfl⟩
      | 1 => exact ⟨Nat.zero_le _, lt_of_lt_of_eq h rfl⟩)
  · obtain ⟨x, hx⟩ := LoadRect.exists_idx_of_mem ((Rect.unit (s := S384x256) ![0, 128] S384x128.size inb_S384x256_S384x128_0_128)).toLoadRect (i := y) (Rect.mem_set_unit.mpr fun z => by
      match z with
      | 0 => exact ⟨Nat.zero_le _, lt_of_lt_of_eq (y 0).isLt rfl⟩
      | 1 => exact ⟨h, lt_of_lt_of_eq (y 1).isLt rfl⟩)
    exact absurd hx (hy x)

theorem cov8 (y : S4224x512.Idx) (hy : ∀ x, (Rect.unit (s := S4224x512) ![0, 256] S4224x256.size inb_S4224x512_S4224x256_0_256).emb x ≠ y) :
    ∃ x, (Rect.unit (s := S4224x512) ![0, 0] S4224x256.size inb_S4224x512_S4224x256_0_0).emb x = y := by
  rcases Nat.lt_or_ge (y 1).val 256 with h | h
  · exact LoadRect.exists_idx_of_mem ((Rect.unit (s := S4224x512) ![0, 0] S4224x256.size inb_S4224x512_S4224x256_0_0)).toLoadRect (Rect.mem_set_unit.mpr fun z => by
      match z with
      | 0 => exact ⟨Nat.zero_le _, lt_of_lt_of_eq (y 0).isLt rfl⟩
      | 1 => exact ⟨Nat.zero_le _, lt_of_lt_of_eq h rfl⟩)
  · obtain ⟨x, hx⟩ := LoadRect.exists_idx_of_mem ((Rect.unit (s := S4224x512) ![0, 256] S4224x256.size inb_S4224x512_S4224x256_0_256)).toLoadRect (i := y) (Rect.mem_set_unit.mpr fun z => by
      match z with
      | 0 => exact ⟨Nat.zero_le _, lt_of_lt_of_eq (y 0).isLt rfl⟩
      | 1 => exact ⟨h, lt_of_lt_of_eq (y 1).isLt rfl⟩)
    exact absurd hx (hy x)

theorem covP (y : S2x384x384.Idx) (hy : ∀ x, (Rect.unit (s := S2x384x384) ![1, 0, 0] S1x384x384.size inb_S2x384x384_S1x384x384_1_0_0).emb x ≠ y) :
    ∃ x, (Rect.unit (s := S2x384x384) ![0, 0, 0] S1x384x384.size inb_S2x384x384_S1x384x384_0_0_0).emb x = y := by
  rcases Nat.lt_or_ge (y 0).val 1 with h | h
  · exact LoadRect.exists_idx_of_mem ((Rect.unit (s := S2x384x384) ![0, 0, 0] S1x384x384.size inb_S2x384x384_S1x384x384_0_0_0)).toLoadRect (Rect.mem_set_unit.mpr fun z => by
      match z with
      | 0 => exact ⟨Nat.zero_le _, lt_of_lt_of_eq h rfl⟩
      | 1 => exact ⟨Nat.zero_le _, lt_of_lt_of_eq (y 1).isLt rfl⟩
      | 2 => exact ⟨Nat.zero_le _, lt_of_lt_of_eq (y 2).isLt rfl⟩)
  · obtain ⟨x, hx⟩ := LoadRect.exists_idx_of_mem ((Rect.unit (s := S2x384x384) ![1, 0, 0] S1x384x384.size inb_S2x384x384_S1x384x384_1_0_0)).toLoadRect (i := y) (Rect.mem_set_unit.mpr fun z => by
      match z with
      | 0 => exact ⟨h, lt_of_lt_of_eq (y 0).isLt rfl⟩
      | 1 => exact ⟨Nat.zero_le _, lt_of_lt_of_eq (y 1).isLt rfl⟩
      | 2 => exact ⟨Nat.zero_le _, lt_of_lt_of_eq (y 2).isLt rfl⟩)
    exact absurd hx (hy x)

/-- The keys' cotangent the block leaves. -/
def out9 (S : St F) : Vec F S384x512 .bf16 := glue (Rect.unit (s := S384x512) ![0, 0] S384x256.size inb_S384x512_S384x256_0_0) (keyS S) (Rect.unit (s := S384x512) ![0, 256] S384x256.size inb_S384x512_S384x256_0_256) (k0_pay2 (sub S.dk (Rect.unit (s := S2x384x256) ![1, 0, 0] S1x384x256.size inb_S2x384x256_S1x384x256_1_0_0))) cov9

/-- The values' cotangent the block leaves. -/
def out10 (S : St F) : Vec F S384x256 .bf16 := glue (Rect.unit (s := S384x256) ![0, 0] S384x128.size inb_S384x256_S384x128_0_0) (k0_pay1 (sub S.dv (Rect.unit (s := S2x384x128) ![0, 0, 0] S1x384x128.size inb_S2x384x128_S1x384x128_0_0_0))) (Rect.unit (s := S384x256) ![0, 128] S384x128.size inb_S384x256_S384x128_0_128) (k0_pay3 (sub S.dv (Rect.unit (s := S2x384x128) ![1, 0, 0] S1x384x128.size inb_S2x384x128_S1x384x128_1_0_0))) cov10

/-- The queries' cotangent the pair leaves. -/
def out8 (S : St F) : Vec F S4224x512 .bf16 := glue (Rect.unit (s := S4224x512) ![0, 0] S4224x256.size inb_S4224x512_S4224x256_0_0) (k0_pay4 (sub S.dq (Rect.unit (s := S2x4224x256) ![0, 0, 0] S1x4224x256.size inb_S2x4224x256_S1x4224x256_0_0_0))) (Rect.unit (s := S4224x512) ![0, 256] S4224x256.size inb_S4224x512_S4224x256_0_256) (k0_pay5 (sub S.dq (Rect.unit (s := S2x4224x256) ![1, 0, 0] S1x4224x256.size inb_S2x4224x256_S1x4224x256_1_0_0))) cov8

/-- The keys and values of the block, as the products take them. -/
def keys (K : Vec F S384x512 .bf16) (V : Vec F S384x256 .bf16) (i : grid0.Coords) :
    Σ' (arg1 : BitVec 32) (v12 : FVec F S384x256 .bf16) (v14 : FVec F S384x256 .bf16) (v16 : FVec F S384x128 .bf16), FVec F S384x128 .bf16 :=
  ⟨BitVec.ofNat 32 (i 1).val, (k0_pay340 (sub K (Rect.unit (s := S384x512) ![0, 0] S384x256.size inb_S384x512_S384x256_0_0))), (k0_pay341 (sub K (Rect.unit (s := S384x512) ![0, 256] S384x256.size inb_S384x512_S384x256_0_256))), (k0_pay342 (sub V (Rect.unit (s := S384x256) ![0, 0] S384x128.size inb_S384x256_S384x128_0_0))), (k0_pay343 (sub V (Rect.unit (s := S384x256) ![0, 128] S384x128.size inb_S384x256_S384x128_0_128)))⟩

theorem start1_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (S : St F) (K : Vec F S384x512 .bf16) (V : Vec F S384x256 .bf16) :
    iprop(Own c arg2 arg5 arg6 arg7 arg11 arg12 arg13 arg14 arg15 arg16 arg17 I S ∗ owns (c : Thread nD τ) arg3 fullShare (K : Vec F S384x512 .bf16) ∗ owns (c : Thread nD τ) arg4 fullShare (V : Vec F S384x256 .bf16)) ⊢ wp frame (wpE (defs₀ (F := F)) Variants.none (c : Thread nD τ) none) Set.univ
      (start1 i arg2 arg3 arg4 arg5 arg6 arg7 arg8 arg9 arg10 arg11 arg12 arg13 arg14 arg15 arg16 arg17)
      (fun a => iprop(⌜a = keys K V i⌝ ∗ Own c arg2 arg5 arg6 arg7 arg11 arg12 arg13 arg14 arg15 arg16 arg17 I (putStA I (keys K V i).2.1 (k0_off1 i) (k0_off1_inb i) ![0, 0, 0] inb_S2x384x384_S1x384x384_0_0_0 S) ∗ owns (c : Thread nD τ) arg3 fullShare (K : Vec F S384x512 .bf16) ∗ owns (c : Thread nD τ) arg4 fullShare (V : Vec F S384x256 .bf16))) := by
  unfold start1 prodSt putStA
  unfold Own owns
  iintro ⟨⟨⟨%f2, %e2, H2⟩, ⟨%f5, %e5, H5⟩, ⟨%f6, %e6, H6⟩, ⟨%f7, %e7, H7⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩, ⟨%f3, %e3, H3⟩, ⟨%f4, %e4, H4⟩⟩
  sl_exec
  sl_step
  isplitr
  · ipureintro
    unfold keys
    rw [readAt_eq arg3.view, readAt_eq arg3.view, readAt_eq arg4.view, readAt_eq arg4.view, e3, e4]
  isplitl [H2 H5 H6 H7 H11 H12 H13 H14 H15 H16 H17]
  · isplitl [H2]
    · iexists _
      isplitr
      swap
      · iexact H2
      ipureintro
      exact e2
    isplitl [H5]
    · iexists _
      isplitr
      swap
      · iexact H5
      ipureintro
      exact e5
    isplitl [H6]
    · iexists _
      isplitr
      swap
      · iexact H6
      ipureintro
      exact e6
    isplitl [H7]
    · iexists _
      isplitr
      swap
      · iexact H7
      ipureintro
      exact e7
    isplitl [H11]
    · iexists _
      isplitr
      swap
      · iexact H11
      ipureintro
      exact e11
    isplitl [H12]
    · iexists _
      isplitr
      swap
      · iexact H12
      ipureintro
      exact e12
    isplitl [H13]
    · iexists _
      isplitr
      swap
      · iexact H13
      ipureintro
      exact e13
    isplitl [H14]
    · iexists _
      isplitr
      swap
      · iexact H14
      ipureintro
      refine (read_write_eq _ _ _ _).trans ?_
      rw [readAt_eq arg3.view, e3, readAt_eq arg2.view, e2, e14]
      rfl
    isplitl [H15]
    · iexists _
      isplitr
      swap
      · iexact H15
      ipureintro
      exact e15
    isplitl [H16]
    · iexists _
      isplitr
      swap
      · iexact H16
      ipureintro
      exact e16
    iexists _
    isplitr
    swap
    · iexact H17
    ipureintro
    exact e17
  isplitl [H3]
  · iexists _
    isplitr
    swap
    · iexact H3
    ipureintro
    exact e3
  iexists _
  isplitr
  swap
  · iexact H4
  ipureintro
  exact e4

/-- The buffers at the block of keys' start. -/
def startS (i : grid0.Coords) (I : In F) (K : Vec F S384x512 .bf16) (V : Vec F S384x256 .bf16) (S : St F) : St F :=
  putStA I (keys K V i).2.1 (k0_off1 i) (k0_off1_inb i) ![0, 0, 0] inb_S2x384x384_S1x384x384_0_0_0 (zero12 (if first i = 1#1 then zero11 S else S))

/-- And after the rest of the first block of rows' products. -/
def start2S (i : grid0.Coords) (I : In F) (v14 : FVec F S384x256 .bf16) (v16 v18 : FVec F S384x128 .bf16) (S : St F) : St F :=
  S |> putDpA I v16 (k0_off2 i) (k0_off2_inb i) ![0, 0, 0] inb_S2x384x384_S1x384x384_0_0_0
    |> putStA I v14 (k0_off3 i) (k0_off3_inb i) ![1, 0, 0] inb_S2x384x384_S1x384x384_1_0_0
    |> putDpA I v18 (k0_off4 i) (k0_off4_inb i) ![1, 0, 0] inb_S2x384x384_S1x384x384_1_0_0

theorem start2_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (arg1 : BitVec 32) (v14 : FVec F S384x256 .bf16)
    (v16 v18 : FVec F S384x128 .bf16) (S : St F) :
    Own c arg2 arg5 arg6 arg7 arg11 arg12 arg13 arg14 arg15 arg16 arg17 I S ⊢ wp frame (wpE (defs₀ (F := F)) Variants.none (c : Thread nD τ) none) Set.univ
      (start2 i arg2 arg3 arg4 arg5 arg6 arg7 arg8 arg9 arg10 arg11 arg12 arg13 arg14 arg15 arg16 arg17 arg1 v14 v16 v18)
      (fun _ => Own c arg2 arg5 arg6 arg7 arg11 arg12 arg13 arg14 arg15 arg16 arg17 I (start2S i I v14 v16 v18 S)) := by
  unfold start2 start2S
  refine seq (prodDp_A c arg2 arg5 arg6 arg7 arg11 arg12 arg13 arg14 arg15 arg16 arg17 I _ _ _ _ _ _) fun _ => ?_
  refine seq (prodSt_A c arg2 arg5 arg6 arg7 arg11 arg12 arg13 arg14 arg15 arg16 arg17 I _ _ _ _ _ _) fun _ => ?_
  exact prodDp_A c arg2 arg5 arg6 arg7 arg11 arg12 arg13 arg14 arg15 arg16 arg17 I _ _ _ _ _ _

/-- A step taken under a condition, then the rest. -/
theorem seqite {c : Dev nD} {β : Type} {A : sProp 𝕄} {B : sProp 𝕄} {C : β → sProp 𝕄} {cnd : Prop} [Decidable cnd]
    {p : Prog (TpuEff nD τ sig (Elt F) Λ₀ .tc) PUnit} {q : PUnit → Prog (TpuEff nD τ sig (Elt F) Λ₀ .tc) β}
    (hp : A ⊢ wp frame (wpE (defs₀ (F := F)) Variants.none (c : Thread nD τ) none) Set.univ
      (if cnd then p else pure ⟨⟩) (fun _ => B))
    (hq : ∀ x, B ⊢ wp frame (wpE (defs₀ (F := F)) Variants.none (c : Thread nD τ) none) Set.univ
      (q x) C) :
    A ⊢ wp frame (wpE (defs₀ (F := F)) Variants.none (c : Thread nD τ) none) Set.univ
      (if cnd then p >>= q else q ⟨⟩) C := by
  by_cases h : cnd
  · rw [if_pos h] at hp ⊢
    exact seq hp hq
  · rw [if_neg h] at hp ⊢
    exact seq (p := pure ⟨⟩) hp hq

theorem first_wp (c : Dev nD) (i : grid0.Coords) (arg2 : Memref sig .tc .vmem S4224x512 .bf16) (arg5 : Memref sig .tc .vmem S2x11x1x384 .f32) (arg6 : Memref sig .tc .vmem S2x11x1x384 .f32) (arg7 : Memref sig .tc .vmem S4224x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (S : St F) :
    Own c arg2 arg5 arg6 arg7 arg11 arg12 arg13 arg14 arg15 arg16 arg17 I S ⊢ wp frame (wpE (defs₀ (F := F)) Variants.none (c : Thread nD τ) none) Set.univ
      (if first i = 1#1 then init11 arg11 else pure ⟨⟩)
      (fun _ => Own c arg2 arg5 arg6 arg7 arg11 arg12 arg13 arg14 arg15 arg16 arg17 I (if first i = 1#1 then zero11 S else S)) := by
  by_cases h : first i = 1#1
  · rw [if_pos h, if_pos h]
    exact init11_wp c arg2 arg5 arg6 arg7 arg11 arg12 arg13 arg14 arg15 arg16 arg17 I S
  · rw [if_neg h, if_neg h]
    exact ret_wp _

attribute [local irreducible] first k0_cond6

theorem start_wp (c : Dev nD) (i : grid0.Coords) (arg2 : Memref sig .tc .vmem S4224x512 .bf16) (arg3 : Memref sig .tc .vmem S384x512 .bf16) (arg4 : Memref sig .tc .vmem S384x256 .bf16) (arg5 : Memref sig .tc .vmem S2x11x1x384 .f32) (arg6 : Memref sig .tc .vmem S2x11x1x384 .f32) (arg7 : Memref sig .tc .vmem S4224x256 .bf16) (arg8 : Memref sig .tc .vmem S4224x512 .bf16) (arg9 : Memref sig .tc .vmem S384x512 .bf16) (arg10 : Memref sig .tc .vmem S384x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (I : In F) (S : St F) (K : Vec F S384x512 .bf16) (V : Vec F S384x256 .bf16) :
    iprop(Own c arg2 arg5 arg6 arg7 arg11 arg12 arg13 arg14 arg15 arg16 arg17 I S ∗ owns (c : Thread nD τ) arg3 fullShare (K : Vec F S384x512 .bf16) ∗ owns (c : Thread nD τ) arg4 fullShare (V : Vec F S384x256 .bf16)) ⊢ wp frame (wpE (defs₀ (F := F)) Variants.none (c : Thread nD τ) none) Set.univ
      (start i arg2 arg3 arg4 arg5 arg6 arg7 arg8 arg9 arg10 arg11 arg12 arg13 arg14 arg15 arg16 arg17)
      (fun a => iprop(⌜a = keys K V i⌝ ∗ Own c arg2 arg5 arg6 arg7 arg11 arg12 arg13 arg14 arg15 arg16 arg17 I (startS i I K V S) ∗ owns (c : Thread nD τ) arg3 fullShare (K : Vec F S384x512 .bf16) ∗ owns (c : Thread nD τ) arg4 fullShare (V : Vec F S384x256 .bf16))) := by
  unfold start startS
  refine seqite (p := init11 arg11) (q := fun _ => init12 arg12 arg13 >>= fun _ => start1 i arg2 arg3 arg4 arg5 arg6 arg7 arg8 arg9 arg10 arg11 arg12 arg13 arg14 arg15 arg16 arg17)
    (beside (first_wp c i arg2 arg5 arg6 arg7 arg11 arg12 arg13 arg14 arg15 arg16 arg17 I S)) fun _ => ?_
  refine seq (beside (init12_wp c arg2 arg5 arg6 arg7 arg11 arg12 arg13 arg14 arg15 arg16 arg17 I _)) fun _ => ?_
  exact start1_wp c i arg2 arg3 arg4 arg5 arg6 arg7 arg8 arg9 arg10 arg11 arg12 arg13 arg14 arg15 arg16 arg17 I _ K V

theorem finish_wp (c : Dev nD) (arg2 : Memref sig .tc .vmem S4224x512 .bf16) (arg5 : Memref sig .tc .vmem S2x11x1x384 .f32) (arg6 : Memref sig .tc .vmem S2x11x1x384 .f32) (arg7 : Memref sig .tc .vmem S4224x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (arg9 : Memref sig .tc .vmem S384x512 .bf16) (harg9 : arg9.IsWhole)
    (arg10 : Memref sig .tc .vmem S384x256 .bf16) (harg10 : arg10.IsWhole) (I : In F) (S : St F)
    (x9 : Vec F S384x512 .bf16) (x10 : Vec F S384x256 .bf16) :
    iprop(Own c arg2 arg5 arg6 arg7 arg11 arg12 arg13 arg14 arg15 arg16 arg17 I S ∗ owns (c : Thread nD τ) arg9 fullShare (x9 : Vec F S384x512 .bf16) ∗ owns (c : Thread nD τ) arg10 fullShare (x10 : Vec F S384x256 .bf16)) ⊢ wp frame (wpE (defs₀ (F := F)) Variants.none (c : Thread nD τ) none) Set.univ
      (finish arg9 harg9 arg10 harg10 arg12 arg13 (keyS S))
      (fun _ => iprop(Own c arg2 arg5 arg6 arg7 arg11 arg12 arg13 arg14 arg15 arg16 arg17 I S ∗ owns (c : Thread nD τ) arg9 fullShare (out9 S : Vec F S384x512 .bf16)
        ∗ owns (c : Thread nD τ) arg10 fullShare (out10 S : Vec F S384x256 .bf16))) := by
  unfold finish
  unfold Own owns
  iintro ⟨⟨⟨%f2, %e2, H2⟩, ⟨%f5, %e5, H5⟩, ⟨%f6, %e6, H6⟩, ⟨%f7, %e7, H7⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩, ⟨%f9, %e9, H9⟩, ⟨%f10, %e10, H10⟩⟩
  sl_exec
  sl_step
  isplitl [H2 H5 H6 H7 H11 H12 H13 H14 H15 H16 H17]
  · isplitl [H2]
    · iexists _
      isplitr
      swap
      · iexact H2
      ipureintro
      exact e2
    isplitl [H5]
    · iexists _
      isplitr
      swap
      · iexact H5
      ipureintro
      exact e5
    isplitl [H6]
    · iexists _
      isplitr
      swap
      · iexact H6
      ipureintro
      exact e6
    isplitl [H7]
    · iexists _
      isplitr
      swap
      · iexact H7
      ipureintro
      exact e7
    isplitl [H11]
    · iexists _
      isplitr
      swap
      · iexact H11
      ipureintro
      exact e11
    isplitl [H12]
    · iexists _
      isplitr
      swap
      · iexact H12
      ipureintro
      exact e12
    isplitl [H13]
    · iexists _
      isplitr
      swap
      · iexact H13
      ipureintro
      exact e13
    isplitl [H14]
    · iexists _
      isplitr
      swap
      · iexact H14
      ipureintro
      exact e14
    isplitl [H15]
    · iexists _
      isplitr
      swap
      · iexact H15
      ipureintro
      exact e15
    isplitl [H16]
    · iexists _
      isplitr
      swap
      · iexact H16
      ipureintro
      exact e16
    iexists _
    isplitr
    swap
    · iexact H17
    ipureintro
    exact e17
  isplitl [H9]
  · iexists _
    isplitr
    swap
    · iexact H9
    ipureintro
    refine (read_write_eq2 _ _ _ _ _ _).trans ?_
    rw [readAt_eq arg12.view, e12, e9]
    exact upd_upd x9 _ _ _ _ cov9
  iexists _
  isplitr
  swap
  · iexact H10
  ipureintro
  refine (read_write_eq2 _ _ _ _ _ _).trans ?_
  rw [readAt_eq arg13.view, readAt_eq arg13.view, e13, e10]
  exact upd_upd x10 _ _ _ _ cov10

theorem finish8_wp (c : Dev nD) (arg2 : Memref sig .tc .vmem S4224x512 .bf16) (arg5 : Memref sig .tc .vmem S2x11x1x384 .f32) (arg6 : Memref sig .tc .vmem S2x11x1x384 .f32) (arg7 : Memref sig .tc .vmem S4224x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (arg8 : Memref sig .tc .vmem S4224x512 .bf16) (harg8 : arg8.IsWhole) (I : In F) (S : St F)
    (x8 : Vec F S4224x512 .bf16) :
    iprop(Own c arg2 arg5 arg6 arg7 arg11 arg12 arg13 arg14 arg15 arg16 arg17 I S ∗ owns (c : Thread nD τ) arg8 fullShare (x8 : Vec F S4224x512 .bf16)) ⊢ wp frame (wpE (defs₀ (F := F)) Variants.none (c : Thread nD τ) none) Set.univ
      (finish8 arg8 harg8 arg11)
      (fun _ => iprop(Own c arg2 arg5 arg6 arg7 arg11 arg12 arg13 arg14 arg15 arg16 arg17 I S ∗ owns (c : Thread nD τ) arg8 fullShare (out8 S : Vec F S4224x512 .bf16))) := by
  unfold finish8
  unfold Own owns
  iintro ⟨⟨⟨%f2, %e2, H2⟩, ⟨%f5, %e5, H5⟩, ⟨%f6, %e6, H6⟩, ⟨%f7, %e7, H7⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩, ⟨%f8, %e8, H8⟩⟩
  sl_exec
  sl_step
  isplitl [H2 H5 H6 H7 H11 H12 H13 H14 H15 H16 H17]
  · isplitl [H2]
    · iexists _
      isplitr
      swap
      · iexact H2
      ipureintro
      exact e2
    isplitl [H5]
    · iexists _
      isplitr
      swap
      · iexact H5
      ipureintro
      exact e5
    isplitl [H6]
    · iexists _
      isplitr
      swap
      · iexact H6
      ipureintro
      exact e6
    isplitl [H7]
    · iexists _
      isplitr
      swap
      · iexact H7
      ipureintro
      exact e7
    isplitl [H11]
    · iexists _
      isplitr
      swap
      · iexact H11
      ipureintro
      exact e11
    isplitl [H12]
    · iexists _
      isplitr
      swap
      · iexact H12
      ipureintro
      exact e12
    isplitl [H13]
    · iexists _
      isplitr
      swap
      · iexact H13
      ipureintro
      exact e13
    isplitl [H14]
    · iexists _
      isplitr
      swap
      · iexact H14
      ipureintro
      exact e14
    isplitl [H15]
    · iexists _
      isplitr
      swap
      · iexact H15
      ipureintro
      exact e15
    isplitl [H16]
    · iexists _
      isplitr
      swap
      · iexact H16
      ipureintro
      exact e16
    iexists _
    isplitr
    swap
    · iexact H17
    ipureintro
    exact e17
  iexists _
  isplitr
  swap
  · iexact H8
  ipureintro
  refine (read_write_eq2 _ _ _ _ _ _).trans ?_
  rw [readAt_eq arg11.view, readAt_eq arg11.view, e11, e8]
  exact upd_upd x8 _ _ _ _ cov8

theorem last_wp (c : Dev nD) (i : grid0.Coords) (arg2 : Memref sig .tc .vmem S4224x512 .bf16) (arg5 : Memref sig .tc .vmem S2x11x1x384 .f32) (arg6 : Memref sig .tc .vmem S2x11x1x384 .f32) (arg7 : Memref sig .tc .vmem S4224x256 .bf16) (arg11 : Memref sig .tc .vmem S2x4224x256 .f32) (arg12 : Memref sig .tc .vmem S2x384x256 .f32) (arg13 : Memref sig .tc .vmem S2x384x128 .f32) (arg14 : Memref sig .tc .vmem S2x384x384 .f32) (arg15 : Memref sig .tc .vmem S2x384x384 .f32) (arg16 : Memref sig .tc .vmem S2x384x384 .f32) (arg17 : Memref sig .tc .vmem S2x384x384 .f32) (arg8 : Memref sig .tc .vmem S4224x512 .bf16) (harg8 : arg8.IsWhole) (I : In F) (S : St F)
    (x8 : Vec F S4224x512 .bf16) :
    iprop(Own c arg2 arg5 arg6 arg7 arg11 arg12 arg13 arg14 arg15 arg16 arg17 I S ∗ owns (c : Thread nD τ) arg8 fullShare (x8 : Vec F S4224x512 .bf16)) ⊢ wp frame (wpE (defs₀ (F := F)) Variants.none (c : Thread nD τ) none) Set.univ
      (if k0_cond6 i = 1#1 then finish8 arg8 harg8 arg11 else pure ⟨⟩)
      (fun _ => iprop(Own c arg2 arg5 arg6 arg7 arg11 arg12 arg13 arg14 arg15 arg16 arg17 I S ∗ owns (c : Thread nD τ) arg8 fullShare (if k0_cond6 i = 1#1 then out8 S else x8 : Vec F S4224x512 .bf16))) := by
  by_cases h : k0_cond6 i = 1#1
  · rw [if_pos h, if_pos h]
    exact finish8_wp c arg2 arg5 arg6 arg7 arg11 arg12 arg13 arg14 arg15 arg16 arg17 arg8 harg8 I S x8
  · rw [if_neg h, if_neg h]
    exact ret_wp _

theorem swap1 {A K X Y : sProp 𝕄} : iprop((A ∗ K) ∗ (X ∗ Y)) ⊢ iprop((A ∗ X) ∗ (K ∗ Y)) := by
  iintro ⟨⟨H, HK⟩, ⟨HX, HY⟩⟩
  isplitl [H HX]
  · isplitl [H]
    · iexact H
    · iexact HX
  · isplitl [HK]
    · iexact HK
    · iexact HY

theorem swap2 {A K X Y : sProp 𝕄} : iprop((A ∗ X) ∗ (K ∗ Y)) ⊢ iprop((A ∗ Y) ∗ (K ∗ X)) := by
  iintro ⟨⟨H, HX⟩, ⟨HK, HY⟩⟩
  isplitl [H HY]
  · isplitl [H]
    · iexact H
    · iexact HY
  · isplitl [HK]
    · iexact HK
    · iexact HX

theorem swap3 {A K X Y : sProp 𝕄} : iprop((A ∗ Y) ∗ (K ∗ X)) ⊢ iprop((A ∗ K) ∗ (X ∗ Y)) := by
  iintro ⟨⟨H, HY⟩, ⟨HK, HX⟩⟩
  isplitl [H HK]
  · isplitl [H]
    · iexact H
    · iexact HK
  · isplitl [HX]
    · iexact HX
    · iexact HY

theorem ending_wp (c : Dev nD) (i : grid0.Coords) (arg2 : Memref sig .tc .vmem S4224x512 .bf16) (harg2 : arg2.IsWhole) (arg3 : Memref sig .tc .vmem S384x512 .bf16) (harg3 : arg3.IsWhole) (arg4 : Memref sig .tc .vmem S384x256 .bf16) (harg4 : arg4.IsWhole) (arg5 : Memref sig .tc .vmem S2x11x1x384 .f32) (harg5 : arg5.IsWhole) (arg6 : Memref sig .tc .vmem S2x11x1x384 .f32) (harg6 : arg6.IsWhole) (arg7 : Memref sig .tc .vmem S4224x256 .bf16) (harg7 : arg7.IsWhole) (arg8 : Memref sig .tc .vmem S4224x512 .bf16) (harg8 : arg8.IsWhole) (arg9 : Memref sig .tc .vmem S384x512 .bf16) (harg9 : arg9.IsWhole) (arg10 : Memref sig .tc .vmem S384x256 .bf16) (harg10 : arg10.IsWhole) (arg11 : Memref sig .tc .vmem S2x4224x256 .f32) (harg11 : arg11.IsWhole) (arg12 : Memref sig .tc .vmem S2x384x256 .f32) (harg12 : arg12.IsWhole) (arg13 : Memref sig .tc .vmem S2x384x128 .f32) (harg13 : arg13.IsWhole) (arg14 : Memref sig .tc .vmem S2x384x384 .f32) (harg14 : arg14.IsWhole) (arg15 : Memref sig .tc .vmem S2x384x384 .f32) (harg15 : arg15.IsWhole) (arg16 : Memref sig .tc .vmem S2x384x384 .f32) (harg16 : arg16.IsWhole) (arg17 : Memref sig .tc .vmem S2x384x384 .f32) (harg17 : arg17.IsWhole) (I : In F) (S : St F) {R : sProp 𝕄}
    (x8 : Vec F S4224x512 .bf16) (x9 : Vec F S384x512 .bf16) (x10 : Vec F S384x256 .bf16) :
    iprop((Own c arg2 arg5 arg6 arg7 arg11 arg12 arg13 arg14 arg15 arg16 arg17 I S ∗ R) ∗ ((owns (c : Thread nD τ) arg9 fullShare (x9 : Vec F S384x512 .bf16) ∗ owns (c : Thread nD τ) arg10 fullShare (x10 : Vec F S384x256 .bf16)) ∗ owns (c : Thread nD τ) arg8 fullShare (x8 : Vec F S4224x512 .bf16))) ⊢
      wp frame (wpE (defs₀ (F := F)) Variants.none (c : Thread nD τ) none) Set.univ
      (ending i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (keyS S))
      (fun _ => iprop((Own c arg2 arg5 arg6 arg7 arg11 arg12 arg13 arg14 arg15 arg16 arg17 I S ∗ R) ∗ (owns (c : Thread nD τ) arg9 fullShare (out9 S : Vec F S384x512 .bf16) ∗ owns (c : Thread nD τ) arg10 fullShare (out10 S : Vec F S384x256 .bf16)) ∗ owns (c : Thread nD τ) arg8 fullShare (if k0_cond6 i = 1#1 then out8 S else x8 : Vec F S4224x512 .bf16))) := by
  unfold ending
  refine swap1.trans (seq (beside (finish_wp c arg2 arg5 arg6 arg7 arg11 arg12 arg13 arg14 arg15 arg16 arg17 arg9 harg9 arg10 harg10 I S x9 x10)) fun _ => ?_)
  refine swap2.trans ?_
  dsimp only
  exact seqite (β := PUnit) (p := finish8 arg8 harg8 arg11) (q := fun _ => pure PUnit.unit) (beside (last_wp c i arg2 arg5 arg6 arg7 arg11 arg12 arg13 arg14 arg15 arg16 arg17 arg8 harg8 I S x8)) fun _ =>
    swap3.trans (ret_wp _)

/-- The buffers after the start, at the end. -/
def afterS (i : grid0.Coords) (I : In F) (arg1 : BitVec 32) (v12 : FVec F S384x256 .bf16) (v14 : FVec F S384x256 .bf16) (v16 : FVec F S384x128 .bf16) (v18 : FVec F S384x128 .bf16) (S : St F) : St F :=
  sweepS i I arg1 v12 v14 v16 v18 (start2S i I v14 v16 v18 S)

theorem after_wp (c : Dev nD) (i : grid0.Coords) (arg2 : Memref sig .tc .vmem S4224x512 .bf16) (harg2 : arg2.IsWhole) (arg3 : Memref sig .tc .vmem S384x512 .bf16) (harg3 : arg3.IsWhole) (arg4 : Memref sig .tc .vmem S384x256 .bf16) (harg4 : arg4.IsWhole) (arg5 : Memref sig .tc .vmem S2x11x1x384 .f32) (harg5 : arg5.IsWhole) (arg6 : Memref sig .tc .vmem S2x11x1x384 .f32) (harg6 : arg6.IsWhole) (arg7 : Memref sig .tc .vmem S4224x256 .bf16) (harg7 : arg7.IsWhole) (arg8 : Memref sig .tc .vmem S4224x512 .bf16) (harg8 : arg8.IsWhole) (arg9 : Memref sig .tc .vmem S384x512 .bf16) (harg9 : arg9.IsWhole) (arg10 : Memref sig .tc .vmem S384x256 .bf16) (harg10 : arg10.IsWhole) (arg11 : Memref sig .tc .vmem S2x4224x256 .f32) (harg11 : arg11.IsWhole) (arg12 : Memref sig .tc .vmem S2x384x256 .f32) (harg12 : arg12.IsWhole) (arg13 : Memref sig .tc .vmem S2x384x128 .f32) (harg13 : arg13.IsWhole) (arg14 : Memref sig .tc .vmem S2x384x384 .f32) (harg14 : arg14.IsWhole) (arg15 : Memref sig .tc .vmem S2x384x384 .f32) (harg15 : arg15.IsWhole) (arg16 : Memref sig .tc .vmem S2x384x384 .f32) (harg16 : arg16.IsWhole) (arg17 : Memref sig .tc .vmem S2x384x384 .f32) (harg17 : arg17.IsWhole) (I : In F) (arg1 : BitVec 32) (v12 : FVec F S384x256 .bf16) (v14 : FVec F S384x256 .bf16) (v16 : FVec F S384x128 .bf16) (v18 : FVec F S384x128 .bf16) (S : St F) {R : sProp 𝕄}
    (x8 : Vec F S4224x512 .bf16) (x9 : Vec F S384x512 .bf16) (x10 : Vec F S384x256 .bf16) :
    iprop((Own c arg2 arg5 arg6 arg7 arg11 arg12 arg13 arg14 arg15 arg16 arg17 I S ∗ R) ∗ ((owns (c : Thread nD τ) arg9 fullShare (x9 : Vec F S384x512 .bf16) ∗ owns (c : Thread nD τ) arg10 fullShare (x10 : Vec F S384x256 .bf16)) ∗ owns (c : Thread nD τ) arg8 fullShare (x8 : Vec F S4224x512 .bf16))) ⊢
      wp frame (wpE (defs₀ (F := F)) Variants.none (c : Thread nD τ) none) Set.univ
      (after i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v12 v14 v16 v18)
      (fun _ => iprop((Own c arg2 arg5 arg6 arg7 arg11 arg12 arg13 arg14 arg15 arg16 arg17 I (afterS i I arg1 v12 v14 v16 v18 S) ∗ R) ∗ (owns (c : Thread nD τ) arg9 fullShare (out9 (afterS i I arg1 v12 v14 v16 v18 S) : Vec F S384x512 .bf16) ∗ owns (c : Thread nD τ) arg10 fullShare (out10 (afterS i I arg1 v12 v14 v16 v18 S) : Vec F S384x256 .bf16))
        ∗ owns (c : Thread nD τ) arg8 fullShare (if k0_cond6 i = 1#1 then out8 (afterS i I arg1 v12 v14 v16 v18 S) else x8 : Vec F S4224x512 .bf16))) := by
  unfold after
  refine seq (beside (beside (start2_wp c i arg2 arg3 arg4 arg5 arg6 arg7 arg8 arg9 arg10 arg11 arg12 arg13 arg14 arg15 arg16 arg17 I arg1 v14 v16 v18 S))) fun _ => ?_
  refine seqv (keyS (afterS i I arg1 v12 v14 v16 v18 S)) ((sep_mono_l ((sep_mono_l (sweep_wp c i arg2 arg3 arg4 arg5 arg6 arg7 arg8 arg9 arg10 arg11 arg12 arg13 arg14 arg15 arg16 arg17 I arg1 v12 v14 v16 v18 _)).trans
    ((wp_frame_r _ _ _).trans (wp_mono _ _ _ fun a => sep_assoc.1)))).trans
    ((wp_frame_r _ _ _).trans (wp_mono _ _ _ fun a => sep_assoc.1))) ?_
  exact ending_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I (afterS i I arg1 v12 v14 v16 v18 S) x8 x9 x10

/-- The buffers the body leaves. -/
def bodyS (i : grid0.Coords) (I : In F) (K : Vec F S384x512 .bf16) (V : Vec F S384x256 .bf16) (S : St F) : St F :=
  afterS i I (keys K V i).1 (keys K V i).2.1 (keys K V i).2.2.1 (keys K V i).2.2.2.1 (keys K V i).2.2.2.2 (startS i I K V S)

/-- What the body reads and leaves. -/
theorem body_wp (c : Dev nD) (i : grid0.Coords) (arg2 : Memref sig .tc .vmem S4224x512 .bf16) (harg2 : arg2.IsWhole) (arg3 : Memref sig .tc .vmem S384x512 .bf16) (harg3 : arg3.IsWhole) (arg4 : Memref sig .tc .vmem S384x256 .bf16) (harg4 : arg4.IsWhole) (arg5 : Memref sig .tc .vmem S2x11x1x384 .f32) (harg5 : arg5.IsWhole) (arg6 : Memref sig .tc .vmem S2x11x1x384 .f32) (harg6 : arg6.IsWhole) (arg7 : Memref sig .tc .vmem S4224x256 .bf16) (harg7 : arg7.IsWhole) (arg8 : Memref sig .tc .vmem S4224x512 .bf16) (harg8 : arg8.IsWhole) (arg9 : Memref sig .tc .vmem S384x512 .bf16) (harg9 : arg9.IsWhole) (arg10 : Memref sig .tc .vmem S384x256 .bf16) (harg10 : arg10.IsWhole) (arg11 : Memref sig .tc .vmem S2x4224x256 .f32) (harg11 : arg11.IsWhole) (arg12 : Memref sig .tc .vmem S2x384x256 .f32) (harg12 : arg12.IsWhole) (arg13 : Memref sig .tc .vmem S2x384x128 .f32) (harg13 : arg13.IsWhole) (arg14 : Memref sig .tc .vmem S2x384x384 .f32) (harg14 : arg14.IsWhole) (arg15 : Memref sig .tc .vmem S2x384x384 .f32) (harg15 : arg15.IsWhole) (arg16 : Memref sig .tc .vmem S2x384x384 .f32) (harg16 : arg16.IsWhole) (arg17 : Memref sig .tc .vmem S2x384x384 .f32) (harg17 : arg17.IsWhole) (I : In F) (S : St F) (K : Vec F S384x512 .bf16) (V : Vec F S384x256 .bf16)
    (x8 : Vec F S4224x512 .bf16) (x9 : Vec F S384x512 .bf16) (x10 : Vec F S384x256 .bf16) :
    iprop((Own c arg2 arg5 arg6 arg7 arg11 arg12 arg13 arg14 arg15 arg16 arg17 I S ∗ owns (c : Thread nD τ) arg3 fullShare (K : Vec F S384x512 .bf16) ∗ owns (c : Thread nD τ) arg4 fullShare (V : Vec F S384x256 .bf16)) ∗ (owns (c : Thread nD τ) arg9 fullShare (x9 : Vec F S384x512 .bf16) ∗ owns (c : Thread nD τ) arg10 fullShare (x10 : Vec F S384x256 .bf16)) ∗ owns (c : Thread nD τ) arg8 fullShare (x8 : Vec F S4224x512 .bf16)) ⊢
      wp frame (wpE (defs₀ (F := F)) Variants.none (c : Thread nD τ) none) Set.univ
      (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun _ => iprop((Own c arg2 arg5 arg6 arg7 arg11 arg12 arg13 arg14 arg15 arg16 arg17 I (bodyS i I K V S) ∗ owns (c : Thread nD τ) arg3 fullShare (K : Vec F S384x512 .bf16) ∗ owns (c : Thread nD τ) arg4 fullShare (V : Vec F S384x256 .bf16)) ∗ (owns (c : Thread nD τ) arg9 fullShare (out9 (bodyS i I K V S) : Vec F S384x512 .bf16) ∗ owns (c : Thread nD τ) arg10 fullShare (out10 (bodyS i I K V S) : Vec F S384x256 .bf16)) ∗ owns (c : Thread nD τ) arg8 fullShare (if k0_cond6 i = 1#1 then out8 (bodyS i I K V S) else x8 : Vec F S4224x512 .bf16))) := by
  unfold body
  refine seqv (keys K V i) ?_ ?_ (B := iprop((Own c arg2 arg5 arg6 arg7 arg11 arg12 arg13 arg14 arg15 arg16 arg17 I (startS i I K V S) ∗ (owns (c : Thread nD τ) arg3 fullShare (K : Vec F S384x512 .bf16) ∗ owns (c : Thread nD τ) arg4 fullShare (V : Vec F S384x256 .bf16))) ∗ ((owns (c : Thread nD τ) arg9 fullShare (x9 : Vec F S384x512 .bf16) ∗ owns (c : Thread nD τ) arg10 fullShare (x10 : Vec F S384x256 .bf16)) ∗ owns (c : Thread nD τ) arg8 fullShare (x8 : Vec F S4224x512 .bf16))))
  · exact (sep_mono_l (start_wp c i arg2 arg3 arg4 arg5 arg6 arg7 arg8 arg9 arg10 arg11 arg12 arg13 arg14 arg15 arg16 arg17 I S K V)).trans ((wp_frame_r _ _ _).trans (wp_mono _ _ _ fun a => sep_assoc.1))
  · exact after_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I (keys K V i).1 (keys K V i).2.1 (keys K V i).2.2.1 (keys K V i).2.2.2.1 (keys K V i).2.2.2.2 (startS i I K V S) x8 x9 x10

end Cert.AttnKernelIdeal.Step

end
-- ==== Proof.AttnAcc.lean ====
/- The accumulators of the attention's backward call, block of rows by block of rows. -/
module

public import proofs.«01_k».proof.Proof.AttnBody

@[expose] public section

set_option maxRecDepth 16384

noncomputable section

namespace Cert.AttnKernelIdeal.Step

open Cert.AttnKernelIdeal Cert.AttnKernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The rectangles of block `n` -/

theorem inbQ : ∀ (n : Fin 11) (h : Fin 2) (a : Fin 2), (![384 * n.val, 256 * h.val] : Fin 2 → ℕ) a + S384x256.size a ≤ S4224x512.size a := by decide +kernel
theorem inbO : ∀ (n : Fin 11) (h : Fin 2) (a : Fin 2), (![384 * n.val, 128 * h.val] : Fin 2 → ℕ) a + S384x128.size a ≤ S4224x256.size a := by decide +kernel
theorem inbL : ∀ (n : Fin 11) (h : Fin 2) (a : Fin 4), (![h.val, n.val, 0, 0] : Fin 4 → ℕ) a + S1x1x1x384.size a ≤ S2x11x1x384.size a := by decide +kernel
theorem inbD : ∀ (n : Fin 11) (h : Fin 2) (a : Fin 3), (![h.val, 384 * n.val, 0] : Fin 3 → ℕ) a + S1x384x256.size a ≤ S2x4224x256.size a := by decide +kernel

/-- The block's rows of one head's queries. -/
abbrev rQ (n : Fin 11) (h : Fin 2) : Rect S4224x512 := Rect.unit ![384 * n.val, 256 * h.val] S384x256.size (inbQ n h)
/-- And of its output's cotangent. -/
abbrev rO (n : Fin 11) (h : Fin 2) : Rect S4224x256 := Rect.unit ![384 * n.val, 128 * h.val] S384x128.size (inbO n h)

/-- One head of the two products' buffers. -/
abbrev rP0 : Rect S2x384x384 := Rect.unit ![0, 0, 0] S1x384x384.size inb_S2x384x384_S1x384x384_0_0_0
abbrev rP1 : Rect S2x384x384 := Rect.unit ![1, 0, 0] S1x384x384.size inb_S2x384x384_S1x384x384_1_0_0

/-- The scores of block `n`, both heads. -/
def stOf (I : In F) (v12 v14 : FVec F S384x256 .bf16) (n : Fin 11) : Vec F S2x384x384 .f32 :=
  glue rP0 (k0_pay6 v12 (sub I.q (rQ n 0))) rP1 (k0_pay6 v14 (sub I.q (rQ n 1))) covP

/-- The cotangents of the probabilities of block `n`, both heads. -/
def dpOf (I : In F) (v16 v18 : FVec F S384x128 .bf16) (n : Fin 11) : Vec F S2x384x384 .f32 :=
  glue rP0 (k0_pay7 v16 (sub I.dO (rO n 0))) rP1 (k0_pay7 v18 (sub I.dO (rO n 1))) covP

/-- One head of a block added to the accumulators. -/
def head (I : In F) (arg1 : BitVec 32) (st dp : Vec F S2x384x384 .f32) (kk : FVec F S384x256 .bf16) (n : Fin 11) (h : Fin 2)
    (oh : Fin 3 → ℕ) (hh : ∀ a, oh a + S1x384x384.size a ≤ S2x384x384.size a)
    (h12 : ∀ a, oh a + S1x384x256.size a ≤ S2x384x256.size a) (h13 : ∀ a, oh a + S1x384x128.size a ≤ S2x384x128.size a)
    (S : St F) : St F :=
  cons I st dp arg1 (BitVec.ofNat 32 n.val) kk ![384 * n.val, 256 * h.val] (inbQ n h) ![384 * n.val, 128 * h.val] (inbO n h)
    ![h.val, n.val, 0, 0] (inbL n h) ![h.val, 384 * n.val, 0] (inbD n h) oh hh h12 h13 S

/-- Block `n` added to the accumulators. -/
def step (I : In F) (arg1 : BitVec 32) (v12 v14 : FVec F S384x256 .bf16) (v16 v18 : FVec F S384x128 .bf16) (n : Fin 11) (S : St F) : St F :=
  head I arg1 (stOf I v12 v14 n) (dpOf I v16 v18 n) v14 n 1 ![1, 0, 0] inb_S2x384x384_S1x384x384_1_0_0 inb_S2x384x256_S1x384x256_1_0_0 inb_S2x384x128_S1x384x128_1_0_0
    (head I arg1 (stOf I v12 v14 n) (dpOf I v16 v18 n) v12 n 0 ![0, 0, 0] inb_S2x384x384_S1x384x384_0_0_0 inb_S2x384x256_S1x384x256_0_0_0 inb_S2x384x128_S1x384x128_0_0_0 S)

/-- The accumulators alone: the products' buffers put aside. -/
def acc (S : St F) : St F :=
  { S with stA := fun _ => Scalar.ofBits .f32 0#32, dpA := fun _ => Scalar.ofBits .f32 0#32, stB := fun _ => Scalar.ofBits .f32 0#32, dpB := fun _ => Scalar.ofBits .f32 0#32 }

/-- The `m` blocks of rows from block `j` on, added to the accumulators. -/
def runs (I : In F) (arg1 : BitVec 32) (v12 v14 : FVec F S384x256 .bf16) (v16 v18 : FVec F S384x128 .bf16) (j : ℕ) (A : St F) : ℕ → St F
  | 0 => A
  | m + 1 => if h : j + m < 11 then step I arg1 v12 v14 v16 v18 ⟨j + m, h⟩ (runs I arg1 v12 v14 v16 v18 j A m) else runs I arg1 v12 v14 v16 v18 j A m

/-- The buffers with the given products, over given accumulators. -/
def withP (A : St F) (stA dpA stB dpB : Vec F S2x384x384 .f32) : St F := { A with stA := stA, dpA := dpA, stB := stB, dpB := dpB }

theorem acc_withP (A : St F) (a b c d : Vec F S2x384x384 .f32) : acc (withP A a b c d) = acc A := rfl

theorem withP_acc (S : St F) : withP (acc S) S.stA S.dpA S.stB S.dpB = S := rfl

theorem acc_acc (S : St F) : acc (acc S) = acc S := rfl

theorem step_withP (I : In F) (arg1 : BitVec 32) (v12 v14 : FVec F S384x256 .bf16) (v16 v18 : FVec F S384x128 .bf16) (n : Fin 11) (A : St F) (a b c d : Vec F S2x384x384 .f32) :
    step I arg1 v12 v14 v16 v18 n (withP A a b c d) = withP (step I arg1 v12 v14 v16 v18 n A) a b c d := rfl

theorem acc_step (I : In F) (arg1 : BitVec 32) (v12 v14 : FVec F S384x256 .bf16) (v16 v18 : FVec F S384x128 .bf16) (n : Fin 11) (A : St F) :
    acc (step I arg1 v12 v14 v16 v18 n A) = step I arg1 v12 v14 v16 v18 n (acc A) := rfl

/-! ## Four writes, and two heads -/

theorem puts_A (I : In F) (v12 v14 : FVec F S384x256 .bf16) (v16 v18 : FVec F S384x128 .bf16) (n : Fin 11)
    (o5 : Fin 2 → ℕ) (h5 : ∀ a, o5 a + S384x256.size a ≤ S4224x512.size a)
    (o6 : Fin 2 → ℕ) (h6 : ∀ a, o6 a + S384x128.size a ≤ S4224x256.size a)
    (o7 : Fin 2 → ℕ) (h7 : ∀ a, o7 a + S384x256.size a ≤ S4224x512.size a)
    (o8 : Fin 2 → ℕ) (h8 : ∀ a, o8 a + S384x128.size a ≤ S4224x256.size a)
    (e5 : o5 = ![384 * n.val, 256 * (0 : Fin 2).val]) (e6 : o6 = ![384 * n.val, 128 * (0 : Fin 2).val])
    (e7 : o7 = ![384 * n.val, 256 * (1 : Fin 2).val]) (e8 : o8 = ![384 * n.val, 128 * (1 : Fin 2).val])
    (A : St F) (a b c d : Vec F S2x384x384 .f32) :
    putDpA I v18 o8 h8 ![1, 0, 0] inb_S2x384x384_S1x384x384_1_0_0 (putStA I v14 o7 h7 ![1, 0, 0] inb_S2x384x384_S1x384x384_1_0_0
      (putDpA I v16 o6 h6 ![0, 0, 0] inb_S2x384x384_S1x384x384_0_0_0 (putStA I v12 o5 h5 ![0, 0, 0] inb_S2x384x384_S1x384x384_0_0_0 (withP A a b c d))))
      = withP A (stOf I v12 v14 n) (dpOf I v16 v18 n) c d := by
  subst e5 e6 e7 e8
  unfold putDpA putStA withP stOf dpOf
  dsimp only
  rw [upd_upd _ _ _ _ _ covP, upd_upd _ _ _ _ _ covP]

theorem two_A (I : In F) (arg1 w w' : BitVec 32) (v12 v14 : FVec F S384x256 .bf16) (v16 v18 : FVec F S384x128 .bf16) (n : Fin 11)
    (o2 : Fin 2 → ℕ) (h2 : ∀ a, o2 a + S384x256.size a ≤ S4224x512.size a)
    (o7 : Fin 2 → ℕ) (h7 : ∀ a, o7 a + S384x128.size a ≤ S4224x256.size a)
    (o5 : Fin 4 → ℕ) (h5 : ∀ a, o5 a + S1x1x1x384.size a ≤ S2x11x1x384.size a)
    (o11 : Fin 3 → ℕ) (h11 : ∀ a, o11 a + S1x384x256.size a ≤ S2x4224x256.size a)
    (p2 : Fin 2 → ℕ) (g2 : ∀ a, p2 a + S384x256.size a ≤ S4224x512.size a)
    (p7 : Fin 2 → ℕ) (g7 : ∀ a, p7 a + S384x128.size a ≤ S4224x256.size a)
    (p5 : Fin 4 → ℕ) (g5 : ∀ a, p5 a + S1x1x1x384.size a ≤ S2x11x1x384.size a)
    (p11 : Fin 3 → ℕ) (g11 : ∀ a, p11 a + S1x384x256.size a ≤ S2x4224x256.size a)
    (ew : w = BitVec.ofNat 32 n.val) (ew' : w' = BitVec.ofNat 32 n.val)
    (e2 : o2 = ![384 * n.val, 256 * (0 : Fin 2).val]) (e7 : o7 = ![384 * n.val, 128 * (0 : Fin 2).val])
    (e5 : o5 = ![(0 : Fin 2).val, n.val, 0, 0]) (e11 : o11 = ![(0 : Fin 2).val, 384 * n.val, 0])
    (f2 : p2 = ![384 * n.val, 256 * (1 : Fin 2).val]) (f7 : p7 = ![384 * n.val, 128 * (1 : Fin 2).val])
    (f5 : p5 = ![(1 : Fin 2).val, n.val, 0, 0]) (f11 : p11 = ![(1 : Fin 2).val, 384 * n.val, 0])
    (A : St F) (stB dpB : Vec F S2x384x384 .f32) :
    consA I arg1 w' v14 p2 g2 p7 g7 p5 g5 p11 g11 ![1, 0, 0] inb_S2x384x384_S1x384x384_1_0_0 inb_S2x384x256_S1x384x256_1_0_0 inb_S2x384x128_S1x384x128_1_0_0
      (consA I arg1 w v12 o2 h2 o7 h7 o5 h5 o11 h11 ![0, 0, 0] inb_S2x384x384_S1x384x384_0_0_0 inb_S2x384x256_S1x384x256_0_0_0 inb_S2x384x128_S1x384x128_0_0_0
        (withP A (stOf I v12 v14 n) (dpOf I v16 v18 n) stB dpB))
      = withP (step I arg1 v12 v14 v16 v18 n A) (stOf I v12 v14 n) (dpOf I v16 v18 n) stB dpB := by
  subst ew ew' e2 e7 e5 e11 f2 f7 f5 f11
  rfl

theorem puts_B (I : In F) (v12 v14 : FVec F S384x256 .bf16) (v16 v18 : FVec F S384x128 .bf16) (n : Fin 11)
    (o5 : Fin 2 → ℕ) (h5 : ∀ a, o5 a + S384x256.size a ≤ S4224x512.size a)
    (o6 : Fin 2 → ℕ) (h6 : ∀ a, o6 a + S384x128.size a ≤ S4224x256.size a)
    (o7 : Fin 2 → ℕ) (h7 : ∀ a, o7 a + S384x256.size a ≤ S4224x512.size a)
    (o8 : Fin 2 → ℕ) (h8 : ∀ a, o8 a + S384x128.size a ≤ S4224x256.size a)
    (e5 : o5 = ![384 * n.val, 256 * (0 : Fin 2).val]) (e6 : o6 = ![384 * n.val, 128 * (0 : Fin 2).val])
    (e7 : o7 = ![384 * n.val, 256 * (1 : Fin 2).val]) (e8 : o8 = ![384 * n.val, 128 * (1 : Fin 2).val])
    (A : St F) (a b c d : Vec F S2x384x384 .f32) :
    putDpB I v18 o8 h8 ![1, 0, 0] inb_S2x384x384_S1x384x384_1_0_0 (putStB I v14 o7 h7 ![1, 0, 0] inb_S2x384x384_S1x384x384_1_0_0
      (putDpB I v16 o6 h6 ![0, 0, 0] inb_S2x384x384_S1x384x384_0_0_0 (putStB I v12 o5 h5 ![0, 0, 0] inb_S2x384x384_S1x384x384_0_0_0 (withP A a b c d))))
      = withP A a b (stOf I v12 v14 n) (dpOf I v16 v18 n) := by
  subst e5 e6 e7 e8
  unfold putDpB putStB withP stOf dpOf
  dsimp only
  rw [upd_upd _ _ _ _ _ covP, upd_upd _ _ _ _ _ covP]

theorem two_B (I : In F) (arg1 w w' : BitVec 32) (v12 v14 : FVec F S384x256 .bf16) (v16 v18 : FVec F S384x128 .bf16) (n : Fin 11)
    (o2 : Fin 2 → ℕ) (h2 : ∀ a, o2 a + S384x256.size a ≤ S4224x512.size a)
    (o7 : Fin 2 → ℕ) (h7 : ∀ a, o7 a + S384x128.size a ≤ S4224x256.size a)
    (o5 : Fin 4 → ℕ) (h5 : ∀ a, o5 a + S1x1x1x384.size a ≤ S2x11x1x384.size a)
    (o11 : Fin 3 → ℕ) (h11 : ∀ a, o11 a + S1x384x256.size a ≤ S2x4224x256.size a)
    (p2 : Fin 2 → ℕ) (g2 : ∀ a, p2 a + S384x256.size a ≤ S4224x512.size a)
    (p7 : Fin 2 → ℕ) (g7 : ∀ a, p7 a + S384x128.size a ≤ S4224x256.size a)
    (p5 : Fin 4 → ℕ) (g5 : ∀ a, p5 a + S1x1x1x384.size a ≤ S2x11x1x384.size a)
    (p11 : Fin 3 → ℕ) (g11 : ∀ a, p11 a + S1x384x256.size a ≤ S2x4224x256.size a)
    (ew : w = BitVec.ofNat 32 n.val) (ew' : w' = BitVec.ofNat 32 n.val)
    (e2 : o2 = ![384 * n.val, 256 * (0 : Fin 2).val]) (e7 : o7 = ![384 * n.val, 128 * (0 : Fin 2).val])
    (e5 : o5 = ![(0 : Fin 2).val, n.val, 0, 0]) (e11 : o11 = ![(0 : Fin 2).val, 384 * n.val, 0])
    (f2 : p2 = ![384 * n.val, 256 * (1 : Fin 2).val]) (f7 : p7 = ![384 * n.val, 128 * (1 : Fin 2).val])
    (f5 : p5 = ![(1 : Fin 2).val, n.val, 0, 0]) (f11 : p11 = ![(1 : Fin 2).val, 384 * n.val, 0])
    (A : St F) (stA dpA : Vec F S2x384x384 .f32) :
    consB I arg1 w' v14 p2 g2 p7 g7 p5 g5 p11 g11 ![1, 0, 0] inb_S2x384x384_S1x384x384_1_0_0 inb_S2x384x256_S1x384x256_1_0_0 inb_S2x384x128_S1x384x128_1_0_0
      (consB I arg1 w v12 o2 h2 o7 h7 o5 h5 o11 h11 ![0, 0, 0] inb_S2x384x384_S1x384x384_0_0_0 inb_S2x384x256_S1x384x256_0_0_0 inb_S2x384x128_S1x384x128_0_0_0
        (withP A stA dpA (stOf I v12 v14 n) (dpOf I v16 v18 n)))
      = withP (step I arg1 v12 v14 v16 v18 n A) stA dpA (stOf I v12 v14 n) (dpOf I v16 v18 n) := by
  subst ew ew' e2 e7 e5 e11 f2 f7 f5 f11
  rfl

/-! ## Where the body reads and writes -/

/-- The block the tail starts at. -/
def tb (i : grid0.Coords) : ℕ := (i 1).val + 4 * (k0_t1_loop i).trips

theorem trips_eq : ∀ i : grid0.Coords, (k0_t1_loop i).trips = (10 - (i 1).val) / 4 := by decide +kernel

theorem off1_eq : ∀ i : grid0.Coords, k0_off1 i = ![384 * ((i 1).val), 256 * ((0 : Fin 2).val)] := by decide +kernel
theorem off2_eq : ∀ i : grid0.Coords, k0_off2 i = ![384 * ((i 1).val), 128 * ((0 : Fin 2).val)] := by decide +kernel
theorem off3_eq : ∀ i : grid0.Coords, k0_off3 i = ![384 * ((i 1).val), 256 * ((1 : Fin 2).val)] := by decide +kernel
theorem off4_eq : ∀ i : grid0.Coords, k0_off4 i = ![384 * ((i 1).val), 128 * ((1 : Fin 2).val)] := by decide +kernel
theorem off5_eq : ∀ (i : grid0.Coords) (k : Fin (k0_t1_loop i).trips) (u : Fin 4), k0_off5 i k (BitVec.ofNat 32 u.val) = ![384 * ((i 1).val + 4 * k.val + u.val + 1), 256 * ((0 : Fin 2).val)] := by decide +kernel
theorem off6_eq : ∀ (i : grid0.Coords) (k : Fin (k0_t1_loop i).trips) (u : Fin 4), k0_off6 i k (BitVec.ofNat 32 u.val) = ![384 * ((i 1).val + 4 * k.val + u.val + 1), 128 * ((0 : Fin 2).val)] := by decide +kernel
theorem off7_eq : ∀ (i : grid0.Coords) (k : Fin (k0_t1_loop i).trips) (u : Fin 4), k0_off7 i k (BitVec.ofNat 32 u.val) = ![384 * ((i 1).val + 4 * k.val + u.val + 1), 256 * ((1 : Fin 2).val)] := by decide +kernel
theorem off8_eq : ∀ (i : grid0.Coords) (k : Fin (k0_t1_loop i).trips) (u : Fin 4), k0_off8 i k (BitVec.ofNat 32 u.val) = ![384 * ((i 1).val + 4 * k.val + u.val + 1), 128 * ((1 : Fin 2).val)] := by decide +kernel
theorem off9_eq : ∀ (i : grid0.Coords) (k : Fin (k0_t1_loop i).trips) (u : Fin 4), k0_off9 i k (BitVec.ofNat 32 u.val) = ![384 * ((i 1).val + 4 * k.val + u.val), 256 * ((0 : Fin 2).val)] := by decide +kernel
theorem off10_eq : ∀ (i : grid0.Coords) (k : Fin (k0_t1_loop i).trips) (u : Fin 4), k0_off10 i k (BitVec.ofNat 32 u.val) = ![384 * ((i 1).val + 4 * k.val + u.val), 128 * ((0 : Fin 2).val)] := by decide +kernel
theorem off11_eq : ∀ (i : grid0.Coords) (k : Fin (k0_t1_loop i).trips) (u : Fin 4), k0_off11 i k (BitVec.ofNat 32 u.val) = ![(0 : Fin 2).val, (i 1).val + 4 * k.val + u.val, 0, 0] := by decide +kernel
theorem off12_eq : ∀ (i : grid0.Coords) (k : Fin (k0_t1_loop i).trips) (u : Fin 4), k0_off12 i k (BitVec.ofNat 32 u.val) = ![(0 : Fin 2).val, 384 * ((i 1).val + 4 * k.val + u.val), 0] := by decide +kernel
theorem off13_eq : ∀ (i : grid0.Coords) (k : Fin (k0_t1_loop i).trips) (u : Fin 4), k0_off13 i k (BitVec.ofNat 32 u.val) = ![384 * ((i 1).val + 4 * k.val + u.val), 256 * ((1 : Fin 2).val)] := by decide +kernel
theorem off14_eq : ∀ (i : grid0.Coords) (k : Fin (k0_t1_loop i).trips) (u : Fin 4), k0_off14 i k (BitVec.ofNat 32 u.val) = ![384 * ((i 1).val + 4 * k.val + u.val), 128 * ((1 : Fin 2).val)] := by decide +kernel
theorem off15_eq : ∀ (i : grid0.Coords) (k : Fin (k0_t1_loop i).trips) (u : Fin 4), k0_off15 i k (BitVec.ofNat 32 u.val) = ![(1 : Fin 2).val, (i 1).val + 4 * k.val + u.val, 0, 0] := by decide +kernel
theorem off16_eq : ∀ (i : grid0.Coords) (k : Fin (k0_t1_loop i).trips) (u : Fin 4), k0_off16 i k (BitVec.ofNat 32 u.val) = ![(1 : Fin 2).val, 384 * ((i 1).val + 4 * k.val + u.val), 0] := by decide +kernel
theorem off29_eq : ∀ i : grid0.Coords, k0_cond2 i = 1#1 → k0_off29 i = ![384 * (tb i + 0), 256 * ((0 : Fin 2).val)] := by decide +kernel
theorem off30_eq : ∀ i : grid0.Coords, k0_cond2 i = 1#1 → k0_off30 i = ![384 * (tb i + 0), 128 * ((0 : Fin 2).val)] := by decide +kernel
theorem off31_eq : ∀ i : grid0.Coords, k0_cond2 i = 1#1 → k0_off31 i = ![(0 : Fin 2).val, tb i + 0, 0, 0] := by decide +kernel
theorem off32_eq : ∀ i : grid0.Coords, k0_cond2 i = 1#1 → k0_off32 i = ![(0 : Fin 2).val, 384 * (tb i + 0), 0] := by decide +kernel
theorem off33_eq : ∀ i : grid0.Coords, k0_cond2 i = 1#1 → k0_off33 i = ![384 * (tb i + 0), 256 * ((1 : Fin 2).val)] := by decide +kernel
theorem off34_eq : ∀ i : grid0.Coords, k0_cond2 i = 1#1 → k0_off34 i = ![384 * (tb i + 0), 128 * ((1 : Fin 2).val)] := by decide +kernel
theorem off35_eq : ∀ i : grid0.Coords, k0_cond2 i = 1#1 → k0_off35 i = ![(1 : Fin 2).val, tb i + 0, 0, 0] := by decide +kernel
theorem off36_eq : ∀ i : grid0.Coords, k0_cond2 i = 1#1 → k0_off36 i = ![(1 : Fin 2).val, 384 * (tb i + 0), 0] := by decide +kernel
theorem off37_eq : ∀ i : grid0.Coords, k0_cond3 i = 1#1 → k0_off37 i = ![384 * (tb i + 1), 256 * ((0 : Fin 2).val)] := by decide +kernel
theorem off38_eq : ∀ i : grid0.Coords, k0_cond3 i = 1#1 → k0_off38 i = ![384 * (tb i + 1), 128 * ((0 : Fin 2).val)] := by decide +kernel
theorem off39_eq : ∀ i : grid0.Coords, k0_cond3 i = 1#1 → k0_off39 i = ![384 * (tb i + 1), 256 * ((1 : Fin 2).val)] := by decide +kernel
theorem off40_eq : ∀ i : grid0.Coords, k0_cond3 i = 1#1 → k0_off40 i = ![384 * (tb i + 1), 128 * ((1 : Fin 2).val)] := by decide +kernel
theorem off41_eq : ∀ (i : grid0.Coords) (u : Fin 2), k0_cond3 i = 1#1 → k0_off41 i (BitVec.ofNat 32 u.val) = ![384 * (tb i + u.val), 256 * ((0 : Fin 2).val)] := by decide +kernel
theorem off42_eq : ∀ (i : grid0.Coords) (u : Fin 2), k0_cond3 i = 1#1 → k0_off42 i (BitVec.ofNat 32 u.val) = ![384 * (tb i + u.val), 128 * ((0 : Fin 2).val)] := by decide +kernel
theorem off43_eq : ∀ (i : grid0.Coords) (u : Fin 2), k0_cond3 i = 1#1 → k0_off43 i (BitVec.ofNat 32 u.val) = ![(0 : Fin 2).val, tb i + u.val, 0, 0] := by decide +kernel
theorem off44_eq : ∀ (i : grid0.Coords) (u : Fin 2), k0_cond3 i = 1#1 → k0_off44 i (BitVec.ofNat 32 u.val) = ![(0 : Fin 2).val, 384 * (tb i + u.val), 0] := by decide +kernel
theorem off45_eq : ∀ (i : grid0.Coords) (u : Fin 2), k0_cond3 i = 1#1 → k0_off45 i (BitVec.ofNat 32 u.val) = ![384 * (tb i + u.val), 256 * ((1 : Fin 2).val)] := by decide +kernel
theorem off46_eq : ∀ (i : grid0.Coords) (u : Fin 2), k0_cond3 i = 1#1 → k0_off46 i (BitVec.ofNat 32 u.val) = ![384 * (tb i + u.val), 128 * ((1 : Fin 2).val)] := by decide +kernel
theorem off47_eq : ∀ (i : grid0.Coords) (u : Fin 2), k0_cond3 i = 1#1 → k0_off47 i (BitVec.ofNat 32 u.val) = ![(1 : Fin 2).val, tb i + u.val, 0, 0] := by decide +kernel
theorem off48_eq : ∀ (i : grid0.Coords) (u : Fin 2), k0_cond3 i = 1#1 → k0_off48 i (BitVec.ofNat 32 u.val) = ![(1 : Fin 2).val, 384 * (tb i + u.val), 0] := by decide +kernel
theorem off49_eq : ∀ (i : grid0.Coords) (u : Fin 2), k0_cond4 i = 1#1 → k0_off49 i (BitVec.ofNat 32 u.val) = ![384 * (tb i + u.val + 1), 256 * ((0 : Fin 2).val)] := by decide +kernel
theorem off50_eq : ∀ (i : grid0.Coords) (u : Fin 2), k0_cond4 i = 1#1 → k0_off50 i (BitVec.ofNat 32 u.val) = ![384 * (tb i + u.val + 1), 128 * ((0 : Fin 2).val)] := by decide +kernel
theorem off51_eq : ∀ (i : grid0.Coords) (u : Fin 2), k0_cond4 i = 1#1 → k0_off51 i (BitVec.ofNat 32 u.val) = ![384 * (tb i + u.val + 1), 256 * ((1 : Fin 2).val)] := by decide +kernel
theorem off52_eq : ∀ (i : grid0.Coords) (u : Fin 2), k0_cond4 i = 1#1 → k0_off52 i (BitVec.ofNat 32 u.val) = ![384 * (tb i + u.val + 1), 128 * ((1 : Fin 2).val)] := by decide +kernel
theorem off53_eq : ∀ (i : grid0.Coords) (u : Fin 3), k0_cond4 i = 1#1 → k0_off53 i (BitVec.ofNat 32 u.val) = ![384 * (tb i + u.val), 256 * ((0 : Fin 2).val)] := by decide +kernel
theorem off54_eq : ∀ (i : grid0.Coords) (u : Fin 3), k0_cond4 i = 1#1 → k0_off54 i (BitVec.ofNat 32 u.val) = ![384 * (tb i + u.val), 128 * ((0 : Fin 2).val)] := by decide +kernel
theorem off55_eq : ∀ (i : grid0.Coords) (u : Fin 3), k0_cond4 i = 1#1 → k0_off55 i (BitVec.ofNat 32 u.val) = ![(0 : Fin 2).val, tb i + u.val, 0, 0] := by decide +kernel
theorem off56_eq : ∀ (i : grid0.Coords) (u : Fin 3), k0_cond4 i = 1#1 → k0_off56 i (BitVec.ofNat 32 u.val) = ![(0 : Fin 2).val, 384 * (tb i + u.val), 0] := by decide +kernel
theorem off57_eq : ∀ (i : grid0.Coords) (u : Fin 3), k0_cond4 i = 1#1 → k0_off57 i (BitVec.ofNat 32 u.val) = ![384 * (tb i + u.val), 256 * ((1 : Fin 2).val)] := by decide +kernel
theorem off58_eq : ∀ (i : grid0.Coords) (u : Fin 3), k0_cond4 i = 1#1 → k0_off58 i (BitVec.ofNat 32 u.val) = ![384 * (tb i + u.val), 128 * ((1 : Fin 2).val)] := by decide +kernel
theorem off59_eq : ∀ (i : grid0.Coords) (u : Fin 3), k0_cond4 i = 1#1 → k0_off59 i (BitVec.ofNat 32 u.val) = ![(1 : Fin 2).val, tb i + u.val, 0, 0] := by decide +kernel
theorem off60_eq : ∀ (i : grid0.Coords) (u : Fin 3), k0_cond4 i = 1#1 → k0_off60 i (BitVec.ofNat 32 u.val) = ![(1 : Fin 2).val, 384 * (tb i + u.val), 0] := by decide +kernel
theorem off61_eq : ∀ (i : grid0.Coords) (u : Fin 3), k0_cond5 i = 1#1 → k0_off61 i (BitVec.ofNat 32 u.val) = ![384 * (tb i + u.val + 1), 256 * ((0 : Fin 2).val)] := by decide +kernel
theorem off62_eq : ∀ (i : grid0.Coords) (u : Fin 3), k0_cond5 i = 1#1 → k0_off62 i (BitVec.ofNat 32 u.val) = ![384 * (tb i + u.val + 1), 128 * ((0 : Fin 2).val)] := by decide +kernel
theorem off63_eq : ∀ (i : grid0.Coords) (u : Fin 3), k0_cond5 i = 1#1 → k0_off63 i (BitVec.ofNat 32 u.val) = ![384 * (tb i + u.val + 1), 256 * ((1 : Fin 2).val)] := by decide +kernel
theorem off64_eq : ∀ (i : grid0.Coords) (u : Fin 3), k0_cond5 i = 1#1 → k0_off64 i (BitVec.ofNat 32 u.val) = ![384 * (tb i + u.val + 1), 128 * ((1 : Fin 2).val)] := by decide +kernel
theorem off65_eq : ∀ (i : grid0.Coords) (u : Fin 4), k0_cond5 i = 1#1 → k0_off65 i (BitVec.ofNat 32 u.val) = ![384 * (tb i + u.val), 256 * ((0 : Fin 2).val)] := by decide +kernel
theorem off66_eq : ∀ (i : grid0.Coords) (u : Fin 4), k0_cond5 i = 1#1 → k0_off66 i (BitVec.ofNat 32 u.val) = ![384 * (tb i + u.val), 128 * ((0 : Fin 2).val)] := by decide +kernel
theorem off67_eq : ∀ (i : grid0.Coords) (u : Fin 4), k0_cond5 i = 1#1 → k0_off67 i (BitVec.ofNat 32 u.val) = ![(0 : Fin 2).val, tb i + u.val, 0, 0] := by decide +kernel
theorem off68_eq : ∀ (i : grid0.Coords) (u : Fin 4), k0_cond5 i = 1#1 → k0_off68 i (BitVec.ofNat 32 u.val) = ![(0 : Fin 2).val, 384 * (tb i + u.val), 0] := by decide +kernel
theorem off69_eq : ∀ (i : grid0.Coords) (u : Fin 4), k0_cond5 i = 1#1 → k0_off69 i (BitVec.ofNat 32 u.val) = ![384 * (tb i + u.val), 256 * ((1 : Fin 2).val)] := by decide +kernel
theorem off70_eq : ∀ (i : grid0.Coords) (u : Fin 4), k0_cond5 i = 1#1 → k0_off70 i (BitVec.ofNat 32 u.val) = ![384 * (tb i + u.val), 128 * ((1 : Fin 2).val)] := by decide +kernel
theorem off71_eq : ∀ (i : grid0.Coords) (u : Fin 4), k0_cond5 i = 1#1 → k0_off71 i (BitVec.ofNat 32 u.val) = ![(1 : Fin 2).val, tb i + u.val, 0, 0] := by decide +kernel
theorem off72_eq : ∀ (i : grid0.Coords) (u : Fin 4), k0_cond5 i = 1#1 → k0_off72 i (BitVec.ofNat 32 u.val) = ![(1 : Fin 2).val, 384 * (tb i + u.val), 0] := by decide +kernel

theorem word_eq : ∀ (i : grid0.Coords) (k : Fin (k0_t1_loop i).trips) (u : Fin 4),
    Scalar.addi (Scalar.addi (BitVec.ofNat 32 (i 1).val) (Scalar.muli (Scf.iv 0#32 1#32 k) 4#32)) (BitVec.ofNat 32 u.val)
      = BitVec.ofNat 32 ((i 1).val + 4 * k.val + u.val) := by decide +kernel

theorem tailW_eq : ∀ (i : grid0.Coords) (u : Fin 4),
    Scalar.addi (tailW (BitVec.ofNat 32 (i 1).val)) (BitVec.ofNat 32 u.val) = BitVec.ofNat 32 (tb i + u.val) := by decide +kernel

theorem cond2_iff : ∀ i : grid0.Coords, k0_cond2 i = 1#1 ↔ (10 - (i 1).val) % 4 = 0 := by decide +kernel
theorem cond3_iff : ∀ i : grid0.Coords, k0_cond3 i = 1#1 ↔ (10 - (i 1).val) % 4 = 1 := by decide +kernel
theorem cond4_iff : ∀ i : grid0.Coords, k0_cond4 i = 1#1 ↔ (10 - (i 1).val) % 4 = 2 := by decide +kernel
theorem cond5_iff : ∀ i : grid0.Coords, k0_cond5 i = 1#1 ↔ (10 - (i 1).val) % 4 = 3 := by decide +kernel

/-! ## The loop and the tails -/

/-- The block of rows of step `u` of trip `k`; block 4 is the next trip's first. -/
def nb (i : grid0.Coords) (k : Fin (k0_t1_loop i).trips) (u : ℕ) (hu : u < 5) : Fin 11 :=
  ⟨(i 1).val + 4 * k.val + u, by have := k.isLt; have := trips_eq i; have : (i 1).val < 11 := (i 1).isLt; omega⟩

theorem tripS_eq (i : grid0.Coords) (I : In F) (v12 v14 : FVec F S384x256 .bf16) (v16 v18 : FVec F S384x128 .bf16) (k : Fin (k0_t1_loop i).trips) (A : St F) (c d : Vec F S2x384x384 .f32) :
    tripS i I (BitVec.ofNat 32 (i 1).val) v12 v14 v16 v18 k (withP A (stOf I v12 v14 (nb i k 0 (by omega))) (dpOf I v16 v18 (nb i k 0 (by omega))) c d)
      = withP (step I (BitVec.ofNat 32 (i 1).val) v12 v14 v16 v18 (nb i k 3 (by omega)) (step I (BitVec.ofNat 32 (i 1).val) v12 v14 v16 v18 (nb i k 2 (by omega)) (step I (BitVec.ofNat 32 (i 1).val) v12 v14 v16 v18 (nb i k 1 (by omega)) (step I (BitVec.ofNat 32 (i 1).val) v12 v14 v16 v18 (nb i k 0 (by omega)) A))))
          (stOf I v12 v14 (nb i k 4 (by omega))) (dpOf I v16 v18 (nb i k 4 (by omega))) (stOf I v12 v14 (nb i k 3 (by omega))) (dpOf I v16 v18 (nb i k 3 (by omega))) := by
  unfold tripS
  rw [puts_B I v12 v14 v16 v18 (nb i k 1 (by omega)) (k0_off5 i k 0#32) _ (k0_off6 i k 0#32) _ (k0_off7 i k 0#32) _ (k0_off8 i k 0#32) _ (off5_eq i k 0) (off6_eq i k 0) (off7_eq i k 0) (off8_eq i k 0)]
  rw [two_A I _ (Scalar.addi (Scalar.addi (BitVec.ofNat 32 (i 1).val) (Scalar.muli (Scf.iv 0#32 1#32 k) 4#32)) 0#32) (Scalar.addi (Scalar.addi (BitVec.ofNat 32 (i 1).val) (Scalar.muli (Scf.iv 0#32 1#32 k) 4#32)) 0#32) v12 v14 v16 v18 (nb i k 0 (by omega)) (k0_off9 i k 0#32) _ (k0_off10 i k 0#32) _ (k0_off11 i k 0#32) _ (k0_off12 i k 0#32) _ (k0_off13 i k 0#32) _ (k0_off14 i k 0#32) _ (k0_off15 i k 0#32) _ (k0_off16 i k 0#32) _ (word_eq i k 0) (word_eq i k 0) (off9_eq i k 0) (off10_eq i k 0) (off11_eq i k 0) (off12_eq i k 0) (off13_eq i k 0) (off14_eq i k 0) (off15_eq i k 0) (off16_eq i k 0)]
  rw [puts_A I v12 v14 v16 v18 (nb i k 2 (by omega)) (k0_off5 i k 1#32) _ (k0_off6 i k 1#32) _ (k0_off7 i k 1#32) _ (k0_off8 i k 1#32) _ (off5_eq i k 1) (off6_eq i k 1) (off7_eq i k 1) (off8_eq i k 1)]
  rw [two_B I _ (Scalar.addi (Scalar.addi (BitVec.ofNat 32 (i 1).val) (Scalar.muli (Scf.iv 0#32 1#32 k) 4#32)) 1#32) (Scalar.addi (Scalar.addi (BitVec.ofNat 32 (i 1).val) (Scalar.muli (Scf.iv 0#32 1#32 k) 4#32)) 1#32) v12 v14 v16 v18 (nb i k 1 (by omega)) (k0_off9 i k 1#32) _ (k0_off10 i k 1#32) _ (k0_off11 i k 1#32) _ (k0_off12 i k 1#32) _ (k0_off13 i k 1#32) _ (k0_off14 i k 1#32) _ (k0_off15 i k 1#32) _ (k0_off16 i k 1#32) _ (word_eq i k 1) (word_eq i k 1) (off9_eq i k 1) (off10_eq i k 1) (off11_eq i k 1) (off12_eq i k 1) (off13_eq i k 1) (off14_eq i k 1) (off15_eq i k 1) (off16_eq i k 1)]
  rw [puts_B I v12 v14 v16 v18 (nb i k 3 (by omega)) (k0_off5 i k 2#32) _ (k0_off6 i k 2#32) _ (k0_off7 i k 2#32) _ (k0_off8 i k 2#32) _ (off5_eq i k 2) (off6_eq i k 2) (off7_eq i k 2) (off8_eq i k 2)]
  rw [two_A I _ (Scalar.addi (Scalar.addi (BitVec.ofNat 32 (i 1).val) (Scalar.muli (Scf.iv 0#32 1#32 k) 4#32)) 2#32) (Scalar.addi (Scalar.addi (BitVec.ofNat 32 (i 1).val) (Scalar.muli (Scf.iv 0#32 1#32 k) 4#32)) 2#32) v12 v14 v16 v18 (nb i k 2 (by omega)) (k0_off9 i k 2#32) _ (k0_off10 i k 2#32) _ (k0_off11 i k 2#32) _ (k0_off12 i k 2#32) _ (k0_off13 i k 2#32) _ (k0_off14 i k 2#32) _ (k0_off15 i k 2#32) _ (k0_off16 i k 2#32) _ (word_eq i k 2) (word_eq i k 2) (off9_eq i k 2) (off10_eq i k 2) (off11_eq i k 2) (off12_eq i k 2) (off13_eq i k 2) (off14_eq i k 2) (off15_eq i k 2) (off16_eq i k 2)]
  rw [puts_A I v12 v14 v16 v18 (nb i k 4 (by omega)) (k0_off5 i k 3#32) _ (k0_off6 i k 3#32) _ (k0_off7 i k 3#32) _ (k0_off8 i k 3#32) _ (off5_eq i k 3) (off6_eq i k 3) (off7_eq i k 3) (off8_eq i k 3)]
  rw [two_B I _ (Scalar.addi (Scalar.addi (BitVec.ofNat 32 (i 1).val) (Scalar.muli (Scf.iv 0#32 1#32 k) 4#32)) 3#32) (Scalar.addi (Scalar.addi (BitVec.ofNat 32 (i 1).val) (Scalar.muli (Scf.iv 0#32 1#32 k) 4#32)) 3#32) v12 v14 v16 v18 (nb i k 3 (by omega)) (k0_off9 i k 3#32) _ (k0_off10 i k 3#32) _ (k0_off11 i k 3#32) _ (k0_off12 i k 3#32) _ (k0_off13 i k 3#32) _ (k0_off14 i k 3#32) _ (k0_off15 i k 3#32) _ (k0_off16 i k 3#32) _ (word_eq i k 3) (word_eq i k 3) (off9_eq i k 3) (off10_eq i k 3) (off11_eq i k 3) (off12_eq i k 3) (off13_eq i k 3) (off14_eq i k 3) (off15_eq i k 3) (off16_eq i k 3)]

theorem loopS_eq (i : grid0.Coords) (I : In F) (v12 v14 : FVec F S384x256 .bf16) (v16 v18 : FVec F S384x128 .bf16) (A : St F) (c d : Vec F S2x384x384 .f32) :
    ∀ n, (hn : n ≤ (k0_t1_loop i).trips) → ∃ c' d', loopS i I (BitVec.ofNat 32 (i 1).val) v12 v14 v16 v18 (withP A (stOf I v12 v14 ⟨(i 1).val, (i 1).isLt⟩) (dpOf I v16 v18 ⟨(i 1).val, (i 1).isLt⟩) c d) n
      = withP (runs I (BitVec.ofNat 32 (i 1).val) v12 v14 v16 v18 (i 1).val A (4 * n))
          (stOf I v12 v14 ⟨(i 1).val + 4 * n, by have := trips_eq i; have : (i 1).val < 11 := (i 1).isLt; omega⟩) (dpOf I v16 v18 ⟨(i 1).val + 4 * n, by have := trips_eq i; have : (i 1).val < 11 := (i 1).isLt; omega⟩) c' d'
  | 0, _ => ⟨c, d, rfl⟩
  | n + 1, hn => by
    obtain ⟨c', d', e⟩ := loopS_eq i I v12 v14 v16 v18 A c d n (by omega)
    have h : n < (k0_t1_loop i).trips := hn
    refine ⟨stOf I v12 v14 (nb i ⟨n, h⟩ 3 (by omega)), dpOf I v16 v18 (nb i ⟨n, h⟩ 3 (by omega)), ?_⟩
    rw [loopS, dif_pos h, e]
    refine (tripS_eq i I v12 v14 v16 v18 ⟨n, h⟩ _ c' d').trans ?_
    have t := trips_eq i
    have j : (i 1).val < 11 := (i 1).isLt
    have r : runs I (BitVec.ofNat 32 (i 1).val) v12 v14 v16 v18 (i 1).val A (4 * (n + 1)) = (step I (BitVec.ofNat 32 (i 1).val) v12 v14 v16 v18 (nb i ⟨n, h⟩ 3 (by omega)) (step I (BitVec.ofNat 32 (i 1).val) v12 v14 v16 v18 (nb i ⟨n, h⟩ 2 (by omega)) (step I (BitVec.ofNat 32 (i 1).val) v12 v14 v16 v18 (nb i ⟨n, h⟩ 1 (by omega)) (step I (BitVec.ofNat 32 (i 1).val) v12 v14 v16 v18 (nb i ⟨n, h⟩ 0 (by omega)) (runs I (BitVec.ofNat 32 (i 1).val) v12 v14 v16 v18 (i 1).val A (4 * n)))))) := by
      change runs I (BitVec.ofNat 32 (i 1).val) v12 v14 v16 v18 (i 1).val A (4 * n + 1 + 1 + 1 + 1) = _
      rw [runs, dif_pos (by omega), runs, dif_pos (by omega), runs, dif_pos (by omega), runs, dif_pos (by omega)]
      rfl
    rw [r]
    rfl

attribute [irreducible] tb

theorem tail1S_eq (i : grid0.Coords) (I : In F) (v12 v14 : FVec F S384x256 .bf16) (v16 v18 : FVec F S384x128 .bf16) (h : k0_cond2 i = 1#1) (A : St F) (c d : Vec F S2x384x384 .f32) :
    acc (tail1S i I (BitVec.ofNat 32 (i 1).val) v12 v14 v16 v18 h (withP A (stOf I v12 v14 ⟨tb i + 0, by have := (cond2_iff i).mp h; have := trips_eq i; have : (i 1).val < 11 := (i 1).isLt; unfold tb; omega⟩) (dpOf I v16 v18 ⟨tb i + 0, by have := (cond2_iff i).mp h; have := trips_eq i; have : (i 1).val < 11 := (i 1).isLt; unfold tb; omega⟩) c d))
      = acc (step I (BitVec.ofNat 32 (i 1).val) v12 v14 v16 v18 ⟨tb i + 0, by have := (cond2_iff i).mp h; have := trips_eq i; have : (i 1).val < 11 := (i 1).isLt; unfold tb; omega⟩ A) := by
  unfold tail1S
  rw [two_A I _ (Scalar.addi (tailW (BitVec.ofNat 32 (i 1).val)) 0#32) (Scalar.addi (tailW (BitVec.ofNat 32 (i 1).val)) 0#32) v12 v14 v16 v18 ⟨tb i + 0, by have := (cond2_iff i).mp h; have := trips_eq i; have : (i 1).val < 11 := (i 1).isLt; unfold tb; omega⟩ (k0_off29 i) _ (k0_off30 i) _ (k0_off31 i) _ (k0_off32 i) _ (k0_off33 i) _ (k0_off34 i) _ (k0_off35 i) _ (k0_off36 i) _ (tailW_eq i 0) (tailW_eq i 0) (off29_eq i h) (off30_eq i h) (off31_eq i h) (off32_eq i h) (off33_eq i h) (off34_eq i h) (off35_eq i h) (off36_eq i h)]
  rfl

theorem tail2S_eq (i : grid0.Coords) (I : In F) (v12 v14 : FVec F S384x256 .bf16) (v16 v18 : FVec F S384x128 .bf16) (h : k0_cond3 i = 1#1) (A : St F) (c d : Vec F S2x384x384 .f32) :
    acc (tail2S i I (BitVec.ofNat 32 (i 1).val) v12 v14 v16 v18 h (withP A (stOf I v12 v14 ⟨tb i + 0, by have := (cond3_iff i).mp h; have := trips_eq i; have : (i 1).val < 11 := (i 1).isLt; unfold tb; omega⟩) (dpOf I v16 v18 ⟨tb i + 0, by have := (cond3_iff i).mp h; have := trips_eq i; have : (i 1).val < 11 := (i 1).isLt; unfold tb; omega⟩) c d))
      = acc (step I (BitVec.ofNat 32 (i 1).val) v12 v14 v16 v18 ⟨tb i + 1, by have := (cond3_iff i).mp h; have := trips_eq i; have : (i 1).val < 11 := (i 1).isLt; unfold tb; omega⟩ (step I (BitVec.ofNat 32 (i 1).val) v12 v14 v16 v18 ⟨tb i + 0, by have := (cond3_iff i).mp h; have := trips_eq i; have : (i 1).val < 11 := (i 1).isLt; unfold tb; omega⟩ A)) := by
  unfold tail2S
  rw [puts_B I v12 v14 v16 v18 ⟨tb i + 1, by have := (cond3_iff i).mp h; have := trips_eq i; have : (i 1).val < 11 := (i 1).isLt; unfold tb; omega⟩ (k0_off37 i) _ (k0_off38 i) _ (k0_off39 i) _ (k0_off40 i) _ (off37_eq i h) (off38_eq i h) (off39_eq i h) (off40_eq i h)]
  rw [two_A I _ (Scalar.addi (tailW (BitVec.ofNat 32 (i 1).val)) 0#32) (Scalar.addi (tailW (BitVec.ofNat 32 (i 1).val)) 0#32) v12 v14 v16 v18 ⟨tb i + 0, by have := (cond3_iff i).mp h; have := trips_eq i; have : (i 1).val < 11 := (i 1).isLt; unfold tb; omega⟩ (k0_off41 i 0#32) _ (k0_off42 i 0#32) _ (k0_off43 i 0#32) _ (k0_off44 i 0#32) _ (k0_off45 i 0#32) _ (k0_off46 i 0#32) _ (k0_off47 i 0#32) _ (k0_off48 i 0#32) _ (tailW_eq i 0) (tailW_eq i 0) (off41_eq i 0 h) (off42_eq i 0 h) (off43_eq i 0 h) (off44_eq i 0 h) (off45_eq i 0 h) (off46_eq i 0 h) (off47_eq i 0 h) (off48_eq i 0 h)]
  rw [two_B I _ (Scalar.addi (tailW (BitVec.ofNat 32 (i 1).val)) 1#32) (Scalar.addi (tailW (BitVec.ofNat 32 (i 1).val)) 1#32) v12 v14 v16 v18 ⟨tb i + 1, by have := (cond3_iff i).mp h; have := trips_eq i; have : (i 1).val < 11 := (i 1).isLt; unfold tb; omega⟩ (k0_off41 i 1#32) _ (k0_off42 i 1#32) _ (k0_off43 i 1#32) _ (k0_off44 i 1#32) _ (k0_off45 i 1#32) _ (k0_off46 i 1#32) _ (k0_off47 i 1#32) _ (k0_off48 i 1#32) _ (tailW_eq i 1) (tailW_eq i 1) (off41_eq i 1 h) (off42_eq i 1 h) (off43_eq i 1 h) (off44_eq i 1 h) (off45_eq i 1 h) (off46_eq i 1 h) (off47_eq i 1 h) (off48_eq i 1 h)]
  rfl

theorem tail3S_eq (i : grid0.Coords) (I : In F) (v12 v14 : FVec F S384x256 .bf16) (v16 v18 : FVec F S384x128 .bf16) (h : k0_cond4 i = 1#1) (A : St F) (c d : Vec F S2x384x384 .f32) :
    acc (tail3S i I (BitVec.ofNat 32 (i 1).val) v12 v14 v16 v18 h (withP A (stOf I v12 v14 ⟨tb i + 0, by have := (cond4_iff i).mp h; have := trips_eq i; have : (i 1).val < 11 := (i 1).isLt; unfold tb; omega⟩) (dpOf I v16 v18 ⟨tb i + 0, by have := (cond4_iff i).mp h; have := trips_eq i; have : (i 1).val < 11 := (i 1).isLt; unfold tb; omega⟩) c d))
      = acc (step I (BitVec.ofNat 32 (i 1).val) v12 v14 v16 v18 ⟨tb i + 2, by have := (cond4_iff i).mp h; have := trips_eq i; have : (i 1).val < 11 := (i 1).isLt; unfold tb; omega⟩ (step I (BitVec.ofNat 32 (i 1).val) v12 v14 v16 v18 ⟨tb i + 1, by have := (cond4_iff i).mp h; have := trips_eq i; have : (i 1).val < 11 := (i 1).isLt; unfold tb; omega⟩ (step I (BitVec.ofNat 32 (i 1).val) v12 v14 v16 v18 ⟨tb i + 0, by have := (cond4_iff i).mp h; have := trips_eq i; have : (i 1).val < 11 := (i 1).isLt; unfold tb; omega⟩ A))) := by
  unfold tail3S
  rw [puts_B I v12 v14 v16 v18 ⟨tb i + 1, by have := (cond4_iff i).mp h; have := trips_eq i; have : (i 1).val < 11 := (i 1).isLt; unfold tb; omega⟩ (k0_off49 i 0#32) _ (k0_off50 i 0#32) _ (k0_off51 i 0#32) _ (k0_off52 i 0#32) _ (off49_eq i 0 h) (off50_eq i 0 h) (off51_eq i 0 h) (off52_eq i 0 h)]
  rw [two_A I _ (Scalar.addi (tailW (BitVec.ofNat 32 (i 1).val)) 0#32) (Scalar.addi (tailW (BitVec.ofNat 32 (i 1).val)) 0#32) v12 v14 v16 v18 ⟨tb i + 0, by have := (cond4_iff i).mp h; have := trips_eq i; have : (i 1).val < 11 := (i 1).isLt; unfold tb; omega⟩ (k0_off53 i 0#32) _ (k0_off54 i 0#32) _ (k0_off55 i 0#32) _ (k0_off56 i 0#32) _ (k0_off57 i 0#32) _ (k0_off58 i 0#32) _ (k0_off59 i 0#32) _ (k0_off60 i 0#32) _ (tailW_eq i 0) (tailW_eq i 0) (off53_eq i 0 h) (off54_eq i 0 h) (off55_eq i 0 h) (off56_eq i 0 h) (off57_eq i 0 h) (off58_eq i 0 h) (off59_eq i 0 h) (off60_eq i 0 h)]
  rw [puts_A I v12 v14 v16 v18 ⟨tb i + 2, by have := (cond4_iff i).mp h; have := trips_eq i; have : (i 1).val < 11 := (i 1).isLt; unfold tb; omega⟩ (k0_off49 i 1#32) _ (k0_off50 i 1#32) _ (k0_off51 i 1#32) _ (k0_off52 i 1#32) _ (off49_eq i 1 h) (off50_eq i 1 h) (off51_eq i 1 h) (off52_eq i 1 h)]
  rw [two_B I _ (Scalar.addi (tailW (BitVec.ofNat 32 (i 1).val)) 1#32) (Scalar.addi (tailW (BitVec.ofNat 32 (i 1).val)) 1#32) v12 v14 v16 v18 ⟨tb i + 1, by have := (cond4_iff i).mp h; have := trips_eq i; have : (i 1).val < 11 := (i 1).isLt; unfold tb; omega⟩ (k0_off53 i 1#32) _ (k0_off54 i 1#32) _ (k0_off55 i 1#32) _ (k0_off56 i 1#32) _ (k0_off57 i 1#32) _ (k0_off58 i 1#32) _ (k0_off59 i 1#32) _ (k0_off60 i 1#32) _ (tailW_eq i 1) (tailW_eq i 1) (off53_eq i 1 h) (off54_eq i 1 h) (off55_eq i 1 h) (off56_eq i 1 h) (off57_eq i 1 h) (off58_eq i 1 h) (off59_eq i 1 h) (off60_eq i 1 h)]
  rw [two_A I _ (Scalar.addi (tailW (BitVec.ofNat 32 (i 1).val)) 2#32) (Scalar.addi (tailW (BitVec.ofNat 32 (i 1).val)) 2#32) v12 v14 v16 v18 ⟨tb i + 2, by have := (cond4_iff i).mp h; have := trips_eq i; have : (i 1).val < 11 := (i 1).isLt; unfold tb; omega⟩ (k0_off53 i 2#32) _ (k0_off54 i 2#32) _ (k0_off55 i 2#32) _ (k0_off56 i 2#32) _ (k0_off57 i 2#32) _ (k0_off58 i 2#32) _ (k0_off59 i 2#32) _ (k0_off60 i 2#32) _ (tailW_eq i 2) (tailW_eq i 2) (off53_eq i 2 h) (off54_eq i 2 h) (off55_eq i 2 h) (off56_eq i 2 h) (off57_eq i 2 h) (off58_eq i 2 h) (off59_eq i 2 h) (off60_eq i 2 h)]
  rfl

theorem tail4S_eq (i : grid0.Coords) (I : In F) (v12 v14 : FVec F S384x256 .bf16) (v16 v18 : FVec F S384x128 .bf16) (h : k0_cond5 i = 1#1) (A : St F) (c d : Vec F S2x384x384 .f32) :
    acc (tail4S i I (BitVec.ofNat 32 (i 1).val) v12 v14 v16 v18 h (withP A (stOf I v12 v14 ⟨tb i + 0, by have := (cond5_iff i).mp h; have := trips_eq i; have : (i 1).val < 11 := (i 1).isLt; unfold tb; omega⟩) (dpOf I v16 v18 ⟨tb i + 0, by have := (cond5_iff i).mp h; have := trips_eq i; have : (i 1).val < 11 := (i 1).isLt; unfold tb; omega⟩) c d))
      = acc (step I (BitVec.ofNat 32 (i 1).val) v12 v14 v16 v18 ⟨tb i + 3, by have := (cond5_iff i).mp h; have := trips_eq i; have : (i 1).val < 11 := (i 1).isLt; unfold tb; omega⟩ (step I (BitVec.ofNat 32 (i 1).val) v12 v14 v16 v18 ⟨tb i + 2, by have := (cond5_iff i).mp h; have := trips_eq i; have : (i 1).val < 11 := (i 1).isLt; unfold tb; omega⟩ (step I (BitVec.ofNat 32 (i 1).val) v12 v14 v16 v18 ⟨tb i + 1, by have := (cond5_iff i).mp h; have := trips_eq i; have : (i 1).val < 11 := (i 1).isLt; unfold tb; omega⟩ (step I (BitVec.ofNat 32 (i 1).val) v12 v14 v16 v18 ⟨tb i + 0, by have := (cond5_iff i).mp h; have := trips_eq i; have : (i 1).val < 11 := (i 1).isLt; unfold tb; omega⟩ A)))) := by
  unfold tail4S
  rw [puts_B I v12 v14 v16 v18 ⟨tb i + 1, by have := (cond5_iff i).mp h; have := trips_eq i; have : (i 1).val < 11 := (i 1).isLt; unfold tb; omega⟩ (k0_off61 i 0#32) _ (k0_off62 i 0#32) _ (k0_off63 i 0#32) _ (k0_off64 i 0#32) _ (off61_eq i 0 h) (off62_eq i 0 h) (off63_eq i 0 h) (off64_eq i 0 h)]
  rw [two_A I _ (Scalar.addi (tailW (BitVec.ofNat 32 (i 1).val)) 0#32) (Scalar.addi (tailW (BitVec.ofNat 32 (i 1).val)) 0#32) v12 v14 v16 v18 ⟨tb i + 0, by have := (cond5_iff i).mp h; have := trips_eq i; have : (i 1).val < 11 := (i 1).isLt; unfold tb; omega⟩ (k0_off65 i 0#32) _ (k0_off66 i 0#32) _ (k0_off67 i 0#32) _ (k0_off68 i 0#32) _ (k0_off69 i 0#32) _ (k0_off70 i 0#32) _ (k0_off71 i 0#32) _ (k0_off72 i 0#32) _ (tailW_eq i 0) (tailW_eq i 0) (off65_eq i 0 h) (off66_eq i 0 h) (off67_eq i 0 h) (off68_eq i 0 h) (off69_eq i 0 h) (off70_eq i 0 h) (off71_eq i 0 h) (off72_eq i 0 h)]
  rw [puts_A I v12 v14 v16 v18 ⟨tb i + 2, by have := (cond5_iff i).mp h; have := trips_eq i; have : (i 1).val < 11 := (i 1).isLt; unfold tb; omega⟩ (k0_off61 i 1#32) _ (k0_off62 i 1#32) _ (k0_off63 i 1#32) _ (k0_off64 i 1#32) _ (off61_eq i 1 h) (off62_eq i 1 h) (off63_eq i 1 h) (off64_eq i 1 h)]
  rw [two_B I _ (Scalar.addi (tailW (BitVec.ofNat 32 (i 1).val)) 1#32) (Scalar.addi (tailW (BitVec.ofNat 32 (i 1).val)) 1#32) v12 v14 v16 v18 ⟨tb i + 1, by have := (cond5_iff i).mp h; have := trips_eq i; have : (i 1).val < 11 := (i 1).isLt; unfold tb; omega⟩ (k0_off65 i 1#32) _ (k0_off66 i 1#32) _ (k0_off67 i 1#32) _ (k0_off68 i 1#32) _ (k0_off69 i 1#32) _ (k0_off70 i 1#32) _ (k0_off71 i 1#32) _ (k0_off72 i 1#32) _ (tailW_eq i 1) (tailW_eq i 1) (off65_eq i 1 h) (off66_eq i 1 h) (off67_eq i 1 h) (off68_eq i 1 h) (off69_eq i 1 h) (off70_eq i 1 h) (off71_eq i 1 h) (off72_eq i 1 h)]
  rw [puts_B I v12 v14 v16 v18 ⟨tb i + 3, by have := (cond5_iff i).mp h; have := trips_eq i; have : (i 1).val < 11 := (i 1).isLt; unfold tb; omega⟩ (k0_off61 i 2#32) _ (k0_off62 i 2#32) _ (k0_off63 i 2#32) _ (k0_off64 i 2#32) _ (off61_eq i 2 h) (off62_eq i 2 h) (off63_eq i 2 h) (off64_eq i 2 h)]
  rw [two_A I _ (Scalar.addi (tailW (BitVec.ofNat 32 (i 1).val)) 2#32) (Scalar.addi (tailW (BitVec.ofNat 32 (i 1).val)) 2#32) v12 v14 v16 v18 ⟨tb i + 2, by have := (cond5_iff i).mp h; have := trips_eq i; have : (i 1).val < 11 := (i 1).isLt; unfold tb; omega⟩ (k0_off65 i 2#32) _ (k0_off66 i 2#32) _ (k0_off67 i 2#32) _ (k0_off68 i 2#32) _ (k0_off69 i 2#32) _ (k0_off70 i 2#32) _ (k0_off71 i 2#32) _ (k0_off72 i 2#32) _ (tailW_eq i 2) (tailW_eq i 2) (off65_eq i 2 h) (off66_eq i 2 h) (off67_eq i 2 h) (off68_eq i 2 h) (off69_eq i 2 h) (off70_eq i 2 h) (off71_eq i 2 h) (off72_eq i 2 h)]
  rw [two_B I _ (Scalar.addi (tailW (BitVec.ofNat 32 (i 1).val)) 3#32) (Scalar.addi (tailW (BitVec.ofNat 32 (i 1).val)) 3#32) v12 v14 v16 v18 ⟨tb i + 3, by have := (cond5_iff i).mp h; have := trips_eq i; have : (i 1).val < 11 := (i 1).isLt; unfold tb; omega⟩ (k0_off65 i 3#32) _ (k0_off66 i 3#32) _ (k0_off67 i 3#32) _ (k0_off68 i 3#32) _ (k0_off69 i 3#32) _ (k0_off70 i 3#32) _ (k0_off71 i 3#32) _ (k0_off72 i 3#32) _ (tailW_eq i 3) (tailW_eq i 3) (off65_eq i 3 h) (off66_eq i 3 h) (off67_eq i 3 h) (off68_eq i 3 h) (off69_eq i 3 h) (off70_eq i 3 h) (off71_eq i 3 h) (off72_eq i 3 h)]
  rfl

/-! ## The body -/

theorem runs_acc (I : In F) (arg1 : BitVec 32) (v12 v14 : FVec F S384x256 .bf16) (v16 v18 : FVec F S384x128 .bf16) (j : ℕ) (A : St F) :
    ∀ m, acc (runs I arg1 v12 v14 v16 v18 j A m) = runs I arg1 v12 v14 v16 v18 j (acc A) m
  | 0 => rfl
  | m + 1 => by
    rw [runs, runs]
    by_cases h : j + m < 11
    · rw [dif_pos h, dif_pos h, acc_step, runs_acc I arg1 v12 v14 v16 v18 j A m]
    · rw [dif_neg h, dif_neg h, runs_acc I arg1 v12 v14 v16 v18 j A m]

/-- The sweep adds every block of rows from the block of keys' own on. -/
theorem sweepS_acc (i : grid0.Coords) (I : In F) (v12 v14 : FVec F S384x256 .bf16) (v16 v18 : FVec F S384x128 .bf16) (A : St F) (c d : Vec F S2x384x384 .f32) :
    acc (sweepS i I (BitVec.ofNat 32 (i 1).val) v12 v14 v16 v18 (withP A (stOf I v12 v14 ⟨(i 1).val, (i 1).isLt⟩) (dpOf I v16 v18 ⟨(i 1).val, (i 1).isLt⟩) c d))
      = runs I (BitVec.ofNat 32 (i 1).val) v12 v14 v16 v18 (i 1).val (acc A) (11 - (i 1).val) := by
  have t := trips_eq i
  have j : (i 1).val < 11 := (i 1).isLt
  obtain ⟨c', d', e⟩ := loopS_eq i I v12 v14 v16 v18 A c d (k0_t1_loop i).trips (Nat.le_refl _)
  have hb : tb i = (i 1).val + 4 * (k0_t1_loop i).trips := by unfold tb; rfl
  rw [← runs_acc]
  unfold sweepS
  rw [e]
  generalize hR : runs I (BitVec.ofNat 32 (i 1).val) v12 v14 v16 v18 (i 1).val A (4 * (k0_t1_loop i).trips) = R
  have hm : (10 - (i 1).val) % 4 = 0 ∨ (10 - (i 1).val) % 4 = 1 ∨ (10 - (i 1).val) % 4 = 2 ∨ (10 - (i 1).val) % 4 = 3 := by omega
  unfold if1S if2S if3S if4S
  rcases hm with hm | hm | hm | hm
  · have h := (cond2_iff i).mpr hm
    rw [dif_neg (fun h => by have := (cond5_iff i).mp h; omega), dif_neg (fun h => by have := (cond4_iff i).mp h; omega), dif_neg (fun h => by have := (cond3_iff i).mp h; omega), dif_pos h]
    rw [show 11 - (i 1).val = 4 * (k0_t1_loop i).trips + 1 from by omega]
    rw [runs, dif_pos (by omega), hR]
    refine Eq.trans (congrArg (fun n : Fin 11 => acc (tail1S i I (BitVec.ofNat 32 (i 1).val) v12 v14 v16 v18 h (withP R (stOf I v12 v14 n) (dpOf I v16 v18 n) c' d'))) (show (⟨(i 1).val + 4 * (k0_t1_loop i).trips, by omega⟩ : Fin 11) = ⟨tb i + 0, by omega⟩ from Fin.ext (by simp only []; omega))) ?_
    rw [tail1S_eq i I v12 v14 v16 v18 h R c' d']
    simp only [hb]
    rfl
  · have h := (cond3_iff i).mpr hm
    rw [dif_neg (fun h => by have := (cond5_iff i).mp h; omega), dif_neg (fun h => by have := (cond4_iff i).mp h; omega), dif_pos h, dif_neg (fun h => by have := (cond2_iff i).mp h; omega)]
    rw [show 11 - (i 1).val = 4 * (k0_t1_loop i).trips + 1 + 1 from by omega]
    rw [runs, dif_pos (by omega), runs, dif_pos (by omega), hR]
    refine Eq.trans (congrArg (fun n : Fin 11 => acc (tail2S i I (BitVec.ofNat 32 (i 1).val) v12 v14 v16 v18 h (withP R (stOf I v12 v14 n) (dpOf I v16 v18 n) c' d'))) (show (⟨(i 1).val + 4 * (k0_t1_loop i).trips, by omega⟩ : Fin 11) = ⟨tb i + 0, by omega⟩ from Fin.ext (by simp only []; omega))) ?_
    rw [tail2S_eq i I v12 v14 v16 v18 h R c' d']
    simp only [hb]
    rfl
  · have h := (cond4_iff i).mpr hm
    rw [dif_neg (fun h => by have := (cond5_iff i).mp h; omega), dif_pos h, dif_neg (fun h => by have := (cond3_iff i).mp h; omega), dif_neg (fun h => by have := (cond2_iff i).mp h; omega)]
    rw [show 11 - (i 1).val = 4 * (k0_t1_loop i).trips + 1 + 1 + 1 from by omega]
    rw [runs, dif_pos (by omega), runs, dif_pos (by omega), runs, dif_pos (by omega), hR]
    refine Eq.trans (congrArg (fun n : Fin 11 => acc (tail3S i I (BitVec.ofNat 32 (i 1).val) v12 v14 v16 v18 h (withP R (stOf I v12 v14 n) (dpOf I v16 v18 n) c' d'))) (show (⟨(i 1).val + 4 * (k0_t1_loop i).trips, by omega⟩ : Fin 11) = ⟨tb i + 0, by omega⟩ from Fin.ext (by simp only []; omega))) ?_
    rw [tail3S_eq i I v12 v14 v16 v18 h R c' d']
    simp only [hb]
    rfl
  · have h := (cond5_iff i).mpr hm
    rw [dif_pos h, dif_neg (fun h => by have := (cond4_iff i).mp h; omega), dif_neg (fun h => by have := (cond3_iff i).mp h; omega), dif_neg (fun h => by have := (cond2_iff i).mp h; omega)]
    rw [show 11 - (i 1).val = 4 * (k0_t1_loop i).trips + 1 + 1 + 1 + 1 from by omega]
    rw [runs, dif_pos (by omega), runs, dif_pos (by omega), runs, dif_pos (by omega), runs, dif_pos (by omega), hR]
    refine Eq.trans (congrArg (fun n : Fin 11 => acc (tail4S i I (BitVec.ofNat 32 (i 1).val) v12 v14 v16 v18 h (withP R (stOf I v12 v14 n) (dpOf I v16 v18 n) c' d'))) (show (⟨(i 1).val + 4 * (k0_t1_loop i).trips, by omega⟩ : Fin 11) = ⟨tb i + 0, by omega⟩ from Fin.ext (by simp only []; omega))) ?_
    rw [tail4S_eq i I v12 v14 v16 v18 h R c' d']
    simp only [hb]
    rfl

theorem cov11 (y : S2x4224x256.Idx) : ∃ x, (Rect.unit (s := S2x4224x256) ![0, 0, 0] S2x4224x256.size inb_S2x4224x256_S2x4224x256_0_0_0).emb x = y :=
  LoadRect.exists_idx_of_mem (Rect.unit (s := S2x4224x256) ![0, 0, 0] S2x4224x256.size inb_S2x4224x256_S2x4224x256_0_0_0).toLoadRect
    (Rect.mem_set_unit.mpr fun z => ⟨by fin_cases z <;> exact Nat.zero_le _, by have h := (y z).isLt; fin_cases z <;> simpa using h⟩)
theorem cov12 (y : S2x384x256.Idx) : ∃ x, (Rect.unit (s := S2x384x256) ![0, 0, 0] S2x384x256.size inb_S2x384x256_S2x384x256_0_0_0).emb x = y :=
  LoadRect.exists_idx_of_mem (Rect.unit (s := S2x384x256) ![0, 0, 0] S2x384x256.size inb_S2x384x256_S2x384x256_0_0_0).toLoadRect
    (Rect.mem_set_unit.mpr fun z => ⟨by fin_cases z <;> exact Nat.zero_le _, by have h := (y z).isLt; fin_cases z <;> simpa using h⟩)
theorem cov13 (y : S2x384x128.Idx) : ∃ x, (Rect.unit (s := S2x384x128) ![0, 0, 0] S2x384x128.size inb_S2x384x128_S2x384x128_0_0_0).emb x = y :=
  LoadRect.exists_idx_of_mem (Rect.unit (s := S2x384x128) ![0, 0, 0] S2x384x128.size inb_S2x384x128_S2x384x128_0_0_0).toLoadRect
    (Rect.mem_set_unit.mpr fun z => ⟨by fin_cases z <;> exact Nat.zero_le _, by have h := (y z).isLt; fin_cases z <;> simpa using h⟩)

/-- A constant written over all of it. -/
theorem upd_const {s : Shape} {α : Type} (X : s.Idx → α) (r : Rect s) (w : r.shape.Idx → α) (x : α)
    (hw : ∀ z, w z = x) (hc : ∀ y, ∃ z, r.emb z = y) : upd X r w = fun _ => x := by
  funext y
  obtain ⟨z, rfl⟩ := hc y
  rw [upd_in, hw]

/-- The accumulators as a block of keys starts. -/
def begin (i : grid0.Coords) (A : St F) : St F :=
  { A with
    dq := if first i = 1#1 then fun _ => Scalar.ofBits .f32 0#32 else A.dq
    dk := fun _ => Scalar.ofBits .f32 0#32
    dv := fun _ => Scalar.ofBits .f32 0#32 }

theorem zero12_eq (S : St F) : zero12 S = { S with dk := fun _ => Scalar.ofBits .f32 0#32, dv := fun _ => Scalar.ofBits .f32 0#32 } := by
  unfold zero12
  rw [upd_const S.dk _ k0_pay338 (Scalar.ofBits .f32 0#32) (fun _ => rfl) cov12, upd_const S.dv _ k0_pay339 (Scalar.ofBits .f32 0#32) (fun _ => rfl) cov13]

theorem zero11_eq (S : St F) : zero11 S = { S with dq := fun _ => Scalar.ofBits .f32 0#32 } := by
  unfold zero11
  rw [upd_const S.dq _ k0_pay337 (Scalar.ofBits .f32 0#32) (fun _ => rfl) cov11]

theorem begin_eq (i : grid0.Coords) (S : St F) :
    zero12 (if first i = 1#1 then zero11 S else S) = withP (begin i S) S.stA S.dpA S.stB S.dpB := by
  rw [zero12_eq, zero11_eq]
  unfold begin withP
  by_cases h : first i = 1#1
  · rw [if_pos h, if_pos h]
  · rw [if_neg h, if_neg h]

/-- What the body at `i` makes of the accumulators. -/
def bodyAcc (i : grid0.Coords) (I : In F) (K : Vec F S384x512 .bf16) (V : Vec F S384x256 .bf16) (A : St F) : St F :=
  runs I (BitVec.ofNat 32 (i 1).val) (keys K V i).2.1 (keys K V i).2.2.1 (keys K V i).2.2.2.1 (keys K V i).2.2.2.2 (i 1).val (begin i (acc A)) (11 - (i 1).val)

theorem bodyS_acc (i : grid0.Coords) (I : In F) (K : Vec F S384x512 .bf16) (V : Vec F S384x256 .bf16) (S : St F) :
    acc (bodyS i I K V S) = bodyAcc i I K V (acc S) := by
  unfold bodyS bodyAcc afterS startS start2S
  rw [begin_eq, show (keys K V i).1 = BitVec.ofNat 32 (i 1).val from rfl]
  generalize (keys K V i).2.1 = v12
  generalize (keys K V i).2.2.1 = v14
  generalize (keys K V i).2.2.2.1 = v16
  generalize (keys K V i).2.2.2.2 = v18
  rw [puts_A I v12 v14 v16 v18 ⟨(i 1).val, (i 1).isLt⟩ _ _ _ _ _ _ _ _ (off1_eq i) (off2_eq i) (off3_eq i) (off4_eq i)]
  exact sweepS_acc i I v12 v14 v16 v18 (begin i S) S.stB S.dpB

/-- At a pair's first block of keys, what was there does not matter. -/
theorem bodyAcc_first (i : grid0.Coords) (I : In F) (K : Vec F S384x512 .bf16) (V : Vec F S384x256 .bf16) (h : first i = 1#1) (A B : St F) :
    bodyAcc i I K V A = bodyAcc i I K V B := by
  unfold bodyAcc begin acc
  rw [if_pos h, if_pos h]

theorem out9_acc (S : St F) : out9 (acc S) = out9 S := rfl
theorem out10_acc (S : St F) : out10 (acc S) = out10 S := rfl
theorem out8_acc (S : St F) : out8 (acc S) = out8 S := rfl

end Cert.AttnKernelIdeal.Step

end
-- ==== Proof.AttnFrame.lean ====
/- The frame of the attention's backward call: every argument ends as it was. -/
module

public import proofs.«01_k».proof.Proof.AttnAcc
public import Idealize.ShloMosaic.Lib.Claim

@[expose] public section

set_option maxRecDepth 16384

noncomputable section

namespace Cert.AttnKernelIdeal.Step

open Cert.AttnKernelIdeal Cert.AttnKernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers at a point -/

abbrev ms0_0 (t : Fin cfg0.N) : Memref sig .tc .vmem S4224x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x11x1x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x11x1x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4224x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4224x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S384x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S384x256 .bf16 := win0_8.stage (cfg0.slots t 8)
abbrev hs0_8 (t : Fin cfg0.N) : (ms0_8 t).IsWhole := hstage0_8 ((cfg0.slots t 8).cast nbuf0_8)
abbrev scM0_0 : Memref sig .tc .vmem S2x4224x256 .f32 := Memref.whole cc0_scratch0
abbrev scM0_1 : Memref sig .tc .vmem S2x384x256 .f32 := Memref.whole cc0_scratch1
abbrev scM0_2 : Memref sig .tc .vmem S2x384x128 .f32 := Memref.whole cc0_scratch2
abbrev scM0_3 : Memref sig .tc .vmem S2x384x384 .f32 := Memref.whole cc0_scratch3
abbrev scM0_4 : Memref sig .tc .vmem S2x384x384 .f32 := Memref.whole cc0_scratch4
abbrev scM0_5 : Memref sig .tc .vmem S2x384x384 .f32 := Memref.whole cc0_scratch5
abbrev scM0_6 : Memref sig .tc .vmem S2x384x384 .f32 := Memref.whole cc0_scratch6

/-- What the point reads. -/
def inAt (c : Dev nD) (t : Fin cfg0.N) : In F := ⟨iblk m c 0 t, iblk m c 3 t, iblk m c 4 t, iblk m c 5 t⟩

/-- The accumulators after the first `n` points. -/
def accAt (c : Dev nD) : ℕ → St F
  | 0 => ⟨fun _ => Scalar.ofBits .f32 0#32, fun _ => Scalar.ofBits .f32 0#32, fun _ => Scalar.ofBits .f32 0#32, fun _ => Scalar.ofBits .f32 0#32, fun _ => Scalar.ofBits .f32 0#32, fun _ => Scalar.ofBits .f32 0#32, fun _ => Scalar.ofBits .f32 0#32⟩
  | n + 1 => if h : n < cfg0.N then bodyAcc (grid0.coords ⟨n, h⟩) (inAt m c ⟨n, h⟩) (iblk m c 1 ⟨n, h⟩) (iblk m c 2 ⟨n, h⟩) (accAt c n) else accAt c n

theorem accAt_succ (c : Dev nD) (t : Fin cfg0.N) :
    accAt m c (t.val + 1) = bodyAcc (grid0.coords t) (inAt m c t) (iblk m c 1 t) (iblk m c 2 t) (accAt m c t.val) := by
  rw [accAt, dif_pos t.isLt]

theorem first_zero : ∀ t : Fin cfg0.N, t.val = 0 → first (grid0.coords t) = 1#1 := by decide +kernel

/-- The scratch buffers at given contents. -/
def Scratch (c : Dev nD) (S : St F) : sProp 𝕄 :=
  iprop(owns (c : Thread nD τ) scM0_0 fullShare (S.dq : Vec F S2x4224x256 .f32) ∗ owns (c : Thread nD τ) scM0_1 fullShare (S.dk : Vec F S2x384x256 .f32) ∗ owns (c : Thread nD τ) scM0_2 fullShare (S.dv : Vec F S2x384x128 .f32) ∗ owns (c : Thread nD τ) scM0_3 fullShare (S.stA : Vec F S2x384x384 .f32) ∗ owns (c : Thread nD τ) scM0_4 fullShare (S.dpA : Vec F S2x384x384 .f32) ∗ owns (c : Thread nD τ) scM0_5 fullShare (S.stB : Vec F S2x384x384 .f32) ∗ owns (c : Thread nD τ) scM0_6 fullShare (S.dpB : Vec F S2x384x384 .f32))

/-- Between two points the scratch buffers hold those accumulators. -/
def PhiS (c : Dev nD) (n : ℕ) (_ : n ≤ cfg0.N) : sProp 𝕄 :=
  iprop(∃ S : St F, ⌜n ≠ 0 → acc S = accAt m c n⌝ ∗ Scratch c S ∗ (∃ r, prngReg c r))

theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem idleAt0_6 : ∀ t : Fin cfg0.N, ¬k0_cond6 (grid0.coords t) = 1#1 → cfg0.idle 6 (grid0.coords t) = true := by decide +kernel
theorem noFlush0_6 : ∀ t : Fin cfg0.N, ¬k0_cond6 (grid0.coords t) = 1#1 → (cfg0.win 6).flush t = false := by decide +kernel
theorem liveAt0_6 : ∀ t : Fin cfg0.N, k0_cond6 (grid0.coords t) = 1#1 → cfg0.idle 6 (grid0.coords t) = false := by decide +kernel

/-! ## The data of the run -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out8 (accAt m c (t.val + 1))
    | ⟨7, _⟩ => out9 (accAt m c (t.val + 1))
    | ⟨8, _⟩ => out10 (accAt m c (t.val + 1))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out8 (accAt m c (t.val + 1)) := by dsimp only [dats]
theorem after0_7 (c : Dev nD) (t : Fin cfg0.N) : (dats m 0 c).after 7 t = out9 (accAt m c (t.val + 1)) := by dsimp only [dats]
theorem after0_8 (c : Dev nD) (t : Fin cfg0.N) : (dats m 0 c).after 8 t = out10 (accAt m c (t.val + 1)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem acc_next (c : Dev nD) (t : Fin cfg0.N) (S : St F) (hS : t.val ≠ 0 → acc S = accAt m c t.val) :
    acc (bodyS (grid0.coords t) (inAt m c t) (iblk m c 1 t) (iblk m c 2 t) S) = accAt m c (t.val + 1) := by
  rw [bodyS_acc, accAt_succ]
  by_cases h : t.val = 0
  · exact bodyAcc_first _ _ _ _ (first_zero t h) _ _
  · rw [hS h]

/-- What the point leaves, as the run's data say it. -/
theorem post_point (c : Dev nD) (t : Fin cfg0.N) (S : St F) (hS : t.val ≠ 0 → acc S = accAt m c t.val) (d6 : (cfg0.win 6).block.Idx → Elt F (cfg0.win 6).elt) :
    iprop(((Own c (ms0_0 t) (ms0_3 t) (ms0_4 t) (ms0_5 t) scM0_0 scM0_1 scM0_2 scM0_3 scM0_4 scM0_5 scM0_6 (inAt m c t) (bodyS (grid0.coords t) (inAt m c t) (iblk m c 1 t) (iblk m c 2 t) S) ∗ owns (c : Thread nD τ) (ms0_1 t) fullShare (iblk m c 1 t : Vec F S384x512 .bf16) ∗ owns (c : Thread nD τ) (ms0_2 t) fullShare (iblk m c 2 t : Vec F S384x256 .bf16)) ∗ (owns (c : Thread nD τ) (ms0_7 t) fullShare (out9 (bodyS (grid0.coords t) (inAt m c t) (iblk m c 1 t) (iblk m c 2 t) S) : Vec F S384x512 .bf16) ∗ owns (c : Thread nD τ) (ms0_8 t) fullShare (out10 (bodyS (grid0.coords t) (inAt m c t) (iblk m c 1 t) (iblk m c 2 t) S) : Vec F S384x256 .bf16)) ∗ owns (c : Thread nD τ) (ms0_6 t) fullShare (if k0_cond6 (grid0.coords t) = 1#1 then out8 (bodyS (grid0.coords t) (inAt m c t) (iblk m c 1 t) (iblk m c 2 t) S) else (dats m 0 c).before 6 t d6 : Vec F S4224x512 .bf16)) ∗ (∃ r, prngReg c r) ∗ (dats m 0 c).owesAt () t.castSucc) ⊢ bodyPost m c t := by
  have hn := acc_next m c t S hS
  have e9 := (out9_acc (bodyS (grid0.coords t) (inAt m c t) (iblk m c 1 t) (iblk m c 2 t) S)).symm.trans (congrArg out9 hn)
  have e10 := (out10_acc (bodyS (grid0.coords t) (inAt m c t) (iblk m c 1 t) (iblk m c 2 t) S)).symm.trans (congrArg out10 hn)
  have e8 := (out8_acc (bodyS (grid0.coords t) (inAt m c t) (iblk m c 1 t) (iblk m c 2 t) S)).symm.trans (congrArg out8 hn)
  rw [e9, e10, e8]
  generalize (bodyS (grid0.coords t) (inAt m c t) (iblk m c 1 t) (iblk m c 2 t) S) = S' at hn ⊢
  unfold bodyPost
  rw [show (dats m 0 c).owesAt () t.succ = (dats m 0 c).owesAt () t.castSucc from rfl]
  rw [show (dats m 0 c).Φ t.succ = PhiS m c (t.val + 1) t.isLt from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  by_cases hj : k0_cond6 (grid0.coords t) = 1#1
  · rw [show (dats m 0 c).leavesExact 6 t = owns (c : Thread nD τ) (ms0_6 t) fullShare ((dats m 0 c).after 6 t) from by
      unfold Dat.leavesExact; rw [liveAt0_6 t hj], after0_6, if_pos hj]
    unfold PhiS Scratch Own inAt
    iintro ⟨⟨⟨⟨H0, H3, H4, H5, S0, S1, S2, S3, S4, S5, S6⟩, H1, H2⟩, ⟨H7, H8⟩, H6⟩, Hg, Ho⟩
    isplitl [Hg S0 S1 S2 S3 S4 S5 S6]
    · iexists S'
      isplitr
      · ipureintro; exact fun _ => hn
      isplitr [Hg]
      · isplitl [S0]; · iexact S0
        isplitl [S1]; · iexact S1
        isplitl [S2]; · iexact S2
        isplitl [S3]; · iexact S3
        isplitl [S4]; · iexact S4
        isplitl [S5]; · iexact S5
        iexact S6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dats m 0 c) 6 t (idleAt0_6 t hj) (noFlush0_6 t hj), if_neg hj]
    unfold PhiS Scratch Own inAt
    iintro ⟨⟨⟨⟨H0, H3, H4, H5, S0, S1, S2, S3, S4, S5, S6⟩, H1, H2⟩, ⟨H7, H8⟩, H6⟩, Hg, Ho⟩
    isplitl [Hg S0 S1 S2 S3 S4 S5 S6]
    · iexists S'
      isplitr
      · ipureintro; exact fun _ => hn
      isplitr [Hg]
      · isplitl [S0]; · iexact S0
        isplitl [S1]; · iexact S1
        isplitl [S2]; · iexact S2
        isplitl [S3]; · iexact S3
        isplitl [S4]; · iexact S4
        isplitl [S5]; · iexact S5
        iexact S6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [H7]; · iexact H7
    iexact H8

attribute [local irreducible] bodyPost in
theorem point_wp (c : Dev nD) (t : Fin cfg0.N) (S : St F) (hS : t.val ≠ 0 → acc S = accAt m c t.val) (d6 : (cfg0.win 6).block.Idx → Elt F (cfg0.win 6).elt) (x7 : Vec F S384x512 .bf16) (x8 : Vec F S384x256 .bf16) :
    iprop(((Own c (ms0_0 t) (ms0_3 t) (ms0_4 t) (ms0_5 t) scM0_0 scM0_1 scM0_2 scM0_3 scM0_4 scM0_5 scM0_6 (inAt m c t) S ∗ owns (c : Thread nD τ) (ms0_1 t) fullShare (iblk m c 1 t : Vec F S384x512 .bf16) ∗ owns (c : Thread nD τ) (ms0_2 t) fullShare (iblk m c 2 t : Vec F S384x256 .bf16)) ∗ (owns (c : Thread nD τ) (ms0_7 t) fullShare (x7 : Vec F S384x512 .bf16) ∗ owns (c : Thread nD τ) (ms0_8 t) fullShare (x8 : Vec F S384x256 .bf16)) ∗ owns (c : Thread nD τ) (ms0_6 t) fullShare ((dats m 0 c).before 6 t d6 : Vec F S4224x512 .bf16)) ∗ (∃ r, prngReg c r) ∗ (dats m 0 c).owesAt () t.castSucc) ⊢
      wp frame (wpE (defs₀ (F := F)) Variants.none (c : Thread nD τ) none) Set.univ (bodyAt0 t) (fun _ => bodyPost m c t) := by
  unfold bodyAt0
  rw [body_eq]
  refine (sep_mono_l (body_wp c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (inAt m c t) S (iblk m c 1 t) (iblk m c 2 t) ((dats m 0 c).before 6 t d6) x7 x8)).trans
    ((wp_frame_r _ _ _).trans (wp_mono _ _ _ fun _ => ?_))
  exact post_point m c t S hS d6

theorem sound_body (c : Dev nD) (t : Fin cfg0.N) :
    bodyPre m c t ⊢ wp frame (wpE (defs₀ (F := F)) Variants.none c none) Set.univ (bodyAt0 t) (fun _ => bodyPost m c t) := by
  unfold bodyPre
  simp only [before0_0, before0_1, before0_2, before0_3, before0_4, before0_5]
  rw [PhiS_castSucc m c t]
  unfold PhiS Scratch
  iintro ⟨⟨%S, %hS, ⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (point_wp m c t S hS d6 _ _)
  unfold Own inAt
  isplitr [Hg Ho]
  · isplitr [H6 H7 H8]
    · isplitr [H1 H2]
      · isplitl [H0]; · iexact H0
        isplitl [H3]; · iexact H3
        isplitl [H4]; · iexact H4
        isplitl [H5]; · iexact H5
        isplitl [S0]; · iexact S0
        isplitl [S1]; · iexact S1
        isplitl [S2]; · iexact S2
        isplitl [S3]; · iexact S3
        isplitl [S4]; · iexact S4
        isplitl [S5]; · iexact S5
        iexact S6
      isplitl [H1]; · iexact H1
      iexact H2
    isplitr [H6]
    · isplitl [H7]; · iexact H7
      iexact H8
    iexact H6
  isplitl [Hg]; · iexact Hg
  iexact Ho

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA0_eq]
  unfold PhiS Scratch
  iintro ⟨⟨⟨%d0, S0⟩, ⟨%d1, S1⟩, ⟨%d2, S2⟩, ⟨%d3, S3⟩, ⟨%d4, S4⟩, ⟨%d5, S5⟩, ⟨%d6, S6⟩⟩, Hg⟩
  iexists (⟨d0, d1, d2, d3, d4, d5, d6⟩ : St F)
  isplitr
  · ipureintro; exact fun h => absurd rfl h
  isplitr [Hg]
  · isplitl [S0]; · iexact S0
    isplitl [S1]; · iexact S1
    isplitl [S2]; · iexact S2
    isplitl [S3]; · iexact S3
    isplitl [S4]; · iexact S4
    isplitl [S5]; · iexact S5
    iexact S6
  iexact Hg

theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA0_eq]
  unfold PhiS Scratch
  iintro ⟨%S, %hS, ⟨S0, S1, S2, S3, S4, S5, S6⟩, Hg⟩
  isplitr [Hg]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  iexact Hg

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.AttnKernelIdeal.Step

end
-- ==== Proof.AttnFrames.lean ====
/- The frames of the attention's two programs, from the one run. -/
module

public import proofs.«01_k».proof.Proof.AttnFrame
public import proofs.«01_k».proof.Proof.Gen.AttnKernel.Frame
public import Idealize.ShloMosaic.PureOps.BitExact

@[expose] public section

set_option maxRecDepth 16384

noncomputable section

namespace Cert.Attn

open Idealize.ShloMosaic Idealize.ShloMosaic.TcCoe Idealize.ShloMosaic.Tactic Idealize.SL.Sem

/-- A named constant read as the number it is printed as. -/
@[reducible] def printed : Named Bits := ⟨fun _ _ φ bits => FloatOps.ofBits φ bits⟩

attribute [local instance] printed

theorem main_same : (Cert.AttnKernel.main (F := Bits)) = (Cert.AttnKernelIdeal.main (F := Bits)) := by
  sl_kernel_rfl

theorem defs_same : (Cert.AttnKernel.defs (F := Bits)) = (Cert.AttnKernelIdeal.defs (F := Bits)) := by
  sl_kernel_rfl

/-- The two programs are one where the constants are as printed. -/
theorem frame_kernel (m : (ℓ : Loc Cert.AttnKernel.nD Cert.AttnKernel.τ Cert.AttnKernel.sig) → Buf (Elt Bits) ℓ) (g : Dev Cert.AttnKernel.nD → PrngReg) :
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4)
      ∧ r.2.mem ((c.tc : Thread Cert.AttnKernel.nD Cert.AttnKernel.τ).loc Cert.AttnKernel.main_arg5) = m ((c.tc : Thread Cert.AttnKernel.nD Cert.AttnKernel.τ).loc Cert.AttnKernel.main_arg5))
      ∧ r.2.sem = fun _ => 0) :=
  by
    rw [main_same, defs_same]
    exact Cert.AttnKernelIdeal.Step.frame_all (F := Bits) m g

end Cert.Attn

end
-- ==== Proof.AttnHead.lean ====
/- One block of rows of the attention's backward call, at an index: what it adds to the three accumulators. -/
module

public import proofs.«01_k».proof.Proof.AttnAcc
public import Idealize.ShloMosaic.Lib.Pointwise

@[expose] public section

set_option maxRecDepth 16384

noncomputable section

namespace Cert.AttnKernelIdeal.Step

open Cert.AttnKernelIdeal Cert.AttnKernelIdeal.Gen Cert.Attn
open Idealize.ShloMosaic Idealize.ShloMosaic.TcCoe

/-- The named mask is minus infinity. -/
theorem mask_eq : (Named.named (F := Ideal) κ "mask" (φ := .f32) 0xF149F2CA#32 : EReal) = ⊥ := rfl

theorem small_toInt (n : ℕ) (h : n < 2 ^ 31) : (BitVec.ofNat 32 n).toInt = n := by
  rw [BitVec.toInt_eq_toNat_cond, BitVec.toNat_ofNat, Nat.mod_eq_of_lt (by omega), if_pos (by omega)]

theorem sle_iff (r x : Fin 384) : IntOp.cmpi CmpIPredicate.sle (BitVec.ofNat 32 r.val) (BitVec.ofNat 32 x.val) = 1#1 ↔ r.val ≤ x.val := by
  have hr : (BitVec.ofNat 32 r.val).toInt = r.val := small_toInt r.val (by omega)
  have hx : (BitVec.ofNat 32 x.val).toInt = x.val := small_toInt x.val (by omega)
  show BitVec.ofBool ((BitVec.ofNat 32 r.val).sle (BitVec.ofNat 32 x.val)) = 1#1 ↔ _
  rw [BitVec.sle, hr, hx]
  by_cases h : r.val ≤ x.val <;> simp [h]

theorem eq_zero_of_ne_one {b : BitVec 1} (h : b ≠ 1#1) : b = 0#1 := by revert b; decide

theorem keep_iff (j n : Fin 11) (r x : Fin 384) :
    IntOp.ori (IntOp.cmpi CmpIPredicate.sle (BitVec.ofNat 32 r.val) (BitVec.ofNat 32 x.val))
      (Scalar.cmpi CmpIPredicate.ne (BitVec.ofNat 32 n.val) (BitVec.ofNat 32 j.val)) = 1#1 ↔ r.val ≤ x.val ∨ n ≠ j := by
  rw [← sle_iff r x]
  have hn : Scalar.cmpi CmpIPredicate.ne (BitVec.ofNat 32 n.val) (BitVec.ofNat 32 j.val) = if n ≠ j then 1#1 else 0#1 := by
    revert n j; decide +kernel
  rw [hn]
  generalize IntOp.cmpi CmpIPredicate.sle (BitVec.ofNat 32 r.val) (BitVec.ofNat 32 x.val) = b
  by_cases h : n = j <;> simp [h] <;> revert b <;> decide

/-! ## The payloads -/

theorem scores_at (kk q : FVec Ideal S384x256 .bf16) (r x : Fin 384) :
    @Eq EReal (k0_pay6 (F := Ideal) kk q (ix3 (0 : Fin 1) r x)) (∑ k : Fin 256, kk (ix2 r k) * q (ix2 x k)) := by
  pointwise [k0_pay6]

theorem products_at (vv d : FVec Ideal S384x128 .bf16) (r x : Fin 384) :
    @Eq EReal (k0_pay7 (F := Ideal) vv d (ix3 (0 : Fin 1) r x)) (∑ k : Fin 128, vv (ix2 r k) * d (ix2 x k)) := by
  pointwise [k0_pay7]

theorem probs_at (j n : Fin 11) (st : Vec Ideal S1x384x384 .f32) (lse : Vec Ideal S1x1x1x384 .f32) (r x : Fin 384) :
    @Eq EReal (k0_pay12 (F := Ideal) (BitVec.ofNat 32 j.val) (BitVec.ofNat 32 n.val) st lse (ix2 r x))
      (Ideal.exp ((if r.val ≤ x.val ∨ n ≠ j then (st (ix3 (0 : Fin 1) r x) : EReal) else ⊥) - lse (ix4 (0 : Fin 1) (0 : Fin 1) (0 : Fin 1) x))) := by
  pointwise [k0_pay12]
  by_cases h : r.val ≤ x.val ∨ n ≠ j
  · rw [if_pos h, (keep_iff j n r x).2 h]; rfl
  · rw [if_neg h, eq_zero_of_ne_one (fun e => h ((keep_iff j n r x).1 e)), mask_eq]; rfl

theorem dv_at (j w : BitVec 32) (d : Vec Ideal S384x128 .bf16) (st : Vec Ideal S1x384x384 .f32) (lse : Vec Ideal S1x1x1x384 .f32)
    (a : Vec Ideal S1x384x128 .f32) (r : Fin 384) (l : Fin 128) :
    @Eq EReal (k0_pay13 (F := Ideal) j w d st lse a (ix3 (0 : Fin 1) r l))
      (a (ix3 (0 : Fin 1) r l) + ∑ x : Fin 384, k0_pay12 (F := Ideal) j w st lse (ix2 r x) * d (ix2 x l)) := by
  pointwise [k0_pay13]

theorem dk_at (q : FVec Ideal S384x256 .bf16) (p : FVec Ideal S384x384 .f32) (dp : Vec Ideal S1x384x384 .f32) (dl : Vec Ideal S1x1x1x384 .f32)
    (a : Vec Ideal S1x384x256 .f32) (r : Fin 384) (l : Fin 256) :
    @Eq EReal (k0_pay15 (F := Ideal) q p dp dl a (ix3 (0 : Fin 1) r l))
      (a (ix3 (0 : Fin 1) r l)
        + ∑ x : Fin 384, p (ix2 r x) * (dp (ix3 (0 : Fin 1) r x) - dl (ix4 (0 : Fin 1) (0 : Fin 1) (0 : Fin 1) x)) * q (ix2 x l)) := by
  pointwise [k0_pay15, k0_pay14]

theorem dq_at (kk : FVec Ideal S384x256 .bf16) (p : FVec Ideal S384x384 .f32) (dp : Vec Ideal S1x384x384 .f32) (dl : Vec Ideal S1x1x1x384 .f32)
    (a : Vec Ideal S1x384x256 .f32) (x : Fin 384) (l : Fin 256) :
    @Eq EReal (k0_pay16 (F := Ideal) kk p dp dl a (ix3 (0 : Fin 1) x l))
      (a (ix3 (0 : Fin 1) x l)
        + ∑ r : Fin 384, p (ix2 r x) * (dp (ix3 (0 : Fin 1) r x) - dl (ix4 (0 : Fin 1) (0 : Fin 1) (0 : Fin 1) x)) * kk (ix2 r l)) := by
  pointwise [k0_pay16, k0_pay14]

/-! ## One head -/

theorem emb3 {n0 n1 n2 k1 k2 : ℕ} (h : Fin n0) (o : ℕ) (hin : ∀ a, (![h.val, o, 0] : Fin 3 → ℕ) a + (⟨3, ![1, k1, k2]⟩ : Shape).size a ≤ (⟨3, ![n0, n1, n2]⟩ : Shape).size a)
    (r : Fin k1) (l : Fin k2) (hr : o + r.val < n1) (hl : l.val < n2) :
    (Rect.unit (s := ⟨3, ![n0, n1, n2]⟩) ![h.val, o, 0] (⟨3, ![1, k1, k2]⟩ : Shape).size hin).emb (ix3 (0 : Fin 1) r l) = ix3 h ⟨o + r.val, hr⟩ ⟨l.val, hl⟩ := by
  funext a
  fin_cases a
  · exact Fin.ext (show h.val + 1 * 0 = h.val by omega)
  · exact Fin.ext (show o + 1 * r.val = o + r.val by omega)
  · exact Fin.ext (show 0 + 1 * l.val = l.val by omega)

theorem emb_buf (h : Fin 2) (hh : ∀ a, (![h.val, 0, 0] : Fin 3 → ℕ) a + S1x384x384.size a ≤ S2x384x384.size a) (r x : Fin 384) :
    (Rect.unit (s := S2x384x384) ![h.val, 0, 0] S1x384x384.size hh).emb (ix3 (0 : Fin 1) r x) = ix3 h r x := by
  rw [emb3 h 0 hh r x (by omega) (by omega)]
  exact congrArg (fun y => ix3 h y x) (Fin.ext (Nat.zero_add _))

theorem emb_stat (n : Fin 11) (h : Fin 2) (x : Fin 384) :
    (Rect.unit (s := S2x11x1x384) ![h.val, n.val, 0, 0] S1x1x1x384.size (inbL n h)).emb (ix4 (0 : Fin 1) (0 : Fin 1) (0 : Fin 1) x) = ix4 h n (0 : Fin 1) x := by
  funext a
  fin_cases a
  · exact Fin.ext (show h.val + 1 * 0 = h.val by omega)
  · exact Fin.ext (show n.val + 1 * 0 = n.val by omega)
  · exact Fin.ext (show 0 + 1 * 0 = 0 by omega)
  · exact Fin.ext (show 0 + 1 * x.val = x.val by omega)

variable (I : In Ideal) (j n : Fin 11) (st dp : Vec Ideal S2x384x384 .f32) (kk : FVec Ideal S384x256 .bf16) (h : Fin 2)

/-- One head's probabilities, from its scores. -/
def pH (r x : Fin 384) : EReal :=
  Ideal.exp ((if r.val ≤ x.val ∨ n ≠ j then (st (ix3 h r x) : EReal) else ⊥) - I.lse (ix4 h n (0 : Fin 1) x))
/-- The cotangents of its scores. -/
def dsH (r x : Fin 384) : EReal := pH I j n st h r x * (dp (ix3 h r x) - I.dlt (ix4 h n (0 : Fin 1) x))

/-- The rows and the columns of the blocks. -/
abbrev row (n : Fin 11) (x : Fin 384) : Fin 4224 := ⟨384 * n.val + x.val, by omega⟩
abbrev col (k : ℕ) (h : Fin 2) (l : Fin k) : Fin (2 * k) := ⟨k * h.val + l.val, by
  have := h.isLt; have := l.isLt; nlinarith⟩

section
variable (oh : Fin 3 → ℕ) (hh : ∀ a, oh a + S1x384x384.size a ≤ S2x384x384.size a)
    (h12 : ∀ a, oh a + S1x384x256.size a ≤ S2x384x256.size a) (h13 : ∀ a, oh a + S1x384x128.size a ≤ S2x384x128.size a)
    (e : oh = ![h.val, 0, 0]) (S : St Ideal)
include e

theorem pay12_eq (r x : Fin 384) :
    @Eq EReal (k0_pay12 (F := Ideal) (BitVec.ofNat 32 j.val) (BitVec.ofNat 32 n.val)
        (sub st (Rect.unit (s := S2x384x384) oh S1x384x384.size hh))
        (sub I.lse (Rect.unit (s := S2x11x1x384) ![h.val, n.val, 0, 0] S1x1x1x384.size (inbL n h))) (ix2 r x))
      (pH I j n st h r x) := by
  subst e
  rw [probs_at]
  unfold pH sub
  rw [emb_buf h hh, emb_stat]

theorem ds_eq (r x : Fin 384) :
    k0_pay12 (F := Ideal) (BitVec.ofNat 32 j.val) (BitVec.ofNat 32 n.val)
        (sub st (Rect.unit (s := S2x384x384) oh S1x384x384.size hh))
        (sub I.lse (Rect.unit (s := S2x11x1x384) ![h.val, n.val, 0, 0] S1x1x1x384.size (inbL n h))) (ix2 r x)
      * (sub dp (Rect.unit (s := S2x384x384) oh S1x384x384.size hh) (ix3 (0 : Fin 1) r x)
        - sub I.dlt (Rect.unit (s := S2x11x1x384) ![h.val, n.val, 0, 0] S1x1x1x384.size (inbL n h)) (ix4 (0 : Fin 1) (0 : Fin 1) (0 : Fin 1) x))
      = dsH I j n st dp h r x := by
  rw [pay12_eq I j n st h oh hh e r x]
  subst e
  unfold dsH sub
  rw [emb_buf h hh, emb_stat]

theorem head_dv_same (r : Fin 384) (l : Fin 128) :
    @Eq EReal ((head I (BitVec.ofNat 32 j.val) st dp kk n h oh hh h12 h13 S).dv (ix3 h r l))
      (S.dv (ix3 h r l) + ∑ x : Fin 384, pH I j n st h r x * I.dO (ix2 (row n x) (col 128 h l))) := by
  have e0 : (Rect.unit (s := S2x384x128) oh S1x384x128.size h13).emb (ix3 (0 : Fin 1) r l) = ix3 h r l := by
    subst e
    rw [emb3 h 0 h13 r l (by omega) (by omega)]
    exact congrArg (fun y => ix3 h y l) (Fin.ext (Nat.zero_add _))
  unfold head cons
  dsimp only
  refine (congrArg _ e0.symm).trans ?_
  rw [upd_in, dv_at]
  congr 1
  · exact congrArg S.dv e0
  · refine Finset.sum_congr rfl fun x _ => ?_
    rw [pay12_eq I j n st h oh hh e r x]
    congr 1
    unfold sub
    refine congrArg I.dO (funext fun a => ?_)
    fin_cases a
    · exact Fin.ext (congrArg (384 * n.val + ·) (one_mul x.val))
    · exact Fin.ext (congrArg (128 * h.val + ·) (one_mul l.val))

theorem head_dv_other (h' : Fin 2) (hn : h' ≠ h) (r : Fin 384) (l : Fin 128) :
    (head I (BitVec.ofNat 32 j.val) st dp kk n h oh hh h12 h13 S).dv (ix3 h' r l) = S.dv (ix3 h' r l) := by
  subst e
  unfold head cons
  dsimp only
  rw [upd_out]
  intro x hx
  exact hn (Fin.ext (show h'.val = h.val from by
    have e0 : h.val + 1 * (x 0).val = h'.val := congrArg (fun y : S2x384x128.Idx => (y 0).val) hx
    have : (x 0).val < 1 := (x 0).isLt
    omega))

theorem head_dk_same (r : Fin 384) (l : Fin 256) :
    @Eq EReal ((head I (BitVec.ofNat 32 j.val) st dp kk n h oh hh h12 h13 S).dk (ix3 h r l))
      (S.dk (ix3 h r l) + ∑ x : Fin 384, dsH I j n st dp h r x * I.q (ix2 (row n x) (col 256 h l))) := by
  have e0 : (Rect.unit (s := S2x384x256) oh S1x384x256.size h12).emb (ix3 (0 : Fin 1) r l) = ix3 h r l := by
    subst e
    rw [emb3 h 0 h12 r l (by omega) (by omega)]
    exact congrArg (fun y => ix3 h y l) (Fin.ext (Nat.zero_add _))
  unfold head cons
  dsimp only
  refine (congrArg _ e0.symm).trans ?_
  rw [upd_in, dk_at]
  congr 1
  · exact congrArg S.dk e0
  · refine Finset.sum_congr rfl fun x _ => ?_
    rw [ds_eq I j n st dp h oh hh e r x]
    congr 1
    pointwise [k0_pay11]
    unfold sub
    refine congrArg I.q (funext fun a => ?_)
    fin_cases a
    · exact Fin.ext (congrArg (384 * n.val + ·) (one_mul x.val))
    · exact Fin.ext (congrArg (256 * h.val + ·) (one_mul l.val))

theorem head_dk_other (h' : Fin 2) (hn : h' ≠ h) (r : Fin 384) (l : Fin 256) :
    (head I (BitVec.ofNat 32 j.val) st dp kk n h oh hh h12 h13 S).dk (ix3 h' r l) = S.dk (ix3 h' r l) := by
  subst e
  unfold head cons
  dsimp only
  rw [upd_out]
  intro x hx
  exact hn (Fin.ext (show h'.val = h.val from by
    have e0 : h.val + 1 * (x 0).val = h'.val := congrArg (fun y : S2x384x256.Idx => (y 0).val) hx
    have : (x 0).val < 1 := (x 0).isLt
    omega))

theorem head_dq_same (x : Fin 384) (l : Fin 256) :
    @Eq EReal ((head I (BitVec.ofNat 32 j.val) st dp kk n h oh hh h12 h13 S).dq (ix3 h (row n x) l))
      (S.dq (ix3 h (row n x) l) + ∑ r : Fin 384, dsH I j n st dp h r x * kk (ix2 r l)) := by
  have e0 : (Rect.unit (s := S2x4224x256) ![h.val, 384 * n.val, 0] S1x384x256.size (inbD n h)).emb (ix3 (0 : Fin 1) x l) = ix3 h (row n x) l :=
    emb3 h _ (inbD n h) x l (by omega) (by omega)
  unfold head cons
  dsimp only
  refine (congrArg _ e0.symm).trans ?_
  rw [upd_in, dq_at]
  congr 1
  · exact congrArg S.dq e0
  · refine Finset.sum_congr rfl fun r _ => ?_
    rw [ds_eq I j n st dp h oh hh e r x]

omit e in
theorem head_dq_other (h' : Fin 2) (R : Fin 4224) (hn : h' ≠ h ∨ R.val / 384 ≠ n.val) (l : Fin 256) :
    (head I (BitVec.ofNat 32 j.val) st dp kk n h oh hh h12 h13 S).dq (ix3 h' R l) = S.dq (ix3 h' R l) := by
  unfold head cons
  dsimp only
  rw [upd_out]
  intro x hx
  have e0 : h.val + 1 * (x 0).val = h'.val := congrArg (fun y : S2x4224x256.Idx => (y 0).val) hx
  have e1 : 384 * n.val + 1 * (x 1).val = R.val := congrArg (fun y : S2x4224x256.Idx => (y 1).val) hx
  have : (x 0).val < 1 := (x 0).isLt
  have : (x 1).val < 384 := (x 1).isLt
  rcases hn with hn | hn
  · exact hn (Fin.ext (by omega))
  · exact hn (by omega)
end

/-! ## Both heads -/

/-- The scores of a block: its keys against its queries. -/
def sB (kh : Fin 2 → FVec Ideal S384x256 .bf16) (n : Fin 11) (h : Fin 2) (r x : Fin 384) : EReal :=
  ∑ k : Fin 256, kh h (ix2 r k) * I.q (ix2 (row n x) (col 256 h k))
/-- The cotangents of its probabilities. -/
def dpB (vh : Fin 2 → FVec Ideal S384x128 .bf16) (n : Fin 11) (h : Fin 2) (r x : Fin 384) : EReal :=
  ∑ k : Fin 128, vh h (ix2 r k) * I.dO (ix2 (row n x) (col 128 h k))
/-- Its probabilities. -/
def pB (j : Fin 11) (kh : Fin 2 → FVec Ideal S384x256 .bf16) (n : Fin 11) (h : Fin 2) (r x : Fin 384) : EReal :=
  Ideal.exp ((if r.val ≤ x.val ∨ n ≠ j then sB I kh n h r x else ⊥) - I.lse (ix4 h n (0 : Fin 1) x))
/-- The cotangents of its scores. -/
def dsB (j : Fin 11) (kh : Fin 2 → FVec Ideal S384x256 .bf16) (vh : Fin 2 → FVec Ideal S384x128 .bf16) (n : Fin 11) (h : Fin 2) (r x : Fin 384) : EReal :=
  pB I j kh n h r x * (dpB I vh n h r x - I.dlt (ix4 h n (0 : Fin 1) x))

variable (kh : Fin 2 → FVec Ideal S384x256 .bf16) (vh : Fin 2 → FVec Ideal S384x128 .bf16)

theorem embP0 (r x : Fin 384) : rP0.emb (ix3 (0 : Fin 1) r x) = ix3 (0 : Fin 2) r x := by
  funext a
  fin_cases a
  · rfl
  · exact Fin.ext (show 0 + 1 * r.val = r.val by omega)
  · exact Fin.ext (show 0 + 1 * x.val = x.val by omega)
theorem embP1 (r x : Fin 384) : rP1.emb (ix3 (0 : Fin 1) r x) = ix3 (1 : Fin 2) r x := by
  funext a
  fin_cases a
  · rfl
  · exact Fin.ext (show 0 + 1 * r.val = r.val by omega)
  · exact Fin.ext (show 0 + 1 * x.val = x.val by omega)
theorem apartP (r x : Fin 384) : ∀ z, rP1.emb z ≠ rP0.emb (ix3 (0 : Fin 1) r x) := by
  intro z hz
  have : 1 + 1 * (z 0).val = 0 + 1 * 0 := congrArg (fun y : S2x384x384.Idx => (y 0).val) hz
  omega

theorem stOf_at (r x : Fin 384) : @Eq EReal (stOf I (kh 0) (kh 1) n (ix3 h r x)) (sB I kh n h r x) := by
  have key : ∀ h : Fin 2, k0_pay6 (F := Ideal) (kh h) (sub I.q (rQ n h)) (ix3 (0 : Fin 1) r x) = sB I kh n h r x := fun h => by
    rw [scores_at]
    unfold sB sub
    refine Finset.sum_congr rfl fun k _ => congrArg (kh h (ix2 r k) * ·) (congrArg I.q (funext fun a => ?_))
    fin_cases a
    · exact Fin.ext (congrArg (384 * n.val + ·) (one_mul x.val))
    · exact Fin.ext (congrArg (256 * h.val + ·) (one_mul k.val))
  unfold stOf
  fin_cases h
  · refine (congrArg _ (embP0 r x).symm).trans ((glue_fst _ _ _ _ _ _ (apartP r x)).trans (key 0))
  · refine (congrArg _ (embP1 r x).symm).trans ((glue_snd _ _ _ _ _ _).trans (key 1))

theorem dpOf_at (r x : Fin 384) : @Eq EReal (dpOf I (vh 0) (vh 1) n (ix3 h r x)) (dpB I vh n h r x) := by
  have key : ∀ h : Fin 2, k0_pay7 (F := Ideal) (vh h) (sub I.dO (rO n h)) (ix3 (0 : Fin 1) r x) = dpB I vh n h r x := fun h => by
    rw [products_at]
    unfold dpB sub
    refine Finset.sum_congr rfl fun k _ => congrArg (vh h (ix2 r k) * ·) (congrArg I.dO (funext fun a => ?_))
    fin_cases a
    · exact Fin.ext (congrArg (384 * n.val + ·) (one_mul x.val))
    · exact Fin.ext (congrArg (128 * h.val + ·) (one_mul k.val))
  unfold dpOf
  fin_cases h
  · refine (congrArg _ (embP0 r x).symm).trans ((glue_fst _ _ _ _ _ _ (apartP r x)).trans (key 0))
  · refine (congrArg _ (embP1 r x).symm).trans ((glue_snd _ _ _ _ _ _).trans (key 1))

theorem pH_eq (r x : Fin 384) : pH I j n (stOf I (kh 0) (kh 1) n) h r x = pB I j kh n h r x := by
  unfold pH pB
  rw [stOf_at]

theorem dsH_eq (r x : Fin 384) : dsH I j n (stOf I (kh 0) (kh 1) n) (dpOf I (vh 0) (vh 1) n) h r x = dsB I j kh vh n h r x := by
  unfold dsH dsB
  rw [pH_eq, dpOf_at]

variable (S : St Ideal)

theorem step_dv (r : Fin 384) (l : Fin 128) :
    @Eq EReal ((step I (BitVec.ofNat 32 j.val) (kh 0) (kh 1) (vh 0) (vh 1) n S).dv (ix3 h r l))
      (S.dv (ix3 h r l) + ∑ x : Fin 384, pB I j kh n h r x * I.dO (ix2 (row n x) (col 128 h l))) := by
  unfold step
  fin_cases h
  · refine (head_dv_other _ _ _ _ _ _ 1 _ _ _ _ rfl _ 0 (by decide) r l).trans ?_
    refine (head_dv_same _ _ _ _ _ _ 0 _ _ _ _ rfl _ r l).trans ?_
    simp only [pH_eq]; rfl
  · refine (head_dv_same _ _ _ _ _ _ 1 _ _ _ _ rfl _ r l).trans ?_
    refine (congrArg (· + _) (head_dv_other _ _ _ _ _ _ 0 _ _ _ _ rfl _ 1 (by decide) r l)).trans ?_
    simp only [pH_eq]; rfl

theorem step_dk (r : Fin 384) (l : Fin 256) :
    @Eq EReal ((step I (BitVec.ofNat 32 j.val) (kh 0) (kh 1) (vh 0) (vh 1) n S).dk (ix3 h r l))
      (S.dk (ix3 h r l) + ∑ x : Fin 384, dsB I j kh vh n h r x * I.q (ix2 (row n x) (col 256 h l))) := by
  unfold step
  fin_cases h
  · refine (head_dk_other _ _ _ _ _ _ 1 _ _ _ _ rfl _ 0 (by decide) r l).trans ?_
    refine (head_dk_same _ _ _ _ _ _ 0 _ _ _ _ rfl _ r l).trans ?_
    simp only [dsH_eq]; rfl
  · refine (head_dk_same _ _ _ _ _ _ 1 _ _ _ _ rfl _ r l).trans ?_
    refine (congrArg (· + _) (head_dk_other _ _ _ _ _ _ 0 _ _ _ _ rfl _ 1 (by decide) r l)).trans ?_
    simp only [dsH_eq]; rfl

theorem step_dq (x : Fin 384) (l : Fin 256) :
    @Eq EReal ((step I (BitVec.ofNat 32 j.val) (kh 0) (kh 1) (vh 0) (vh 1) n S).dq (ix3 h (row n x) l))
      (S.dq (ix3 h (row n x) l) + ∑ r : Fin 384, dsB I j kh vh n h r x * kh h (ix2 r l)) := by
  unfold step
  fin_cases h
  · refine (head_dq_other _ _ _ _ _ _ 1 _ _ _ _ _ 0 _ (.inl (by decide)) l).trans ?_
    refine (head_dq_same _ _ _ _ _ _ 0 _ _ _ _ rfl _ x l).trans ?_
    simp only [dsH_eq]; rfl
  · refine (head_dq_same _ _ _ _ _ _ 1 _ _ _ _ rfl _ x l).trans ?_
    refine (congrArg (· + _) (head_dq_other _ _ _ _ _ _ 0 _ _ _ _ _ 1 _ (.inl (by decide)) l)).trans ?_
    simp only [dsH_eq]; rfl

theorem step_dq_other (R : Fin 4224) (hR : R.val / 384 ≠ n.val) (l : Fin 256) :
    (step I (BitVec.ofNat 32 j.val) (kh 0) (kh 1) (vh 0) (vh 1) n S).dq (ix3 h R l) = S.dq (ix3 h R l) := by
  unfold step
  rw [head_dq_other _ _ _ _ _ _ 1 _ _ _ _ _ h R (.inr hR) l, head_dq_other _ _ _ _ _ _ 0 _ _ _ _ _ h R (.inr hR) l]

end Cert.AttnKernelIdeal.Step

end
-- ==== Proof.AttnSums.lean ====
/- The attention's accumulators after a block of keys: sums over the blocks of queries it meets. -/
module

public import proofs.«01_k».proof.Proof.AttnHead
public import proofs.«01_k».proof.Proof.Arith

@[expose] public section

set_option maxRecDepth 16384

noncomputable section

namespace Cert.AttnKernelIdeal.Step

open Cert.AttnKernelIdeal Cert.AttnKernelIdeal.Gen Cert.Attn
open Idealize.ShloMosaic Idealize.ShloMosaic.TcCoe

/-- What collects a term per step, from the `j`-th on, is the sum of those terms. -/
theorem run_sum (j : ℕ) (T : Fin 11 → EReal) (f : ℕ → EReal)
    (hf : ∀ M, f (M + 1) = if h : j + M < 11 then f M + T ⟨j + M, h⟩ else f M) (M : ℕ) :
    f M = f 0 + ∑ n : Fin 11, if j ≤ n.val ∧ n.val < j + M then T n else 0 := by
  induction M with
  | zero =>
    rw [Finset.sum_eq_zero fun n _ => if_neg (by omega), add_zero]
  | succ M ih =>
    rw [hf M]
    by_cases h : j + M < 11
    · rw [dif_pos h, ih, add_assoc]
      congr 1
      have e : T ⟨j + M, h⟩ = ∑ n : Fin 11, if n = ⟨j + M, h⟩ then T n else 0 := by
        rw [Finset.sum_ite_eq' Finset.univ, if_pos (Finset.mem_univ _)]
      rw [e, ← Finset.sum_add_distrib]
      refine Finset.sum_congr rfl fun n _ => ?_
      by_cases hn : n = ⟨j + M, h⟩
      · subst hn
        rw [if_neg (by dsimp only; omega), if_pos rfl, if_pos (by dsimp only; omega), zero_add]
      · have : n.val ≠ j + M := fun e => hn (Fin.ext e)
        rw [if_neg hn, add_zero]
        exact if_congr (by omega) rfl rfl
    · rw [dif_neg h, ih]
      congr 1
      refine Finset.sum_congr rfl fun n _ => if_congr ?_ rfl rfl
      have := n.isLt
      omega

variable (I : In Ideal) (j : Fin 11) (kh : Fin 2 → FVec Ideal S384x256 .bf16) (vh : Fin 2 → FVec Ideal S384x128 .bf16) (A : St Ideal) (h : Fin 2)

abbrev runsH (M : ℕ) : St Ideal := runs I (BitVec.ofNat 32 j.val) (kh 0) (kh 1) (vh 0) (vh 1) j.val A M

theorem runs_dv (r : Fin 384) (l : Fin 128) (M : ℕ) :
    @Eq EReal ((runsH I j kh vh A M).dv (ix3 h r l))
      (A.dv (ix3 h r l) + ∑ n : Fin 11, if j.val ≤ n.val ∧ n.val < j.val + M then ∑ x : Fin 384, pB I j kh n h r x * I.dO (ix2 (row n x) (col 128 h l)) else 0) := by
  refine run_sum j.val _ (fun M => (runsH I j kh vh A M).dv (ix3 h r l)) (fun M => ?_) M
  unfold runsH
  rw [runs]
  by_cases hM : j.val + M < 11
  · rw [dif_pos hM, dif_pos hM]
    exact step_dv I j ⟨_, hM⟩ h kh vh _ r l
  · rw [dif_neg hM, dif_neg hM]

theorem runs_dk (r : Fin 384) (l : Fin 256) (M : ℕ) :
    @Eq EReal ((runsH I j kh vh A M).dk (ix3 h r l))
      (A.dk (ix3 h r l) + ∑ n : Fin 11, if j.val ≤ n.val ∧ n.val < j.val + M then ∑ x : Fin 384, dsB I j kh vh n h r x * I.q (ix2 (row n x) (col 256 h l)) else 0) := by
  refine run_sum j.val _ (fun M => (runsH I j kh vh A M).dk (ix3 h r l)) (fun M => ?_) M
  unfold runsH
  rw [runs]
  by_cases hM : j.val + M < 11
  · rw [dif_pos hM, dif_pos hM]
    exact step_dk I j ⟨_, hM⟩ h kh vh _ r l
  · rw [dif_neg hM, dif_neg hM]

theorem runs_dq (n0 : Fin 11) (x : Fin 384) (l : Fin 256) (M : ℕ) :
    @Eq EReal ((runsH I j kh vh A M).dq (ix3 h (row n0 x) l))
      (A.dq (ix3 h (row n0 x) l) + ∑ n : Fin 11, if j.val ≤ n.val ∧ n.val < j.val + M then (if n = n0 then ∑ r : Fin 384, dsB I j kh vh n0 h r x * kh h (ix2 r l) else 0) else 0) := by
  refine run_sum j.val _ (fun M => (runsH I j kh vh A M).dq (ix3 h (row n0 x) l)) (fun M => ?_) M
  unfold runsH
  rw [runs]
  by_cases hM : j.val + M < 11
  · rw [dif_pos hM, dif_pos hM]
    by_cases hn : (⟨j.val + M, hM⟩ : Fin 11) = n0
    · rw [if_pos hn]
      subst hn
      exact step_dq I j _ h kh vh _ x l
    · rw [if_neg hn, add_zero]
      refine step_dq_other I j _ h kh vh _ (row n0 x) (fun e => hn (Fin.ext ?_)) l
      have : (384 * n0.val + x.val) / 384 = j.val + M := e
      dsimp only
      omega
  · rw [dif_neg hM, dif_neg hM]

/-! ## One point -/

/-- The keys and the values of a point, head by head. -/
def khOf (K : Vec Ideal S384x512 .bf16) : Fin 2 → FVec Ideal S384x256 .bf16 :=
  ![k0_pay340 (sub K (Rect.unit (s := S384x512) ![0, 0] S384x256.size inb_S384x512_S384x256_0_0)),
    k0_pay341 (sub K (Rect.unit (s := S384x512) ![0, 256] S384x256.size inb_S384x512_S384x256_0_256))]
def vhOf (V : Vec Ideal S384x256 .bf16) : Fin 2 → FVec Ideal S384x128 .bf16 :=
  ![k0_pay342 (sub V (Rect.unit (s := S384x256) ![0, 0] S384x128.size inb_S384x256_S384x128_0_0)),
    k0_pay343 (sub V (Rect.unit (s := S384x256) ![0, 128] S384x128.size inb_S384x256_S384x128_0_128))]

theorem khOf_at (K : Vec Ideal S384x512 .bf16) (h : Fin 2) (r : Fin 384) (k : Fin 256) :
    @Eq EReal (khOf K h (ix2 r k)) (K (ix2 r (col 256 h k))) := by
  unfold khOf
  fin_cases h
  · show @Eq EReal (k0_pay340 (F := Ideal) (sub K (Rect.unit (s := S384x512) ![0, 0] S384x256.size inb_S384x512_S384x256_0_0)) (ix2 r k)) (K (ix2 r (col 256 (0 : Fin 2) k)))
    pointwise [k0_pay340]
    refine congrArg K (funext fun a => ?_)
    fin_cases a
    · exact Fin.ext (show 0 + 1 * r.val = r.val by omega)
    · exact Fin.ext (show 0 + 1 * k.val = 256 * 0 + k.val by omega)
  · show @Eq EReal (k0_pay341 (F := Ideal) (sub K (Rect.unit (s := S384x512) ![0, 256] S384x256.size inb_S384x512_S384x256_0_256)) (ix2 r k)) (K (ix2 r (col 256 (1 : Fin 2) k)))
    pointwise [k0_pay341]
    refine congrArg K (funext fun a => ?_)
    fin_cases a
    · exact Fin.ext (show 0 + 1 * r.val = r.val by omega)
    · exact Fin.ext (show 256 + 1 * k.val = 256 * 1 + k.val by omega)

theorem vhOf_at (V : Vec Ideal S384x256 .bf16) (h : Fin 2) (r : Fin 384) (k : Fin 128) :
    @Eq EReal (vhOf V h (ix2 r k)) (V (ix2 r (col 128 h k))) := by
  unfold vhOf
  fin_cases h
  · show @Eq EReal (k0_pay342 (F := Ideal) (sub V (Rect.unit (s := S384x256) ![0, 0] S384x128.size inb_S384x256_S384x128_0_0)) (ix2 r k)) (V (ix2 r (col 128 (0 : Fin 2) k)))
    pointwise [k0_pay342]
    refine congrArg V (funext fun a => ?_)
    fin_cases a
    · exact Fin.ext (show 0 + 1 * r.val = r.val by omega)
    · exact Fin.ext (show 0 + 1 * k.val = 128 * 0 + k.val by omega)
  · show @Eq EReal (k0_pay343 (F := Ideal) (sub V (Rect.unit (s := S384x256) ![0, 128] S384x128.size inb_S384x256_S384x128_0_128)) (ix2 r k)) (V (ix2 r (col 128 (1 : Fin 2) k)))
    pointwise [k0_pay343]
    refine congrArg V (funext fun a => ?_)
    fin_cases a
    · exact Fin.ext (show 0 + 1 * r.val = r.val by omega)
    · exact Fin.ext (show 128 + 1 * k.val = 128 * 1 + k.val by omega)

variable (i : grid0.Coords) (K : Vec Ideal S384x512 .bf16) (V : Vec Ideal S384x256 .bf16)

/-- The block of keys of a point. -/
abbrev jOf : Fin 11 := ⟨(i 1).val, (i 1).isLt⟩

theorem bodyAcc_runs : bodyAcc i I K V A = runsH I (jOf i) (khOf K) (vhOf V) (begin i (acc A)) (11 - (i 1).val) := rfl

theorem f32_zero : (Scalar.ofBits (F := Ideal) .f32 0#32 : EReal) = 0 := by simp [Ideal.ofBits, Ideal.ieee]

theorem bodyAcc_dv (r : Fin 384) (l : Fin 128) :
    @Eq EReal ((bodyAcc i I K V A).dv (ix3 h r l))
      (∑ n : Fin 11, if (jOf i).val ≤ n.val then ∑ x : Fin 384, pB I (jOf i) (khOf K) n h r x * I.dO (ix2 (row n x) (col 128 h l)) else 0) := by
  rw [bodyAcc_runs]
  refine (runs_dv I (jOf i) (khOf K) (vhOf V) _ h r l _).trans ?_
  refine ((congrArg (· + _) f32_zero).trans (zero_add _)).trans (Finset.sum_congr rfl fun n _ => if_congr ?_ rfl rfl)
  have := n.isLt
  dsimp only
  omega

theorem bodyAcc_dk (r : Fin 384) (l : Fin 256) :
    @Eq EReal ((bodyAcc i I K V A).dk (ix3 h r l))
      (∑ n : Fin 11, if (jOf i).val ≤ n.val then ∑ x : Fin 384, dsB I (jOf i) (khOf K) (vhOf V) n h r x * I.q (ix2 (row n x) (col 256 h l)) else 0) := by
  rw [bodyAcc_runs]
  refine (runs_dk I (jOf i) (khOf K) (vhOf V) _ h r l _).trans ?_
  refine ((congrArg (· + _) f32_zero).trans (zero_add _)).trans (Finset.sum_congr rfl fun n _ => if_congr ?_ rfl rfl)
  have := n.isLt
  dsimp only
  omega

theorem bodyAcc_dq (n0 : Fin 11) (x : Fin 384) (l : Fin 256) :
    @Eq EReal ((bodyAcc i I K V A).dq (ix3 h (row n0 x) l))
      ((if first i = 1#1 then (0 : EReal) else A.dq (ix3 h (row n0 x) l))
        + if (jOf i).val ≤ n0.val then ∑ r : Fin 384, dsB I (jOf i) (khOf K) (vhOf V) n0 h r x * K (ix2 r (col 256 h l)) else 0) := by
  rw [bodyAcc_runs]
  refine (runs_dq I (jOf i) (khOf K) (vhOf V) _ h n0 x l _).trans ?_
  congr 1
  · unfold begin acc
    dsimp only
    by_cases hi : first i = 1#1
    · rw [if_pos hi, if_pos hi]; exact f32_zero
    · rw [if_neg hi, if_neg hi]
  · simp only [khOf_at]
    rw [Finset.sum_eq_single n0 (fun n _ hn => by rw [if_neg hn, ite_self]) (fun h => absurd (Finset.mem_univ _) h), if_pos rfl]
    refine if_congr ?_ rfl rfl
    have := n0.isLt
    omega

end Cert.AttnKernelIdeal.Step

end
-- ==== Proof.AttnPoint.lean ====
/- The attention's backward call over whole arrays: what a grid point adds, told by key row and query row. -/
module

public import proofs.«01_k».proof.Proof.AttnSums
public import proofs.«01_k».proof.Proof.AttnFrame
public import Idealize.ShloMosaic.Lib.Pipeline.ValueKit.Geometry

@[expose] public section

set_option maxRecDepth 16384

noncomputable section

namespace Cert.AttnKernelIdeal.Step

open Cert.AttnKernelIdeal Cert.AttnKernelIdeal.Gen Cert.Attn
open Idealize.ShloMosaic Idealize.ShloMosaic.TcCoe Idealize.SL.Sem

/-- The call's operands, head by head: queries, keys, values, the output's cotangent, and two numbers per query. -/
structure Heads where
  q : Fin 8 → Fin 4224 → Fin 256 → EReal
  k : Fin 8 → Fin 4224 → Fin 256 → EReal
  v : Fin 8 → Fin 4224 → Fin 128 → EReal
  o : Fin 8 → Fin 4224 → Fin 128 → EReal
  lse : Fin 8 → Fin 4224 → EReal
  dlt : Fin 8 → Fin 4224 → EReal

variable (H : Heads) (a : Fin 8)

/-- The probability that query `Y` gives to key `X`. -/
def Heads.p (X Y : Fin 4224) : EReal :=
  Ideal.exp ((if X.val ≤ Y.val then ∑ k : Fin 256, H.k a X k * H.q a Y k else ⊥) - H.lse a Y)
/-- The cotangent of the score. -/
def Heads.s (X Y : Fin 4224) : EReal := H.p a X Y * ((∑ k : Fin 128, H.v a X k * H.o a Y k) - H.dlt a Y)
/-- The three cotangents. -/
def Heads.dv (X : Fin 4224) (l : Fin 128) : EReal := ∑ Y : Fin 4224, H.p a X Y * H.o a Y l
def Heads.dk (X : Fin 4224) (l : Fin 256) : EReal := ∑ Y : Fin 4224, H.s a X Y * H.q a Y l
def Heads.dq (Y : Fin 4224) (l : Fin 256) : EReal := ∑ X : Fin 4224, H.s a X Y * H.k a X l

theorem p_masked (X Y : Fin 4224) (h : ¬X.val ≤ Y.val) : H.p a X Y = 0 := by
  unfold Heads.p
  rw [if_neg h, EReal.bot_sub]
  rfl
theorem s_masked (X Y : Fin 4224) (h : ¬X.val ≤ Y.val) : H.s a X Y = 0 := by
  unfold Heads.s
  rw [p_masked H a X Y h, zero_mul]

/-- A sum over the rows is one over the blocks of rows. -/
theorem sum_rows (f : Fin 4224 → EReal) : ∑ n : Fin 11, ∑ x : Fin 384, f (row n x) = ∑ Y, f Y := by
  refine (Finset.sum_congr rfl fun n _ => Finset.sum_congr rfl fun x _ => congrArg f (Fin.ext ?_)).trans (Cert.Arith.sum_groups 11 384 f)
  show 384 * n.val + x.val = n.val * 384 + x.val
  omega

variable (m : (ℓ : Loc nD τ sig) → Buf (Elt Ideal) ℓ)

theorem index_eq : ∀ t : Fin grid0.N, win0_0.index t = ![0, t.val / 11] ∧ win0_1.index t = ![t.val % 11, t.val / 11] ∧ win0_2.index t = ![t.val % 11, t.val / 11]
    ∧ win0_3.index t = ![t.val / 11, 0, 0, 0] ∧ win0_4.index t = ![t.val / 11, 0, 0, 0] ∧ win0_5.index t = ![0, t.val / 11]
    ∧ win0_6.index t = ![0, t.val / 11] ∧ win0_7.index t = ![t.val % 11, t.val / 11] ∧ win0_8.index t = ![t.val % 11, t.val / 11] := by decide +kernel

theorem point_lt (t : Fin cfg0.N) : t.val < 44 := lt_of_lt_of_eq t.isLt (show cfg0.N = 44 from N_0)

theorem first_iff : ∀ t : Fin grid0.N, first (grid0.coords t) = 1#1 ↔ t.val % 11 = 0 := by decide +kernel
theorem coords_one : ∀ t : Fin grid0.N, (grid0.coords t 1).val = t.val % 11 := by decide +kernel

/-- A number per query, its blocks put together. -/
def byRow (A : Vec Ideal S8x11x1x384 .f32) (a : Fin 8) (R : Fin 4224) : EReal :=
  A (ix4 a (⟨R.val / 384, by omega⟩ : Fin 11) (0 : Fin 1) (⟨R.val % 384, by omega⟩ : Fin 384))

theorem byRow_row (A : Vec Ideal S8x11x1x384 .f32) (a : Fin 8) (n : Fin 11) (x : Fin 384) : byRow A a (row n x) = A (ix4 a n (0 : Fin 1) x) := by
  have e2 : (⟨(row n x).val / 384, by omega⟩ : Fin 11) = n := Fin.ext (show (384 * n.val + x.val) / 384 = n.val by omega)
  have e3 : (⟨(row n x).val % 384, by omega⟩ : Fin 384) = x := Fin.ext (show (384 * n.val + x.val) % 384 = x.val by omega)
  unfold byRow
  rw [e2, e3]

/-- The call's operands, as the host leaves them. -/
def heads (c : Dev nD) : Heads where
  q a R d := V m c main_v40 (ix2 R (⟨256 * a.val + d.val, by omega⟩ : Fin 2048))
  k a R d := V m c main_v43 (ix2 R (⟨256 * a.val + d.val, by omega⟩ : Fin 2048))
  v a R d := V m c main_v46 (ix2 R (⟨128 * a.val + d.val, by omega⟩ : Fin 1024))
  o a R d := V m c main_v49 (ix2 R (⟨128 * a.val + d.val, by omega⟩ : Fin 1024))
  lse := byRow (V m c main_v31)
  dlt := byRow (V m c main_v37)

variable (c : Dev nD) (t : Fin cfg0.N) (h : Fin 2)

/-- The head that a point's `h`-th is, and its block of keys. -/
def hd : Fin 8 := ⟨2 * (t.val / 11) + h.val, by have := point_lt t; omega⟩
def jt : Fin 11 := ⟨t.val % 11, by omega⟩

theorem jOf_eq : jOf (grid0.coords t) = jt t := Fin.ext (coords_one t)

def qb (t : Fin cfg0.N) : Vec Ideal S4224x512 .bf16 := iblk m c 0 t
def kb (t : Fin cfg0.N) : Vec Ideal S384x512 .bf16 := iblk m c 1 t
def vb (t : Fin cfg0.N) : Vec Ideal S384x256 .bf16 := iblk m c 2 t
def lb (t : Fin cfg0.N) : Vec Ideal S2x11x1x384 .f32 := iblk m c 3 t
def db (t : Fin cfg0.N) : Vec Ideal S2x11x1x384 .f32 := iblk m c 4 t
def ob (t : Fin cfg0.N) : Vec Ideal S4224x256 .bf16 := iblk m c 5 t

theorem qb_at (R : Fin 4224) (d : Fin 256) : @Eq EReal (qb m c t (ix2 R (col 256 h d))) ((heads m c).q (hd t h) R d) := by
  have ht := point_lt t
  rw [show qb m c t (ix2 R (col 256 h d)) = V m c main_v40 (ix2 R (⟨t.val / 11 * 512 + (256 * h.val + d.val), by omega⟩ : Fin 2048)) by blk_ext [qb, iblk, index_eq t]]
  exact congrArg (fun x => V m c main_v40 (ix2 R x)) (Fin.ext (show t.val / 11 * 512 + (256 * h.val + d.val) = 256 * (2 * (t.val / 11) + h.val) + d.val by omega))
theorem kb_at (r : Fin 384) (d : Fin 256) : @Eq EReal (kb m c t (ix2 r (col 256 h d))) ((heads m c).k (hd t h) (row (jt t) r) d) := by
  have ht := point_lt t
  rw [show kb m c t (ix2 r (col 256 h d)) = V m c main_v43 (ix2 (⟨t.val % 11 * 384 + r.val, by omega⟩ : Fin 4224) (⟨t.val / 11 * 512 + (256 * h.val + d.val), by omega⟩ : Fin 2048)) by blk_ext [kb, iblk, index_eq t]]
  exact congrArg₂ (fun y x => V m c main_v43 (ix2 y x)) (Fin.ext (show t.val % 11 * 384 + r.val = 384 * (t.val % 11) + r.val by omega))
    (Fin.ext (show t.val / 11 * 512 + (256 * h.val + d.val) = 256 * (2 * (t.val / 11) + h.val) + d.val by omega))
theorem vb_at (r : Fin 384) (d : Fin 128) : @Eq EReal (vb m c t (ix2 r (col 128 h d))) ((heads m c).v (hd t h) (row (jt t) r) d) := by
  have ht := point_lt t
  rw [show vb m c t (ix2 r (col 128 h d)) = V m c main_v46 (ix2 (⟨t.val % 11 * 384 + r.val, by omega⟩ : Fin 4224) (⟨t.val / 11 * 256 + (128 * h.val + d.val), by omega⟩ : Fin 1024)) by blk_ext [vb, iblk, index_eq t]]
  exact congrArg₂ (fun y x => V m c main_v46 (ix2 y x)) (Fin.ext (show t.val % 11 * 384 + r.val = 384 * (t.val % 11) + r.val by omega))
    (Fin.ext (show t.val / 11 * 256 + (128 * h.val + d.val) = 128 * (2 * (t.val / 11) + h.val) + d.val by omega))
theorem ob_at (R : Fin 4224) (d : Fin 128) : @Eq EReal (ob m c t (ix2 R (col 128 h d))) ((heads m c).o (hd t h) R d) := by
  have ht := point_lt t
  rw [show ob m c t (ix2 R (col 128 h d)) = V m c main_v49 (ix2 R (⟨t.val / 11 * 256 + (128 * h.val + d.val), by omega⟩ : Fin 1024)) by blk_ext [ob, iblk, index_eq t]]
  exact congrArg (fun x => V m c main_v49 (ix2 R x)) (Fin.ext (show t.val / 11 * 256 + (128 * h.val + d.val) = 128 * (2 * (t.val / 11) + h.val) + d.val by omega))
theorem lb_at (n : Fin 11) (x : Fin 384) : @Eq EReal (lb m c t (ix4 h n (0 : Fin 1) x)) ((heads m c).lse (hd t h) (row n x)) := by
  have ht := point_lt t
  have e : lb m c t (ix4 h n (0 : Fin 1) x) = V m c main_v31 (ix4 (⟨t.val / 11 * 2 + h.val, by omega⟩ : Fin 8) n (0 : Fin 1) x) := by blk_ext [lb, iblk, index_eq t]
  rw [e, show (⟨t.val / 11 * 2 + h.val, by omega⟩ : Fin 8) = hd t h from Fin.ext (show t.val / 11 * 2 + h.val = 2 * (t.val / 11) + h.val by omega)]
  exact (byRow_row _ _ n x).symm
theorem db_at (n : Fin 11) (x : Fin 384) : @Eq EReal (db m c t (ix4 h n (0 : Fin 1) x)) ((heads m c).dlt (hd t h) (row n x)) := by
  have ht := point_lt t
  have e : db m c t (ix4 h n (0 : Fin 1) x) = V m c main_v37 (ix4 (⟨t.val / 11 * 2 + h.val, by omega⟩ : Fin 8) n (0 : Fin 1) x) := by blk_ext [db, iblk, index_eq t]
  rw [e, show (⟨t.val / 11 * 2 + h.val, by omega⟩ : Fin 8) = hd t h from Fin.ext (show t.val / 11 * 2 + h.val = 2 * (t.val / 11) + h.val by omega)]
  exact (byRow_row _ _ n x).symm

/-! ## The terms of a block, by rows -/

theorem pB_eq (n : Fin 11) (hn : (jt t).val ≤ n.val) (r x : Fin 384) :
    pB (inAt m c t) (jt t) (khOf (kb m c t)) n h r x = (heads m c).p (hd t h) (row (jt t) r) (row n x) := by
  unfold pB Heads.p
  refine congrArg Ideal.exp ?_
  refine congrArg₂ (· - ·) (if_congr ?_ ?_ rfl) (lb_at m c t h n x)
  · show (r.val ≤ x.val ∨ n ≠ jt t) ↔ 384 * (jt t).val + r.val ≤ 384 * n.val + x.val
    have : n ≠ jt t ↔ n.val ≠ (jt t).val := by rw [Ne, Fin.ext_iff]
    rw [this]
    omega
  · unfold sB
    exact Finset.sum_congr rfl fun k _ => congrArg₂ (· * ·) ((khOf_at _ h r k).trans (kb_at m c t h r k)) (qb_at m c t h (row n x) k)

theorem dsB_eq (n : Fin 11) (hn : (jt t).val ≤ n.val) (r x : Fin 384) :
    dsB (inAt m c t) (jt t) (khOf (kb m c t)) (vhOf (vb m c t)) n h r x = (heads m c).s (hd t h) (row (jt t) r) (row n x) := by
  unfold dsB Heads.s
  rw [pB_eq m c t h n hn r x]
  refine congrArg (fun z : EReal => (heads m c).p (hd t h) (row (jt t) r) (row n x) * z) ?_
  refine congrArg₂ (· - ·) ?_ (db_at m c t h n x)
  unfold dpB
  exact Finset.sum_congr rfl fun k _ => congrArg₂ (· * ·) ((vhOf_at _ h r k).trans (vb_at m c t h r k)) (ob_at m c t h (row n x) k)

/-- Blocks of queries before the block of keys see none of it. -/
theorem sum_blocks (f : Fin 4224 → EReal) (j : Fin 11) (r : Fin 384) (hf : ∀ Y : Fin 4224, ¬(row j r).val ≤ Y.val → f Y = 0) :
    (∑ n : Fin 11, if j.val ≤ n.val then ∑ x : Fin 384, f (row n x) else 0) = ∑ Y, f Y := by
  rw [← sum_rows]
  refine Finset.sum_congr rfl fun n _ => ?_
  by_cases h : j.val ≤ n.val
  · rw [if_pos h]
  · rw [if_neg h]
    exact (Finset.sum_eq_zero fun x _ => hf _ (show ¬384 * j.val + r.val ≤ 384 * n.val + x.val by omega)).symm

theorem accAt_dv (r : Fin 384) (l : Fin 128) :
    @Eq EReal ((accAt m c (t.val + 1)).dv (ix3 h r l)) ((heads m c).dv (hd t h) (row (jt t) r) l) := by
  rw [accAt_succ]
  refine (bodyAcc_dv (inAt m c t) (accAt m c t.val) h (grid0.coords t) (kb m c t) (vb m c t) r l).trans ?_
  rw [jOf_eq]
  unfold Heads.dv
  refine Eq.trans (Finset.sum_congr rfl fun n _ => ?_) (sum_blocks _ (jt t) r fun Y hY => by rw [p_masked _ _ _ _ hY, zero_mul])
  by_cases hn : (jt t).val ≤ n.val
  · rw [if_pos hn, if_pos hn]
    exact Finset.sum_congr rfl fun x _ => congrArg₂ (· * ·) (pB_eq m c t h n hn r x) (ob_at m c t h (row n x) l)
  · rw [if_neg hn, if_neg hn]

theorem accAt_dk (r : Fin 384) (l : Fin 256) :
    @Eq EReal ((accAt m c (t.val + 1)).dk (ix3 h r l)) ((heads m c).dk (hd t h) (row (jt t) r) l) := by
  rw [accAt_succ]
  refine (bodyAcc_dk (inAt m c t) (accAt m c t.val) h (grid0.coords t) (kb m c t) (vb m c t) r l).trans ?_
  rw [jOf_eq]
  unfold Heads.dk
  refine Eq.trans (Finset.sum_congr rfl fun n _ => ?_) (sum_blocks _ (jt t) r fun Y hY => by rw [s_masked _ _ _ _ hY, zero_mul])
  by_cases hn : (jt t).val ≤ n.val
  · rw [if_pos hn, if_pos hn]
    exact Finset.sum_congr rfl fun x _ => congrArg₂ (· * ·) (dsB_eq m c t h n hn r x) (qb_at m c t h (row n x) l)
  · rw [if_neg hn, if_neg hn]

/-! ## The queries' cotangent, over the blocks of keys -/

/-- The `j`-th point of the `g`-th pair of heads. -/
def pt (g : Fin 4) (j : Fin 11) : Fin cfg0.N := ⟨11 * g.val + j.val, by rw [show cfg0.N = 44 from N_0]; omega⟩

theorem accAt_dq (g : Fin 4) (n : Fin 11) (x : Fin 384) (l : Fin 256) :
    @Eq EReal ((accAt m c (11 * g.val + 11)).dq (ix3 h (row n x) l)) ((heads m c).dq (⟨2 * g.val + h.val, by omega⟩ : Fin 8) (row n x) l) := by
  have ht : ∀ j : Fin 11, hd (pt g j) h = (⟨2 * g.val + h.val, by omega⟩ : Fin 8) := fun j =>
    Fin.ext (show 2 * ((11 * g.val + j.val) / 11) + h.val = 2 * g.val + h.val by omega)
  have hj : ∀ j : Fin 11, jt (pt g j) = j := fun j => Fin.ext (show (11 * g.val + j.val) % 11 = j.val by omega)
  have key : ∀ j : Fin 11, @Eq EReal ((accAt m c (11 * g.val + j.val + 1)).dq (ix3 h (row n x) l))
      ((if j.val = 0 then (0 : EReal) else (accAt m c (11 * g.val + j.val)).dq (ix3 h (row n x) l))
        + ∑ r : Fin 384, (heads m c).s (⟨2 * g.val + h.val, by omega⟩ : Fin 8) (row j r) (row n x) * (heads m c).k (⟨2 * g.val + h.val, by omega⟩ : Fin 8) (row j r) l) := fun j => by
    refine (congrArg (fun S : St Ideal => S.dq (ix3 h (row n x) l)) (accAt_succ m c (pt g j))).trans ?_
    refine (bodyAcc_dq (inAt m c (pt g j)) (accAt m c (pt g j).val) h (grid0.coords (pt g j)) (kb m c (pt g j)) (vb m c (pt g j)) n x l).trans ?_
    rw [jOf_eq]
    refine congrArg₂ (· + ·) (if_congr ((first_iff (pt g j)).trans ?_) rfl rfl) ?_
    · show (11 * g.val + j.val) % 11 = 0 ↔ j.val = 0
      omega
    · by_cases hn : (jt (pt g j)).val ≤ n.val
      · rw [if_pos hn]
        refine Finset.sum_congr rfl fun r _ => ?_
        rw [dsB_eq m c (pt g j) h n hn r x, kb_at m c (pt g j) h r l, ht, hj]
      · rw [if_neg hn]
        rw [hj] at hn
        exact (Finset.sum_eq_zero fun r _ => by
          rw [s_masked _ _ _ _ (show ¬384 * j.val + r.val ≤ 384 * n.val + x.val by omega), zero_mul]).symm
  let f : ℕ → EReal := fun M => if M = 0 then 0 else (accAt m c (11 * g.val + min M 11)).dq (ix3 h (row n x) l)
  have hf := run_sum 0 (fun j => ∑ r : Fin 384, (heads m c).s (⟨2 * g.val + h.val, by omega⟩ : Fin 8) (row j r) (row n x) * (heads m c).k (⟨2 * g.val + h.val, by omega⟩ : Fin 8) (row j r) l) f (fun M => by
    by_cases hM : 0 + M < 11
    · rw [dif_pos hM]
      have := key ⟨0 + M, hM⟩
      simp only [zero_add] at this hM ⊢
      show (if M + 1 = 0 then (0 : EReal) else (accAt m c (11 * g.val + min (M + 1) 11)).dq (ix3 h (row n x) l)) = _
      rw [if_neg (by omega), show 11 * g.val + min (M + 1) 11 = 11 * g.val + M + 1 by omega]
      refine this.trans (congrArg (· + _) ?_)
      show _ = (if M = 0 then (0 : EReal) else (accAt m c (11 * g.val + min M 11)).dq (ix3 h (row n x) l))
      rw [show min M 11 = M by omega]
    · rw [dif_neg hM]
      show (if M + 1 = 0 then (0 : EReal) else (accAt m c (11 * g.val + min (M + 1) 11)).dq (ix3 h (row n x) l))
        = (if M = 0 then (0 : EReal) else (accAt m c (11 * g.val + min M 11)).dq (ix3 h (row n x) l))
      rw [if_neg (by omega), if_neg (by omega), show min (M + 1) 11 = min M 11 by omega]) 11
  refine Eq.trans ?_ (hf.trans ?_)
  · rfl
  · show 0 + _ = _
    rw [zero_add]
    unfold Heads.dq
    rw [← sum_rows]
    refine Finset.sum_congr rfl fun j _ => ?_
    have := j.isLt
    rw [if_pos (by omega)]

end Cert.AttnKernelIdeal.Step

end
-- ==== Proof.AttnArray.lean ====
/- What the attention's backward call leaves in its three output arrays. -/
module

public import proofs.«01_k».proof.Proof.AttnPoint

@[expose] public section

set_option maxRecDepth 16384

noncomputable section

namespace Cert.AttnKernelIdeal.Step

open Cert.AttnKernelIdeal Cert.AttnKernelIdeal.Gen Cert.Attn
open Idealize.ShloMosaic Idealize.ShloMosaic.TcCoe Idealize.SL.Sem

variable (m : (ℓ : Loc nD τ sig) → Buf (Elt Ideal) ℓ) (c : Dev nD)

/-! ## The blocks, put together of two heads -/

section
variable (S : St Ideal)

theorem out10_at (h : Fin 2) (r : Fin 384) (l : Fin 128) : @Eq EReal (out10 S (ix2 r (col 128 h l))) (S.dv (ix3 h r l)) := by
  unfold out10
  fin_cases h
  · have e : ix2 r (col 128 (0 : Fin 2) l) = (Rect.unit (s := S384x256) ![0, 0] S384x128.size inb_S384x256_S384x128_0_0).emb (ix2 r l) := by
      funext a; fin_cases a
      · exact Fin.ext (show r.val = 0 + 1 * r.val by omega)
      · exact Fin.ext (show 128 * 0 + l.val = 0 + 1 * l.val by omega)
    refine (congrArg _ e).trans ((glue_fst _ _ _ _ _ _ fun z hz => ?_).trans ?_)
    · have e1 : 128 + 1 * (z 1).val = 0 + 1 * l.val := congrArg (fun y : S384x256.Idx => (y 1).val) hz
      omega
    · pointwise [k0_pay1]
      refine congrArg S.dv (funext fun a => ?_)
      fin_cases a
      · rfl
      · exact Fin.ext (show 0 + 1 * r.val = r.val by omega)
      · exact Fin.ext (show 0 + 1 * l.val = l.val by omega)
  · have e : ix2 r (col 128 (1 : Fin 2) l) = (Rect.unit (s := S384x256) ![0, 128] S384x128.size inb_S384x256_S384x128_0_128).emb (ix2 r l) := by
      funext a; fin_cases a
      · exact Fin.ext (show r.val = 0 + 1 * r.val by omega)
      · exact Fin.ext (show 128 * 1 + l.val = 128 + 1 * l.val by omega)
    refine (congrArg _ e).trans ((glue_snd _ _ _ _ _ _).trans ?_)
    pointwise [k0_pay3]
    refine congrArg S.dv (funext fun a => ?_)
    fin_cases a
    · rfl
    · exact Fin.ext (show 0 + 1 * r.val = r.val by omega)
    · exact Fin.ext (show 0 + 1 * l.val = l.val by omega)

theorem out9_at (h : Fin 2) (r : Fin 384) (l : Fin 256) : @Eq EReal (out9 S (ix2 r (col 256 h l))) (S.dk (ix3 h r l)) := by
  unfold out9 keyS
  fin_cases h
  · have e : ix2 r (col 256 (0 : Fin 2) l) = (Rect.unit (s := S384x512) ![0, 0] S384x256.size inb_S384x512_S384x256_0_0).emb (ix2 r l) := by
      funext a; fin_cases a
      · exact Fin.ext (show r.val = 0 + 1 * r.val by omega)
      · exact Fin.ext (show 256 * 0 + l.val = 0 + 1 * l.val by omega)
    refine (congrArg _ e).trans ((glue_fst _ _ _ _ _ _ fun z hz => ?_).trans ?_)
    · have e1 : 256 + 1 * (z 1).val = 0 + 1 * l.val := congrArg (fun y : S384x512.Idx => (y 1).val) hz
      omega
    · pointwise [k0_pay357]
      refine congrArg S.dk (funext fun a => ?_)
      fin_cases a
      · rfl
      · exact Fin.ext (show 0 + 1 * r.val = r.val by omega)
      · exact Fin.ext (show 0 + 1 * l.val = l.val by omega)
  · have e : ix2 r (col 256 (1 : Fin 2) l) = (Rect.unit (s := S384x512) ![0, 256] S384x256.size inb_S384x512_S384x256_0_256).emb (ix2 r l) := by
      funext a; fin_cases a
      · exact Fin.ext (show r.val = 0 + 1 * r.val by omega)
      · exact Fin.ext (show 256 * 1 + l.val = 256 + 1 * l.val by omega)
    refine (congrArg _ e).trans ((glue_snd _ _ _ _ _ _).trans ?_)
    pointwise [k0_pay2]
    refine congrArg S.dk (funext fun a => ?_)
    fin_cases a
    · rfl
    · exact Fin.ext (show 0 + 1 * r.val = r.val by omega)
    · exact Fin.ext (show 0 + 1 * l.val = l.val by omega)

theorem out8_at (h : Fin 2) (r : Fin 4224) (l : Fin 256) : @Eq EReal (out8 S (ix2 r (col 256 h l))) (S.dq (ix3 h r l)) := by
  unfold out8
  fin_cases h
  · have e : ix2 r (col 256 (0 : Fin 2) l) = (Rect.unit (s := S4224x512) ![0, 0] S4224x256.size inb_S4224x512_S4224x256_0_0).emb (ix2 r l) := by
      funext a; fin_cases a
      · exact Fin.ext (show r.val = 0 + 1 * r.val by omega)
      · exact Fin.ext (show 256 * 0 + l.val = 0 + 1 * l.val by omega)
    refine (congrArg _ e).trans ((glue_fst _ _ _ _ _ _ fun z hz => ?_).trans ?_)
    · have e1 : 256 + 1 * (z 1).val = 0 + 1 * l.val := congrArg (fun y : S4224x512.Idx => (y 1).val) hz
      omega
    · pointwise [k0_pay4]
      refine congrArg S.dq (funext fun a => ?_)
      fin_cases a
      · rfl
      · exact Fin.ext (show 0 + 1 * r.val = r.val by omega)
      · exact Fin.ext (show 0 + 1 * l.val = l.val by omega)
  · have e : ix2 r (col 256 (1 : Fin 2) l) = (Rect.unit (s := S4224x512) ![0, 256] S4224x256.size inb_S4224x512_S4224x256_0_256).emb (ix2 r l) := by
      funext a; fin_cases a
      · exact Fin.ext (show r.val = 0 + 1 * r.val by omega)
      · exact Fin.ext (show 256 * 1 + l.val = 256 + 1 * l.val by omega)
    refine (congrArg _ e).trans ((glue_snd _ _ _ _ _ _).trans ?_)
    pointwise [k0_pay5]
    refine congrArg S.dq (funext fun a => ?_)
    fin_cases a
    · rfl
    · exact Fin.ext (show 0 + 1 * r.val = r.val by omega)
    · exact Fin.ext (show 0 + 1 * l.val = l.val by omega)
end

/-! ## The arrays -/

def G6 : Buf (Elt Ideal) ((c : Thread nD τ).loc main_v50_0) := fun i : S4224x2048.Idx =>
  (heads m c).dq ⟨(i 1).val / 256, by have : (i 1).val < 2048 := (i 1).isLt; omega⟩ (i 0) ⟨(i 1).val % 256, by omega⟩
def G7 : Buf (Elt Ideal) ((c : Thread nD τ).loc main_v50_1) := fun i : S4224x2048.Idx =>
  (heads m c).dk ⟨(i 1).val / 256, by have : (i 1).val < 2048 := (i 1).isLt; omega⟩ (i 0) ⟨(i 1).val % 256, by omega⟩
def G8 : Buf (Elt Ideal) ((c : Thread nD τ).loc main_v50_2) := fun i : S4224x1024.Idx =>
  (heads m c).dv ⟨(i 1).val / 128, by have : (i 1).val < 1024 := (i 1).isLt; omega⟩ (i 0) ⟨(i 1).val % 128, by omega⟩

variable (t : Fin cfg0.N)

theorem flushed8 : (dats m 0 c).flushed 8 t = ((cfg0.win 8).blk t).view.read (Elt Ideal) (G8 m c) := by
  show (cfg0.win 8).cut (grid0.coords t) ((dats m 0 c).after 8 t) = _
  rw [after0_8]
  funext y
  have ht := point_lt t
  have hy0 : (y 0).val < 384 := (y 0).isLt
  have hy1 : (y 1).val < 256 := (y 1).isLt
  have hi := (index_eq t).2.2.2.2.2.2.2.2
  have hb0 : (((cfg0.win 8).blk t).view.emb y 0).val = t.val % 11 * 384 + 1 * (y 0).val := by
    rw [show (((cfg0.win 8).blk t).view.emb y 0).val = win0_8.index t (0 : Fin 2) * 384 + 1 * (y 0).val from rfl, hi]; rfl
  have hb1 : (((cfg0.win 8).blk t).view.emb y 1).val = t.val / 11 * 256 + 1 * (y 1).val := by
    rw [show (((cfg0.win 8).blk t).view.emb y 1).val = win0_8.index t (1 : Fin 2) * 256 + 1 * (y 1).val from rfl, hi]; rfl
  have ex : (cfg0.win 8).xinj (grid0.coords t) y = ix2 (⟨(y 0).val, hy0⟩ : Fin 384) (col 128 (⟨(y 1).val / 128, by omega⟩ : Fin 2) (⟨(y 1).val % 128, by omega⟩ : Fin 128)) := by
    funext a; fin_cases a
    · rfl
    · exact Fin.ext (show (y 1).val = 128 * ((y 1).val / 128) + (y 1).val % 128 by omega)
  show out10 (accAt m c (t.val + 1)) ((cfg0.win 8).xinj (grid0.coords t) y) = G8 m c (((cfg0.win 8).blk t).view.emb y)
  rw [ex]
  refine (out10_at _ _ _ _).trans ((accAt_dv m c t _ _ _).trans ?_)
  unfold G8
  congr 1
  · exact Fin.ext (show 2 * (t.val / 11) + (y 1).val / 128 = (((cfg0.win 8).blk t).view.emb y 1).val / 128 by rw [hb1]; omega)
  · exact Fin.ext (show 384 * (t.val % 11) + (y 0).val = (((cfg0.win 8).blk t).view.emb y 0).val by rw [hb0]; omega)
  · exact Fin.ext (show (y 1).val % 128 = (((cfg0.win 8).blk t).view.emb y 1).val % 128 by rw [hb1]; omega)

theorem flushed7 : (dats m 0 c).flushed 7 t = ((cfg0.win 7).blk t).view.read (Elt Ideal) (G7 m c) := by
  show (cfg0.win 7).cut (grid0.coords t) ((dats m 0 c).after 7 t) = _
  rw [after0_7]
  funext y
  have ht := point_lt t
  have hy0 : (y 0).val < 384 := (y 0).isLt
  have hy1 : (y 1).val < 512 := (y 1).isLt
  have hi := (index_eq t).2.2.2.2.2.2.2.1
  have hb0 : (((cfg0.win 7).blk t).view.emb y 0).val = t.val % 11 * 384 + 1 * (y 0).val := by
    rw [show (((cfg0.win 7).blk t).view.emb y 0).val = win0_7.index t (0 : Fin 2) * 384 + 1 * (y 0).val from rfl, hi]; rfl
  have hb1 : (((cfg0.win 7).blk t).view.emb y 1).val = t.val / 11 * 512 + 1 * (y 1).val := by
    rw [show (((cfg0.win 7).blk t).view.emb y 1).val = win0_7.index t (1 : Fin 2) * 512 + 1 * (y 1).val from rfl, hi]; rfl
  have ex : (cfg0.win 7).xinj (grid0.coords t) y = ix2 (⟨(y 0).val, hy0⟩ : Fin 384) (col 256 (⟨(y 1).val / 256, by omega⟩ : Fin 2) (⟨(y 1).val % 256, by omega⟩ : Fin 256)) := by
    funext a; fin_cases a
    · rfl
    · exact Fin.ext (show (y 1).val = 256 * ((y 1).val / 256) + (y 1).val % 256 by omega)
  show out9 (accAt m c (t.val + 1)) ((cfg0.win 7).xinj (grid0.coords t) y) = G7 m c (((cfg0.win 7).blk t).view.emb y)
  rw [ex]
  refine (out9_at _ _ _ _).trans ((accAt_dk m c t _ _ _).trans ?_)
  unfold G7
  congr 1
  · exact Fin.ext (show 2 * (t.val / 11) + (y 1).val / 256 = (((cfg0.win 7).blk t).view.emb y 1).val / 256 by rw [hb1]; omega)
  · exact Fin.ext (show 384 * (t.val % 11) + (y 0).val = (((cfg0.win 7).blk t).view.emb y 0).val by rw [hb0]; omega)
  · exact Fin.ext (show (y 1).val % 256 = (((cfg0.win 7).blk t).view.emb y 1).val % 256 by rw [hb1]; omega)

theorem flush6 : ∀ t : Fin grid0.N, win0_6.flush t = true → t.val % 11 = 10 := by decide +kernel

theorem flushed6 (hf : (cfg0.win 6).flush t = true) : (dats m 0 c).flushed 6 t = ((cfg0.win 6).blk t).view.read (Elt Ideal) (G6 m c) := by
  show (cfg0.win 6).cut (grid0.coords t) ((dats m 0 c).after 6 t) = _
  rw [after0_6]
  funext y
  have ht := point_lt t
  have hj := flush6 t hf
  have hy0 : (y 0).val < 4224 := (y 0).isLt
  have hy1 : (y 1).val < 512 := (y 1).isLt
  have hi := (index_eq t).2.2.2.2.2.2.1
  have hb0 : (((cfg0.win 6).blk t).view.emb y 0).val = 0 * 4224 + 1 * (y 0).val := by
    rw [show (((cfg0.win 6).blk t).view.emb y 0).val = win0_6.index t (0 : Fin 2) * 4224 + 1 * (y 0).val from rfl, hi]; rfl
  have hb1 : (((cfg0.win 6).blk t).view.emb y 1).val = t.val / 11 * 512 + 1 * (y 1).val := by
    rw [show (((cfg0.win 6).blk t).view.emb y 1).val = win0_6.index t (1 : Fin 2) * 512 + 1 * (y 1).val from rfl, hi]; rfl
  have ex : (cfg0.win 6).xinj (grid0.coords t) y = ix2 (row (⟨(y 0).val / 384, by omega⟩ : Fin 11) (⟨(y 0).val % 384, by omega⟩ : Fin 384))
      (col 256 (⟨(y 1).val / 256, by omega⟩ : Fin 2) (⟨(y 1).val % 256, by omega⟩ : Fin 256)) := by
    funext a; fin_cases a
    · exact Fin.ext (show (y 0).val = 384 * ((y 0).val / 384) + (y 0).val % 384 by omega)
    · exact Fin.ext (show (y 1).val = 256 * ((y 1).val / 256) + (y 1).val % 256 by omega)
  show out8 (accAt m c (t.val + 1)) ((cfg0.win 6).xinj (grid0.coords t) y) = G6 m c (((cfg0.win 6).blk t).view.emb y)
  rw [ex, show t.val + 1 = 11 * (t.val / 11) + 11 by omega]
  refine (out8_at _ _ _ _).trans ((accAt_dq m c _ (⟨t.val / 11, by omega⟩ : Fin 4) _ _ _).trans ?_)
  unfold G6
  congr 1
  · exact Fin.ext (show 2 * (t.val / 11) + (y 1).val / 256 = (((cfg0.win 6).blk t).view.emb y 1).val / 256 by rw [hb1]; omega)
  · exact Fin.ext (show 384 * ((y 0).val / 384) + (y 0).val % 384 = (((cfg0.win 6).blk t).view.emb y 0).val by rw [hb0]; omega)
  · exact Fin.ext (show (y 1).val % 256 = (((cfg0.win 6).blk t).view.emb y 1).val % 256 by rw [hb1]; omega)

/-! ## Every entry lies in a block that is written back -/

theorem mem6 (i : S4224x2048.Idx) : i ∈ ((cfg0.win 6).blk t).view.set ↔ ∀ a : Fin 2, win0_6.index t a * S4224x512.size a ≤ (i a).val ∧ (i a).val < win0_6.index t a * S4224x512.size a + S4224x512.size a := by
  show i ∈ ((View.whole main_v50_0).slice (win0_6.rect t)).set ↔ _
  rw [View.set_slice_whole, Rect.mem_set_unit]
  exact Iff.rfl
theorem mem7 (i : S4224x2048.Idx) : i ∈ ((cfg0.win 7).blk t).view.set ↔ ∀ a : Fin 2, win0_7.index t a * S384x512.size a ≤ (i a).val ∧ (i a).val < win0_7.index t a * S384x512.size a + S384x512.size a := by
  show i ∈ ((View.whole main_v50_1).slice (win0_7.rect t)).set ↔ _
  rw [View.set_slice_whole, Rect.mem_set_unit]
  exact Iff.rfl
theorem mem8 (i : S4224x1024.Idx) : i ∈ ((cfg0.win 8).blk t).view.set ↔ ∀ a : Fin 2, win0_8.index t a * S384x256.size a ≤ (i a).val ∧ (i a).val < win0_8.index t a * S384x256.size a + S384x256.size a := by
  show i ∈ ((View.whole main_v50_2).slice (win0_8.rect t)).set ↔ _
  rw [View.set_slice_whole, Rect.mem_set_unit]
  exact Iff.rfl

theorem flush_all : ∀ (g : Fin 4) (j : Fin 11), win0_6.flush (pt g 10) = true ∧ win0_7.flush (pt g j) = true ∧ win0_8.flush (pt g j) = true := by decide +kernel

theorem final6 : (dats m 0 c).arrAt 6 cfg0.N = G6 m c :=
  (dats m 0 c).arrAt_eq_of_cover 6 _ (fun t hf => flushed6 m c t hf) (fun (i : S4224x2048.Idx) => by
    have h0 : (i 0).val < 4224 := (i 0).isLt
    have h1 : (i 1).val < 2048 := (i 1).isLt
    have hi := (index_eq (pt ⟨(i 1).val / 512, by omega⟩ 10)).2.2.2.2.2.2.1
    refine ⟨pt ⟨(i 1).val / 512, by omega⟩ 10, (flush_all _ 0).1, ?_⟩
    rw [mem6, hi]
    intro a; fin_cases a
    · show 0 * 4224 ≤ (i 0).val ∧ (i 0).val < 0 * 4224 + 4224
      omega
    · show (11 * ((i 1).val / 512) + 10) / 11 * 512 ≤ (i 1).val ∧ (i 1).val < (11 * ((i 1).val / 512) + 10) / 11 * 512 + 512
      omega)

theorem final7 : (dats m 0 c).arrAt 7 cfg0.N = G7 m c :=
  (dats m 0 c).arrAt_eq_of_cover 7 _ (fun t _ => flushed7 m c t) (fun (i : S4224x2048.Idx) => by
    have h0 : (i 0).val < 4224 := (i 0).isLt
    have h1 : (i 1).val < 2048 := (i 1).isLt
    have hi := (index_eq (pt ⟨(i 1).val / 512, by omega⟩ ⟨(i 0).val / 384, by omega⟩)).2.2.2.2.2.2.2.1
    refine ⟨pt ⟨(i 1).val / 512, by omega⟩ ⟨(i 0).val / 384, by omega⟩, (flush_all _ _).2.1, ?_⟩
    rw [mem7, hi]
    intro a; fin_cases a
    · show (11 * ((i 1).val / 512) + (i 0).val / 384) % 11 * 384 ≤ (i 0).val ∧ (i 0).val < (11 * ((i 1).val / 512) + (i 0).val / 384) % 11 * 384 + 384
      omega
    · show (11 * ((i 1).val / 512) + (i 0).val / 384) / 11 * 512 ≤ (i 1).val ∧ (i 1).val < (11 * ((i 1).val / 512) + (i 0).val / 384) / 11 * 512 + 512
      omega)

theorem final8 : (dats m 0 c).arrAt 8 cfg0.N = G8 m c :=
  (dats m 0 c).arrAt_eq_of_cover 8 _ (fun t _ => flushed8 m c t) (fun (i : S4224x1024.Idx) => by
    have h0 : (i 0).val < 4224 := (i 0).isLt
    have h1 : (i 1).val < 1024 := (i 1).isLt
    have hi := (index_eq (pt ⟨(i 1).val / 256, by omega⟩ ⟨(i 0).val / 384, by omega⟩)).2.2.2.2.2.2.2.2
    refine ⟨pt ⟨(i 1).val / 256, by omega⟩ ⟨(i 0).val / 384, by omega⟩, (flush_all _ _).2.2, ?_⟩
    rw [mem8, hi]
    intro a; fin_cases a
    · show (11 * ((i 1).val / 256) + (i 0).val / 384) % 11 * 384 ≤ (i 0).val ∧ (i 0).val < (11 * ((i 1).val / 256) + (i 0).val / 384) % 11 * 384 + 384
      omega
    · show (11 * ((i 1).val / 256) + (i 0).val / 384) / 11 * 256 ≤ (i 1).val ∧ (i 1).val < (11 * ((i 1).val / 256) + (i 0).val / 384) / 11 * 256 + 256
      omega)

end Cert.AttnKernelIdeal.Step

end
-- ==== Proof.AttnEntry.lean ====
/- The arrays the attention's backward kernel is called with, at an index, from the arguments. -/
module

public import proofs.«01_k».proof.Proof.Gen.AttnKernelIdeal.Frame
public import proofs.«01_k».proof.Proof.AttnHead
public import proofs.«01_k».proof.Proof.Arith
public import Idealize.ShloMosaic.Lib.Pointwise
public import Idealize.ShloMosaic.Lib.StableHlo.ReadAt

@[expose] public section

set_option maxRecDepth 16384

noncomputable section

namespace Cert.AttnKernelIdeal.Step

open Cert.AttnKernelIdeal Cert.AttnKernelIdeal.Gen Idealize.ShloMosaic Idealize.ShloMosaic.TcCoe Idealize.SL.Sem Cert.Arith

variable (m : (ℓ : Loc nD τ sig) → Buf (Elt Ideal) ℓ)

/-! ## The arguments, and what the host makes of them -/

/-- The queries: 128 plain columns, 64 with position, 64 of zeros. -/
def qr (c : Dev nD) (h : Fin 8) (p : Fin 4112) (d : Fin 256) : EReal :=
  if h1 : d.val < 128 then m (c, Proc.tc.devRef main_arg0) (ix4 (0 : Fin 1) p h ⟨d.val, h1⟩)
    else if h2 : d.val - 128 < 64 then m (c, Proc.tc.devRef main_arg1) (ix4 (0 : Fin 1) p h ⟨d.val - 128, h2⟩) else 0
/-- And with their scale. -/
def qv (c : Dev nD) (h : Fin 8) (p : Fin 4112) (d : Fin 256) : EReal := qr m c h p d * Ideal.ofBits .f32 0x3D93CD3A#32
/-- The keys: 128 plain columns, 64 with position that the heads share, 64 of zeros. -/
def kv (c : Dev nD) (h : Fin 8) (p : Fin 4112) (d : Fin 256) : EReal :=
  if h1 : d.val < 128 then m (c, Proc.tc.devRef main_arg2) (ix4 (0 : Fin 1) p h ⟨d.val, h1⟩)
    else if h2 : d.val - 128 < 64 then m (c, Proc.tc.devRef main_arg3) (ix3 (0 : Fin 1) p ⟨d.val - 128, h2⟩) else 0
/-- The values. -/
def vv (c : Dev nD) (h : Fin 8) (p : Fin 4112) (d : Fin 128) : EReal := m (c, Proc.tc.devRef main_arg4) (ix4 (0 : Fin 1) p h d)
/-- The cotangent of the output. -/
def ov (c : Dev nD) (h : Fin 8) (p : Fin 4112) (d : Fin 128) : EReal := m (c, Proc.tc.devRef main_arg5) (ix4 (0 : Fin 1) p h d)
/-- The masked scores of a query. -/
def sv (c : Dev nD) (h : Fin 8) (p k : Fin 4112) : EReal := if k.val ≤ p.val then ∑ d : Fin 256, qv m c h p d * kv m c h k d else ⊥
/-- Their maximum. -/
def mx (c : Dev nD) (h : Fin 8) (p : Fin 4112) : EReal := Finset.fold max ⊥ (fun k => sv m c h p k) Finset.univ
/-- Their exponentials, and the sum of these. -/
def ev (c : Dev nD) (h : Fin 8) (p k : Fin 4112) : EReal := Ideal.exp (sv m c h p k - mx m c h p)
def lv (c : Dev nD) (h : Fin 8) (p : Fin 4112) : EReal := ∑ k : Fin 4112, ev m c h p k
/-- What the kernel is handed of the softmax, per query: the logarithm of the sum of the exponentials, and the output
    against its cotangent. -/
def lse (c : Dev nD) (h : Fin 8) (p : Fin 4112) : EReal := mx m c h p + Ideal.log (lv m c h p)
def dlt (c : Dev nD) (h : Fin 8) (p : Fin 4112) : EReal :=
  ∑ d : Fin 128, ov m c h p d * ∑ k : Fin 4112, vv m c h k d * Ideal.div (ev m c h p k) (lv m c h p)

theorem word_zero : Ideal.ofBits .f32 0#32 = 0 := by simp [Ideal.ofBits, Ideal.ieee]
theorem word_bot : Ideal.ofBits .f32 4286578688#32 = ⊥ := by simp [Ideal.ofBits, Ideal.ieee]

/-! ## The host's operations, part by part -/

/-- The buffers once the queries and the keys are there; then the scores; then the mask; then the sums of the softmax;
    then its results. -/
def X0 (c : Dev nD) : Valuation τ sig (Elt Ideal) := StableHlo.after (hostOps0.take 9) (fun b => m (c, b))
def X1 (c : Dev nD) : Valuation τ sig (Elt Ideal) := StableHlo.after (hostOps0.drop 9) (X0 m c)
def X2 (c : Dev nD) : Valuation τ sig (Elt Ideal) := StableHlo.after hostOps0_1 (X1 m c)
def X3 (c : Dev nD) : Valuation τ sig (Elt Ideal) := StableHlo.after (hostOps0_2.take 9) (X2 m c)
def X4 (c : Dev nD) : Valuation τ sig (Elt Ideal) := StableHlo.after (hostOps0_2.drop 9) (X3 m c)

theorem V_eq (c : Dev nD) (b : Ref sig .tc) : V m c b = StableHlo.after (List.flatten [hostOps0_3, hostOps0_4, hostOps0_5, hostOps0_6, hostOps0_7,
    hostOps0_8, hostOps0_9, hostOps0_10, hostOps0_11, hostOps0_12, hostOps0_13, hostOps0_14]) (X4 m c) (Proc.devRef .tc b) := by
  unfold V X4 X3 X2 X1 X0
  rw [← StableHlo.after_append, ← StableHlo.after_append, ← StableHlo.after_append, ← StableHlo.after_append, ← StableHlo.after_append]
  rfl

theorem x0_v5 (c : Dev nD) (h : Fin 8) (p : Fin 4112) (d : Fin 256) :
    @Eq EReal (X0 m c (Proc.devRef .tc main_v5) (ix4 (0 : Fin 1) p h d)) (qv m c h p d) := by
  unfold X0
  after_reads_at
  after_reads_simp
  unfold qv qr
  rw [← word_zero]
  rfl

theorem x0_v6 (c : Dev nD) (h : Fin 8) (p : Fin 4112) (d : Fin 256) :
    @Eq EReal (X0 m c (Proc.devRef .tc main_v6) (ix4 (0 : Fin 1) p h d)) (kv m c h p d) := by
  unfold X0
  after_reads_at
  after_reads_simp
  unfold kv
  rw [← word_zero]
  pointwise

theorem x1_v7 (c : Dev nD) (h : Fin 8) (p k : Fin 4112) :
    @Eq EReal (X1 m c (Proc.devRef .tc main_v7) (ix4 (0 : Fin 1) h p k)) (∑ d : Fin 256, qv m c h p d * kv m c h k d) := by
  simp only [← x0_v5, ← x0_v6]
  unfold X1
  generalize X0 m c = X
  after_reads_at

theorem x1_v14 (c : Dev nD) (p k : Fin 4112) :
    X1 m c (Proc.devRef .tc main_v14) (ix4 (0 : Fin 1) (0 : Fin 1) p k) = IntOp.cmpi CmpIPredicate.sle (BitVec.ofNat 32 k.val) (BitVec.ofNat 32 p.val) := by
  unfold X1
  generalize X0 m c = X
  after_reads_at

theorem x1_cst (c : Dev nD) : @Eq EReal (X1 m c (Proc.devRef .tc main_cst_1) ix0) ⊥ := by
  unfold X1
  generalize X0 m c = X
  after_reads_at
  exact word_bot

theorem x2_v15 (c : Dev nD) (h : Fin 8) (p k : Fin 4112) :
    @Eq EReal (X2 m c (Proc.devRef .tc main_v15) (ix4 (0 : Fin 1) h p k)) (sv m c h p k) := by
  have e : @Eq EReal (X2 m c (Proc.devRef .tc main_v15) (ix4 (0 : Fin 1) h p k))
      (Scalar.select (X1 m c (Proc.tc.devRef main_v14) (ix4 (0 : Fin 1) (0 : Fin 1) p k)) (X1 m c (Proc.tc.devRef main_v7) (ix4 (0 : Fin 1) h p k)) (X1 m c (Proc.tc.devRef main_cst_1) ix0)) := by
    unfold X2
    generalize X1 m c = X
    after_reads_at
    rfl
  refine e.trans ?_
  rw [x1_v14, x1_v7, x1_cst]
  unfold sv
  have hp : (BitVec.ofNat 32 p.val).toInt = p.val := small_toInt p.val (by omega)
  have hk : (BitVec.ofNat 32 k.val).toInt = k.val := small_toInt k.val (by omega)
  by_cases hkp : k.val ≤ p.val
  · rw [if_pos hkp, show IntOp.cmpi CmpIPredicate.sle (BitVec.ofNat 32 k.val) (BitVec.ofNat 32 p.val) = 1#1 from by
      show BitVec.ofBool ((BitVec.ofNat 32 k.val).sle (BitVec.ofNat 32 p.val)) = 1#1
      rw [BitVec.sle, hp, hk]; simp [hkp]]
    rfl
  · rw [if_neg hkp, show IntOp.cmpi CmpIPredicate.sle (BitVec.ofNat 32 k.val) (BitVec.ofNat 32 p.val) = 0#1 from by
      show BitVec.ofBool ((BitVec.ofNat 32 k.val).sle (BitVec.ofNat 32 p.val)) = 0#1
      rw [BitVec.sle, hp, hk]; simp [hkp]]
    rfl

theorem x3_v17 (c : Dev nD) (h : Fin 8) (p : Fin 4112) :
    @Eq EReal (X3 m c (Proc.devRef .tc main_v17) (ix4 (0 : Fin 1) h p (0 : Fin 1))) (mx m c h p) := by
  unfold mx
  simp only [← x2_v15, ← word_bot]
  unfold X3
  generalize X2 m c = X
  after_reads_at

theorem x3_v20 (c : Dev nD) (h : Fin 8) (p k : Fin 4112) :
    @Eq EReal (X3 m c (Proc.devRef .tc main_v20) (ix4 (0 : Fin 1) h p k)) (ev m c h p k) := by
  unfold ev mx
  simp only [← x2_v15, ← word_bot]
  unfold X3
  generalize X2 m c = X
  after_reads_at

theorem x3_v22 (c : Dev nD) (h : Fin 8) (p : Fin 4112) :
    @Eq EReal (X3 m c (Proc.devRef .tc main_v22) (ix4 (0 : Fin 1) h p (0 : Fin 1))) (lv m c h p) := by
  unfold lv ev mx
  simp only [← x2_v15, ← word_bot]
  unfold X3
  generalize X2 m c = X
  after_reads_at

theorem cast_unit {α : Type} {a b : ℕ} (x : (⟨4, ![1, a, b, 1]⟩ : Shape).Idx → α) (h : (⟨4, ![1, a, b, 1]⟩ : Shape).ShapeCasts ⟨2, ![a, b]⟩) (i : Fin a) (k : Fin b) :
    shapeCast ⟨2, ![a, b]⟩ x h (ix2 i k) = x (ix4 (0 : Fin 1) i k (0 : Fin 1)) :=
  shapeCast_apply x h _ _ (by
    rw [Shape.rowMajor_val_four, Shape.rowMajor_val_two]
    show ((0 * a + i.val) * b + k.val) * 1 + 0 = i.val * b + k.val
    rw [Nat.zero_mul, Nat.zero_add, Nat.mul_one, Nat.add_zero])

/-- The logarithms' array, from the two arrays of the softmax. -/
theorem log_sum (x y : Vec Ideal S1x8x4112x1 .f32) (h : Fin 8) (p : Fin 4112) :
    @Eq EReal (shapeCast S8x4112 (addf (F := Ideal) (φ := .f32) (s := S1x8x4112x1) x (Host.log (F := Ideal) (φ := .f32) (s := S1x8x4112x1) y)) shapeCasts_S1x8x4112x1_S8x4112 (ix2 h p))
      (x (ix4 (0 : Fin 1) h p (0 : Fin 1)) + Ideal.log (y (ix4 (0 : Fin 1) h p (0 : Fin 1))) : EReal) :=
  (cast_unit (addf (F := Ideal) (φ := .f32) (s := S1x8x4112x1) x (Host.log (F := Ideal) (φ := .f32) (s := S1x8x4112x1) y)) _ h p).trans rfl

theorem after_v29 (X : Valuation τ sig (Elt Ideal)) : StableHlo.after (hostOps0_2.drop 9) X (Proc.devRef .tc main_v29)
    = (shapeCast S8x4112 (addf (F := Ideal) (φ := .f32) (s := S1x8x4112x1) (X (Proc.devRef .tc main_v17)) (Host.log (F := Ideal) (φ := .f32) (s := S1x8x4112x1) (X (Proc.devRef .tc main_v22)))) shapeCasts_S1x8x4112x1_S8x4112 : Vec Ideal S8x4112 .f32) := by
  after_reads_simp
  rfl

theorem x4_v29 (c : Dev nD) (h : Fin 8) (p : Fin 4112) :
    @Eq EReal (X4 m c (Proc.devRef .tc main_v29) (ix2 h p)) (lse m c h p) :=
  (congrFun (after_v29 (X3 m c)) (ix2 h p)).trans ((log_sum _ _ h p).trans
    (congrArg₂ (fun x y : EReal => x + Ideal.log y) (x3_v17 m c h p) (x3_v22 m c h p)))

theorem x3_arg4 (c : Dev nD) (h : Fin 8) (p : Fin 4112) (d : Fin 128) :
    @Eq EReal (X3 m c (Proc.devRef .tc main_arg4) (ix4 (0 : Fin 1) p h d)) (vv m c h p d) := by
  unfold X3 X2 X1 X0 vv
  after_reads_simp

theorem x4_v26 (c : Dev nD) (h : Fin 8) (p : Fin 4112) (d : Fin 128) :
    @Eq EReal (X4 m c (Proc.devRef .tc main_v26) (ix4 (0 : Fin 1) p h d)) (∑ k : Fin 4112, vv m c h k d * Ideal.div (ev m c h p k) (lv m c h p)) := by
  simp only [← x3_v22, ← x3_v20, ← x3_arg4]
  unfold X4
  generalize X3 m c = X
  after_reads_at

/-! ## The entry arrays -/

/-- A row of a host array, or of the zeros after it. -/
theorem entry_q (c : Dev nD) (R : Fin 4224) (l : Fin 2048) :
    @Eq EReal (V m c main_v40 (ix2 R l)) (padRow (fun p (l : Fin 2048) => qv m c ⟨l.val / 256, by omega⟩ p ⟨l.val % 256, by omega⟩) R.val l) := by
  have e : X4 m c (Proc.devRef .tc main_v5) = X0 m c (Proc.devRef .tc main_v5) := by
    unfold X4 X3 X2 X1
    generalize X0 m c = X
    after_reads_simp
  rw [V_eq]
  unfold padRow
  simp only [← x0_v5, ← e]
  generalize X4 m c = X
  after_reads_at
  rw [sitofp_zero]

theorem entry_k (c : Dev nD) (R : Fin 4224) (l : Fin 2048) :
    @Eq EReal (V m c main_v43 (ix2 R l)) (padRow (fun p (l : Fin 2048) => kv m c ⟨l.val / 256, by omega⟩ p ⟨l.val % 256, by omega⟩) R.val l) := by
  have e : X4 m c (Proc.devRef .tc main_v6) = X0 m c (Proc.devRef .tc main_v6) := by
    unfold X4 X3 X2 X1
    generalize X0 m c = X
    after_reads_simp
  rw [V_eq]
  unfold padRow
  simp only [← x0_v6, ← e]
  generalize X4 m c = X
  after_reads_at
  rw [sitofp_zero]

theorem x4_arg4 (c : Dev nD) (h : Fin 8) (p : Fin 4112) (d : Fin 128) :
    @Eq EReal (X4 m c (Proc.devRef .tc main_arg4) (ix4 (0 : Fin 1) p h d)) (vv m c h p d) := by
  unfold X4 X3 X2 X1 X0 vv
  after_reads_simp
theorem x4_arg5 (c : Dev nD) (h : Fin 8) (p : Fin 4112) (d : Fin 128) :
    @Eq EReal (X4 m c (Proc.devRef .tc main_arg5) (ix4 (0 : Fin 1) p h d)) (ov m c h p d) := by
  unfold X4 X3 X2 X1 X0 ov
  after_reads_simp

theorem entry_v (c : Dev nD) (R : Fin 4224) (l : Fin 1024) :
    @Eq EReal (V m c main_v46 (ix2 R l)) (padRow (fun p (l : Fin 1024) => vv m c ⟨l.val / 128, by omega⟩ p ⟨l.val % 128, by omega⟩) R.val l) := by
  rw [V_eq]
  unfold padRow
  simp only [← x4_arg4]
  generalize X4 m c = X
  after_reads_at
  rw [sitofp_zero]

theorem entry_o (c : Dev nD) (R : Fin 4224) (l : Fin 1024) :
    @Eq EReal (V m c main_v49 (ix2 R l)) (padRow (fun p (l : Fin 1024) => ov m c ⟨l.val / 128, by omega⟩ p ⟨l.val % 128, by omega⟩) R.val l) := by
  rw [V_eq]
  unfold padRow
  simp only [← x4_arg5]
  generalize X4 m c = X
  after_reads_at
  rw [sitofp_zero]

theorem entry_lse (c : Dev nD) (h : Fin 8) (n : Fin 11) (x : Fin 384) :
    @Eq EReal (V m c main_v31 (ix4 h n (0 : Fin 1) x)) (padRow (fun p h => lse m c h p) (n.val * 384 + x.val) h) := by
  have z : X4 m c (Proc.devRef .tc main_c) (Shape.Idx.first h_S_) = 0#32 := by
    unfold X4
    generalize X3 m c = X
    after_reads_at
  rw [V_eq]
  unfold padRow
  simp only [← x4_v29]
  revert z
  generalize X4 m c = X
  intro z
  after_reads_at
  rw [z, sitofp_zero]

theorem entry_dlt (c : Dev nD) (h : Fin 8) (n : Fin 11) (x : Fin 384) :
    @Eq EReal (V m c main_v37 (ix4 h n (0 : Fin 1) x)) (padRow (fun p h => dlt m c h p) (n.val * 384 + x.val) h) := by
  rw [V_eq]
  unfold padRow dlt
  simp only [← x4_arg5, ← x4_v26]
  generalize X4 m c = X
  after_reads_at
  rw [sitofp_zero]

end Cert.AttnKernelIdeal.Step

end
-- ==== Proof.AttnMath.lean ====
/- The arithmetic of a masked softmax and of its cotangent, on the real numbers. -/
module

public import proofs.«01_k».proof.Proof.Arith

@[expose] public section

noncomputable section

namespace Cert.Softmax

open Idealize.ShloMosaic Cert.Arith

variable {n : ℕ}

/-- The largest score of a row, the exponentials of the others' distances to it, and their sum. -/
def top (S : Fin n → EReal) : EReal := Finset.fold max ⊥ (fun k => S k) Finset.univ
def ex (S : Fin n → EReal) (k : Fin n) : EReal := Ideal.exp (S k - top S)
def tot (S : Fin n → EReal) : EReal := ∑ k, ex S k

/-- The scores of query `p`: those of later keys are masked. -/
def masked (p : Fin n) (s : Fin n → EReal) (k : Fin n) : EReal := if k.val ≤ p.val then s k else ⊥

theorem top_real (p : Fin n) (s : Fin n → ℝ) : ∃ M : ℝ, top (masked p fun k => (s k : EReal)) = M := by
  have h1 : top (masked p fun k => (s k : EReal)) < ⊤ := by
    refine (Finset.fold_max_lt (f := fun k => masked p (fun k => (s k : EReal)) k) (c := (⊤ : EReal))).2 ⟨bot_lt_top, fun x _ => ?_⟩
    show masked p _ x < ⊤
    unfold masked
    split
    · exact EReal.coe_lt_top _
    · exact bot_lt_top
  have h2 : (s p : EReal) ≤ top (masked p fun k => (s k : EReal)) := by
    refine (Finset.le_fold_max (f := fun k => masked p (fun k => (s k : EReal)) k) (c := (s p : EReal))).2 (Or.inr ⟨p, Finset.mem_univ _, ?_⟩)
    show _ ≤ masked p _ p
    unfold masked
    rw [if_pos (le_refl _)]
  generalize top (masked p fun k => (s k : EReal)) = T at h1 h2
  induction T using EReal.rec with
  | bot => exact absurd h2 (by simp)
  | top => exact absurd h1 (lt_irrefl _)
  | coe r => exact ⟨r, rfl⟩

/-- A row's exponentials and their sum are real, and the exponential of a score's distance to the logarithm of that sum is
    the quotient of the two. -/
theorem row_facts (p : Fin n) (s : Fin n → ℝ) : ∃ (e : Fin n → ℝ) (L : ℝ), L ≠ 0
    ∧ (∀ k, ex (masked p fun k => (s k : EReal)) k = (e k : EReal)) ∧ tot (masked p fun k => (s k : EReal)) = (L : EReal)
    ∧ (∀ k, Ideal.exp (masked p (fun k => (s k : EReal)) k - (top (masked p fun k => (s k : EReal)) + Ideal.log (tot (masked p fun k => (s k : EReal))))) = ((e k / L : ℝ) : EReal))
    ∧ (∀ k, ¬k.val ≤ p.val → e k = 0) := by
  obtain ⟨M, hM⟩ := top_real p s
  let e : Fin n → ℝ := fun k => if k.val ≤ p.val then Real.exp (s k - M) else 0
  have he : ∀ k, ex (masked p fun k => (s k : EReal)) k = (e k : EReal) := fun k => by
    unfold ex
    rw [hM]
    show Ideal.exp ((if k.val ≤ p.val then (s k : EReal) else ⊥) - (M : EReal)) = ((if k.val ≤ p.val then Real.exp (s k - M) else 0 : ℝ) : EReal)
    by_cases h : k.val ≤ p.val
    · rw [if_pos h, if_pos h, ← EReal.coe_sub]
      rfl
    · rw [if_neg h, if_neg h, EReal.bot_sub]
      rfl
  have hpos : 0 < ∑ k, e k := Finset.sum_pos' (fun k _ => by
      show 0 ≤ (if k.val ≤ p.val then Real.exp (s k - M) else 0)
      split
      · exact (Real.exp_pos _).le
      · exact le_refl _) ⟨p, Finset.mem_univ _, by
      show 0 < (if p.val ≤ p.val then Real.exp (s p - M) else 0)
      rw [if_pos (le_refl _)]
      exact Real.exp_pos _⟩
  have ht : tot (masked p fun k => (s k : EReal)) = ((∑ k, e k : ℝ) : EReal) := by
    unfold tot
    rw [Finset.sum_congr rfl fun k _ => he k, coe_sum]
  refine ⟨e, ∑ k, e k, hpos.ne', he, ht, fun k => ?_, fun k h => if_neg h⟩
  have hl : Ideal.log ((∑ k, e k : ℝ) : EReal) = ((Real.log (∑ k, e k) : ℝ) : EReal) := by
    show (if (∑ k, e k) ≤ 0 then (⊥ : EReal) else ((Real.log (∑ k, e k) : ℝ) : EReal)) = _
    rw [if_neg hpos.not_ge]
  rw [ht, hl, hM, ← EReal.coe_add]
  show Ideal.exp ((if k.val ≤ p.val then (s k : EReal) else ⊥) - ((M + Real.log (∑ k, e k) : ℝ) : EReal))
    = (((if k.val ≤ p.val then Real.exp (s k - M) else 0) / ∑ k, e k : ℝ) : EReal)
  by_cases h : k.val ≤ p.val
  · rw [if_pos h, if_pos h, ← EReal.coe_sub]
    show ((Real.exp (s k - (M + Real.log (∑ k, e k))) : ℝ) : EReal) = _
    rw [← sub_sub, Real.exp_sub, Real.exp_log hpos]
  · rw [if_neg h, if_neg h, EReal.bot_sub, zero_div]
    rfl

/-- The two forms of the score's cotangent: the kernel's, from the output against its cotangent, and the reference's, from
    the softmax's quotient. -/
def dK (S : Fin n → EReal) (dlt : EReal) (dp : Fin n → EReal) (k : Fin n) : EReal :=
  Ideal.exp (S k - (top S + Ideal.log (tot S))) * (dp k - dlt)
def dR (S : Fin n → EReal) (dp : Fin n → EReal) (k : Fin n) : EReal :=
  (Ideal.div (dp k) (tot S) + -(∑ k, dp k * Ideal.div 1 (tot S * tot S) * ex S k)) * ex S k

variable {d : ℕ} (p : Fin n) (s : Fin n → ℝ) (o : Fin d → ℝ) (v : Fin n → Fin d → ℝ)

theorem prob_eq (k : Fin n) : Ideal.exp (masked p (fun k => (s k : EReal)) k - (top (masked p fun k => (s k : EReal)) + Ideal.log (tot (masked p fun k => (s k : EReal)))))
    = Ideal.div (ex (masked p fun k => (s k : EReal)) k) (tot (masked p fun k => (s k : EReal))) := by
  obtain ⟨e, L, hL, he, ht, hp, -⟩ := row_facts p s
  rw [hp, he, ht, div_coe _ _ hL]

theorem cotangent_eq (k : Fin n) :
    dK (masked p fun k => (s k : EReal)) (∑ j, (o j : EReal) * ∑ k, (v k j : EReal) * Ideal.div (ex (masked p fun k => (s k : EReal)) k) (tot (masked p fun k => (s k : EReal))))
        (fun k => ∑ j, (v k j : EReal) * (o j : EReal)) k
      = if k.val ≤ p.val then dR (masked p fun k => (s k : EReal)) (fun k => ∑ j, (o j : EReal) * (v k j : EReal)) k else 0 := by
  obtain ⟨e, L, hL, he, ht, hp, hz⟩ := row_facts p s
  unfold dK dR
  rw [hp k]
  simp only [he, ht, div_coe _ _ hL, ← EReal.coe_mul, coe_sum, ← EReal.coe_sub, ← EReal.coe_one, div_coe _ _ (mul_ne_zero hL hL), ← EReal.coe_neg, ← EReal.coe_add]
  have hd : ∑ j, o j * ∑ k, v k j * (e k / L) = ∑ k, (∑ j, o j * v k j) * (e k / L) := by
    simp only [Finset.mul_sum, Finset.sum_mul]
    rw [Finset.sum_comm]
    exact Finset.sum_congr rfl fun k _ => Finset.sum_congr rfl fun j _ => by ring
  have hq : ∑ k, (∑ j, o j * v k j) * (1 / (L * L)) * e k = (∑ k, (∑ j, o j * v k j) * (e k / L)) / L := by
    rw [Finset.sum_div]
    exact Finset.sum_congr rfl fun k _ => by field_simp
  have hc : ∑ j, v k j * o j = ∑ j, o j * v k j := Finset.sum_congr rfl fun j _ => mul_comm _ _
  rw [hd, hq, hc]
  by_cases h : k.val ≤ p.val
  · rw [if_pos h]
    refine congrArg _ ?_
    field_simp
    ring
  · rw [if_neg h, hz k h]
    simp

end Cert.Softmax

end
-- ==== Proof.AttnScores.lean ====
/- What the reference of the attention's kernel computes, at an index, stage by stage. -/
module

public import proofs.«01_k».proof.Proof.Gen.AttnReferenceIdeal.Read
public import proofs.«01_k».proof.Proof.AttnMath
public import proofs.«01_k».proof.Proof.AttnHead
public import Idealize.ShloMosaic.Lib.Pointwise

@[expose] public section

set_option maxRecDepth 16384

noncomputable section

namespace Cert.AttnRef

open Cert.AttnReferenceIdeal Cert.AttnReferenceIdeal.Gen Cert.AttnReferenceIdeal.Read
open Idealize.ShloMosaic Idealize.ShloMosaic.TcCoe Idealize.SL.Sem Cert.Arith Cert.Softmax

variable (x0 : Vec Ideal S1x4112x8x128 .f32) (x1 : Vec Ideal S1x4112x8x64 .f32) (x2 : Vec Ideal S1x4112x8x128 .f32) (x3 : Vec Ideal S1x4112x64 .f32)
  (x4 x5 : Vec Ideal S1x4112x8x128 .f32)

/-- The scaled queries. -/
def q0 (h : Fin 8) (p : Fin 4112) (d : Fin 192) : EReal :=
  if h1 : d.val < 128 then x0 (ix4 (0 : Fin 1) p h ⟨d.val, h1⟩) else x1 (ix4 (0 : Fin 1) p h ⟨d.val - 128, by omega⟩)
def q (h : Fin 8) (p : Fin 4112) (d : Fin 192) : EReal := q0 x0 x1 h p d * Ideal.ofBits .f32 0x3D93CD3A#32
/-- The keys. -/
def k (h : Fin 8) (p : Fin 4112) (d : Fin 192) : EReal :=
  if h1 : d.val < 128 then x2 (ix4 (0 : Fin 1) p h ⟨d.val, h1⟩) else x3 (ix3 (0 : Fin 1) p ⟨d.val - 128, by omega⟩)
/-- The masked scores of a query. -/
def S (h : Fin 8) (p : Fin 4112) : Fin 4112 → EReal := masked p fun j => ∑ d : Fin 192, q x0 x1 h p d * k x2 x3 h j d
/-- The cotangent of a probability. -/
def dp (h : Fin 8) (p j : Fin 4112) : EReal := ∑ d : Fin 128, x5 (ix4 (0 : Fin 1) p h d) * x4 (ix4 (0 : Fin 1) j h d)
/-- The cotangent of a score. -/
def ds (h : Fin 8) (p j : Fin 4112) : EReal := if j.val ≤ p.val then dR (S x0 x1 x2 x3 h p) (dp x4 x5 h p) j else 0

theorem q_at (h : Fin 8) (p : Fin 4112) (d : Fin 192) : @Eq EReal (val_main_v2 (F := Ideal) x0 x1 (ix4 (0 : Fin 1) p h d)) (q x0 x1 h p d) := by
  unfold q q0
  pointwise [val_main_v0, val_main_cst, val_main_v1, val_main_v2]
theorem k_at (h : Fin 8) (p : Fin 4112) (d : Fin 192) : @Eq EReal (val_main_v5 (F := Ideal) x2 x3 (ix4 (0 : Fin 1) p h d)) (k x2 x3 h p d) := by
  unfold k
  pointwise [val_main_v3, val_main_v4, val_main_v5]

theorem mask_at (h : Fin 8) (p j : Fin 4112) : val_main_v14_1 (F := Ideal) (ix4 (0 : Fin 1) h p j) = if j.val ≤ p.val then 1#1 else 0#1 := by
  have e : val_main_v14_1 (F := Ideal) (ix4 (0 : Fin 1) h p j) = IntOp.cmpi CmpIPredicate.sle (BitVec.ofNat 32 j.val) (BitVec.ofNat 32 p.val) := by
    pointwise [val_main_v7, val_main_v8, val_main_v9, val_main_v10, val_main_v11, val_main_v12, val_main_v13, val_main_v14_1]
  rw [e]
  show BitVec.ofBool ((BitVec.ofNat 32 j.val).sle (BitVec.ofNat 32 p.val)) = _
  rw [BitVec.sle, Cert.AttnKernelIdeal.Step.small_toInt p.val (by omega), Cert.AttnKernelIdeal.Step.small_toInt j.val (by omega)]
  by_cases hj : j.val ≤ p.val <;> simp [hj]

theorem word_bot : Ideal.ofBits .f32 4286578688#32 = ⊥ := by simp [Ideal.ofBits, Ideal.ieee]
theorem word_zero : Ideal.ofBits .f32 0#32 = 0 := by simp [Ideal.ofBits, Ideal.ieee]
theorem word_one : Ideal.ofBits .f32 0x3F800000#32 = 1 := by simp [Ideal.ofBits, Ideal.ieee, -EReal.coe_mul]; norm_num

theorem S_at (h : Fin 8) (p j : Fin 4112) : @Eq EReal (val_main_v14_0 (F := Ideal) x0 x1 x2 x3 (ix4 (0 : Fin 1) h p j)) (S x0 x1 x2 x3 h p j) := by
  have e : @Eq EReal (val_main_v14_0 (F := Ideal) x0 x1 x2 x3 (ix4 (0 : Fin 1) h p j))
      (Scalar.select (val_main_v14_1 (F := Ideal) (ix4 (0 : Fin 1) h p j)) (∑ d : Fin 192, q x0 x1 h p d * k x2 x3 h j d) (⊥ : EReal)) := by
    simp only [← q_at, ← k_at, ← word_bot]
    pointwise [val_main_v14_0, val_main_call0_v2, val_main_call0_v0, val_main_cst_0, val_main_v6]
    rfl
  rw [e, mask_at]
  unfold S masked
  by_cases hj : j.val ≤ p.val
  · rw [if_pos hj, if_pos hj]; rfl
  · rw [if_neg hj, if_neg hj]; rfl

theorem top_at (h : Fin 8) (p : Fin 4112) : @Eq EReal (val_main_v15 (F := Ideal) x0 x1 x2 x3 (ix3 (0 : Fin 1) h p)) (top (S x0 x1 x2 x3 h p)) := by
  unfold top
  simp only [← S_at, ← word_bot]
  pointwise [val_main_v15, val_main_cst_1]

end Cert.AttnRef

end
-- ==== Proof.AttnReference.lean ====
/- What the reference of the attention's kernel computes, at an index, stage by stage. -/
module

public import proofs.«01_k».proof.Proof.Gen.AttnReferenceIdeal.Read
public import proofs.«01_k».proof.Proof.AttnScores
public import Idealize.ShloMosaic.Lib.Pointwise

@[expose] public section

set_option maxRecDepth 16384

noncomputable section

namespace Cert.AttnRef

open Cert.AttnReferenceIdeal Cert.AttnReferenceIdeal.Gen Cert.AttnReferenceIdeal.Read
open Idealize.ShloMosaic Idealize.ShloMosaic.TcCoe Idealize.SL.Sem Cert.Arith Cert.Softmax

variable (x0 : Vec Ideal S1x4112x8x128 .f32) (x1 : Vec Ideal S1x4112x8x64 .f32) (x2 : Vec Ideal S1x4112x8x128 .f32) (x3 : Vec Ideal S1x4112x64 .f32)
  (x4 x5 : Vec Ideal S1x4112x8x128 .f32)

theorem low_word (h : Fin 8) (p : Fin 4112) : @Eq EReal (val_main_v21 (F := Ideal) (ix3 (0 : Fin 1) h p)) ⊥ := by
  rw [← word_bot]
  pointwise [val_main_cst_3, val_main_v21]

theorem low_at (h : Fin 8) (p : Fin 4112) : @Eq EReal (val_main_v22 (F := Ideal) x0 x1 x2 x3 (ix3 (0 : Fin 1) h p)) (top (S x0 x1 x2 x3 h p)) := by
  have e : ∀ X Y : Vec Ideal S1x8x4112 .f32, @Eq EReal (maximumf (F := Ideal) (φ := .f32) (s := S1x8x4112) X Y (ix3 (0 : Fin 1) h p)) (max (X (ix3 (0 : Fin 1) h p) : EReal) (Y (ix3 (0 : Fin 1) h p)) : EReal) := fun X Y => rfl
  refine (e _ _).trans ((congrArg₂ (fun y z : EReal => max y z) (low_word h p) (top_at x0 x1 x2 x3 h p)).trans ?_)
  exact max_eq_right bot_le

theorem ex_at (h : Fin 8) (p j : Fin 4112) : @Eq EReal (val_main_v35 (F := Ideal) x0 x1 x2 x3 (ix4 (0 : Fin 1) h p j)) (ex (S x0 x1 x2 x3 h p) j) := by
  have e : @Eq EReal (val_main_v35 (F := Ideal) x0 x1 x2 x3 (ix4 (0 : Fin 1) h p j))
      (Ideal.exp (val_main_v14_0 (F := Ideal) x0 x1 x2 x3 (ix4 (0 : Fin 1) h p j) - val_main_v22 (F := Ideal) x0 x1 x2 x3 (ix3 (0 : Fin 1) h p) : EReal)) := by
    unfold val_main_v35 val_main_v34 val_main_v33 val_main_v32
    generalize val_main_v22 (F := Ideal) x0 x1 x2 x3 = X
    generalize val_main_v14_0 (F := Ideal) x0 x1 x2 x3 = Y
    pointwise
  rw [e, S_at, low_at]
  unfold ex
  rfl

theorem tot_at (h : Fin 8) (p : Fin 4112) : @Eq EReal (val_main_v36 (F := Ideal) x0 x1 x2 x3 (ix3 (0 : Fin 1) h p)) (tot (S x0 x1 x2 x3 h p)) := by
  unfold tot
  simp only [← ex_at]
  pointwise [val_main_cst_9, val_main_v36]

theorem pr_at (h : Fin 8) (p j : Fin 4112) : @Eq EReal (val_main_v39 (F := Ideal) x0 x1 x2 x3 (ix4 (0 : Fin 1) h p j))
    (Ideal.div (ex (S x0 x1 x2 x3 h p) j) (tot (S x0 x1 x2 x3 h p))) := by
  rw [← ex_at, ← tot_at]
  pointwise [val_main_v37, val_main_v38, val_main_v39]

theorem dp_at (h : Fin 8) (p j : Fin 4112) : @Eq EReal (val_main_v46 (F := Ideal) x4 x5 (ix4 (0 : Fin 1) h p j)) (dp x4 x5 h p j) := by
  pointwise [val_main_v45, val_main_v46]
  rfl

theorem cor_at (h : Fin 8) (p : Fin 4112) : @Eq EReal (val_main_v54 (F := Ideal) x0 x1 x2 x3 x4 x5 (ix4 (0 : Fin 1) h p (0 : Fin 1)))
    (-(∑ j, dp x4 x5 h p j * Ideal.div 1 (tot (S x0 x1 x2 x3 h p) * tot (S x0 x1 x2 x3 h p)) * ex (S x0 x1 x2 x3 h p) j)) := by
  simp only [← dp_at, ← ex_at, ← tot_at, ← word_one]
  pointwise [val_main_v37, val_main_v40, val_main_cst_10, val_main_v41, val_main_v42, val_main_v49, val_main_v50, val_main_v51, val_main_cst_11, val_main_v52, val_main_v53, val_main_v54]

/-- A sum over a first and a last axis of extent one. -/
theorem ends_two {a b : ℕ} (w : (⟨4, ![1, a, b, 1]⟩ : Shape).ReducesTo [0, 3] ⟨2, ![a, b]⟩) (v : (⟨4, ![1, a, b, 1]⟩ : Shape).Idx → EReal)
    (init : EReal) (i : Fin a) (j : Fin b) : Ideal.hostReduceAdd w v init (ix2 i j) = init + v (ix4 (0 : Fin 1) i j (0 : Fin 1)) := by
  unfold Ideal.hostReduceAdd
  congr 1
  refine Finset.sum_eq_single_of_mem (ix4 (0 : Fin 1) i j (0 : Fin 1)) ?_ ?_
  · rw [Finset.mem_filter]
    refine ⟨Finset.mem_univ _, ?_⟩
    funext b; fin_cases b <;> rfl
  · intro x hx hne
    rw [Finset.mem_filter] at hx
    refine absurd ?_ hne
    have e0 := congrFun hx.2 0
    have e1 := congrFun hx.2 1
    funext y; fin_cases y
    · exact Subsingleton.elim (α := Fin 1) _ _
    · exact Fin.ext (congrArg Fin.val e0)
    · exact Fin.ext (congrArg Fin.val e1)
    · exact Subsingleton.elim (α := Fin 1) _ _

theorem cors_at (h : Fin 8) (p j : Fin 4112) : @Eq EReal (val_main_v59 (F := Ideal) x0 x1 x2 x3 x4 x5 (ix4 (0 : Fin 1) h p j))
    (val_main_v54 (F := Ideal) x0 x1 x2 x3 x4 x5 (ix4 (0 : Fin 1) h p (0 : Fin 1))) := by
  pointwise [val_main_cst_12, val_main_v57, val_main_v58, val_main_v59]
  exact (ends_two _ _ _ h p).trans (zero_add _)

theorem ds_at (h : Fin 8) (p j : Fin 4112) : @Eq EReal (val_main_v62 (F := Ideal) x0 x1 x2 x3 x4 x5 (ix4 (0 : Fin 1) h p j)) (ds x0 x1 x2 x3 x4 x5 h p j) := by
  have e : @Eq EReal (val_main_v62 (F := Ideal) x0 x1 x2 x3 x4 x5 (ix4 (0 : Fin 1) h p j))
      (Scalar.select (val_main_v14_1 (F := Ideal) (ix4 (0 : Fin 1) h p j))
        ((Ideal.div (dp x4 x5 h p j) (tot (S x0 x1 x2 x3 h p)) + val_main_v59 (F := Ideal) x0 x1 x2 x3 x4 x5 (ix4 (0 : Fin 1) h p j) : EReal) * ex (S x0 x1 x2 x3 h p) j) (0 : EReal)) := by
    rw [← dp_at, ← tot_at, ← ex_at, ← word_zero]
    pointwise [val_main_v37, val_main_v55, val_main_v56, val_main_v60, val_main_v61, val_main_call1_cst, val_main_call1_v0, val_main_v62]
  rw [e, mask_at, cors_at, cor_at]
  unfold ds dR
  by_cases hj : j.val ≤ p.val
  · rw [if_pos hj, if_pos hj]; rfl
  · rw [if_neg hj, if_neg hj]; rfl

/-! ## The results: rows are padded to 4224, and a head's columns from 192 to 256 -/

def dq (h : Fin 8) (p : Fin 4112) (d : Fin 192) : EReal := ∑ j : Fin 4112, ds x0 x1 x2 x3 x4 x5 h p j * k x2 x3 h j d
def dk (h : Fin 8) (j : Fin 4112) (d : Fin 192) : EReal := ∑ p : Fin 4112, ds x0 x1 x2 x3 x4 x5 h p j * q x0 x1 h p d
def dv (h : Fin 8) (j : Fin 4112) (d : Fin 128) : EReal :=
  ∑ p : Fin 4112, x5 (ix4 (0 : Fin 1) p h d) * Ideal.div (ex (S x0 x1 x2 x3 h p) j) (tot (S x0 x1 x2 x3 h p))

theorem dq_at (h : Fin 8) (p : Fin 4112) (d : Fin 192) : @Eq EReal (val_main_v66 (F := Ideal) x0 x1 x2 x3 x4 x5 (ix4 (0 : Fin 1) p h d)) (dq x0 x1 x2 x3 x4 x5 h p d) := by
  unfold dq
  simp only [← ds_at, ← k_at]
  pointwise [val_main_v65, val_main_v66]
theorem dk_at (h : Fin 8) (p : Fin 4112) (d : Fin 192) : @Eq EReal (val_main_v64 (F := Ideal) x0 x1 x2 x3 x4 x5 (ix4 (0 : Fin 1) p h d)) (dk x0 x1 x2 x3 x4 x5 h p d) := by
  unfold dk
  simp only [← ds_at, ← q_at]
  pointwise [val_main_v63, val_main_v64]
theorem dv_at (h : Fin 8) (p : Fin 4112) (d : Fin 128) : @Eq EReal (val_main_v48 (F := Ideal) x0 x1 x2 x3 x5 (ix4 (0 : Fin 1) p h d)) (dv x0 x1 x2 x3 x5 h p d) := by
  unfold dv
  simp only [← pr_at]
  pointwise [val_main_v45, val_main_v47, val_main_v48]

/-- A head's columns, padded. -/
def wide (f : Fin 8 → Fin 4112 → Fin 192 → EReal) (R : Fin 4224) (C : Fin 2048) : EReal :=
  if h : R.val < 4112 ∧ C.val % 256 < 192 then f ⟨C.val / 256, by omega⟩ ⟨R.val, h.1⟩ ⟨C.val % 256, h.2⟩ else 0

theorem wide_eq (f : Fin 8 → Fin 4112 → Fin 192 → EReal) (R : Fin 4224) (C : Fin 2048) :
    (if h : R.val < 4112 ∧ C.val / 256 < 8 ∧ C.val % 256 < 192 then f ⟨C.val / 256, h.2.1⟩ ⟨R.val, h.1⟩ ⟨C.val % 256, h.2.2⟩
      else FloatOps.sitofp (F := Ideal) FTy.f32 0#32) = wide f R C := by
  unfold wide
  by_cases h : R.val < 4112 ∧ C.val % 256 < 192
  · rw [dif_pos h, dif_pos ⟨h.1, by omega, h.2⟩]
  · rw [dif_neg h, dif_neg fun h' => h ⟨h'.1, h'.2.2⟩]
    exact sitofp_zero

theorem dq_pad (R : Fin 4224) (C : Fin 2048) : @Eq EReal (val_main_v70 (F := Ideal) x0 x1 x2 x3 x4 x5 (ix2 R C)) (wide (dq x0 x1 x2 x3 x4 x5) R C) := by
  rw [← wide_eq]
  simp only [← dq_at]
  pointwise [val_main_v67, val_main_c, val_main_call2_v0, val_main_v68, val_main_v69, val_main_v70]
theorem dk_pad (R : Fin 4224) (C : Fin 2048) : @Eq EReal (val_main_v74 (F := Ideal) x0 x1 x2 x3 x4 x5 (ix2 R C)) (wide (dk x0 x1 x2 x3 x4 x5) R C) := by
  rw [← wide_eq]
  simp only [← dk_at]
  pointwise [val_main_v71, val_main_c_13, val_main_call3_v0, val_main_v72, val_main_v73, val_main_v74]
theorem dv_pad (R : Fin 4224) (C : Fin 1024) : @Eq EReal (val_main_v77 (F := Ideal) x0 x1 x2 x3 x5 (ix2 R C))
    (padRow (fun p (C : Fin 1024) => dv x0 x1 x2 x3 x5 ⟨C.val / 128, by omega⟩ p ⟨C.val % 128, by omega⟩) R.val C) := by
  unfold padRow
  rw [← sitofp_zero]
  simp only [← dv_at]
  pointwise [val_main_v75, val_main_c_14, val_main_call4_v0, val_main_v76, val_main_v77]

end Cert.AttnRef

end
-- ==== Proof.AttnValue.lean ====
/- The attention's backward call and its reference have the same values: the kernel's three arrays, entry by entry. -/
module

public import proofs.«01_k».proof.Proof.AttnArray
public import proofs.«01_k».proof.Proof.AttnEntry
public import proofs.«01_k».proof.Proof.AttnReference
public import proofs.«01_k».proof.Proof.Gen.AttnReferenceIdeal.Run
public import proofs.«01_k».proof.Defs

@[expose] public section

set_option maxRecDepth 16384

noncomputable section

namespace Cert.Attn

open Cert.AttnKernelIdeal Cert.AttnKernelIdeal.Gen Cert.AttnKernelIdeal.Step
open Idealize.ShloMosaic Idealize.ShloMosaic.TcCoe Idealize.SL.Sem Cert.Arith Cert.Softmax

variable (m : (ℓ : Loc nD τ sig) → Buf (Elt Ideal) ℓ) (c : Dev nD)

abbrev a0 : Vec Ideal S1x4112x8x128 .f32 := m (c, Proc.tc.devRef main_arg0)
abbrev a1 : Vec Ideal S1x4112x8x64 .f32 := m (c, Proc.tc.devRef main_arg1)
abbrev a2 : Vec Ideal S1x4112x8x128 .f32 := m (c, Proc.tc.devRef main_arg2)
abbrev a3 : Vec Ideal S1x4112x64 .f32 := m (c, Proc.tc.devRef main_arg3)
abbrev a4 : Vec Ideal S1x4112x8x128 .f32 := m (c, Proc.tc.devRef main_arg4)
abbrev a5 : Vec Ideal S1x4112x8x128 .f32 := m (c, Proc.tc.devRef main_arg5)

/-! ## Columns: the kernel's 256 of a head hold the reference's 192, and zeros -/

theorem qv_lt (h : Fin 8) (p : Fin 4112) (d : Fin 256) (hd : d.val < 192) : qv m c h p d = AttnRef.q (a0 m c) (a1 m c) h p ⟨d.val, hd⟩ := by
  unfold qv qr AttnRef.q AttnRef.q0
  by_cases h1 : d.val < 128
  · rw [dif_pos h1, dif_pos h1]
  · rw [dif_neg h1, dif_neg h1, dif_pos (show d.val - 128 < 64 by omega)]
theorem qv_ge (h : Fin 8) (p : Fin 4112) (d : Fin 256) (hd : ¬d.val < 192) : qv m c h p d = 0 := by
  unfold qv qr
  rw [dif_neg (by omega), dif_neg (by omega), zero_mul]
theorem kv_lt (h : Fin 8) (p : Fin 4112) (d : Fin 256) (hd : d.val < 192) : kv m c h p d = AttnRef.k (a2 m c) (a3 m c) h p ⟨d.val, hd⟩ := by
  unfold kv AttnRef.k
  by_cases h1 : d.val < 128
  · rw [dif_pos h1, dif_pos h1]
  · rw [dif_neg h1, dif_neg h1, dif_pos (show d.val - 128 < 64 by omega)]
theorem kv_ge (h : Fin 8) (p : Fin 4112) (d : Fin 256) (hd : ¬d.val < 192) : kv m c h p d = 0 := by
  unfold kv
  rw [dif_neg (by omega), dif_neg (by omega)]

theorem score_eq (h : Fin 8) (p j : Fin 4112) :
    ∑ d : Fin 256, qv m c h p d * kv m c h j d = ∑ d : Fin 192, AttnRef.q (a0 m c) (a1 m c) h p d * AttnRef.k (a2 m c) (a3 m c) h j d := by
  refine (Fin.sum_univ_add (a := 192) (b := 64) (fun d : Fin 256 => qv m c h p d * kv m c h j d)).trans ?_
  rw [Finset.sum_eq_zero (s := Finset.univ) (f := fun i : Fin 64 => qv m c h p (Fin.natAdd 192 i) * kv m c h j (Fin.natAdd 192 i)) fun i _ => by
    rw [qv_ge m c h p _ (show ¬192 + i.val < 192 by omega), zero_mul], add_zero]
  exact Finset.sum_congr rfl fun d _ => congrArg₂ (· * ·) (qv_lt m c h p _ d.isLt) (kv_lt m c h j _ d.isLt)

/-- The scores of a query. -/
abbrev Sq (h : Fin 8) (p : Fin 4112) : Fin 4112 → EReal := AttnRef.S (a0 m c) (a1 m c) (a2 m c) (a3 m c) h p

theorem sv_eq (h : Fin 8) (p : Fin 4112) : (fun j => sv m c h p j) = Sq m c h p := by
  funext j
  unfold sv Sq AttnRef.S masked
  rw [score_eq]

theorem lse_eq (h : Fin 8) (p : Fin 4112) : lse m c h p = top (Sq m c h p) + Ideal.log (tot (Sq m c h p)) := by
  rw [← sv_eq]
  rfl
theorem dlt_eq (h : Fin 8) (p : Fin 4112) : dlt m c h p
    = ∑ d : Fin 128, ov m c h p d * ∑ k : Fin 4112, vv m c h k d * Ideal.div (ex (Sq m c h p) k) (tot (Sq m c h p)) := by
  rw [← sv_eq]
  rfl

/-! ## Rows: the kernel's 4224 hold the reference's 4112, and zeros -/

/-- A row among the padded ones. -/
def up (p : Fin 4112) : Fin 4224 := ⟨p.val, by omega⟩

theorem sum_up (f : Fin 4224 → EReal) (hz : ∀ Y : Fin 4224, ¬Y.val < 4112 → f Y = 0) : ∑ Y, f Y = ∑ p, f (up p) := by
  refine (Fin.sum_univ_add (a := 4112) (b := 112) f).trans ?_
  rw [Finset.sum_eq_zero (s := Finset.univ) (f := fun i : Fin 112 => f (Fin.natAdd 4112 i)) fun i _ => hz _ (show ¬4112 + i.val < 4112 by omega), add_zero]
  rfl

/-- A head's column among all columns. -/
theorem pad_col256 (f : Fin 8 → Fin 4112 → Fin 256 → EReal) (a : Fin 8) (R : Fin 4224) (d : Fin 256) :
    padRow (fun p (l : Fin 2048) => f ⟨l.val / 256, by omega⟩ p ⟨l.val % 256, by omega⟩) R.val (⟨256 * a.val + d.val, by omega⟩ : Fin 2048) = padRow (fun p d => f a p d) R.val d := by
  have e1 : (⟨(256 * a.val + d.val) / 256, by omega⟩ : Fin 8) = a := Fin.ext (show (256 * a.val + d.val) / 256 = a.val by omega)
  have e2 : (⟨(256 * a.val + d.val) % 256, by omega⟩ : Fin 256) = d := Fin.ext (show (256 * a.val + d.val) % 256 = d.val by omega)
  unfold padRow
  dsimp only
  rw [e1, e2]
theorem pad_col128 (f : Fin 8 → Fin 4112 → Fin 128 → EReal) (a : Fin 8) (R : Fin 4224) (d : Fin 128) :
    padRow (fun p (l : Fin 1024) => f ⟨l.val / 128, by omega⟩ p ⟨l.val % 128, by omega⟩) R.val (⟨128 * a.val + d.val, by omega⟩ : Fin 1024) = padRow (fun p d => f a p d) R.val d := by
  have e1 : (⟨(128 * a.val + d.val) / 128, by omega⟩ : Fin 8) = a := Fin.ext (show (128 * a.val + d.val) / 128 = a.val by omega)
  have e2 : (⟨(128 * a.val + d.val) % 128, by omega⟩ : Fin 128) = d := Fin.ext (show (128 * a.val + d.val) % 128 = d.val by omega)
  unfold padRow
  dsimp only
  rw [e1, e2]

theorem heads_q (a : Fin 8) (R : Fin 4224) (d : Fin 256) : (heads m c).q a R d = padRow (fun p d => qv m c a p d) R.val d :=
  (entry_q m c R (⟨256 * a.val + d.val, by omega⟩ : Fin 2048)).trans (pad_col256 (qv m c) a R d)
theorem heads_k (a : Fin 8) (R : Fin 4224) (d : Fin 256) : (heads m c).k a R d = padRow (fun p d => kv m c a p d) R.val d :=
  (entry_k m c R (⟨256 * a.val + d.val, by omega⟩ : Fin 2048)).trans (pad_col256 (kv m c) a R d)
theorem heads_v (a : Fin 8) (R : Fin 4224) (d : Fin 128) : (heads m c).v a R d = padRow (fun p d => vv m c a p d) R.val d :=
  (entry_v m c R (⟨128 * a.val + d.val, by omega⟩ : Fin 1024)).trans (pad_col128 (vv m c) a R d)
theorem heads_o (a : Fin 8) (R : Fin 4224) (d : Fin 128) : (heads m c).o a R d = padRow (fun p d => ov m c a p d) R.val d :=
  (entry_o m c R (⟨128 * a.val + d.val, by omega⟩ : Fin 1024)).trans (pad_col128 (ov m c) a R d)
theorem heads_lse (a : Fin 8) (R : Fin 4224) : (heads m c).lse a R = padRow (fun p h => lse m c h p) R.val a := by
  refine (entry_lse m c a (⟨R.val / 384, by omega⟩ : Fin 11) (⟨R.val % 384, by omega⟩ : Fin 384)).trans ?_
  rw [show (⟨R.val / 384, by omega⟩ : Fin 11).val * 384 + (⟨R.val % 384, by omega⟩ : Fin 384).val = R.val by
    show R.val / 384 * 384 + R.val % 384 = R.val
    omega]
theorem heads_dlt (a : Fin 8) (R : Fin 4224) : (heads m c).dlt a R = padRow (fun p h => dlt m c h p) R.val a := by
  refine (entry_dlt m c a (⟨R.val / 384, by omega⟩ : Fin 11) (⟨R.val % 384, by omega⟩ : Fin 384)).trans ?_
  rw [show (⟨R.val / 384, by omega⟩ : Fin 11).val * 384 + (⟨R.val % 384, by omega⟩ : Fin 384).val = R.val by
    show R.val / 384 * 384 + R.val % 384 = R.val
    omega]

theorem pad_up {α : Type} (f : Fin 4112 → α → EReal) (p : Fin 4112) (l : α) : padRow f (up p).val l = f p l := padRow_lt _ _ _ p.isLt

/-! ## A probability, and the cotangent of a score -/

/-- The arguments' entries are real numbers. -/
structure Real6 : Prop where
  r0 : ∀ p h l, ∃ r : ℝ, @Eq EReal (a0 m c (ix4 (0 : Fin 1) p h l)) r
  r1 : ∀ p h l, ∃ r : ℝ, @Eq EReal (a1 m c (ix4 (0 : Fin 1) p h l)) r
  r2 : ∀ p h l, ∃ r : ℝ, @Eq EReal (a2 m c (ix4 (0 : Fin 1) p h l)) r
  r3 : ∀ p l, ∃ r : ℝ, @Eq EReal (a3 m c (ix3 (0 : Fin 1) p l)) r
  r4 : ∀ p h l, ∃ r : ℝ, @Eq EReal (a4 m c (ix4 (0 : Fin 1) p h l)) r
  r5 : ∀ p h l, ∃ r : ℝ, @Eq EReal (a5 m c (ix4 (0 : Fin 1) p h l)) r

variable {m c} (H : Real6 m c)
include H

omit H in
theorem scale_real : ∃ r : ℝ, Ideal.ofBits .f32 0x3D93CD3A#32 = (r : EReal) := by
  simp [Ideal.ofBits, Ideal.ieee, -EReal.coe_mul]

theorem q_real (h : Fin 8) (p : Fin 4112) (d : Fin 192) : ∃ r : ℝ, AttnRef.q (a0 m c) (a1 m c) h p d = r := by
  obtain ⟨s, hs⟩ := scale_real
  unfold AttnRef.q AttnRef.q0
  rw [hs]
  split
  · obtain ⟨r, hr⟩ := H.r0 p h ⟨d.val, by assumption⟩
    exact ⟨r * s, by rw [hr, EReal.coe_mul]⟩
  · obtain ⟨r, hr⟩ := H.r1 p h ⟨d.val - 128, by omega⟩
    exact ⟨r * s, by rw [hr, EReal.coe_mul]⟩
theorem k_real (h : Fin 8) (p : Fin 4112) (d : Fin 192) : ∃ r : ℝ, AttnRef.k (a2 m c) (a3 m c) h p d = r := by
  unfold AttnRef.k
  split
  · exact H.r2 p h _
  · exact H.r3 p _

theorem scores_real (h : Fin 8) (p : Fin 4112) : ∃ s : Fin 4112 → ℝ, Sq m c h p = masked p fun k => (s k : EReal) := by
  choose q hq using q_real H
  choose k hk using k_real H
  refine ⟨fun j => ∑ d : Fin 192, q h p d * k h j d, ?_⟩
  unfold Sq AttnRef.S
  refine congrArg (masked p) (funext fun j => ?_)
  simp only [hq, hk, ← EReal.coe_mul, coe_sum]

omit H in
theorem p_exp (a : Fin 8) (x p : Fin 4112) :
    (heads m c).p a (up x) (up p) = Ideal.exp (Sq m c a p x - (top (Sq m c a p) + Ideal.log (tot (Sq m c a p)))) := by
  unfold Heads.p
  rw [heads_lse, pad_up, lse_eq]
  refine congrArg (fun z => Ideal.exp (z - _)) ?_
  unfold Sq AttnRef.S masked
  dsimp only
  rw [← score_eq]
  refine if_congr Iff.rfl (Finset.sum_congr rfl fun d _ => ?_) rfl
  rw [heads_k, heads_q, pad_up, pad_up, mul_comm]

theorem p_eq (a : Fin 8) (x p : Fin 4112) : (heads m c).p a (up x) (up p) = Ideal.div (ex (Sq m c a p) x) (tot (Sq m c a p)) := by
  rw [p_exp]
  obtain ⟨s, hs⟩ := scores_real H a p
  rw [hs]
  exact prob_eq p s x

theorem s_eq (a : Fin 8) (x p : Fin 4112) :
    (heads m c).s a (up x) (up p) = AttnRef.ds (a0 m c) (a1 m c) (a2 m c) (a3 m c) (a4 m c) (a5 m c) a p x := by
  unfold Heads.s
  rw [p_exp, heads_dlt, pad_up, dlt_eq]
  unfold AttnRef.ds
  obtain ⟨s, hs⟩ := scores_real H a p
  choose o ho using H.r5
  choose v hv using H.r4
  have eo : ∀ d, ov m c a p d = (o p a d : EReal) := fun d => ho p a d
  have ev : ∀ k d, vv m c a k d = (v k a d : EReal) := fun k d => hv k a d
  have es : AttnRef.S (a0 m c) (a1 m c) (a2 m c) (a3 m c) a p = masked p fun k => (s k : EReal) := hs
  have ed : AttnRef.dp (a4 m c) (a5 m c) a p = fun k => ∑ d : Fin 128, (o p a d : EReal) * (v k a d : EReal) := by
    funext k
    unfold AttnRef.dp
    exact Finset.sum_congr rfl fun d _ => congrArg₂ (· * ·) (ho p a d) (hv k a d)
  rw [hs, es, ed]
  refine Eq.trans ?_ (cotangent_eq p s (fun d => o p a d) (fun k d => v k a d) x)
  unfold dK
  refine congrArg₂ (· * ·) rfl (congrArg₂ (· - ·) (Finset.sum_congr rfl fun d _ => ?_) (Finset.sum_congr rfl fun d _ => ?_))
  · rw [heads_v, heads_o, pad_up, pad_up, ev, eo]
  · rw [eo]
    refine congrArg _ (Finset.sum_congr rfl fun k _ => ?_)
    rw [ev]

/-! ## The three results -/

theorem dv_row (a : Fin 8) (X : Fin 4224) (l : Fin 128) :
    (heads m c).dv a X l = padRow (fun p l => AttnRef.dv (a0 m c) (a1 m c) (a2 m c) (a3 m c) (a5 m c) a p l) X.val l := by
  have hz : ∀ Y : Fin 4224, ¬Y.val < 4112 → (heads m c).o a Y l = 0 := fun Y hY => by rw [heads_o, padRow_ge _ _ _ hY]
  unfold Heads.dv
  rw [sum_up _ fun Y hY => by rw [hz Y hY, mul_zero]]
  by_cases hX : X.val < 4112
  · rw [padRow_lt _ _ _ hX]
    unfold AttnRef.dv
    refine Finset.sum_congr rfl fun p _ => ?_
    refine (congrArg₂ (fun y z : EReal => y * z) (p_eq H a ⟨X.val, hX⟩ p) ((heads_o m c a (up p) l).trans (pad_up _ p l))).trans ?_
    rw [mul_comm]
    rfl
  · rw [padRow_ge _ _ _ hX]
    exact Finset.sum_eq_zero fun p _ => by rw [p_masked _ _ _ _ (show ¬X.val ≤ p.val by omega), zero_mul]

/-- Results of 256 columns a head, of which the last 64 are zero, as the reference pads them. -/
theorem wide_of (f : Fin 8 → Fin 4224 → Fin 256 → EReal) (g : Fin 8 → Fin 4112 → Fin 192 → EReal)
    (h1 : ∀ a (X : Fin 4112) (d : Fin 256) (hd : d.val < 192), f a (up X) d = g a X ⟨d.val, hd⟩)
    (h2 : ∀ a (X : Fin 4224) (d : Fin 256), ¬d.val < 192 → f a X d = 0) (h3 : ∀ a (X : Fin 4224) (d : Fin 256), ¬X.val < 4112 → f a X d = 0)
    (R : Fin 4224) (C : Fin 2048) : f ⟨C.val / 256, by omega⟩ R ⟨C.val % 256, by omega⟩ = AttnRef.wide g R C := by
  unfold AttnRef.wide
  by_cases hR : R.val < 4112
  · by_cases hC : C.val % 256 < 192
    · rw [dif_pos ⟨hR, hC⟩]
      exact h1 _ ⟨R.val, hR⟩ ⟨C.val % 256, by omega⟩ hC
    · rw [dif_neg fun h => hC h.2]
      exact h2 _ _ _ hC
  · rw [dif_neg fun h => hR h.1]
    exact h3 _ _ _ hR

theorem dk_row (R : Fin 4224) (C : Fin 2048) : (heads m c).dk ⟨C.val / 256, by omega⟩ R ⟨C.val % 256, by omega⟩
    = AttnRef.wide (AttnRef.dk (a0 m c) (a1 m c) (a2 m c) (a3 m c) (a4 m c) (a5 m c)) R C := by
  have hz : ∀ a (Y : Fin 4224) d, ¬Y.val < 4112 → (heads m c).q a Y d = 0 := fun a Y d hY => by rw [heads_q, padRow_ge _ _ _ hY]
  refine wide_of H (heads m c).dk _ (fun a X d hd => ?_) (fun a X d hd => ?_) (fun a X d hX => ?_) R C
  · unfold Heads.dk AttnRef.dk
    rw [sum_up _ fun Y hY => by rw [hz a Y d hY, mul_zero]]
    refine Finset.sum_congr rfl fun p _ => ?_
    rw [s_eq H, heads_q, pad_up, qv_lt m c a p d hd]
  · unfold Heads.dk
    rw [sum_up _ fun Y hY => by rw [hz a Y d hY, mul_zero]]
    exact Finset.sum_eq_zero fun p _ => by rw [heads_q, pad_up, qv_ge m c a p d hd, mul_zero]
  · unfold Heads.dk
    rw [sum_up _ fun Y hY => by rw [hz a Y d hY, mul_zero]]
    exact Finset.sum_eq_zero fun p _ => by rw [s_masked _ _ _ _ (show ¬X.val ≤ p.val by omega), zero_mul]

theorem dq_row (R : Fin 4224) (C : Fin 2048) : (heads m c).dq ⟨C.val / 256, by omega⟩ R ⟨C.val % 256, by omega⟩
    = AttnRef.wide (AttnRef.dq (a0 m c) (a1 m c) (a2 m c) (a3 m c) (a4 m c) (a5 m c)) R C := by
  have hz : ∀ a (X : Fin 4224) d, ¬X.val < 4112 → (heads m c).k a X d = 0 := fun a X d hX => by rw [heads_k, padRow_ge _ _ _ hX]
  refine wide_of H (heads m c).dq _ (fun a Y d hd => ?_) (fun a Y d hd => ?_) (fun a Y d hY => ?_) R C
  · unfold Heads.dq AttnRef.dq
    rw [sum_up _ fun X hX => by rw [hz a X d hX, mul_zero]]
    refine Finset.sum_congr rfl fun p _ => ?_
    rw [s_eq H, heads_k, pad_up, kv_lt m c a p d hd]
  · unfold Heads.dq
    rw [sum_up _ fun X hX => by rw [hz a X d hX, mul_zero]]
    exact Finset.sum_eq_zero fun p _ => by rw [heads_k, pad_up, kv_ge m c a p d hd, mul_zero]
  · unfold Heads.dq
    refine Finset.sum_eq_zero fun X _ => ?_
    have e : ∑ k : Fin 128, (heads m c).v a X k * (heads m c).o a Y k = 0 := Finset.sum_eq_zero fun k _ => by
      rw [heads_o, padRow_ge _ _ _ hY, mul_zero]
    unfold Heads.s
    rw [e, heads_dlt, padRow_ge _ _ _ hY, sub_zero, mul_zero, zero_mul]

open Cert.AttnReferenceIdeal.Read in
theorem g6_eq : G6 m c = val_main_v70 (F := Ideal) (a0 m c) (a1 m c) (a2 m c) (a3 m c) (a4 m c) (a5 m c) := by
  refine funext fun (j : S4224x2048.Idx) => ?_
  idx_vars j
  exact (dq_row H _ _).trans (AttnRef.dq_pad _ _ _ _ _ _ _ _).symm
open Cert.AttnReferenceIdeal.Read in
theorem g7_eq : G7 m c = val_main_v74 (F := Ideal) (a0 m c) (a1 m c) (a2 m c) (a3 m c) (a4 m c) (a5 m c) := by
  refine funext fun (j : S4224x2048.Idx) => ?_
  idx_vars j
  exact (dk_row H _ _).trans (AttnRef.dk_pad _ _ _ _ _ _ _ _).symm
open Cert.AttnReferenceIdeal.Read in
theorem g8_eq : G8 m c = val_main_v77 (F := Ideal) (a0 m c) (a1 m c) (a2 m c) (a3 m c) (a5 m c) := by
  refine funext fun (j : S4224x1024.Idx) => ?_
  idx_vars j
  exact (dv_row H _ _ _).trans (AttnRef.dv_pad _ _ _ _ _ _ _).symm

end Cert.Attn

end
-- ==== Proof.AttnRun.lean ====
/- The two runs of the attention's backward call side by side. -/
module

public import proofs.«01_k».proof.Proof.AttnValue

@[expose] public section

set_option maxRecDepth 16384

noncomputable section

namespace Cert.Attn

open Idealize.ShloMosaic Idealize.ShloMosaic.TcCoe Idealize.SL.Sem Cert.Arith
open Cert.AttnKernelIdeal Cert.AttnKernelIdeal.Gen Cert.AttnKernelIdeal.Step

theorem preFacts : Cert.Pre_attn_finite.Facts := by
  constructor <;> decide

instance : Cert.Pre_attn_finite.Facts := preFacts

/-- The kernel's run: its three arrays, and the arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v50_0) = G6 m c ∧ r.2.mem ((c.tc : Thread nD τ).loc main_v50_1) = G7 m c
      ∧ r.2.mem ((c.tc : Thread nD τ).loc main_v50_2) = G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨((h c).1 6).trans (final6 m c), ((h c).1 7).trans (final7 m c), ((h c).1 8).trans (final8 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m g)

open Cert.AttnReferenceIdeal.Read in
theorem algebraic : Cert.algebraic_AttnKernelIdeal_AttnReferenceIdeal_pre_attn_finite := by
  intro m g m' g' hpre hag
  refine ⟨fun c => G6 m c, fun c => G7 m c, fun c => G8 m c, run m g, (θ_run _ _ _).mono (fun r h c => ?_) (Cert.AttnReferenceIdeal.Value.run m' g')⟩
  obtain ⟨e0, e1, e2, e3, e4, e5⟩ := hag c
  obtain ⟨r0, r1, r2, k⟩ := h c
  obtain ⟨h0, h1, h2, h3, h4, h5⟩ := hpre c
  have hr : Real6 m c := ⟨fun p h l => exists_real (congrFun h0 (ix4 0 p h l)), fun p h l => exists_real (congrFun h1 (ix4 0 p h l)),
    fun p h l => exists_real (congrFun h2 (ix4 0 p h l)), fun p l => exists_real (congrFun h3 (ix3 0 p l)),
    fun p h l => exists_real (congrFun h4 (ix4 0 p h l)), fun p h l => exists_real (congrFun h5 (ix4 0 p h l))⟩
  refine ⟨r0.trans ?_, r1.trans ?_, r2.trans ?_, k⟩
  · refine (val_main_v70_eq m' c).trans ?_
    rw [e0, e1, e2, e3, e4, e5]; exact (g6_eq hr).symm
  · refine (val_main_v74_eq m' c).trans ?_
    rw [e0, e1, e2, e3, e4, e5]; exact (g7_eq hr).symm
  · refine (val_main_v77_eq m' c).trans ?_
    rw [e0, e1, e2, e3, e5]; exact (g8_eq hr).symm

end Cert.Attn

end
-- ==== Proof.LatentHeads.lean ====
/- The latent projections' backward kernel writes the same lines for each of its eight heads. Here they are once, for
   the keys and values: a head's block of cotangents, what a head adds to the sum over heads and to the projection's
   gradient, each at an index. -/
module

public import proofs.«01_k».proof.Proof.Gen.LatentKernelIdeal.Skeleton
public import Idealize.ShloMosaic.Lib.Pipeline.ValueKit
public import Idealize.ShloMosaic.Lib.Pipeline.ReadBack
public import Idealize.ShloMosaic.Lib.Pointwise
public import proofs.«01_k».proof.Proof.Rms

@[expose] public section

set_option maxRecDepth 16384

noncomputable section

namespace Cert.Latent

open Cert.LatentKernelIdeal Cert.LatentKernelIdeal.Gen Idealize.ShloMosaic Idealize.ShloMosaic.TcCoe Idealize.SL.Sem

/-! ## The heads' lines are the first head's -/

theorem same_key : (∀ a b, k0_pay30 (F := Ideal) (k0_pay29 a) b = k0_pay21 a b) ∧ k0_pay37 (F := Ideal) = k0_pay21
    ∧ k0_pay45 (F := Ideal) = k0_pay21 ∧ k0_pay54 (F := Ideal) = k0_pay21 ∧ k0_pay62 (F := Ideal) = k0_pay21
    ∧ k0_pay75 (F := Ideal) = k0_pay21 ∧ k0_pay83 (F := Ideal) = k0_pay21 :=
  ⟨fun _ _ => rfl, rfl, rfl, rfl, rfl, rfl, rfl⟩
theorem same_dwk : (∀ n a b x, k0_pay33 (F := Ideal) n (k0_pay29 a) b x = k0_pay25 n (k0_pay21 a b) x)
    ∧ (∀ n q x, k0_pay41 (F := Ideal) n q (k0_pay40 x) = k0_pay25 n q x) ∧ k0_pay48 (F := Ideal) = k0_pay25
    ∧ (∀ n a b x, k0_pay58 (F := Ideal) (k0_pay57 n a b x) = k0_pay25 n (k0_pay21 a b) x) ∧ k0_pay66 (F := Ideal) = k0_pay25
    ∧ (∀ n a b x, k0_pay78 (F := Ideal) n a b x = k0_pay25 n (k0_pay21 a b) x) ∧ k0_pay87 (F := Ideal) = k0_pay25 :=
  ⟨fun _ _ _ _ => rfl, fun _ _ _ => rfl, rfl, fun _ _ _ _ => rfl, rfl, fun _ _ _ _ => rfl, rfl⟩
theorem same_dk : (∀ A a b w, k0_pay35 (F := Ideal) A (k0_pay29 a) b w = k0_pay27 A (k0_pay21 a b) w) ∧ k0_pay43 (F := Ideal) = k0_pay27
    ∧ k0_pay50 (F := Ideal) = k0_pay27 ∧ k0_pay60 (F := Ideal) = k0_pay27 ∧ k0_pay68 (F := Ideal) = k0_pay27
    ∧ k0_pay81 (F := Ideal) = k0_pay27 ∧ k0_pay88 (F := Ideal) = k0_pay27 :=
  ⟨fun _ _ _ _ => rfl, rfl, rfl, rfl, rfl, rfl, rfl⟩

theorem key_at (a b : Vec Ideal S384x128 .bf16) (r : Fin 384) (k : Fin 256) :
    @Eq EReal (k0_pay21 (F := Ideal) a b (ix2 r k)) (if h : k.val < 128 then a (ix2 r ⟨k.val, h⟩) else b (ix2 r ⟨k.val - 128, by omega⟩)) := by
  pointwise [k0_pay21]

/-! ## What a head adds -/

theorem dk_add (A : Vec Ideal S384x256 .f32) (q : Vec Ideal S384x256 .bf16) (w : Vec Ideal S1x256x256 .bf16) (r : Fin 384) (x : Fin 256) :
    @Eq EReal (k0_pay27 (F := Ideal) A q w (ix2 r x)) (A (ix2 r x) + ∑ k : Fin 256, q (ix2 r k) * w (ix3 0 x k)) := by
  pointwise [k0_pay27]
theorem dwk_add (n q : Vec Ideal S384x256 .bf16) (x : Vec Ideal S1x256x256 .f32) (a k : Fin 256) :
    @Eq EReal (k0_pay25 (F := Ideal) n q x (ix3 0 a k)) (x (ix3 0 a k) + ∑ r : Fin 384, n (ix2 r a) * q (ix2 r k)) := by
  pointwise [k0_pay25]

/-! ## The norm -/

/-- The length of the keys' and values' latent. -/
abbrev lenk : EReal := Ideal.ofBits .f32 0x43800000#32

theorem kn_at (h : Vec Ideal S384x256 .f32) (r : Fin 384) (x : Fin 256) :
    @Eq EReal (k0_pay14 (F := Ideal) h (ix2 r x)) (h (ix2 r x) * Rms.rsOf lenk fun x => h (ix2 r x)) := by
  pointwise [k0_pay14, k0_pay13, k0_pay12]
  rfl
theorem kg_at (g : Vec Ideal S1x256 .f32) (h : Vec Ideal S384x256 .f32) (r : Fin 384) (x : Fin 256) :
    @Eq EReal (k0_pay17 (F := Ideal) (k0_pay14 h) (k0_pay16 g) (ix2 r x)) (h (ix2 r x) * (Rms.rsOf lenk fun x => h (ix2 r x)) * g (ix2 0 x)) := by
  pointwise [k0_pay17, k0_pay16, k0_pay14, k0_pay13, k0_pay12]
  rfl

theorem dgk_at (h P : Vec Ideal S384x256 .f32) (y : Vec Ideal S1x256 .f32) (x : Fin 256) :
    @Eq EReal (k0_pay95 (F := Ideal) (k0_pay14 h) P y (ix2 0 x))
      (y (ix2 0 x) + ∑ r : Fin 384, P (ix2 r x) * (h (ix2 r x) * Rms.rsOf lenk fun x => h (ix2 r x))) := by
  pointwise [k0_pay95, k0_pay14, k0_pay13, k0_pay12]
  rfl

end Cert.Latent

end
-- ==== Proof.LatentBody.lean ====
/- What the body of the latent projections' backward kernel leaves after one grid point of the gradients of the keys' and values'
   gain and projection, from the blocks that the point reads. -/
module

public import proofs.«01_k».proof.Proof.Gen.LatentKernelIdeal.Frame
public import proofs.«01_k».proof.Proof.LatentHeads

@[expose] public section

set_option maxRecDepth 16384

noncomputable section

namespace Cert.Latent

open Cert.LatentKernelIdeal Cert.LatentKernelIdeal.Gen Idealize.ShloMosaic Idealize.ShloMosaic.TcCoe Idealize.SL.Sem

variable (m : (ℓ : Loc nD τ sig) → Buf (Elt Ideal) ℓ)

/-- The blocks that a grid point reads: the latents, the gain, the projection, and the keys' and the values' cotangents. -/
abbrev lb (c : Dev nD) (t : Fin cfg0.N) : Vec Ideal S384x768 .f32 := iblk m c 0 t
abbrev gkb (c : Dev nD) (t : Fin cfg0.N) : Vec Ideal S1x256 .f32 := iblk m c 2 t
abbrev wkb (c : Dev nD) (t : Fin cfg0.N) : Vec Ideal S8x256x256 .bf16 := iblk m c 4 t
abbrev yb (c : Dev nD) (t : Fin cfg0.N) : Vec Ideal S384x2048 .bf16 := iblk m c 8 t
abbrev zb (c : Dev nD) (t : Fin cfg0.N) : Vec Ideal S384x1024 .bf16 := iblk m c 9 t

theorem inb2 {n o : ℕ} (h : o + 128 ≤ n) : ∀ a, (![0, o] : Fin 2 → ℕ) a + (![384, 128] : Fin 2 → ℕ) a ≤ (⟨2, ![384, n]⟩ : Shape).size a := by
  intro a; fin_cases a
  · show 0 + 384 ≤ 384; omega
  · show o + 128 ≤ n; omega
theorem inb3 {a b : ℕ} (d : Fin 8) : ∀ i, (![d.val, 0, 0] : Fin 3 → ℕ) i + (![1, a, b] : Fin 3 → ℕ) i ≤ (⟨3, ![8, a, b]⟩ : Shape).size i := by
  intro i; fin_cases i
  · show d.val + 1 ≤ 8; omega
  · show 0 + a ≤ a; omega
  · show 0 + b ≤ b; omega

/-- A head's block of the keys' cotangent without the rotary part, and of the values'. -/
def kh (Y : Vec Ideal S384x2048 .bf16) (Z : Vec Ideal S384x1024 .bf16) (d : Fin 8) : Vec Ideal S384x256 .bf16 :=
  k0_pay21 (F := Ideal) (View.ld Y (Rect.unit ![0, 256 * d.val] ![384, 128] (inb2 (by omega))))
    (View.ld Z (Rect.unit ![0, 128 * d.val] ![384, 128] (inb2 (by omega))))
/-- A head's slice of a projection. -/
def wk (w : Vec Ideal S8x256x256 .bf16) (d : Fin 8) : Vec Ideal S1x256x256 .bf16 := View.ld w (Rect.unit ![d.val, 0, 0] ![1, 256, 256] (inb3 d))
/-- The keys' and values' latent of a block. -/
def lk (L : Vec Ideal S384x768 .f32) : Vec Ideal S384x256 .f32 := View.ld L (Rect.unit ![0, 384] ![384, 256] inb_S384x768_S384x256_0_384)

/-- One head after another. -/
def runs {α : Type} (a : α) (f : α → Fin 8 → α) : (n : ℕ) → n ≤ 8 → α
  | 0, _ => a
  | n + 1, h => f (runs a f n (by omega)) ⟨n, h⟩

theorem runs_sum {S : Shape} (a : Vec Ideal S .f32) (f : Vec Ideal S .f32 → Fin 8 → Vec Ideal S .f32) (i : S.Idx) (B : Fin 8 → EReal)
    (h0 : @Eq EReal (a i) 0) (h : ∀ (A : Vec Ideal S .f32) d, @Eq EReal (f A d i) (A i + B d)) : @Eq EReal (runs a f 8 le_rfl i) (∑ d, B d) := by
  simp only [runs, Fin.sum_univ_eight, h, h0]
  rw [zero_add]; rfl

/-- The cotangent of the norm's output, summed over the first heads. -/
def dkn (Y : Vec Ideal S384x2048 .bf16) (Z : Vec Ideal S384x1024 .bf16) (w : Vec Ideal S8x256x256 .bf16) (n : ℕ) (h : n ≤ 8) : Vec Ideal S384x256 .f32 :=
  runs (k0_pay19 (F := Ideal)) (fun A d => k0_pay27 A (kh Y Z d) (wk w d)) n h
/-- What a point adds to the gain's gradient. -/
abbrev gkP (L : Vec Ideal S384x768 .f32) (u : Vec Ideal S8x256x256 .bf16) (Y : Vec Ideal S384x2048 .bf16) (Z : Vec Ideal S384x1024 .bf16)
    (y : Vec Ideal S1x256 .f32) : Vec Ideal S1x256 .f32 :=
  k0_pay95 (F := Ideal) (k0_pay14 (lk L)) (dkn Y Z u 8 (by omega)) y

/-- What the stores of the first heads leave of the projection's gradient. -/
def wkS (n : Vec Ideal S384x256 .bf16) (Y : Vec Ideal S384x2048 .bf16) (Z : Vec Ideal S384x1024 .bf16) (x : Vec Ideal S8x256x256 .f32) (k : ℕ) (h : k ≤ 8) :
    List (View.Piece (Elt Ideal) S8x256x256 .f32) :=
  runs [] (fun l d => ⟨Rect.unit ![d.val, 0, 0] ![1, 256, 256] (inb3 d), k0_pay25 (F := Ideal) n (kh Y Z d) (View.ld x (Rect.unit ![d.val, 0, 0] ![1, 256, 256] (inb3 d)))⟩ :: l) k h

variable (c : Dev nD) (t : Fin cfg0.N)

/-- What the point before left. -/
abbrev prev := outsAt0 m c (t.val - 1) (Nat.lt_of_le_of_lt (Nat.sub_le _ _) t.isLt)

set_option maxHeartbeats 4000000 in
theorem gk_first (h0 : t.val % 11 = 0) : (outsAt0 m c t.val t.isLt).2.2.2.2.1
    = gkP (lb m c t) (wkb m c t) (yb m c t) (zb m c t) (k0_pay6 (F := Ideal)) := by
  rw [outsAt0_A m c t h0 (by omega)]; dsimp only; frame_out
  simp only [same_key, same_dk]
  rfl
set_option maxHeartbeats 4000000 in
theorem gk_next (h0 : ¬t.val % 11 = 0) : (outsAt0 m c t.val t.isLt).2.2.2.2.1
    = gkP (lb m c t) (wkb m c t) (yb m c t) (zb m c t) (prev m c t).2.2.2.2.1 := by
  by_cases h1 : t.val % 11 = 10
  · rw [outsAt0_C m c t h0 h1]; dsimp only; frame_out
    simp only [same_key, same_dk]
    rfl
  · rw [outsAt0_B m c t h0 h1]; dsimp only; frame_out
    simp only [same_key, same_dk]
    rfl
set_option maxHeartbeats 4000000 in
theorem wk_next (h0 : ¬t.val % 11 = 0) : (outsAt0 m c t.val t.isLt).2.2.2.2.2.2
    = View.canon (wkS (k0_pay17 (k0_pay14 (lk (lb m c t))) (k0_pay16 (gkb m c t))) (yb m c t) (zb m c t) (prev m c t).2.2.2.2.2.2 8 le_rfl) := by
  by_cases h1 : t.val % 11 = 10
  · rw [outsAt0_C m c t h0 h1]; dsimp only; frame_out
    simp only [same_key, same_dwk, read_unread_whole]
    rfl
  · rw [outsAt0_B m c t h0 h1]; dsimp only; frame_out
    simp only [same_key, same_dwk, read_unread_whole]
    rfl
set_option maxHeartbeats 4000000 in
theorem wk_first (h0 : t.val % 11 = 0) : (outsAt0 m c t.val t.isLt).2.2.2.2.2.2
    = View.canon (wkS (k0_pay17 (k0_pay14 (lk (lb m c t))) (k0_pay16 (gkb m c t))) (yb m c t) (zb m c t) (k0_pay4 (F := Ideal)) 8 le_rfl
      ++ [⟨Rect.unit ![0, 0, 0] ![8, 256, 256] inb_S8x256x256_S8x256x256_0_0_0, k0_pay4 (F := Ideal)⟩]) := by
  rw [outsAt0_A m c t h0 (by omega)]; dsimp only; frame_open
  simp (disch := decide) only [↓ View.readCov_skip, ↓ View.readCov_cons_toLoadRect, ↓ View.readCov_fill]
  frame_out
  simp only [same_key, same_dwk]
  rfl
set_option maxHeartbeats 4000000 in
theorem wk_last (h1 : t.val % 11 = 10) : (outsAt0 m c t.val t.isLt).2.2.1 = k0_pay2 (F := Ideal) (outsAt0 m c t.val t.isLt).2.2.2.2.2.2 := by
  have h0 : ¬t.val % 11 = 0 := by omega
  rw [outsAt0_C m c t h0 h1]; dsimp only
  frame_out
  rw [View.readCov_eq_canon']
  refine congrArg _ (funext fun j => congrArg _ (funext fun a => Fin.ext ?_))
  fin_cases a
  · exact (show 0 + 1 * (j 0).val = (j 0).val by omega)
  · exact (show 0 + 1 * (j 1).val = (j 1).val by omega)
  · exact (show 0 + 1 * (j 2).val = (j 2).val by omega)

end Cert.Latent

end
-- ==== Proof.LatentArgs.lean ====
/- The arguments of the latents' backward call that the keys' and values' gradients depend on, and which block of each array
   a grid point reads. -/
module

public import proofs.«01_k».proof.Proof.LatentBody
public import proofs.«01_k».proof.Proof.Arith
public import Idealize.ShloMosaic.Lib.StableHlo.ReadAt

@[expose] public section

set_option maxRecDepth 16384

noncomputable section

namespace Cert.Latent

open Cert.LatentKernelIdeal Cert.LatentKernelIdeal.Gen Idealize.ShloMosaic Idealize.ShloMosaic.TcCoe Idealize.SL.Sem Cert.Arith

variable (m : (ℓ : Loc nD τ sig) → Buf (Elt Ideal) ℓ)

theorem index_eq : ∀ t : Fin grid0.N, win0_0.index t = ![t.val, 0] ∧ win0_2.index t = ![0, 0] ∧ win0_4.index t = ![0, 0, 0]
    ∧ win0_8.index t = ![t.val, 0] ∧ win0_9.index t = ![t.val, 0] := by decide +kernel

theorem point_lt (t : Fin cfg0.N) : t.val < 11 := lt_of_lt_of_eq t.isLt (show cfg0.N = 11 from N_0)

/-- The latent of the keys and values, a row per position. -/
def H (c : Dev nD) (p : Fin 4112) (l : Fin 256) : EReal := m (c, Proc.tc.devRef main_arg1) (ix3 (0 : Fin 1) p l)
/-- The gain of its norm. -/
def G (c : Dev nD) (l : Fin 256) : EReal := m (c, Proc.tc.devRef main_arg3) (ix2 (0 : Fin 1) l)
/-- The projection. -/
def W (c : Dev nD) (a : Fin 256) (n : Fin 2048) : EReal := m (c, Proc.tc.devRef main_arg5) (ix2 a n)
/-- The keys' cotangent, by head and column. -/
def Y (c : Dev nD) (p : Fin 4112) (dl : Fin 8 × Fin 128) : EReal :=
  m (c, Proc.tc.devRef main_arg7) (ix4 (0 : Fin 1) p dl.1 (⟨dl.2.val, by omega⟩ : Fin 192))
/-- The values' cotangent. -/
def Z (c : Dev nD) (p : Fin 4112) (dl : Fin 8 × Fin 128) : EReal := m (c, Proc.tc.devRef main_arg8) (ix4 (0 : Fin 1) p dl.1 dl.2)

end Cert.Latent

end
-- ==== Proof.LatentEntryRows.lean ====
/- The latents' rows as the kernel is called with them: the two latents side by side, padded to eleven blocks of 384 rows. -/
module

public import proofs.«01_k».proof.Proof.LatentArgs
public import Idealize.ShloMosaic.Lib.StableHlo.ReadAt

@[expose] public section

set_option maxRecDepth 16384

noncomputable section

namespace Cert.Latent

open Cert.LatentKernelIdeal Cert.LatentKernelIdeal.Gen Idealize.ShloMosaic Idealize.ShloMosaic.TcCoe Idealize.SL.Sem Cert.Arith

variable (m : (ℓ : Loc nD τ sig) → Buf (Elt Ideal) ℓ)

set_option maxHeartbeats 4000000 in
theorem entry_lat (c : Dev nD) (R : Fin 4224) (l : Fin 256) :
    @Eq EReal (V m c main_v25 (ix2 R (⟨384 + l.val, by omega⟩ : Fin 768))) (padRow (H m c) R.val l) := by
  simp only [V, List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14]
  after_reads_at
  by_cases h : R.val < 4112
  · have h1 : R.val < 4112 ∧ 384 + l.val < 640 := ⟨h, by omega⟩
    rw [padRow_lt _ _ _ h]
    simp only [dif_pos h1]
    after_reads_at
    rfl
  · have h1 : ¬(R.val < 4112 ∧ 384 + l.val < 640) := fun e => h e.1
    rw [padRow_ge _ _ _ h]
    simp only [dif_neg h1]
    exact sitofp_zero

end Cert.Latent

end
-- ==== Proof.LatentEntryGain.lean ====
/- The gain and the projection as the kernel is called with them: each head's columns are its own slice. -/
module

public import proofs.«01_k».proof.Proof.LatentArgs
public import Idealize.ShloMosaic.Lib.StableHlo.ReadAt

@[expose] public section

set_option maxRecDepth 16384

noncomputable section

namespace Cert.Latent

open Cert.LatentKernelIdeal Cert.LatentKernelIdeal.Gen Idealize.ShloMosaic Idealize.ShloMosaic.TcCoe Idealize.SL.Sem Cert.Arith

variable (m : (ℓ : Loc nD τ sig) → Buf (Elt Ideal) ℓ)

theorem entry_g (c : Dev nD) (l : Fin 256) : @Eq EReal (V m c main_arg3 (ix2 0 l)) (G m c l) := by
  simp only [V, List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14]
  after_reads_at
  rfl

theorem entry_w (c : Dev nD) (d : Fin 8) (a k : Fin 256) :
    @Eq EReal (V m c main_v32 (ix3 d a k)) (W m c a ⟨d.val * 256 + k.val, by omega⟩) := by
  simp only [V, List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14]
  after_reads_at
  rfl

end Cert.Latent

end
-- ==== Proof.LatentEntryKeys.lean ====
/- The keys' cotangent as the kernel is called with it: each head's in 256 columns of its own, in padded rows. -/
module

public import proofs.«01_k».proof.Proof.LatentArgs
public import Idealize.ShloMosaic.Lib.StableHlo.ReadAt

@[expose] public section

set_option maxRecDepth 16384

noncomputable section

namespace Cert.Latent

open Cert.LatentKernelIdeal Cert.LatentKernelIdeal.Gen Idealize.ShloMosaic Idealize.ShloMosaic.TcCoe Idealize.SL.Sem Cert.Arith

variable (m : (ℓ : Loc nD τ sig) → Buf (Elt Ideal) ℓ)

/-- In 256 columns for each head, the first of them hold the head's columns. -/
theorem pick_y (X : S1x4112x8x192.Idx → EReal) (z : EReal) (hz : z = 0) (R : Fin 4224) (d : Fin 8) (l : Fin 128) :
    (if h : R.val < 4112 ∧ 256 * d.val + l.val < 2048 then
      if h_1 : (256 * d.val + l.val) / 256 < 8 ∧ (256 * d.val + l.val) % 256 < 192 then
        X (ix4 (0 : Fin 1) (⟨R.val, h.1⟩ : Fin 4112) (⟨(256 * d.val + l.val) / 256, h_1.1⟩ : Fin 8) (⟨(256 * d.val + l.val) % 256, h_1.2⟩ : Fin 192)) else z
     else z) = padRow (fun p (dl : Fin 8 × Fin 128) => X (ix4 (0 : Fin 1) p dl.1 (⟨dl.2.val, by omega⟩ : Fin 192))) R.val (d, l) := by
  have e1 : (256 * d.val + l.val) / 256 = d.val := by omega
  have e2 : (256 * d.val + l.val) % 256 = l.val := by omega
  by_cases h : R.val < 4112
  · have h1 : R.val < 4112 ∧ 256 * d.val + l.val < 2048 := ⟨h, by omega⟩
    have h2 : (256 * d.val + l.val) / 256 < 8 ∧ (256 * d.val + l.val) % 256 < 192 := ⟨by omega, by omega⟩
    have f1 : (⟨(256 * d.val + l.val) / 256, h2.1⟩ : Fin 8) = d := Fin.ext e1
    have f2 : (⟨(256 * d.val + l.val) % 256, h2.2⟩ : Fin 192) = ⟨l.val, by omega⟩ := Fin.ext e2
    rw [padRow_lt _ _ _ h, dif_pos h1, dif_pos h2, f1, f2]
  · have h1 : ¬(R.val < 4112 ∧ 256 * d.val + l.val < 2048) := fun e => h e.1
    rw [padRow_ge _ _ _ h, dif_neg h1, hz]

theorem entry_y (c : Dev nD) (R : Fin 4224) (d : Fin 8) (l : Fin 128) :
    @Eq EReal (V m c main_v40 (ix2 R (⟨256 * d.val + l.val, by omega⟩ : Fin 2048))) (padRow (Y m c) R.val (d, l)) := by
  simp only [V, List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14]
  after_reads_at
  exact pick_y (m (c, Proc.tc.devRef main_arg7)) _ sitofp_zero R d l

end Cert.Latent

end
-- ==== Proof.LatentEntryValues.lean ====
/- The values' cotangent as the kernel is called with it: each head's in 128 columns of its own, in padded rows. -/
module

public import proofs.«01_k».proof.Proof.LatentArgs
public import Idealize.ShloMosaic.Lib.StableHlo.ReadAt

@[expose] public section

set_option maxRecDepth 16384

noncomputable section

namespace Cert.Latent

open Cert.LatentKernelIdeal Cert.LatentKernelIdeal.Gen Idealize.ShloMosaic Idealize.ShloMosaic.TcCoe Idealize.SL.Sem Cert.Arith

variable (m : (ℓ : Loc nD τ sig) → Buf (Elt Ideal) ℓ)

set_option maxHeartbeats 4000000 in
theorem entry_z (c : Dev nD) (R : Fin 4224) (d : Fin 8) (l : Fin 128) :
    @Eq EReal (V m c main_v43 (ix2 R (⟨128 * d.val + l.val, by omega⟩ : Fin 1024))) (padRow (Z m c) R.val (d, l)) := by
  simp only [V, List.flatten_cons, List.flatten_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13, hostOps0_14]
  after_reads_at
  have e1 : (128 * d.val + l.val) / 128 = d.val := by omega
  have e2 : (128 * d.val + l.val) % 128 = l.val := by omega
  by_cases h : R.val < 4112
  · have h1 : R.val < 4112 ∧ 128 * d.val + l.val < 1024 := ⟨h, by omega⟩
    rw [padRow_lt _ _ _ h]
    simp only [dif_pos h1]
    exact congrArg (m (c, Proc.tc.devRef main_arg8)) (congrArg₂ (ix4 (0 : Fin 1) (⟨R.val, h⟩ : Fin 4112)) (Fin.ext e1) (Fin.ext e2))
  · have h1 : ¬(R.val < 4112 ∧ 128 * d.val + l.val < 1024) := fun e => h e.1
    rw [padRow_ge _ _ _ h]
    simp only [dif_neg h1]
    exact sitofp_zero

end Cert.Latent

end
-- ==== Proof.LatentSums.lean ====
/- The sums in the body of the latents' backward kernel, at an index: a head's block, the sum over the heads, and what the
   heads' stores leave of the projection's gradient. -/
module

public import proofs.«01_k».proof.Proof.LatentBody
public import proofs.«01_k».proof.Proof.Arith

@[expose] public section

set_option maxRecDepth 16384

noncomputable section

namespace Cert.Latent

open Cert.LatentKernelIdeal Cert.LatentKernelIdeal.Gen Idealize.ShloMosaic Idealize.ShloMosaic.TcCoe Idealize.SL.Sem Cert.Arith

/-- A block of 128 columns, read at an index. -/
theorem ld_cols {n o : ℕ} {e : EltTy} (X : Vec Ideal (⟨2, ![384, n]⟩ : Shape) e) (h : o + 128 ≤ n) (r : Fin 384) (l : Fin 128) :
    View.ld X (Rect.unit ![0, o] ![384, 128] (inb2 h)) (ix2 r l) = X (ix2 r ⟨o + l.val, by omega⟩) := by
  refine congrArg X (funext fun a => Fin.ext ?_)
  fin_cases a
  · exact (show 0 + 1 * r.val = r.val by omega)
  · exact (show o + 1 * l.val = o + l.val by omega)

theorem lk_at (L : Vec Ideal S384x768 .f32) (r : Fin 384) (l : Fin 256) : lk L (ix2 r l) = L (ix2 r ⟨384 + l.val, by omega⟩) := by
  refine congrArg L (funext fun a => Fin.ext ?_)
  fin_cases a
  · exact (show 0 + 1 * r.val = r.val by omega)
  · exact (show 384 + 1 * l.val = 384 + l.val by omega)

theorem wk_at (w : Vec Ideal S8x256x256 .bf16) (d : Fin 8) (a k : Fin 256) : wk w d (ix3 0 a k) = w (ix3 d a k) := by
  refine congrArg w (funext fun i => Fin.ext ?_)
  fin_cases i
  · exact (show d.val + 1 * 0 = d.val by omega)
  · exact (show 0 + 1 * a.val = a.val by omega)
  · exact (show 0 + 1 * k.val = k.val by omega)

theorem kh_at (Y : Vec Ideal S384x2048 .bf16) (Z : Vec Ideal S384x1024 .bf16) (d : Fin 8) (r : Fin 384) (k : Fin 256) :
    @Eq EReal (kh Y Z d (ix2 r k)) (if h : k.val < 128 then Y (ix2 r ⟨256 * d.val + k.val, by omega⟩)
      else Z (ix2 r ⟨128 * d.val + (k.val - 128), by omega⟩)) := by
  unfold kh
  rw [key_at]
  split
  · exact ld_cols Y (by omega) r _
  · exact ld_cols Z (by omega) r _

theorem dkn_at (Y : Vec Ideal S384x2048 .bf16) (Z : Vec Ideal S384x1024 .bf16) (w : Vec Ideal S8x256x256 .bf16) (r : Fin 384) (a : Fin 256) :
    @Eq EReal (dkn Y Z w 8 le_rfl (ix2 r a)) (∑ d : Fin 8, ∑ k : Fin 256, kh Y Z d (ix2 r k) * w (ix3 d a k)) := by
  refine runs_sum _ _ (ix2 r a) _ ?_ fun A d => ?_
  · pointwise [k0_pay19]
  · rw [dk_add]
    simp only [wk_at]

theorem wk_stores (n : Vec Ideal S384x256 .bf16) (Y : Vec Ideal S384x2048 .bf16) (Z : Vec Ideal S384x1024 .bf16) (x : Vec Ideal S8x256x256 .f32)
    (d : Fin 8) (a k : Fin 256) : @Eq EReal (View.canon (wkS n Y Z x 8 le_rfl) (ix3 d a k))
      (x (ix3 d a k) + ∑ r : Fin 384, n (ix2 r a) * kh Y Z d (ix2 r k)) := by
  obtain ⟨d, hd⟩ := d
  simp only [wkS, runs]
  canon_tiles y hy
  all_goals
    idx_vars y
    obtain rfl : y0 = 0 := Subsingleton.elim _ _
    obtain rfl : a = y1 := Fin.ext hy1
    obtain rfl : k = y2 := Fin.ext hy2
    replace hy0 : d = _ + 0 := hy0
    subst hy0
    rw [dwk_add]
    refine congrArg (· + _) (congrArg x (funext fun i => Fin.ext ?_))
    fin_cases i
    · rfl
    · exact (show 0 + 1 * a.val = a.val by omega)
    · exact (show 0 + 1 * k.val = k.val by omega)

end Cert.Latent

end
-- ==== Proof.LatentArray.lean ====
/- What the latents' backward kernel leaves in its arrays of the gradients of the keys' and values' gain and projection, at
   an index: running sums over the blocks of rows. -/
module

public import proofs.«01_k».proof.Proof.LatentEntryRows
public import proofs.«01_k».proof.Proof.LatentEntryGain
public import proofs.«01_k».proof.Proof.LatentEntryKeys
public import proofs.«01_k».proof.Proof.LatentEntryValues
public import proofs.«01_k».proof.Proof.LatentSums
public import proofs.«01_k».proof.Proof.Gen.LatentKernelIdeal.Value

@[expose] public section

set_option maxRecDepth 16384

noncomputable section

namespace Cert.Latent

open Cert.LatentKernelIdeal Cert.LatentKernelIdeal.Gen Idealize.ShloMosaic Idealize.ShloMosaic.TcCoe Idealize.SL.Sem Cert.Arith

variable (m : (ℓ : Loc nD τ sig) → Buf (Elt Ideal) ℓ) (c : Dev nD)

section
variable (t : Fin cfg0.N)

theorem lk_block (r : Fin 384) (l : Fin 256) : lk (lb m c t) (ix2 r l) = padRow (H m c) (t.val * 384 + r.val) l := by
  have ht := point_lt t
  rw [lk_at, show lb m c t (ix2 r (⟨384 + l.val, by omega⟩ : Fin 768))
    = V m c main_v25 (ix2 ⟨t.val * 384 + r.val, by omega⟩ ⟨384 + l.val, by omega⟩) by blk_ext [lb, iblk, index_eq t]]
  exact entry_lat m c _ l

theorem gkb_at (l : Fin 256) : gkb m c t (ix2 0 l) = G m c l := by
  rw [show gkb m c t (ix2 0 l) = V m c main_arg3 (ix2 0 l) by blk_ext [gkb, iblk, index_eq t]]
  exact entry_g m c l

theorem wkb_at (d : Fin 8) (a k : Fin 256) : wkb m c t (ix3 d a k) = W m c a ⟨d.val * 256 + k.val, by omega⟩ := by
  rw [show wkb m c t (ix3 d a k) = V m c main_v32 (ix3 d a k) by blk_ext [wkb, iblk, index_eq t]]
  exact entry_w m c d a k

theorem yb_at (r : Fin 384) (d : Fin 8) (l : Fin 128) :
    yb m c t (ix2 r (⟨256 * d.val + l.val, by omega⟩ : Fin 2048)) = padRow (Y m c) (t.val * 384 + r.val) (d, l) := by
  have ht := point_lt t
  rw [show yb m c t (ix2 r (⟨256 * d.val + l.val, by omega⟩ : Fin 2048))
    = V m c main_v40 (ix2 ⟨t.val * 384 + r.val, by omega⟩ ⟨256 * d.val + l.val, by omega⟩) by blk_ext [yb, iblk, index_eq t]]
  exact entry_y m c _ d l

theorem zb_at (r : Fin 384) (d : Fin 8) (l : Fin 128) :
    zb m c t (ix2 r (⟨128 * d.val + l.val, by omega⟩ : Fin 1024)) = padRow (Z m c) (t.val * 384 + r.val) (d, l) := by
  have ht := point_lt t
  rw [show zb m c t (ix2 r (⟨128 * d.val + l.val, by omega⟩ : Fin 1024))
    = V m c main_v43 (ix2 ⟨t.val * 384 + r.val, by omega⟩ ⟨128 * d.val + l.val, by omega⟩) by blk_ext [zb, iblk, index_eq t]]
  exact entry_z m c _ d l

end

/-- A head's cotangent of a key without its rotary part and of a value, side by side, at a row of the padded arrays. -/
def cot (R : ℕ) (dk : Fin 8 × Fin 256) : EReal :=
  if h : dk.2.val < 128 then padRow (Y m c) R (dk.1, ⟨dk.2.val, h⟩) else padRow (Z m c) R (dk.1, ⟨dk.2.val - 128, by omega⟩)

/-- The cotangent of the norm's output at a row. -/
def T (R : ℕ) (a : Fin 256) : EReal := ∑ d : Fin 8, ∑ k : Fin 256, cot m c R (d, k) * W m c a ⟨d.val * 256 + k.val, by omega⟩

/-- The normed latent at a row, before the gain. -/
def nrm (R : ℕ) (a : Fin 256) : EReal := padRow (H m c) R a * Rms.rsOf lenk (padRow (H m c) R)

theorem cot_ge (R : ℕ) (h : ¬R < 4112) (dk : Fin 8 × Fin 256) : cot m c R dk = 0 := by
  unfold cot; split <;> exact padRow_ge _ _ _ h

theorem T_ge (R : ℕ) (h : ¬R < 4112) (a : Fin 256) : T m c R a = 0 := by
  unfold T
  exact Finset.sum_eq_zero fun d _ => Finset.sum_eq_zero fun k _ => by rw [cot_ge m c R h, zero_mul]

section
variable (t : Fin cfg0.N)

theorem kh_block (d : Fin 8) (r : Fin 384) (k : Fin 256) :
    @Eq EReal (kh (yb m c t) (zb m c t) d (ix2 r k)) (cot m c (t.val * 384 + r.val) (d, k)) := by
  rw [kh_at]
  unfold cot
  by_cases h : k.val < 128
  · simp only [dif_pos h]
    exact yb_at m c t r d ⟨k.val, h⟩
  · simp only [dif_neg h]
    exact zb_at m c t r d ⟨k.val - 128, by omega⟩

theorem dkn_block (r : Fin 384) (a : Fin 256) :
    @Eq EReal (dkn (yb m c t) (zb m c t) (wkb m c t) 8 le_rfl (ix2 r a)) (T m c (t.val * 384 + r.val) a) := by
  rw [dkn_at]
  simp only [kh_block, wkb_at]
  rfl

/-- A row's term in the gain's gradient. -/
def dgTerm (l : Fin 256) (R : ℕ) : EReal := T m c R l * nrm m c R l

theorem gk_at (y : Vec Ideal S1x256 .f32) (l : Fin 256) :
    @Eq EReal (gkP (lb m c t) (wkb m c t) (yb m c t) (zb m c t) y (ix2 0 l))
      (y (ix2 0 l) + ∑ r : Fin 384, dgTerm m c l (t.val * 384 + r.val)) := by
  refine (dgk_at (lk (lb m c t)) (dkn (yb m c t) (zb m c t) (wkb m c t) 8 le_rfl) y l).trans ?_
  simp only [dkn_block, lk_block]
  rfl

/-- The heads' stores cover the block. -/
theorem wkS_cover (n : Vec Ideal S384x256 .bf16) (Y : Vec Ideal S384x2048 .bf16) (Z : Vec Ideal S384x1024 .bf16) (x : Vec Ideal S8x256x256 .f32)
    (i : S8x256x256.Idx) : ∃ p ∈ wkS n Y Z x 8 le_rfl, i ∈ p.1.set := by
  simp only [wkS, runs]
  exact View.cover_of_tiled_head _ _ _ (by rfl) _

/-- A row's term in the projection's gradient. -/
def dwTerm (a : Fin 256) (dk : Fin 8 × Fin 256) (R : ℕ) : EReal := nrm m c R a * G m c a * cot m c R dk

theorem wkS_at (x : Vec Ideal S8x256x256 .f32) (d : Fin 8) (a k : Fin 256) :
    @Eq EReal (View.canon (wkS (k0_pay17 (k0_pay14 (lk (lb m c t))) (k0_pay16 (gkb m c t))) (yb m c t) (zb m c t) x 8 le_rfl) (ix3 d a k))
      (x (ix3 d a k) + ∑ r : Fin 384, dwTerm m c a (d, k) (t.val * 384 + r.val)) := by
  rw [wk_stores]
  simp only [kg_at, kh_block, lk_block, gkb_at]
  rfl
end

theorem dg_sum (l : Fin 256) : ∀ n (h : n < cfg0.N),
    (outsAt0 m c n h).2.2.2.2.1 (ix2 0 l) = ∑ R ∈ Finset.range ((n + 1) * 384), dgTerm m c l R := by
  refine running_sum 384 (dgTerm m c l) cfg0.N (fun n h => (outsAt0 m c n h).2.2.2.2.1 (ix2 0 l)) ?_ ?_
  · intro h
    rw [show outsAt0 m c 0 h = outsAt0 m c (⟨0, h⟩ : Fin cfg0.N).val h from rfl, gk_first m c ⟨0, h⟩ (Nat.zero_mod _), gk_at,
      show k0_pay6 (F := Ideal) (ix2 0 l) = 0 by pointwise [k0_pay6], zero_add]
  · intro n h
    have hn := point_lt ⟨n + 1, h⟩
    rw [show outsAt0 m c (n + 1) h = outsAt0 m c (⟨n + 1, h⟩ : Fin cfg0.N).val h from rfl,
      gk_next m c ⟨n + 1, h⟩ (by dsimp only at hn ⊢; omega), gk_at]
    rfl

theorem dw_sum (d : Fin 8) (a k : Fin 256) : ∀ n (h : n < cfg0.N),
    (outsAt0 m c n h).2.2.2.2.2.2 (ix3 d a k) = ∑ R ∈ Finset.range ((n + 1) * 384), dwTerm m c a (d, k) R := by
  refine running_sum 384 (dwTerm m c a (d, k)) cfg0.N (fun n h => (outsAt0 m c n h).2.2.2.2.2.2 (ix3 d a k)) ?_ ?_
  · intro h
    rw [show outsAt0 m c 0 h = outsAt0 m c (⟨0, h⟩ : Fin cfg0.N).val h from rfl, wk_first m c ⟨0, h⟩ (Nat.zero_mod _),
      canon_over _ _ _ (wkS_cover _ _ _ _ _), wkS_at,
      show k0_pay4 (F := Ideal) (ix3 d a k) = 0 by pointwise [k0_pay4], zero_add]
  · intro n h
    have hn := point_lt ⟨n + 1, h⟩
    rw [show outsAt0 m c (n + 1) h = outsAt0 m c (⟨n + 1, h⟩ : Fin cfg0.N).val h from rfl,
      wk_next m c ⟨n + 1, h⟩ (by dsimp only at hn ⊢; omega), wkS_at]
    rfl

/-- The kernel's array of the gain's gradient. -/
theorem dg_array (l : Fin 256) : @Eq EReal (Value.G14 m c (ix2 0 l)) (∑ p : Fin 4112, dgTerm m c l p.val) := by
  have hN : 10 < cfg0.N := lt_of_lt_of_eq (by decide) N_0.symm
  rw [Value.G14_last, ← Value.outsAt0_sweep m c 10 hN, dg_sum m c l 10 hN,
    sum_pad 4112 _ (by decide) _ fun R hR => by unfold dgTerm; rw [T_ge m c R (by omega), zero_mul]]

/-- The kernel's array of the projection's gradient. -/
theorem dw_array (d : Fin 8) (a k : Fin 256) : @Eq EReal (Value.G12 m c (ix3 d a k)) (∑ p : Fin 4112, dwTerm m c a (d, k) p.val) := by
  have hN : 10 < cfg0.N := lt_of_lt_of_eq (by decide) N_0.symm
  have e : (outsAt0 m c 10 hN).2.2.1 (ix3 d a k) = (outsAt0 m c 10 hN).2.2.2.2.2.2 (ix3 d a k) := by
    rw [show outsAt0 m c 10 hN = outsAt0 m c (⟨10, hN⟩ : Fin cfg0.N).val hN from rfl, wk_last m c ⟨10, hN⟩ rfl]
    pointwise [k0_pay2]
  rw [Value.G12_last, ← Value.outsAt0_sweep m c 10 hN, e, dw_sum m c d a k 10 hN,
    sum_pad 4112 _ (by decide) _ fun R hR => by unfold dwTerm; rw [cot_ge m c R (by omega), mul_zero]]

end Cert.Latent

end
-- ==== Proof.LatentReference.lean ====
/- What the reference of the keys' and values' half of the latents' backward call computes, at an index. -/
module

public import proofs.«01_k».proof.Proof.Gen.LatentReferenceIdeal.Read
public import proofs.«01_k».proof.Proof.Rms
public import proofs.«01_k».proof.Proof.Reduce

@[expose] public section

set_option maxRecDepth 16384

noncomputable section

namespace Cert.LatentRef

open Cert.LatentReferenceIdeal Cert.LatentReferenceIdeal.Gen Cert.LatentReferenceIdeal.Read
open Idealize.ShloMosaic Idealize.ShloMosaic.TcCoe Idealize.SL.Sem Cert.Arith

variable (x1 : Vec Ideal S1x4112x256 .f32) (x3 : Vec Ideal S1x256 .f32) (x5 : Vec Ideal S256x2048 .f32)
  (x7 : Vec Ideal S1x4112x8x192 .f32) (x8 : Vec Ideal S1x4112x8x128 .f32)

/-- The length of the latent. -/
abbrev len : EReal := Ideal.ofBits .f32 0x43800000#32
/-- A row of the latent. -/
def row (p : Fin 4112) (l : Fin 256) : EReal := x1 (ix3 (0 : Fin 1) p l)
/-- A head's cotangent of a key without its rotary part, and of a value, side by side. -/
def cot (p : Fin 4112) (dk : Fin 8 × Fin 256) : EReal :=
  if h : dk.2.val < 128 then x7 (ix4 (0 : Fin 1) p dk.1 ⟨dk.2.val, by omega⟩) else x8 (ix4 (0 : Fin 1) p dk.1 ⟨dk.2.val - 128, by omega⟩)
/-- A column's head, and its place in it. -/
def place (n : Fin 2048) : Fin 8 × Fin 256 := (⟨n.val / 256, by omega⟩, ⟨n.val % 256, by omega⟩)
/-- The cotangent of the norm's output. -/
def T (p : Fin 4112) (a : Fin 256) : EReal := ∑ n : Fin 2048, cot x7 x8 p (place n) * x5 (ix2 a n)

theorem nrm_at (p : Fin 4112) (a : Fin 256) : @Eq EReal (val_main_v10 (F := Ideal) x1 (ix3 0 p a))
    (row x1 p a * Rms.rsOf len (row x1 p)) := by
  pointwise [val_main_v1, val_main_cst, val_main_v2, val_main_v3, val_main_cst_0, val_main_v4, val_main_v5, val_main_cst_1, val_main_v6, val_main_v7, val_main_v8, val_main_v9, val_main_v10]
  rfl

theorem out_at (p : Fin 4112) (a : Fin 256) : @Eq EReal (val_main_v13 (F := Ideal) x1 x3 (ix3 0 p a))
    (row x1 p a * Rms.rsOf len (row x1 p) * x3 (ix2 0 a)) := by
  rw [← nrm_at]
  generalize hv : val_main_v10 (F := Ideal) x1 = v
  pointwise [val_main_v0, val_main_v11, val_main_v12, val_main_v13]
  rw [hv]

theorem cot_at (p : Fin 4112) (n : Fin 2048) : @Eq EReal (val_main_v22 (F := Ideal) x7 x8 (ix3 0 p n)) (cot x7 x8 p (place n)) := by
  pointwise [val_main_v18, val_main_cst_2, val_main_v19, val_main_cst_3, val_main_v20, val_main_v21, val_main_v22]
  unfold cot place
  dsimp only
  split
  · rename_i h
    have h1 : ¬n.val % 256 < 128 := by omega
    have h2 : ¬(n.val / 256 < 8 ∧ n.val % 256 < 128) := fun e => h1 e.2
    simp only [dif_neg h1, dif_neg h2, add_zero]
  · rename_i h
    have h1 : n.val % 256 < 128 := by omega
    have h2 : n.val / 256 < 8 ∧ n.val % 256 < 128 := ⟨by omega, h1⟩
    simp only [dif_pos h1, dif_pos h2, zero_add]

theorem dw_at (d : Fin 8) (a k : Fin 256) : @Eq EReal (val_main_v33 (F := Ideal) x1 x3 x7 x8 (ix3 d a k))
    (∑ p : Fin 4112, cot x7 x8 p (place ⟨d.val * 256 + k.val, by omega⟩) * (row x1 p a * Rms.rsOf len (row x1 p) * x3 (ix2 0 a))) := by
  simp only [← cot_at]
  pointwise [val_main_v23, val_main_v24, val_main_v31, val_main_v32, val_main_v33]
  rw [Fin.sum_univ_one]
  exact Finset.sum_congr rfl fun p _ => congrArg _ (out_at x1 x3 p a)

theorem T_at (p : Fin 4112) (a : Fin 256) : @Eq EReal (val_main_v25 (F := Ideal) x5 x7 x8 (ix3 0 p a)) (T x5 x7 x8 p a) := by
  unfold T
  simp only [← cot_at]
  pointwise [val_main_v25]

theorem dg_at (l : Fin 256) : @Eq EReal (val_main_v30 (F := Ideal) x1 x5 x7 x8 (ix2 0 l))
    (∑ p : Fin 4112, row x1 p l * Rms.rsOf len (row x1 p) * T x5 x7 x8 p l) := by
  simp only [← nrm_at, ← T_at]
  pointwise [val_main_v26, val_main_cst_4, val_main_v27, val_main_v28, val_main_cst_5, val_main_v29, val_main_v30]

end Cert.LatentRef

end
-- ==== Proof.LatentRun.lean ====
/- The keys' and values' gain and projection in the latents' backward call: the kernel's two arrays of gradients are the
   reference's, for any arguments, and the two runs side by side. -/
module

public import proofs.«01_k».proof.Proof.LatentArray
public import proofs.«01_k».proof.Proof.LatentReference
public import proofs.«01_k».proof.Proof.Gen.LatentReferenceIdeal.Run
public import proofs.«01_k».proof.Defs

@[expose] public section

set_option maxRecDepth 16384

noncomputable section

namespace Cert.Latent

open Cert.LatentKernelIdeal Cert.LatentKernelIdeal.Gen Idealize.ShloMosaic Idealize.ShloMosaic.TcCoe Idealize.SL.Sem Cert.Arith
open Cert.LatentReferenceIdeal.Read

section
variable (m : (ℓ : Loc nD τ sig) → Buf (Elt Ideal) ℓ) (c : Dev nD)

/-- The arguments as the reference takes them. -/
abbrev a1 : Vec Ideal S1x4112x256 .f32 := m ((c : Thread nD τ).loc main_arg1)
abbrev a3 : Vec Ideal S1x256 .f32 := m ((c : Thread nD τ).loc main_arg3)
abbrev a5 : Vec Ideal S256x2048 .f32 := m ((c : Thread nD τ).loc main_arg5)
abbrev a7 : Vec Ideal S1x4112x8x192 .f32 := m ((c : Thread nD τ).loc main_arg7)
abbrev a8 : Vec Ideal S1x4112x8x128 .f32 := m ((c : Thread nD τ).loc main_arg8)

theorem nrm_lt (p : Fin 4112) (a : Fin 256) : nrm m c p.val a = LatentRef.row (a1 m c) p a * Rms.rsOf LatentRef.len (LatentRef.row (a1 m c) p) := by
  unfold nrm
  rw [show padRow (H m c) p.val = H m c p from funext fun l => padRow_lt _ _ _ p.isLt]
  rfl

theorem cot_lt (p : Fin 4112) (dk : Fin 8 × Fin 256) : cot m c p.val dk = LatentRef.cot (a7 m c) (a8 m c) p dk := by
  unfold cot LatentRef.cot
  split <;> exact padRow_lt _ _ _ p.isLt

theorem place_eq (d : Fin 8) (k : Fin 256) : LatentRef.place ⟨d.val * 256 + k.val, by omega⟩ = (d, k) :=
  Prod.ext (Fin.ext (show (d.val * 256 + k.val) / 256 = d.val by omega)) (Fin.ext (show (d.val * 256 + k.val) % 256 = k.val by omega))

theorem T_lt (p : Fin 4112) (a : Fin 256) : T m c p.val a = LatentRef.T (a5 m c) (a7 m c) (a8 m c) p a := by
  unfold LatentRef.T
  refine Eq.trans ?_ (sum_groups 8 256 fun n : Fin 2048 => LatentRef.cot (a7 m c) (a8 m c) p (LatentRef.place n) * a5 m c (ix2 a n))
  refine Finset.sum_congr rfl fun d _ => Finset.sum_congr rfl fun k _ => ?_
  rw [cot_lt, place_eq]
  rfl

theorem dg_eq : Value.G14 m c = val_main_v30 (F := Ideal) (a1 m c) (a5 m c) (a7 m c) (a8 m c) := by
  refine funext fun (j : S1x256.Idx) => ?_
  idx_vars j
  rename' j0 => z, j1 => l
  obtain rfl : z = 0 := Subsingleton.elim _ _
  refine (dg_array m c l).trans ((LatentRef.dg_at _ _ _ _ l).trans ?_).symm
  refine Finset.sum_congr rfl fun p _ => ?_
  unfold dgTerm
  rw [T_lt, nrm_lt, mul_comm]

theorem dw_eq : Value.G12 m c = val_main_v33 (F := Ideal) (a1 m c) (a3 m c) (a7 m c) (a8 m c) := by
  refine funext fun (j : S8x256x256.Idx) => ?_
  idx_vars j
  rename' j0 => d, j1 => a, j2 => k
  refine (dw_array m c d a k).trans ((LatentRef.dw_at _ _ _ _ d a k).trans ?_).symm
  refine Finset.sum_congr rfl fun p _ => ?_
  unfold dwTerm
  rw [cot_lt, nrm_lt, place_eq, mul_comm]
  rfl
end

theorem algebraic : Cert.algebraic_LatentKernelIdeal_LatentReferenceIdeal := by
  intro m g m' g' hpre hag
  refine ⟨fun c => Cert.LatentKernelIdeal.Value.G12 m c, fun c => Cert.LatentKernelIdeal.Value.G14 m c,
    (θ_run _ _ _).mono (fun r h c => ?_) (Cert.LatentKernelIdeal.Value.run m g),
    (θ_run _ _ _).mono (fun r h c => ?_) (Cert.LatentReferenceIdeal.Value.run m' g')⟩
  · obtain ⟨-, -, r2, -, r4, k⟩ := h c
    exact ⟨r2, r4, k⟩
  · obtain ⟨e0, e1, e2, e3, e4, e5, e6, e7, e8⟩ := hag c
    obtain ⟨r0, r1, k⟩ := h c
    refine ⟨r0.trans ?_, r1.trans ?_, k⟩
    · rw [e1, e3, e7, e8]; exact (dw_eq m c).symm
    · rw [e1, e5, e7, e8]; exact (dg_eq m c).symm

end Cert.Latent

end
-- ==== Proof.lean ====
/- The certificate: the claims of each pair, put together. -/
module

public import proofs.«01_k».proof.Defs
public import proofs.«01_k».proof.Proof.Gen.GateKernel
public import proofs.«01_k».proof.Proof.Gen.GateKernel.Frame
public import proofs.«01_k».proof.Proof.Gen.GateKernelIdeal
public import proofs.«01_k».proof.Proof.Gen.GateKernelIdeal.Frame
public import proofs.«01_k».proof.Proof.Gen.GateReferenceIdeal
public import proofs.«01_k».proof.Proof.Gen.NormKernel
public import proofs.«01_k».proof.Proof.Gen.NormKernel.Frame
public import proofs.«01_k».proof.Proof.Gen.NormKernelIdeal
public import proofs.«01_k».proof.Proof.Gen.NormKernelIdeal.Frame
public import proofs.«01_k».proof.Proof.Gen.NormReferenceIdeal
public import proofs.«01_k».proof.Proof.Gen.LossKernel
public import proofs.«01_k».proof.Proof.Gen.LossKernel.Frame
public import proofs.«01_k».proof.Proof.Gen.LossKernelIdeal
public import proofs.«01_k».proof.Proof.Gen.LossKernelIdeal.Frame
public import proofs.«01_k».proof.Proof.Gen.LossReferenceIdeal
public import proofs.«01_k».proof.Proof.Gen.AttnKernel
public import proofs.«01_k».proof.Proof.Gen.AttnKernelIdeal
public import proofs.«01_k».proof.Proof.Gen.AttnReferenceIdeal
public import proofs.«01_k».proof.Proof.Gen.LatentKernel
public import proofs.«01_k».proof.Proof.Gen.LatentKernel.Frame
public import proofs.«01_k».proof.Proof.Gen.LatentKernelIdeal
public import proofs.«01_k».proof.Proof.Gen.LatentKernelIdeal.Frame
public import proofs.«01_k».proof.Proof.Gen.LatentReferenceIdeal
public import proofs.«01_k».proof.Proof.GateRun
public import proofs.«01_k».proof.Proof.NormRun
public import proofs.«01_k».proof.Proof.LossRun
public import proofs.«01_k».proof.Proof.AttnFrames
public import proofs.«01_k».proof.Proof.AttnRun
public import proofs.«01_k».proof.Proof.LatentRun
public import Idealize.ShloMosaic.Adequacy
public import Idealize.ShloMosaic.Init

@[expose] public section

noncomputable section

namespace Cert.Proof

open Idealize.ShloMosaic Idealize.SL.Sem

/-- The run of the reference of the attention's gate keeps its arguments; it declares no semaphore. -/
theorem gate_reference_frame : Cert.quiescent_GateReferenceIdeal := fun m g _ =>
  (θ_run Cert.GateReferenceIdeal.defs _ _).mono
    (fun r h => ⟨fun c => (h c).2.2.2.2, sem_eq_zero_of_no_sems (by decide) r.2⟩)
    (Cert.GateReferenceIdeal.Value.run m g)

/-- The run of the reference of the norm keeps its arguments; it declares no semaphore. -/
theorem norm_reference_frame : Cert.quiescent_NormReferenceIdeal := fun m g _ =>
  (θ_run Cert.NormReferenceIdeal.defs _ _).mono
    (fun r h => ⟨fun c => (h c).2.2.2, sem_eq_zero_of_no_sems (by decide) r.2⟩)
    (Cert.NormReferenceIdeal.Value.run m g)

/-- The run of the reference of the loss keeps its arguments; it declares no semaphore. -/
theorem loss_reference_frame : Cert.quiescent_LossReferenceIdeal := fun m g _ =>
  (θ_run Cert.LossReferenceIdeal.defs _ _).mono
    (fun r h => ⟨fun c => (h c).2.2.2.2.2.2, sem_eq_zero_of_no_sems (by decide) r.2⟩)
    (Cert.LossReferenceIdeal.Value.run m g)

/-- The run of the reference of the attention keeps its arguments; it declares no semaphore. -/
theorem attn_reference_frame : Cert.quiescent_AttnReferenceIdeal := fun m g _ =>
  (θ_run Cert.AttnReferenceIdeal.defs _ _).mono
    (fun r h => ⟨fun c => (h c).2.2.2, sem_eq_zero_of_no_sems (by decide) r.2⟩)
    (Cert.AttnReferenceIdeal.Value.run m g)

/-- The run of the reference of the latents keeps its arguments; it declares no semaphore. -/
theorem latent_reference_frame : Cert.quiescent_LatentReferenceIdeal := fun m g _ =>
  (θ_run Cert.LatentReferenceIdeal.defs _ _).mono
    (fun r h => ⟨fun c => (h c).2.2, sem_eq_zero_of_no_sems (by decide) r.2⟩)
    (Cert.LatentReferenceIdeal.Value.run m g)

theorem claim : Cert.Claim :=
  ⟨Cert.GateKernel.Gen.facts, Cert.GateKernelIdeal.Gen.facts, Cert.GateReferenceIdeal.Gen.facts,
    Cert.NormKernel.Gen.facts, Cert.NormKernelIdeal.Gen.facts, Cert.NormReferenceIdeal.Gen.facts,
    Cert.LossKernel.Gen.facts, Cert.LossKernelIdeal.Gen.facts, Cert.LossReferenceIdeal.Gen.facts,
    Cert.AttnKernel.Gen.facts, Cert.AttnKernelIdeal.Gen.facts, Cert.AttnReferenceIdeal.Gen.facts,
    Cert.LatentKernel.Gen.facts, Cert.LatentKernelIdeal.Gen.facts, Cert.LatentReferenceIdeal.Gen.facts,
    Cert.Gate.preFacts, Cert.Norm.preFacts, Cert.Loss.preFacts, Cert.Attn.preFacts,
    fun m g _ => Cert.GateKernel.Gen.frame m g,
    fun m g _ => Cert.GateKernelIdeal.Gen.frame m g,
    fun m g _ => Cert.GateKernelIdeal.Gen.frame m g,
    gate_reference_frame,
    fun m g _ => gate_reference_frame m g trivial,
    fun m g _ => Cert.NormKernel.Gen.frame m g,
    fun m g _ => Cert.NormKernelIdeal.Gen.frame m g,
    fun m g _ => Cert.NormKernelIdeal.Gen.frame m g,
    norm_reference_frame,
    fun m g _ => norm_reference_frame m g trivial,
    fun m g _ => Cert.LossKernel.Gen.frame m g,
    fun m g _ => Cert.LossKernelIdeal.Gen.frame m g,
    fun m g _ => Cert.LossKernelIdeal.Gen.frame m g,
    loss_reference_frame,
    fun m g _ => loss_reference_frame m g trivial,
    fun m g _ => Cert.Attn.frame_kernel m g,
    fun m g _ => Cert.AttnKernelIdeal.Step.frame_all m g,
    fun m g _ => Cert.AttnKernelIdeal.Step.frame_all m g,
    attn_reference_frame,
    fun m g _ => attn_reference_frame m g trivial,
    fun m g _ => Cert.LatentKernel.Gen.frame m g,
    fun m g _ => Cert.LatentKernelIdeal.Gen.frame m g,
    latent_reference_frame,
    trivial,
    Cert.Gate.algebraic,
    trivial,
    Cert.Norm.algebraic,
    trivial,
    Cert.Loss.algebraic,
    IdealRules.named_const.statement Cert.AttnKernelIdeal.κ "mask" .f32 0xF149F2CA#32 ⊥ rfl,
    Cert.Attn.algebraic,
    trivial,
    Cert.Latent.algebraic⟩

end Cert.Proof

end
